-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite [hPre_finite : Cert.Pre_finite.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2))).1 = (fun _ => 1#1)
    ∧ (Cert.Pre_finite.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2))).2 = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite [hPre_finite : Cert.Pre_finite.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2))).1 = (fun _ => 1#1)
    ∧ (Cert.Pre_finite.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2))).2 = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Kernel17Ideal_moments [hPre_moments : Cert.Pre_moments.Facts] (m : (ℓ : Loc Cert.Kernel17Ideal.nD Cert.Kernel17Ideal.τ Cert.Kernel17Ideal.sig) → Buf (Elt Ideal) ℓ) : Prop :=
  ∀ c : Dev Cert.Kernel17Ideal.nD,
    (Cert.Pre_moments.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3))).1 = (fun _ => 1#1)
    ∧ (Cert.Pre_moments.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3))).2.1 = (fun _ => 1#1)
    ∧ (Cert.Pre_moments.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3))).2.2 = (fun _ => 1#1)

def Pre_Reference17Ideal (m : (ℓ : Loc Cert.Reference17Ideal.nD Cert.Reference17Ideal.τ Cert.Reference17Ideal.sig) → Buf (Elt Ideal) ℓ) : Prop :=
  True

def Pre_Reference17Ideal_moments [hPre_moments : Cert.Pre_moments.Facts] (m : (ℓ : Loc Cert.Reference17Ideal.nD Cert.Reference17Ideal.τ Cert.Reference17Ideal.sig) → Buf (Elt Ideal) ℓ) : Prop :=
  ∀ c : Dev Cert.Reference17Ideal.nD,
    (Cert.Pre_moments.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3))).1 = (fun _ => 1#1)
    ∧ (Cert.Pre_moments.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3))).2.1 = (fun _ => 1#1)
    ∧ (Cert.Pre_moments.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3))).2.2 = (fun _ => 1#1)

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Kernel18Ideal_weight_moments [hPre_weight_moments : Cert.Pre_weight_moments.Facts] (m : (ℓ : Loc Cert.Kernel18Ideal.nD Cert.Kernel18Ideal.τ Cert.Kernel18Ideal.sig) → Buf (Elt Ideal) ℓ) : Prop :=
  ∀ c : Dev Cert.Kernel18Ideal.nD,
    (Cert.Pre_weight_moments.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3))).1 = (fun _ => 1#1)
    ∧ (Cert.Pre_weight_moments.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3))).2.1 = (fun _ => 1#1)
    ∧ (Cert.Pre_weight_moments.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3))).2.2 = (fun _ => 1#1)

def Pre_Reference18Ideal (m : (ℓ : Loc Cert.Reference18Ideal.nD Cert.Reference18Ideal.τ Cert.Reference18Ideal.sig) → Buf (Elt Ideal) ℓ) : Prop :=
  True

def Pre_Reference18Ideal_weight_moments [hPre_weight_moments : Cert.Pre_weight_moments.Facts] (m : (ℓ : Loc Cert.Reference18Ideal.nD Cert.Reference18Ideal.τ Cert.Reference18Ideal.sig) → Buf (Elt Ideal) ℓ) : Prop :=
  ∀ c : Dev Cert.Reference18Ideal.nD,
    (Cert.Pre_weight_moments.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3))).1 = (fun _ => 1#1)
    ∧ (Cert.Pre_weight_moments.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3))).2.1 = (fun _ => 1#1)
    ∧ (Cert.Pre_weight_moments.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3))).2.2 = (fun _ => 1#1)

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Kernel21Ideal_memory_finite [hPre_memory_finite : Cert.Pre_memory_finite.Facts] (m : (ℓ : Loc Cert.Kernel21Ideal.nD Cert.Kernel21Ideal.τ Cert.Kernel21Ideal.sig) → Buf (Elt Ideal) ℓ) : Prop :=
  ∀ c : Dev Cert.Kernel21Ideal.nD,
    (Cert.Pre_memory_finite.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2))).1 = (fun _ => 1#1)
    ∧ (Cert.Pre_memory_finite.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2))).2 = (fun _ => 1#1)

def Pre_Reference21Ideal (m : (ℓ : Loc Cert.Reference21Ideal.nD Cert.Reference21Ideal.τ Cert.Reference21Ideal.sig) → Buf (Elt Ideal) ℓ) : Prop :=
  True

def Pre_Reference21Ideal_memory_finite [hPre_memory_finite : Cert.Pre_memory_finite.Facts] (m : (ℓ : Loc Cert.Reference21Ideal.nD Cert.Reference21Ideal.τ Cert.Reference21Ideal.sig) → Buf (Elt Ideal) ℓ) : Prop :=
  ∀ c : Dev Cert.Reference21Ideal.nD,
    (Cert.Pre_memory_finite.fn (F := Ideal) (m ((c.tc : Thread Cert.Reference21Ideal.nD Cert.Reference21Ideal.τ).loc Cert.Reference21Ideal.main_arg0)) (m ((c.tc : Thread Cert.Reference21Ideal.nD Cert.Reference21Ideal.τ).loc Cert.Reference21Ideal.main_arg1)) (m ((c.tc : Thread Cert.Reference21Ideal.nD Cert.Reference21Ideal.τ).loc Cert.Reference21Ideal.main_arg2))).1 = (fun _ => 1#1)
    ∧ (Cert.Pre_memory_finite.fn (F := Ideal) (m ((c.tc : Thread Cert.Reference21Ideal.nD Cert.Reference21Ideal.τ).loc Cert.Reference21Ideal.main_arg0)) (m ((c.tc : Thread Cert.Reference21Ideal.nD Cert.Reference21Ideal.τ).loc Cert.Reference21Ideal.main_arg1)) (m ((c.tc : Thread Cert.Reference21Ideal.nD Cert.Reference21Ideal.τ).loc Cert.Reference21Ideal.main_arg2))).2 = (fun _ => 1#1)

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Kernel27Ideal_mlp_moments [hPre_mlp_moments : Cert.Pre_mlp_moments.Facts] (m : (ℓ : Loc Cert.Kernel27Ideal.nD Cert.Kernel27Ideal.τ Cert.Kernel27Ideal.sig) → Buf (Elt Ideal) ℓ) : Prop :=
  ∀ c : Dev Cert.Kernel27Ideal.nD,
    (Cert.Pre_mlp_moments.fn (F := Ideal) (m ((c.tc : Thread Cert.Kernel27Ideal.nD Cert.Kernel27Ideal.τ).loc Cert.Kernel27Ideal.main_arg0)) (m ((c.tc : Thread Cert.Kernel27Ideal.nD Cert.Kernel27Ideal.τ).loc Cert.Kernel27Ideal.main_arg1)) (m ((c.tc : Thread Cert.Kernel27Ideal.nD Cert.Kernel27Ideal.τ).loc Cert.Kernel27Ideal.main_arg2)) (m ((c.tc : Thread Cert.Kernel27Ideal.nD Cert.Kernel27Ideal.τ).loc Cert.Kernel27Ideal.main_arg3))).1 = (fun _ => 1#1)
    ∧ (Cert.Pre_mlp_moments.fn (F := Ideal) (m ((c.tc : Thread Cert.Kernel27Ideal.nD Cert.Kernel27Ideal.τ).loc Cert.Kernel27Ideal.main_arg0)) (m ((c.tc : Thread Cert.Kernel27Ideal.nD Cert.Kernel27Ideal.τ).loc Cert.Kernel27Ideal.main_arg1)) (m ((c.tc : Thread Cert.Kernel27Ideal.nD Cert.Kernel27Ideal.τ).loc Cert.Kernel27Ideal.main_arg2)) (m ((c.tc : Thread Cert.Kernel27Ideal.nD Cert.Kernel27Ideal.τ).loc Cert.Kernel27Ideal.main_arg3))).2.1 = (fun _ => 1#1)
    ∧ (Cert.Pre_mlp_moments.fn (F := Ideal) (m ((c.tc : Thread Cert.Kernel27Ideal.nD Cert.Kernel27Ideal.τ).loc Cert.Kernel27Ideal.main_arg0)) (m ((c.tc : Thread Cert.Kernel27Ideal.nD Cert.Kernel27Ideal.τ).loc Cert.Kernel27Ideal.main_arg1)) (m ((c.tc : Thread Cert.Kernel27Ideal.nD Cert.Kernel27Ideal.τ).loc Cert.Kernel27Ideal.main_arg2)) (m ((c.tc : Thread Cert.Kernel27Ideal.nD Cert.Kernel27Ideal.τ).loc Cert.Kernel27Ideal.main_arg3))).2.2 = (fun _ => 1#1)

def Pre_Reference27Ideal (m : (ℓ : Loc Cert.Reference27Ideal.nD Cert.Reference27Ideal.τ Cert.Reference27Ideal.sig) → Buf (Elt Ideal) ℓ) : Prop :=
  True

def Pre_Reference27Ideal_mlp_moments [hPre_mlp_moments : Cert.Pre_mlp_moments.Facts] (m : (ℓ : Loc Cert.Reference27Ideal.nD Cert.Reference27Ideal.τ Cert.Reference27Ideal.sig) → Buf (Elt Ideal) ℓ) : Prop :=
  ∀ c : Dev Cert.Reference27Ideal.nD,
    (Cert.Pre_mlp_moments.fn (F := Ideal) (m ((c.tc : Thread Cert.Reference27Ideal.nD Cert.Reference27Ideal.τ).loc Cert.Reference27Ideal.main_arg0)) (m ((c.tc : Thread Cert.Reference27Ideal.nD Cert.Reference27Ideal.τ).loc Cert.Reference27Ideal.main_arg1)) (m ((c.tc : Thread Cert.Reference27Ideal.nD Cert.Reference27Ideal.τ).loc Cert.Reference27Ideal.main_arg2)) (m ((c.tc : Thread Cert.Reference27Ideal.nD Cert.Reference27Ideal.τ).loc Cert.Reference27Ideal.main_arg3))).1 = (fun _ => 1#1)
    ∧ (Cert.Pre_mlp_moments.fn (F := Ideal) (m ((c.tc : Thread Cert.Reference27Ideal.nD Cert.Reference27Ideal.τ).loc Cert.Reference27Ideal.main_arg0)) (m ((c.tc : Thread Cert.Reference27Ideal.nD Cert.Reference27Ideal.τ).loc Cert.Reference27Ideal.main_arg1)) (m ((c.tc : Thread Cert.Reference27Ideal.nD Cert.Reference27Ideal.τ).loc Cert.Reference27Ideal.main_arg2)) (m ((c.tc : Thread Cert.Reference27Ideal.nD Cert.Reference27Ideal.τ).loc Cert.Reference27Ideal.main_arg3))).2.1 = (fun _ => 1#1)
    ∧ (Cert.Pre_mlp_moments.fn (F := Ideal) (m ((c.tc : Thread Cert.Reference27Ideal.nD Cert.Reference27Ideal.τ).loc Cert.Reference27Ideal.main_arg0)) (m ((c.tc : Thread Cert.Reference27Ideal.nD Cert.Reference27Ideal.τ).loc Cert.Reference27Ideal.main_arg1)) (m ((c.tc : Thread Cert.Reference27Ideal.nD Cert.Reference27Ideal.τ).loc Cert.Reference27Ideal.main_arg2)) (m ((c.tc : Thread Cert.Reference27Ideal.nD Cert.Reference27Ideal.τ).loc Cert.Reference27Ideal.main_arg3))).2.2 = (fun _ => 1#1)

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Kernel28Ideal_out_moments [hPre_out_moments : Cert.Pre_out_moments.Facts] (m : (ℓ : Loc Cert.Kernel28Ideal.nD Cert.Kernel28Ideal.τ Cert.Kernel28Ideal.sig) → Buf (Elt Ideal) ℓ) : Prop :=
  ∀ c : Dev Cert.Kernel28Ideal.nD,
    (Cert.Pre_out_moments.fn (F := Ideal) (m ((c.tc : Thread Cert.Kernel28Ideal.nD Cert.Kernel28Ideal.τ).loc Cert.Kernel28Ideal.main_arg0)) (m ((c.tc : Thread Cert.Kernel28Ideal.nD Cert.Kernel28Ideal.τ).loc Cert.Kernel28Ideal.main_arg1)) (m ((c.tc : Thread Cert.Kernel28Ideal.nD Cert.Kernel28Ideal.τ).loc Cert.Kernel28Ideal.main_arg2)) (m ((c.tc : Thread Cert.Kernel28Ideal.nD Cert.Kernel28Ideal.τ).loc Cert.Kernel28Ideal.main_arg3))).1 = (fun _ => 1#1)
    ∧ (Cert.Pre_out_moments.fn (F := Ideal) (m ((c.tc : Thread Cert.Kernel28Ideal.nD Cert.Kernel28Ideal.τ).loc Cert.Kernel28Ideal.main_arg0)) (m ((c.tc : Thread Cert.Kernel28Ideal.nD Cert.Kernel28Ideal.τ).loc Cert.Kernel28Ideal.main_arg1)) (m ((c.tc : Thread Cert.Kernel28Ideal.nD Cert.Kernel28Ideal.τ).loc Cert.Kernel28Ideal.main_arg2)) (m ((c.tc : Thread Cert.Kernel28Ideal.nD Cert.Kernel28Ideal.τ).loc Cert.Kernel28Ideal.main_arg3))).2.1 = (fun _ => 1#1)
    ∧ (Cert.Pre_out_moments.fn (F := Ideal) (m ((c.tc : Thread Cert.Kernel28Ideal.nD Cert.Kernel28Ideal.τ).loc Cert.Kernel28Ideal.main_arg0)) (m ((c.tc : Thread Cert.Kernel28Ideal.nD Cert.Kernel28Ideal.τ).loc Cert.Kernel28Ideal.main_arg1)) (m ((c.tc : Thread Cert.Kernel28Ideal.nD Cert.Kernel28Ideal.τ).loc Cert.Kernel28Ideal.main_arg2)) (m ((c.tc : Thread Cert.Kernel28Ideal.nD Cert.Kernel28Ideal.τ).loc Cert.Kernel28Ideal.main_arg3))).2.2 = (fun _ => 1#1)

def Pre_Reference28Ideal (m : (ℓ : Loc Cert.Reference28Ideal.nD Cert.Reference28Ideal.τ Cert.Reference28Ideal.sig) → Buf (Elt Ideal) ℓ) : Prop :=
  True

def Pre_Reference28Ideal_out_moments [hPre_out_moments : Cert.Pre_out_moments.Facts] (m : (ℓ : Loc Cert.Reference28Ideal.nD Cert.Reference28Ideal.τ Cert.Reference28Ideal.sig) → Buf (Elt Ideal) ℓ) : Prop :=
  ∀ c : Dev Cert.Reference28Ideal.nD,
    (Cert.Pre_out_moments.fn (F := Ideal) (m ((c.tc : Thread Cert.Reference28Ideal.nD Cert.Reference28Ideal.τ).loc Cert.Reference28Ideal.main_arg0)) (m ((c.tc : Thread Cert.Reference28Ideal.nD Cert.Reference28Ideal.τ).loc Cert.Reference28Ideal.main_arg1)) (m ((c.tc : Thread Cert.Reference28Ideal.nD Cert.Reference28Ideal.τ).loc Cert.Reference28Ideal.main_arg2)) (m ((c.tc : Thread Cert.Reference28Ideal.nD Cert.Reference28Ideal.τ).loc Cert.Reference28Ideal.main_arg3))).1 = (fun _ => 1#1)
    ∧ (Cert.Pre_out_moments.fn (F := Ideal) (m ((c.tc : Thread Cert.Reference28Ideal.nD Cert.Reference28Ideal.τ).loc Cert.Reference28Ideal.main_arg0)) (m ((c.tc : Thread Cert.Reference28Ideal.nD Cert.Reference28Ideal.τ).loc Cert.Reference28Ideal.main_arg1)) (m ((c.tc : Thread Cert.Reference28Ideal.nD Cert.Reference28Ideal.τ).loc Cert.Reference28Ideal.main_arg2)) (m ((c.tc : Thread Cert.Reference28Ideal.nD Cert.Reference28Ideal.τ).loc Cert.Reference28Ideal.main_arg3))).2.1 = (fun _ => 1#1)
    ∧ (Cert.Pre_out_moments.fn (F := Ideal) (m ((c.tc : Thread Cert.Reference28Ideal.nD Cert.Reference28Ideal.τ).loc Cert.Reference28Ideal.main_arg0)) (m ((c.tc : Thread Cert.Reference28Ideal.nD Cert.Reference28Ideal.τ).loc Cert.Reference28Ideal.main_arg1)) (m ((c.tc : Thread Cert.Reference28Ideal.nD Cert.Reference28Ideal.τ).loc Cert.Reference28Ideal.main_arg2)) (m ((c.tc : Thread Cert.Reference28Ideal.nD Cert.Reference28Ideal.τ).loc Cert.Reference28Ideal.main_arg3))).2.2 = (fun _ => 1#1)

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Kernel31Ideal_memory_finite [hPre_memory_finite : Cert.Pre_memory_finite.Facts] (m : (ℓ : Loc Cert.Kernel31Ideal.nD Cert.Kernel31Ideal.τ Cert.Kernel31Ideal.sig) → Buf (Elt Ideal) ℓ) : Prop :=
  ∀ c : Dev Cert.Kernel31Ideal.nD,
    (Cert.Pre_memory_finite.fn (F := Ideal) (m ((c.tc : Thread Cert.Kernel31Ideal.nD Cert.Kernel31Ideal.τ).loc Cert.Kernel31Ideal.main_arg0)) (m ((c.tc : Thread Cert.Kernel31Ideal.nD Cert.Kernel31Ideal.τ).loc Cert.Kernel31Ideal.main_arg1)) (m ((c.tc : Thread Cert.Kernel31Ideal.nD Cert.Kernel31Ideal.τ).loc Cert.Kernel31Ideal.main_arg2))).1 = (fun _ => 1#1)
    ∧ (Cert.Pre_memory_finite.fn (F := Ideal) (m ((c.tc : Thread Cert.Kernel31Ideal.nD Cert.Kernel31Ideal.τ).loc Cert.Kernel31Ideal.main_arg0)) (m ((c.tc : Thread Cert.Kernel31Ideal.nD Cert.Kernel31Ideal.τ).loc Cert.Kernel31Ideal.main_arg1)) (m ((c.tc : Thread Cert.Kernel31Ideal.nD Cert.Kernel31Ideal.τ).loc Cert.Kernel31Ideal.main_arg2))).2 = (fun _ => 1#1)

def Pre_Reference31Ideal (m : (ℓ : Loc Cert.Reference31Ideal.nD Cert.Reference31Ideal.τ Cert.Reference31Ideal.sig) → Buf (Elt Ideal) ℓ) : Prop :=
  True

def Pre_Reference31Ideal_memory_finite [hPre_memory_finite : Cert.Pre_memory_finite.Facts] (m : (ℓ : Loc Cert.Reference31Ideal.nD Cert.Reference31Ideal.τ Cert.Reference31Ideal.sig) → Buf (Elt Ideal) ℓ) : Prop :=
  ∀ c : Dev Cert.Reference31Ideal.nD,
    (Cert.Pre_memory_finite.fn (F := Ideal) (m ((c.tc : Thread Cert.Reference31Ideal.nD Cert.Reference31Ideal.τ).loc Cert.Reference31Ideal.main_arg0)) (m ((c.tc : Thread Cert.Reference31Ideal.nD Cert.Reference31Ideal.τ).loc Cert.Reference31Ideal.main_arg1)) (m ((c.tc : Thread Cert.Reference31Ideal.nD Cert.Reference31Ideal.τ).loc Cert.Reference31Ideal.main_arg2))).1 = (fun _ => 1#1)
    ∧ (Cert.Pre_memory_finite.fn (F := Ideal) (m ((c.tc : Thread Cert.Reference31Ideal.nD Cert.Reference31Ideal.τ).loc Cert.Reference31Ideal.main_arg0)) (m ((c.tc : Thread Cert.Reference31Ideal.nD Cert.Reference31Ideal.τ).loc Cert.Reference31Ideal.main_arg1)) (m ((c.tc : Thread Cert.Reference31Ideal.nD Cert.Reference31Ideal.τ).loc Cert.Reference31Ideal.main_arg2))).2 = (fun _ => 1#1)

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Kernel10Ideal_pre_finite [hKernel10Ideal : Cert.Kernel10Ideal.Facts] [hPre_finite : Cert.Pre_finite.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Reference10Ideal_pre_finite [hReference10Ideal : Cert.Reference10Ideal.Facts] [hPre_finite : Cert.Pre_finite.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Kernel17Ideal_pre_moments [hKernel17Ideal : Cert.Kernel17Ideal.Facts] [hPre_moments : Cert.Pre_moments.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal_moments m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Reference17Ideal_pre_moments [hReference17Ideal : Cert.Reference17Ideal.Facts] [hPre_moments : Cert.Pre_moments.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal_moments m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Kernel18Ideal_pre_weight_moments [hKernel18Ideal : Cert.Kernel18Ideal.Facts] [hPre_weight_moments : Cert.Pre_weight_moments.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal_weight_moments m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Reference18Ideal_pre_weight_moments [hReference18Ideal : Cert.Reference18Ideal.Facts] [hPre_weight_moments : Cert.Pre_weight_moments.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal_weight_moments m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Kernel21Ideal_pre_memory_finite [hKernel21Ideal : Cert.Kernel21Ideal.Facts] [hPre_memory_finite : Cert.Pre_memory_finite.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal_memory_finite m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Reference21Ideal_pre_memory_finite [hReference21Ideal : Cert.Reference21Ideal.Facts] [hPre_memory_finite : Cert.Pre_memory_finite.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal_memory_finite m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4)
      ∧ r.2.mem ((c.tc : Thread Cert.Kernel24.nD Cert.Kernel24.τ).loc Cert.Kernel24.main_arg5) = m ((c.tc : Thread Cert.Kernel24.nD Cert.Kernel24.τ).loc Cert.Kernel24.main_arg5))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
      ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4)
      ∧ r.2.mem ((c.tc : Thread Cert.Reference24Ideal.nD Cert.Reference24Ideal.τ).loc Cert.Reference24Ideal.main_arg5) = m ((c.tc : Thread Cert.Reference24Ideal.nD Cert.Reference24Ideal.τ).loc Cert.Reference24Ideal.main_arg5))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Kernel27Ideal_pre_mlp_moments [hKernel27Ideal : Cert.Kernel27Ideal.Facts] [hPre_mlp_moments : Cert.Pre_mlp_moments.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal_mlp_moments m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Reference27Ideal_pre_mlp_moments [hReference27Ideal : Cert.Reference27Ideal.Facts] [hPre_mlp_moments : Cert.Pre_mlp_moments.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal_mlp_moments m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Kernel28Ideal_pre_out_moments [hKernel28Ideal : Cert.Kernel28Ideal.Facts] [hPre_out_moments : Cert.Pre_out_moments.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal_out_moments m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Reference28Ideal_pre_out_moments [hReference28Ideal : Cert.Reference28Ideal.Facts] [hPre_out_moments : Cert.Pre_out_moments.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal_out_moments m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ r.2.sem = fun _ => 0)

def quiescent_Kernel31Ideal_pre_memory_finite [hKernel31Ideal : Cert.Kernel31Ideal.Facts] [hPre_memory_finite : Cert.Pre_memory_finite.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal_memory_finite m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2))
      ∧ r.2.sem = fun _ => 0)

def quiescent_Reference31Ideal_pre_memory_finite [hReference31Ideal : Cert.Reference31Ideal.Facts] [hPre_memory_finite : Cert.Pre_memory_finite.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal_memory_finite m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v78) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v17) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)) (v2 : (c : Dev Cert.Kernel3Ideal.nD) → Buf (Elt Ideal) ((c.tc : Thread Cert.Kernel3Ideal.nD Cert.Kernel3Ideal.τ).loc Cert.Kernel3Ideal.main_v1_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_v1_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v42) = v0 c
          ∧ r.2.mem ((c.tc : Thread Cert.Reference3Ideal.nD Cert.Reference3Ideal.τ).loc Cert.Reference3Ideal.main_v43) = v1 c
          ∧ r.2.mem ((c.tc : Thread Cert.Reference3Ideal.nD Cert.Reference3Ideal.τ).loc Cert.Reference3Ideal.main_v44) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v1_0)) (v1 : (c : Dev Cert.Kernel4Ideal.nD) → Buf (Elt Ideal) ((c.tc : Thread Cert.Kernel4Ideal.nD Cert.Kernel4Ideal.τ).loc Cert.Kernel4Ideal.main_v1_1)) (v2 : (c : Dev Cert.Kernel4Ideal.nD) → Buf (Elt Ideal) ((c.tc : Thread Cert.Kernel4Ideal.nD Cert.Kernel4Ideal.τ).loc Cert.Kernel4Ideal.main_v1_2)) (v3 : (c : Dev Cert.Kernel4Ideal.nD) → Buf (Elt Ideal) ((c.tc : Thread Cert.Kernel4Ideal.nD Cert.Kernel4Ideal.τ).loc Cert.Kernel4Ideal.main_v1_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1_0) = v0 c
          ∧ r.2.mem ((c.tc : Thread Cert.Kernel4Ideal.nD Cert.Kernel4Ideal.τ).loc Cert.Kernel4Ideal.main_v1_1) = v1 c
          ∧ r.2.mem ((c.tc : Thread Cert.Kernel4Ideal.nD Cert.Kernel4Ideal.τ).loc Cert.Kernel4Ideal.main_v1_2) = v2 c
          ∧ r.2.mem ((c.tc : Thread Cert.Kernel4Ideal.nD Cert.Kernel4Ideal.τ).loc Cert.Kernel4Ideal.main_v1_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v57) = v0 c
          ∧ r.2.mem ((c.tc : Thread Cert.Reference4Ideal.nD Cert.Reference4Ideal.τ).loc Cert.Reference4Ideal.main_v56) = v1 c
          ∧ r.2.mem ((c.tc : Thread Cert.Reference4Ideal.nD Cert.Reference4Ideal.τ).loc Cert.Reference4Ideal.main_v58) = v2 c
          ∧ r.2.mem ((c.tc : Thread Cert.Reference4Ideal.nD Cert.Reference4Ideal.τ).loc Cert.Reference4Ideal.main_v59) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1_0)) (v1 : (c : Dev Cert.Kernel5Ideal.nD) → Buf (Elt Ideal) ((c.tc : Thread Cert.Kernel5Ideal.nD Cert.Kernel5Ideal.τ).loc Cert.Kernel5Ideal.main_v1_1)) (v2 : (c : Dev Cert.Kernel5Ideal.nD) → Buf (Elt Ideal) ((c.tc : Thread Cert.Kernel5Ideal.nD Cert.Kernel5Ideal.τ).loc Cert.Kernel5Ideal.main_v1_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1_0) = v0 c
          ∧ r.2.mem ((c.tc : Thread Cert.Kernel5Ideal.nD Cert.Kernel5Ideal.τ).loc Cert.Kernel5Ideal.main_v1_1) = v1 c
          ∧ r.2.mem ((c.tc : Thread Cert.Kernel5Ideal.nD Cert.Kernel5Ideal.τ).loc Cert.Kernel5Ideal.main_v1_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v17) = v0 c
          ∧ r.2.mem ((c.tc : Thread Cert.Reference5Ideal.nD Cert.Reference5Ideal.τ).loc Cert.Reference5Ideal.main_v20) = v1 c
          ∧ r.2.mem ((c.tc : Thread Cert.Reference5Ideal.nD Cert.Reference5Ideal.τ).loc Cert.Reference5Ideal.main_v21) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v1_0)) (v1 : (c : Dev Cert.Kernel8Ideal.nD) → Buf (Elt Ideal) ((c.tc : Thread Cert.Kernel8Ideal.nD Cert.Kernel8Ideal.τ).loc Cert.Kernel8Ideal.main_v1_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1_0) = v0 c
          ∧ r.2.mem ((c.tc : Thread Cert.Kernel8Ideal.nD Cert.Kernel8Ideal.τ).loc Cert.Kernel8Ideal.main_v1_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v16) = v0 c
          ∧ r.2.mem ((c.tc : Thread Cert.Reference8Ideal.nD Cert.Reference8Ideal.τ).loc Cert.Reference8Ideal.main_v17) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal_pre_finite [hKernel10Ideal : Cert.Kernel10Ideal.Facts] [hReference10Ideal : Cert.Reference10Ideal.Facts] [hPre_finite : Cert.Pre_finite.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v29) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v7) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v1_0)) (v1 : (c : Dev Cert.Kernel15Ideal.nD) → Buf (Elt Ideal) ((c.tc : Thread Cert.Kernel15Ideal.nD Cert.Kernel15Ideal.τ).loc Cert.Kernel15Ideal.main_v1_1)) (v2 : (c : Dev Cert.Kernel15Ideal.nD) → Buf (Elt Ideal) ((c.tc : Thread Cert.Kernel15Ideal.nD Cert.Kernel15Ideal.τ).loc Cert.Kernel15Ideal.main_v1_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1_0) = v0 c
          ∧ r.2.mem ((c.tc : Thread Cert.Kernel15Ideal.nD Cert.Kernel15Ideal.τ).loc Cert.Kernel15Ideal.main_v1_1) = v1 c
          ∧ r.2.mem ((c.tc : Thread Cert.Kernel15Ideal.nD Cert.Kernel15Ideal.τ).loc Cert.Kernel15Ideal.main_v1_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v42) = v0 c
          ∧ r.2.mem ((c.tc : Thread Cert.Reference15Ideal.nD Cert.Reference15Ideal.τ).loc Cert.Reference15Ideal.main_v43) = v1 c
          ∧ r.2.mem ((c.tc : Thread Cert.Reference15Ideal.nD Cert.Reference15Ideal.τ).loc Cert.Reference15Ideal.main_v44) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v1_0)) (v1 : (c : Dev Cert.Kernel16Ideal.nD) → Buf (Elt Ideal) ((c.tc : Thread Cert.Kernel16Ideal.nD Cert.Kernel16Ideal.τ).loc Cert.Kernel16Ideal.main_v1_1)) (v2 : (c : Dev Cert.Kernel16Ideal.nD) → Buf (Elt Ideal) ((c.tc : Thread Cert.Kernel16Ideal.nD Cert.Kernel16Ideal.τ).loc Cert.Kernel16Ideal.main_v1_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1_0) = v0 c
          ∧ r.2.mem ((c.tc : Thread Cert.Kernel16Ideal.nD Cert.Kernel16Ideal.τ).loc Cert.Kernel16Ideal.main_v1_1) = v1 c
          ∧ r.2.mem ((c.tc : Thread Cert.Kernel16Ideal.nD Cert.Kernel16Ideal.τ).loc Cert.Kernel16Ideal.main_v1_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v42) = v0 c
          ∧ r.2.mem ((c.tc : Thread Cert.Reference16Ideal.nD Cert.Reference16Ideal.τ).loc Cert.Reference16Ideal.main_v43) = v1 c
          ∧ r.2.mem ((c.tc : Thread Cert.Reference16Ideal.nD Cert.Reference16Ideal.τ).loc Cert.Reference16Ideal.main_v44) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal_pre_moments [hKernel17Ideal : Cert.Kernel17Ideal.Facts] [hReference17Ideal : Cert.Reference17Ideal.Facts] [hPre_moments : Cert.Pre_moments.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal_moments m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v4) = v1 c
          ∧ r.2.mem ((c.tc : Thread Cert.Reference17Ideal.nD Cert.Reference17Ideal.τ).loc Cert.Reference17Ideal.main_v10) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal_pre_weight_moments [hKernel18Ideal : Cert.Kernel18Ideal.Facts] [hReference18Ideal : Cert.Reference18Ideal.Facts] [hPre_weight_moments : Cert.Pre_weight_moments.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal_weight_moments m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v23) = v0 c
          ∧ r.2.mem ((c.tc : Thread Cert.Reference18Ideal.nD Cert.Reference18Ideal.τ).loc Cert.Reference18Ideal.main_v4) = v1 c
          ∧ r.2.mem ((c.tc : Thread Cert.Reference18Ideal.nD Cert.Reference18Ideal.τ).loc Cert.Reference18Ideal.main_v10) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v7) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)) →
    ∃ (v0 : (c : Dev Cert.Kernel20Ideal.nD) → Buf (Elt Ideal) ((c.tc : Thread Cert.Kernel20Ideal.nD Cert.Kernel20Ideal.τ).loc Cert.Kernel20Ideal.main_v27)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v27) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v78) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4))

def preserves_Kernel21_Kernel21Ideal : Prop :=
  True

def algebraic_Kernel21Ideal_Reference21Ideal_pre_memory_finite [hKernel21Ideal : Cert.Kernel21Ideal.Facts] [hReference21Ideal : Cert.Reference21Ideal.Facts] [hPre_memory_finite : Cert.Pre_memory_finite.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal_memory_finite m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v29) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v1_0)) (v1 : (c : Dev Cert.Kernel22Ideal.nD) → Buf (Elt Ideal) ((c.tc : Thread Cert.Kernel22Ideal.nD Cert.Kernel22Ideal.τ).loc Cert.Kernel22Ideal.main_v1_1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v1_0) = v0 c
          ∧ r.2.mem ((c.tc : Thread Cert.Kernel22Ideal.nD Cert.Kernel22Ideal.τ).loc Cert.Kernel22Ideal.main_v1_1) = v1 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v17) = v0 c
          ∧ r.2.mem ((c.tc : Thread Cert.Reference22Ideal.nD Cert.Reference22Ideal.τ).loc Cert.Reference22Ideal.main_v18) = v1 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v5) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)
      ∧ m' ((c.tc : Thread Cert.Reference24Ideal.nD Cert.Reference24Ideal.τ).loc Cert.Reference24Ideal.main_arg5) = m ((c.tc : Thread Cert.Kernel24Ideal.nD Cert.Kernel24Ideal.τ).loc Cert.Kernel24Ideal.main_arg5)) →
    ∃ (v0 : (c : Dev Cert.Kernel24Ideal.nD) → Buf (Elt Ideal) ((c.tc : Thread Cert.Kernel24Ideal.nD Cert.Kernel24Ideal.τ).loc Cert.Kernel24Ideal.main_v3_0)) (v1 : (c : Dev Cert.Kernel24Ideal.nD) → Buf (Elt Ideal) ((c.tc : Thread Cert.Kernel24Ideal.nD Cert.Kernel24Ideal.τ).loc Cert.Kernel24Ideal.main_v3_1)) (v2 : (c : Dev Cert.Kernel24Ideal.nD) → Buf (Elt Ideal) ((c.tc : Thread Cert.Kernel24Ideal.nD Cert.Kernel24Ideal.τ).loc Cert.Kernel24Ideal.main_v3_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v3_0) = v0 c
          ∧ r.2.mem ((c.tc : Thread Cert.Kernel24Ideal.nD Cert.Kernel24Ideal.τ).loc Cert.Kernel24Ideal.main_v3_1) = v1 c
          ∧ r.2.mem ((c.tc : Thread Cert.Kernel24Ideal.nD Cert.Kernel24Ideal.τ).loc Cert.Kernel24Ideal.main_v3_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
          ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v48) = v0 c
          ∧ r.2.mem ((c.tc : Thread Cert.Reference24Ideal.nD Cert.Reference24Ideal.τ).loc Cert.Reference24Ideal.main_v49) = v1 c
          ∧ r.2.mem ((c.tc : Thread Cert.Reference24Ideal.nD Cert.Reference24Ideal.τ).loc Cert.Reference24Ideal.main_v50) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4)
          ∧ r.2.mem ((c.tc : Thread Cert.Reference24Ideal.nD Cert.Reference24Ideal.τ).loc Cert.Reference24Ideal.main_arg5) = m' ((c.tc : Thread Cert.Reference24Ideal.nD Cert.Reference24Ideal.τ).loc Cert.Reference24Ideal.main_arg5))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v4) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v7) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2))

def preserves_Kernel27_Kernel27Ideal : Prop :=
  True

def algebraic_Kernel27Ideal_Reference27Ideal_pre_mlp_moments [hKernel27Ideal : Cert.Kernel27Ideal.Facts] [hReference27Ideal : Cert.Reference27Ideal.Facts] [hPre_mlp_moments : Cert.Pre_mlp_moments.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal_mlp_moments m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v23) = v0 c
          ∧ r.2.mem ((c.tc : Thread Cert.Reference27Ideal.nD Cert.Reference27Ideal.τ).loc Cert.Reference27Ideal.main_v4) = v1 c
          ∧ r.2.mem ((c.tc : Thread Cert.Reference27Ideal.nD Cert.Reference27Ideal.τ).loc Cert.Reference27Ideal.main_v10) = v2 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal_pre_out_moments [hKernel28Ideal : Cert.Kernel28Ideal.Facts] [hReference28Ideal : Cert.Reference28Ideal.Facts] [hPre_out_moments : Cert.Pre_out_moments.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal_out_moments m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v23) = v0 c
          ∧ r.2.mem ((c.tc : Thread Cert.Reference28Ideal.nD Cert.Reference28Ideal.τ).loc Cert.Reference28Ideal.main_v4) = v1 c
          ∧ r.2.mem ((c.tc : Thread Cert.Reference28Ideal.nD Cert.Reference28Ideal.τ).loc Cert.Reference28Ideal.main_v10) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)) →
    ∃ (v0 : (c : Dev Cert.Kernel29Ideal.nD) → Buf (Elt Ideal) ((c.tc : Thread Cert.Kernel29Ideal.nD Cert.Kernel29Ideal.τ).loc Cert.Kernel29Ideal.main_v1_0)) (v1 : (c : Dev Cert.Kernel29Ideal.nD) → Buf (Elt Ideal) ((c.tc : Thread Cert.Kernel29Ideal.nD Cert.Kernel29Ideal.τ).loc Cert.Kernel29Ideal.main_v1_1)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v1_0) = v0 c
          ∧ r.2.mem ((c.tc : Thread Cert.Kernel29Ideal.nD Cert.Kernel29Ideal.τ).loc Cert.Kernel29Ideal.main_v1_1) = v1 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v16) = v0 c
          ∧ r.2.mem ((c.tc : Thread Cert.Reference29Ideal.nD Cert.Reference29Ideal.τ).loc Cert.Reference29Ideal.main_v17) = v1 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v5) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def preserves_Kernel31_Kernel31Ideal : Prop :=
  True

def algebraic_Kernel31Ideal_Reference31Ideal_pre_memory_finite [hKernel31Ideal : Cert.Kernel31Ideal.Facts] [hReference31Ideal : Cert.Reference31Ideal.Facts] [hPre_memory_finite : Cert.Pre_memory_finite.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal_memory_finite m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v77) = v0 c
          ∧ r.2.mem ((c.tc : Thread Cert.Reference31Ideal.nD Cert.Reference31Ideal.τ).loc Cert.Reference31Ideal.main_v78) = v1 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v7) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)) →
    ∃ (v0 : (c : Dev Cert.Kernel33Ideal.nD) → Buf (Elt Ideal) ((c.tc : Thread Cert.Kernel33Ideal.nD Cert.Kernel33Ideal.τ).loc Cert.Kernel33Ideal.main_v1)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v1) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v4) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)) →
    ∃ (v0 : (c : Dev Cert.Kernel34Ideal.nD) → Buf (Elt Ideal) ((c.tc : Thread Cert.Kernel34Ideal.nD Cert.Kernel34Ideal.τ).loc Cert.Kernel34Ideal.main_v27_0)) (v1 : (c : Dev Cert.Kernel34Ideal.nD) → Buf (Elt Ideal) ((c.tc : Thread Cert.Kernel34Ideal.nD Cert.Kernel34Ideal.τ).loc Cert.Kernel34Ideal.main_v27_1)) (v2 : (c : Dev Cert.Kernel34Ideal.nD) → Buf (Elt Ideal) ((c.tc : Thread Cert.Kernel34Ideal.nD Cert.Kernel34Ideal.τ).loc Cert.Kernel34Ideal.main_v27_2)) (v3 : (c : Dev Cert.Kernel34Ideal.nD) → Buf (Elt Ideal) ((c.tc : Thread Cert.Kernel34Ideal.nD Cert.Kernel34Ideal.τ).loc Cert.Kernel34Ideal.main_v27_3)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v27_0) = v0 c
          ∧ r.2.mem ((c.tc : Thread Cert.Kernel34Ideal.nD Cert.Kernel34Ideal.τ).loc Cert.Kernel34Ideal.main_v27_1) = v1 c
          ∧ r.2.mem ((c.tc : Thread Cert.Kernel34Ideal.nD Cert.Kernel34Ideal.τ).loc Cert.Kernel34Ideal.main_v27_2) = v2 c
          ∧ r.2.mem ((c.tc : Thread Cert.Kernel34Ideal.nD Cert.Kernel34Ideal.τ).loc Cert.Kernel34Ideal.main_v27_3) = v3 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v73) = v0 c
          ∧ r.2.mem ((c.tc : Thread Cert.Reference34Ideal.nD Cert.Reference34Ideal.τ).loc Cert.Reference34Ideal.main_v76) = v1 c
          ∧ r.2.mem ((c.tc : Thread Cert.Reference34Ideal.nD Cert.Reference34Ideal.τ).loc Cert.Reference34Ideal.main_v79) = v2 c
          ∧ r.2.mem ((c.tc : Thread Cert.Reference34Ideal.nD Cert.Reference34Ideal.τ).loc Cert.Reference34Ideal.main_v82) = v3 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hPre_finite : Cert.Pre_finite.Facts) (hPre_moments : Cert.Pre_moments.Facts) (hPre_weight_moments : Cert.Pre_weight_moments.Facts) (hPre_memory_finite : Cert.Pre_memory_finite.Facts) (hPre_mlp_moments : Cert.Pre_mlp_moments.Facts) (hPre_out_moments : Cert.Pre_out_moments.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_finite (hKernel10Ideal := hKernel10Ideal) (hPre_finite := hPre_finite)
    ∧ quiescent_Reference10Ideal (hReference10Ideal := hReference10Ideal)
    ∧ quiescent_Reference10Ideal_pre_finite (hReference10Ideal := hReference10Ideal) (hPre_finite := hPre_finite)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Kernel17Ideal_pre_moments (hKernel17Ideal := hKernel17Ideal) (hPre_moments := hPre_moments)
    ∧ quiescent_Reference17Ideal (hReference17Ideal := hReference17Ideal)
    ∧ quiescent_Reference17Ideal_pre_moments (hReference17Ideal := hReference17Ideal) (hPre_moments := hPre_moments)
    ∧ quiescent_Kernel18 (hKernel18 := hKernel18)
    ∧ quiescent_Kernel18Ideal (hKernel18Ideal := hKernel18Ideal)
    ∧ quiescent_Kernel18Ideal_pre_weight_moments (hKernel18Ideal := hKernel18Ideal) (hPre_weight_moments := hPre_weight_moments)
    ∧ quiescent_Reference18Ideal (hReference18Ideal := hReference18Ideal)
    ∧ quiescent_Reference18Ideal_pre_weight_moments (hReference18Ideal := hReference18Ideal) (hPre_weight_moments := hPre_weight_moments)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Kernel21Ideal_pre_memory_finite (hKernel21Ideal := hKernel21Ideal) (hPre_memory_finite := hPre_memory_finite)
    ∧ quiescent_Reference21Ideal (hReference21Ideal := hReference21Ideal)
    ∧ quiescent_Reference21Ideal_pre_memory_finite (hReference21Ideal := hReference21Ideal) (hPre_memory_finite := hPre_memory_finite)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Kernel27Ideal_pre_mlp_moments (hKernel27Ideal := hKernel27Ideal) (hPre_mlp_moments := hPre_mlp_moments)
    ∧ quiescent_Reference27Ideal (hReference27Ideal := hReference27Ideal)
    ∧ quiescent_Reference27Ideal_pre_mlp_moments (hReference27Ideal := hReference27Ideal) (hPre_mlp_moments := hPre_mlp_moments)
    ∧ quiescent_Kernel28 (hKernel28 := hKernel28)
    ∧ quiescent_Kernel28Ideal (hKernel28Ideal := hKernel28Ideal)
    ∧ quiescent_Kernel28Ideal_pre_out_moments (hKernel28Ideal := hKernel28Ideal) (hPre_out_moments := hPre_out_moments)
    ∧ quiescent_Reference28Ideal (hReference28Ideal := hReference28Ideal)
    ∧ quiescent_Reference28Ideal_pre_out_moments (hReference28Ideal := hReference28Ideal) (hPre_out_moments := hPre_out_moments)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Kernel31Ideal_pre_memory_finite (hKernel31Ideal := hKernel31Ideal) (hPre_memory_finite := hPre_memory_finite)
    ∧ quiescent_Reference31Ideal (hReference31Ideal := hReference31Ideal)
    ∧ quiescent_Reference31Ideal_pre_memory_finite (hReference31Ideal := hReference31Ideal) (hPre_memory_finite := hPre_memory_finite)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_finite (hKernel10Ideal := hKernel10Ideal) (hReference10Ideal := hReference10Ideal) (hPre_finite := hPre_finite)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal_pre_moments (hKernel17Ideal := hKernel17Ideal) (hReference17Ideal := hReference17Ideal) (hPre_moments := hPre_moments)
    ∧ preserves_Kernel18_Kernel18Ideal
    ∧ algebraic_Kernel18Ideal_Reference18Ideal_pre_weight_moments (hKernel18Ideal := hKernel18Ideal) (hReference18Ideal := hReference18Ideal) (hPre_weight_moments := hPre_weight_moments)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal_pre_memory_finite (hKernel21Ideal := hKernel21Ideal) (hReference21Ideal := hReference21Ideal) (hPre_memory_finite := hPre_memory_finite)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal_pre_mlp_moments (hKernel27Ideal := hKernel27Ideal) (hReference27Ideal := hReference27Ideal) (hPre_mlp_moments := hPre_mlp_moments)
    ∧ preserves_Kernel28_Kernel28Ideal
    ∧ algebraic_Kernel28Ideal_Reference28Ideal_pre_out_moments (hKernel28Ideal := hKernel28Ideal) (hReference28Ideal := hReference28Ideal) (hPre_out_moments := hPre_out_moments)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal_pre_memory_finite (hKernel31Ideal := hKernel31Ideal) (hReference31Ideal := hReference31Ideal) (hPre_memory_finite := hPre_memory_finite)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
-- ==== Pre_finite.lean ====
abbrev S8192x2560 : Shape := ⟨2, ![8192, 2560]⟩
abbrev S256x1024 : Shape := ⟨2, ![256, 1024]⟩
abbrev S8192x1536 : Shape := ⟨2, ![8192, 1536]⟩
abbrev S8192x512 : Shape := ⟨2, ![8192, 512]⟩
abbrev S_ : Shape := ⟨0, ![]⟩
abbrev S256x512 : Shape := ⟨2, ![256, 512]⟩

class Facts : Prop where
  slices_S8192x2560_S8192x512_0_2048 : S8192x2560.Slices ![0, 2048] S8192x512
  bcast_S_S8192x512 : S_.BroadcastsInDim S8192x512 (![] : Fin 0 → Fin S8192x512.rank)
  slices_S256x1024_S256x512_0_0 : S256x1024.Slices ![0, 0] S256x512
  bitsLt_bf16_f32 : FTy.bits .bf16 < FTy.bits .f32
  bcast_S_S256x512 : S_.BroadcastsInDim S256x512 (![] : Fin 0 → Fin S256x512.rank)

variable [Facts]

def fn {F : FTy → Type} [FloatOps F] (main_arg0 : FVec F S8192x2560 .f32) (main_arg1 : FVec F S256x1024 .bf16) (main_arg2 : FVec F S8192x1536 .bf16) : IVec S8192x512 1 × IVec S256x512 1 :=
  let main_v0 : FVec F S8192x512 .f32 := (extractStridedSlice S8192x512 ![0, 2048] · slices_S8192x2560_S8192x512_0_2048) main_arg0
  let main_v1 : FVec F S8192x512 .f32 := Host.absf main_v0
  let main_cst : FVec F S_ .f32 := constant S_ .f32 0x7F800000#32
  let main_v2 : FVec F S8192x512 .f32 := broadcastInDim S8192x512 ![] bcast_S_S8192x512 main_cst
  let main_v3 : IVec S8192x512 1 := cmpf .olt main_v1 main_v2
  let main_v4 : FVec F S256x512 .bf16 := (extractStridedSlice S256x512 ![0, 0] · slices_S256x1024_S256x512_0_0) main_arg1
  let main_v5 : FVec F S256x512 .f32 := (extf .f32 · bitsLt_bf16_f32) main_v4
  let main_v6 : FVec F S256x512 .f32 := Host.absf main_v5
  let main_cst_0 : FVec F S_ .f32 := constant S_ .f32 0x7F800000#32
  let main_v7 : FVec F S256x512 .f32 := broadcastInDim S256x512 ![] bcast_S_S256x512 main_cst_0
  let main_v8 : IVec S256x512 1 := cmpf .olt main_v6 main_v7
  (main_v3, main_v8)
-- ==== Pre_memory_finite.lean ====
abbrev S8192x2048 : Shape := ⟨2, ![8192, 2048]⟩
abbrev S256x1024 : Shape := ⟨2, ![256, 1024]⟩
abbrev S8192x1536 : Shape := ⟨2, ![8192, 1536]⟩
abbrev S8192x512 : Shape := ⟨2, ![8192, 512]⟩
abbrev S_ : Shape := ⟨0, ![]⟩
abbrev S256x512 : Shape := ⟨2, ![256, 512]⟩

class Facts : Prop where
  slices_S8192x2048_S8192x512_0_1536 : S8192x2048.Slices ![0, 1536] S8192x512
  bcast_S_S8192x512 : S_.BroadcastsInDim S8192x512 (![] : Fin 0 → Fin S8192x512.rank)
  slices_S256x1024_S256x512_0_0 : S256x1024.Slices ![0, 0] S256x512
  bitsLt_bf16_f32 : FTy.bits .bf16 < FTy.bits .f32
  bcast_S_S256x512 : S_.BroadcastsInDim S256x512 (![] : Fin 0 → Fin S256x512.rank)

variable [Facts]

def fn {F : FTy → Type} [FloatOps F] (main_arg0 : FVec F S8192x2048 .f32) (main_arg1 : FVec F S256x1024 .bf16) (main_arg2 : FVec F S8192x1536 .bf16) : IVec S8192x512 1 × IVec S256x512 1 :=
  let main_v0 : FVec F S8192x512 .f32 := (extractStridedSlice S8192x512 ![0, 1536] · slices_S8192x2048_S8192x512_0_1536) main_arg0
  let main_v1 : FVec F S8192x512 .f32 := Host.absf main_v0
  let main_cst : FVec F S_ .f32 := constant S_ .f32 0x7F800000#32
  let main_v2 : FVec F S8192x512 .f32 := broadcastInDim S8192x512 ![] bcast_S_S8192x512 main_cst
  let main_v3 : IVec S8192x512 1 := cmpf .olt main_v1 main_v2
  let main_v4 : FVec F S256x512 .bf16 := (extractStridedSlice S256x512 ![0, 0] · slices_S256x1024_S256x512_0_0) main_arg1
  let main_v5 : FVec F S256x512 .f32 := (extf .f32 · bitsLt_bf16_f32) main_v4
  let main_v6 : FVec F S256x512 .f32 := Host.absf main_v5
  let main_cst_0 : FVec F S_ .f32 := constant S_ .f32 0x7F800000#32
  let main_v7 : FVec F S256x512 .f32 := broadcastInDim S256x512 ![] bcast_S_S256x512 main_cst_0
  let main_v8 : IVec S256x512 1 := cmpf .olt main_v6 main_v7
  (main_v3, main_v8)
-- ==== Pre_mlp_moments.lean ====
abbrev S2048x1024 : Shape := ⟨2, ![2048, 1024]⟩
abbrev S_ : Shape := ⟨0, ![]⟩

class Facts : Prop where
  bcast_S_S2048x1024 : S_.BroadcastsInDim S2048x1024 (![] : Fin 0 → Fin S2048x1024.rank)

variable [Facts]

def fn {F : FTy → Type} [FloatOps F] (main_arg0 : FVec F S2048x1024 .f32) (main_arg1 : FVec F S2048x1024 .f32) (main_arg2 : FVec F S2048x1024 .f32) (main_arg3 : FVec F S2048x1024 .f32) : IVec S2048x1024 1 × IVec S2048x1024 1 × IVec S2048x1024 1 :=
  let main_cst : FVec F S_ .f32 := constant S_ .f32 0x00000000#32
  let main_v0 : FVec F S2048x1024 .f32 := broadcastInDim S2048x1024 ![] bcast_S_S2048x1024 main_cst
  let main_v1 : IVec S2048x1024 1 := cmpf .oge main_arg3 main_v0
  let main_cst_0 : FVec F S_ .f32 := constant S_ .f32 0x7F800000#32
  let main_v2 : FVec F S2048x1024 .f32 := broadcastInDim S2048x1024 ![] bcast_S_S2048x1024 main_cst_0
  let main_v3 : IVec S2048x1024 1 := cmpf .olt main_arg3 main_v2
  let main_v4 : FVec F S2048x1024 .f32 := Host.absf main_arg1
  let main_cst_1 : FVec F S_ .f32 := constant S_ .f32 0x7F800000#32
  let main_v5 : FVec F S2048x1024 .f32 := broadcastInDim S2048x1024 ![] bcast_S_S2048x1024 main_cst_1
  let main_v6 : IVec S2048x1024 1 := cmpf .olt main_v4 main_v5
  (main_v1, main_v3, main_v6)
-- ==== Pre_moments.lean ====
abbrev S640x1024 : Shape := ⟨2, ![640, 1024]⟩
abbrev S_ : Shape := ⟨0, ![]⟩

class Facts : Prop where
  bcast_S_S640x1024 : S_.BroadcastsInDim S640x1024 (![] : Fin 0 → Fin S640x1024.rank)

variable [Facts]

def fn {F : FTy → Type} [FloatOps F] (main_arg0 : FVec F S640x1024 .f32) (main_arg1 : FVec F S640x1024 .f32) (main_arg2 : FVec F S640x1024 .f32) (main_arg3 : FVec F S640x1024 .f32) : IVec S640x1024 1 × IVec S640x1024 1 × IVec S640x1024 1 :=
  let main_cst : FVec F S_ .f32 := constant S_ .f32 0x00000000#32
  let main_v0 : FVec F S640x1024 .f32 := broadcastInDim S640x1024 ![] bcast_S_S640x1024 main_cst
  let main_v1 : IVec S640x1024 1 := cmpf .oge main_arg3 main_v0
  let main_cst_0 : FVec F S_ .f32 := constant S_ .f32 0x7F800000#32
  let main_v2 : FVec F S640x1024 .f32 := broadcastInDim S640x1024 ![] bcast_S_S640x1024 main_cst_0
  let main_v3 : IVec S640x1024 1 := cmpf .olt main_arg3 main_v2
  let main_v4 : FVec F S640x1024 .f32 := Host.absf main_arg1
  let main_cst_1 : FVec F S_ .f32 := constant S_ .f32 0x7F800000#32
  let main_v5 : FVec F S640x1024 .f32 := broadcastInDim S640x1024 ![] bcast_S_S640x1024 main_cst_1
  let main_v6 : IVec S640x1024 1 := cmpf .olt main_v4 main_v5
  (main_v1, main_v3, main_v6)
-- ==== Pre_out_moments.lean ====
abbrev S768x1024 : Shape := ⟨2, ![768, 1024]⟩
abbrev S_ : Shape := ⟨0, ![]⟩

class Facts : Prop where
  bcast_S_S768x1024 : S_.BroadcastsInDim S768x1024 (![] : Fin 0 → Fin S768x1024.rank)

variable [Facts]

def fn {F : FTy → Type} [FloatOps F] (main_arg0 : FVec F S768x1024 .f32) (main_arg1 : FVec F S768x1024 .f32) (main_arg2 : FVec F S768x1024 .f32) (main_arg3 : FVec F S768x1024 .f32) : IVec S768x1024 1 × IVec S768x1024 1 × IVec S768x1024 1 :=
  let main_cst : FVec F S_ .f32 := constant S_ .f32 0x00000000#32
  let main_v0 : FVec F S768x1024 .f32 := broadcastInDim S768x1024 ![] bcast_S_S768x1024 main_cst
  let main_v1 : IVec S768x1024 1 := cmpf .oge main_arg3 main_v0
  let main_cst_0 : FVec F S_ .f32 := constant S_ .f32 0x7F800000#32
  let main_v2 : FVec F S768x1024 .f32 := broadcastInDim S768x1024 ![] bcast_S_S768x1024 main_cst_0
  let main_v3 : IVec S768x1024 1 := cmpf .olt main_arg3 main_v2
  let main_v4 : FVec F S768x1024 .f32 := Host.absf main_arg1
  let main_cst_1 : FVec F S_ .f32 := constant S_ .f32 0x7F800000#32
  let main_v5 : FVec F S768x1024 .f32 := broadcastInDim S768x1024 ![] bcast_S_S768x1024 main_cst_1
  let main_v6 : IVec S768x1024 1 := cmpf .olt main_v4 main_v5
  (main_v1, main_v3, main_v6)
-- ==== Pre_weight_moments.lean ====
abbrev S512x1024 : Shape := ⟨2, ![512, 1024]⟩
abbrev S_ : Shape := ⟨0, ![]⟩

class Facts : Prop where
  bcast_S_S512x1024 : S_.BroadcastsInDim S512x1024 (![] : Fin 0 → Fin S512x1024.rank)

variable [Facts]

def fn {F : FTy → Type} [FloatOps F] (main_arg0 : FVec F S512x1024 .f32) (main_arg1 : FVec F S512x1024 .f32) (main_arg2 : FVec F S512x1024 .f32) (main_arg3 : FVec F S512x1024 .f32) : IVec S512x1024 1 × IVec S512x1024 1 × IVec S512x1024 1 :=
  let main_cst : FVec F S_ .f32 := constant S_ .f32 0x00000000#32
  let main_v0 : FVec F S512x1024 .f32 := broadcastInDim S512x1024 ![] bcast_S_S512x1024 main_cst
  let main_v1 : IVec S512x1024 1 := cmpf .oge main_arg3 main_v0
  let main_cst_0 : FVec F S_ .f32 := constant S_ .f32 0x7F800000#32
  let main_v2 : FVec F S512x1024 .f32 := broadcastInDim S512x1024 ![] bcast_S_S512x1024 main_cst_0
  let main_v3 : IVec S512x1024 1 := cmpf .olt main_arg3 main_v2
  let main_v4 : FVec F S512x1024 .f32 := Host.absf main_arg1
  let main_cst_1 : FVec F S_ .f32 := constant S_ .f32 0x7F800000#32
  let main_v5 : FVec F S512x1024 .f32 := broadcastInDim S512x1024 ![] bcast_S_S512x1024 main_cst_1
  let main_v6 : IVec S512x1024 1 := cmpf .olt main_v4 main_v5
  (main_v1, main_v3, main_v6)
-- ==== Kernel.lean ====
abbrev S8192x2560 : Shape := ⟨2, ![8192, 2560]⟩
abbrev S256x1024 : Shape := ⟨2, ![256, 1024]⟩
abbrev S8192x1536 : Shape := ⟨2, ![8192, 1536]⟩
abbrev S8192x512 : Shape := ⟨2, ![8192, 512]⟩
abbrev S512x512 : Shape := ⟨2, ![512, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x2560, .f32⟩
  | .hbm, ⟨1, _⟩ => ⟨S256x1024, .bf16⟩
  | .hbm, ⟨2, _⟩ => ⟨S8192x1536, .bf16⟩
  | .hbm, ⟨3, _⟩ => ⟨S8192x512, .bf16⟩
  | .hbm, ⟨4, _⟩ => ⟨S256x1024, .f32⟩
  | .local _ .vmem, ⟨0, _⟩ => ⟨S512x512, .f32⟩
  | .local _ .vmem, ⟨1, _⟩ => ⟨S512x512, .f32⟩
  | .local _ .vmem, ⟨2, _⟩ => ⟨S256x1024, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S256x1024, .f32⟩
  | _, _ => ⟨S8192x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S8192x2560 : Shape := ⟨2, ![8192, 2560]⟩
abbrev S256x1024 : Shape := ⟨2, ![256, 1024]⟩
abbrev S8192x1536 : Shape := ⟨2, ![8192, 1536]⟩
abbrev S8192x512 : Shape := ⟨2, ![8192, 512]⟩
abbrev S1x8192x512 : Shape := ⟨3, ![1, 8192, 512]⟩
abbrev S1x256x1024 : Shape := ⟨3, ![1, 256, 1024]⟩
abbrev S1x256x512 : Shape := ⟨3, ![1, 256, 512]⟩
abbrev S1x256x4x128 : Shape := ⟨4, ![1, 256, 4, 128]⟩
abbrev S1x8192x4x128 : Shape := ⟨4, ![1, 8192, 4, 128]⟩
abbrev S1x4x8192x256 : Shape := ⟨4, ![1, 4, 8192, 256]⟩
abbrev S_ : Shape := ⟨0, ![]⟩
abbrev S1x4x8192 : Shape := ⟨3, ![1, 4, 8192]⟩
abbrev S1x4x8192x1 : Shape := ⟨4, ![1, 4, 8192, 1]⟩
abbrev S1x4x128x8192 : Shape := ⟨4, ![1, 4, 128, 8192]⟩
abbrev S1x4x128x256 : Shape := ⟨4, ![1, 4, 128, 256]⟩
abbrev S4x8192 : Shape := ⟨2, ![4, 8192]⟩
abbrev S1x4x256x128 : Shape := ⟨4, ![1, 4, 256, 128]⟩
abbrev S1x4x8192x128 : Shape := ⟨4, ![1, 4, 8192, 128]⟩

abbrev nBuf : Space → Nat
  | .hbm => 98
  | .vmem => 0
  | .smem => 0
  | _ => 0

abbrev bufTy : (tb : Table) → Fin (tcTables nBuf tb) → BufTy
  | .hbm, ⟨0, _⟩ => ⟨S8192x2560, .f32⟩
  | .hbm, ⟨1, _⟩ => ⟨S256x1024, .bf16⟩
  | .hbm, ⟨2, _⟩ => ⟨S8192x1536, .bf16⟩
  | .hbm, ⟨3, _⟩ => ⟨S8192x512, .f32⟩
  | .hbm, ⟨4, _⟩ => ⟨S1x8192x512, .f32⟩
  | .hbm, ⟨5, _⟩ => ⟨S8192x512, .bf16⟩
  | .hbm, ⟨6, _⟩ => ⟨S8192x512, .f32⟩
  | .hbm, ⟨7, _⟩ => ⟨S1x8192x512, .f32⟩
  | .hbm, ⟨8, _⟩ => ⟨S256x1024, .f32⟩
  | .hbm, ⟨9, _⟩ => ⟨S1x256x1024, .f32⟩
  | .hbm, ⟨10, _⟩ => ⟨S1x256x512, .f32⟩
  | .hbm, ⟨11, _⟩ => ⟨S1x256x4x128, .f32⟩
  | .hbm, ⟨12, _⟩ => ⟨S1x256x512, .f32⟩
  | .hbm, ⟨13, _⟩ => ⟨S1x256x4x128, .f32⟩
  | .hbm, ⟨14, _⟩ => ⟨S1x8192x4x128, .f32⟩
  | .hbm, ⟨15, _⟩ => ⟨S1x4x8192x256, .f32⟩
  | .hbm, ⟨16, _⟩ => ⟨S_, .f32⟩
  | .hbm, ⟨17, _⟩ => ⟨S1x4x8192x256, .f32⟩
  | .hbm, ⟨18, _⟩ => ⟨S1x4x8192x256, .f32⟩
  | .hbm, ⟨19, _⟩ => ⟨S_, .f32⟩
  | .hbm, ⟨20, _⟩ => ⟨S1x4x8192, .f32⟩
  | .hbm, ⟨21, _⟩ => ⟨S1x4x8192x1, .f32⟩
  | .hbm, ⟨22, _⟩ => ⟨S1x4x8192x256, .f32⟩
  | .hbm, ⟨23, _⟩ => ⟨S1x4x8192x256, .i1⟩
  | .hbm, ⟨24, _⟩ => ⟨S1x4x8192x256, .f32⟩
  | .hbm, ⟨25, _⟩ => ⟨S_, .f32⟩
  | .hbm, ⟨26, _⟩ => ⟨S1x4x8192, .f32⟩
  | .hbm, ⟨27, _⟩ => ⟨S_, .f32⟩
  | .hbm, ⟨28, _⟩ => ⟨S1x4x8192, .f32⟩
  | .hbm, ⟨29, _⟩ => ⟨S1x4x8192, .f32⟩
  | .hbm, ⟨30, _⟩ => ⟨S_, .f32⟩
  | .hbm, ⟨31, _⟩ => ⟨S1x4x8192, .f32⟩
  | .hbm, ⟨32, _⟩ => ⟨S1x4x8192, .i1⟩
  | .hbm, ⟨33, _⟩ => ⟨S_, .f32⟩
  | .hbm, ⟨34, _⟩ => ⟨S1x4x8192, .f32⟩
  | .hbm, ⟨35, _⟩ => ⟨S1x4x8192, .i1⟩
  | .hbm, ⟨36, _⟩ => ⟨S_, .f32⟩
  | .hbm, ⟨37, _⟩ => ⟨S1x4x8192, .f32⟩
  | .hbm, ⟨38, _⟩ => ⟨S_, .f32⟩
  | .hbm, ⟨39, _⟩ => ⟨S1x4x8192, .f32⟩
  | .hbm, ⟨40, _⟩ => ⟨S_, .f32⟩
  | .hbm, ⟨41, _⟩ => ⟨S1x4x8192, .f32⟩
  | .hbm, ⟨42, _⟩ => ⟨S1x4x8192, .f32⟩
  | .hbm, ⟨43, _⟩ => ⟨S1x4x8192, .f32⟩
  | .hbm, ⟨44, _⟩ => ⟨S1x4x8192x1, .f32⟩
  | .hbm, ⟨45, _⟩ => ⟨S1x4x8192x256, .f32⟩
  | .hbm, ⟨46, _⟩ => ⟨S1x4x8192x256, .f32⟩
  | .hbm, ⟨47, _⟩ => ⟨S1x4x8192x256, .f32⟩
  | .hbm, ⟨48, _⟩ => ⟨S_, .f32⟩
  | .hbm, ⟨49, _⟩ => ⟨S1x4x8192, .f32⟩
  | .hbm, ⟨50, _⟩ => ⟨S1x4x8192x1, .f32⟩
  | .hbm, ⟨51, _⟩ => ⟨S1x4x8192x256, .f32⟩
  | .hbm, ⟨52, _⟩ => ⟨S1x4x8192x256, .f32⟩
  | .hbm, ⟨53, _⟩ => ⟨S1x4x8192x1, .f32⟩
  | .hbm, ⟨54, _⟩ => ⟨S_, .f32⟩
  | .hbm, ⟨55, _⟩ => ⟨S1x4x8192x1, .f32⟩
  | .hbm, ⟨56, _⟩ => ⟨S1x4x8192x1, .f32⟩
  | .hbm, ⟨57, _⟩ => ⟨S1x4x128x8192, .f32⟩
  | .hbm, ⟨58, _⟩ => ⟨S1x8192x4x128, .f32⟩
  | .hbm, ⟨59, _⟩ => ⟨S1x8192x512, .f32⟩
  | .hbm, ⟨60, _⟩ => ⟨S1x8192x4x128, .f32⟩
  | .hbm, ⟨61, _⟩ => ⟨S1x4x128x8192, .f32⟩
  | .hbm, ⟨62, _⟩ => ⟨S1x4x8192x256, .f32⟩
  | .hbm, ⟨63, _⟩ => ⟨S1x4x128x256, .f32⟩
  | .hbm, ⟨64, _⟩ => ⟨S1x256x4x128, .f32⟩
  | .hbm, ⟨65, _⟩ => ⟨S1x4x8192x256, .f32⟩
  | .hbm, ⟨66, _⟩ => ⟨S1x4x8192x256, .f32⟩
  | .hbm, ⟨67, _⟩ => ⟨S1x4x8192x256, .f32⟩
  | .hbm, ⟨68, _⟩ => ⟨S_, .f32⟩
  | .hbm, ⟨69, _⟩ => ⟨S1x4x8192, .f32⟩
  | .hbm, ⟨70, _⟩ => ⟨S1x4x8192x1, .f32⟩
  | .hbm, ⟨71, _⟩ => ⟨S1x4x8192x1, .f32⟩
  | .hbm, ⟨72, _⟩ => ⟨S1x4x8192x256, .f32⟩
  | .hbm, ⟨73, _⟩ => ⟨S1x4x8192x256, .f32⟩
  | .hbm, ⟨74, _⟩ => ⟨S_, .f32⟩
  | .hbm, ⟨75, _⟩ => ⟨S4x8192, .f32⟩
  | .hbm, ⟨76, _⟩ => ⟨S1x4x8192, .f32⟩
  | .hbm, ⟨77, _⟩ => ⟨S1x4x8192x256, .f32⟩
  | .hbm, ⟨78, _⟩ => ⟨S1x4x8192x256, .f32⟩
  | .hbm, ⟨79, _⟩ => ⟨S1x4x8192x256, .f32⟩
  | .hbm, ⟨80, _⟩ => ⟨S_, .f32⟩
  | .hbm, ⟨81, _⟩ => ⟨S1x4x8192x256, .f32⟩
  | .hbm, ⟨82, _⟩ => ⟨S1x4x8192x256, .f32⟩
  | .hbm, ⟨83, _⟩ => ⟨S1x4x256x128, .f32⟩
  | .hbm, ⟨84, _⟩ => ⟨S1x256x4x128, .f32⟩
  | .hbm, ⟨85, _⟩ => ⟨S1x4x8192x128, .f32⟩
  | .hbm, ⟨86, _⟩ => ⟨S1x8192x4x128, .f32⟩
  | .hbm, ⟨87, _⟩ => ⟨S1x8192x512, .f32⟩
  | .hbm, ⟨88, _⟩ => ⟨S1x256x512, .f32⟩
  | .hbm, ⟨89, _⟩ => ⟨S_, .f32⟩
  | .hbm, ⟨90, _⟩ => ⟨S1x256x1024, .f32⟩
  | .hbm, ⟨91, _⟩ => ⟨S1x256x512, .f32⟩
  | .hbm, ⟨92, _⟩ => ⟨S_, .f32⟩
  | .hbm, ⟨93, _⟩ => ⟨S1x256x1024, .f32⟩
  | .hbm, ⟨94, _⟩ => ⟨S1x256x1024, .f32⟩
  | .hbm, ⟨95, _⟩ => ⟨S8192x512, .f32⟩
  | .hbm, ⟨96, _⟩ => ⟨S8192x512, .bf16⟩
  | .hbm, ⟨97, _⟩ => ⟨S256x1024, .f32⟩
  | _, _ => ⟨S8192x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_cst_7 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_8 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_9 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_10 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_11 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_12 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_13 : Ref sig .tc := ⟨.hbm, 89, rfl⟩
abbrev main_v72 : Ref sig .tc := ⟨.hbm, 90, rfl⟩
abbrev main_v73 : Ref sig .tc := ⟨.hbm, 91, rfl⟩
abbrev main_cst_14 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩

abbrev nD : Nat := 1
abbrev τ : Topo := Topo.v7x

variable {F : FTy → Type} [FloatOps F]
-- ==== Kernel2.lean ====
abbrev S8192x1024 : Shape := ⟨2, ![8192, 1024]⟩
abbrev S1x4096x1024 : Shape := ⟨3, ![1, 4096, 1024]⟩
abbrev S8192x4096 : Shape := ⟨2, ![8192, 4096]⟩
abbrev S512x1024 : Shape := ⟨2, ![512, 1024]⟩
abbrev S512x4096 : Shape := ⟨2, ![512, 4096]⟩
abbrev S4096x1024 : Shape := ⟨2, ![4096, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1x4096x1024, .bf16⟩
  | .hbm, ⟨2, _⟩ => ⟨S8192x4096, .bf16⟩
  | .hbm, ⟨3, _⟩ => ⟨S8192x4096, .bf16⟩
  | .local _ .vmem, ⟨0, _⟩ => ⟨S512x1024, .bf16⟩
  | .local _ .vmem, ⟨1, _⟩ => ⟨S512x1024, .bf16⟩
  | .local _ .vmem, ⟨2, _⟩ => ⟨S1x4096x1024, .bf16⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | .local _ .vmem, ⟨6, _⟩ => ⟨S512x4096, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S8192x1024 : Shape := ⟨2, ![8192, 1024]⟩
abbrev S1x4096x1024 : Shape := ⟨3, ![1, 4096, 1024]⟩
abbrev S8192x4096 : Shape := ⟨2, ![8192, 4096]⟩
abbrev S4096x1x1024 : Shape := ⟨3, ![4096, 1, 1024]⟩
abbrev S4096x1024 : Shape := ⟨2, ![4096, 1024]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x4096x1024, .bf16⟩
  | .hbm, ⟨2, _⟩ => ⟨S8192x4096, .bf16⟩
  | .hbm, ⟨3, _⟩ => ⟨S8192x4096, .f32⟩
  | .hbm, ⟨4, _⟩ => ⟨S1x4096x1024, .f32⟩
  | .hbm, ⟨5, _⟩ => ⟨S4096x1x1024, .f32⟩
  | .hbm, ⟨6, _⟩ => ⟨S4096x1024, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S8192x4096, .f32⟩
  | .hbm, ⟨12, _⟩ => ⟨S8192x4096, .i1⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S_, .f32⟩
  | .hbm, ⟨17, _⟩ => ⟨S8192x4096, .f32⟩
  | .hbm, ⟨18, _⟩ => ⟨S8192x4096, .f32⟩
  | .hbm, ⟨19, _⟩ => ⟨S8192x1024, .f32⟩
  | .hbm, ⟨20, _⟩ => ⟨S8192x1024, .f32⟩
  | .hbm, ⟨21, _⟩ => ⟨S8192x4096, .f32⟩
  | .hbm, ⟨22, _⟩ => ⟨S8192x4096, .f32⟩
  | .hbm, ⟨23, _⟩ => ⟨S_, .f32⟩
  | .hbm, ⟨24, _⟩ => ⟨S8192x4096, .f32⟩
  | .hbm, ⟨25, _⟩ => ⟨S8192x4096, .f32⟩
  | .hbm, ⟨26, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_cst : Ref sig .tc := ⟨.hbm, 7, rfl⟩
abbrev main_call0_v0 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Kernel3.lean ====
abbrev S8192x4096 : Shape := ⟨2, ![8192, 4096]⟩
abbrev S4x1024x1024 : Shape := ⟨3, ![4, 1024, 1024]⟩
abbrev S8192x1024 : Shape := ⟨2, ![8192, 1024]⟩
abbrev S1024 : Shape := ⟨1, ![1024]⟩
abbrev S1x1024 : Shape := ⟨2, ![1, 1024]⟩
abbrev S512x4096 : Shape := ⟨2, ![512, 4096]⟩
abbrev S512x1024 : Shape := ⟨2, ![512, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S8192x4096, .bf16⟩
  | .hbm, ⟨1, _⟩ => ⟨S4x1024x1024, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x1024, .bf16⟩
  | .hbm, ⟨8, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S4x1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference3Ideal.lean ====
abbrev S8192x4096 : Shape := ⟨2, ![8192, 4096]⟩
abbrev S4x1024x1024 : Shape := ⟨3, ![4, 1024, 1024]⟩
abbrev S8192x1024 : Shape := ⟨2, ![8192, 1024]⟩
abbrev S1024 : Shape := ⟨1, ![1024]⟩
abbrev S1024x4x1024 : Shape := ⟨3, ![1024, 4, 1024]⟩
abbrev S1024x4096 : Shape := ⟨2, ![1024, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 59
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4x1024x1024, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S4x1024x1024, .f32⟩
  | .hbm, ⟨6, _⟩ => ⟨S1024x4x1024, .f32⟩
  | .hbm, ⟨7, _⟩ => ⟨S1024x4096, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x4096, .f32⟩
  | .hbm, ⟨29, _⟩ => ⟨S8192x4096, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .bf16⟩
  | .hbm, ⟨58, _⟩ => ⟨S1x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== Kernel4.lean ====
abbrev S8192x4096 : Shape := ⟨2, ![8192, 4096]⟩
abbrev S1x4096x1024 : Shape := ⟨3, ![1, 4096, 1024]⟩
abbrev S8192x1024 : Shape := ⟨2, ![8192, 1024]⟩
abbrev S1024 : Shape := ⟨1, ![1024]⟩
abbrev S1x1024 : Shape := ⟨2, ![1, 1024]⟩
abbrev S1x1 : Shape := ⟨2, ![1, 1]⟩
abbrev S512x4096 : Shape := ⟨2, ![512, 4096]⟩
abbrev S512x1024 : Shape := ⟨2, ![512, 1024]⟩
abbrev S4096x1024 : Shape := ⟨2, ![4096, 1024]⟩
abbrev S512 : Shape := ⟨1, ![512]⟩
abbrev S512x1 : Shape := ⟨2, ![512, 1]⟩
abbrev S1 : Shape := ⟨1, ![1]⟩

abbrev nBuf : Space → Nat
  | .hbm => 10
  | .vmem => 14
  | .smem => 0
  | _ => 0

abbrev bufTy : (tb : Table) → Fin (tcTables nBuf tb) → BufTy
  | .hbm, ⟨0, _⟩ => ⟨S8192x4096, .bf16⟩
  | .hbm, ⟨1, _⟩ => ⟨S1x4096x1024, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1x1024, .f32⟩
  | .hbm, ⟨6, _⟩ => ⟨S1x1, .f32⟩
  | .hbm, ⟨7, _⟩ => ⟨S8192x1024, .f32⟩
  | .hbm, ⟨8, _⟩ => ⟨S8192x1024, .bf16⟩
  | .hbm, ⟨9, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S1x4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S1x1, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference4Ideal.lean ====
abbrev S8192x4096 : Shape := ⟨2, ![8192, 4096]⟩
abbrev S1x4096x1024 : Shape := ⟨3, ![1, 4096, 1024]⟩
abbrev S8192x1024 : Shape := ⟨2, ![8192, 1024]⟩
abbrev S1024 : Shape := ⟨1, ![1024]⟩
abbrev S4096x1x1024 : Shape := ⟨3, ![4096, 1, 1024]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x1 : Shape := ⟨2, ![1, 1]⟩

abbrev nBuf : Space → Nat
  | .hbm => 82
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x1024, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x4096, .f32⟩
  | .hbm, ⟨6, _⟩ => ⟨S1x4096x1024, .f32⟩
  | .hbm, ⟨7, _⟩ => ⟨S4096x1x1024, .f32⟩
  | .hbm, ⟨8, _⟩ => ⟨S4096x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S_, .f32⟩
  | .hbm, ⟨39, _⟩ => ⟨S8192, .f32⟩
  | .hbm, ⟨40, _⟩ => ⟨S8192, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S8192, .f32⟩
  | .hbm, ⟨49, _⟩ => ⟨S_, .f32⟩
  | .hbm, ⟨50, _⟩ => ⟨S8192, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S1024, .f32⟩
  | .hbm, ⟨62, _⟩ => ⟨S8192x1024, .f32⟩
  | .hbm, ⟨63, _⟩ => ⟨S_, .f32⟩
  | .hbm, ⟨64, _⟩ => ⟨S8192, .f32⟩
  | .hbm, ⟨65, _⟩ => ⟨S8192x1, .f32⟩
  | .hbm, ⟨66, _⟩ => ⟨S8192x1024, .f32⟩
  | .hbm, ⟨67, _⟩ => ⟨S8192x1024, .f32⟩
  | .hbm, ⟨68, _⟩ => ⟨S8192x1, .f32⟩
  | .hbm, ⟨69, _⟩ => ⟨S_, .f32⟩
  | .hbm, ⟨70, _⟩ => ⟨S8192x1, .f32⟩
  | .hbm, ⟨71, _⟩ => ⟨S8192x1, .f32⟩
  | .hbm, ⟨72, _⟩ => ⟨S_, .f32⟩
  | .hbm, ⟨73, _⟩ => ⟨S8192, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S1x1, .f32⟩
  | .hbm, ⟨80, _⟩ => ⟨S8192x1024, .bf16⟩
  | .hbm, ⟨81, _⟩ => ⟨S1x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_cst_8 : Ref sig .tc := ⟨.hbm, 45, rfl⟩
abbrev main_cst_9 : Ref sig .tc := ⟨.hbm, 46, rfl⟩
abbrev main_v31 : Ref sig .tc := ⟨.hbm, 47, rfl⟩
abbrev main_v32 : Ref sig .tc := ⟨.hbm, 48, rfl⟩
abbrev main_cst_10 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_11 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_12 : Ref sig .tc := ⟨.hbm, 60, rfl⟩
abbrev main_v42 : Ref sig .tc := ⟨.hbm, 61, rfl⟩
abbrev main_v43 : Ref sig .tc := ⟨.hbm, 62, rfl⟩
abbrev main_cst_13 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_14 : Ref sig .tc := ⟨.hbm, 69, rfl⟩
abbrev main_v49 : Ref sig .tc := ⟨.hbm, 70, rfl⟩
abbrev main_v50 : Ref sig .tc := ⟨.hbm, 71, rfl⟩
abbrev main_cst_15 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩

abbrev nD : Nat := 1
abbrev τ : Topo := Topo.v7x

variable {F : FTy → Type} [FloatOps F]
-- ==== Kernel5.lean ====
abbrev S8192x1024 : Shape := ⟨2, ![8192, 1024]⟩
abbrev S4x1024x1024 : Shape := ⟨3, ![4, 1024, 1024]⟩
abbrev S1024 : Shape := ⟨1, ![1024]⟩
abbrev S1x1024 : Shape := ⟨2, ![1, 1024]⟩
abbrev S8192x4096 : Shape := ⟨2, ![8192, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1x1024x1024 : Shape := ⟨3, ![1, 1024, 1024]⟩
abbrev S1024x1024 : Shape := ⟨2, ![1024, 1024]⟩

abbrev nBuf : Space → Nat
  | .hbm => 7
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S4x1024x1024, .bf16⟩
  | .hbm, ⟨2, _⟩ => ⟨S1024, .f32⟩
  | .hbm, ⟨3, _⟩ => ⟨S1x1024, .f32⟩
  | .hbm, ⟨4, _⟩ => ⟨S8192x4096, .bf16⟩
  | .hbm, ⟨5, _⟩ => ⟨S8192x4096, .bf16⟩
  | .hbm, ⟨6, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S4x1024x1024, .bf16⟩
  | .local _ .vmem, ⟨3, _⟩ => ⟨S1x1024, .f32⟩
  | .local _ .vmem, ⟨4, _⟩ => ⟨S512x4096, .bf16⟩
  | .local _ .vmem, ⟨5, _⟩ => ⟨S512x4096, .bf16⟩
  | .local _ .vmem, ⟨6, _⟩ => ⟨S512x4096, .bf16⟩
  | .local _ .vmem, ⟨7, _⟩ => ⟨S512x4096, .bf16⟩
  | .local _ .vmem, ⟨8, _⟩ => ⟨S512x1024, .bf16⟩
  | .local _ .vmem, ⟨9, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S8192x1024 : Shape := ⟨2, ![8192, 1024]⟩
abbrev S4x1024x1024 : Shape := ⟨3, ![4, 1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x4x1024 : Shape := ⟨3, ![1024, 4, 1024]⟩
abbrev S1024x4096 : Shape := ⟨2, ![1024, 4096]⟩
abbrev S8192x4096 : Shape := ⟨2, ![8192, 4096]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x1024x1024, .bf16⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S4x1024x1024, .f32⟩
  | .hbm, ⟨20, _⟩ => ⟨S1024x4x1024, .f32⟩
  | .hbm, ⟨21, _⟩ => ⟨S1024x4096, .f32⟩
  | .hbm, ⟨22, _⟩ => ⟨S8192x4096, .f32⟩
  | .hbm, ⟨23, _⟩ => ⟨S8192x4096, .bf16⟩
  | .hbm, ⟨24, _⟩ => ⟨S_, .f32⟩
  | .hbm, ⟨25, _⟩ => ⟨S8192x4096, .f32⟩
  | .hbm, ⟨26, _⟩ => ⟨S8192x4096, .f32⟩
  | .hbm, ⟨27, _⟩ => ⟨S8192x4096, .f32⟩
  | .hbm, ⟨28, _⟩ => ⟨S8192x4096, .bf16⟩
  | .hbm, ⟨29, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call0_cst : Ref sig .tc := ⟨.hbm, 24, rfl⟩
abbrev main_call0_v0 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Kernel6.lean ====
abbrev S8192x1024 : Shape := ⟨2, ![8192, 1024]⟩
abbrev S8192x2560 : Shape := ⟨2, ![8192, 2560]⟩
abbrev S4x1024x640 : Shape := ⟨3, ![4, 1024, 640]⟩
abbrev S4096x512 : Shape := ⟨2, ![4096, 512]⟩
abbrev S4096x640 : Shape := ⟨2, ![4096, 640]⟩
abbrev S1x512x640 : Shape := ⟨3, ![1, 512, 640]⟩
abbrev S512x640 : Shape := ⟨2, ![512, 640]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x2560, .bf16⟩
  | .hbm, ⟨2, _⟩ => ⟨S4x1024x640, .f32⟩
  | .local _ .vmem, ⟨0, _⟩ => ⟨S4096x512, .bf16⟩
  | .local _ .vmem, ⟨1, _⟩ => ⟨S4096x512, .bf16⟩
  | .local _ .vmem, ⟨2, _⟩ => ⟨S4096x640, .bf16⟩
  | .local _ .vmem, ⟨3, _⟩ => ⟨S4096x640, .bf16⟩
  | .local _ .vmem, ⟨4, _⟩ => ⟨S1x512x640, .f32⟩
  | .local _ .vmem, ⟨5, _⟩ => ⟨S1x512x640, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x1024 : Shape := ⟨2, ![8192, 1024]⟩
abbrev S8192x2560 : Shape := ⟨2, ![8192, 2560]⟩
abbrev S2560x1024 : Shape := ⟨2, ![2560, 1024]⟩
abbrev S1024x2560 : Shape := ⟨2, ![1024, 2560]⟩
abbrev S1024x4x640 : Shape := ⟨3, ![1024, 4, 640]⟩
abbrev S4x1024x640 : Shape := ⟨3, ![4, 1024, 640]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2560, .bf16⟩
  | .hbm, ⟨2, _⟩ => ⟨S8192x1024, .f32⟩
  | .hbm, ⟨3, _⟩ => ⟨S8192x2560, .f32⟩
  | .hbm, ⟨4, _⟩ => ⟨S2560x1024, .f32⟩
  | .hbm, ⟨5, _⟩ => ⟨S1024x2560, .f32⟩
  | .hbm, ⟨6, _⟩ => ⟨S1024x4x640, .f32⟩
  | .hbm, ⟨7, _⟩ => ⟨S4x1024x640, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel7.lean ====
abbrev S8192x4096 : Shape := ⟨2, ![8192, 4096]⟩
abbrev S1x4096x1024 : Shape := ⟨3, ![1, 4096, 1024]⟩
abbrev S8192x1024 : Shape := ⟨2, ![8192, 1024]⟩
abbrev S512x4096 : Shape := ⟨2, ![512, 4096]⟩
abbrev S512x1024 : Shape := ⟨2, ![512, 1024]⟩
abbrev S4096x1024 : Shape := ⟨2, ![4096, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S1x4096x1024, .bf16⟩
  | .hbm, ⟨2, _⟩ => ⟨S8192x1024, .f32⟩
  | .hbm, ⟨3, _⟩ => ⟨S8192x1024, .f32⟩
  | .local _ .vmem, ⟨0, _⟩ => ⟨S512x4096, .bf16⟩
  | .local _ .vmem, ⟨1, _⟩ => ⟨S512x4096, .bf16⟩
  | .local _ .vmem, ⟨2, _⟩ => ⟨S1x4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S8192x4096 : Shape := ⟨2, ![8192, 4096]⟩
abbrev S1x4096x1024 : Shape := ⟨3, ![1, 4096, 1024]⟩
abbrev S8192x1024 : Shape := ⟨2, ![8192, 1024]⟩
abbrev S4096x1x1024 : Shape := ⟨3, ![4096, 1, 1024]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x1024, .bf16⟩
  | .hbm, ⟨2, _⟩ => ⟨S8192x1024, .f32⟩
  | .hbm, ⟨3, _⟩ => ⟨S8192x4096, .f32⟩
  | .hbm, ⟨4, _⟩ => ⟨S1x4096x1024, .f32⟩
  | .hbm, ⟨5, _⟩ => ⟨S4096x1x1024, .f32⟩
  | .hbm, ⟨6, _⟩ => ⟨S4096x1024, .f32⟩
  | .hbm, ⟨7, _⟩ => ⟨S8192x1024, .f32⟩
  | .hbm, ⟨8, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S8192x1024 : Shape := ⟨2, ![8192, 1024]⟩
abbrev S4x1024x640 : Shape := ⟨3, ![4, 1024, 640]⟩
abbrev S1024 : Shape := ⟨1, ![1024]⟩
abbrev S1x1024 : Shape := ⟨2, ![1, 1024]⟩
abbrev S8192x2560 : Shape := ⟨2, ![8192, 2560]⟩
abbrev S512x1024 : Shape := ⟨2, ![512, 1024]⟩
abbrev S512x2560 : Shape := ⟨2, ![512, 2560]⟩
abbrev S512 : Shape := ⟨1, ![512]⟩
abbrev S512x1 : Shape := ⟨2, ![512, 1]⟩
abbrev S1x1024x640 : Shape := ⟨3, ![1, 1024, 640]⟩
abbrev S1024x640 : Shape := ⟨2, ![1024, 640]⟩
abbrev S512x640 : Shape := ⟨2, ![512, 640]⟩

abbrev nBuf : Space → Nat
  | .hbm => 6
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S4x1024x640, .bf16⟩
  | .hbm, ⟨2, _⟩ => ⟨S1024, .f32⟩
  | .hbm, ⟨3, _⟩ => ⟨S1x1024, .f32⟩
  | .hbm, ⟨4, _⟩ => ⟨S8192x2560, .f32⟩
  | .hbm, ⟨5, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S4x1024x640, .bf16⟩
  | .local _ .vmem, ⟨3, _⟩ => ⟨S1x1024, .f32⟩
  | .local _ .vmem, ⟨4, _⟩ => ⟨S512x2560, .f32⟩
  | .local _ .vmem, ⟨5, _⟩ => ⟨S512x2560, .f32⟩
  | .local _ .vmem, ⟨6, _⟩ => ⟨S512x1024, .bf16⟩
  | .local _ .vmem, ⟨7, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference8Ideal.lean ====
abbrev S8192x1024 : Shape := ⟨2, ![8192, 1024]⟩
abbrev S4x1024x640 : Shape := ⟨3, ![4, 1024, 640]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x4x640 : Shape := ⟨3, ![1024, 4, 640]⟩
abbrev S1024x2560 : Shape := ⟨2, ![1024, 2560]⟩
abbrev S8192x2560 : Shape := ⟨2, ![8192, 2560]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x1024x640, .bf16⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S4x1024x640, .f32⟩
  | .hbm, ⟨20, _⟩ => ⟨S1024x4x640, .f32⟩
  | .hbm, ⟨21, _⟩ => ⟨S1024x2560, .f32⟩
  | .hbm, ⟨22, _⟩ => ⟨S8192x2560, .f32⟩
  | .hbm, ⟨23, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel9.lean ====
abbrev S8192x1024 : Shape := ⟨2, ![8192, 1024]⟩
abbrev S1x1536x1024 : Shape := ⟨3, ![1, 1536, 1024]⟩
abbrev S8192x1536 : Shape := ⟨2, ![8192, 1536]⟩
abbrev S512x1024 : Shape := ⟨2, ![512, 1024]⟩
abbrev S512x1536 : Shape := ⟨2, ![512, 1536]⟩
abbrev S1536x1024 : Shape := ⟨2, ![1536, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1x1536x1024, .bf16⟩
  | .hbm, ⟨2, _⟩ => ⟨S8192x1536, .bf16⟩
  | .local _ .vmem, ⟨0, _⟩ => ⟨S512x1024, .bf16⟩
  | .local _ .vmem, ⟨1, _⟩ => ⟨S512x1024, .bf16⟩
  | .local _ .vmem, ⟨2, _⟩ => ⟨S1x1536x1024, .bf16⟩
  | .local _ .vmem, ⟨3, _⟩ => ⟨S512x1536, .bf16⟩
  | .local _ .vmem, ⟨4, _⟩ => ⟨S512x1536, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference9Ideal.lean ====
abbrev S8192x1024 : Shape := ⟨2, ![8192, 1024]⟩
abbrev S1x1536x1024 : Shape := ⟨3, ![1, 1536, 1024]⟩
abbrev S1536x1x1024 : Shape := ⟨3, ![1536, 1, 1024]⟩
abbrev S1536x1024 : Shape := ⟨2, ![1536, 1024]⟩
abbrev S8192x1536 : Shape := ⟨2, ![8192, 1536]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1536x1024, .bf16⟩
  | .hbm, ⟨2, _⟩ => ⟨S1x1536x1024, .f32⟩
  | .hbm, ⟨3, _⟩ => ⟨S1536x1x1024, .f32⟩
  | .hbm, ⟨4, _⟩ => ⟨S1536x1024, .f32⟩
  | .hbm, ⟨5, _⟩ => ⟨S8192x1024, .f32⟩
  | .hbm, ⟨6, _⟩ => ⟨S8192x1536, .f32⟩
  | .hbm, ⟨7, _⟩ => ⟨S8192x1536, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel10.lean ====
abbrev S8192x2560 : Shape := ⟨2, ![8192, 2560]⟩
abbrev S256x1024 : Shape := ⟨2, ![256, 1024]⟩
abbrev S8192x1536 : Shape := ⟨2, ![8192, 1536]⟩
abbrev S512x512 : Shape := ⟨2, ![512, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2560, .f32⟩
  | .hbm, ⟨1, _⟩ => ⟨S256x1024, .bf16⟩
  | .hbm, ⟨2, _⟩ => ⟨S8192x1536, .bf16⟩
  | .hbm, ⟨3, _⟩ => ⟨S8192x1536, .bf16⟩
  | .local _ .vmem, ⟨0, _⟩ => ⟨S512x512, .f32⟩
  | .local _ .vmem, ⟨1, _⟩ => ⟨S512x512, .f32⟩
  | .local _ .vmem, ⟨2, _⟩ => ⟨S256x1024, .bf16⟩
  | .local _ .vmem, ⟨3, _⟩ => ⟨S512x512, .bf16⟩
  | .local _ .vmem, ⟨4, _⟩ => ⟨S512x512, .bf16⟩
  | _, _ => ⟨S8192x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference10Ideal.lean ====
abbrev S8192x2560 : Shape := ⟨2, ![8192, 2560]⟩
abbrev S256x1024 : Shape := ⟨2, ![256, 1024]⟩
abbrev S8192x1536 : Shape := ⟨2, ![8192, 1536]⟩
abbrev S8192x512 : Shape := ⟨2, ![8192, 512]⟩
abbrev S1x8192x512 : Shape := ⟨3, ![1, 8192, 512]⟩
abbrev S1x256x1024 : Shape := ⟨3, ![1, 256, 1024]⟩
abbrev S1x256x512 : Shape := ⟨3, ![1, 256, 512]⟩
abbrev S1x256x4x128 : Shape := ⟨4, ![1, 256, 4, 128]⟩
abbrev S1x8192x4x128 : Shape := ⟨4, ![1, 8192, 4, 128]⟩
abbrev S1x4x8192x256 : Shape := ⟨4, ![1, 4, 8192, 256]⟩
abbrev S_ : Shape := ⟨0, ![]⟩
abbrev S1x4x8192 : Shape := ⟨3, ![1, 4, 8192]⟩
abbrev S1x4x8192x1 : Shape := ⟨4, ![1, 4, 8192, 1]⟩
abbrev S1x4x128x8192 : Shape := ⟨4, ![1, 4, 128, 8192]⟩
abbrev S8192x1024 : Shape := ⟨2, ![8192, 1024]⟩

abbrev nBuf : Space → Nat
  | .hbm => 37
  | .vmem => 0
  | .smem => 0
  | _ => 0

abbrev bufTy : (tb : Table) → Fin (tcTables nBuf tb) → BufTy
  | .hbm, ⟨0, _⟩ => ⟨S8192x2560, .f32⟩
  | .hbm, ⟨1, _⟩ => ⟨S256x1024, .bf16⟩
  | .hbm, ⟨2, _⟩ => ⟨S8192x1536, .bf16⟩
  | .hbm, ⟨3, _⟩ => ⟨S8192x512, .f32⟩
  | .hbm, ⟨4, _⟩ => ⟨S1x8192x512, .f32⟩
  | .hbm, ⟨5, _⟩ => ⟨S256x1024, .f32⟩
  | .hbm, ⟨6, _⟩ => ⟨S1x256x1024, .f32⟩
  | .hbm, ⟨7, _⟩ => ⟨S1x256x512, .f32⟩
  | .hbm, ⟨8, _⟩ => ⟨S1x256x4x128, .f32⟩
  | .hbm, ⟨9, _⟩ => ⟨S1x256x512, .f32⟩
  | .hbm, ⟨10, _⟩ => ⟨S1x256x4x128, .f32⟩
  | .hbm, ⟨11, _⟩ => ⟨S1x8192x4x128, .f32⟩
  | .hbm, ⟨12, _⟩ => ⟨S1x4x8192x256, .f32⟩
  | .hbm, ⟨13, _⟩ => ⟨S_, .f32⟩
  | .hbm, ⟨14, _⟩ => ⟨S1x4x8192x256, .f32⟩
  | .hbm, ⟨15, _⟩ => ⟨S1x4x8192x256, .f32⟩
  | .hbm, ⟨16, _⟩ => ⟨S_, .f32⟩
  | .hbm, ⟨17, _⟩ => ⟨S1x4x8192, .f32⟩
  | .hbm, ⟨18, _⟩ => ⟨S_, .f32⟩
  | .hbm, ⟨19, _⟩ => ⟨S1x4x8192, .f32⟩
  | .hbm, ⟨20, _⟩ => ⟨S1x4x8192, .f32⟩
  | .hbm, ⟨21, _⟩ => ⟨S1x4x8192x1, .f32⟩
  | .hbm, ⟨22, _⟩ => ⟨S1x4x8192x256, .f32⟩
  | .hbm, ⟨23, _⟩ => ⟨S1x4x8192x256, .f32⟩
  | .hbm, ⟨24, _⟩ => ⟨S1x4x8192x256, .f32⟩
  | .hbm, ⟨25, _⟩ => ⟨S_, .f32⟩
  | .hbm, ⟨26, _⟩ => ⟨S1x4x8192, .f32⟩
  | .hbm, ⟨27, _⟩ => ⟨S1x4x8192x1, .f32⟩
  | .hbm, ⟨28, _⟩ => ⟨S1x4x8192x256, .f32⟩
  | .hbm, ⟨29, _⟩ => ⟨S1x4x8192x256, .f32⟩
  | .hbm, ⟨30, _⟩ => ⟨S1x4x128x8192, .f32⟩
  | .hbm, ⟨31, _⟩ => ⟨S1x8192x4x128, .f32⟩
  | .hbm, ⟨32, _⟩ => ⟨S1x8192x512, .f32⟩
  | .hbm, ⟨33, _⟩ => ⟨S8192x1024, .bf16⟩
  | .hbm, ⟨34, _⟩ => ⟨S8192x512, .f32⟩
  | .hbm, ⟨35, _⟩ => ⟨S8192x512, .bf16⟩
  | .hbm, ⟨36, _⟩ => ⟨S8192x1536, .bf16⟩
  | _, _ => ⟨S8192x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]
-- ==== Kernel11.lean ====
abbrev S8192x1536 : Shape := ⟨2, ![8192, 1536]⟩
abbrev S8192x1024 : Shape := ⟨2, ![8192, 1024]⟩
abbrev S4x2688x1024 : Shape := ⟨3, ![4, 2688, 1024]⟩
abbrev S4096x384 : Shape := ⟨2, ![4096, 384]⟩
abbrev S4096x1024 : Shape := ⟨2, ![4096, 1024]⟩
abbrev S1x384x1024 : Shape := ⟨3, ![1, 384, 1024]⟩
abbrev S384x1024 : Shape := ⟨2, ![384, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1536, .bf16⟩
  | .hbm, ⟨1, _⟩ => ⟨S8192x1024, .bf16⟩
  | .hbm, ⟨2, _⟩ => ⟨S4x2688x1024, .f32⟩
  | .hbm, ⟨3, _⟩ => ⟨S4x2688x1024, .f32⟩
  | .local _ .vmem, ⟨0, _⟩ => ⟨S4096x384, .bf16⟩
  | .local _ .vmem, ⟨1, _⟩ => ⟨S4096x384, .bf16⟩
  | .local _ .vmem, ⟨2, _⟩ => ⟨S4096x1024, .bf16⟩
  | .local _ .vmem, ⟨3, _⟩ => ⟨S4096x1024, .bf16⟩
  | .local _ .vmem, ⟨4, _⟩ => ⟨S1x384x1024, .f32⟩
  | .local _ .vmem, ⟨5, _⟩ => ⟨S1x384x1024, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c6_i32 : BitVec 32 := 6#32
  let v27 : BitVec 32 := Scalar.addi c6_i32 v26
  let c0_i32_11 : BitVec 32 := 0#32
  let c0_i32_12 : BitVec 32 := 0#32
  ![v16.toNat, v27.toNat, c0_i32_11.toNat]

abbrev stage0_0 : Fin 2 → Memref sig .tc .vmem S4096x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference11Ideal.lean ====
abbrev S8192x1536 : Shape := ⟨2, ![8192, 1536]⟩
abbrev S8192x1024 : Shape := ⟨2, ![8192, 1024]⟩
abbrev S4x2688x1024 : Shape := ⟨3, ![4, 2688, 1024]⟩
abbrev S1024x1536 : Shape := ⟨2, ![1024, 1536]⟩
abbrev S1536x1024 : Shape := ⟨2, ![1536, 1024]⟩
abbrev S4x2304x1024 : Shape := ⟨3, ![4, 2304, 1024]⟩
abbrev S4x384x1024 : Shape := ⟨3, ![4, 384, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S8192x1024, .bf16⟩
  | .hbm, ⟨2, _⟩ => ⟨S4x2688x1024, .f32⟩
  | .hbm, ⟨3, _⟩ => ⟨S8192x1536, .f32⟩
  | .hbm, ⟨4, _⟩ => ⟨S8192x1024, .f32⟩
  | .hbm, ⟨5, _⟩ => ⟨S1024x1536, .f32⟩
  | .hbm, ⟨6, _⟩ => ⟨S1536x1024, .f32⟩
  | .hbm, ⟨7, _⟩ => ⟨S4x2304x1024, .f32⟩
  | .hbm, ⟨8, _⟩ => ⟨S4x384x1024, .f32⟩
  | .hbm, ⟨9, _⟩ => ⟨S4x2688x1024, .f32⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S8192x1024 : Shape := ⟨2, ![8192, 1024]⟩
abbrev S8192x4096 : Shape := ⟨2, ![8192, 4096]⟩
abbrev S4x3328x1024 : Shape := ⟨3, ![4, 3328, 1024]⟩
abbrev S4096x512 : Shape := ⟨2, ![4096, 512]⟩
abbrev S4096x1024 : Shape := ⟨2, ![4096, 1024]⟩
abbrev S1x512x1024 : Shape := ⟨3, ![1, 512, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S4x3328x1024, .f32⟩
  | .hbm, ⟨3, _⟩ => ⟨S4x3328x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S1x512x1024, .f32⟩
  | .local _ .vmem, ⟨5, _⟩ => ⟨S1x512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![arg0.toNat, v0.toNat, c0_i32_0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x1024 : Shape := ⟨2, ![8192, 1024]⟩
abbrev S8192x4096 : Shape := ⟨2, ![8192, 4096]⟩
abbrev S4x3328x1024 : Shape := ⟨3, ![4, 3328, 1024]⟩
abbrev S4096x1024 : Shape := ⟨2, ![4096, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S4x2304x1024 : Shape := ⟨3, ![4, 2304, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S4x3328x1024, .f32⟩
  | .hbm, ⟨3, _⟩ => ⟨S8192x1024, .f32⟩
  | .hbm, ⟨4, _⟩ => ⟨S8192x4096, .f32⟩
  | .hbm, ⟨5, _⟩ => ⟨S4096x1024, .f32⟩
  | .hbm, ⟨6, _⟩ => ⟨S1024x4096, .f32⟩
  | .hbm, ⟨7, _⟩ => ⟨S1024x4x1024, .f32⟩
  | .hbm, ⟨8, _⟩ => ⟨S4x1024x1024, .f32⟩
  | .hbm, ⟨9, _⟩ => ⟨S4x2304x1024, .f32⟩
  | .hbm, ⟨10, _⟩ => ⟨S4x3328x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel13.lean ====
abbrev S8192x4096 : Shape := ⟨2, ![8192, 4096]⟩
abbrev S8192x1024 : Shape := ⟨2, ![8192, 1024]⟩
abbrev S4x3328x1024 : Shape := ⟨3, ![4, 3328, 1024]⟩
abbrev S4096x512 : Shape := ⟨2, ![4096, 512]⟩
abbrev S4096x1024 : Shape := ⟨2, ![4096, 1024]⟩
abbrev S1x512x1024 : Shape := ⟨3, ![1, 512, 1024]⟩
abbrev S512x1024 : Shape := ⟨2, ![512, 1024]⟩
abbrev S4x1024x1024 : Shape := ⟨3, ![4, 1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4x3328x1024, .f32⟩
  | .hbm, ⟨3, _⟩ => ⟨S4x1024x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S1x512x1024, .f32⟩
  | .local _ .vmem, ⟨5, _⟩ => ⟨S1x512x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let v27 : BitVec 32 := Scalar.addi c2_i32_10 v26
  let c0_i32_11 : BitVec 32 := 0#32
  let c0_i32_12 : BitVec 32 := 0#32
  ![v16.toNat, v27.toNat, c0_i32_11.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference13Ideal.lean ====
abbrev S8192x4096 : Shape := ⟨2, ![8192, 4096]⟩
abbrev S8192x1024 : Shape := ⟨2, ![8192, 1024]⟩
abbrev S1024x4096 : Shape := ⟨2, ![1024, 4096]⟩
abbrev S4096x1024 : Shape := ⟨2, ![4096, 1024]⟩
abbrev S4x1024x1024 : Shape := ⟨3, ![4, 1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S8192x4096, .f32⟩
  | .hbm, ⟨3, _⟩ => ⟨S8192x1024, .f32⟩
  | .hbm, ⟨4, _⟩ => ⟨S1024x4096, .f32⟩
  | .hbm, ⟨5, _⟩ => ⟨S4096x1024, .f32⟩
  | .hbm, ⟨6, _⟩ => ⟨S4x1024x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel14.lean ====
abbrev S8192x1536 : Shape := ⟨2, ![8192, 1536]⟩
abbrev S1x1536x1024 : Shape := ⟨3, ![1, 1536, 1024]⟩
abbrev S8192x1024 : Shape := ⟨2, ![8192, 1024]⟩
abbrev S512x1536 : Shape := ⟨2, ![512, 1536]⟩
abbrev S512x1024 : Shape := ⟨2, ![512, 1024]⟩
abbrev S1536x1024 : Shape := ⟨2, ![1536, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1536, .bf16⟩
  | .hbm, ⟨1, _⟩ => ⟨S1x1536x1024, .bf16⟩
  | .hbm, ⟨2, _⟩ => ⟨S8192x1024, .f32⟩
  | .hbm, ⟨3, _⟩ => ⟨S8192x1024, .f32⟩
  | .local _ .vmem, ⟨0, _⟩ => ⟨S512x1536, .bf16⟩
  | .local _ .vmem, ⟨1, _⟩ => ⟨S512x1536, .bf16⟩
  | .local _ .vmem, ⟨2, _⟩ => ⟨S1x1536x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference14Ideal.lean ====
abbrev S8192x1536 : Shape := ⟨2, ![8192, 1536]⟩
abbrev S1x1536x1024 : Shape := ⟨3, ![1, 1536, 1024]⟩
abbrev S8192x1024 : Shape := ⟨2, ![8192, 1024]⟩
abbrev S1536x1024 : Shape := ⟨2, ![1536, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S1x1536x1024, .bf16⟩
  | .hbm, ⟨2, _⟩ => ⟨S8192x1024, .f32⟩
  | .hbm, ⟨3, _⟩ => ⟨S8192x1536, .f32⟩
  | .hbm, ⟨4, _⟩ => ⟨S1536x1024, .bf16⟩
  | .hbm, ⟨5, _⟩ => ⟨S1536x1024, .f32⟩
  | .hbm, ⟨6, _⟩ => ⟨S8192x1024, .f32⟩
  | .hbm, ⟨7, _⟩ => ⟨S8192x1024, .f32⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel15.lean ====
abbrev S8192x2560 : Shape := ⟨2, ![8192, 2560]⟩
abbrev S4x1024x640 : Shape := ⟨3, ![4, 1024, 640]⟩
abbrev S8192x1024 : Shape := ⟨2, ![8192, 1024]⟩
abbrev S1024 : Shape := ⟨1, ![1024]⟩
abbrev S1x1024 : Shape := ⟨2, ![1, 1024]⟩
abbrev S512x2560 : Shape := ⟨2, ![512, 2560]⟩
abbrev S512x1024 : Shape := ⟨2, ![512, 1024]⟩
abbrev S512x640 : Shape := ⟨2, ![512, 640]⟩
abbrev S1x1024x640 : Shape := ⟨3, ![1, 1024, 640]⟩
abbrev S1024x640 : Shape := ⟨2, ![1024, 640]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S8192x2560, .bf16⟩
  | .hbm, ⟨1, _⟩ => ⟨S4x1024x640, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x1024, .bf16⟩
  | .hbm, ⟨8, _⟩ => ⟨S1x1024, .f32⟩
  | .local _ .vmem, ⟨0, _⟩ => ⟨S512x2560, .bf16⟩
  | .local _ .vmem, ⟨1, _⟩ => ⟨S512x2560, .bf16⟩
  | .local _ .vmem, ⟨2, _⟩ => ⟨S4x1024x640, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S8192x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference15Ideal.lean ====
abbrev S8192x2560 : Shape := ⟨2, ![8192, 2560]⟩
abbrev S4x1024x640 : Shape := ⟨3, ![4, 1024, 640]⟩
abbrev S8192x1024 : Shape := ⟨2, ![8192, 1024]⟩
abbrev S1024 : Shape := ⟨1, ![1024]⟩
abbrev S1024x4x640 : Shape := ⟨3, ![1024, 4, 640]⟩
abbrev S1024x2560 : Shape := ⟨2, ![1024, 2560]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 59
  | .vmem => 0
  | .smem => 0
  | _ => 0

abbrev bufTy : (tb : Table) → Fin (tcTables nBuf tb) → BufTy
  | .hbm, ⟨0, _⟩ => ⟨S8192x2560, .bf16⟩
  | .hbm, ⟨1, _⟩ => ⟨S4x1024x640, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S4x1024x640, .f32⟩
  | .hbm, ⟨6, _⟩ => ⟨S1024x4x640, .f32⟩
  | .hbm, ⟨7, _⟩ => ⟨S1024x2560, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x2560, .f32⟩
  | .hbm, ⟨29, _⟩ => ⟨S8192x2560, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .bf16⟩
  | .hbm, ⟨58, _⟩ => ⟨S1x1024, .f32⟩
  | _, _ => ⟨S8192x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== Kernel16.lean ====
abbrev S8192x2048 : Shape := ⟨2, ![8192, 2048]⟩
abbrev S4x1024x512 : Shape := ⟨3, ![4, 1024, 512]⟩
abbrev S8192x1024 : Shape := ⟨2, ![8192, 1024]⟩
abbrev S1024 : Shape := ⟨1, ![1024]⟩
abbrev S1x1024 : Shape := ⟨2, ![1, 1024]⟩
abbrev S512x2048 : Shape := ⟨2, ![512, 2048]⟩
abbrev S512x1024 : Shape := ⟨2, ![512, 1024]⟩
abbrev S512x512 : Shape := ⟨2, ![512, 512]⟩
abbrev S1x1024x512 : Shape := ⟨3, ![1, 1024, 512]⟩
abbrev S1024x512 : Shape := ⟨2, ![1024, 512]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S4x1024x512, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x1024, .bf16⟩
  | .hbm, ⟨8, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S4x1024x512, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference16Ideal.lean ====
abbrev S8192x2048 : Shape := ⟨2, ![8192, 2048]⟩
abbrev S4x1024x512 : Shape := ⟨3, ![4, 1024, 512]⟩
abbrev S8192x1024 : Shape := ⟨2, ![8192, 1024]⟩
abbrev S1024 : Shape := ⟨1, ![1024]⟩
abbrev S1024x4x512 : Shape := ⟨3, ![1024, 4, 512]⟩
abbrev S1024x2048 : Shape := ⟨2, ![1024, 2048]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 59
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x1024x512, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S4x1024x512, .f32⟩
  | .hbm, ⟨6, _⟩ => ⟨S1024x4x512, .f32⟩
  | .hbm, ⟨7, _⟩ => ⟨S1024x2048, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x2048, .f32⟩
  | .hbm, ⟨29, _⟩ => ⟨S8192x2048, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .bf16⟩
  | .hbm, ⟨58, _⟩ => ⟨S1x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== Kernel17.lean ====
abbrev S640x1024 : Shape := ⟨2, ![640, 1024]⟩
abbrev S320x1024 : Shape := ⟨2, ![320, 1024]⟩

abbrev nBuf : Space → Nat
  | .hbm => 7
  | .vmem => 14
  | .smem => 0
  | _ => 0

abbrev bufTy : (tb : Table) → Fin (tcTables nBuf tb) → BufTy
  | .hbm, ⟨0, _⟩ => ⟨S640x1024, .f32⟩
  | .hbm, ⟨1, _⟩ => ⟨S640x1024, .f32⟩
  | .hbm, ⟨2, _⟩ => ⟨S640x1024, .f32⟩
  | .hbm, ⟨3, _⟩ => ⟨S640x1024, .f32⟩
  | .hbm, ⟨4, _⟩ => ⟨S640x1024, .f32⟩
  | .hbm, ⟨5, _⟩ => ⟨S640x1024, .f32⟩
  | .hbm, ⟨6, _⟩ => ⟨S640x1024, .f32⟩
  | .local _ .vmem, ⟨0, _⟩ => ⟨S320x1024, .f32⟩
  | .local _ .vmem, ⟨1, _⟩ => ⟨S320x1024, .f32⟩
  | .local _ .vmem, ⟨2, _⟩ => ⟨S320x1024, .f32⟩
  | .local _ .vmem, ⟨3, _⟩ => ⟨S320x1024, .f32⟩
  | .local _ .vmem, ⟨4, _⟩ => ⟨S320x1024, .f32⟩
  | .local _ .vmem, ⟨5, _⟩ => ⟨S320x1024, .f32⟩
  | .local _ .vmem, ⟨6, _⟩ => ⟨S320x1024, .f32⟩
  | .local _ .vmem, ⟨7, _⟩ => ⟨S320x1024, .f32⟩
  | .local _ .vmem, ⟨8, _⟩ => ⟨S320x1024, .f32⟩
  | .local _ .vmem, ⟨9, _⟩ => ⟨S320x1024, .f32⟩
  | .local _ .vmem, ⟨10, _⟩ => ⟨S320x1024, .f32⟩
  | .local _ .vmem, ⟨11, _⟩ => ⟨S320x1024, .f32⟩
  | .local _ .vmem, ⟨12, _⟩ => ⟨S320x1024, .f32⟩
  | .local _ .vmem, ⟨13, _⟩ => ⟨S320x1024, .f32⟩
  | _, _ => ⟨S640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S320x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S320x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S320x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S320x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S320x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S320x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S320x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference17Ideal.lean ====
abbrev S640x1024 : Shape := ⟨2, ![640, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S640x1024, .f32⟩
  | .hbm, ⟨1, _⟩ => ⟨S640x1024, .f32⟩
  | .hbm, ⟨2, _⟩ => ⟨S640x1024, .f32⟩
  | .hbm, ⟨3, _⟩ => ⟨S640x1024, .f32⟩
  | .hbm, ⟨4, _⟩ => ⟨S_, .f32⟩
  | .hbm, ⟨5, _⟩ => ⟨S640x1024, .f32⟩
  | .hbm, ⟨6, _⟩ => ⟨S640x1024, .f32⟩
  | .hbm, ⟨7, _⟩ => ⟨S_, .f32⟩
  | .hbm, ⟨8, _⟩ => ⟨S640x1024, .f32⟩
  | .hbm, ⟨9, _⟩ => ⟨S640x1024, .f32⟩
  | .hbm, ⟨10, _⟩ => ⟨S640x1024, .f32⟩
  | .hbm, ⟨11, _⟩ => ⟨S_, .f32⟩
  | .hbm, ⟨12, _⟩ => ⟨S640x1024, .f32⟩
  | .hbm, ⟨13, _⟩ => ⟨S640x1024, .f32⟩
  | .hbm, ⟨14, _⟩ => ⟨S640x1024, .f32⟩
  | .hbm, ⟨15, _⟩ => ⟨S_, .f32⟩
  | .hbm, ⟨16, _⟩ => ⟨S640x1024, .f32⟩
  | .hbm, ⟨17, _⟩ => ⟨S640x1024, .f32⟩
  | .hbm, ⟨18, _⟩ => ⟨S640x1024, .f32⟩
  | .hbm, ⟨19, _⟩ => ⟨S_, .f32⟩
  | .hbm, ⟨20, _⟩ => ⟨S640x1024, .f32⟩
  | .hbm, ⟨21, _⟩ => ⟨S640x1024, .f32⟩
  | .hbm, ⟨22, _⟩ => ⟨S_, .f32⟩
  | .hbm, ⟨23, _⟩ => ⟨S640x1024, .f32⟩
  | .hbm, ⟨24, _⟩ => ⟨S640x1024, .f32⟩
  | .hbm, ⟨25, _⟩ => ⟨S640x1024, .f32⟩
  | .hbm, ⟨26, _⟩ => ⟨S_, .f32⟩
  | .hbm, ⟨27, _⟩ => ⟨S640x1024, .f32⟩
  | .hbm, ⟨28, _⟩ => ⟨S640x1024, .f32⟩
  | .hbm, ⟨29, _⟩ => ⟨S640x1024, .f32⟩
  | .hbm, ⟨30, _⟩ => ⟨S_, .f32⟩
  | .hbm, ⟨31, _⟩ => ⟨S640x1024, .f32⟩
  | .hbm, ⟨32, _⟩ => ⟨S640x1024, .f32⟩
  | .hbm, ⟨33, _⟩ => ⟨S640x1024, .f32⟩
  | .hbm, ⟨34, _⟩ => ⟨S_, .f32⟩
  | .hbm, ⟨35, _⟩ => ⟨S640x1024, .f32⟩
  | .hbm, ⟨36, _⟩ => ⟨S640x1024, .f32⟩
  | _, _ => ⟨S640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S512x1024 : Shape := ⟨2, ![512, 1024]⟩

abbrev nBuf : Space → Nat
  | .hbm => 7
  | .vmem => 7
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference18Ideal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S8192x1536 : Shape := ⟨2, ![8192, 1536]⟩
abbrev S8192x1024 : Shape := ⟨2, ![8192, 1024]⟩
abbrev S4x3328x1024 : Shape := ⟨3, ![4, 3328, 1024]⟩
abbrev S4096x384 : Shape := ⟨2, ![4096, 384]⟩
abbrev S4096x1024 : Shape := ⟨2, ![4096, 1024]⟩
abbrev S1x384x1024 : Shape := ⟨3, ![1, 384, 1024]⟩
abbrev S384x1024 : Shape := ⟨2, ![384, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1536, .bf16⟩
  | .hbm, ⟨1, _⟩ => ⟨S8192x1024, .bf16⟩
  | .hbm, ⟨2, _⟩ => ⟨S4x3328x1024, .f32⟩
  | .hbm, ⟨3, _⟩ => ⟨S4x3328x1024, .f32⟩
  | .local _ .vmem, ⟨0, _⟩ => ⟨S4096x384, .bf16⟩
  | .local _ .vmem, ⟨1, _⟩ => ⟨S4096x384, .bf16⟩
  | .local _ .vmem, ⟨2, _⟩ => ⟨S4096x1024, .bf16⟩
  | .local _ .vmem, ⟨3, _⟩ => ⟨S4096x1024, .bf16⟩
  | .local _ .vmem, ⟨4, _⟩ => ⟨S1x384x1024, .f32⟩
  | .local _ .vmem, ⟨5, _⟩ => ⟨S1x384x1024, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c6_i32 : BitVec 32 := 6#32
  let v27 : BitVec 32 := Scalar.addi c6_i32 v26
  let c0_i32_11 : BitVec 32 := 0#32
  let c0_i32_12 : BitVec 32 := 0#32
  ![v16.toNat, v27.toNat, c0_i32_11.toNat]

abbrev stage0_0 : Fin 2 → Memref sig .tc .vmem S4096x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference19Ideal.lean ====
abbrev S8192x1536 : Shape := ⟨2, ![8192, 1536]⟩
abbrev S8192x1024 : Shape := ⟨2, ![8192, 1024]⟩
abbrev S4x3328x1024 : Shape := ⟨3, ![4, 3328, 1024]⟩
abbrev S1024x1536 : Shape := ⟨2, ![1024, 1536]⟩
abbrev S1536x1024 : Shape := ⟨2, ![1536, 1024]⟩
abbrev S4x2304x1024 : Shape := ⟨3, ![4, 2304, 1024]⟩
abbrev S4x384x1024 : Shape := ⟨3, ![4, 384, 1024]⟩
abbrev S4x640x1024 : Shape := ⟨3, ![4, 640, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S8192x1024, .bf16⟩
  | .hbm, ⟨2, _⟩ => ⟨S4x3328x1024, .f32⟩
  | .hbm, ⟨3, _⟩ => ⟨S8192x1536, .f32⟩
  | .hbm, ⟨4, _⟩ => ⟨S8192x1024, .f32⟩
  | .hbm, ⟨5, _⟩ => ⟨S1024x1536, .f32⟩
  | .hbm, ⟨6, _⟩ => ⟨S1536x1024, .f32⟩
  | .hbm, ⟨7, _⟩ => ⟨S4x2304x1024, .f32⟩
  | .hbm, ⟨8, _⟩ => ⟨S4x384x1024, .f32⟩
  | .hbm, ⟨9, _⟩ => ⟨S4x640x1024, .f32⟩
  | .hbm, ⟨10, _⟩ => ⟨S4x3328x1024, .f32⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel20.lean ====
abbrev S8192x1024 : Shape := ⟨2, ![8192, 1024]⟩
abbrev S8192x256 : Shape := ⟨2, ![8192, 256]⟩
abbrev S8192x512 : Shape := ⟨2, ![8192, 512]⟩
abbrev S8192 : Shape := ⟨1, ![8192]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S8192x48 : Shape := ⟨2, ![8192, 48]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S8192x2048 : Shape := ⟨2, ![8192, 2048]⟩
abbrev S256x1024 : Shape := ⟨2, ![256, 1024]⟩
abbrev S256x256 : Shape := ⟨2, ![256, 256]⟩
abbrev S256x512 : Shape := ⟨2, ![256, 512]⟩
abbrev S256x128 : Shape := ⟨2, ![256, 128]⟩
abbrev S256x2048 : Shape := ⟨2, ![256, 2048]⟩

abbrev nBuf : Space → Nat
  | .hbm => 38
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x256, .f32⟩
  | .hbm, ⟨3, _⟩ => ⟨S8192x512, .bf16⟩
  | .hbm, ⟨4, _⟩ => ⟨S8192, .i32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S8192, .f32⟩
  | .hbm, ⟨16, _⟩ => ⟨S8192x1, .f32⟩
  | .hbm, ⟨17, _⟩ => ⟨S1x8, .f32⟩
  | .hbm, ⟨18, _⟩ => ⟨S8192x8, .f32⟩
  | .hbm, ⟨19, _⟩ => ⟨S8192x8, .f32⟩
  | .hbm, ⟨20, _⟩ => ⟨S8192x8, .f32⟩
  | .hbm, ⟨21, _⟩ => ⟨S8192x8, .f32⟩
  | .hbm, ⟨22, _⟩ => ⟨S8192x8, .f32⟩
  | .hbm, ⟨23, _⟩ => ⟨S_, .f32⟩
  | .hbm, ⟨24, _⟩ => ⟨S8192x48, .f32⟩
  | .hbm, ⟨25, _⟩ => ⟨S8192x64, .f32⟩
  | .hbm, ⟨26, _⟩ => ⟨S8192x8, .f32⟩
  | .hbm, ⟨27, _⟩ => ⟨S_, .f32⟩
  | .hbm, ⟨28, _⟩ => ⟨S8192x48, .f32⟩
  | .hbm, ⟨29, _⟩ => ⟨S8192x48, .f32⟩
  | .hbm, ⟨30, _⟩ => ⟨S8192x64, .f32⟩
  | .hbm, ⟨31, _⟩ => ⟨S1x8192x1x64, .f32⟩
  | .hbm, ⟨32, _⟩ => ⟨S1x8192x2x64, .f32⟩
  | .hbm, ⟨33, _⟩ => ⟨S8192x128, .f32⟩
  | .hbm, ⟨34, _⟩ => ⟨S1x8192x1x64, .f32⟩
  | .hbm, ⟨35, _⟩ => ⟨S1x8192x2x64, .f32⟩
  | .hbm, ⟨36, _⟩ => ⟨S8192x128, .f32⟩
  | .hbm, ⟨37, _⟩ => ⟨S8192x2048, .bf16⟩
  | .local _ .vmem, ⟨0, _⟩ => ⟨S256x1024, .f32⟩
  | .local _ .vmem, ⟨1, _⟩ => ⟨S256x1024, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x512, .bf16⟩
  | .local _ .vmem, ⟨7, _⟩ => ⟨S256x512, .bf16⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x2048, .bf16⟩
  | .local _ .vmem, ⟨13, _⟩ => ⟨S256x2048, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference20Ideal.lean ====
abbrev S8192x1024 : Shape := ⟨2, ![8192, 1024]⟩
abbrev S8192x256 : Shape := ⟨2, ![8192, 256]⟩
abbrev S8192x512 : Shape := ⟨2, ![8192, 512]⟩
abbrev S8192 : Shape := ⟨1, ![8192]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S8192x1x8 : Shape := ⟨3, ![8192, 1, 8]⟩
abbrev S8192x16x64 : Shape := ⟨3, ![8192, 16, 64]⟩
abbrev S8192x4x64 : Shape := ⟨3, ![8192, 4, 64]⟩
abbrev S8192x4x8 : Shape := ⟨3, ![8192, 4, 8]⟩
abbrev S8192x4x48 : Shape := ⟨3, ![8192, 4, 48]⟩
abbrev S8192x16x8 : Shape := ⟨3, ![8192, 16, 8]⟩
abbrev S8192x16x48 : Shape := ⟨3, ![8192, 16, 48]⟩
abbrev S8192x2048 : Shape := ⟨2, ![8192, 2048]⟩

abbrev nBuf : Space → Nat
  | .hbm => 96
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x256, .f32⟩
  | .hbm, ⟨3, _⟩ => ⟨S8192x512, .bf16⟩
  | .hbm, ⟨4, _⟩ => ⟨S8192, .i32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S8192, .f32⟩
  | .hbm, ⟨16, _⟩ => ⟨S8192x1, .f32⟩
  | .hbm, ⟨17, _⟩ => ⟨S1x8, .f32⟩
  | .hbm, ⟨18, _⟩ => ⟨S8192x8, .f32⟩
  | .hbm, ⟨19, _⟩ => ⟨S8192x8, .f32⟩
  | .hbm, ⟨20, _⟩ => ⟨S8192x8, .f32⟩
  | .hbm, ⟨21, _⟩ => ⟨S8192x8, .f32⟩
  | .hbm, ⟨22, _⟩ => ⟨S8192x1x8, .f32⟩
  | .hbm, ⟨23, _⟩ => ⟨S8192x8, .f32⟩
  | .hbm, ⟨24, _⟩ => ⟨S8192x1x8, .f32⟩
  | .hbm, ⟨25, _⟩ => ⟨S8, .f32⟩
  | .hbm, ⟨26, _⟩ => ⟨S_, .f32⟩
  | .hbm, ⟨27, _⟩ => ⟨S8, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S8, .f32⟩
  | .hbm, ⟨32, _⟩ => ⟨S_, .f32⟩
  | .hbm, ⟨33, _⟩ => ⟨S8, .f32⟩
  | .hbm, ⟨34, _⟩ => ⟨S8, .f32⟩
  | .hbm, ⟨35, _⟩ => ⟨S8192, .f32⟩
  | .hbm, ⟨36, _⟩ => ⟨S8192x1, .f32⟩
  | .hbm, ⟨37, _⟩ => ⟨S1x8, .f32⟩
  | .hbm, ⟨38, _⟩ => ⟨S8192x8, .f32⟩
  | .hbm, ⟨39, _⟩ => ⟨S8192x8, .f32⟩
  | .hbm, ⟨40, _⟩ => ⟨S8192x8, .f32⟩
  | .hbm, ⟨41, _⟩ => ⟨S8192x8, .f32⟩
  | .hbm, ⟨42, _⟩ => ⟨S8192x1x8, .f32⟩
  | .hbm, ⟨43, _⟩ => ⟨S8192x8, .f32⟩
  | .hbm, ⟨44, _⟩ => ⟨S8192x1x8, .f32⟩
  | .hbm, ⟨45, _⟩ => ⟨S8192x16x64, .f32⟩
  | .hbm, ⟨46, _⟩ => ⟨S8192x4x64, .f32⟩
  | .hbm, ⟨47, _⟩ => ⟨S8192x512, .f32⟩
  | .hbm, ⟨48, _⟩ => ⟨S8192x4x8, .f32⟩
  | .hbm, ⟨49, _⟩ => ⟨S8192x4x8, .f32⟩
  | .hbm, ⟨50, _⟩ => ⟨S8192x4x48, .f32⟩
  | .hbm, ⟨51, _⟩ => ⟨S_, .f32⟩
  | .hbm, ⟨52, _⟩ => ⟨S8192x4x64, .f32⟩
  | .hbm, ⟨53, _⟩ => ⟨S8192x4x8, .f32⟩
  | .hbm, ⟨54, _⟩ => ⟨S8192x4x8, .f32⟩
  | .hbm, ⟨55, _⟩ => ⟨S8192x4x8, .f32⟩
  | .hbm, ⟨56, _⟩ => ⟨S8192x4x8, .f32⟩
  | .hbm, ⟨57, _⟩ => ⟨S8192x4x8, .f32⟩
  | .hbm, ⟨58, _⟩ => ⟨S8192x4x8, .f32⟩
  | .hbm, ⟨59, _⟩ => ⟨S8192x4x8, .f32⟩
  | .hbm, ⟨60, _⟩ => ⟨S8192x4x8, .f32⟩
  | .hbm, ⟨61, _⟩ => ⟨S8192x4x8, .f32⟩
  | .hbm, ⟨62, _⟩ => ⟨S8192x4x8, .f32⟩
  | .hbm, ⟨63, _⟩ => ⟨S8192x4x8, .f32⟩
  | .hbm, ⟨64, _⟩ => ⟨S_, .f32⟩
  | .hbm, ⟨65, _⟩ => ⟨S8192x4x64, .f32⟩
  | .hbm, ⟨66, _⟩ => ⟨S8192x4x64, .f32⟩
  | .hbm, ⟨67, _⟩ => ⟨S_, .f32⟩
  | .hbm, ⟨68, _⟩ => ⟨S8192x4x64, .f32⟩
  | .hbm, ⟨69, _⟩ => ⟨S8192x4x64, .f32⟩
  | .hbm, ⟨70, _⟩ => ⟨S8192x256, .f32⟩
  | .hbm, ⟨71, _⟩ => ⟨S8192x16x8, .f32⟩
  | .hbm, ⟨72, _⟩ => ⟨S8192x16x8, .f32⟩
  | .hbm, ⟨73, _⟩ => ⟨S8192x16x48, .f32⟩
  | .hbm, ⟨74, _⟩ => ⟨S_, .f32⟩
  | .hbm, ⟨75, _⟩ => ⟨S8192x16x64, .f32⟩
  | .hbm, ⟨76, _⟩ => ⟨S8192x16x8, .f32⟩
  | .hbm, ⟨77, _⟩ => ⟨S8192x16x8, .f32⟩
  | .hbm, ⟨78, _⟩ => ⟨S8192x16x8, .f32⟩
  | .hbm, ⟨79, _⟩ => ⟨S8192x16x8, .f32⟩
  | .hbm, ⟨80, _⟩ => ⟨S8192x16x8, .f32⟩
  | .hbm, ⟨81, _⟩ => ⟨S8192x16x8, .f32⟩
  | .hbm, ⟨82, _⟩ => ⟨S8192x16x8, .f32⟩
  | .hbm, ⟨83, _⟩ => ⟨S8192x16x8, .f32⟩
  | .hbm, ⟨84, _⟩ => ⟨S8192x16x8, .f32⟩
  | .hbm, ⟨85, _⟩ => ⟨S8192x16x8, .f32⟩
  | .hbm, ⟨86, _⟩ => ⟨S8192x16x8, .f32⟩
  | .hbm, ⟨87, _⟩ => ⟨S_, .f32⟩
  | .hbm, ⟨88, _⟩ => ⟨S8192x16x64, .f32⟩
  | .hbm, ⟨89, _⟩ => ⟨S8192x16x64, .f32⟩
  | .hbm, ⟨90, _⟩ => ⟨S_, .f32⟩
  | .hbm, ⟨91, _⟩ => ⟨S8192x16x64, .f32⟩
  | .hbm, ⟨92, _⟩ => ⟨S8192x16x64, .f32⟩
  | .hbm, ⟨93, _⟩ => ⟨S8192x1024, .f32⟩
  | .hbm, ⟨94, _⟩ => ⟨S8192x2048, .f32⟩
  | .hbm, ⟨95, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_5 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_6 : Ref sig .tc := ⟨.hbm, 64, rfl⟩
abbrev main_v52 : Ref sig .tc := ⟨.hbm, 65, rfl⟩
abbrev main_v53 : Ref sig .tc := ⟨.hbm, 66, rfl⟩
abbrev main_cst_7 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_8 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_cst_9 : Ref sig .tc := ⟨.hbm, 87, rfl⟩
abbrev main_v72 : Ref sig .tc := ⟨.hbm, 88, rfl⟩
abbrev main_v73 : Ref sig .tc := ⟨.hbm, 89, rfl⟩
abbrev main_cst_10 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩

abbrev nD : Nat := 1
abbrev τ : Topo := Topo.v7x

variable {F : FTy → Type} [FloatOps F]
-- ==== Kernel21.lean ====
abbrev S8192x2048 : Shape := ⟨2, ![8192, 2048]⟩
abbrev S256x1024 : Shape := ⟨2, ![256, 1024]⟩
abbrev S8192x1536 : Shape := ⟨2, ![8192, 1536]⟩
abbrev S512x512 : Shape := ⟨2, ![512, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S256x1024, .bf16⟩
  | .hbm, ⟨2, _⟩ => ⟨S8192x1536, .bf16⟩
  | .hbm, ⟨3, _⟩ => ⟨S8192x1536, .bf16⟩
  | .local _ .vmem, ⟨0, _⟩ => ⟨S512x512, .f32⟩
  | .local _ .vmem, ⟨1, _⟩ => ⟨S512x512, .f32⟩
  | .local _ .vmem, ⟨2, _⟩ => ⟨S256x1024, .bf16⟩
  | .local _ .vmem, ⟨3, _⟩ => ⟨S512x512, .bf16⟩
  | .local _ .vmem, ⟨4, _⟩ => ⟨S512x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference21Ideal.lean ====
abbrev S8192x2048 : Shape := ⟨2, ![8192, 2048]⟩
abbrev S256x1024 : Shape := ⟨2, ![256, 1024]⟩
abbrev S8192x1536 : Shape := ⟨2, ![8192, 1536]⟩
abbrev S8192x512 : Shape := ⟨2, ![8192, 512]⟩
abbrev S1x8192x512 : Shape := ⟨3, ![1, 8192, 512]⟩
abbrev S1x256x1024 : Shape := ⟨3, ![1, 256, 1024]⟩
abbrev S1x256x512 : Shape := ⟨3, ![1, 256, 512]⟩
abbrev S1x256x4x128 : Shape := ⟨4, ![1, 256, 4, 128]⟩
abbrev S1x8192x4x128 : Shape := ⟨4, ![1, 8192, 4, 128]⟩
abbrev S1x4x8192x256 : Shape := ⟨4, ![1, 4, 8192, 256]⟩
abbrev S_ : Shape := ⟨0, ![]⟩
abbrev S1x4x8192 : Shape := ⟨3, ![1, 4, 8192]⟩
abbrev S1x4x8192x1 : Shape := ⟨4, ![1, 4, 8192, 1]⟩
abbrev S1x4x128x8192 : Shape := ⟨4, ![1, 4, 128, 8192]⟩
abbrev S8192x1024 : Shape := ⟨2, ![8192, 1024]⟩

abbrev nBuf : Space → Nat
  | .hbm => 37
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S256x1024, .bf16⟩
  | .hbm, ⟨2, _⟩ => ⟨S8192x1536, .bf16⟩
  | .hbm, ⟨3, _⟩ => ⟨S8192x512, .f32⟩
  | .hbm, ⟨4, _⟩ => ⟨S1x8192x512, .f32⟩
  | .hbm, ⟨5, _⟩ => ⟨S256x1024, .f32⟩
  | .hbm, ⟨6, _⟩ => ⟨S1x256x1024, .f32⟩
  | .hbm, ⟨7, _⟩ => ⟨S1x256x512, .f32⟩
  | .hbm, ⟨8, _⟩ => ⟨S1x256x4x128, .f32⟩
  | .hbm, ⟨9, _⟩ => ⟨S1x256x512, .f32⟩
  | .hbm, ⟨10, _⟩ => ⟨S1x256x4x128, .f32⟩
  | .hbm, ⟨11, _⟩ => ⟨S1x8192x4x128, .f32⟩
  | .hbm, ⟨12, _⟩ => ⟨S1x4x8192x256, .f32⟩
  | .hbm, ⟨13, _⟩ => ⟨S_, .f32⟩
  | .hbm, ⟨14, _⟩ => ⟨S1x4x8192x256, .f32⟩
  | .hbm, ⟨15, _⟩ => ⟨S1x4x8192x256, .f32⟩
  | .hbm, ⟨16, _⟩ => ⟨S_, .f32⟩
  | .hbm, ⟨17, _⟩ => ⟨S1x4x8192, .f32⟩
  | .hbm, ⟨18, _⟩ => ⟨S_, .f32⟩
  | .hbm, ⟨19, _⟩ => ⟨S1x4x8192, .f32⟩
  | .hbm, ⟨20, _⟩ => ⟨S1x4x8192, .f32⟩
  | .hbm, ⟨21, _⟩ => ⟨S1x4x8192x1, .f32⟩
  | .hbm, ⟨22, _⟩ => ⟨S1x4x8192x256, .f32⟩
  | .hbm, ⟨23, _⟩ => ⟨S1x4x8192x256, .f32⟩
  | .hbm, ⟨24, _⟩ => ⟨S1x4x8192x256, .f32⟩
  | .hbm, ⟨25, _⟩ => ⟨S_, .f32⟩
  | .hbm, ⟨26, _⟩ => ⟨S1x4x8192, .f32⟩
  | .hbm, ⟨27, _⟩ => ⟨S1x4x8192x1, .f32⟩
  | .hbm, ⟨28, _⟩ => ⟨S1x4x8192x256, .f32⟩
  | .hbm, ⟨29, _⟩ => ⟨S1x4x8192x256, .f32⟩
  | .hbm, ⟨30, _⟩ => ⟨S1x4x128x8192, .f32⟩
  | .hbm, ⟨31, _⟩ => ⟨S1x8192x4x128, .f32⟩
  | .hbm, ⟨32, _⟩ => ⟨S1x8192x512, .f32⟩
  | .hbm, ⟨33, _⟩ => ⟨S8192x1024, .bf16⟩
  | .hbm, ⟨34, _⟩ => ⟨S8192x512, .f32⟩
  | .hbm, ⟨35, _⟩ => ⟨S8192x512, .bf16⟩
  | .hbm, ⟨36, _⟩ => ⟨S8192x1536, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]
-- ==== Kernel22.lean ====
abbrev S256x1024 : Shape := ⟨2, ![256, 1024]⟩
abbrev S1x1024x1024 : Shape := ⟨3, ![1, 1024, 1024]⟩
abbrev S1024 : Shape := ⟨1, ![1024]⟩
abbrev S1x1024 : Shape := ⟨2, ![1, 1024]⟩
abbrev S256 : Shape := ⟨1, ![256]⟩
abbrev S256x1 : Shape := ⟨2, ![256, 1]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S1x1024x1024, .bf16⟩
  | .hbm, ⟨2, _⟩ => ⟨S1024, .f32⟩
  | .hbm, ⟨3, _⟩ => ⟨S1x1024, .f32⟩
  | .hbm, ⟨4, _⟩ => ⟨S256x1024, .bf16⟩
  | .hbm, ⟨5, _⟩ => ⟨S256x1024, .bf16⟩
  | .local _ .vmem, ⟨0, _⟩ => ⟨S256x1024, .f32⟩
  | .local _ .vmem, ⟨1, _⟩ => ⟨S1x1024x1024, .bf16⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== Reference22Ideal.lean ====
abbrev S256x1024 : Shape := ⟨2, ![256, 1024]⟩
abbrev S1x1024x1024 : Shape := ⟨3, ![1, 1024, 1024]⟩
abbrev S1024 : Shape := ⟨1, ![1024]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S1024x1x1024 : Shape := ⟨3, ![1024, 1, 1024]⟩
abbrev S1024x1024 : Shape := ⟨2, ![1024, 1024]⟩

abbrev nBuf : Space → Nat
  | .hbm => 25
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024x1024, .bf16⟩
  | .hbm, ⟨2, _⟩ => ⟨S1024, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S1x1024, .f32⟩
  | .hbm, ⟨17, _⟩ => ⟨S256x1024, .f32⟩
  | .hbm, ⟨18, _⟩ => ⟨S256x1024, .f32⟩
  | .hbm, ⟨19, _⟩ => ⟨S1x1024x1024, .f32⟩
  | .hbm, ⟨20, _⟩ => ⟨S1024x1x1024, .f32⟩
  | .hbm, ⟨21, _⟩ => ⟨S1024x1024, .f32⟩
  | .hbm, ⟨22, _⟩ => ⟨S256x1024, .f32⟩
  | .hbm, ⟨23, _⟩ => ⟨S256x1024, .bf16⟩
  | .hbm, ⟨24, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel23.lean ====
abbrev S256x1024 : Shape := ⟨2, ![256, 1024]⟩
abbrev S1x1024x1024 : Shape := ⟨3, ![1, 1024, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .bf16⟩
  | .hbm, ⟨1, _⟩ => ⟨S1x1024x1024, .bf16⟩
  | .hbm, ⟨2, _⟩ => ⟨S256x1024, .bf16⟩
  | .local _ .vmem, ⟨0, _⟩ => ⟨S256x1024, .bf16⟩
  | .local _ .vmem, ⟨1, _⟩ => ⟨S1x1024x1024, .bf16⟩
  | .local _ .vmem, ⟨2, _⟩ => ⟨S256x1024, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference23Ideal.lean ====
abbrev S256x1024 : Shape := ⟨2, ![256, 1024]⟩
abbrev S1x1024x1024 : Shape := ⟨3, ![1, 1024, 1024]⟩
abbrev S1024x1x1024 : Shape := ⟨3, ![1024, 1, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S1x1024x1024, .bf16⟩
  | .hbm, ⟨2, _⟩ => ⟨S256x1024, .f32⟩
  | .hbm, ⟨3, _⟩ => ⟨S1x1024x1024, .f32⟩
  | .hbm, ⟨4, _⟩ => ⟨S1024x1x1024, .f32⟩
  | .hbm, ⟨5, _⟩ => ⟨S1024x1024, .f32⟩
  | .hbm, ⟨6, _⟩ => ⟨S256x1024, .f32⟩
  | .hbm, ⟨7, _⟩ => ⟨S256x1024, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel24.lean ====
abbrev S256x1024 : Shape := ⟨2, ![256, 1024]⟩
abbrev S1x1024x1024 : Shape := ⟨3, ![1, 1024, 1024]⟩
abbrev S1024 : Shape := ⟨1, ![1024]⟩
abbrev S2x1024x1024 : Shape := ⟨3, ![2, 1024, 1024]⟩
abbrev S256x2048 : Shape := ⟨2, ![256, 2048]⟩
abbrev S1x1024 : Shape := ⟨2, ![1, 1024]⟩
abbrev S1024x1024 : Shape := ⟨2, ![1024, 1024]⟩
abbrev S256 : Shape := ⟨1, ![256]⟩
abbrev S256x1 : Shape := ⟨2, ![256, 1]⟩

abbrev nBuf : Space → Nat
  | .hbm => 12
  | .vmem => 7
  | .smem => 0
  | _ => 0

abbrev bufTy : (tb : Table) → Fin (tcTables nBuf tb) → BufTy
  | .hbm, ⟨0, _⟩ => ⟨S256x1024, .bf16⟩
  | .hbm, ⟨1, _⟩ => ⟨S256x1024, .bf16⟩
  | .hbm, ⟨2, _⟩ => ⟨S1x1024x1024, .bf16⟩
  | .hbm, ⟨3, _⟩ => ⟨S1x1024x1024, .bf16⟩
  | .hbm, ⟨4, _⟩ => ⟨S256x1024, .f32⟩
  | .hbm, ⟨5, _⟩ => ⟨S1024, .f32⟩
  | .hbm, ⟨6, _⟩ => ⟨S2x1024x1024, .bf16⟩
  | .hbm, ⟨7, _⟩ => ⟨S256x2048, .bf16⟩
  | .hbm, ⟨8, _⟩ => ⟨S1x1024, .f32⟩
  | .hbm, ⟨9, _⟩ => ⟨S256x1024, .f32⟩
  | .hbm, ⟨10, _⟩ => ⟨S256x1024, .bf16⟩
  | .hbm, ⟨11, _⟩ => ⟨S1x1024, .f32⟩
  | .local _ .vmem, ⟨0, _⟩ => ⟨S256x2048, .bf16⟩
  | .local _ .vmem, ⟨1, _⟩ => ⟨S2x1024x1024, .bf16⟩
  | .local _ .vmem, ⟨2, _⟩ => ⟨S256x1024, .f32⟩
  | .local _ .vmem, ⟨3, _⟩ => ⟨S1x1024, .f32⟩
  | .local _ .vmem, ⟨4, _⟩ => ⟨S256x1024, .f32⟩
  | .local _ .vmem, ⟨5, _⟩ => ⟨S256x1024, .bf16⟩
  | .local _ .vmem, ⟨6, _⟩ => ⟨S1x1024, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference24Ideal.lean ====
abbrev S256x1024 : Shape := ⟨2, ![256, 1024]⟩
abbrev S1x1024x1024 : Shape := ⟨3, ![1, 1024, 1024]⟩
abbrev S1024 : Shape := ⟨1, ![1024]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S1024x1x1024 : Shape := ⟨3, ![1024, 1, 1024]⟩
abbrev S1024x1024 : Shape := ⟨2, ![1024, 1024]⟩

abbrev nBuf : Space → Nat
  | .hbm => 66
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S256x1024, .bf16⟩
  | .hbm, ⟨2, _⟩ => ⟨S1x1024x1024, .bf16⟩
  | .hbm, ⟨3, _⟩ => ⟨S1x1024x1024, .bf16⟩
  | .hbm, ⟨4, _⟩ => ⟨S256x1024, .f32⟩
  | .hbm, ⟨5, _⟩ => ⟨S1024, .f32⟩
  | .hbm, ⟨6, _⟩ => ⟨S256x1024, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S256x1, .f32⟩
  | .hbm, ⟨18, _⟩ => ⟨S_, .f32⟩
  | .hbm, ⟨19, _⟩ => ⟨S256x1, .f32⟩
  | .hbm, ⟨20, _⟩ => ⟨S256x1, .f32⟩
  | .hbm, ⟨21, _⟩ => ⟨S256x1024, .f32⟩
  | .hbm, ⟨22, _⟩ => ⟨S256x1024, .f32⟩
  | .hbm, ⟨23, _⟩ => ⟨S1x1024, .f32⟩
  | .hbm, ⟨24, _⟩ => ⟨S256x1024, .f32⟩
  | .hbm, ⟨25, _⟩ => ⟨S256x1024, .f32⟩
  | .hbm, ⟨26, _⟩ => ⟨S1x1024x1024, .f32⟩
  | .hbm, ⟨27, _⟩ => ⟨S1024x1x1024, .f32⟩
  | .hbm, ⟨28, _⟩ => ⟨S1024x1024, .f32⟩
  | .hbm, ⟨29, _⟩ => ⟨S256x1024, .f32⟩
  | .hbm, ⟨30, _⟩ => ⟨S1x1024x1024, .f32⟩
  | .hbm, ⟨31, _⟩ => ⟨S1024x1x1024, .f32⟩
  | .hbm, ⟨32, _⟩ => ⟨S1024x1024, .f32⟩
  | .hbm, ⟨33, _⟩ => ⟨S256x1024, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S256x1024, .f32⟩
  | .hbm, ⟨38, _⟩ => ⟨S256x1024, .f32⟩
  | .hbm, ⟨39, _⟩ => ⟨S256x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S256x1024, .f32⟩
  | .hbm, ⟨44, _⟩ => ⟨S256x1024, .f32⟩
  | .hbm, ⟨45, _⟩ => ⟨S_, .f32⟩
  | .hbm, ⟨46, _⟩ => ⟨S1024, .f32⟩
  | .hbm, ⟨47, _⟩ => ⟨S256x1024, .f32⟩
  | .hbm, ⟨48, _⟩ => ⟨S_, .f32⟩
  | .hbm, ⟨49, _⟩ => ⟨S256, .f32⟩
  | .hbm, ⟨50, _⟩ => ⟨S256x1, .f32⟩
  | .hbm, ⟨51, _⟩ => ⟨S256x1024, .f32⟩
  | .hbm, ⟨52, _⟩ => ⟨S256x1024, .f32⟩
  | .hbm, ⟨53, _⟩ => ⟨S256x1, .f32⟩
  | .hbm, ⟨54, _⟩ => ⟨S_, .f32⟩
  | .hbm, ⟨55, _⟩ => ⟨S256x1, .f32⟩
  | .hbm, ⟨56, _⟩ => ⟨S256x1, .f32⟩
  | .hbm, ⟨57, _⟩ => ⟨S_, .f32⟩
  | .hbm, ⟨58, _⟩ => ⟨S256, .f32⟩
  | .hbm, ⟨59, _⟩ => ⟨S256x1024, .f32⟩
  | .hbm, ⟨60, _⟩ => ⟨S256x1024, .f32⟩
  | .hbm, ⟨61, _⟩ => ⟨S256x1024, .f32⟩
  | .hbm, ⟨62, _⟩ => ⟨S256x1024, .f32⟩
  | .hbm, ⟨63, _⟩ => ⟨S256x1024, .f32⟩
  | .hbm, ⟨64, _⟩ => ⟨S256x1024, .bf16⟩
  | .hbm, ⟨65, _⟩ => ⟨S1x1024, .f32⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩

abbrev nD : Nat := 1
abbrev τ : Topo := Topo.v7x

variable {F : FTy → Type} [FloatOps F]
-- ==== Kernel25.lean ====
abbrev S256x1024 : Shape := ⟨2, ![256, 1024]⟩
abbrev S1x1024x1024 : Shape := ⟨3, ![1, 1024, 1024]⟩
abbrev S256x256 : Shape := ⟨2, ![256, 256]⟩
abbrev S1x256x1024 : Shape := ⟨3, ![1, 256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S256x1024, .bf16⟩
  | .hbm, ⟨1, _⟩ => ⟨S256x1024, .bf16⟩
  | .hbm, ⟨2, _⟩ => ⟨S1x1024x1024, .f32⟩
  | .local _ .vmem, ⟨0, _⟩ => ⟨S256x256, .bf16⟩
  | .local _ .vmem, ⟨1, _⟩ => ⟨S256x256, .bf16⟩
  | .local _ .vmem, ⟨2, _⟩ => ⟨S256x1024, .bf16⟩
  | .local _ .vmem, ⟨3, _⟩ => ⟨S1x256x1024, .f32⟩
  | .local _ .vmem, ⟨4, _⟩ => ⟨S1x256x1024, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference25Ideal.lean ====
abbrev S256x1024 : Shape := ⟨2, ![256, 1024]⟩
abbrev S1024x1024 : Shape := ⟨2, ![1024, 1024]⟩
abbrev S1x1024x1024 : Shape := ⟨3, ![1, 1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S256x1024, .bf16⟩
  | .hbm, ⟨2, _⟩ => ⟨S256x1024, .f32⟩
  | .hbm, ⟨3, _⟩ => ⟨S256x1024, .f32⟩
  | .hbm, ⟨4, _⟩ => ⟨S1024x1024, .f32⟩
  | .hbm, ⟨5, _⟩ => ⟨S1024x1024, .f32⟩
  | .hbm, ⟨6, _⟩ => ⟨S1x1024x1024, .f32⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel26.lean ====
abbrev S256x1024 : Shape := ⟨2, ![256, 1024]⟩
abbrev S4x3328x1024 : Shape := ⟨3, ![4, 3328, 1024]⟩
abbrev S256x256 : Shape := ⟨2, ![256, 256]⟩
abbrev S1x256x1024 : Shape := ⟨3, ![1, 256, 1024]⟩

abbrev nBuf : Space → Nat
  | .hbm => 4
  | .vmem => 5
  | .smem => 0
  | _ => 0

abbrev bufTy : (tb : Table) → Fin (tcTables nBuf tb) → BufTy
  | .hbm, ⟨0, _⟩ => ⟨S256x1024, .bf16⟩
  | .hbm, ⟨1, _⟩ => ⟨S256x1024, .bf16⟩
  | .hbm, ⟨2, _⟩ => ⟨S4x3328x1024, .f32⟩
  | .hbm, ⟨3, _⟩ => ⟨S4x3328x1024, .f32⟩
  | .local _ .vmem, ⟨0, _⟩ => ⟨S256x256, .bf16⟩
  | .local _ .vmem, ⟨1, _⟩ => ⟨S256x256, .bf16⟩
  | .local _ .vmem, ⟨2, _⟩ => ⟨S256x1024, .bf16⟩
  | .local _ .vmem, ⟨3, _⟩ => ⟨S1x256x1024, .f32⟩
  | .local _ .vmem, ⟨4, _⟩ => ⟨S1x256x1024, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c8_i32 : BitVec 32 := 8#32
  let v27 : BitVec 32 := Scalar.addi c8_i32 v26
  let c0_i32_11 : BitVec 32 := 0#32
  let c0_i32_12 : BitVec 32 := 0#32
  ![v16.toNat, v27.toNat, c0_i32_11.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference26Ideal.lean ====
abbrev S256x1024 : Shape := ⟨2, ![256, 1024]⟩
abbrev S4x3328x1024 : Shape := ⟨3, ![4, 3328, 1024]⟩
abbrev S1024x1024 : Shape := ⟨2, ![1024, 1024]⟩
abbrev S4x2048x1024 : Shape := ⟨3, ![4, 2048, 1024]⟩
abbrev S4x256x1024 : Shape := ⟨3, ![4, 256, 1024]⟩
abbrev S4x1024x1024 : Shape := ⟨3, ![4, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S256x1024, .bf16⟩
  | .hbm, ⟨2, _⟩ => ⟨S4x3328x1024, .f32⟩
  | .hbm, ⟨3, _⟩ => ⟨S256x1024, .f32⟩
  | .hbm, ⟨4, _⟩ => ⟨S256x1024, .f32⟩
  | .hbm, ⟨5, _⟩ => ⟨S1024x1024, .f32⟩
  | .hbm, ⟨6, _⟩ => ⟨S1024x1024, .f32⟩
  | .hbm, ⟨7, _⟩ => ⟨S4x2048x1024, .f32⟩
  | .hbm, ⟨8, _⟩ => ⟨S4x256x1024, .f32⟩
  | .hbm, ⟨9, _⟩ => ⟨S4x1024x1024, .f32⟩
  | .hbm, ⟨10, _⟩ => ⟨S4x3328x1024, .f32⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel27.lean ====
abbrev S2048x1024 : Shape := ⟨2, ![2048, 1024]⟩
abbrev S512x1024 : Shape := ⟨2, ![512, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference27Ideal.lean ====
abbrev S2048x1024 : Shape := ⟨2, ![2048, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048x1024, .f32⟩
  | .hbm, ⟨36, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel28.lean ====
abbrev S768x1024 : Shape := ⟨2, ![768, 1024]⟩
abbrev S384x1024 : Shape := ⟨2, ![384, 1024]⟩

abbrev nBuf : Space → Nat
  | .hbm => 7
  | .vmem => 14
  | .smem => 0
  | _ => 0

abbrev bufTy : (tb : Table) → Fin (tcTables nBuf tb) → BufTy
  | .hbm, ⟨0, _⟩ => ⟨S768x1024, .f32⟩
  | .hbm, ⟨1, _⟩ => ⟨S768x1024, .f32⟩
  | .hbm, ⟨2, _⟩ => ⟨S768x1024, .f32⟩
  | .hbm, ⟨3, _⟩ => ⟨S768x1024, .f32⟩
  | .hbm, ⟨4, _⟩ => ⟨S768x1024, .f32⟩
  | .hbm, ⟨5, _⟩ => ⟨S768x1024, .f32⟩
  | .hbm, ⟨6, _⟩ => ⟨S768x1024, .f32⟩
  | .local _ .vmem, ⟨0, _⟩ => ⟨S384x1024, .f32⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S384x1024, .f32⟩
  | .local _ .vmem, ⟨5, _⟩ => ⟨S384x1024, .f32⟩
  | .local _ .vmem, ⟨6, _⟩ => ⟨S384x1024, .f32⟩
  | .local _ .vmem, ⟨7, _⟩ => ⟨S384x1024, .f32⟩
  | .local _ .vmem, ⟨8, _⟩ => ⟨S384x1024, .f32⟩
  | .local _ .vmem, ⟨9, _⟩ => ⟨S384x1024, .f32⟩
  | .local _ .vmem, ⟨10, _⟩ => ⟨S384x1024, .f32⟩
  | .local _ .vmem, ⟨11, _⟩ => ⟨S384x1024, .f32⟩
  | .local _ .vmem, ⟨12, _⟩ => ⟨S384x1024, .f32⟩
  | .local _ .vmem, ⟨13, _⟩ => ⟨S384x1024, .f32⟩
  | _, _ => ⟨S768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference28Ideal.lean ====
abbrev S768x1024 : Shape := ⟨2, ![768, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S768x1024, .f32⟩
  | .hbm, ⟨1, _⟩ => ⟨S768x1024, .f32⟩
  | .hbm, ⟨2, _⟩ => ⟨S768x1024, .f32⟩
  | .hbm, ⟨3, _⟩ => ⟨S768x1024, .f32⟩
  | .hbm, ⟨4, _⟩ => ⟨S_, .f32⟩
  | .hbm, ⟨5, _⟩ => ⟨S768x1024, .f32⟩
  | .hbm, ⟨6, _⟩ => ⟨S768x1024, .f32⟩
  | .hbm, ⟨7, _⟩ => ⟨S_, .f32⟩
  | .hbm, ⟨8, _⟩ => ⟨S768x1024, .f32⟩
  | .hbm, ⟨9, _⟩ => ⟨S768x1024, .f32⟩
  | .hbm, ⟨10, _⟩ => ⟨S768x1024, .f32⟩
  | .hbm, ⟨11, _⟩ => ⟨S_, .f32⟩
  | .hbm, ⟨12, _⟩ => ⟨S768x1024, .f32⟩
  | .hbm, ⟨13, _⟩ => ⟨S768x1024, .f32⟩
  | .hbm, ⟨14, _⟩ => ⟨S768x1024, .f32⟩
  | .hbm, ⟨15, _⟩ => ⟨S_, .f32⟩
  | .hbm, ⟨16, _⟩ => ⟨S768x1024, .f32⟩
  | .hbm, ⟨17, _⟩ => ⟨S768x1024, .f32⟩
  | .hbm, ⟨18, _⟩ => ⟨S768x1024, .f32⟩
  | .hbm, ⟨19, _⟩ => ⟨S_, .f32⟩
  | .hbm, ⟨20, _⟩ => ⟨S768x1024, .f32⟩
  | .hbm, ⟨21, _⟩ => ⟨S768x1024, .f32⟩
  | .hbm, ⟨22, _⟩ => ⟨S_, .f32⟩
  | .hbm, ⟨23, _⟩ => ⟨S768x1024, .f32⟩
  | .hbm, ⟨24, _⟩ => ⟨S768x1024, .f32⟩
  | .hbm, ⟨25, _⟩ => ⟨S768x1024, .f32⟩
  | .hbm, ⟨26, _⟩ => ⟨S_, .f32⟩
  | .hbm, ⟨27, _⟩ => ⟨S768x1024, .f32⟩
  | .hbm, ⟨28, _⟩ => ⟨S768x1024, .f32⟩
  | .hbm, ⟨29, _⟩ => ⟨S768x1024, .f32⟩
  | .hbm, ⟨30, _⟩ => ⟨S_, .f32⟩
  | .hbm, ⟨31, _⟩ => ⟨S768x1024, .f32⟩
  | .hbm, ⟨32, _⟩ => ⟨S768x1024, .f32⟩
  | .hbm, ⟨33, _⟩ => ⟨S768x1024, .f32⟩
  | .hbm, ⟨34, _⟩ => ⟨S_, .f32⟩
  | .hbm, ⟨35, _⟩ => ⟨S768x1024, .f32⟩
  | .hbm, ⟨36, _⟩ => ⟨S768x1024, .f32⟩
  | _, _ => ⟨S768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel29.lean ====
abbrev S8192x1024 : Shape := ⟨2, ![8192, 1024]⟩
abbrev S4x1024x512 : Shape := ⟨3, ![4, 1024, 512]⟩
abbrev S1024 : Shape := ⟨1, ![1024]⟩
abbrev S1x1024 : Shape := ⟨2, ![1, 1024]⟩
abbrev S8192x2048 : Shape := ⟨2, ![8192, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 6
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S4x1024x512, .bf16⟩
  | .hbm, ⟨2, _⟩ => ⟨S1024, .f32⟩
  | .hbm, ⟨3, _⟩ => ⟨S1x1024, .f32⟩
  | .hbm, ⟨4, _⟩ => ⟨S8192x2048, .f32⟩
  | .hbm, ⟨5, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S4x1024x512, .bf16⟩
  | .local _ .vmem, ⟨3, _⟩ => ⟨S1x1024, .f32⟩
  | .local _ .vmem, ⟨4, _⟩ => ⟨S512x2048, .f32⟩
  | .local _ .vmem, ⟨5, _⟩ => ⟨S512x2048, .f32⟩
  | .local _ .vmem, ⟨6, _⟩ => ⟨S512x1024, .bf16⟩
  | .local _ .vmem, ⟨7, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference29Ideal.lean ====
abbrev S8192x1024 : Shape := ⟨2, ![8192, 1024]⟩
abbrev S4x1024x512 : Shape := ⟨3, ![4, 1024, 512]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x4x512 : Shape := ⟨3, ![1024, 4, 512]⟩
abbrev S1024x2048 : Shape := ⟨2, ![1024, 2048]⟩
abbrev S8192x2048 : Shape := ⟨2, ![8192, 2048]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x1024x512, .bf16⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S4x1024x512, .f32⟩
  | .hbm, ⟨20, _⟩ => ⟨S1024x4x512, .f32⟩
  | .hbm, ⟨21, _⟩ => ⟨S1024x2048, .f32⟩
  | .hbm, ⟨22, _⟩ => ⟨S8192x2048, .f32⟩
  | .hbm, ⟨23, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel30.lean ====
abbrev S8192x1024 : Shape := ⟨2, ![8192, 1024]⟩
abbrev S8192x2048 : Shape := ⟨2, ![8192, 2048]⟩
abbrev S4x1024x512 : Shape := ⟨3, ![4, 1024, 512]⟩
abbrev S4096x512 : Shape := ⟨2, ![4096, 512]⟩
abbrev S1x512x512 : Shape := ⟨3, ![1, 512, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S4x1024x512, .f32⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S1x512x512, .f32⟩
  | .local _ .vmem, ⟨5, _⟩ => ⟨S1x512x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference30Ideal.lean ====
abbrev S8192x1024 : Shape := ⟨2, ![8192, 1024]⟩
abbrev S8192x2048 : Shape := ⟨2, ![8192, 2048]⟩
abbrev S2048x1024 : Shape := ⟨2, ![2048, 1024]⟩
abbrev S1024x2048 : Shape := ⟨2, ![1024, 2048]⟩
abbrev S1024x4x512 : Shape := ⟨3, ![1024, 4, 512]⟩
abbrev S4x1024x512 : Shape := ⟨3, ![4, 1024, 512]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S8192x1024, .f32⟩
  | .hbm, ⟨3, _⟩ => ⟨S8192x2048, .f32⟩
  | .hbm, ⟨4, _⟩ => ⟨S2048x1024, .f32⟩
  | .hbm, ⟨5, _⟩ => ⟨S1024x2048, .f32⟩
  | .hbm, ⟨6, _⟩ => ⟨S1024x4x512, .f32⟩
  | .hbm, ⟨7, _⟩ => ⟨S4x1024x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel31.lean ====
abbrev S8192x2048 : Shape := ⟨2, ![8192, 2048]⟩
abbrev S256x1024 : Shape := ⟨2, ![256, 1024]⟩
abbrev S8192x1536 : Shape := ⟨2, ![8192, 1536]⟩
abbrev S8192x512 : Shape := ⟨2, ![8192, 512]⟩
abbrev S512x512 : Shape := ⟨2, ![512, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S256x1024, .bf16⟩
  | .hbm, ⟨2, _⟩ => ⟨S8192x1536, .bf16⟩
  | .hbm, ⟨3, _⟩ => ⟨S8192x512, .bf16⟩
  | .hbm, ⟨4, _⟩ => ⟨S256x1024, .f32⟩
  | .local _ .vmem, ⟨0, _⟩ => ⟨S512x512, .f32⟩
  | .local _ .vmem, ⟨1, _⟩ => ⟨S512x512, .f32⟩
  | .local _ .vmem, ⟨2, _⟩ => ⟨S256x1024, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S256x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference31Ideal.lean ====
abbrev S8192x2048 : Shape := ⟨2, ![8192, 2048]⟩
abbrev S256x1024 : Shape := ⟨2, ![256, 1024]⟩
abbrev S8192x1536 : Shape := ⟨2, ![8192, 1536]⟩
abbrev S8192x512 : Shape := ⟨2, ![8192, 512]⟩
abbrev S1x8192x512 : Shape := ⟨3, ![1, 8192, 512]⟩
abbrev S1x256x1024 : Shape := ⟨3, ![1, 256, 1024]⟩
abbrev S1x256x512 : Shape := ⟨3, ![1, 256, 512]⟩
abbrev S1x256x4x128 : Shape := ⟨4, ![1, 256, 4, 128]⟩
abbrev S1x8192x4x128 : Shape := ⟨4, ![1, 8192, 4, 128]⟩
abbrev S1x4x8192x256 : Shape := ⟨4, ![1, 4, 8192, 256]⟩
abbrev S_ : Shape := ⟨0, ![]⟩
abbrev S1x4x8192 : Shape := ⟨3, ![1, 4, 8192]⟩
abbrev S1x4x8192x1 : Shape := ⟨4, ![1, 4, 8192, 1]⟩
abbrev S1x4x128x8192 : Shape := ⟨4, ![1, 4, 128, 8192]⟩
abbrev S1x4x128x256 : Shape := ⟨4, ![1, 4, 128, 256]⟩
abbrev S4x8192 : Shape := ⟨2, ![4, 8192]⟩
abbrev S1x4x256x128 : Shape := ⟨4, ![1, 4, 256, 128]⟩
abbrev S1x4x8192x128 : Shape := ⟨4, ![1, 4, 8192, 128]⟩

abbrev nBuf : Space → Nat
  | .hbm => 98
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S256x1024, .bf16⟩
  | .hbm, ⟨2, _⟩ => ⟨S8192x1536, .bf16⟩
  | .hbm, ⟨3, _⟩ => ⟨S8192x512, .f32⟩
  | .hbm, ⟨4, _⟩ => ⟨S1x8192x512, .f32⟩
  | .hbm, ⟨5, _⟩ => ⟨S8192x512, .bf16⟩
  | .hbm, ⟨6, _⟩ => ⟨S8192x512, .f32⟩
  | .hbm, ⟨7, _⟩ => ⟨S1x8192x512, .f32⟩
  | .hbm, ⟨8, _⟩ => ⟨S256x1024, .f32⟩
  | .hbm, ⟨9, _⟩ => ⟨S1x256x1024, .f32⟩
  | .hbm, ⟨10, _⟩ => ⟨S1x256x512, .f32⟩
  | .hbm, ⟨11, _⟩ => ⟨S1x256x4x128, .f32⟩
  | .hbm, ⟨12, _⟩ => ⟨S1x256x512, .f32⟩
  | .hbm, ⟨13, _⟩ => ⟨S1x256x4x128, .f32⟩
  | .hbm, ⟨14, _⟩ => ⟨S1x8192x4x128, .f32⟩
  | .hbm, ⟨15, _⟩ => ⟨S1x4x8192x256, .f32⟩
  | .hbm, ⟨16, _⟩ => ⟨S_, .f32⟩
  | .hbm, ⟨17, _⟩ => ⟨S1x4x8192x256, .f32⟩
  | .hbm, ⟨18, _⟩ => ⟨S1x4x8192x256, .f32⟩
  | .hbm, ⟨19, _⟩ => ⟨S_, .f32⟩
  | .hbm, ⟨20, _⟩ => ⟨S1x4x8192, .f32⟩
  | .hbm, ⟨21, _⟩ => ⟨S1x4x8192x1, .f32⟩
  | .hbm, ⟨22, _⟩ => ⟨S1x4x8192x256, .f32⟩
  | .hbm, ⟨23, _⟩ => ⟨S1x4x8192x256, .i1⟩
  | .hbm, ⟨24, _⟩ => ⟨S1x4x8192x256, .f32⟩
  | .hbm, ⟨25, _⟩ => ⟨S_, .f32⟩
  | .hbm, ⟨26, _⟩ => ⟨S1x4x8192, .f32⟩
  | .hbm, ⟨27, _⟩ => ⟨S_, .f32⟩
  | .hbm, ⟨28, _⟩ => ⟨S1x4x8192, .f32⟩
  | .hbm, ⟨29, _⟩ => ⟨S1x4x8192, .f32⟩
  | .hbm, ⟨30, _⟩ => ⟨S_, .f32⟩
  | .hbm, ⟨31, _⟩ => ⟨S1x4x8192, .f32⟩
  | .hbm, ⟨32, _⟩ => ⟨S1x4x8192, .i1⟩
  | .hbm, ⟨33, _⟩ => ⟨S_, .f32⟩
  | .hbm, ⟨34, _⟩ => ⟨S1x4x8192, .f32⟩
  | .hbm, ⟨35, _⟩ => ⟨S1x4x8192, .i1⟩
  | .hbm, ⟨36, _⟩ => ⟨S_, .f32⟩
  | .hbm, ⟨37, _⟩ => ⟨S1x4x8192, .f32⟩
  | .hbm, ⟨38, _⟩ => ⟨S_, .f32⟩
  | .hbm, ⟨39, _⟩ => ⟨S1x4x8192, .f32⟩
  | .hbm, ⟨40, _⟩ => ⟨S_, .f32⟩
  | .hbm, ⟨41, _⟩ => ⟨S1x4x8192, .f32⟩
  | .hbm, ⟨42, _⟩ => ⟨S1x4x8192, .f32⟩
  | .hbm, ⟨43, _⟩ => ⟨S1x4x8192, .f32⟩
  | .hbm, ⟨44, _⟩ => ⟨S1x4x8192x1, .f32⟩
  | .hbm, ⟨45, _⟩ => ⟨S1x4x8192x256, .f32⟩
  | .hbm, ⟨46, _⟩ => ⟨S1x4x8192x256, .f32⟩
  | .hbm, ⟨47, _⟩ => ⟨S1x4x8192x256, .f32⟩
  | .hbm, ⟨48, _⟩ => ⟨S_, .f32⟩
  | .hbm, ⟨49, _⟩ => ⟨S1x4x8192, .f32⟩
  | .hbm, ⟨50, _⟩ => ⟨S1x4x8192x1, .f32⟩
  | .hbm, ⟨51, _⟩ => ⟨S1x4x8192x256, .f32⟩
  | .hbm, ⟨52, _⟩ => ⟨S1x4x8192x256, .f32⟩
  | .hbm, ⟨53, _⟩ => ⟨S1x4x8192x1, .f32⟩
  | .hbm, ⟨54, _⟩ => ⟨S_, .f32⟩
  | .hbm, ⟨55, _⟩ => ⟨S1x4x8192x1, .f32⟩
  | .hbm, ⟨56, _⟩ => ⟨S1x4x8192x1, .f32⟩
  | .hbm, ⟨57, _⟩ => ⟨S1x4x128x8192, .f32⟩
  | .hbm, ⟨58, _⟩ => ⟨S1x8192x4x128, .f32⟩
  | .hbm, ⟨59, _⟩ => ⟨S1x8192x512, .f32⟩
  | .hbm, ⟨60, _⟩ => ⟨S1x8192x4x128, .f32⟩
  | .hbm, ⟨61, _⟩ => ⟨S1x4x128x8192, .f32⟩
  | .hbm, ⟨62, _⟩ => ⟨S1x4x8192x256, .f32⟩
  | .hbm, ⟨63, _⟩ => ⟨S1x4x128x256, .f32⟩
  | .hbm, ⟨64, _⟩ => ⟨S1x256x4x128, .f32⟩
  | .hbm, ⟨65, _⟩ => ⟨S1x4x8192x256, .f32⟩
  | .hbm, ⟨66, _⟩ => ⟨S1x4x8192x256, .f32⟩
  | .hbm, ⟨67, _⟩ => ⟨S1x4x8192x256, .f32⟩
  | .hbm, ⟨68, _⟩ => ⟨S_, .f32⟩
  | .hbm, ⟨69, _⟩ => ⟨S1x4x8192, .f32⟩
  | .hbm, ⟨70, _⟩ => ⟨S1x4x8192x1, .f32⟩
  | .hbm, ⟨71, _⟩ => ⟨S1x4x8192x1, .f32⟩
  | .hbm, ⟨72, _⟩ => ⟨S1x4x8192x256, .f32⟩
  | .hbm, ⟨73, _⟩ => ⟨S1x4x8192x256, .f32⟩
  | .hbm, ⟨74, _⟩ => ⟨S_, .f32⟩
  | .hbm, ⟨75, _⟩ => ⟨S4x8192, .f32⟩
  | .hbm, ⟨76, _⟩ => ⟨S1x4x8192, .f32⟩
  | .hbm, ⟨77, _⟩ => ⟨S1x4x8192x256, .f32⟩
  | .hbm, ⟨78, _⟩ => ⟨S1x4x8192x256, .f32⟩
  | .hbm, ⟨79, _⟩ => ⟨S1x4x8192x256, .f32⟩
  | .hbm, ⟨80, _⟩ => ⟨S_, .f32⟩
  | .hbm, ⟨81, _⟩ => ⟨S1x4x8192x256, .f32⟩
  | .hbm, ⟨82, _⟩ => ⟨S1x4x8192x256, .f32⟩
  | .hbm, ⟨83, _⟩ => ⟨S1x4x256x128, .f32⟩
  | .hbm, ⟨84, _⟩ => ⟨S1x256x4x128, .f32⟩
  | .hbm, ⟨85, _⟩ => ⟨S1x4x8192x128, .f32⟩
  | .hbm, ⟨86, _⟩ => ⟨S1x8192x4x128, .f32⟩
  | .hbm, ⟨87, _⟩ => ⟨S1x8192x512, .f32⟩
  | .hbm, ⟨88, _⟩ => ⟨S1x256x512, .f32⟩
  | .hbm, ⟨89, _⟩ => ⟨S_, .f32⟩
  | .hbm, ⟨90, _⟩ => ⟨S1x256x1024, .f32⟩
  | .hbm, ⟨91, _⟩ => ⟨S1x256x512, .f32⟩
  | .hbm, ⟨92, _⟩ => ⟨S_, .f32⟩
  | .hbm, ⟨93, _⟩ => ⟨S1x256x1024, .f32⟩
  | .hbm, ⟨94, _⟩ => ⟨S1x256x1024, .f32⟩
  | .hbm, ⟨95, _⟩ => ⟨S8192x512, .f32⟩
  | .hbm, ⟨96, _⟩ => ⟨S8192x512, .bf16⟩
  | .hbm, ⟨97, _⟩ => ⟨S256x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_cst_7 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_8 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_9 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_10 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_11 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_12 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_13 : Ref sig .tc := ⟨.hbm, 89, rfl⟩
abbrev main_v72 : Ref sig .tc := ⟨.hbm, 90, rfl⟩
abbrev main_v73 : Ref sig .tc := ⟨.hbm, 91, rfl⟩
abbrev main_cst_14 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩

abbrev nD : Nat := 1
abbrev τ : Topo := Topo.v7x

variable {F : FTy → Type} [FloatOps F]
-- ==== Kernel32.lean ====
abbrev S8192x1024 : Shape := ⟨2, ![8192, 1024]⟩
abbrev S8192x4096 : Shape := ⟨2, ![8192, 4096]⟩
abbrev S4x2688x1024 : Shape := ⟨3, ![4, 2688, 1024]⟩
abbrev S4096x512 : Shape := ⟨2, ![4096, 512]⟩
abbrev S4096x1024 : Shape := ⟨2, ![4096, 1024]⟩
abbrev S1x512x1024 : Shape := ⟨3, ![1, 512, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S4x2688x1024, .f32⟩
  | .hbm, ⟨3, _⟩ => ⟨S4x2688x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S1x512x1024, .f32⟩
  | .local _ .vmem, ⟨5, _⟩ => ⟨S1x512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![arg0.toNat, v0.toNat, c0_i32_0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference32Ideal.lean ====
abbrev S8192x1024 : Shape := ⟨2, ![8192, 1024]⟩
abbrev S8192x4096 : Shape := ⟨2, ![8192, 4096]⟩
abbrev S4x2688x1024 : Shape := ⟨3, ![4, 2688, 1024]⟩
abbrev S4096x1024 : Shape := ⟨2, ![4096, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S4x1664x1024 : Shape := ⟨3, ![4, 1664, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S4x2688x1024, .f32⟩
  | .hbm, ⟨3, _⟩ => ⟨S8192x1024, .f32⟩
  | .hbm, ⟨4, _⟩ => ⟨S8192x4096, .f32⟩
  | .hbm, ⟨5, _⟩ => ⟨S4096x1024, .f32⟩
  | .hbm, ⟨6, _⟩ => ⟨S1024x4096, .f32⟩
  | .hbm, ⟨7, _⟩ => ⟨S1024x4x1024, .f32⟩
  | .hbm, ⟨8, _⟩ => ⟨S4x1024x1024, .f32⟩
  | .hbm, ⟨9, _⟩ => ⟨S4x1664x1024, .f32⟩
  | .hbm, ⟨10, _⟩ => ⟨S4x2688x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel33.lean ====
abbrev S8192x4096 : Shape := ⟨2, ![8192, 4096]⟩
abbrev S8192x1024 : Shape := ⟨2, ![8192, 1024]⟩
abbrev S4x2688x1024 : Shape := ⟨3, ![4, 2688, 1024]⟩
abbrev S4096x512 : Shape := ⟨2, ![4096, 512]⟩
abbrev S4096x1024 : Shape := ⟨2, ![4096, 1024]⟩
abbrev S1x512x1024 : Shape := ⟨3, ![1, 512, 1024]⟩
abbrev S512x1024 : Shape := ⟨2, ![512, 1024]⟩
abbrev S4x1024x1024 : Shape := ⟨3, ![4, 1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4x2688x1024, .f32⟩
  | .hbm, ⟨3, _⟩ => ⟨S4x1024x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S1x512x1024, .f32⟩
  | .local _ .vmem, ⟨5, _⟩ => ⟨S1x512x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let v27 : BitVec 32 := Scalar.addi c2_i32_10 v26
  let c0_i32_11 : BitVec 32 := 0#32
  let c0_i32_12 : BitVec 32 := 0#32
  ![v16.toNat, v27.toNat, c0_i32_11.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference33Ideal.lean ====
abbrev S8192x4096 : Shape := ⟨2, ![8192, 4096]⟩
abbrev S8192x1024 : Shape := ⟨2, ![8192, 1024]⟩
abbrev S1024x4096 : Shape := ⟨2, ![1024, 4096]⟩
abbrev S4096x1024 : Shape := ⟨2, ![4096, 1024]⟩
abbrev S4x1024x1024 : Shape := ⟨3, ![4, 1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S8192x4096, .f32⟩
  | .hbm, ⟨3, _⟩ => ⟨S8192x1024, .f32⟩
  | .hbm, ⟨4, _⟩ => ⟨S1024x4096, .f32⟩
  | .hbm, ⟨5, _⟩ => ⟨S4096x1024, .f32⟩
  | .hbm, ⟨6, _⟩ => ⟨S4x1024x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel34.lean ====
abbrev S8192x2048 : Shape := ⟨2, ![8192, 2048]⟩
abbrev S8192 : Shape := ⟨1, ![8192]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S8192x48 : Shape := ⟨2, ![8192, 48]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S8192x1024 : Shape := ⟨2, ![8192, 1024]⟩
abbrev S8192x512 : Shape := ⟨2, ![8192, 512]⟩
abbrev S256x2048 : Shape := ⟨2, ![256, 2048]⟩
abbrev S256x128 : Shape := ⟨2, ![256, 128]⟩
abbrev S256x1024 : Shape := ⟨2, ![256, 1024]⟩
abbrev S256x512 : Shape := ⟨2, ![256, 512]⟩

abbrev nBuf : Space → Nat
  | .hbm => 38
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S8192, .i32⟩
  | .hbm, ⟨2, _⟩ => ⟨S8, .f32⟩
  | .hbm, ⟨3, _⟩ => ⟨S_, .f32⟩
  | .hbm, ⟨4, _⟩ => ⟨S8, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S8192, .f32⟩
  | .hbm, ⟨13, _⟩ => ⟨S8192x1, .f32⟩
  | .hbm, ⟨14, _⟩ => ⟨S1x8, .f32⟩
  | .hbm, ⟨15, _⟩ => ⟨S8192x8, .f32⟩
  | .hbm, ⟨16, _⟩ => ⟨S8192x8, .f32⟩
  | .hbm, ⟨17, _⟩ => ⟨S8192x8, .f32⟩
  | .hbm, ⟨18, _⟩ => ⟨S8192x8, .f32⟩
  | .hbm, ⟨19, _⟩ => ⟨S8192x8, .f32⟩
  | .hbm, ⟨20, _⟩ => ⟨S_, .f32⟩
  | .hbm, ⟨21, _⟩ => ⟨S8192x48, .f32⟩
  | .hbm, ⟨22, _⟩ => ⟨S8192x64, .f32⟩
  | .hbm, ⟨23, _⟩ => ⟨S8192x8, .f32⟩
  | .hbm, ⟨24, _⟩ => ⟨S_, .f32⟩
  | .hbm, ⟨25, _⟩ => ⟨S8192x48, .f32⟩
  | .hbm, ⟨26, _⟩ => ⟨S8192x48, .f32⟩
  | .hbm, ⟨27, _⟩ => ⟨S8192x64, .f32⟩
  | .hbm, ⟨28, _⟩ => ⟨S1x8192x1x64, .f32⟩
  | .hbm, ⟨29, _⟩ => ⟨S1x8192x2x64, .f32⟩
  | .hbm, ⟨30, _⟩ => ⟨S8192x128, .f32⟩
  | .hbm, ⟨31, _⟩ => ⟨S1x8192x1x64, .f32⟩
  | .hbm, ⟨32, _⟩ => ⟨S1x8192x2x64, .f32⟩
  | .hbm, ⟨33, _⟩ => ⟨S8192x128, .f32⟩
  | .hbm, ⟨34, _⟩ => ⟨S8192x1024, .bf16⟩
  | .hbm, ⟨35, _⟩ => ⟨S8192x512, .bf16⟩
  | .hbm, ⟨36, _⟩ => ⟨S8192x512, .bf16⟩
  | .hbm, ⟨37, _⟩ => ⟨S8192x1024, .bf16⟩
  | .local _ .vmem, ⟨0, _⟩ => ⟨S256x2048, .f32⟩
  | .local _ .vmem, ⟨1, _⟩ => ⟨S256x2048, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x1024, .bf16⟩
  | .local _ .vmem, ⟨7, _⟩ => ⟨S256x1024, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x1024, .bf16⟩
  | .local _ .vmem, ⟨13, _⟩ => ⟨S256x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27_0 : Ref sig .tc := ⟨.hbm, 34, rfl⟩
abbrev main_v27_1 : Ref sig .tc := ⟨.hbm, 35, rfl⟩
abbrev main_v27_2 : Ref sig .tc := ⟨.hbm, 36, rfl⟩
abbrev main_v27_3 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference34Ideal.lean ====
abbrev S8192x2048 : Shape := ⟨2, ![8192, 2048]⟩
abbrev S8192 : Shape := ⟨1, ![8192]⟩
abbrev S8192x1024 : Shape := ⟨2, ![8192, 1024]⟩
abbrev S8192x256 : Shape := ⟨2, ![8192, 256]⟩
abbrev S8192x512 : Shape := ⟨2, ![8192, 512]⟩
abbrev S8192x16x64 : Shape := ⟨3, ![8192, 16, 64]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S8192x1x8 : Shape := ⟨3, ![8192, 1, 8]⟩
abbrev S8192x16x8 : Shape := ⟨3, ![8192, 16, 8]⟩
abbrev S8192x16x48 : Shape := ⟨3, ![8192, 16, 48]⟩
abbrev S8192x4x64 : Shape := ⟨3, ![8192, 4, 64]⟩
abbrev S8192x4x8 : Shape := ⟨3, ![8192, 4, 8]⟩
abbrev S8192x4x48 : Shape := ⟨3, ![8192, 4, 48]⟩
abbrev S8192x4x128 : Shape := ⟨3, ![8192, 4, 128]⟩
abbrev S8192x4x256 : Shape := ⟨3, ![8192, 4, 256]⟩

abbrev nBuf : Space → Nat
  | .hbm => 93
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192, .i32⟩
  | .hbm, ⟨2, _⟩ => ⟨S8192x1024, .f32⟩
  | .hbm, ⟨3, _⟩ => ⟨S8192x256, .f32⟩
  | .hbm, ⟨4, _⟩ => ⟨S8192x256, .f32⟩
  | .hbm, ⟨5, _⟩ => ⟨S8192x512, .f32⟩
  | .hbm, ⟨6, _⟩ => ⟨S8192x16x64, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S8192, .f32⟩
  | .hbm, ⟨18, _⟩ => ⟨S8192x1, .f32⟩
  | .hbm, ⟨19, _⟩ => ⟨S1x8, .f32⟩
  | .hbm, ⟨20, _⟩ => ⟨S8192x8, .f32⟩
  | .hbm, ⟨21, _⟩ => ⟨S8192x8, .f32⟩
  | .hbm, ⟨22, _⟩ => ⟨S8192x8, .f32⟩
  | .hbm, ⟨23, _⟩ => ⟨S8192x8, .f32⟩
  | .hbm, ⟨24, _⟩ => ⟨S8192x1x8, .f32⟩
  | .hbm, ⟨25, _⟩ => ⟨S8192x8, .f32⟩
  | .hbm, ⟨26, _⟩ => ⟨S8192x1x8, .f32⟩
  | .hbm, ⟨27, _⟩ => ⟨S8192x16x8, .f32⟩
  | .hbm, ⟨28, _⟩ => ⟨S8192x16x8, .f32⟩
  | .hbm, ⟨29, _⟩ => ⟨S8192x16x8, .f32⟩
  | .hbm, ⟨30, _⟩ => ⟨S8192x16x8, .f32⟩
  | .hbm, ⟨31, _⟩ => ⟨S8192x16x8, .f32⟩
  | .hbm, ⟨32, _⟩ => ⟨S8192x16x8, .f32⟩
  | .hbm, ⟨33, _⟩ => ⟨S8192x16x8, .f32⟩
  | .hbm, ⟨34, _⟩ => ⟨S8192x16x8, .f32⟩
  | .hbm, ⟨35, _⟩ => ⟨S8192x16x8, .f32⟩
  | .hbm, ⟨36, _⟩ => ⟨S8192x16x8, .f32⟩
  | .hbm, ⟨37, _⟩ => ⟨S8192x16x8, .f32⟩
  | .hbm, ⟨38, _⟩ => ⟨S8192x16x8, .f32⟩
  | .hbm, ⟨39, _⟩ => ⟨S8192x16x48, .f32⟩
  | .hbm, ⟨40, _⟩ => ⟨S8192x16x64, .f32⟩
  | .hbm, ⟨41, _⟩ => ⟨S_, .f32⟩
  | .hbm, ⟨42, _⟩ => ⟨S8192x16x64, .f32⟩
  | .hbm, ⟨43, _⟩ => ⟨S8192x16x64, .f32⟩
  | .hbm, ⟨44, _⟩ => ⟨S8192x4x64, .f32⟩
  | .hbm, ⟨45, _⟩ => ⟨S8, .f32⟩
  | .hbm, ⟨46, _⟩ => ⟨S_, .f32⟩
  | .hbm, ⟨47, _⟩ => ⟨S8, .f32⟩
  | .hbm, ⟨48, _⟩ => ⟨S8, .f32⟩
  | .hbm, ⟨49, _⟩ => ⟨S_, .f32⟩
  | .hbm, ⟨50, _⟩ => ⟨S8, .f32⟩
  | .hbm, ⟨51, _⟩ => ⟨S8, .f32⟩
  | .hbm, ⟨52, _⟩ => ⟨S_, .f32⟩
  | .hbm, ⟨53, _⟩ => ⟨S8, .f32⟩
  | .hbm, ⟨54, _⟩ => ⟨S8, .f32⟩
  | .hbm, ⟨55, _⟩ => ⟨S8192, .f32⟩
  | .hbm, ⟨56, _⟩ => ⟨S8192x1, .f32⟩
  | .hbm, ⟨57, _⟩ => ⟨S1x8, .f32⟩
  | .hbm, ⟨58, _⟩ => ⟨S8192x8, .f32⟩
  | .hbm, ⟨59, _⟩ => ⟨S8192x8, .f32⟩
  | .hbm, ⟨60, _⟩ => ⟨S8192x8, .f32⟩
  | .hbm, ⟨61, _⟩ => ⟨S8192x8, .f32⟩
  | .hbm, ⟨62, _⟩ => ⟨S8192x1x8, .f32⟩
  | .hbm, ⟨63, _⟩ => ⟨S8192x8, .f32⟩
  | .hbm, ⟨64, _⟩ => ⟨S8192x1x8, .f32⟩
  | .hbm, ⟨65, _⟩ => ⟨S8192x4x8, .f32⟩
  | .hbm, ⟨66, _⟩ => ⟨S8192x4x8, .f32⟩
  | .hbm, ⟨67, _⟩ => ⟨S8192x4x8, .f32⟩
  | .hbm, ⟨68, _⟩ => ⟨S8192x4x8, .f32⟩
  | .hbm, ⟨69, _⟩ => ⟨S8192x4x8, .f32⟩
  | .hbm, ⟨70, _⟩ => ⟨S8192x4x8, .f32⟩
  | .hbm, ⟨71, _⟩ => ⟨S8192x4x8, .f32⟩
  | .hbm, ⟨72, _⟩ => ⟨S8192x4x8, .f32⟩
  | .hbm, ⟨73, _⟩ => ⟨S8192x4x8, .f32⟩
  | .hbm, ⟨74, _⟩ => ⟨S8192x4x8, .f32⟩
  | .hbm, ⟨75, _⟩ => ⟨S8192x4x8, .f32⟩
  | .hbm, ⟨76, _⟩ => ⟨S8192x4x8, .f32⟩
  | .hbm, ⟨77, _⟩ => ⟨S8192x4x48, .f32⟩
  | .hbm, ⟨78, _⟩ => ⟨S8192x4x64, .f32⟩
  | .hbm, ⟨79, _⟩ => ⟨S8192x4x64, .f32⟩
  | .hbm, ⟨80, _⟩ => ⟨S_, .f32⟩
  | .hbm, ⟨81, _⟩ => ⟨S8192x4x64, .f32⟩
  | .hbm, ⟨82, _⟩ => ⟨S8192x1024, .f32⟩
  | .hbm, ⟨83, _⟩ => ⟨S8192x1024, .bf16⟩
  | .hbm, ⟨84, _⟩ => ⟨S8192x4x128, .f32⟩
  | .hbm, ⟨85, _⟩ => ⟨S8192x512, .f32⟩
  | .hbm, ⟨86, _⟩ => ⟨S8192x512, .bf16⟩
  | .hbm, ⟨87, _⟩ => ⟨S8192x4x128, .f32⟩
  | .hbm, ⟨88, _⟩ => ⟨S8192x512, .f32⟩
  | .hbm, ⟨89, _⟩ => ⟨S8192x512, .bf16⟩
  | .hbm, ⟨90, _⟩ => ⟨S8192x4x256, .f32⟩
  | .hbm, ⟨91, _⟩ => ⟨S8192x1024, .f32⟩
  | .hbm, ⟨92, _⟩ => ⟨S8192x1024, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_cst_2 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_cst_3 : Ref sig .tc := ⟨.hbm, 46, rfl⟩
abbrev main_v40 : Ref sig .tc := ⟨.hbm, 47, rfl⟩
abbrev main_v41 : Ref sig .tc := ⟨.hbm, 48, rfl⟩
abbrev main_cst_4 : Ref sig .tc := ⟨.hbm, 49, rfl⟩
abbrev main_v42 : Ref sig .tc := ⟨.hbm, 50, rfl⟩
abbrev main_v43 : Ref sig .tc := ⟨.hbm, 51, rfl⟩
abbrev main_cst_5 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_cst_6 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩

abbrev nD : Nat := 1
abbrev τ : Topo := Topo.v7x

variable {F : FTy → Type} [FloatOps F]
-- ==== Proof.RowMath.lean ====
/-
  The mathematics of one row of the memory attention's gradient, over the extended reals.

  A row is the scores `s j` of one query against the memory's keys and the products `dp j` of the row's cotangent with
  the memory's values. The kernel forms the probabilities as `exp (s j - max s) * (1 / total)` and the scores' gradient
  as `prob * (dp - Σ prob * dp) * scale`; the reference differentiates the quotient `exp (s j - max s) / total`. Both
  are one function of finite scores (`refProb_eq`, `refDscore_eq`): no bound on `dp` is needed, since a nonnegative
  real factor distributes over every sum of extended reals.
-/
module

public import Idealize.ShloMosaic.PureOps.Ideal
public import Idealize.ShloMosaic.Lib.ValueIdx

@[expose] public section

noncomputable section

namespace Cert.MemAttn

open Idealize.ShloMosaic

/-! ## A real factor and sums of extended reals -/

/-- A nonnegative real factor goes into a sum of two extended reals. -/
theorem real_mul_add {a : ℝ} (ha : 0 ≤ a) (x y : EReal) : (a : EReal) * (x + y) = a * x + a * y :=
  EReal.left_distrib_of_nonneg_of_ne_top (EReal.coe_nonneg.mpr ha) (EReal.coe_ne_top a) x y

/-- A nonnegative real factor goes into a finite sum of extended reals. -/
theorem real_mul_sum {ι : Type} (S : Finset ι) {a : ℝ} (ha : 0 ≤ a) (f : ι → EReal) :
    (a : EReal) * ∑ j ∈ S, f j = ∑ j ∈ S, (a : EReal) * f j := by
  classical
  induction S using Finset.induction_on with
  | empty => simp
  | insert i S hi ih => rw [Finset.sum_insert hi, Finset.sum_insert hi, real_mul_add ha, ih]

/-- The sum of real numbers is the same sum among the extended reals. -/
theorem coe_sum {ι : Type} (S : Finset ι) (f : ι → ℝ) : ((∑ j ∈ S, f j : ℝ) : EReal) = ∑ j ∈ S, (f j : EReal) := by
  classical
  induction S using Finset.induction_on with
  | empty => simp
  | insert i S hi ih => rw [Finset.sum_insert hi, Finset.sum_insert hi, EReal.coe_add, ih]

/-- A quotient by a nonzero real is the product with its inverse. -/
theorem div_real {t : ℝ} (ht : t ≠ 0) (x : EReal) : Ideal.div x (t : EReal) = x * ((t⁻¹ : ℝ) : EReal) := by
  unfold Ideal.div
  rw [if_neg (by rw [← EReal.coe_zero]; exact fun h => ht (EReal.coe_eq_coe_iff.mp h)), EReal.coe_inv]

/-! ## A row of scores -/

variable {n : ℕ}

/-- The greatest score of the row (`⊥` when there is none). -/
def top (s : Fin n → EReal) : EReal := Finset.univ.fold max ⊥ s

/-- The exponential of a score less the greatest. -/
def expo (s : Fin n → EReal) (j : Fin n) : EReal := Ideal.exp (s j - top s)

/-- The row's total of the exponentials. -/
def total (s : Fin n → EReal) : EReal := ∑ j, expo s j

/-- The probability as the kernel forms it: the exponential times the reciprocal of the total. -/
def prob (s : Fin n → EReal) (j : Fin n) : EReal := expo s j * Ideal.div 1 (total s)

/-- The gradient of a score as the kernel forms it, `scale` times `prob * (dp - Σ prob * dp)`. -/
def dscore (scale : EReal) (s dp : Fin n → EReal) (j : Fin n) : EReal :=
  prob s j * (dp j - ∑ k, prob s k * dp k) * scale

/-- The probability as the reference forms it: the quotient. -/
def refProb (s : Fin n → EReal) (j : Fin n) : EReal := Ideal.div (expo s j) (total s)

/-- The gradient of a score as the reference forms it: the quotient's derivative times the exponential's. -/
def refDscore (scale : EReal) (s dp : Fin n → EReal) (j : Fin n) : EReal :=
  (Ideal.div (dp j) (total s) + -(∑ k, dp k * Ideal.div 1 (total s * total s) * expo s k)) * expo s j * scale

/-- A finite score. -/
def Finite (x : EReal) : Prop := x ≠ ⊥ ∧ x ≠ ⊤

theorem Finite.coe {x : EReal} (h : Finite x) : ∃ r : ℝ, x = (r : EReal) :=
  ⟨x.toReal, (EReal.coe_toReal h.2 h.1).symm⟩

theorem finite_coe (r : ℝ) : Finite (r : EReal) := ⟨EReal.coe_ne_bot r, EReal.coe_ne_top r⟩

theorem Finite.mul {x y : EReal} (hx : Finite x) (hy : Finite y) : Finite (x * y) := by
  obtain ⟨a, rfl⟩ := hx.coe
  obtain ⟨b, rfl⟩ := hy.coe
  rw [← EReal.coe_mul]
  exact finite_coe _

theorem finite_sum {ι : Type} (S : Finset ι) (f : ι → EReal) (h : ∀ j, Finite (f j)) : Finite (∑ j ∈ S, f j) := by
  choose g hg using fun j => (h j).coe
  rw [show f = fun j => ((g j : ℝ) : EReal) from funext hg, ← coe_sum]
  exact finite_coe _

/-- The greatest of finitely many finite scores, one at least, is finite. -/
theorem finite_top (s : Fin (n + 1) → EReal) (h : ∀ j, Finite (s j)) : Finite (top s) := by
  have hle : s 0 ≤ top s := by
    unfold top
    rw [Finset.le_fold_max]
    exact Or.inr ⟨0, Finset.mem_univ _, le_rfl⟩
  have hlt : top s < ⊤ := by
    unfold top
    rw [Finset.fold_max_lt]
    exact ⟨bot_lt_top, fun j _ => lt_top_iff_ne_top.mpr (h j).2⟩
  exact ⟨fun hb => (h 0).1 (le_bot_iff.mp (hb ▸ hle)), hlt.ne⟩

/-- The exponentials of a finite row are positive reals. -/
theorem expo_real (s : Fin (n + 1) → EReal) (h : ∀ j, Finite (s j)) :
    ∃ e : Fin (n + 1) → ℝ, (∀ j, 0 < e j) ∧ ∀ j, expo s j = (e j : EReal) := by
  obtain ⟨M, hM⟩ := (finite_top s h).coe
  choose g hg using fun j => (h j).coe
  refine ⟨fun j => Real.exp (g j - M), fun j => Real.exp_pos _, fun j => ?_⟩
  unfold expo
  rw [hM, hg j, ← EReal.coe_sub]
  rfl

/-- The total of a finite row's exponentials is a positive real. -/
theorem total_real (s : Fin (n + 1) → EReal) (h : ∀ j, Finite (s j)) : ∃ t : ℝ, 0 < t ∧ total s = (t : EReal) := by
  obtain ⟨e, he, hs⟩ := expo_real s h
  refine ⟨∑ j, e j, Finset.sum_pos (fun j _ => he j) ⟨0, Finset.mem_univ _⟩, ?_⟩
  unfold total
  rw [coe_sum]
  exact Finset.sum_congr rfl fun j _ => hs j

/-- The two probabilities of a finite row are equal. -/
theorem refProb_eq (s : Fin (n + 1) → EReal) (h : ∀ j, Finite (s j)) (j : Fin (n + 1)) : refProb s j = prob s j := by
  obtain ⟨t, ht, hs⟩ := total_real s h
  unfold refProb prob
  rw [hs, div_real ht.ne', div_real ht.ne', one_mul]

/-- The two gradients of a finite row's scores are equal, whatever the cotangent's products are. -/
theorem refDscore_eq (scale : EReal) (s dp : Fin (n + 1) → EReal) (h : ∀ j, Finite (s j)) (j : Fin (n + 1)) :
    refDscore scale s dp j = dscore scale s dp j := by
  obtain ⟨t, ht, hs⟩ := total_real s h
  obtain ⟨e, he, hx⟩ := expo_real s h
  have hti : 0 ≤ t⁻¹ := (inv_pos.mpr ht).le
  have hp : ∀ k, prob s k = ((e k * t⁻¹ : ℝ) : EReal) := fun k => by
    unfold prob
    rw [hs, hx, div_real ht.ne', one_mul, EReal.coe_mul]
  have hY : (∑ k, dp k * Ideal.div 1 (total s * total s) * expo s k)
      = ((t⁻¹ : ℝ) : EReal) * ∑ k, prob s k * dp k := by
    rw [real_mul_sum _ hti]
    refine Finset.sum_congr rfl fun k _ => ?_
    rw [hp, hs, hx, ← EReal.coe_mul, div_real (mul_pos ht ht).ne', one_mul, mul_assoc, mul_comm (dp k), ← EReal.coe_mul,
      ← mul_assoc, ← EReal.coe_mul]
    congr 2
    rw [mul_inv]
    ring
  unfold refDscore dscore
  rw [hY, hp, hs, hx, div_real ht.ne', sub_eq_add_neg]
  congr 1
  generalize (∑ k, prob s k * dp k) = X
  rw [mul_comm _ ((e j : ℝ) : EReal), real_mul_add (he j).le, real_mul_add (mul_pos (he j) (inv_pos.mpr ht)).le,
    EReal.coe_mul, mul_comm (dp j), ← mul_assoc, mul_neg, mul_neg, ← mul_assoc]

/-! ## A row of the attention: its scores and what it adds to the gradients -/

/-- The factor of the scores, `1 / sqrt 128` as the programs round it. -/
def scale : EReal := Ideal.ofBits .f32 0x3DB504F3#32

/-- A query's scores against the keys. -/
def scores (q : Fin 128 → EReal) (K : Fin n → Fin 128 → EReal) : Fin n → EReal :=
  fun j => (∑ x, q x * K j x) * scale

/-- A cotangent's products with the values. -/
def dots (o : Fin 128 → EReal) (V : Fin n → Fin 128 → EReal) : Fin n → EReal := fun j => ∑ x, o x * V j x

/-- The gradients of a row's scores: query `q`, cotangent `o`, keys `K`, values `V`. -/
def rowDs (K V : Fin n → Fin 128 → EReal) (q o : Fin 128 → EReal) : Fin n → EReal :=
  dscore scale (scores q K) (dots o V)

/-- The gradient of the row's query. -/
def rowDq (K V : Fin n → Fin 128 → EReal) (q o : Fin 128 → EReal) (d : Fin 128) : EReal :=
  ∑ j, rowDs K V q o j * K j d

/-- What the row adds to the gradient of key `j`. -/
def rowDk (K V : Fin n → Fin 128 → EReal) (q o : Fin 128 → EReal) (j : Fin n) (d : Fin 128) : EReal :=
  rowDs K V q o j * q d

/-- What the row adds to the gradient of value `j`. -/
def rowDv (K : Fin n → Fin 128 → EReal) (q o : Fin 128 → EReal) (j : Fin n) (d : Fin 128) : EReal :=
  prob (scores q K) j * o d

/-- The bits of minus infinity denote `⊥`. -/
theorem ofBits_neg_inf : Ideal.ofBits .f32 0xFF800000#32 = ⊥ := by
  simp [Ideal.ofBits, Ideal.ieee]

/-- The scores' factor is a real number. -/
theorem finite_scale : Finite scale := by
  unfold scale Ideal.ofBits Ideal.ieee
  simp only []
  rw [if_neg (by decide), if_neg (by decide)]
  exact finite_coe _

/-- The scores of a finite query against finite keys are finite. -/
theorem finite_scores (q : Fin 128 → EReal) (K : Fin n → Fin 128 → EReal) (hq : ∀ x, Finite (q x))
    (hK : ∀ j x, Finite (K j x)) (j : Fin n) : Finite (scores q K j) :=
  (finite_sum _ _ fun x => (hq x).mul (hK j x)).mul finite_scale

end Cert.MemAttn

end
-- ==== Proof.Spec.lean ====
/-
  Where the heads lie in the arrays: the four heads' queries are the columns 2048–2559 of the layer's combined projection,
  their keys and values the two halves of the projected memory, their cotangents the columns 1024–1535 of the cotangent
  of the concatenated outputs. And the four results, at an index.
-/
module

public import proofs.«01_k».proof.Proof.RowMath
public import Idealize.ShloMosaic.Lib.Pointwise

@[expose] public section

noncomputable section

open Idealize.ShloMosaic

namespace Cert.MemAttn

/-- Column `x` of head `h` among the queries' (and the cotangent's) 512 columns. -/
def qc (h : Fin 4) (x : Fin 128) : Fin 512 := ⟨128 * h.val + x.val, by omega⟩

/-- Column `x` of head `h` among the keys, the first half of the memory's 1024 columns. -/
def kc (h : Fin 4) (x : Fin 128) : Fin 1024 := ⟨128 * h.val + x.val, by omega⟩

/-- Column `x` of head `h` among the values, the second half. -/
def vc (h : Fin 4) (x : Fin 128) : Fin 1024 := ⟨512 + 128 * h.val + x.val, by omega⟩

/-- Column `x` of head `h`'s queries in the combined projection. -/
def pc (h : Fin 4) (x : Fin 128) : Fin 2560 := ⟨2048 + 128 * h.val + x.val, by omega⟩

/-- Column `x` of head `h`'s cotangent. -/
def cc (h : Fin 4) (x : Fin 128) : Fin 1536 := ⟨1024 + 128 * h.val + x.val, by omega⟩

/-- Every one of the 512 columns is some head's. -/
theorem qc_onto (y : Fin 512) : ∃ h x, y = qc h x :=
  ⟨⟨y.val / 128, by omega⟩, ⟨y.val % 128, by omega⟩, Fin.ext (by show y.val = 128 * (y.val / 128) + y.val % 128; omega)⟩

/-- Every one of the 1024 columns is some head's key column or value column. -/
theorem kv_onto (y : Fin 1024) : (∃ h x, y = kc h x) ∨ ∃ h x, y = vc h x := by
  rcases Nat.lt_or_ge y.val 512 with hy | hy
  · exact Or.inl ⟨⟨y.val / 128, by omega⟩, ⟨y.val % 128, by omega⟩, Fin.ext (by show y.val = 128 * (y.val / 128) + y.val % 128; omega)⟩
  · exact Or.inr ⟨⟨(y.val - 512) / 128, by omega⟩, ⟨(y.val - 512) % 128, by omega⟩,
      Fin.ext (by show y.val = 512 + 128 * ((y.val - 512) / 128) + (y.val - 512) % 128; omega)⟩

/-- Head `h`'s keys. -/
def keys (M : (⟨2, ![256, 1024]⟩ : Shape).Idx → EReal) (h : Fin 4) : Fin 256 → Fin 128 → EReal := fun j x => M (ix2 j (kc h x))

/-- Head `h`'s values. -/
def vals (M : (⟨2, ![256, 1024]⟩ : Shape).Idx → EReal) (h : Fin 4) : Fin 256 → Fin 128 → EReal := fun j x => M (ix2 j (vc h x))

/-- Head `h` of row `r`'s query. -/
def query (P : (⟨2, ![8192, 2560]⟩ : Shape).Idx → EReal) (h : Fin 4) (r : Fin 8192) : Fin 128 → EReal := fun x => P (ix2 r (pc h x))

/-- Head `h` of row `r`'s cotangent. -/
def cotan (D : (⟨2, ![8192, 1536]⟩ : Shape).Idx → EReal) (h : Fin 4) (r : Fin 8192) : Fin 128 → EReal := fun x => D (ix2 r (cc h x))

section
variable (P : (⟨2, ![8192, 2560]⟩ : Shape).Idx → EReal) (M : (⟨2, ![256, 1024]⟩ : Shape).Idx → EReal)
  (D : (⟨2, ![8192, 1536]⟩ : Shape).Idx → EReal) (h : Fin 4)

/-- The queries' gradient: each row's. -/
def dqAt (r : Fin 8192) (d : Fin 128) : EReal := rowDq (keys M h) (vals M h) (query P h r) (cotan D h r) d

/-- The keys' gradient: the sum of all rows'. -/
def dkAt (j : Fin 256) (d : Fin 128) : EReal := ∑ r, rowDk (keys M h) (vals M h) (query P h r) (cotan D h r) j d

/-- The values' gradient: the sum of all rows'. -/
def dvAt (j : Fin 256) (d : Fin 128) : EReal := ∑ r, rowDv (keys M h) (query P h r) (cotan D h r) j d

/-- The array of the queries' gradient: all heads side by side. -/
def dqArr (y : (⟨2, ![8192, 512]⟩ : Shape).Idx) : EReal :=
  dqAt P M D ⟨(y 1).val / 128, by have : (y 1).val < 512 := (y 1).isLt; omega⟩ (y 0) ⟨(y 1).val % 128, by omega⟩

/-- The array of the keys' gradients, then the values': all heads side by side. -/
def dkvArr (y : (⟨2, ![256, 1024]⟩ : Shape).Idx) : EReal :=
  if (y 1).val < 512 then dkAt P M D ⟨(y 1).val / 128 % 4, by omega⟩ (y 0) ⟨(y 1).val % 128, by omega⟩
  else dvAt P M D ⟨(y 1).val / 128 % 4, by omega⟩ (y 0) ⟨(y 1).val % 128, by omega⟩

theorem dqArr_qc (r : Fin 8192) (d : Fin 128) : dqArr P M D (ix2 r (qc h d)) = dqAt P M D h r d := by
  show dqAt P M D ⟨(128 * h.val + d.val) / 128, _⟩ r ⟨(128 * h.val + d.val) % 128, _⟩ = _
  congr 1 <;> apply Fin.ext <;> dsimp only <;> omega

theorem dkvArr_kc (j : Fin 256) (d : Fin 128) : dkvArr P M D (ix2 j (kc h d)) = dkAt P M D h j d := by
  have e : (kc h d).val = 128 * h.val + d.val := rfl
  refine (if_pos (show (kc h d).val < 512 by omega)).trans ?_
  show dkAt P M D ⟨(128 * h.val + d.val) / 128 % 4, _⟩ j ⟨(128 * h.val + d.val) % 128, _⟩ = _
  congr 1 <;> apply Fin.ext <;> dsimp only <;> omega

theorem dkvArr_vc (j : Fin 256) (d : Fin 128) : dkvArr P M D (ix2 j (vc h d)) = dvAt P M D h j d := by
  have e : (vc h d).val = 512 + 128 * h.val + d.val := rfl
  refine (if_neg (show ¬ (vc h d).val < 512 by omega)).trans ?_
  show dvAt P M D ⟨(512 + 128 * h.val + d.val) / 128 % 4, _⟩ j ⟨(512 + 128 * h.val + d.val) % 128, _⟩ = _
  congr 1 <;> apply Fin.ext <;> dsimp only <;> omega

end

end Cert.MemAttn

end
-- ==== Proof.Block.lean ====
/-
  What one grid point of the kernel leaves in its two result blocks, at an index: the queries' gradient is each row's
  `rowDq`, and the accumulator of the keys' and the values' gradients ends at what it held plus the block's 512 rows'
  `rowDk` and `rowDv`. The body treats its four heads one after the other with one text; the heads' values are read by
  one set of lemmas.
-/
module

public import proofs.«01_k».proof.Proof.Gen.KernelIdeal.Value
public import proofs.«01_k».proof.Proof.Spec
public import Idealize.ShloMosaic.Lib.Pipeline.Value
public import Idealize.ShloMosaic.Lib.Pipeline.ValueKit
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.KernelIdeal.Block

open Cert.KernelIdeal Cert.KernelIdeal.Gen Cert.MemAttn

/-! ## Columns -/

/-- Head `h` of row `r` of a block of queries or cotangents. -/
def rowOf (X : S512x512.Idx → EReal) (h : Fin 4) (r : Fin 512) : Fin 128 → EReal := fun x => X (ix2 r (qc h x))

/-! ## Loads and stores of 128 columns -/

section Columns
variable {Val : EltTy → Type} {e : EltTy} {R C o : ℕ}

/-- A load of the 128 columns at `o` reads column `o + x`. -/
theorem ld_cols (X : (⟨2, ![R, C]⟩ : Shape).Idx → Val e) (inb) (r : Fin R) (x : Fin 128) (c : Fin C) (hc : c.val = o + x.val) :
    View.ld X (Rect.unit (s := ⟨2, ![R, C]⟩) ![0, o] ![R, 128] inb) (ix2 r x) = X (ix2 r c) :=
  View.ld_unit_apply_of X _ _ inb _ _ fun a => match a with
    | ⟨0, _⟩ => (Nat.zero_add _).symm
    | ⟨1, _⟩ => hc

variable [∀ e, Nonempty (Val e)]

/-- A store of the 128 columns at `o` is what its own columns hold; -/
theorem canon_hit (inb) (w : (Rect.unit (s := ⟨2, ![R, C]⟩) ![0, o] ![R, 128] inb).shape.Idx → Val e)
    (L : List (View.Piece Val ⟨2, ![R, C]⟩ e)) (r : Fin R) (c : Fin C) (x : Fin 128) (hc : c.val = o + x.val) :
    View.canon (⟨Rect.unit (s := ⟨2, ![R, C]⟩) ![0, o] ![R, 128] inb, w⟩ :: L) (ix2 r c) = w (ix2 r x) := by
  have h : (Rect.unit (s := ⟨2, ![R, C]⟩) ![0, o] ![R, 128] inb).emb (ix2 r x) = ix2 r c :=
    funext fun a => Fin.ext ((Rect.idx_unit_val _ _ inb _ a).trans (match a with
      | ⟨0, _⟩ => Nat.zero_add _
      | ⟨1, _⟩ => hc.symm))
  rw [← h]
  exact View.canon_cons_emb _ w L _

/-- the other columns hold what the earlier stores left. -/
theorem canon_miss (inb) (w : (Rect.unit (s := ⟨2, ![R, C]⟩) ![0, o] ![R, 128] inb).shape.Idx → Val e)
    (L : List (View.Piece Val ⟨2, ![R, C]⟩ e)) (r : Fin R) (c : Fin C) (hc : c.val < o ∨ o + 128 ≤ c.val) :
    View.canon (⟨Rect.unit (s := ⟨2, ![R, C]⟩) ![0, o] ![R, 128] inb, w⟩ :: L) (ix2 r c) = View.canon L (ix2 r c) := by
  refine View.canon_cons_of_not_mem _ L fun hm => ?_
  have h := (Rect.mem_set_unit (inb := inb).mp hm) (1 : Fin 2)
  have h1 : o ≤ c.val := h.1
  have h2 : c.val < o + 128 := h.2
  omega

end Columns

section ReadBack
variable {Val : EltTy → Type} {e : EltTy} [∀ e, Nonempty (Val e)] {sig' : RefSig} {κ : Kind} {sp : Space} {o o' : ℕ}

/-- A load of 128 columns after a store of 128 other columns reads what the earlier stores left. -/
theorem readCov_other (v : View sig' κ sp S256x1024 e) (inb inb')
    (w : (Rect.unit (s := S256x1024) ![0, o] ![256, 128] inb).shape.Idx → Val e) (L : List (View.Piece Val S256x1024 e))
    (h : o + 128 ≤ o' ∨ o' + 128 ≤ o) :
    v.readCov (⟨Rect.unit (s := S256x1024) ![0, o] ![256, 128] inb, w⟩ :: L) (Rect.unit (s := S256x1024) ![0, o'] ![256, 128] inb').toLoadRect
      = v.readCov L (Rect.unit (s := S256x1024) ![0, o'] ![256, 128] inb').toLoadRect := by
  rw [View.readCov_eq_canon', View.readCov_eq_canon']
  funext j
  refine View.canon_cons_of_not_mem _ L fun hm => ?_
  have h' := (Rect.mem_set_unit (inb := inb).mp hm) (1 : Fin 2)
  have e1 : ((Rect.unit (s := S256x1024) ![0, o'] ![256, 128] inb').idx j (1 : Fin 2) : ℕ) = o' + (j (1 : Fin 2)).val :=
    Rect.idx_unit_val _ _ inb' j (1 : Fin 2)
  have hj : (j (1 : Fin 2)).val < 128 := (j (1 : Fin 2)).isLt
  have h1 : o ≤ ((Rect.unit (s := S256x1024) ![0, o'] ![256, 128] inb').idx j (1 : Fin 2) : ℕ) := h'.1
  have h2 : ((Rect.unit (s := S256x1024) ![0, o'] ![256, 128] inb').idx j (1 : Fin 2) : ℕ) < o + 128 := h'.2
  omega

/-- A load of 128 columns after one store of the whole array reads that store. -/
theorem readCov_whole (v : View sig' κ sp S256x1024 e) (inb inb') (w : S256x1024.Idx → Val e) (L : List (View.Piece Val S256x1024 e)) :
    v.readCov (⟨Rect.unit (s := S256x1024) ![0, 0] ![256, 1024] inb, w⟩ :: L) (Rect.unit (s := S256x1024) ![0, o'] ![256, 128] inb').toLoadRect
      = View.ld w (Rect.unit (s := S256x1024) ![0, o'] ![256, 128] inb') := by
  rw [View.readCov_eq_canon', View.canon_cons_unit_zero (S := S256x1024) (funext fun a => by fin_cases a <;> rfl)]

end ReadBack

/-! ## The stores of all heads -/

/-- Four stores of 128 columns, one per head: head `h`'s columns are what its own store wrote. -/
theorem canon_four {Val : EltTy → Type} {e : EltTy} [∀ e, Nonempty (Val e)] (i0 i1 i2 i3) (w0 w1 w2 w3 : S512x128.Idx → Val e)
    (h : Fin 4) (r : Fin 512) (d : Fin 128) :
    View.canon (s := S512x512) (e := e) (Val := Val) [⟨Rect.unit (s := S512x512) ![0, 384] ![512, 128] i3, w3⟩, ⟨Rect.unit (s := S512x512) ![0, 256] ![512, 128] i2, w2⟩,
      ⟨Rect.unit (s := S512x512) ![0, 128] ![512, 128] i1, w1⟩, ⟨Rect.unit (s := S512x512) ![0, 0] ![512, 128] i0, w0⟩] (ix2 r (qc h d))
      = ![w0, w1, w2, w3] h (ix2 r d) := by
  match h with
  | 0 =>
    have e : (qc 0 d).val = 128 * 0 + d.val := rfl
    repeat rw [canon_miss _ _ _ _ _ (by omega)]
    rw [canon_hit _ _ _ _ _ d (by omega)]
    rfl
  | 1 =>
    have e : (qc 1 d).val = 128 * 1 + d.val := rfl
    repeat rw [canon_miss _ _ _ _ _ (by omega)]
    rw [canon_hit _ _ _ _ _ d (by omega)]
    rfl
  | 2 =>
    have e : (qc 2 d).val = 128 * 2 + d.val := rfl
    repeat rw [canon_miss _ _ _ _ _ (by omega)]
    rw [canon_hit _ _ _ _ _ d (by omega)]
    rfl
  | 3 =>
    have e : (qc 3 d).val = 128 * 3 + d.val := rfl
    repeat rw [canon_miss _ _ _ _ _ (by omega)]
    rw [canon_hit _ _ _ _ _ d (by omega)]
    rfl

/-- Eight stores of 128 columns, the keys' and the values' of each head in turn: head `h`'s key columns are what their own store wrote. -/
theorem canon_eight_kc {Val : EltTy → Type} {e : EltTy} [∀ e, Nonempty (Val e)] (k0 k1 k2 k3 v0 v1 v2 v3)
    (w0 w1 w2 w3 y0 y1 y2 y3 : S256x128.Idx → Val e) (L : List (View.Piece Val S256x1024 e)) (h : Fin 4) (r : Fin 256) (d : Fin 128) :
    View.canon (⟨Rect.unit (s := S256x1024) ![0, 896] ![256, 128] v3, y3⟩ :: ⟨Rect.unit (s := S256x1024) ![0, 384] ![256, 128] k3, w3⟩ ::
      ⟨Rect.unit (s := S256x1024) ![0, 768] ![256, 128] v2, y2⟩ :: ⟨Rect.unit (s := S256x1024) ![0, 256] ![256, 128] k2, w2⟩ ::
      ⟨Rect.unit (s := S256x1024) ![0, 640] ![256, 128] v1, y1⟩ :: ⟨Rect.unit (s := S256x1024) ![0, 128] ![256, 128] k1, w1⟩ ::
      ⟨Rect.unit (s := S256x1024) ![0, 512] ![256, 128] v0, y0⟩ :: ⟨Rect.unit (s := S256x1024) ![0, 0] ![256, 128] k0, w0⟩ ::
      L) (ix2 r (kc h d))
      = ![w0, w1, w2, w3] h (ix2 r d) := by
  match h with
  | 0 =>
    have e : (kc 0 d).val = 128 * 0 + d.val := rfl
    repeat rw [canon_miss _ _ _ _ _ (by omega)]
    rw [canon_hit _ _ _ _ _ d (by omega)]
    rfl
  | 1 =>
    have e : (kc 1 d).val = 128 * 1 + d.val := rfl
    repeat rw [canon_miss _ _ _ _ _ (by omega)]
    rw [canon_hit _ _ _ _ _ d (by omega)]
    rfl
  | 2 =>
    have e : (kc 2 d).val = 128 * 2 + d.val := rfl
    repeat rw [canon_miss _ _ _ _ _ (by omega)]
    rw [canon_hit _ _ _ _ _ d (by omega)]
    rfl
  | 3 =>
    have e : (kc 3 d).val = 128 * 3 + d.val := rfl
    repeat rw [canon_miss _ _ _ _ _ (by omega)]
    rw [canon_hit _ _ _ _ _ d (by omega)]
    rfl

/-- Eight stores of 128 columns, the keys' and the values' of each head in turn: head `h`'s value columns are what their own store wrote. -/
theorem canon_eight_vc {Val : EltTy → Type} {e : EltTy} [∀ e, Nonempty (Val e)] (k0 k1 k2 k3 v0 v1 v2 v3)
    (w0 w1 w2 w3 y0 y1 y2 y3 : S256x128.Idx → Val e) (L : List (View.Piece Val S256x1024 e)) (h : Fin 4) (r : Fin 256) (d : Fin 128) :
    View.canon (⟨Rect.unit (s := S256x1024) ![0, 896] ![256, 128] v3, y3⟩ :: ⟨Rect.unit (s := S256x1024) ![0, 384] ![256, 128] k3, w3⟩ ::
      ⟨Rect.unit (s := S256x1024) ![0, 768] ![256, 128] v2, y2⟩ :: ⟨Rect.unit (s := S256x1024) ![0, 256] ![256, 128] k2, w2⟩ ::
      ⟨Rect.unit (s := S256x1024) ![0, 640] ![256, 128] v1, y1⟩ :: ⟨Rect.unit (s := S256x1024) ![0, 128] ![256, 128] k1, w1⟩ ::
      ⟨Rect.unit (s := S256x1024) ![0, 512] ![256, 128] v0, y0⟩ :: ⟨Rect.unit (s := S256x1024) ![0, 0] ![256, 128] k0, w0⟩ ::
      L) (ix2 r (vc h d))
      = ![y0, y1, y2, y3] h (ix2 r d) := by
  match h with
  | 0 =>
    have e : (vc 0 d).val = 512 + 128 * 0 + d.val := rfl
    repeat rw [canon_miss _ _ _ _ _ (by omega)]
    rw [canon_hit _ _ _ _ _ d (by omega)]
    rfl
  | 1 =>
    have e : (vc 1 d).val = 512 + 128 * 1 + d.val := rfl
    repeat rw [canon_miss _ _ _ _ _ (by omega)]
    rw [canon_hit _ _ _ _ _ d (by omega)]
    rfl
  | 2 =>
    have e : (vc 2 d).val = 512 + 128 * 2 + d.val := rfl
    repeat rw [canon_miss _ _ _ _ _ (by omega)]
    rw [canon_hit _ _ _ _ _ d (by omega)]
    rfl
  | 3 =>
    have e : (vc 3 d).val = 512 + 128 * 3 + d.val := rfl
    repeat rw [canon_miss _ _ _ _ _ (by omega)]
    rw [canon_hit _ _ _ _ _ d (by omega)]
    rfl

/-! ## The payloads of one head -/

section Payloads
variable (q : Vec Ideal S512x128 .f32) (k v : Vec Ideal S256x128 .bf16) (o : Vec Ideal S512x128 .bf16)

/-- Row `r` of a 128-column array. -/
abbrev row {R : ℕ} (X : (⟨2, ![R, 128]⟩ : Shape).Idx → EReal) (r : Fin R) : Fin 128 → EReal := fun x => X (ix2 r x)

/-- The probabilities. -/
theorem pay5_apply (r : Fin 512) (j : Fin 256) : k0_pay5 q k (ix2 r j) = prob (scores (row q r) (row k)) j := by
  unfold_payloads
  pointwise
  rw [ofBits_neg_inf]
  rfl

/-- The gradients of the scores. -/
theorem pay6_apply (r : Fin 512) (j : Fin 256) : k0_pay6 q k o v (ix2 r j) = rowDs (row k) (row v) (row q r) (row o r) j := by
  unfold_payloads
  pointwise
  rw [ofBits_neg_inf]
  rfl

/-- The gradients of the queries. -/
theorem pay7_apply (r : Fin 512) (d : Fin 128) : k0_pay7 q k o v k (ix2 r d) = rowDq (row k) (row v) (row q r) (row o r) d := by
  unfold k0_pay7
  generalize hp : k0_pay6 q k o v = p
  pointwise
  unfold rowDq
  refine Finset.sum_congr rfl fun j _ => ?_
  rw [← hp, pay6_apply]

/-- The accumulator of the keys' gradients. -/
theorem pay8_apply (a : Vec Ideal S256x128 .f32) (j : Fin 256) (d : Fin 128) :
    k0_pay8 (k0_pay4 q) (k0_pay6 q k o v) a (ix2 j d)
      = a (ix2 j d) + ∑ r, rowDk (row k) (row v) (row q r) (row o r) j d := by
  unfold k0_pay8 k0_pay4
  generalize hp : k0_pay6 q k o v = p
  pointwise
  refine congrArg (_ + ·) (Finset.sum_congr rfl fun r _ => ?_)
  rw [← hp, pay6_apply]
  rfl

/-- The accumulator of the values' gradients. -/
theorem pay9_apply (a : Vec Ideal S256x128 .f32) (j : Fin 256) (d : Fin 128) :
    k0_pay9 (k0_pay5 q k) o a (ix2 j d) = a (ix2 j d) + ∑ r, rowDv (row k) (row q r) (row o r) j d := by
  unfold k0_pay9
  generalize hp : k0_pay5 q k = p
  pointwise
  refine congrArg (_ + ·) (Finset.sum_congr rfl fun r _ => ?_)
  rw [← hp, pay5_apply]
  rfl

end Payloads

/-- The accumulator starts at zero. -/
theorem pay3_zero (j : Fin 256) (y : Fin 1024) : k0_pay3 (F := Ideal) (ix2 j y) = 0 := by
  unfold_payloads
  pointwise

/-! ## The four heads -/

section Point
variable (c : Dev nD) (i : grid0.Coords) (a1 : Memref sig .tc .vmem S512x512 .f32) (h1 : a1.IsWhole)
  (a2 : Memref sig .tc .vmem S256x1024 .bf16) (h2 : a2.IsWhole) (a3 : Memref sig .tc .vmem S512x512 .bf16) (h3 : a3.IsWhole)
  (a4 : Memref sig .tc .vmem S512x512 .bf16) (h4 : a4.IsWhole) (a5 : Memref sig .tc .vmem S256x1024 .f32) (h5 : a5.IsWhole)
  (x0 : Vec Ideal S512x512 .f32) (x1 : Vec Ideal S256x1024 .bf16) (x2 : Vec Ideal S512x512 .bf16)

/-- The loads of head `h`'s columns of a block of rows are the block's rows of that head. -/
theorem row_ld (X : S512x512.Idx → EReal) {o : ℕ} (inb) (h : Fin 4) (r : Fin 512) (ho : o = 128 * h.val) :
    row (View.ld (Val := Elt Ideal) (e' := .f32) X (Rect.unit (s := S512x512) ![0, o] ![512, 128] inb)) r = rowOf X h r :=
  funext fun x => ld_cols (Val := Elt Ideal) (e := .f32) X inb r x (qc h x) (by show 128 * h.val + x.val = _; omega)

/-- … of the memory's first half its keys; -/
theorem keys_ld (X : S256x1024.Idx → EReal) {o : ℕ} (inb) (h : Fin 4) (ho : o = 128 * h.val) :
    row (View.ld (Val := Elt Ideal) (e' := .f32) X (Rect.unit (s := S256x1024) ![0, o] ![256, 128] inb)) = keys X h :=
  funext fun j => funext fun x => ld_cols (Val := Elt Ideal) (e := .f32) X inb j x (kc h x) (by show 128 * h.val + x.val = _; omega)

/-- … of its second half its values. -/
theorem vals_ld (X : S256x1024.Idx → EReal) {o : ℕ} (inb) (h : Fin 4) (ho : o = 512 + 128 * h.val) :
    row (View.ld (Val := Elt Ideal) (e' := .f32) X (Rect.unit (s := S256x1024) ![0, o] ![256, 128] inb)) = vals X h :=
  funext fun j => funext fun x => ld_cols (Val := Elt Ideal) (e := .f32) X inb j x (vc h x) (by show 512 + 128 * h.val + x.val = _; omega)

/-- Head `h`'s columns of the queries' gradient, from the loads at its offsets. -/
theorem dq_head (h : Fin 4) {ok ov : ℕ} (iq ik iv io) (hk : ok = 128 * h.val) (hv : ov = 512 + 128 * h.val) (r : Fin 512) (d : Fin 128) :
    k0_pay7 (F := Ideal) (View.ld x0 (Rect.unit (s := S512x512) ![0, ok] ![512, 128] iq)) (View.ld x1 (Rect.unit (s := S256x1024) ![0, ok] ![256, 128] ik))
      (View.ld x2 (Rect.unit (s := S512x512) ![0, ok] ![512, 128] io)) (View.ld x1 (Rect.unit (s := S256x1024) ![0, ov] ![256, 128] iv))
      (View.ld x1 (Rect.unit (s := S256x1024) ![0, ok] ![256, 128] ik)) (ix2 r d)
      = rowDq (keys x1 h) (vals x1 h) (rowOf x0 h r) (rowOf x2 h r) d := by
  rw [pay7_apply, ← keys_ld x1 ik h hk, ← vals_ld x1 iv h hv, ← row_ld x0 iq h r hk, ← row_ld x2 io h r hk]

/-- Head `h`'s columns of the keys' accumulator. -/
theorem dk_head (h : Fin 4) {ok ov : ℕ} (iq ik iv io) (hk : ok = 128 * h.val) (hv : ov = 512 + 128 * h.val)
    (a : Vec Ideal S256x1024 .f32) (ia) (j : Fin 256) (d : Fin 128) :
    k0_pay8 (F := Ideal) (k0_pay4 (View.ld x0 (Rect.unit (s := S512x512) ![0, ok] ![512, 128] iq)))
      (k0_pay6 (View.ld x0 (Rect.unit (s := S512x512) ![0, ok] ![512, 128] iq)) (View.ld x1 (Rect.unit (s := S256x1024) ![0, ok] ![256, 128] ik))
        (View.ld x2 (Rect.unit (s := S512x512) ![0, ok] ![512, 128] io)) (View.ld x1 (Rect.unit (s := S256x1024) ![0, ov] ![256, 128] iv)))
      (View.ld a (Rect.unit (s := S256x1024) ![0, ok] ![256, 128] ia)) (ix2 j d)
      = a (ix2 j (kc h d)) + ∑ r, rowDk (keys x1 h) (vals x1 h) (rowOf x0 h r) (rowOf x2 h r) j d := by
  rw [pay8_apply, ld_cols a ia j d (kc h d) (by show 128 * h.val + d.val = _; omega), ← keys_ld x1 ik h hk, ← vals_ld x1 iv h hv]
  simp only [← row_ld x0 iq h _ hk, ← row_ld x2 io h _ hk]

/-- Head `h`'s columns of the values' accumulator. -/
theorem dv_head (h : Fin 4) {ok ov : ℕ} (iq ik io) (hk : ok = 128 * h.val) (hv : ov = 512 + 128 * h.val)
    (a : Vec Ideal S256x1024 .f32) (ia) (j : Fin 256) (d : Fin 128) :
    k0_pay9 (F := Ideal) (k0_pay5 (View.ld x0 (Rect.unit (s := S512x512) ![0, ok] ![512, 128] iq)) (View.ld x1 (Rect.unit (s := S256x1024) ![0, ok] ![256, 128] ik)))
      (View.ld x2 (Rect.unit (s := S512x512) ![0, ok] ![512, 128] io)) (View.ld a (Rect.unit (s := S256x1024) ![0, ov] ![256, 128] ia)) (ix2 j d)
      = a (ix2 j (vc h d)) + ∑ r, rowDv (keys x1 h) (rowOf x0 h r) (rowOf x2 h r) j d := by
  rw [pay9_apply, ld_cols a ia j d (vc h d) (by show 512 + 128 * h.val + d.val = _; omega), ← keys_ld x1 ik h hk]
  simp only [← row_ld x0 iq h _ hk, ← row_ld x2 io h _ hk]

/-! ## The queries' gradient -/

/-- The first point's block of the queries' gradient. -/
theorem out_A_3 (hc : cond0_0 i) (h : Fin 4) (r : Fin 512) (d : Fin 128) :
    out0_A_3 (F := Ideal) c i a1 h1 a2 h2 a3 h3 a4 h4 a5 h5 hc x0 x1 x2 (ix2 r (qc h d))
      = rowDq (keys x1 h) (vals x1 h) (rowOf x0 h r) (rowOf x2 h r) d := by
  unfold out0_A_3
  rw [View.read_writes_eq_canon _ _ _ (cover0_A_3 c i a1 h1 a2 h2 a3 h3 a4 h4 a5 h5 hc x0 x1 x2)]
  unfold kernelRun0_A
  dsimp only
  sl_unfold_words
  simp only [View.readAt_eq_ld, h1.read_unread, h2.read_unread, h3.read_unread]
  rw [canon_four]
  match h with
  | 0 => exact dq_head x0 x1 x2 0 _ _ _ _ rfl rfl r d
  | 1 => exact dq_head x0 x1 x2 1 _ _ _ _ rfl rfl r d
  | 2 => exact dq_head x0 x1 x2 2 _ _ _ _ rfl rfl r d
  | 3 => exact dq_head x0 x1 x2 3 _ _ _ _ rfl rfl r d

/-- The other points' block of the queries' gradient. -/
theorem out_B_3 (hc : ¬cond0_0 i) (xo : Vec Ideal S256x1024 .f32) (h : Fin 4) (r : Fin 512) (d : Fin 128) :
    out0_B_3 (F := Ideal) c i a1 h1 a2 h2 a3 h3 a4 h4 a5 h5 hc x0 x1 x2 xo (ix2 r (qc h d))
      = rowDq (keys x1 h) (vals x1 h) (rowOf x0 h r) (rowOf x2 h r) d := by
  unfold out0_B_3
  rw [View.read_writes_eq_canon _ _ _ (cover0_B_3 c i a1 h1 a2 h2 a3 h3 a4 h4 a5 h5 hc x0 x1 x2 xo)]
  unfold kernelRun0_B
  dsimp only
  sl_unfold_words
  simp only [View.readAt_eq_ld, h1.read_unread, h2.read_unread, h3.read_unread]
  rw [canon_four]
  match h with
  | 0 => exact dq_head x0 x1 x2 0 _ _ _ _ rfl rfl r d
  | 1 => exact dq_head x0 x1 x2 1 _ _ _ _ rfl rfl r d
  | 2 => exact dq_head x0 x1 x2 2 _ _ _ _ rfl rfl r d
  | 3 => exact dq_head x0 x1 x2 3 _ _ _ _ rfl rfl r d

/-! ## The keys' and the values' gradient -/

/-- A later point adds its 512 rows' gradients of the keys to what the accumulator held. -/
theorem out_B_4_kc (hc : ¬cond0_0 i) (xo : Vec Ideal S256x1024 .f32) (h : Fin 4) (j : Fin 256) (d : Fin 128) :
    out0_B_4 (F := Ideal) c i a1 h1 a2 h2 a3 h3 a4 h4 a5 h5 hc x0 x1 x2 xo (ix2 j (kc h d))
      = xo (ix2 j (kc h d)) + ∑ r, rowDk (keys x1 h) (vals x1 h) (rowOf x0 h r) (rowOf x2 h r) j d := by
  unfold out0_B_4
  rw [View.read_writes_eq_canon _ _ _ (cover0_B_4 c i a1 h1 a2 h2 a3 h3 a4 h4 a5 h5 hc x0 x1 x2 xo)]
  unfold kernelRun0_B
  dsimp only
  sl_unfold_words
  simp only [View.readAt_eq_ld, h1.read_unread, h2.read_unread, h3.read_unread, h5.read_unread]
  rw [canon_eight_kc]
  match h with
  | 0 => exact dk_head x0 x1 x2 0 _ _ _ _ rfl rfl xo _ j d
  | 1 => exact dk_head x0 x1 x2 1 _ _ _ _ rfl rfl xo _ j d
  | 2 => exact dk_head x0 x1 x2 2 _ _ _ _ rfl rfl xo _ j d
  | 3 => exact dk_head x0 x1 x2 3 _ _ _ _ rfl rfl xo _ j d

/-- The first point leaves its 512 rows' gradients of the keys. -/
theorem out_A_4_kc (hc : cond0_0 i) (h : Fin 4) (j : Fin 256) (d : Fin 128) :
    out0_A_4 (F := Ideal) c i a1 h1 a2 h2 a3 h3 a4 h4 a5 h5 hc x0 x1 x2 (ix2 j (kc h d))
      = ∑ r, rowDk (keys x1 h) (vals x1 h) (rowOf x0 h r) (rowOf x2 h r) j d := by
  unfold out0_A_4
  rw [View.read_writes_eq_canon _ _ _ (cover0_A_4 c i a1 h1 a2 h2 a3 h3 a4 h4 a5 h5 hc x0 x1 x2)]
  unfold kernelRun0_A
  dsimp only
  sl_unfold_words
  simp only [View.readAt_eq_ld, h1.read_unread, h2.read_unread, h3.read_unread]
  simp (disch := omega) only [readCov_other, readCov_whole]
  rw [canon_eight_kc]
  refine Eq.trans ?_ ((congrArg (· + _) (pay3_zero j (kc h d))).trans (zero_add _))
  match h with
  | 0 => exact dk_head x0 x1 x2 0 _ _ _ _ rfl rfl (k0_pay3 (F := Ideal)) _ j d
  | 1 => exact dk_head x0 x1 x2 1 _ _ _ _ rfl rfl (k0_pay3 (F := Ideal)) _ j d
  | 2 => exact dk_head x0 x1 x2 2 _ _ _ _ rfl rfl (k0_pay3 (F := Ideal)) _ j d
  | 3 => exact dk_head x0 x1 x2 3 _ _ _ _ rfl rfl (k0_pay3 (F := Ideal)) (by decide) j d

/-- A later point adds its 512 rows' gradients of the values to what the accumulator held. -/
theorem out_B_4_vc (hc : ¬cond0_0 i) (xo : Vec Ideal S256x1024 .f32) (h : Fin 4) (j : Fin 256) (d : Fin 128) :
    out0_B_4 (F := Ideal) c i a1 h1 a2 h2 a3 h3 a4 h4 a5 h5 hc x0 x1 x2 xo (ix2 j (vc h d))
      = xo (ix2 j (vc h d)) + ∑ r, rowDv (keys x1 h) (rowOf x0 h r) (rowOf x2 h r) j d := by
  unfold out0_B_4
  rw [View.read_writes_eq_canon _ _ _ (cover0_B_4 c i a1 h1 a2 h2 a3 h3 a4 h4 a5 h5 hc x0 x1 x2 xo)]
  unfold kernelRun0_B
  dsimp only
  sl_unfold_words
  simp only [View.readAt_eq_ld, h1.read_unread, h2.read_unread, h3.read_unread, h5.read_unread]
  rw [canon_eight_vc]
  match h with
  | 0 => exact dv_head x0 x1 x2 0 _ _ _ rfl rfl xo _ j d
  | 1 => exact dv_head x0 x1 x2 1 _ _ _ rfl rfl xo _ j d
  | 2 => exact dv_head x0 x1 x2 2 _ _ _ rfl rfl xo _ j d
  | 3 => exact dv_head x0 x1 x2 3 _ _ _ rfl rfl xo _ j d

/-- The first point leaves its 512 rows' gradients of the values. -/
theorem out_A_4_vc (hc : cond0_0 i) (h : Fin 4) (j : Fin 256) (d : Fin 128) :
    out0_A_4 (F := Ideal) c i a1 h1 a2 h2 a3 h3 a4 h4 a5 h5 hc x0 x1 x2 (ix2 j (vc h d))
      = ∑ r, rowDv (keys x1 h) (rowOf x0 h r) (rowOf x2 h r) j d := by
  unfold out0_A_4
  rw [View.read_writes_eq_canon _ _ _ (cover0_A_4 c i a1 h1 a2 h2 a3 h3 a4 h4 a5 h5 hc x0 x1 x2)]
  unfold kernelRun0_A
  dsimp only
  sl_unfold_words
  simp only [View.readAt_eq_ld, h1.read_unread, h2.read_unread, h3.read_unread]
  simp (disch := omega) only [readCov_other, readCov_whole]
  rw [canon_eight_vc]
  refine Eq.trans ?_ ((congrArg (· + _) (pay3_zero j (vc h d))).trans (zero_add _))
  match h with
  | 0 => exact dv_head x0 x1 x2 0 _ _ _ rfl rfl (k0_pay3 (F := Ideal)) _ j d
  | 1 => exact dv_head x0 x1 x2 1 _ _ _ rfl rfl (k0_pay3 (F := Ideal)) _ j d
  | 2 => exact dv_head x0 x1 x2 2 _ _ _ rfl rfl (k0_pay3 (F := Ideal)) _ j d
  | 3 => exact dv_head x0 x1 x2 3 _ _ _ rfl rfl (k0_pay3 (F := Ideal)) _ j d

end Point

end Cert.KernelIdeal.Block

end
-- ==== Proof.Array.lean ====
/-
  What the kernel's two result arrays hold after its run: the queries' gradient of every row, written block by block, and
  the keys' and the values' gradients, accumulated over the 16 blocks of 512 rows and so summed over all 8192 rows.
-/
module

public import proofs.«01_k».proof.Proof.Block

@[expose] public section

set_option maxRecDepth 16384

noncomputable section

open Idealize.ShloMosaic Idealize.ShloMosaic.TcCoe Idealize.SL.Sem
open Idealize.ShloMosaic.Pipeline (Dat)

namespace Cert.KernelIdeal.Array

open Cert.KernelIdeal Cert.KernelIdeal.Gen Cert.KernelIdeal.Block Cert.MemAttn

variable (m : (ℓ : Loc nD τ sig) → Buf (Elt Ideal) ℓ) (c : Dev nD)

/-- The three arguments. -/
abbrev P : S8192x2560.Idx → EReal := m ((c : Thread nD τ).loc main_arg0)
abbrev M : S256x1024.Idx → EReal := m ((c : Thread nD τ).loc main_arg1)
abbrev D : S8192x1536.Idx → EReal := m ((c : Thread nD τ).loc main_arg2)

/-! ## The blocks -/

theorem idx_0 : ∀ t : Fin cfg0.N, win0_0.index t = ![t.val, 4] := (by decide +kernel : ∀ t : Fin grid0.N, win0_0.index t = ![t.val, 4])
theorem idx_1 : ∀ t : Fin cfg0.N, win0_1.index t = ![0, 0] := (by decide +kernel : ∀ t : Fin grid0.N, win0_1.index t = ![0, 0])
theorem idx_2 : ∀ t : Fin cfg0.N, win0_2.index t = ![t.val, 2] := (by decide +kernel : ∀ t : Fin grid0.N, win0_2.index t = ![t.val, 2])
theorem idx_3 : ∀ t : Fin cfg0.N, win0_3.index t = ![t.val, 0] := (by decide +kernel : ∀ t : Fin grid0.N, win0_3.index t = ![t.val, 0])
theorem idx_4 : ∀ t : Fin cfg0.N, win0_4.index t = ![0, 0] := (by decide +kernel : ∀ t : Fin grid0.N, win0_4.index t = ![0, 0])

/-- Row `r` of block `t`. -/
def rowAt (t : Fin cfg0.N) (r : Fin 512) : Fin 8192 := ⟨t.val * 512 + r.val, by have := t.isLt; have : cfg0.N = 16 := N_0; omega⟩

/-- A block of queries is 512 rows of the projection's last 512 columns; -/
theorem block_q (t : Fin cfg0.N) (h : Fin 4) (r : Fin 512) : rowOf (iblk m c 0 t) h r = query (P m c) h (rowAt t r) := by
  funext x
  unfold rowOf query
  blk_simp [iblk]
  unfold V
  refine congrArg (P m c) ?_
  blk_ext [idx_0, qc, pc, rowAt]

/-- of cotangents 512 rows of the cotangent's last 512 columns; -/
theorem block_o (t : Fin cfg0.N) (h : Fin 4) (r : Fin 512) : rowOf (iblk m c 2 t) h r = cotan (D m c) h (rowAt t r) := by
  funext x
  unfold rowOf cotan
  blk_simp [iblk]
  unfold V
  refine congrArg (D m c) ?_
  blk_ext [idx_2, qc, cc, rowAt]

/-- the memory is whole at every point. -/
theorem block_m (t : Fin cfg0.N) : (iblk m c 1 t : S256x1024.Idx → EReal) = M m c := by
  funext y
  blk_simp [iblk]
  unfold V
  refine congrArg (M m c) ?_
  blk_ext [idx_1]

/-! ## The queries' gradient -/

/-- What point `t` leaves in the block of the queries' gradient. -/
theorem outs_dq (t : Fin cfg0.N) (h : Fin 4) (r : Fin 512) (d : Fin 128) :
    (outsAt0 m c t.val t.isLt).1 (ix2 r (qc h d)) = dqAt (P m c) (M m c) (D m c) h (rowAt t r) d := by
  unfold dqAt
  by_cases h0 : t.val % 16 = 0
  · rw [outsAt0_A m c t h0]
    refine (out_A_3 c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) ((hcond0_0 t).mpr h0) h r d).trans ?_
    rw [block_q, block_o, block_m]
  · rw [outsAt0_B m c t h0]
    dsimp only
    rw [out_B_3, block_q, block_o, block_m]

/-- The array of the queries' gradient. -/
theorem dq_array : (dats m 0 c).arrAt 3 cfg0.N = dqArr (P m c) (M m c) (D m c) := by
  refine (dats m 0 c).arrAt_eq_of_covers 3 _ (by decide +kernel) fun t hf y => ?_
  obtain ⟨r, x, rfl⟩ : ∃ r x, y = ix2 r x := ⟨y 0, y 1, eq_ix2 y⟩
  obtain ⟨h, d, rfl⟩ := qc_onto x
  blk_simp
  rw [after0_3]
  refine (outs_dq m c t h r d).trans ((dqArr_qc ..).symm.trans (congrArg _ ?_))
  blk_ext [idx_3, qc, rowAt]

/-! ## The keys' and the values' gradients -/

/-- A sum over all rows is the sum over the blocks of the sums over their rows. -/
theorem sum_rows (f : Fin 8192 → EReal) : ∑ t : Fin cfg0.N, ∑ r, f (rowAt t r) = ∑ R, f R := by
  rw [Fin.sum_univ_tiles 16 512 rfl f]
  exact (Equiv.sum_comp (finCongr N_0) fun t : Fin 16 => ∑ r : Fin 512, f ⟨t.val * 512 + r.val, by omega⟩)

/-- What the last point leaves at a key's column. -/
theorem outs_dk (t : Fin cfg0.N) (ht : t.val + 1 = cfg0.N) (h : Fin 4) (j : Fin 256) (d : Fin 128) :
    (outsAt0 m c t.val t.isLt).2 (ix2 j (kc h d)) = dkAt (P m c) (M m c) (D m c) h j d := by
  have e := Pipeline.eq_sum_fin_of_reset_step_apply_last (fun n hn (_ : Unit) => ((outsAt0 m c n hn).2 (ix2 j (kc h d)) : EReal)) 16 (fun _ => 0)
    (fun t _ => ∑ r, rowDk (keys (M m c) h) (vals (M m c) h) (query (P m c) h (rowAt t r)) (cotan (D m c) h (rowAt t r)) j d)
    (fun t h0 _ => by
      rw [outsAt0_A m c t h0, zero_add]
      refine (out_A_4_kc c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) ((hcond0_0 t).mpr h0) h j d).trans ?_
      simp only [block_q, block_o, block_m])
    (fun t h0 _ => by
      rw [outsAt0_B m c t h0]
      refine (out_B_4_kc c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (fun h => h0 ((hcond0_0 t).mp h)) (outsAt0 m c (t.val - 1) (Nat.lt_of_le_of_lt (Nat.sub_le _ _) t.isLt)).2 h j d).trans ?_
      simp only [block_q, block_o, block_m])
    (by decide) t ht ()
  refine e.trans ((zero_add _).trans ?_)
  exact sum_rows fun R => rowDk (keys (M m c) h) (vals (M m c) h) (query (P m c) h R) (cotan (D m c) h R) j d

/-- What the last point leaves at a value's column. -/
theorem outs_dv (t : Fin cfg0.N) (ht : t.val + 1 = cfg0.N) (h : Fin 4) (j : Fin 256) (d : Fin 128) :
    (outsAt0 m c t.val t.isLt).2 (ix2 j (vc h d)) = dvAt (P m c) (M m c) (D m c) h j d := by
  have e := Pipeline.eq_sum_fin_of_reset_step_apply_last (fun n hn (_ : Unit) => ((outsAt0 m c n hn).2 (ix2 j (vc h d)) : EReal)) 16 (fun _ => 0)
    (fun t _ => ∑ r, rowDv (keys (M m c) h) (query (P m c) h (rowAt t r)) (cotan (D m c) h (rowAt t r)) j d)
    (fun t h0 _ => by
      rw [outsAt0_A m c t h0, zero_add]
      refine (out_A_4_vc c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) ((hcond0_0 t).mpr h0) h j d).trans ?_
      simp only [block_q, block_o, block_m])
    (fun t h0 _ => by
      rw [outsAt0_B m c t h0]
      refine (out_B_4_vc c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (fun h => h0 ((hcond0_0 t).mp h)) (outsAt0 m c (t.val - 1) (Nat.lt_of_le_of_lt (Nat.sub_le _ _) t.isLt)).2 h j d).trans ?_
      simp only [block_q, block_o, block_m])
    (by decide) t ht ()
  refine e.trans ((zero_add _).trans ?_)
  exact sum_rows fun R => rowDv (keys (M m c) h) (query (P m c) h R) (cotan (D m c) h R) j d

/-- The array of the keys' and the values' gradients. -/
theorem dkv_array : (dats m 0 c).arrAt 4 cfg0.N = dkvArr (P m c) (M m c) (D m c) := by
  refine (dats m 0 c).arrAt_eq_of_covers 4 _ (by decide +kernel) fun t hf y => ?_
  have hN : cfg0.N = 16 := N_0
  have ht : t.val + 1 = cfg0.N := by have := (flush0_4 t).mp hf; have := t.isLt; omega
  obtain ⟨j, x, rfl⟩ : ∃ j x, y = ix2 j x := ⟨y 0, y 1, eq_ix2 y⟩
  blk_simp
  rw [after0_4]
  rcases kv_onto x with ⟨h, d, rfl⟩ | ⟨h, d, rfl⟩
  · refine (outs_dk m c t ht h j d).trans ((dkvArr_kc ..).symm.trans (congrArg _ ?_))
    blk_ext [idx_4, kc]
  · refine (outs_dv m c t ht h j d).trans ((dkvArr_vc ..).symm.trans (congrArg _ ?_))
    blk_ext [idx_4, vc]

end Cert.KernelIdeal.Array

end
-- ==== Proof.Stages.lean ====
/-
  The reference's stages at an index, in terms of a row's query, cotangent, keys and values: the scores and their greatest,
  the exponentials and their total, the quotients, the quotient's derivative, and the four products that give the
  gradients. With finite queries and keys they are the gradients the kernel computes (`RowMath`).
-/
module

public import proofs.«01_k».proof.Proof.Gen.ReferenceIdeal.Read
public import proofs.«01_k».proof.Proof.Spec
public import Idealize.ShloMosaic.Lib.Pointwise

@[expose] public section

set_option maxRecDepth 16384

noncomputable section

open Idealize.ShloMosaic

namespace Cert.ReferenceIdeal.Stages

open Cert.ReferenceIdeal Cert.ReferenceIdeal.Gen Cert.ReferenceIdeal.Read Cert.MemAttn

variable (x0 : (⟨S8192x2560, .f32⟩ : BufTy).Contents (Elt Ideal)) (x1 : (⟨S256x1024, .bf16⟩ : BufTy).Contents (Elt Ideal))
  (x2 : (⟨S8192x1536, .bf16⟩ : BufTy).Contents (Elt Ideal))

theorem zero_bits : Ideal.ofBits .f32 0x00000000#32 = 0 := by
  simp [Ideal.ofBits, Ideal.ieee]

theorem one_bits : Ideal.ofBits .f32 0x3F800000#32 = 1 := by
  simp [Ideal.ofBits, Ideal.ieee]
  rw [← EReal.coe_mul]
  norm_num

/-! ## The heads -/

theorem query_at (r : Fin 8192) (h : Fin 4) (x : Fin 128) : val_main_v11 (F := Ideal) x0 (ix4 0 r h x) = query x0 h r x := by
  unfold val_main_v11 val_main_v1 val_main_v0
  pointwise
  exact congrArg (fun y => x0 (ix2 r y)) (Fin.ext (by show 2048 + (h.val * 128 + x.val) = 2048 + 128 * h.val + x.val; omega))

theorem key_at (j : Fin 256) (h : Fin 4) (x : Fin 128) : val_main_v8 (F := Ideal) x1 (ix4 0 j h x) = keys x1 h j x := by
  unfold val_main_v8 val_main_v7 val_main_v6 val_main_v5
  pointwise
  exact congrArg (fun y => x1 (ix2 j y)) (Fin.ext (by show h.val * 128 + x.val = 128 * h.val + x.val; omega))

theorem value_at (j : Fin 256) (h : Fin 4) (x : Fin 128) : val_main_v10 (F := Ideal) x1 (ix4 0 j h x) = vals x1 h j x := by
  unfold val_main_v10 val_main_v9 val_main_v6 val_main_v5
  pointwise
  exact congrArg (fun y => x1 (ix2 j y)) (Fin.ext (by show 512 + (h.val * 128 + x.val) = 512 + 128 * h.val + x.val; omega))

theorem cotan_at (r : Fin 8192) (h : Fin 4) (x : Fin 128) : val_main_v47 (F := Ideal) x2 (ix4 0 h x r) = cotan x2 h r x := by
  unfold val_main_v47 val_main_v46 val_main_v4 val_main_v3 val_main_v2
  pointwise
  exact congrArg (fun y => x2 (ix2 r y)) (Fin.ext (by show 1024 + (h.val * 128 + x.val) = 1024 + 128 * h.val + x.val; omega))

/-! ## The softmax of a row -/

theorem score_at (h : Fin 4) (r : Fin 8192) (j : Fin 256) :
    val_main_v14 (F := Ideal) x0 x1 (ix4 0 h r j) = scores (query x0 h r) (keys x1 h) j := by
  unfold val_main_v14 val_main_v13 val_main_cst val_main_v12
  pointwise
  simp only [query_at, key_at]
  rfl

theorem top_at (h : Fin 4) (r : Fin 8192) :
    val_main_v15 (F := Ideal) x0 x1 (ix3 0 h r) = top (scores (query x0 h r) (keys x1 h)) := by
  unfold val_main_v15
  pointwise
  simp only [score_at]
  rw [show val_main_cst_0 (F := Ideal) (Shape.Idx.first h_S_) = (⊥ : EReal) from ofBits_neg_inf]
  unfold top
  generalize scores (query x0 h r) (keys x1 h) = s
  rfl

theorem top2_at (h : Fin 4) (r : Fin 8192) :
    val_main_v22 (F := Ideal) x0 x1 (ix3 0 h r) = top (scores (query x0 h r) (keys x1 h)) := by
  have e : val_main_v22 (F := Ideal) x0 x1 (ix3 0 h r)
      = max (Ideal.ofBits .f32 0xFF800000#32) (val_main_v15 (F := Ideal) x0 x1 (ix3 0 h r)) := by
    rw [val_main_v22_apply, val_main_v21_apply, val_main_cst_2_apply]
    rfl
  rw [e, top_at, ofBits_neg_inf]
  exact max_bot_left _

theorem expo_at (h : Fin 4) (r : Fin 8192) (j : Fin 256) :
    val_main_v35 (F := Ideal) x0 x1 (ix4 0 h r j) = expo (scores (query x0 h r) (keys x1 h)) j := by
  unfold val_main_v35 val_main_v34 val_main_v33 val_main_v32
  pointwise
  rw [top2_at, score_at]
  rfl

theorem total_at (h : Fin 4) (r : Fin 8192) :
    val_main_v37 (F := Ideal) x0 x1 (ix4 0 h r 0) = total (scores (query x0 h r) (keys x1 h)) := by
  unfold val_main_v37 val_main_v36
  pointwise
  simp only [expo_at]
  rw [show val_main_cst_8 (F := Ideal) (Shape.Idx.first h_S_) = (0 : EReal) from zero_bits]
  exact zero_add _

theorem prob_at (h : Fin 4) (r : Fin 8192) (j : Fin 256) :
    val_main_v39 (F := Ideal) x0 x1 (ix4 0 h r j) = refProb (scores (query x0 h r) (keys x1 h)) j := by
  unfold val_main_v39 val_main_v38
  pointwise
  rw [expo_at, total_at]
  rfl

/-! ## Its derivative -/

theorem dots_at (h : Fin 4) (r : Fin 8192) (j : Fin 256) :
    val_main_v48 (F := Ideal) x1 x2 (ix4 0 h r j) = dots (cotan x2 h r) (vals x1 h) j := by
  unfold val_main_v48
  pointwise
  simp only [cotan_at, value_at]
  rfl

theorem inner_at (h : Fin 4) (r : Fin 8192) : val_main_v54 (F := Ideal) x0 x1 x2 (ix3 0 h r)
    = ∑ k, dots (cotan x2 h r) (vals x1 h) k * Ideal.div 1 (total (scores (query x0 h r) (keys x1 h)) * total (scores (query x0 h r) (keys x1 h)))
        * expo (scores (query x0 h r) (keys x1 h)) k := by
  unfold val_main_v54 val_main_v53 val_main_v52 val_main_v51 val_main_v42 val_main_v41 val_main_cst_9 val_main_v40
  pointwise
  simp only [dots_at, expo_at, total_at, one_bits]
  rw [show val_main_cst_10 (F := Ideal) (Shape.Idx.first h_S_) = (0 : EReal) from zero_bits]
  exact zero_add _

/-- A sum over two axes of one element each is that element. -/
theorem sum_unit_axes (a : S1x4x8192x1.Idx → EReal) (z : EReal) (h : Fin 4) (r : Fin 8192) :
    Ideal.hostReduceAdd reducesTo_S1x4x8192x1_S4x8192_d0_3 a z (ix2 h r) = z + a (ix4 0 h r 0) := by
  unfold Ideal.hostReduceAdd
  refine congrArg (z + ·) ?_
  refine (Finset.sum_eq_single (ix4 0 h r 0) (fun i hi hne => absurd ?_ hne) (fun hne => absurd ?_ hne))
  · have e := (Finset.mem_filter.mp hi).2
    have e0 : (i 1).val = h.val := congrArg Fin.val (congrFun e 0)
    have e1 : (i 2).val = r.val := congrArg Fin.val (congrFun e 1)
    have z0 : (i 0).val < 1 := (i 0).isLt
    have z3 : (i 3).val < 1 := (i 3).isLt
    refine funext fun b => Fin.ext ?_
    match b with
    | ⟨0, _⟩ => show (i 0).val = 0; omega
    | ⟨1, _⟩ => exact e0
    | ⟨2, _⟩ => exact e1
    | ⟨3, _⟩ => show (i 3).val = 0; omega
  · refine Finset.mem_filter.mpr ⟨Finset.mem_univ _, funext fun b => Fin.ext ?_⟩
    match b with
    | ⟨0, _⟩ => rfl
    | ⟨1, _⟩ => rfl

theorem dscore_at (h : Fin 4) (r : Fin 8192) (j : Fin 256) : val_main_v65 (F := Ideal) x0 x1 x2 (ix4 0 h r j)
    = refDscore scale (scores (query x0 h r) (keys x1 h)) (dots (cotan x2 h r) (vals x1 h)) j := by
  unfold val_main_v65 val_main_v64 val_main_cst_12 val_main_v63 val_main_v62 val_main_v61 val_main_v60 val_main_v59 val_main_v58 val_main_v57
    val_main_v56 val_main_v55
  pointwise
  rw [sum_unit_axes]
  pointwise
  rw [dots_at, expo_at, total_at, inner_at, show val_main_cst_11 (F := Ideal) (Shape.Idx.first h_S_) = (0 : EReal) from zero_bits, zero_add]
  rfl

/-! ## The gradients -/

section
variable (hq : ∀ h r x, Finite (query x0 h r x)) (hk : ∀ h j x, Finite (keys x1 h j x))
include hq hk

/-- The reference's gradient of a score is the kernel's. -/
theorem dscore_eq (h : Fin 4) (r : Fin 8192) (j : Fin 256) :
    val_main_v65 (F := Ideal) x0 x1 x2 (ix4 0 h r j) = rowDs (keys x1 h) (vals x1 h) (query x0 h r) (cotan x2 h r) j :=
  (dscore_at x0 x1 x2 h r j).trans (refDscore_eq scale _ _ (finite_scores _ _ (hq h r) (hk h)) j)

/-- Its probability is the kernel's. -/
theorem prob_eq (h : Fin 4) (r : Fin 8192) (j : Fin 256) :
    val_main_v39 (F := Ideal) x0 x1 (ix4 0 h r j) = prob (scores (query x0 h r) (keys x1 h)) j :=
  (prob_at x0 x1 h r j).trans (refProb_eq _ (finite_scores _ _ (hq h r) (hk h)) j)

/-- The reference's queries' gradient. -/
theorem dq_result : val_main_v77 (F := Ideal) x0 x1 x2 = dqArr x0 x1 x2 := by
  funext y
  obtain ⟨r, c, rfl⟩ : ∃ r c, y = ix2 r c := ⟨y 0, y 1, eq_ix2 y⟩
  obtain ⟨h, d, rfl⟩ := qc_onto c
  rw [dqArr_qc]
  have e : (qc h d).val = 128 * h.val + d.val := rfl
  have eh : ∀ p, (⟨(qc h d).val / 128, p⟩ : Fin 4) = h := fun p => Fin.ext (by show (qc h d).val / 128 = h.val; omega)
  have ed : ∀ p, (⟨(qc h d).val % 128, p⟩ : Fin 128) = d := fun p => Fin.ext (by show (qc h d).val % 128 = d.val; omega)
  unfold val_main_v77 val_main_v76 val_main_v70 val_main_v69 val_main_v68
  pointwise
  simp only [eh, ed, dscore_eq x0 x1 x2 hq hk, key_at]
  rfl

/-- The reference's keys' and values' gradients. -/
theorem dkv_result : val_main_v78 (F := Ideal) x0 x1 x2 = dkvArr x0 x1 x2 := by
  funext y
  obtain ⟨j, c, rfl⟩ : ∃ j c, y = ix2 j c := ⟨y 0, y 1, eq_ix2 y⟩
  unfold val_main_v78 val_main_v75 val_main_v72 val_main_v74 val_main_v73 val_main_v71 val_main_v67 val_main_v66 val_main_v50 val_main_v49
  rcases kv_onto c with ⟨h, d, rfl⟩ | ⟨h, d, rfl⟩
  · rw [dkvArr_kc]
    have e : (kc h d).val = 128 * h.val + d.val := rfl
    have eh : ∀ p, (⟨(kc h d).val / 128, p⟩ : Fin 4) = h := fun p => Fin.ext (by show (kc h d).val / 128 = h.val; omega)
    have ed : ∀ p, (⟨(kc h d).val % 128, p⟩ : Fin 128) = d := fun p => Fin.ext (by show (kc h d).val % 128 = d.val; omega)
    pointwise
    rw [dif_neg (by omega), dif_pos (by omega), show val_main_cst_13 (F := Ideal) (Shape.Idx.first h_S_) = (0 : EReal) from zero_bits, zero_add]
    simp only [eh, ed, dscore_eq x0 x1 x2 hq hk, query_at]
    rfl
  · rw [dkvArr_vc]
    have e : (vc h d).val = 512 + 128 * h.val + d.val := rfl
    have eh : ∀ p, (⟨((vc h d).val - 512) / 128, p⟩ : Fin 4) = h := fun p => Fin.ext (by show ((vc h d).val - 512) / 128 = h.val; omega)
    have ed : ∀ p, (⟨((vc h d).val - 512) % 128, p⟩ : Fin 128) = d := fun p => Fin.ext (by show ((vc h d).val - 512) % 128 = d.val; omega)
    pointwise
    rw [dif_pos (by omega), dif_neg (by omega), show val_main_cst_14 (F := Ideal) (Shape.Idx.first h_S_) = (0 : EReal) from zero_bits, add_zero]
    simp only [eh, ed, prob_eq x0 x1 hq hk, cotan_at]
    unfold dvAt rowDv
    exact Finset.sum_congr rfl fun r _ => mul_comm _ _

end

end Cert.ReferenceIdeal.Stages

end
-- ==== Proof.Pre.lean ====
/-
  What the precondition says: every query and every key the call reads is a real number.
-/
module

public import proofs.«01_k».proof.Pre_finite
public import proofs.«01_k».proof.Proof.Spec
public import Idealize.ShloMosaic.Lib.Pointwise

@[expose] public section

noncomputable section

open Idealize.ShloMosaic

namespace Cert.Pre_finite

theorem facts : Facts where
  slices_S8192x2560_S8192x512_0_2048 := by decide
  bcast_S_S8192x512 := by decide
  slices_S256x1024_S256x512_0_0 := by decide
  bitsLt_bf16_f32 := by decide
  bcast_S_S256x512 := by decide

open Cert.MemAttn

theorem inf_bits : Ideal.ofBits .f32 0x7F800000#32 = ⊤ := by
  simp [Ideal.ofBits, Ideal.ieee]

/-- A magnitude below infinity belongs to a real number. -/
theorem finite_of_abs (x : EReal) (h : BitVec.ofBool (decide (max x (-x) < Ideal.ofBits .f32 0x7F800000#32)) = 1#1) :
    Finite x := by
  rw [inf_bits] at h
  have h' : max x (-x) < ⊤ := by
    by_contra hn
    simp [hn] at h
  constructor
  · rintro rfl
    simp at h'
  · rintro rfl
    simp at h'

variable [Facts] (P : FVec Ideal S8192x2560 .f32) (M : FVec Ideal S256x1024 .bf16) (D : FVec Ideal S8192x1536 .bf16)

theorem query_finite (hp : (fn (F := Ideal) P M D).1 = fun _ => 1#1) (h : Fin 4) (r : Fin 8192) (x : Fin 128) :
    Finite (query P h r x) := by
  have e := congrFun hp (ix2 r ⟨128 * h.val + x.val, by omega⟩)
  unfold fn at e
  pointwise at e
  have e' := finite_of_abs _ e
  have hc : (⟨2048 + (128 * h.val + x.val), by omega⟩ : Fin 2560) = pc h x := Fin.ext (by show 2048 + (128 * h.val + x.val) = 2048 + 128 * h.val + x.val; omega)
  rw [hc] at e'
  exact e'

theorem keys_finite (hp : (fn (F := Ideal) P M D).2 = fun _ => 1#1) (h : Fin 4) (j : Fin 256) (x : Fin 128) :
    Finite (keys M h j x) := by
  have e := congrFun hp (ix2 j ⟨128 * h.val + x.val, by omega⟩)
  unfold fn at e
  pointwise at e
  exact finite_of_abs _ e

end Cert.Pre_finite

end
-- ==== Proof.UpGrad.lean ====
/-
  The gradient of the hidden layer of an MLP, `act = relu (up) ^ 2`, from the gradient of its output: the kernel multiplies
  each row's cotangent with the down projection's rows and scales by `2 * max up 0`; the reference differentiates the
  rectifier by a selection on `up > 0`. Where `up ≤ 0` the kernel's factor is `0`, so that no selection is needed.
-/
module

public import proofs.«01_k».proof.Proof.Gen.Kernel2Ideal.Value
public import proofs.«01_k».proof.Proof.Gen.Reference2Ideal.Read
public import proofs.«01_k».proof.Proof.Spec
public import Idealize.ShloMosaic.Lib.Pipeline.Value
public import Idealize.ShloMosaic.Lib.Pipeline.ValueKit
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.UpGrad

/-- The gradient at row `r` and hidden unit `k`: cotangents `D`, down projection `W`, hidden layer `U`. -/
def dupAt (D : (⟨2, ![8192, 1024]⟩ : Shape).Idx → EReal) (W : (⟨3, ![1, 4096, 1024]⟩ : Shape).Idx → EReal)
    (U : (⟨2, ![8192, 4096]⟩ : Shape).Idx → EReal) (r : Fin 8192) (k : Fin 4096) : EReal :=
  (∑ d : Fin 1024, D (ix2 r d) * W (ix3 0 k d)) * (Ideal.ofBits .f32 0x40000000#32 * max (U (ix2 r k)) 0)

/-- The array of the gradients. -/
def dupArr (D : (⟨2, ![8192, 1024]⟩ : Shape).Idx → EReal) (W : (⟨3, ![1, 4096, 1024]⟩ : Shape).Idx → EReal)
    (U : (⟨2, ![8192, 4096]⟩ : Shape).Idx → EReal) : (⟨2, ![8192, 4096]⟩ : Shape).Idx → EReal := fun y => dupAt D W U (y 0) (y 1)

/-- Selecting by `u > 0` what is scaled by `2 * max u 0`, and `0` otherwise, is the scaling alone. -/
theorem select_pos (a t u : EReal) : (if 0 < u then a * (t * max u 0) else 0) = a * (t * max u 0) := by
  split
  · rfl
  · next h => rw [max_eq_right (not_lt.mp h), mul_zero, mul_zero]

end Cert.UpGrad

namespace Cert.Kernel2Ideal.Array

open Cert.Kernel2Ideal Cert.Kernel2Ideal.Gen Cert.UpGrad

/-- The stored block at an index. -/
theorem pay1_apply (D : Vec Ideal S512x1024 .bf16) (W : Vec Ideal S1x4096x1024 .bf16) (U : Vec Ideal S512x4096 .bf16)
    (r : Fin 512) (k : Fin 4096) : k0_pay1 D W U (ix2 r k)
      = (∑ d : Fin 1024, D (ix2 r d) * W (ix3 0 k d)) * (Ideal.ofBits .f32 0x40000000#32 * max (U (ix2 r k)) 0) := by
  unfold_payloads
  pointwise

variable (m : (ℓ : Loc nD τ sig) → Buf (Elt Ideal) ℓ) (c : Dev nD)

/-- The three arguments. -/
abbrev D : S8192x1024.Idx → EReal := m ((c : Thread nD τ).loc main_arg0)
abbrev W : S1x4096x1024.Idx → EReal := m ((c : Thread nD τ).loc main_arg1)
abbrev U : S8192x4096.Idx → EReal := m ((c : Thread nD τ).loc main_arg2)

theorem idx_0 : ∀ t : Fin cfg0.N, win0_0.index t = ![t.val, 0] := (by decide +kernel : ∀ t : Fin grid0.N, win0_0.index t = ![t.val, 0])
theorem idx_1 : ∀ t : Fin cfg0.N, win0_1.index t = ![0, 0, 0] := (by decide +kernel : ∀ t : Fin grid0.N, win0_1.index t = ![0, 0, 0])
theorem idx_2 : ∀ t : Fin cfg0.N, win0_2.index t = ![t.val, 0] := (by decide +kernel : ∀ t : Fin grid0.N, win0_2.index t = ![t.val, 0])
theorem idx_3 : ∀ t : Fin cfg0.N, win0_3.index t = ![t.val, 0] := (by decide +kernel : ∀ t : Fin grid0.N, win0_3.index t = ![t.val, 0])

/-- Row `r` of block `t`. -/
def rowAt (t : Fin cfg0.N) (r : Fin 512) : Fin 8192 := ⟨t.val * 512 + r.val, by have := t.isLt; have : cfg0.N = 16 := N_0; omega⟩

theorem block_0 (t : Fin cfg0.N) (r : Fin 512) (d : Fin 1024) : iblk m c 0 t (ix2 r d) = D m c (ix2 (rowAt t r) d) := by
  blk_simp [iblk]
  unfold V
  refine congrArg (D m c) ?_
  blk_ext [idx_0, rowAt]

theorem block_1 (t : Fin cfg0.N) : (iblk m c 1 t : S1x4096x1024.Idx → EReal) = W m c := by
  funext y
  blk_simp [iblk]
  unfold V
  refine congrArg (W m c) ?_
  blk_ext [idx_1]

theorem block_2 (t : Fin cfg0.N) (r : Fin 512) (k : Fin 4096) : iblk m c 2 t (ix2 r k) = U m c (ix2 (rowAt t r) k) := by
  blk_simp [iblk]
  unfold V
  refine congrArg (U m c) ?_
  blk_ext [idx_2, rowAt]

/-- What point `t` leaves in the result's block. -/
theorem out_3 (t : Fin cfg0.N) (r : Fin 512) (k : Fin 4096) :
    out0_3 (iblk m c 0 t) (iblk m c 1 t) (iblk m c 2 t) (ix2 r k) = dupAt (D m c) (W m c) (U m c) (rowAt t r) k := by
  unfold out0_3 r0_0 r0_1 r0_2
  rw [View.canon_cons_unit_zero (S := S512x4096) (funext fun a => by fin_cases a <;> rfl), View.ld_unit_zero (S := S512x1024) (funext fun a => by fin_cases a <;> rfl),
    View.ld_unit_zero (S := S1x4096x1024) (funext fun a => by fin_cases a <;> rfl), View.ld_unit_zero (S := S512x4096) (funext fun a => by fin_cases a <;> rfl)]
  rw [pay1_apply, block_1, block_2]
  unfold dupAt
  simp only [block_0]

/-- The result array. -/
theorem dup_array : (dats m 0 c).arrAt 3 cfg0.N = dupArr (D m c) (W m c) (U m c) := by
  refine (dats m 0 c).arrAt_eq_of_covers 3 _ (by decide +kernel) fun t hf y => ?_
  obtain ⟨r, k, rfl⟩ : ∃ r k, y = ix2 r k := ⟨y 0, y 1, eq_ix2 y⟩
  blk_simp
  rw [after0_3]
  refine (out_3 m c t r k).trans ?_
  show dupArr (D m c) (W m c) (U m c) (ix2 (rowAt t r) k) = _
  refine congrArg _ ?_
  blk_ext [idx_3, rowAt]

end Cert.Kernel2Ideal.Array

namespace Cert.Reference2Ideal.Stages

open Cert.Reference2Ideal Cert.Reference2Ideal.Gen Cert.Reference2Ideal.Read Cert.UpGrad

variable (x0 : (⟨S8192x1024, .bf16⟩ : BufTy).Contents (Elt Ideal)) (x1 : (⟨S1x4096x1024, .bf16⟩ : BufTy).Contents (Elt Ideal))
  (x2 : (⟨S8192x4096, .bf16⟩ : BufTy).Contents (Elt Ideal))

theorem weight_at (k : Fin 4096) (d : Fin 1024) : val_main_v3 (F := Ideal) x1 (ix2 k d) = x1 (ix3 0 k d) := by
  unfold val_main_v3 val_main_v2 val_main_v1
  pointwise

theorem relu_at (r : Fin 8192) (k : Fin 4096) : val_main_v4 (F := Ideal) x2 (ix2 r k) = max (x2 (ix2 r k)) 0 := by
  unfold val_main_v4 val_main_v0 val_main_call0_v0 val_main_call0_cst
  pointwise

theorem product_at (r : Fin 8192) (k : Fin 4096) :
    val_main_v13 (F := Ideal) x0 x1 (ix2 r k) = ∑ d : Fin 1024, x0 (ix2 r d) * x1 (ix3 0 k d) := by
  unfold val_main_v13 val_main_v12
  pointwise
  simp only [weight_at]

theorem dup_result : val_main_v17 (F := Ideal) x0 x1 x2 = dupArr x0 x1 x2 := by
  funext y
  obtain ⟨r, k, rfl⟩ : ∃ r k, y = ix2 r k := ⟨y 0, y 1, eq_ix2 y⟩
  unfold val_main_v17 val_main_v16 val_main_v15 val_main_cst_2 val_main_v14 val_main_v10 val_main_v9 val_main_cst_1 val_main_v6 val_main_v5 val_main_cst val_main_v0
  pointwise
  rw [product_at, relu_at, select_pos]
  rfl

end Cert.Reference2Ideal.Stages

end
-- ==== Proof.Norm.lean ====
/-
  The root-mean-square norm of a row and its gradient, over the extended reals.

  A row `x` is divided by the root of its mean square. The kernel writes the gradient as
  `inv * (dy - xn * mean (dy * xn))` with `xn = x * inv`; the reference differentiates the mean of the squares and the
  reciprocal root one after the other, so that it adds the term of the mean square twice. The two agree for every row and
  every cotangent (`grad_eq`): where the squares' sum is infinite, `inv` is `0` and so are both; where it is finite, the row
  is real and `inv` is a positive real, which distributes over sums whatever the cotangent is.
-/
module

public import proofs.«01_k».proof.Proof.RowMath

@[expose] public section

noncomputable section

namespace Cert.Norm

open Idealize.ShloMosaic Cert.MemAttn

/-- The number of columns and the norm's epsilon, as the programs write them. -/
def width : EReal := Ideal.ofBits .f32 0x44800000#32
def eps : EReal := Ideal.ofBits .f32 0x358637BD#32
def negHalf : EReal := Ideal.ofBits .f32 0xBF000000#32

theorem width_eq : width = ((1024 : ℝ) : EReal) := by
  unfold width
  simp [Ideal.ofBits, Ideal.ieee]
  try rw [← EReal.coe_mul]
  norm_num

theorem negHalf_eq : negHalf = ((-(1 / 2) : ℝ) : EReal) := by
  unfold negHalf
  simp [Ideal.ofBits, Ideal.ieee]
  try rw [← EReal.coe_mul]
  norm_num

theorem eps_pos : ∃ e : ℝ, 0 < e ∧ eps = (e : EReal) := by
  unfold eps Ideal.ofBits Ideal.ieee
  simp only []
  rw [if_neg (by decide), if_neg (by decide), if_neg (by decide)]
  refine ⟨_, ?_, rfl⟩
  exact mul_pos (by norm_num) (zpow_pos (by norm_num) _)

variable {n : ℕ}

/-- The mean of the squares plus epsilon, its reciprocal root, and the row divided by the root. -/
def ms (x : Fin n → EReal) : EReal := Ideal.div (∑ j, x j * x j) width + eps
def inv (x : Fin n → EReal) : EReal := Ideal.rsqrt (ms x)
def normed (x : Fin n → EReal) (j : Fin n) : EReal := x j * inv x

/-- The gradient as the kernel forms it: row `x`, cotangent `dy` of the normed row. -/
def grad (x dy : Fin n → EReal) (j : Fin n) : EReal :=
  inv x * (dy j - normed x j * Ideal.div (∑ i, dy i * normed x i) width)

/-- Half the factor of the row in the reference's gradient. -/
def coef (x dy : Fin n → EReal) : EReal :=
  Ideal.div ((∑ i, x i * dy i) * (negHalf * Ideal.div (inv x) (ms x))) width

/-- The gradient as the reference forms it. -/
def refGrad (x dy : Fin n → EReal) (j : Fin n) : EReal := dy j * inv x + x j * coef x dy + coef x dy * x j

/-! ## The sum of the squares -/

theorem square_nonneg (x : EReal) : 0 ≤ x * x := by
  rcases le_total 0 x with h | h
  · exact mul_nonneg h h
  · have h' : 0 ≤ -x := EReal.neg_nonneg.mpr h
    have := mul_nonneg h' h'
    rwa [neg_mul_neg] at this

theorem finite_of_square {x : EReal} (h : x * x ≠ ⊤) : Finite x := by
  refine ⟨?_, ?_⟩ <;> rintro rfl <;> exact h (by simp)

/-- A row with a finite sum of squares is real, and the sum is a nonnegative real. -/
theorem row_real (x : Fin n → EReal) (h : ∑ j, x j * x j ≠ ⊤) :
    (∃ r : Fin n → ℝ, ∀ j, x j = (r j : EReal)) ∧ ∃ s : ℝ, 0 ≤ s ∧ ∑ j, x j * x j = (s : EReal) := by
  have hx : ∀ j, Finite (x j) := fun j => finite_of_square fun ht =>
    h (top_le_iff.mp (ht ▸ Finset.single_le_sum (f := fun j => x j * x j) (fun i _ => square_nonneg _) (Finset.mem_univ j)))
  choose r hr using fun j => (hx j).coe
  refine ⟨⟨r, hr⟩, ∑ j, r j * r j, Finset.sum_nonneg fun j _ => mul_self_nonneg _, ?_⟩
  rw [coe_sum]
  exact Finset.sum_congr rfl fun j _ => by rw [hr, EReal.coe_mul]

/-- An infinite sum of squares: the reciprocal root is zero. -/
theorem inv_top (x : Fin n → EReal) (h : ∑ j, x j * x j = ⊤) : ms x = ⊤ ∧ inv x = 0 := by
  obtain ⟨e, he, hs⟩ := eps_pos
  have hm : ms x = ⊤ := by
    unfold ms
    rw [h, width_eq, div_real (by norm_num), hs, EReal.top_mul_coe_of_pos (by norm_num), EReal.top_add_coe]
  refine ⟨hm, ?_⟩
  unfold inv
  rw [hm]
  rfl

/-- A finite sum of squares: the mean and epsilon are a positive real, whose reciprocal root is `inv`. -/
theorem inv_real (x : Fin n → EReal) (h : ∑ j, x j * x j ≠ ⊤) :
    ∃ v ρ : ℝ, 0 < v ∧ 0 < ρ ∧ ρ * ρ = v⁻¹ ∧ ms x = (v : EReal) ∧ inv x = (ρ : EReal) := by
  obtain ⟨-, s, hs, hx⟩ := row_real x h
  obtain ⟨e, he, hq⟩ := eps_pos
  have hv : 0 < s * 1024⁻¹ + e := by positivity
  have hm : ms x = ((s * 1024⁻¹ + e : ℝ) : EReal) := by
    unfold ms
    rw [hx, width_eq, div_real (by norm_num), hq, ← EReal.coe_mul, ← EReal.coe_add]
  refine ⟨s * 1024⁻¹ + e, (Real.sqrt (s * 1024⁻¹ + e))⁻¹, hv, by positivity, ?_, hm, ?_⟩
  · rw [← mul_inv, Real.mul_self_sqrt hv.le]
  · unfold inv
    rw [hm]
    show (if s * 1024⁻¹ + e < 0 then ⊥ else if s * 1024⁻¹ + e = 0 then ⊤ else (((Real.sqrt (s * 1024⁻¹ + e))⁻¹ : ℝ) : EReal)) = _
    rw [if_neg hv.le.not_gt, if_neg hv.ne']

/-- Twice a real multiple of an extended real is the multiple by twice the real. -/
theorem twice (a : ℝ) (y : EReal) : (a : EReal) * y + (a : EReal) * y = ((2 * a : ℝ) : EReal) * y := by
  rw [EReal.coe_mul, mul_assoc]
  generalize (a : EReal) * y = z
  have h2 : ((2 : ℝ) : EReal) = 1 + 1 := by
    rw [← EReal.coe_one, ← EReal.coe_add]
    norm_num
  rw [h2, EReal.right_distrib_of_nonneg (by norm_num) (by norm_num), one_mul]

/-- The two gradients agree, whatever the row and the cotangent are. -/
theorem grad_eq (x dy : Fin n → EReal) (j : Fin n) : refGrad x dy j = grad x dy j := by
  by_cases h : ∑ j, x j * x j = ⊤
  · obtain ⟨hm, hi⟩ := inv_top x h
    unfold refGrad grad coef
    rw [hm, hi, width_eq, div_real (by norm_num)]
    simp [Ideal.div]
  · obtain ⟨v, ρ, hv, hρ, hρv, hm, hi⟩ := inv_real x h
    obtain ⟨⟨r, hr⟩, -⟩ := row_real x h
    have hT : ∑ i, dy i * normed x i = (ρ : EReal) * ∑ i, x i * dy i := by
      rw [real_mul_sum _ hρ.le]
      refine Finset.sum_congr rfl fun i _ => ?_
      unfold normed
      rw [hi, mul_comm (dy i), mul_comm (x i), mul_assoc]
    unfold refGrad grad coef
    rw [hT]
    unfold normed
    rw [hm, hi, width_eq, negHalf_eq, div_real (by norm_num), div_real hv.ne', div_real (by norm_num), hr j]
    generalize (∑ i, x i * dy i) = T
    rw [sub_eq_add_neg, real_mul_add hρ.le, mul_comm (dy j), add_assoc]
    congr 1
    have e1 : T * (((-(1 / 2) : ℝ) : EReal) * ((ρ : EReal) * ((v⁻¹ : ℝ) : EReal))) * ((1024⁻¹ : ℝ) : EReal)
        = ((-(1 / 2) * (ρ * v⁻¹) * 1024⁻¹ : ℝ) : EReal) * T := by
      rw [EReal.coe_mul, EReal.coe_mul, EReal.coe_mul, mul_comm T, mul_assoc, mul_comm T, ← mul_assoc]
    rw [e1, mul_comm _ ((r j : ℝ) : EReal), ← mul_assoc, ← EReal.coe_mul, twice]
    have e2 : (ρ : EReal) * -(((r j : ℝ) : EReal) * (ρ : EReal) * ((ρ : EReal) * T * ((1024⁻¹ : ℝ) : EReal)))
        = ((-(ρ * (r j * ρ * (1024⁻¹ * ρ))) : ℝ) : EReal) * T := by
      rw [mul_comm ((ρ : EReal) * T), mul_neg, EReal.coe_neg, neg_mul, EReal.coe_mul, EReal.coe_mul, EReal.coe_mul, EReal.coe_mul]
      simp only [mul_assoc]
    rw [e2]
    congr 2
    rw [← hρv]
    ring

end Cert.Norm

end
-- ==== Proof.Cols.lean ====
/-
  Loads and stores of a group of columns of a matrix, or of one slab of a stack of matrices, read at an index.
-/
module

public import Idealize.ShloMosaic.Lib.Pipeline.Value
public import Idealize.ShloMosaic.Lib.Pipeline.ValueKit
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.Cols

theorem zero2 : (![0, 0] : Fin 2 → ℕ) = fun _ => 0 := funext fun a => by fin_cases a <;> rfl

/-- Column `n` of group `s` of four groups of 1024 columns. -/
def col (s : Fin 4) (n : Fin 1024) : Fin 4096 := ⟨1024 * s.val + n.val, by omega⟩

/-- The group of a column and its place in the group. -/
def slab (k : Fin 4096) : Fin 4 := ⟨k.val / 1024, by omega⟩
def within (k : Fin 4096) : Fin 1024 := ⟨k.val % 1024, by omega⟩

theorem slab_col (s : Fin 4) (n : Fin 1024) : slab (col s n) = s := Fin.ext (by show (1024 * s.val + n.val) / 1024 = s.val; omega)
theorem within_col (s : Fin 4) (n : Fin 1024) : within (col s n) = n := Fin.ext (by show (1024 * s.val + n.val) % 1024 = n.val; omega)

/-- Every column is one of a group. -/
theorem exists_col (k : Fin 4096) : ∃ s n, k = col s n :=
  ⟨⟨k.val / 1024, by omega⟩, ⟨k.val % 1024, by omega⟩, Fin.ext (by show k.val = 1024 * (k.val / 1024) + k.val % 1024; omega)⟩

/-- Four sums over one group of columns each are the sum over all columns. -/
theorem sum_four (f : Fin 4096 → EReal) :
    (∑ n, f (col 0 n)) + (∑ n, f (col 1 n)) + (∑ n, f (col 2 n)) + (∑ n, f (col 3 n)) = ∑ k, f k := by
  rw [← Fin.sum_univ_four (fun s => ∑ n, f (col s n))]
  refine ((Fin.sum_univ_tiles 4 1024 rfl f).trans ?_).symm
  refine Finset.sum_congr rfl fun s _ => Finset.sum_congr rfl fun n _ => congrArg f (Fin.ext ?_)
  show s.val * 1024 + n.val = 1024 * s.val + n.val
  omega

section Loads
variable {Val : EltTy → Type} {e : EltTy} {A R C w o : ℕ}

/-- A load of `w` columns at `o` reads column `o + x`. -/
theorem ld_cols (X : (⟨2, ![R, C]⟩ : Shape).Idx → Val e) (inb) (r : Fin R) (x : Fin w) (c : Fin C) (hc : c.val = o + x.val) :
    View.ld X (Rect.unit (s := ⟨2, ![R, C]⟩) ![0, o] ![R, w] inb) (ix2 r x) = X (ix2 r c) :=
  View.ld_unit_apply_of X _ _ inb _ _ fun a => match a with
    | ⟨0, _⟩ => (Nat.zero_add _).symm
    | ⟨1, _⟩ => hc

/-- A load of slab `o` reads that slab. -/
theorem ld_slab (X : (⟨3, ![A, R, C]⟩ : Shape).Idx → Val e) (inb) (a : Fin A) (r : Fin R) (c : Fin C) (ha : a.val = o) :
    View.ld X (Rect.unit (s := ⟨3, ![A, R, C]⟩) ![o, 0, 0] ![1, R, C] inb) (ix3 0 r c) = X (ix3 a r c) :=
  View.ld_unit_apply_of X _ _ inb _ _ fun b => match b with
    | ⟨0, _⟩ => by show a.val = o + 0; omega
    | ⟨1, _⟩ => (Nat.zero_add _).symm
    | ⟨2, _⟩ => (Nat.zero_add _).symm

variable [∀ e, Nonempty (Val e)]

/-- A store of `w` columns at `o` is what its own columns hold; -/
theorem canon_hit (inb) (v : (Rect.unit (s := ⟨2, ![R, C]⟩) ![0, o] ![R, w] inb).shape.Idx → Val e)
    (L : List (View.Piece Val ⟨2, ![R, C]⟩ e)) (r : Fin R) (c : Fin C) (x : Fin w) (hc : c.val = o + x.val) :
    View.canon (⟨Rect.unit (s := ⟨2, ![R, C]⟩) ![0, o] ![R, w] inb, v⟩ :: L) (ix2 r c) = v (ix2 r x) := by
  have h : (Rect.unit (s := ⟨2, ![R, C]⟩) ![0, o] ![R, w] inb).emb (ix2 r x) = ix2 r c :=
    funext fun a => Fin.ext ((Rect.idx_unit_val _ _ inb _ a).trans (match a with
      | ⟨0, _⟩ => Nat.zero_add _
      | ⟨1, _⟩ => hc.symm))
  rw [← h]
  exact View.canon_cons_emb _ v L _

/-- the other columns hold what the earlier stores left. -/
theorem canon_miss (inb) (v : (Rect.unit (s := ⟨2, ![R, C]⟩) ![0, o] ![R, w] inb).shape.Idx → Val e)
    (L : List (View.Piece Val ⟨2, ![R, C]⟩ e)) (r : Fin R) (c : Fin C) (hc : c.val < o ∨ o + w ≤ c.val) :
    View.canon (⟨Rect.unit (s := ⟨2, ![R, C]⟩) ![0, o] ![R, w] inb, v⟩ :: L) (ix2 r c) = View.canon L (ix2 r c) := by
  refine View.canon_cons_of_not_mem _ L fun hm => ?_
  have h := (Rect.mem_set_unit (inb := inb).mp hm) (1 : Fin 2)
  have h1 : o ≤ c.val := h.1
  have h2 : c.val < o + w := h.2
  omega

/-- Four stores of `w` columns next to each other: group `s` holds what its own store wrote. -/
theorem canon_four_of {o0 o1 o2 o3 : ℕ} (h0 : o0 = 0) (h1 : o1 = o0 + w) (h2 : o2 = o1 + w) (h3 : o3 = o2 + w) (i0 i1 i2 i3)
    (w0 w1 w2 w3 : (⟨2, ![R, w]⟩ : Shape).Idx → Val e) (s : Fin 4) (r : Fin R) (c : Fin C) (n : Fin w) (hc : c.val = w * s.val + n.val) :
    View.canon (s := ⟨2, ![R, C]⟩) (e := e) (Val := Val) [⟨Rect.unit (s := ⟨2, ![R, C]⟩) ![0, o3] ![R, w] i3, w3⟩,
      ⟨Rect.unit (s := ⟨2, ![R, C]⟩) ![0, o2] ![R, w] i2, w2⟩, ⟨Rect.unit (s := ⟨2, ![R, C]⟩) ![0, o1] ![R, w] i1, w1⟩,
      ⟨Rect.unit (s := ⟨2, ![R, C]⟩) ![0, o0] ![R, w] i0, w0⟩] (ix2 r c) = ![w0, w1, w2, w3] s (ix2 r n) := by
  have hn := n.isLt
  match s with
  | 0 =>
    have hc : c.val = w * 0 + n.val := hc
    repeat rw [canon_miss _ _ _ _ _ (by omega)]
    rw [canon_hit _ _ _ _ _ n (by omega)]
    rfl
  | 1 =>
    have hc : c.val = w * 1 + n.val := hc
    repeat rw [canon_miss _ _ _ _ _ (by omega)]
    rw [canon_hit _ _ _ _ _ n (by omega)]
    rfl
  | 2 =>
    have hc : c.val = w * 2 + n.val := hc
    repeat rw [canon_miss _ _ _ _ _ (by omega)]
    rw [canon_hit _ _ _ _ _ n (by omega)]
    rfl
  | 3 =>
    have hc : c.val = w * 3 + n.val := hc
    rw [canon_hit _ _ _ _ _ n (by omega)]
    rfl

/-- Four stores of 1024 columns. -/
theorem canon_four (i0 i1 i2 i3) (w0 w1 w2 w3 : (⟨2, ![R, 1024]⟩ : Shape).Idx → Val e) (s : Fin 4) (r : Fin R) (n : Fin 1024) :
    View.canon (s := ⟨2, ![R, 4096]⟩) (e := e) (Val := Val) [⟨Rect.unit (s := ⟨2, ![R, 4096]⟩) ![0, 3072] ![R, 1024] i3, w3⟩,
      ⟨Rect.unit (s := ⟨2, ![R, 4096]⟩) ![0, 2048] ![R, 1024] i2, w2⟩, ⟨Rect.unit (s := ⟨2, ![R, 4096]⟩) ![0, 1024] ![R, 1024] i1, w1⟩,
      ⟨Rect.unit (s := ⟨2, ![R, 4096]⟩) ![0, 0] ![R, 1024] i0, w0⟩] (ix2 r (col s n)) = ![w0, w1, w2, w3] s (ix2 r n) :=
  canon_four_of rfl rfl rfl rfl i0 i1 i2 i3 w0 w1 w2 w3 s r (col s n) n rfl

end Loads

end Cert.Cols

end
-- ==== Proof.SlabGrad.lean ====
/-
  The gradients of a norm's input and gain behind a projection whose columns lie in four slabs of equal width, for any width:
  what the calls compute, and the product of a row with the slabs read from four loads of columns and four loads of slabs.
-/
module

public import proofs.«01_k».proof.Proof.Norm
public import proofs.«01_k».proof.Proof.Cols

@[expose] public section

noncomputable section

open Idealize.ShloMosaic

namespace Cert.SlabGrad

open Cert.Cols (ld_cols ld_slab)

variable {w C n : ℕ}

/-- Column `j` of slab `s`, among all `C = 4 * w` columns. -/
def col (h : C = 4 * w) (s : Fin 4) (j : Fin w) : Fin C :=
  ⟨s.val * w + j.val, by have := Nat.mul_le_mul_right w (Nat.le_of_lt_succ s.isLt); omega⟩

/-- A sum over all columns is one over the slabs and over each slab's columns. -/
theorem sum_cols (h : C = 4 * w) (f : Fin C → EReal) : ∑ j, f j = ∑ s : Fin 4, ∑ j : Fin w, f (col h s j) :=
  (Fin.sum_univ_tiles 4 w h.symm f).trans (Finset.sum_congr rfl fun s _ => Finset.sum_congr rfl fun j _ => congrArg f (Fin.ext rfl))

/-- The product of row `r` of the cotangents with row `k` of the projection. -/
def prodAt (h : C = 4 * w) (D : (⟨2, ![n, C]⟩ : Shape).Idx → EReal) (W : (⟨3, ![4, 1024, w]⟩ : Shape).Idx → EReal) (r : Fin n) (k : Fin 1024) : EReal :=
  ∑ s : Fin 4, ∑ j : Fin w, D (ix2 r (col h s j)) * W (ix3 s k j)

/-- The input's gradient at row `r`, from the products `p` of that row: the norm's, with what comes past the block added. -/
def gxRow (p x g s : Fin 1024 → EReal) (k : Fin 1024) : EReal := Norm.grad x (fun j => p j * g j) k + s k

/-- The arrays: the input's gradient, and the gain's, which adds each row's product with the normed row. -/
def gxArr (h : C = 4 * w) (D : (⟨2, ![8192, C]⟩ : Shape).Idx → EReal) (W : (⟨3, ![4, 1024, w]⟩ : Shape).Idx → EReal)
    (X : (⟨2, ![8192, 1024]⟩ : Shape).Idx → EReal) (G : (⟨1, ![1024]⟩ : Shape).Idx → EReal) (S : (⟨2, ![8192, 1024]⟩ : Shape).Idx → EReal) :
    (⟨2, ![8192, 1024]⟩ : Shape).Idx → EReal :=
  fun y => gxRow (prodAt h D W (y 0)) (fun j => X (ix2 (y 0) j)) (fun j => G (ix1 j)) (fun j => S (ix2 (y 0) j)) (y 1)
def ggArr (h : C = 4 * w) (D : (⟨2, ![8192, C]⟩ : Shape).Idx → EReal) (W : (⟨3, ![4, 1024, w]⟩ : Shape).Idx → EReal)
    (X : (⟨2, ![8192, 1024]⟩ : Shape).Idx → EReal) : (⟨2, ![1, 1024]⟩ : Shape).Idx → EReal :=
  fun y => ∑ r : Fin 8192, prodAt h D W r (y 1) * Norm.normed (fun j => X (ix2 r j)) (y 1)

/-- Four products, each over the load of one group of columns and of one slab, add up to the product. -/
theorem loads (h : C = 4 * w) (D : (⟨2, ![n, C]⟩ : Shape).Idx → EReal) (W : (⟨3, ![4, 1024, w]⟩ : Shape).Idx → EReal) {o1 o2 o3 : ℕ}
    (h1 : o1 = w) (h2 : o2 = 2 * w) (h3 : o3 = 3 * w) (i0 i1 i2 i3 j0 j1 j2 j3) (r : Fin n) (k : Fin 1024) :
    (∑ j : Fin w, View.ld (Val := Elt Ideal) (e' := .bf16) D (Rect.unit (s := ⟨2, ![n, C]⟩) ![0, 0] ![n, w] i0) (ix2 r j)
        * View.ld (Val := Elt Ideal) (e' := .bf16) W (Rect.unit (s := ⟨3, ![4, 1024, w]⟩) ![0, 0, 0] ![1, 1024, w] j0) (ix3 0 k j) : EReal)
      + (∑ j : Fin w, View.ld (Val := Elt Ideal) (e' := .bf16) D (Rect.unit (s := ⟨2, ![n, C]⟩) ![0, o1] ![n, w] i1) (ix2 r j)
        * View.ld (Val := Elt Ideal) (e' := .bf16) W (Rect.unit (s := ⟨3, ![4, 1024, w]⟩) ![1, 0, 0] ![1, 1024, w] j1) (ix3 0 k j) : EReal)
      + (∑ j : Fin w, View.ld (Val := Elt Ideal) (e' := .bf16) D (Rect.unit (s := ⟨2, ![n, C]⟩) ![0, o2] ![n, w] i2) (ix2 r j)
        * View.ld (Val := Elt Ideal) (e' := .bf16) W (Rect.unit (s := ⟨3, ![4, 1024, w]⟩) ![2, 0, 0] ![1, 1024, w] j2) (ix3 0 k j) : EReal)
      + (∑ j : Fin w, View.ld (Val := Elt Ideal) (e' := .bf16) D (Rect.unit (s := ⟨2, ![n, C]⟩) ![0, o3] ![n, w] i3) (ix2 r j)
        * View.ld (Val := Elt Ideal) (e' := .bf16) W (Rect.unit (s := ⟨3, ![4, 1024, w]⟩) ![3, 0, 0] ![1, 1024, w] j3) (ix3 0 k j) : EReal)
      = prodAt h D W r k := by
  subst h1 h2 h3
  unfold prodAt
  rw [Fin.sum_univ_four]
  refine congrArg₂ (· + ·) (congrArg₂ (· + ·) (congrArg₂ (· + ·) ?_ ?_) ?_) ?_ <;> refine Finset.sum_congr rfl fun j _ => ?_
  · exact congrArg₂ (· * ·) (ld_cols (Val := Elt Ideal) (e := .bf16) D i0 r j (col h 0 j) (by show 0 * _ + j.val = _; omega)) (ld_slab (Val := Elt Ideal) (e := .bf16) W j0 0 k j rfl)
  · exact congrArg₂ (· * ·) (ld_cols (Val := Elt Ideal) (e := .bf16) D i1 r j (col h 1 j) (by show 1 * _ + j.val = _; omega)) (ld_slab (Val := Elt Ideal) (e := .bf16) W j1 1 k j rfl)
  · exact congrArg₂ (· * ·) (ld_cols (Val := Elt Ideal) (e := .bf16) D i2 r j (col h 2 j) (by show 2 * _ + j.val = _; omega)) (ld_slab (Val := Elt Ideal) (e := .bf16) W j2 2 k j rfl)
  · exact congrArg₂ (· * ·) (ld_cols (Val := Elt Ideal) (e := .bf16) D i3 r j (col h 3 j) (by show 3 * _ + j.val = _; omega)) (ld_slab (Val := Elt Ideal) (e := .bf16) W j3 3 k j rfl)

/-! ## A block of 512 rows -/

section Block
variable (h : C = 4 * w) {D : (⟨2, ![8192, C]⟩ : Shape).Idx → EReal} {W : (⟨3, ![4, 1024, w]⟩ : Shape).Idx → EReal}
  {X : (⟨2, ![8192, 1024]⟩ : Shape).Idx → EReal} {G : (⟨1, ![1024]⟩ : Shape).Idx → EReal} {S : (⟨2, ![8192, 1024]⟩ : Shape).Idx → EReal}
  {D' : (⟨2, ![512, C]⟩ : Shape).Idx → EReal} {W' : (⟨3, ![4, 1024, w]⟩ : Shape).Idx → EReal} {X' S' : (⟨2, ![512, 1024]⟩ : Shape).Idx → EReal}
  {G' : (⟨2, ![1, 1024]⟩ : Shape).Idx → EReal} (R : Fin 512 → Fin 8192)

/-- Blocks of the arguments whose row `r` is row `R r` of the arrays have the product of that row, -/
theorem block_prod (hD : ∀ r d, D' (ix2 r d) = D (ix2 (R r) d)) (hW : W' = W) (r : Fin 512) (k : Fin 1024) : prodAt h D' W' r k = prodAt h D W (R r) k := by
  subst hW
  unfold prodAt
  simp only [hD]

/-- that row's gradient, -/
theorem block_gx (hD : ∀ r d, D' (ix2 r d) = D (ix2 (R r) d)) (hW : W' = W) (hX : ∀ r k, X' (ix2 r k) = X (ix2 (R r) k))
    (hG : ∀ k, G' (ix2 0 k) = G (ix1 k)) (hS : ∀ r k, S' (ix2 r k) = S (ix2 (R r) k)) (r : Fin 512) (k : Fin 1024) :
    gxRow (prodAt h D' W' r) (fun j => X' (ix2 r j)) (fun j => G' (ix2 0 j)) (fun j => S' (ix2 r j)) k = gxArr h D W X G S (ix2 (R r) k) := by
  have e : prodAt h D' W' r = prodAt h D W (R r) := funext fun k => block_prod h R hD hW r k
  rw [e]
  simp only [hX, hG, hS]
  rfl

/-- and that row's part of the gain's gradient. -/
theorem block_gg (hD : ∀ r d, D' (ix2 r d) = D (ix2 (R r) d)) (hW : W' = W) (hX : ∀ r k, X' (ix2 r k) = X (ix2 (R r) k)) (k : Fin 1024) :
    (∑ r, prodAt h D' W' r k * Norm.normed (fun j => X' (ix2 r j)) k) = ∑ r, prodAt h D W (R r) k * Norm.normed (fun j => X (ix2 (R r) j)) k := by
  simp only [block_prod h R hD hW, hX]

end Block

/-- The rows of sixteen blocks of 512 are all rows. -/
theorem sum_rows {N : ℕ} (hN : N = 16) (R : Fin N → Fin 512 → Fin 8192) (hR : ∀ t r, (R t r).val = t.val * 512 + r.val) (f : Fin 8192 → EReal) :
    ∑ t : Fin N, ∑ r : Fin 512, f (R t r) = ∑ R, f R := by
  subst hN
  rw [Fin.sum_univ_tiles 16 512 rfl f]
  exact Finset.sum_congr rfl fun t _ => Finset.sum_congr rfl fun r _ => congrArg f (Fin.ext (hR t r))

end Cert.SlabGrad

end
-- ==== Proof.NormGrad.lean ====
/-
  The reference's gradient of a norm at its input and at its gain, from any cotangents `p` of the normed and scaled rows. Every
  reference that ends in a norm's gradient forms it by these operations; what differs is the product that `p` comes from.
-/
module

public import proofs.«01_k».proof.Proof.Gen.Reference3Ideal.Read
public import proofs.«01_k».proof.Proof.SlabGrad
public import Idealize.ShloMosaic.Lib.Pointwise

@[expose] public section

set_option maxRecDepth 16384

noncomputable section

open Idealize.ShloMosaic Idealize.ShloMosaic.TcCoe Idealize.SL.Sem

namespace Cert.NormGrad

open Cert.Reference3Ideal Cert.Reference3Ideal.Gen Cert.Reference3Ideal.Read Cert.SlabGrad

variable (p x s : FVec Ideal S8192x1024 .f32) (g : FVec Ideal S1024 .f32)

/-! ## The norm of the rows -/

theorem ms_at (r : Fin 8192) : val_main_v9 (F := Ideal) x (ix2 r 0) = Norm.ms (fun j => x (ix2 r j)) := by
  unfold val_main_v9 val_main_v8 val_main_cst_1 val_main_v7 val_main_v6 val_main_cst_0 val_main_v5 val_main_v4 val_main_cst val_main_v3
  pointwise
  rfl

theorem inv_at (r : Fin 8192) : val_main_v10 (F := Ideal) x (ix2 r 0) = Norm.inv (fun j => x (ix2 r j)) := by
  unfold val_main_v10
  generalize hp : val_main_v9 (F := Ideal) x = q
  pointwise
  rw [← hp, ms_at]
  rfl

theorem normed_at (r : Fin 8192) (k : Fin 1024) : val_main_v15 (F := Ideal) x (ix2 r k) = Norm.normed (fun j => x (ix2 r j)) k := by
  unfold val_main_v15 val_main_v14
  generalize hp : val_main_v10 (F := Ideal) x = q
  pointwise
  rw [← hp, inv_at]
  rfl

theorem half_at (r : Fin 8192) : val_main_v13 (F := Ideal) x (ix2 r 0)
    = Norm.negHalf * Ideal.div (Norm.inv (fun j => x (ix2 r j))) (Norm.ms (fun j => x (ix2 r j))) := by
  unfold val_main_v13 val_main_v12 val_main_cst_2 val_main_v11
  rw [← inv_at, ← ms_at]
  generalize val_main_v10 (F := Ideal) x = q
  generalize val_main_v9 (F := Ideal) x = t
  pointwise
  rfl

/-! ## The operations that follow the product -/

/-- The cotangent of the normed rows, -/
def dy : FVec Ideal S8192x1024 .f32 := mulf p (val_main_v25 (F := Ideal) g)

/-- its product with each row, -/
def dot : FVec Ideal S8192x1 .f32 :=
  shapeCast _ (Host.reduceAdd (mulf x (dy p g)) (val_main_cst_5 (F := Ideal)) reducesTo_S8192x1024_S8192_d1 h_S_) shapeCasts_S8192_S8192x1

/-- the factor of the row in the gradient, -/
def coef : FVec Ideal S8192x1024 .f32 :=
  broadcastInDim S8192x1024 ![0] bcast_S8192_S8192x1024_0
    (Host.reduceAdd (Host.divf (mulf (dot p x g) (val_main_v13 (F := Ideal) x)) (val_main_v35 (F := Ideal))) (val_main_cst_7 (F := Ideal)) reducesTo_S8192x1_S8192_d1 h_S_)

/-- the input's gradient, -/
def gx : FVec Ideal S8192x1024 .f32 :=
  addf (addf (addf s (mulf (dy p g) (val_main_v31 (F := Ideal) x))) (mulf x (coef p x g))) (mulf (coef p x g) x)

/-- and the gain's. -/
def gg : FVec Ideal S1x1024 .f32 :=
  broadcastInDim S1x1024 ![1] bcast_S1024_S1x1024_1
    (Host.reduceAdd (shapeCast S1x1024 (Host.reduceAdd (mulf (val_main_v15 (F := Ideal) x) p) (val_main_cst_3 (F := Ideal)) reducesTo_S8192x1024_S1024_d0 h_S_) shapeCasts_S1024_S1x1024)
      (val_main_cst_4 (F := Ideal)) reducesTo_S1x1024_S1024_d0 h_S_)

/-! ## What they are -/

theorem dy_at (r : Fin 8192) (k : Fin 1024) : dy p g (ix2 r k) = p (ix2 r k) * g (ix1 k) := by
  unfold dy val_main_v25 val_main_v16
  pointwise

theorem dot_at (r : Fin 8192) : dot p x g (ix2 r 0) = ∑ j, x (ix2 r j) * (p (ix2 r j) * g (ix1 j)) := by
  unfold dot val_main_cst_5
  generalize hq : dy p g = q
  pointwise
  subst hq
  simp only [dy_at]

theorem coef_at (r : Fin 8192) (k : Fin 1024) : coef p x g (ix2 r k) = Norm.coef (fun j => x (ix2 r j)) (fun j => p (ix2 r j) * g (ix1 j)) := by
  unfold Norm.coef
  rw [← dot_at, ← half_at]
  unfold coef val_main_cst_7 val_main_v35 val_main_cst_6
  generalize dot p x g = q
  generalize val_main_v13 (F := Ideal) x = t
  pointwise
  exact Fin.sum_univ_one _

theorem gx_at (r : Fin 8192) (k : Fin 1024) : gx p x s g (ix2 r k)
    = gxRow (fun j => p (ix2 r j)) (fun j => x (ix2 r j)) (fun j => g (ix1 j)) (fun j => s (ix2 r j)) k := by
  have e : gx p x s g (ix2 r k)
      = s (ix2 r k) + (p (ix2 r k) * g (ix1 k)) * Norm.inv (fun j => x (ix2 r j))
        + x (ix2 r k) * Norm.coef (fun j => x (ix2 r j)) (fun j => p (ix2 r j) * g (ix1 j))
        + Norm.coef (fun j => x (ix2 r j)) (fun j => p (ix2 r j) * g (ix1 j)) * x (ix2 r k) := by
    rw [← coef_at p x g r k, ← inv_at, ← dy_at]
    unfold gx val_main_v31
    generalize coef p x g = q
    generalize dy p g = d
    generalize val_main_v10 (F := Ideal) x = t
    pointwise
  rw [e, add_assoc, add_assoc, ← add_assoc (_ * Norm.inv _), add_comm]
  exact congrArg (· + s (ix2 r k)) (Norm.grad_eq (fun j => x (ix2 r j)) (fun j => p (ix2 r j) * g (ix1 j)) k)

theorem gg_at (k : Fin 1024) : gg p x (ix2 0 k) = ∑ r : Fin 8192, p (ix2 r k) * Norm.normed (fun j => x (ix2 r j)) k := by
  unfold gg val_main_cst_3 val_main_cst_4
  generalize hp : val_main_v15 (F := Ideal) x = q
  pointwise
  subst hp
  refine (Fin.sum_univ_one _).trans (Finset.sum_congr rfl fun r _ => ?_)
  exact (congrArg (· * p (ix2 r k)) (normed_at x r k)).trans (mul_comm _ _)

/-! ## Behind a projection in four slabs -/

variable {w C : ℕ} (h : C = 4 * w) (D : (⟨2, ![8192, C]⟩ : Shape).Idx → EReal) (W : (⟨3, ![4, 1024, w]⟩ : Shape).Idx → EReal)
  (hp : ∀ r k, p (ix2 r k) = prodAt h D W r k)
include hp

theorem gx_slabs : gx p x s g = gxArr h D W x g s := by
  funext y
  obtain ⟨r, k, rfl⟩ : ∃ r k, y = ix2 r k := ⟨y 0, y 1, eq_ix2 y⟩
  rw [gx_at]
  simp only [hp]
  rfl

theorem gg_slabs : gg p x = ggArr h D W x := by
  funext y
  obtain ⟨a, k, rfl⟩ : ∃ a k, y = ix2 a k := ⟨y 0, y 1, eq_ix2 y⟩
  obtain rfl : a = 0 := Subsingleton.elim _ _
  rw [gg_at]
  simp only [hp]
  rfl

end Cert.NormGrad

end
-- ==== Proof.MlpIn.lean ====
/-
  The gradient of a norm's input and of its gain, from the gradient of the up projection's output: the kernel multiplies each
  row's cotangent with the four slabs of the up projection, one group of columns each, adds the four products, and sends the
  sum through the norm; the gain's gradient is accumulated over the blocks of rows. The reference multiplies with the whole
  matrix and differentiates the norm's mean and reciprocal root one after the other.
-/
module

public import proofs.«01_k».proof.Proof.Gen.Kernel3Ideal.Value
public import proofs.«01_k».proof.Proof.Gen.Reference3Ideal.Read
public import proofs.«01_k».proof.Proof.SlabGrad
public import proofs.«01_k».proof.Proof.NormGrad

@[expose] public section

set_option maxRecDepth 16384

noncomputable section

open Idealize.ShloMosaic Idealize.ShloMosaic.TcCoe Idealize.SL.Sem
open Idealize.ShloMosaic.Pipeline (Dat)

namespace Cert.Kernel3Ideal.Array

open Cert.Kernel3Ideal Cert.Kernel3Ideal.Gen Cert.SlabGrad
open Cert.Cols (zero2)

/-- The number of columns is four times the width of a slab. -/
theorem four : 4096 = 4 * 1024 := rfl

/-! ## The stored values at an index -/

section Payloads
variable (A N S : Vec Ideal S512x1024 .f32) (I : FVec Ideal S512x1 .f32) (G : Vec Ideal S1x1024 .f32) (r : Fin 512) (k : Fin 1024)

theorem pay1_apply : k0_pay1 A I N G S (ix2 r k)
    = I (ix2 r 0) * (A (ix2 r k) * G (ix2 0 k) - N (ix2 r k) * Ideal.div (∑ j, A (ix2 r j) * G (ix2 0 j) * N (ix2 r j)) Norm.width) + S (ix2 r k) := by
  unfold k0_pay1
  pointwise
  rfl

theorem pay4_apply : k0_pay4 A N G (ix2 0 k) = G (ix2 0 k) + ∑ r, A (ix2 r k) * N (ix2 r k) := by
  unfold k0_pay4
  pointwise

theorem pay6_apply (X : Vec Ideal S512x1024 .f32) : k0_pay6 X (ix2 r 0) = Norm.inv (fun j => X (ix2 r j)) := by
  unfold k0_pay6
  pointwise
  rfl

theorem pay7_apply (X : Vec Ideal S512x1024 .f32) : k0_pay7 X (ix2 r k) = Norm.normed (fun j => X (ix2 r j)) k := by
  unfold k0_pay7
  generalize hp : k0_pay6 X = p
  pointwise
  rw [← hp, pay6_apply]
  rfl

theorem pay3_zero : k0_pay3 (F := Ideal) (ix2 0 k) = 0 := by
  unfold k0_pay3
  pointwise

/-- The sum of the four products. -/
theorem pay5_apply (D0 D1 D2 D3 : Vec Ideal S512x1024 .bf16) (W0 W1 W2 W3 : Vec Ideal S1x1024x1024 .bf16) :
    k0_pay5 D0 W0 D1 W1 D2 W2 D3 W3 (ix2 r k) = (∑ j, D0 (ix2 r j) * W0 (ix3 0 k j)) + (∑ j, D1 (ix2 r j) * W1 (ix3 0 k j))
      + (∑ j, D2 (ix2 r j) * W2 (ix3 0 k j)) + (∑ j, D3 (ix2 r j) * W3 (ix3 0 k j)) := by
  unfold k0_pay5
  pointwise

/-- Over the loads of one group of columns and one slab each it is the product with all columns. -/
theorem prod_apply (D : Vec Ideal S512x4096 .bf16) (W : Vec Ideal S4x1024x1024 .bf16) (i0 i1 i2 i3 j0 j1 j2 j3) :
    k0_pay5 (F := Ideal) (View.ld D (Rect.unit (s := S512x4096) ![0, 0] S512x1024.size i0)) (View.ld W (Rect.unit (s := S4x1024x1024) ![0, 0, 0] S1x1024x1024.size j0))
      (View.ld D (Rect.unit (s := S512x4096) ![0, 1024] S512x1024.size i1)) (View.ld W (Rect.unit (s := S4x1024x1024) ![1, 0, 0] S1x1024x1024.size j1))
      (View.ld D (Rect.unit (s := S512x4096) ![0, 2048] S512x1024.size i2)) (View.ld W (Rect.unit (s := S4x1024x1024) ![2, 0, 0] S1x1024x1024.size j2))
      (View.ld D (Rect.unit (s := S512x4096) ![0, 3072] S512x1024.size i3)) (View.ld W (Rect.unit (s := S4x1024x1024) ![3, 0, 0] S1x1024x1024.size j3)) (ix2 r k)
      = prodAt four D W r k :=
  (pay5_apply ..).trans (loads four D W (o1 := 1024) (o2 := 2048) (o3 := 3072) rfl rfl rfl i0 i1 i2 i3 j0 j1 j2 j3 r k)

end Payloads

/-! ## What a point leaves -/

section Point
variable (c : Dev nD) (i : grid0.Coords) (a1 : Memref sig .tc .vmem S512x4096 .bf16) (h1 : a1.IsWhole) (a2 : Memref sig .tc .vmem S4x1024x1024 .bf16) (h2 : a2.IsWhole)
  (a3 : Memref sig .tc .vmem S512x1024 .f32) (h3 : a3.IsWhole) (a4 : Memref sig .tc .vmem S1x1024 .f32) (h4 : a4.IsWhole)
  (a5 : Memref sig .tc .vmem S512x1024 .f32) (h5 : a5.IsWhole) (a6 : Memref sig .tc .vmem S512x1024 .f32) (h6 : a6.IsWhole)
  (a7 : Memref sig .tc .vmem S512x1024 .bf16) (h7 : a7.IsWhole) (a8 : Memref sig .tc .vmem S1x1024 .f32) (h8 : a8.IsWhole)
  (x0 : Vec Ideal S512x4096 .bf16) (x1 : Vec Ideal S4x1024x1024 .bf16) (x2 : Vec Ideal S512x1024 .f32) (x3 : Vec Ideal S1x1024 .f32) (x4 : Vec Ideal S512x1024 .f32)

/-- A row of the block of the input's gradient. -/
def blkGx (r : Fin 512) (k : Fin 1024) : EReal :=
  gxRow (prodAt four x0 x1 r) (fun j => x2 (ix2 r j)) (fun j => x3 (ix2 0 j)) (fun j => x4 (ix2 r j)) k

theorem gx_apply (i0 i1 i2 i3 j0 j1 j2 j3) (r : Fin 512) (k : Fin 1024) :
    k0_pay1 (F := Ideal) (k0_pay5 (View.ld x0 (Rect.unit (s := S512x4096) ![0, 0] S512x1024.size i0)) (View.ld x1 (Rect.unit (s := S4x1024x1024) ![0, 0, 0] S1x1024x1024.size j0))
      (View.ld x0 (Rect.unit (s := S512x4096) ![0, 1024] S512x1024.size i1)) (View.ld x1 (Rect.unit (s := S4x1024x1024) ![1, 0, 0] S1x1024x1024.size j1))
      (View.ld x0 (Rect.unit (s := S512x4096) ![0, 2048] S512x1024.size i2)) (View.ld x1 (Rect.unit (s := S4x1024x1024) ![2, 0, 0] S1x1024x1024.size j2))
      (View.ld x0 (Rect.unit (s := S512x4096) ![0, 3072] S512x1024.size i3)) (View.ld x1 (Rect.unit (s := S4x1024x1024) ![3, 0, 0] S1x1024x1024.size j3)))
      (k0_pay6 x2) (k0_pay7 x2) x3 x4 (ix2 r k) = blkGx x0 x1 x2 x3 x4 r k := by
  rw [pay1_apply, pay6_apply]
  simp only [prod_apply, pay7_apply]
  rfl

theorem out_A_5 (hc : cond0_0 i) (r : Fin 512) (k : Fin 1024) :
    out0_A_5 (F := Ideal) c i a1 h1 a2 h2 a3 h3 a4 h4 a5 h5 a6 h6 a7 h7 a8 h8 hc x0 x1 x2 x3 x4 (ix2 r k) = blkGx x0 x1 x2 x3 x4 r k := by
  unfold out0_A_5
  rw [View.read_writes_eq_canon _ _ _ (cover0_A_5 c i a1 h1 a2 h2 a3 h3 a4 h4 a5 h5 a6 h6 a7 h7 a8 h8 hc x0 x1 x2 x3 x4)]
  unfold kernelRun0_A
  dsimp only
  try sl_unfold_words
  rw [View.canon_unit_zero (S := S512x1024) zero2]
  simp only [View.readAt_eq_ld, h1.read_unread, h2.read_unread, h3.read_unread, h4.read_unread, h5.read_unread,
    View.ld_unit_zero (S := S512x1024) zero2, View.ld_unit_zero (S := S1x1024) zero2]
  exact gx_apply x0 x1 x2 x3 x4 _ _ _ _ _ _ _ _ r k

theorem out_A_6 (hc : cond0_0 i) (r : Fin 512) (k : Fin 1024) :
    out0_A_6 (F := Ideal) c i a1 h1 a2 h2 a3 h3 a4 h4 a5 h5 a6 h6 a7 h7 a8 h8 hc x0 x1 x2 x3 x4 (ix2 r k) = blkGx x0 x1 x2 x3 x4 r k := by
  unfold out0_A_6
  rw [View.read_writes_eq_canon _ _ _ (cover0_A_6 c i a1 h1 a2 h2 a3 h3 a4 h4 a5 h5 a6 h6 a7 h7 a8 h8 hc x0 x1 x2 x3 x4)]
  unfold kernelRun0_A
  dsimp only
  try sl_unfold_words
  rw [View.canon_unit_zero (S := S512x1024) zero2]
  simp only [View.readAt_eq_ld, h1.read_unread, h2.read_unread, h3.read_unread, h4.read_unread, h5.read_unread,
    View.ld_unit_zero (S := S512x1024) zero2, View.ld_unit_zero (S := S1x1024) zero2]
  exact gx_apply x0 x1 x2 x3 x4 _ _ _ _ _ _ _ _ r k

theorem out_A_7 (hc : cond0_0 i) (k : Fin 1024) :
    out0_A_7 (F := Ideal) c i a1 h1 a2 h2 a3 h3 a4 h4 a5 h5 a6 h6 a7 h7 a8 h8 hc x0 x1 x2 x3 x4 (ix2 0 k) = ∑ r, prodAt four x0 x1 r k * Norm.normed (fun j => x2 (ix2 r j)) k := by
  unfold out0_A_7
  rw [View.read_writes_eq_canon _ _ _ (cover0_A_7 c i a1 h1 a2 h2 a3 h3 a4 h4 a5 h5 a6 h6 a7 h7 a8 h8 hc x0 x1 x2 x3 x4)]
  unfold kernelRun0_A
  dsimp only
  try sl_unfold_words
  rw [View.canon_cons_unit_zero (S := S1x1024) zero2, View.readCov_unit_zero (S := S1x1024) _ zero2]
  simp only [View.readAt_eq_ld, h1.read_unread, h2.read_unread, h3.read_unread, View.ld_unit_zero (S := S512x1024) zero2]
  refine (pay4_apply ..).trans ?_
  rw [pay3_zero, zero_add]
  simp only [prod_apply, pay7_apply]

theorem out_B_5 (hc : ¬cond0_0 i) (xo : Vec Ideal S1x1024 .f32) (r : Fin 512) (k : Fin 1024) :
    out0_B_5 (F := Ideal) c i a1 h1 a2 h2 a3 h3 a4 h4 a5 h5 a6 h6 a7 h7 a8 h8 hc x0 x1 x2 x3 x4 xo (ix2 r k) = blkGx x0 x1 x2 x3 x4 r k := by
  unfold out0_B_5
  rw [View.read_writes_eq_canon _ _ _ (cover0_B_5 c i a1 h1 a2 h2 a3 h3 a4 h4 a5 h5 a6 h6 a7 h7 a8 h8 hc x0 x1 x2 x3 x4 xo)]
  unfold kernelRun0_B
  dsimp only
  try sl_unfold_words
  rw [View.canon_unit_zero (S := S512x1024) zero2]
  simp only [View.readAt_eq_ld, h1.read_unread, h2.read_unread, h3.read_unread, h4.read_unread, h5.read_unread,
    View.ld_unit_zero (S := S512x1024) zero2, View.ld_unit_zero (S := S1x1024) zero2]
  exact gx_apply x0 x1 x2 x3 x4 _ _ _ _ _ _ _ _ r k

theorem out_B_6 (hc : ¬cond0_0 i) (xo : Vec Ideal S1x1024 .f32) (r : Fin 512) (k : Fin 1024) :
    out0_B_6 (F := Ideal) c i a1 h1 a2 h2 a3 h3 a4 h4 a5 h5 a6 h6 a7 h7 a8 h8 hc x0 x1 x2 x3 x4 xo (ix2 r k) = blkGx x0 x1 x2 x3 x4 r k := by
  unfold out0_B_6
  rw [View.read_writes_eq_canon _ _ _ (cover0_B_6 c i a1 h1 a2 h2 a3 h3 a4 h4 a5 h5 a6 h6 a7 h7 a8 h8 hc x0 x1 x2 x3 x4 xo)]
  unfold kernelRun0_B
  dsimp only
  try sl_unfold_words
  rw [View.canon_unit_zero (S := S512x1024) zero2]
  simp only [View.readAt_eq_ld, h1.read_unread, h2.read_unread, h3.read_unread, h4.read_unread, h5.read_unread,
    View.ld_unit_zero (S := S512x1024) zero2, View.ld_unit_zero (S := S1x1024) zero2]
  exact gx_apply x0 x1 x2 x3 x4 _ _ _ _ _ _ _ _ r k

theorem out_B_7 (hc : ¬cond0_0 i) (xo : Vec Ideal S1x1024 .f32) (k : Fin 1024) :
    out0_B_7 (F := Ideal) c i a1 h1 a2 h2 a3 h3 a4 h4 a5 h5 a6 h6 a7 h7 a8 h8 hc x0 x1 x2 x3 x4 xo (ix2 0 k) = xo (ix2 0 k) + ∑ r, prodAt four x0 x1 r k * Norm.normed (fun j => x2 (ix2 r j)) k := by
  unfold out0_B_7
  rw [View.read_writes_eq_canon _ _ _ (cover0_B_7 c i a1 h1 a2 h2 a3 h3 a4 h4 a5 h5 a6 h6 a7 h7 a8 h8 hc x0 x1 x2 x3 x4 xo)]
  unfold kernelRun0_B
  dsimp only
  try sl_unfold_words
  rw [View.canon_unit_zero (S := S1x1024) zero2]
  simp only [View.readAt_eq_ld, h1.read_unread, h2.read_unread, h3.read_unread, h8.read_unread, View.ld_unit_zero (S := S512x1024) zero2, View.ld_unit_zero (S := S1x1024) zero2]
  refine (pay4_apply ..).trans ?_
  simp only [prod_apply, pay7_apply]

end Point

/-! ## The blocks -/

variable (m : (ℓ : Loc nD τ sig) → Buf (Elt Ideal) ℓ) (c : Dev nD)

/-- The five arguments. -/
abbrev D : S8192x4096.Idx → EReal := m ((c : Thread nD τ).loc main_arg0)
abbrev W : S4x1024x1024.Idx → EReal := m ((c : Thread nD τ).loc main_arg1)
abbrev X : S8192x1024.Idx → EReal := m ((c : Thread nD τ).loc main_arg2)
abbrev G : S1024.Idx → EReal := m ((c : Thread nD τ).loc main_arg3)
abbrev S : S8192x1024.Idx → EReal := m ((c : Thread nD τ).loc main_arg4)

theorem idx_0 : ∀ t : Fin cfg0.N, win0_0.index t = ![t.val, 0] := (by decide +kernel : ∀ t : Fin grid0.N, win0_0.index t = ![t.val, 0])
theorem idx_1 : ∀ t : Fin cfg0.N, win0_1.index t = ![0, 0, 0] := (by decide +kernel : ∀ t : Fin grid0.N, win0_1.index t = ![0, 0, 0])
theorem idx_2 : ∀ t : Fin cfg0.N, win0_2.index t = ![t.val, 0] := (by decide +kernel : ∀ t : Fin grid0.N, win0_2.index t = ![t.val, 0])
theorem idx_3 : ∀ t : Fin cfg0.N, win0_3.index t = ![0, 0] := (by decide +kernel : ∀ t : Fin grid0.N, win0_3.index t = ![0, 0])
theorem idx_4 : ∀ t : Fin cfg0.N, win0_4.index t = ![t.val, 0] := (by decide +kernel : ∀ t : Fin grid0.N, win0_4.index t = ![t.val, 0])
theorem idx_5 : ∀ t : Fin cfg0.N, win0_5.index t = ![t.val, 0] := (by decide +kernel : ∀ t : Fin grid0.N, win0_5.index t = ![t.val, 0])
theorem idx_6 : ∀ t : Fin cfg0.N, win0_6.index t = ![t.val, 0] := (by decide +kernel : ∀ t : Fin grid0.N, win0_6.index t = ![t.val, 0])
theorem idx_7 : ∀ t : Fin cfg0.N, win0_7.index t = ![0, 0] := (by decide +kernel : ∀ t : Fin grid0.N, win0_7.index t = ![0, 0])

/-- Row `r` of block `t`. -/
def rowAt (t : Fin cfg0.N) (r : Fin 512) : Fin 8192 := ⟨t.val * 512 + r.val, by have := t.isLt; have : cfg0.N = 16 := N_0; omega⟩

/-- The gain as the call reads it: the host lays it out as one row. -/
theorem gain_row (k : Fin 1024) : V m c main_v0 (ix2 0 k) = G m c (ix1 k) := by
  unfold V
  rw [StableHlo.after_cons, StableHlo.after_nil, StableHlo.reshape_result]
  pointwise

theorem block_0 (t : Fin cfg0.N) (r : Fin 512) (d : Fin 4096) : iblk m c 0 t (ix2 r d) = D m c (ix2 (rowAt t r) d) := by
  blk_simp [iblk]
  rw [V_main_arg0]
  refine congrArg (D m c) ?_
  blk_ext [idx_0, rowAt]

theorem block_1 (t : Fin cfg0.N) : (iblk m c 1 t : S4x1024x1024.Idx → EReal) = W m c := by
  funext y
  blk_simp [iblk]
  rw [V_main_arg1]
  refine congrArg (W m c) ?_
  blk_ext [idx_1]

theorem block_2 (t : Fin cfg0.N) (r : Fin 512) (k : Fin 1024) : iblk m c 2 t (ix2 r k) = X m c (ix2 (rowAt t r) k) := by
  blk_simp [iblk]
  rw [V_main_arg2]
  refine congrArg (X m c) ?_
  blk_ext [idx_2, rowAt]

theorem block_3 (t : Fin cfg0.N) (k : Fin 1024) : iblk m c 3 t (ix2 0 k) = G m c (ix1 k) := by
  blk_simp [iblk]
  refine Eq.trans (congrArg (V m c main_v0) ?_) (gain_row m c k)
  blk_ext [idx_3]

theorem block_4 (t : Fin cfg0.N) (r : Fin 512) (k : Fin 1024) : iblk m c 4 t (ix2 r k) = S m c (ix2 (rowAt t r) k) := by
  blk_simp [iblk]
  rw [V_main_arg4]
  refine congrArg (S m c) ?_
  blk_ext [idx_4, rowAt]

theorem outs_5 (t : Fin cfg0.N) (r : Fin 512) (k : Fin 1024) :
    (outsAt0 m c t.val t.isLt).1 (ix2 r k) = gxArr four (D m c) (W m c) (X m c) (G m c) (S m c) (ix2 (rowAt t r) k) := by
  rw [← block_gx four (rowAt t) (block_0 m c t) (block_1 m c t) (block_2 m c t) (block_3 m c t) (block_4 m c t) r k]
  by_cases h0 : t.val % 16 = 0
  · rw [outsAt0_A m c t h0]
    dsimp only
    exact out_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) ((hcond0_0 t).mpr h0) r k
  · rw [outsAt0_B m c t h0]
    dsimp only
    exact out_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (fun h => h0 ((hcond0_0 t).mp h)) (outsAt0 m c (t.val - 1) (Nat.lt_of_le_of_lt (Nat.sub_le _ _) t.isLt)).2.2 r k

theorem outs_6 (t : Fin cfg0.N) (r : Fin 512) (k : Fin 1024) :
    (outsAt0 m c t.val t.isLt).2.1 (ix2 r k) = gxArr four (D m c) (W m c) (X m c) (G m c) (S m c) (ix2 (rowAt t r) k) := by
  rw [← block_gx four (rowAt t) (block_0 m c t) (block_1 m c t) (block_2 m c t) (block_3 m c t) (block_4 m c t) r k]
  by_cases h0 : t.val % 16 = 0
  · rw [outsAt0_A m c t h0]
    dsimp only
    exact out_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) ((hcond0_0 t).mpr h0) r k
  · rw [outsAt0_B m c t h0]
    dsimp only
    exact out_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (fun h => h0 ((hcond0_0 t).mp h)) (outsAt0 m c (t.val - 1) (Nat.lt_of_le_of_lt (Nat.sub_le _ _) t.isLt)).2.2 r k

theorem outs_7 (t : Fin cfg0.N) (ht : t.val + 1 = cfg0.N) (k : Fin 1024) :
    (outsAt0 m c t.val t.isLt).2.2 (ix2 0 k) = ggArr four (D m c) (W m c) (X m c) (ix2 0 k) := by
  have e := Pipeline.eq_sum_fin_of_reset_step_apply_last (fun n hn (_ : Unit) => ((outsAt0 m c n hn).2.2 (ix2 0 k) : EReal)) 16 (fun _ => 0)
    (fun t _ => ∑ r, prodAt four (D m c) (W m c) (rowAt t r) k * Norm.normed (fun j => X m c (ix2 (rowAt t r) j)) k)
    (fun t h0 _ => by
      rw [outsAt0_A m c t h0, zero_add]
      dsimp only
      refine (out_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) ((hcond0_0 t).mpr h0) k).trans (block_gg four (rowAt t) (block_0 m c t) (block_1 m c t) (block_2 m c t) k))
    (fun t h0 _ => by
      rw [outsAt0_B m c t h0]
      dsimp only
      refine (out_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (fun h => h0 ((hcond0_0 t).mp h)) (outsAt0 m c (t.val - 1) (Nat.lt_of_le_of_lt (Nat.sub_le _ _) t.isLt)).2.2 k).trans (congrArg (_ + ·) (block_gg four (rowAt t) (block_0 m c t) (block_1 m c t) (block_2 m c t) k)))
    (by decide) t ht ()
  refine e.trans ((zero_add _).trans ?_)
  exact sum_rows N_0 rowAt (fun _ _ => rfl) fun R => prodAt four (D m c) (W m c) R k * Norm.normed (fun j => X m c (ix2 R j)) k

/-! ## The arrays -/

theorem gx_array : (dats m 0 c).arrAt 5 cfg0.N = gxArr four (D m c) (W m c) (X m c) (G m c) (S m c) := by
  refine (dats m 0 c).arrAt_eq_of_covers 5 _ (by decide +kernel) fun t hf y => ?_
  obtain ⟨r, k, rfl⟩ : ∃ r k, y = ix2 r k := ⟨y 0, y 1, eq_ix2 y⟩
  blk_simp
  rw [after0_5]
  refine (outs_5 m c t r k).trans ?_
  show gxArr four (D m c) (W m c) (X m c) (G m c) (S m c) (ix2 (rowAt t r) k) = _
  refine congrArg _ ?_
  blk_ext [idx_5, rowAt]

theorem gx16_array : (dats m 0 c).arrAt 6 cfg0.N = gxArr four (D m c) (W m c) (X m c) (G m c) (S m c) := by
  refine (dats m 0 c).arrAt_eq_of_covers 6 _ (by decide +kernel) fun t hf y => ?_
  obtain ⟨r, k, rfl⟩ : ∃ r k, y = ix2 r k := ⟨y 0, y 1, eq_ix2 y⟩
  blk_simp
  rw [after0_6]
  refine (outs_6 m c t r k).trans ?_
  show gxArr four (D m c) (W m c) (X m c) (G m c) (S m c) (ix2 (rowAt t r) k) = _
  refine congrArg _ ?_
  blk_ext [idx_6, rowAt]

theorem gg_array : (dats m 0 c).arrAt 7 cfg0.N = ggArr four (D m c) (W m c) (X m c) := by
  refine (dats m 0 c).arrAt_eq_of_covers 7 _ (by decide +kernel) fun t hf y => ?_
  have ht : t.val + 1 = cfg0.N := by
    have h := (flush0_7 t).mp hf
    have := t.isLt
    have : cfg0.N = 16 := N_0
    omega
  obtain ⟨a, k, rfl⟩ : ∃ a k, y = ix2 a k := ⟨y 0, y 1, eq_ix2 y⟩
  obtain rfl : a = 0 := Subsingleton.elim _ _
  blk_simp
  rw [after0_7]
  refine (outs_7 m c t ht k).trans ?_
  show ggArr four (D m c) (W m c) (X m c) (ix2 0 k) = _
  refine congrArg _ ?_
  blk_ext [idx_7]

end Cert.Kernel3Ideal.Array

namespace Cert.Reference3Ideal.Stages

open Cert.Reference3Ideal Cert.Reference3Ideal.Gen Cert.Reference3Ideal.Read Cert.SlabGrad Cert.Kernel3Ideal.Array

variable (x0 : (⟨S8192x4096, .bf16⟩ : BufTy).Contents (Elt Ideal)) (x1 : (⟨S4x1024x1024, .bf16⟩ : BufTy).Contents (Elt Ideal))
  (x2 : (⟨S8192x1024, .f32⟩ : BufTy).Contents (Elt Ideal)) (x3 : (⟨S1024, .f32⟩ : BufTy).Contents (Elt Ideal))
  (x4 : (⟨S8192x1024, .f32⟩ : BufTy).Contents (Elt Ideal))

theorem weight_at (k : Fin 1024) (s : Fin 4) (n : Fin 1024) : val_main_v2 (F := Ideal) x1 (ix2 k (col four s n)) = x1 (ix3 s k n) := by
  rw [val_main_v2_apply, val_main_v1_apply]
  refine congrArg x1 (funext fun a => Fin.ext ?_)
  match a with
  | ⟨0, _⟩ => show (k.val * 4096 + (s.val * 1024 + n.val)) / 1024 % 4 = s.val; omega
  | ⟨1, _⟩ => show (k.val * 4096 + (s.val * 1024 + n.val)) / 4096 = k.val; omega
  | ⟨2, _⟩ => show (k.val * 4096 + (s.val * 1024 + n.val)) % 1024 = n.val; omega

theorem prod_at (r : Fin 8192) (k : Fin 1024) : val_main_v21 (F := Ideal) x0 x1 (ix2 r k) = prodAt four x0 x1 r k := by
  have e : val_main_v21 (F := Ideal) x0 x1 (ix2 r k) = ∑ j : Fin 4096, x0 (ix2 r j) * val_main_v2 (F := Ideal) x1 (ix2 k j) := by
    unfold val_main_v21 val_main_v20
    generalize val_main_v2 (F := Ideal) x1 = p
    pointwise
  rw [e, sum_cols four]
  simp only [weight_at]
  rfl

theorem gx_result : val_main_v42 (F := Ideal) x0 x1 x2 x3 x4 = gxArr four x0 x1 x2 x3 x4 :=
  Cert.NormGrad.gx_slabs (val_main_v21 (F := Ideal) x0 x1) x2 x4 x3 four x0 x1 (prod_at x0 x1)

theorem gx16_result : val_main_v43 (F := Ideal) x0 x1 x2 x3 x4 = gxArr four x0 x1 x2 x3 x4 := gx_result x0 x1 x2 x3 x4

theorem gg_result : val_main_v44 (F := Ideal) x0 x1 x2 = ggArr four x0 x1 x2 :=
  Cert.NormGrad.gg_slabs (val_main_v21 (F := Ideal) x0 x1) x2 four x0 x1 (prod_at x0 x1)

end Cert.Reference3Ideal.Stages

end
-- ==== Proof.Final.lean ====
/-
  The end of the forward pass and the start of the backward: the down projection is added to the residual, the sum's rows are
  normed and scaled, the loss is half the mean square of the error, and the gradients of the sum and of the gain follow from
  the error. The kernel does all of it in one pass over blocks of rows, and accumulates the loss and the gain's gradient
  over the blocks; the reference takes the loss and differentiates it.
-/
module

public import proofs.«01_k».proof.Proof.Gen.Kernel4Ideal.Value
public import proofs.«01_k».proof.Proof.Gen.Reference4Ideal.Read
public import proofs.«01_k».proof.Proof.Stages
public import proofs.«01_k».proof.Proof.Norm
public import proofs.«01_k».proof.Proof.Cols

@[expose] public section

set_option maxRecDepth 16384

noncomputable section

open Idealize.ShloMosaic Idealize.ShloMosaic.TcCoe Idealize.SL.Sem
open Idealize.ShloMosaic.Pipeline (Dat)

namespace Cert.Final

open Cert.MemAttn

/-- One half and the reciprocal of the width, as the kernel writes them. -/
def half : EReal := Ideal.ofBits .f32 0x3F000000#32
def recip : EReal := Ideal.ofBits .f32 0x3A800000#32

theorem half_eq : half = ((1 / 2 : ℝ) : EReal) := by
  unfold half
  simp [Ideal.ofBits, Ideal.ieee]
  try rw [← EReal.coe_mul]
  norm_num

theorem recip_eq : recip = ((1 / 1024 : ℝ) : EReal) := by
  unfold recip
  simp [Ideal.ofBits, Ideal.ieee]
  try rw [← EReal.coe_mul]
  norm_num

theorem two_eq : Ideal.ofBits .f32 0x40000000#32 = ((2 : ℝ) : EReal) := by
  simp [Ideal.ofBits, Ideal.ieee]
  try rw [← EReal.coe_mul]
  norm_num

variable {n : ℕ}

/-- Row `r` of the sum of the residual and the down projection. -/
def sumAt (A : (⟨2, ![n, 4096]⟩ : Shape).Idx → EReal) (W : (⟨3, ![1, 4096, 1024]⟩ : Shape).Idx → EReal)
    (X : (⟨2, ![n, 1024]⟩ : Shape).Idx → EReal) (r : Fin n) (k : Fin 1024) : EReal :=
  X (ix2 r k) + ∑ j : Fin 4096, A (ix2 r j) * W (ix3 0 j k)

/-- The error of row `y` with gain `g` against `t`. -/
def err (y g t : Fin 1024 → EReal) (k : Fin 1024) : EReal := Norm.normed y k * g k - t k

/-- A row's part of the loss, and the error's gradient. -/
def rowLoss (y g t : Fin 1024 → EReal) : EReal := Ideal.div (∑ k, err y g t k * err y g t k) Norm.width
def dout (y g t : Fin 1024 → EReal) (k : Fin 1024) : EReal := err y g t k * recip

/-- The normed row's cotangent, the gradient of the row, and its part of the gain's gradient. -/
def dy (y g t : Fin 1024 → EReal) (k : Fin 1024) : EReal := dout y g t k * g k
def rowGx (y g t : Fin 1024 → EReal) (k : Fin 1024) : EReal := Norm.grad y (dy y g t) k
def rowGg (y g t : Fin 1024 → EReal) (k : Fin 1024) : EReal := dout y g t k * Norm.normed y k

/-- The four results. -/
def lossArr (A : (⟨2, ![8192, 4096]⟩ : Shape).Idx → EReal) (W : (⟨3, ![1, 4096, 1024]⟩ : Shape).Idx → EReal)
    (X : (⟨2, ![8192, 1024]⟩ : Shape).Idx → EReal) (G : (⟨1, ![1024]⟩ : Shape).Idx → EReal) (T : (⟨2, ![8192, 1024]⟩ : Shape).Idx → EReal) :
    (⟨2, ![1, 1]⟩ : Shape).Idx → EReal :=
  fun _ => half * ∑ r, rowLoss (sumAt A W X r) (fun k => G (ix1 k)) (fun k => T (ix2 r k))
def gxArr (A : (⟨2, ![8192, 4096]⟩ : Shape).Idx → EReal) (W : (⟨3, ![1, 4096, 1024]⟩ : Shape).Idx → EReal)
    (X : (⟨2, ![8192, 1024]⟩ : Shape).Idx → EReal) (G : (⟨1, ![1024]⟩ : Shape).Idx → EReal) (T : (⟨2, ![8192, 1024]⟩ : Shape).Idx → EReal) :
    (⟨2, ![8192, 1024]⟩ : Shape).Idx → EReal :=
  fun y => rowGx (sumAt A W X (y 0)) (fun k => G (ix1 k)) (fun k => T (ix2 (y 0) k)) (y 1)
def ggArr (A : (⟨2, ![8192, 4096]⟩ : Shape).Idx → EReal) (W : (⟨3, ![1, 4096, 1024]⟩ : Shape).Idx → EReal)
    (X : (⟨2, ![8192, 1024]⟩ : Shape).Idx → EReal) (G : (⟨1, ![1024]⟩ : Shape).Idx → EReal) (T : (⟨2, ![8192, 1024]⟩ : Shape).Idx → EReal) :
    (⟨2, ![1, 1024]⟩ : Shape).Idx → EReal :=
  fun y => ∑ r, rowGg (sumAt A W X r) (fun k => G (ix1 k)) (fun k => T (ix2 r k)) (y 1)

/-- The reference differentiates half the mean of the square; the factors cancel. -/
theorem dout_eq (e : EReal) : Ideal.div (half * 1) Norm.width * (Ideal.ofBits .f32 0x40000000#32 * e) = e * recip := by
  rw [mul_one, half_eq, Norm.width_eq, two_eq, recip_eq, div_real (by norm_num), ← mul_assoc, ← EReal.coe_mul, ← EReal.coe_mul, mul_comm e]
  congr 2
  norm_num

end Cert.Final

namespace Cert.Kernel4Ideal.Array

open Cert.Kernel4Ideal Cert.Kernel4Ideal.Gen Cert.Final

theorem hz2 : (![0, 0] : Fin 2 → ℕ) = fun _ => 0 := funext fun a => by fin_cases a <;> rfl
theorem hz3 : (![0, 0, 0] : Fin 3 → ℕ) = fun _ => 0 := funext fun a => by fin_cases a <;> rfl

/-! ## The stored values at an index -/

section Payloads
variable (A : Vec Ideal S512x4096 .bf16) (W : Vec Ideal S1x4096x1024 .bf16) (X T : Vec Ideal S512x1024 .f32) (G : Vec Ideal S1x1024 .f32)
  (r : Fin 512) (k : Fin 1024)

/-- The gain and the target of a row. -/
abbrev gain (G : S1x1024.Idx → EReal) : Fin 1024 → EReal := fun k => G (ix2 0 k)
abbrev target (T : S512x1024.Idx → EReal) (r : Fin 512) : Fin 1024 → EReal := fun k => T (ix2 r k)

theorem pay8_apply : k0_pay8 X A W (ix2 r k) = sumAt A W X r k := by
  unfold k0_pay8
  pointwise
  rfl

theorem pay10_apply : k0_pay10 X A W (ix2 r 0) = Norm.inv (sumAt A W X r) := by
  unfold k0_pay10
  generalize hp : k0_pay8 X A W = p
  pointwise
  subst hp
  simp only [pay8_apply]
  rfl

theorem pay11_apply : k0_pay11 X A W (ix2 r k) = Norm.normed (sumAt A W X r) k := by
  unfold Norm.normed
  rw [← pay10_apply, ← pay8_apply]
  unfold k0_pay11
  generalize k0_pay8 X A W = p
  generalize k0_pay10 X A W = q
  pointwise

theorem pay9_apply : k0_pay9 G (ix2 0 k) = G (ix2 0 k) := by
  unfold k0_pay9
  pointwise

theorem pay12_apply : k0_pay12 X A W G T (ix2 r k) = err (sumAt A W X r) (gain G) (target T r) k := by
  unfold err
  rw [← pay11_apply, show gain G k = k0_pay9 G (ix2 0 k) from (pay9_apply G k).symm]
  unfold k0_pay12
  generalize k0_pay11 X A W = p
  generalize k0_pay9 G = q
  pointwise

theorem pay14_apply : k0_pay14 X A W G T (ix2 0 0) = ∑ r, rowLoss (sumAt A W X r) (gain G) (target T r) := by
  unfold rowLoss
  simp only [← pay12_apply]
  unfold k0_pay14
  generalize k0_pay12 X A W G T = p
  pointwise
  rfl

theorem pay1_apply (L P : FVec Ideal S1x1 .f32) : k0_pay1 L P (k0_pay15 (F := Ideal)) (ix2 0 0) = L (ix2 0 0) + half * P (ix2 0 0) := by
  unfold k0_pay1 k0_pay15
  pointwise
  rfl

theorem pay13_apply (L : Vec Ideal S1x1 .f32) : k0_pay13 L (ix2 0 0) = L (ix2 0 0) := by
  unfold k0_pay13
  pointwise

theorem pay2_apply (E : FVec Ideal S512x1024 .f32) : k0_pay2 E (ix2 r k) = E (ix2 r k) * recip := by
  unfold k0_pay2
  pointwise
  rfl

theorem pay3_apply (N E : FVec Ideal S512x1024 .f32) (L : Vec Ideal S1x1024 .f32) :
    k0_pay3 N E L (ix2 0 k) = L (ix2 0 k) + ∑ r, E (ix2 r k) * recip * N (ix2 r k) := by
  simp only [← pay2_apply]
  unfold k0_pay3
  generalize k0_pay2 E = p
  pointwise

theorem pay4_apply (I : FVec Ideal S512x1 .f32) (N E : FVec Ideal S512x1024 .f32) (g : FVec Ideal S1x1024 .f32) : k0_pay4 g I N E (ix2 r k)
    = I (ix2 r 0) * (E (ix2 r k) * recip * g (ix2 0 k)
      - N (ix2 r k) * Ideal.div (∑ j, E (ix2 r j) * recip * g (ix2 0 j) * N (ix2 r j)) Norm.width) := by
  simp only [← pay2_apply]
  unfold k0_pay4
  generalize k0_pay2 E = p
  pointwise
  rfl

theorem pay6_zero : k0_pay6 (F := Ideal) (ix2 0 0) = 0 := by
  unfold k0_pay6
  pointwise

theorem pay7_zero : k0_pay7 (F := Ideal) (ix2 0 k) = 0 := by
  unfold k0_pay7
  pointwise

theorem gx_apply : k0_pay4 (k0_pay9 G) (k0_pay10 X A W) (k0_pay11 X A W) (k0_pay12 X A W G T) (ix2 r k)
    = rowGx (sumAt A W X r) (gain G) (target T r) k := by
  rw [pay4_apply, pay10_apply]
  simp only [pay9_apply, pay11_apply, pay12_apply]
  rfl

theorem gg_apply (L : Vec Ideal S1x1024 .f32) : k0_pay3 (k0_pay11 X A W) (k0_pay12 X A W G T) L (ix2 0 k)
    = L (ix2 0 k) + ∑ r, rowGg (sumAt A W X r) (gain G) (target T r) k := by
  rw [pay3_apply]
  simp only [pay11_apply, pay12_apply]
  rfl

theorem loss_apply (L : Vec Ideal S1x1 .f32) : k0_pay1 (k0_pay13 L) (k0_pay14 X A W G T) (k0_pay15 (F := Ideal)) (ix2 0 0)
    = L (ix2 0 0) + half * ∑ r, rowLoss (sumAt A W X r) (gain G) (target T r) := by
  rw [pay1_apply, pay13_apply, pay14_apply]

end Payloads

/-! ## What a point leaves -/

section Point
variable (c : Dev nD) (i : grid0.Coords) (a1 : Memref sig .tc .vmem S512x4096 .bf16) (h1 : a1.IsWhole) (a2 : Memref sig .tc .vmem S1x4096x1024 .bf16) (h2 : a2.IsWhole)
  (a3 : Memref sig .tc .vmem S512x1024 .f32) (h3 : a3.IsWhole) (a4 : Memref sig .tc .vmem S1x1024 .f32) (h4 : a4.IsWhole)
  (a5 : Memref sig .tc .vmem S512x1024 .f32) (h5 : a5.IsWhole) (a6 : Memref sig .tc .vmem S1x1 .f32) (h6 : a6.IsWhole)
  (a7 : Memref sig .tc .vmem S512x1024 .f32) (h7 : a7.IsWhole) (a8 : Memref sig .tc .vmem S512x1024 .bf16) (h8 : a8.IsWhole)
  (a9 : Memref sig .tc .vmem S1x1024 .f32) (h9 : a9.IsWhole)
  (x0 : Vec Ideal S512x4096 .bf16) (x1 : Vec Ideal S1x4096x1024 .bf16) (x2 : Vec Ideal S512x1024 .f32) (x3 : Vec Ideal S1x1024 .f32) (x4 : Vec Ideal S512x1024 .f32)

theorem out_A_5 (hc : cond0_0 i) :
    out0_A_5 (F := Ideal) c i a1 h1 a2 h2 a3 h3 a4 h4 a5 h5 a6 h6 a7 h7 a8 h8 a9 h9 hc x0 x1 x2 x3 x4 (ix2 0 0) = half * ∑ r, rowLoss (sumAt x0 x1 x2 r) (gain x3) (target x4 r) := by
  unfold out0_A_5
  rw [View.read_writes_eq_canon _ _ _ (cover0_A_5 c i a1 h1 a2 h2 a3 h3 a4 h4 a5 h5 a6 h6 a7 h7 a8 h8 a9 h9 hc x0 x1 x2 x3 x4)]
  unfold kernelRun0_A
  dsimp only
  try sl_unfold_words
  rw [View.canon_cons_unit_zero (S := S1x1) hz2, View.readCov_unit_zero (S := S1x1) _ hz2]
  simp only [View.readAt_eq_ld, h1.read_unread, h2.read_unread, h3.read_unread, h4.read_unread, h5.read_unread, h6.read_unread, h7.read_unread, h8.read_unread, h9.read_unread,
    View.ld_unit_zero (S := S512x4096) hz2, View.ld_unit_zero (S := S1x4096x1024) hz3, View.ld_unit_zero (S := S512x1024) hz2, View.ld_unit_zero (S := S1x1024) hz2, View.ld_unit_zero (S := S1x1) hz2]
  refine (loss_apply x0 x1 x2 x4 x3 _).trans ?_
  rw [pay6_zero, zero_add]

theorem out_A_6 (hc : cond0_0 i) (r : Fin 512) (k : Fin 1024) :
    out0_A_6 (F := Ideal) c i a1 h1 a2 h2 a3 h3 a4 h4 a5 h5 a6 h6 a7 h7 a8 h8 a9 h9 hc x0 x1 x2 x3 x4 (ix2 r k) = rowGx (sumAt x0 x1 x2 r) (gain x3) (target x4 r) k := by
  unfold out0_A_6
  rw [View.read_writes_eq_canon _ _ _ (cover0_A_6 c i a1 h1 a2 h2 a3 h3 a4 h4 a5 h5 a6 h6 a7 h7 a8 h8 a9 h9 hc x0 x1 x2 x3 x4)]
  unfold kernelRun0_A
  dsimp only
  try sl_unfold_words
  rw [View.canon_unit_zero (S := S512x1024) hz2]
  simp only [View.readAt_eq_ld, h1.read_unread, h2.read_unread, h3.read_unread, h4.read_unread, h5.read_unread, h6.read_unread, h7.read_unread, h8.read_unread, h9.read_unread,
    View.ld_unit_zero (S := S512x4096) hz2, View.ld_unit_zero (S := S1x4096x1024) hz3, View.ld_unit_zero (S := S512x1024) hz2, View.ld_unit_zero (S := S1x1024) hz2, View.ld_unit_zero (S := S1x1) hz2]
  exact gx_apply x0 x1 x2 x4 x3 r k

theorem out_A_7 (hc : cond0_0 i) (r : Fin 512) (k : Fin 1024) :
    out0_A_7 (F := Ideal) c i a1 h1 a2 h2 a3 h3 a4 h4 a5 h5 a6 h6 a7 h7 a8 h8 a9 h9 hc x0 x1 x2 x3 x4 (ix2 r k) = rowGx (sumAt x0 x1 x2 r) (gain x3) (target x4 r) k := by
  unfold out0_A_7
  rw [View.read_writes_eq_canon _ _ _ (cover0_A_7 c i a1 h1 a2 h2 a3 h3 a4 h4 a5 h5 a6 h6 a7 h7 a8 h8 a9 h9 hc x0 x1 x2 x3 x4)]
  unfold kernelRun0_A
  dsimp only
  try sl_unfold_words
  rw [View.canon_unit_zero (S := S512x1024) hz2]
  simp only [View.readAt_eq_ld, h1.read_unread, h2.read_unread, h3.read_unread, h4.read_unread, h5.read_unread, h6.read_unread, h7.read_unread, h8.read_unread, h9.read_unread,
    View.ld_unit_zero (S := S512x4096) hz2, View.ld_unit_zero (S := S1x4096x1024) hz3, View.ld_unit_zero (S := S512x1024) hz2, View.ld_unit_zero (S := S1x1024) hz2, View.ld_unit_zero (S := S1x1) hz2]
  exact gx_apply x0 x1 x2 x4 x3 r k

theorem out_A_8 (hc : cond0_0 i) (k : Fin 1024) :
    out0_A_8 (F := Ideal) c i a1 h1 a2 h2 a3 h3 a4 h4 a5 h5 a6 h6 a7 h7 a8 h8 a9 h9 hc x0 x1 x2 x3 x4 (ix2 0 k) = ∑ r, rowGg (sumAt x0 x1 x2 r) (gain x3) (target x4 r) k := by
  unfold out0_A_8
  rw [View.read_writes_eq_canon _ _ _ (cover0_A_8 c i a1 h1 a2 h2 a3 h3 a4 h4 a5 h5 a6 h6 a7 h7 a8 h8 a9 h9 hc x0 x1 x2 x3 x4)]
  unfold kernelRun0_A
  dsimp only
  try sl_unfold_words
  rw [View.canon_cons_unit_zero (S := S1x1024) hz2, View.readCov_unit_zero (S := S1x1024) _ hz2]
  simp only [View.readAt_eq_ld, h1.read_unread, h2.read_unread, h3.read_unread, h4.read_unread, h5.read_unread, h6.read_unread, h7.read_unread, h8.read_unread, h9.read_unread,
    View.ld_unit_zero (S := S512x4096) hz2, View.ld_unit_zero (S := S1x4096x1024) hz3, View.ld_unit_zero (S := S512x1024) hz2, View.ld_unit_zero (S := S1x1024) hz2, View.ld_unit_zero (S := S1x1) hz2]
  refine (gg_apply x0 x1 x2 x4 x3 k _).trans ?_
  rw [pay7_zero, zero_add]

theorem out_B_5 (hc : ¬cond0_0 i) (xo5 : Vec Ideal S1x1 .f32) (xo8 : Vec Ideal S1x1024 .f32) :
    out0_B_5 (F := Ideal) c i a1 h1 a2 h2 a3 h3 a4 h4 a5 h5 a6 h6 a7 h7 a8 h8 a9 h9 hc x0 x1 x2 x3 x4 xo5 xo8 (ix2 0 0) = xo5 (ix2 0 0) + half * ∑ r, rowLoss (sumAt x0 x1 x2 r) (gain x3) (target x4 r) := by
  unfold out0_B_5
  rw [View.read_writes_eq_canon _ _ _ (cover0_B_5 c i a1 h1 a2 h2 a3 h3 a4 h4 a5 h5 a6 h6 a7 h7 a8 h8 a9 h9 hc x0 x1 x2 x3 x4 xo5 xo8)]
  unfold kernelRun0_B
  dsimp only
  try sl_unfold_words
  rw [View.canon_unit_zero (S := S1x1) hz2]
  simp only [View.readAt_eq_ld, h1.read_unread, h2.read_unread, h3.read_unread, h4.read_unread, h5.read_unread, h6.read_unread, h7.read_unread, h8.read_unread, h9.read_unread,
    View.ld_unit_zero (S := S512x4096) hz2, View.ld_unit_zero (S := S1x4096x1024) hz3, View.ld_unit_zero (S := S512x1024) hz2, View.ld_unit_zero (S := S1x1024) hz2, View.ld_unit_zero (S := S1x1) hz2]
  exact loss_apply x0 x1 x2 x4 x3 xo5

theorem out_B_6 (hc : ¬cond0_0 i) (xo5 : Vec Ideal S1x1 .f32) (xo8 : Vec Ideal S1x1024 .f32) (r : Fin 512) (k : Fin 1024) :
    out0_B_6 (F := Ideal) c i a1 h1 a2 h2 a3 h3 a4 h4 a5 h5 a6 h6 a7 h7 a8 h8 a9 h9 hc x0 x1 x2 x3 x4 xo5 xo8 (ix2 r k) = rowGx (sumAt x0 x1 x2 r) (gain x3) (target x4 r) k := by
  unfold out0_B_6
  rw [View.read_writes_eq_canon _ _ _ (cover0_B_6 c i a1 h1 a2 h2 a3 h3 a4 h4 a5 h5 a6 h6 a7 h7 a8 h8 a9 h9 hc x0 x1 x2 x3 x4 xo5 xo8)]
  unfold kernelRun0_B
  dsimp only
  try sl_unfold_words
  rw [View.canon_unit_zero (S := S512x1024) hz2]
  simp only [View.readAt_eq_ld, h1.read_unread, h2.read_unread, h3.read_unread, h4.read_unread, h5.read_unread, h6.read_unread, h7.read_unread, h8.read_unread, h9.read_unread,
    View.ld_unit_zero (S := S512x4096) hz2, View.ld_unit_zero (S := S1x4096x1024) hz3, View.ld_unit_zero (S := S512x1024) hz2, View.ld_unit_zero (S := S1x1024) hz2, View.ld_unit_zero (S := S1x1) hz2]
  exact gx_apply x0 x1 x2 x4 x3 r k

theorem out_B_7 (hc : ¬cond0_0 i) (xo5 : Vec Ideal S1x1 .f32) (xo8 : Vec Ideal S1x1024 .f32) (r : Fin 512) (k : Fin 1024) :
    out0_B_7 (F := Ideal) c i a1 h1 a2 h2 a3 h3 a4 h4 a5 h5 a6 h6 a7 h7 a8 h8 a9 h9 hc x0 x1 x2 x3 x4 xo5 xo8 (ix2 r k) = rowGx (sumAt x0 x1 x2 r) (gain x3) (target x4 r) k := by
  unfold out0_B_7
  rw [View.read_writes_eq_canon _ _ _ (cover0_B_7 c i a1 h1 a2 h2 a3 h3 a4 h4 a5 h5 a6 h6 a7 h7 a8 h8 a9 h9 hc x0 x1 x2 x3 x4 xo5 xo8)]
  unfold kernelRun0_B
  dsimp only
  try sl_unfold_words
  rw [View.canon_unit_zero (S := S512x1024) hz2]
  simp only [View.readAt_eq_ld, h1.read_unread, h2.read_unread, h3.read_unread, h4.read_unread, h5.read_unread, h6.read_unread, h7.read_unread, h8.read_unread, h9.read_unread,
    View.ld_unit_zero (S := S512x4096) hz2, View.ld_unit_zero (S := S1x4096x1024) hz3, View.ld_unit_zero (S := S512x1024) hz2, View.ld_unit_zero (S := S1x1024) hz2, View.ld_unit_zero (S := S1x1) hz2]
  exact gx_apply x0 x1 x2 x4 x3 r k

theorem out_B_8 (hc : ¬cond0_0 i) (xo5 : Vec Ideal S1x1 .f32) (xo8 : Vec Ideal S1x1024 .f32) (k : Fin 1024) :
    out0_B_8 (F := Ideal) c i a1 h1 a2 h2 a3 h3 a4 h4 a5 h5 a6 h6 a7 h7 a8 h8 a9 h9 hc x0 x1 x2 x3 x4 xo5 xo8 (ix2 0 k) = xo8 (ix2 0 k) + ∑ r, rowGg (sumAt x0 x1 x2 r) (gain x3) (target x4 r) k := by
  unfold out0_B_8
  rw [View.read_writes_eq_canon _ _ _ (cover0_B_8 c i a1 h1 a2 h2 a3 h3 a4 h4 a5 h5 a6 h6 a7 h7 a8 h8 a9 h9 hc x0 x1 x2 x3 x4 xo5 xo8)]
  unfold kernelRun0_B
  dsimp only
  try sl_unfold_words
  rw [View.canon_unit_zero (S := S1x1024) hz2]
  simp only [View.readAt_eq_ld, h1.read_unread, h2.read_unread, h3.read_unread, h4.read_unread, h5.read_unread, h6.read_unread, h7.read_unread, h8.read_unread, h9.read_unread,
    View.ld_unit_zero (S := S512x4096) hz2, View.ld_unit_zero (S := S1x4096x1024) hz3, View.ld_unit_zero (S := S512x1024) hz2, View.ld_unit_zero (S := S1x1024) hz2, View.ld_unit_zero (S := S1x1) hz2]
  exact gg_apply x0 x1 x2 x4 x3 k xo8

end Point

/-! ## The blocks -/

variable (m : (ℓ : Loc nD τ sig) → Buf (Elt Ideal) ℓ) (c : Dev nD)

/-- The five arguments. -/
abbrev A : S8192x4096.Idx → EReal := m ((c : Thread nD τ).loc main_arg0)
abbrev W : S1x4096x1024.Idx → EReal := m ((c : Thread nD τ).loc main_arg1)
abbrev X : S8192x1024.Idx → EReal := m ((c : Thread nD τ).loc main_arg2)
abbrev G : S1024.Idx → EReal := m ((c : Thread nD τ).loc main_arg3)
abbrev T : S8192x1024.Idx → EReal := m ((c : Thread nD τ).loc main_arg4)

theorem idx_0 : ∀ t : Fin cfg0.N, win0_0.index t = ![t.val, 0] := (by decide +kernel : ∀ t : Fin grid0.N, win0_0.index t = ![t.val, 0])
theorem idx_1 : ∀ t : Fin cfg0.N, win0_1.index t = ![0, 0, 0] := (by decide +kernel : ∀ t : Fin grid0.N, win0_1.index t = ![0, 0, 0])
theorem idx_2 : ∀ t : Fin cfg0.N, win0_2.index t = ![t.val, 0] := (by decide +kernel : ∀ t : Fin grid0.N, win0_2.index t = ![t.val, 0])
theorem idx_3 : ∀ t : Fin cfg0.N, win0_3.index t = ![0, 0] := (by decide +kernel : ∀ t : Fin grid0.N, win0_3.index t = ![0, 0])
theorem idx_4 : ∀ t : Fin cfg0.N, win0_4.index t = ![t.val, 0] := (by decide +kernel : ∀ t : Fin grid0.N, win0_4.index t = ![t.val, 0])
theorem idx_5 : ∀ t : Fin cfg0.N, win0_5.index t = ![0, 0] := (by decide +kernel : ∀ t : Fin grid0.N, win0_5.index t = ![0, 0])
theorem idx_6 : ∀ t : Fin cfg0.N, win0_6.index t = ![t.val, 0] := (by decide +kernel : ∀ t : Fin grid0.N, win0_6.index t = ![t.val, 0])
theorem idx_7 : ∀ t : Fin cfg0.N, win0_7.index t = ![t.val, 0] := (by decide +kernel : ∀ t : Fin grid0.N, win0_7.index t = ![t.val, 0])
theorem idx_8 : ∀ t : Fin cfg0.N, win0_8.index t = ![0, 0] := (by decide +kernel : ∀ t : Fin grid0.N, win0_8.index t = ![0, 0])

/-- Row `r` of block `t`. -/
def rowAt (t : Fin cfg0.N) (r : Fin 512) : Fin 8192 := ⟨t.val * 512 + r.val, by have := t.isLt; have : cfg0.N = 16 := N_0; omega⟩

/-- The rows of all blocks are all rows. -/
theorem sum_rows (f : Fin 8192 → EReal) : ∑ t : Fin cfg0.N, ∑ r : Fin 512, f (rowAt t r) = ∑ R, f R := by
  rw [Fin.sum_univ_tiles 16 512 rfl f]
  exact Equiv.sum_comp (finCongr N_0) fun t : Fin 16 => ∑ r : Fin 512, f ⟨t.val * 512 + r.val, by omega⟩

/-- The gain as the call reads it: the host lays it out as one row. -/
theorem gain_row (k : Fin 1024) : V m c main_v0 (ix2 0 k) = G m c (ix1 k) := by
  unfold V
  rw [StableHlo.after_cons, StableHlo.after_nil, StableHlo.reshape_result]
  pointwise

theorem block_0 (t : Fin cfg0.N) (r : Fin 512) (d : Fin 4096) : iblk m c 0 t (ix2 r d) = A m c (ix2 (rowAt t r) d) := by
  blk_simp [iblk]
  rw [V_main_arg0]
  refine congrArg (A m c) ?_
  blk_ext [idx_0, rowAt]

theorem block_1 (t : Fin cfg0.N) : (iblk m c 1 t : S1x4096x1024.Idx → EReal) = W m c := by
  funext y
  blk_simp [iblk]
  rw [V_main_arg1]
  refine congrArg (W m c) ?_
  blk_ext [idx_1]

theorem block_2 (t : Fin cfg0.N) (r : Fin 512) (k : Fin 1024) : iblk m c 2 t (ix2 r k) = X m c (ix2 (rowAt t r) k) := by
  blk_simp [iblk]
  rw [V_main_arg2]
  refine congrArg (X m c) ?_
  blk_ext [idx_2, rowAt]

theorem block_3 (t : Fin cfg0.N) (k : Fin 1024) : iblk m c 3 t (ix2 0 k) = G m c (ix1 k) := by
  blk_simp [iblk]
  refine Eq.trans (congrArg (V m c main_v0) ?_) (gain_row m c k)
  blk_ext [idx_3]

theorem block_4 (t : Fin cfg0.N) (r : Fin 512) (k : Fin 1024) : iblk m c 4 t (ix2 r k) = T m c (ix2 (rowAt t r) k) := by
  blk_simp [iblk]
  rw [V_main_arg4]
  refine congrArg (T m c) ?_
  blk_ext [idx_4, rowAt]

theorem blk_sum (t : Fin cfg0.N) (r : Fin 512) :
    sumAt (iblk m c 0 t) (iblk m c 1 t) (iblk m c 2 t) r = sumAt (A m c) (W m c) (X m c) (rowAt t r) := by
  funext k
  unfold sumAt
  simp only [block_0, block_1, block_2]

theorem blk_gain (t : Fin cfg0.N) : gain (iblk m c 3 t) = fun k => G m c (ix1 k) := funext fun k => block_3 m c t k

theorem blk_target (t : Fin cfg0.N) (r : Fin 512) : target (iblk m c 4 t) r = fun k => T m c (ix2 (rowAt t r) k) := funext fun k => block_4 m c t r k

theorem outs_6 (t : Fin cfg0.N) (r : Fin 512) (k : Fin 1024) : (outsAt0 m c t.val t.isLt).2.1 (ix2 r k) = rowGx (sumAt (A m c) (W m c) (X m c) (rowAt t r)) (fun k => G m c (ix1 k)) (fun k => T m c (ix2 (rowAt t r) k)) k := by
  rw [← blk_sum, ← blk_gain m c t, ← blk_target]
  by_cases h0 : t.val % 16 = 0
  · rw [outsAt0_A m c t h0]
    dsimp only
    exact out_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) ((hcond0_0 t).mpr h0) r k
  · rw [outsAt0_B m c t h0]
    dsimp only
    exact out_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (fun h => h0 ((hcond0_0 t).mp h)) (outsAt0 m c (t.val - 1) (Nat.lt_of_le_of_lt (Nat.sub_le _ _) t.isLt)).1 (outsAt0 m c (t.val - 1) (Nat.lt_of_le_of_lt (Nat.sub_le _ _) t.isLt)).2.2.2 r k

theorem outs_7 (t : Fin cfg0.N) (r : Fin 512) (k : Fin 1024) : (outsAt0 m c t.val t.isLt).2.2.1 (ix2 r k) = rowGx (sumAt (A m c) (W m c) (X m c) (rowAt t r)) (fun k => G m c (ix1 k)) (fun k => T m c (ix2 (rowAt t r) k)) k := by
  rw [← blk_sum, ← blk_gain m c t, ← blk_target]
  by_cases h0 : t.val % 16 = 0
  · rw [outsAt0_A m c t h0]
    dsimp only
    exact out_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) ((hcond0_0 t).mpr h0) r k
  · rw [outsAt0_B m c t h0]
    dsimp only
    exact out_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (fun h => h0 ((hcond0_0 t).mp h)) (outsAt0 m c (t.val - 1) (Nat.lt_of_le_of_lt (Nat.sub_le _ _) t.isLt)).1 (outsAt0 m c (t.val - 1) (Nat.lt_of_le_of_lt (Nat.sub_le _ _) t.isLt)).2.2.2 r k

theorem outs_5 (t : Fin cfg0.N) (ht : t.val + 1 = cfg0.N) :
    (outsAt0 m c t.val t.isLt).1 (ix2 0 0) = half * ∑ R, rowLoss (sumAt (A m c) (W m c) (X m c) R) (fun k => G m c (ix1 k)) (fun k => T m c (ix2 R k)) := by
  have e := Pipeline.eq_sum_fin_of_reset_step_apply_last (fun n hn (_ : Unit) => ((outsAt0 m c n hn).1 (ix2 0 0) : EReal)) 16 (fun _ => 0)
    (fun t _ => half * ∑ r, rowLoss (sumAt (A m c) (W m c) (X m c) (rowAt t r)) (fun k => G m c (ix1 k)) (fun k => T m c (ix2 (rowAt t r) k)))
    (fun t h0 _ => by
      rw [outsAt0_A m c t h0, zero_add]
      dsimp only
      refine (out_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) ((hcond0_0 t).mpr h0)).trans ?_
      simp only [blk_sum, blk_gain, blk_target])
    (fun t h0 _ => by
      rw [outsAt0_B m c t h0]
      dsimp only
      refine (out_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (fun h => h0 ((hcond0_0 t).mp h)) (outsAt0 m c (t.val - 1) (Nat.lt_of_le_of_lt (Nat.sub_le _ _) t.isLt)).1 (outsAt0 m c (t.val - 1) (Nat.lt_of_le_of_lt (Nat.sub_le _ _) t.isLt)).2.2.2).trans ?_
      simp only [blk_sum, blk_gain, blk_target])
    (by decide) t ht ()
  refine e.trans ((zero_add _).trans ?_)
  rw [half_eq, ← Cert.MemAttn.real_mul_sum _ (by norm_num)]
  exact congrArg _ (sum_rows fun R => rowLoss (sumAt (A m c) (W m c) (X m c) R) (fun k => G m c (ix1 k)) (fun k => T m c (ix2 R k)))

theorem outs_8 (t : Fin cfg0.N) (ht : t.val + 1 = cfg0.N) (k : Fin 1024) :
    (outsAt0 m c t.val t.isLt).2.2.2 (ix2 0 k) = ∑ R, rowGg (sumAt (A m c) (W m c) (X m c) R) (fun k => G m c (ix1 k)) (fun k => T m c (ix2 R k)) k := by
  have e := Pipeline.eq_sum_fin_of_reset_step_apply_last (fun n hn (_ : Unit) => ((outsAt0 m c n hn).2.2.2 (ix2 0 k) : EReal)) 16 (fun _ => 0)
    (fun t _ => ∑ r, rowGg (sumAt (A m c) (W m c) (X m c) (rowAt t r)) (fun k => G m c (ix1 k)) (fun k => T m c (ix2 (rowAt t r) k)) k)
    (fun t h0 _ => by
      rw [outsAt0_A m c t h0, zero_add]
      dsimp only
      refine (out_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) ((hcond0_0 t).mpr h0) k).trans ?_
      simp only [blk_sum, blk_gain, blk_target])
    (fun t h0 _ => by
      rw [outsAt0_B m c t h0]
      dsimp only
      refine (out_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (fun h => h0 ((hcond0_0 t).mp h)) (outsAt0 m c (t.val - 1) (Nat.lt_of_le_of_lt (Nat.sub_le _ _) t.isLt)).1 (outsAt0 m c (t.val - 1) (Nat.lt_of_le_of_lt (Nat.sub_le _ _) t.isLt)).2.2.2 k).trans ?_
      simp only [blk_sum, blk_gain, blk_target])
    (by decide) t ht ()
  refine e.trans ((zero_add _).trans ?_)
  exact sum_rows fun R => rowGg (sumAt (A m c) (W m c) (X m c) R) (fun k => G m c (ix1 k)) (fun k => T m c (ix2 R k)) k

/-! ## The arrays -/

theorem gx_array : (dats m 0 c).arrAt 6 cfg0.N = gxArr (A m c) (W m c) (X m c) (G m c) (T m c) := by
  refine (dats m 0 c).arrAt_eq_of_covers 6 _ (by decide +kernel) fun t hf y => ?_
  obtain ⟨r, k, rfl⟩ : ∃ r k, y = ix2 r k := ⟨y 0, y 1, eq_ix2 y⟩
  blk_simp
  rw [after0_6]
  refine (outs_6 m c t r k).trans ?_
  show gxArr (A m c) (W m c) (X m c) (G m c) (T m c) (ix2 (rowAt t r) k) = _
  refine congrArg _ ?_
  blk_ext [idx_6, rowAt]

theorem gx16_array : (dats m 0 c).arrAt 7 cfg0.N = gxArr (A m c) (W m c) (X m c) (G m c) (T m c) := by
  refine (dats m 0 c).arrAt_eq_of_covers 7 _ (by decide +kernel) fun t hf y => ?_
  obtain ⟨r, k, rfl⟩ : ∃ r k, y = ix2 r k := ⟨y 0, y 1, eq_ix2 y⟩
  blk_simp
  rw [after0_7]
  refine (outs_7 m c t r k).trans ?_
  show gxArr (A m c) (W m c) (X m c) (G m c) (T m c) (ix2 (rowAt t r) k) = _
  refine congrArg _ ?_
  blk_ext [idx_7, rowAt]

theorem loss_array : (dats m 0 c).arrAt 5 cfg0.N = lossArr (A m c) (W m c) (X m c) (G m c) (T m c) := by
  refine (dats m 0 c).arrAt_eq_of_covers 5 _ (by decide +kernel) fun t hf y => ?_
  have ht : t.val + 1 = cfg0.N := by
    have h := (flush0_5 t).mp hf
    have := t.isLt
    have : cfg0.N = 16 := N_0
    omega
  obtain ⟨a, k, rfl⟩ : ∃ a k, y = ix2 a k := ⟨y 0, y 1, eq_ix2 y⟩
  obtain rfl : a = 0 := Subsingleton.elim _ _
  obtain rfl : k = 0 := Subsingleton.elim _ _
  blk_simp
  rw [after0_5]
  refine (outs_5 m c t ht).trans ?_
  show lossArr (A m c) (W m c) (X m c) (G m c) (T m c) (ix2 0 0) = _
  refine congrArg _ ?_
  blk_ext [idx_5]

theorem gg_array : (dats m 0 c).arrAt 8 cfg0.N = ggArr (A m c) (W m c) (X m c) (G m c) (T m c) := by
  refine (dats m 0 c).arrAt_eq_of_covers 8 _ (by decide +kernel) fun t hf y => ?_
  have ht : t.val + 1 = cfg0.N := by
    have h := (flush0_8 t).mp hf
    have := t.isLt
    have : cfg0.N = 16 := N_0
    omega
  obtain ⟨a, k, rfl⟩ : ∃ a k, y = ix2 a k := ⟨y 0, y 1, eq_ix2 y⟩
  obtain rfl : a = 0 := Subsingleton.elim _ _
  blk_simp
  rw [after0_8]
  refine (outs_8 m c t ht k).trans ?_
  show ggArr (A m c) (W m c) (X m c) (G m c) (T m c) (ix2 0 k) = _
  refine congrArg _ ?_
  blk_ext [idx_8]

end Cert.Kernel4Ideal.Array

namespace Cert.Reference4Ideal.Stages

open Cert.Reference4Ideal Cert.Reference4Ideal.Gen Cert.Reference4Ideal.Read Cert.Final

variable (x0 : (⟨S8192x4096, .bf16⟩ : BufTy).Contents (Elt Ideal)) (x1 : (⟨S1x4096x1024, .bf16⟩ : BufTy).Contents (Elt Ideal))
  (x2 : (⟨S8192x1024, .f32⟩ : BufTy).Contents (Elt Ideal)) (x3 : (⟨S1024, .f32⟩ : BufTy).Contents (Elt Ideal))
  (x4 : (⟨S8192x1024, .f32⟩ : BufTy).Contents (Elt Ideal))

/-- The gain and the target of a row. -/
abbrev gain (x3 : S1024.Idx → EReal) : Fin 1024 → EReal := fun k => x3 (ix1 k)
abbrev target (x4 : S8192x1024.Idx → EReal) (r : Fin 8192) : Fin 1024 → EReal := fun k => x4 (ix2 r k)

theorem weight_at (j : Fin 4096) (k : Fin 1024) : val_main_v3 (F := Ideal) x1 (ix2 j k) = x1 (ix3 0 j k) := by
  unfold val_main_v3 val_main_v2 val_main_v1
  pointwise

theorem sum_at (r : Fin 8192) (k : Fin 1024) : val_main_v5 (F := Ideal) x0 x1 x2 (ix2 r k) = sumAt x0 x1 x2 r k := by
  unfold val_main_v5 val_main_v4 val_main_v0
  pointwise
  simp only [weight_at]
  rfl

theorem ms_at (r : Fin 8192) : val_main_v12 (F := Ideal) x0 x1 x2 (ix2 r 0) = Norm.ms (sumAt x0 x1 x2 r) := by
  unfold val_main_v12 val_main_v11 val_main_cst_1 val_main_v10 val_main_v9 val_main_cst_0 val_main_v8 val_main_v7 val_main_cst val_main_v6
  generalize hp : val_main_v5 (F := Ideal) x0 x1 x2 = p
  pointwise
  subst hp
  simp only [sum_at]
  rfl

theorem inv_at (r : Fin 8192) : val_main_v13 (F := Ideal) x0 x1 x2 (ix2 r 0) = Norm.inv (sumAt x0 x1 x2 r) := by
  unfold Norm.inv
  rw [← ms_at]
  unfold val_main_v13
  generalize val_main_v12 (F := Ideal) x0 x1 x2 = p
  pointwise

theorem normed_at (r : Fin 8192) (k : Fin 1024) : val_main_v18 (F := Ideal) x0 x1 x2 (ix2 r k) = Norm.normed (sumAt x0 x1 x2 r) k := by
  unfold Norm.normed
  rw [← inv_at, ← sum_at]
  unfold val_main_v18 val_main_v17
  generalize val_main_v13 (F := Ideal) x0 x1 x2 = p
  generalize val_main_v5 (F := Ideal) x0 x1 x2 = q
  pointwise

theorem err_at (r : Fin 8192) (k : Fin 1024) : val_main_v22 (F := Ideal) x0 x1 x2 x3 x4 (ix2 r k) = err (sumAt x0 x1 x2 r) (gain x3) (target x4 r) k := by
  unfold err
  rw [← normed_at]
  unfold val_main_v22 val_main_v21 val_main_v20 val_main_v19
  generalize val_main_v18 (F := Ideal) x0 x1 x2 = p
  pointwise

theorem dout_at (r : Fin 8192) (k : Fin 1024) : val_main_v36 (F := Ideal) x0 x1 x2 x3 x4 (ix2 r k) = dout (sumAt x0 x1 x2 r) (gain x3) (target x4 r) k := by
  unfold dout
  rw [← err_at, ← dout_eq]
  have h1 : val_main_v35 (F := Ideal) (ix2 r k) = Ideal.div (half * 1) Norm.width := by
    rw [← Cert.ReferenceIdeal.Stages.one_bits]
    unfold val_main_v35 val_main_v34 val_main_v33 val_main_cst_10 val_main_v32 val_main_v31 val_main_cst_8 val_main_cst_9
    pointwise
    rfl
  rw [← h1]
  unfold val_main_v36 val_main_v25 val_main_v24 val_main_cst_3
  generalize val_main_v22 (F := Ideal) x0 x1 x2 x3 x4 = p
  generalize val_main_v35 (F := Ideal) = q
  pointwise

theorem loss_at : val_main_v57 (F := Ideal) x0 x1 x2 x3 x4 (ix2 0 0) = half * ∑ r, rowLoss (sumAt x0 x1 x2 r) (gain x3) (target x4 r) := by
  have e : ∀ r : Fin 8192, val_main_v28 (F := Ideal) x0 x1 x2 x3 x4 (ix1 r) = rowLoss (sumAt x0 x1 x2 r) (gain x3) (target x4 r) := fun r => by
    unfold rowLoss
    simp only [← err_at]
    unfold val_main_v28 val_main_v27 val_main_cst_5 val_main_v26 val_main_cst_4 val_main_v23
    generalize val_main_v22 (F := Ideal) x0 x1 x2 x3 x4 = p
    pointwise
    rfl
  simp only [← e]
  unfold val_main_v57 val_main_v30 val_main_cst_7 val_main_v29 val_main_cst_6
  generalize val_main_v28 (F := Ideal) x0 x1 x2 x3 x4 = p
  pointwise
  rfl

/-- The cotangent of the normed row. -/
theorem dy_at (r : Fin 8192) (k : Fin 1024) : val_main_v41 (F := Ideal) x0 x1 x2 x3 x4 (ix2 r k) = dy (sumAt x0 x1 x2 r) (gain x3) (target x4 r) k := by
  unfold dy
  rw [← dout_at]
  unfold val_main_v41 val_main_v40 val_main_v19
  generalize val_main_v36 (F := Ideal) x0 x1 x2 x3 x4 = p
  pointwise

theorem half_at (r : Fin 8192) : val_main_v16 (F := Ideal) x0 x1 x2 (ix2 r 0)
    = Norm.negHalf * Ideal.div (Norm.inv (sumAt x0 x1 x2 r)) (Norm.ms (sumAt x0 x1 x2 r)) := by
  rw [← inv_at, ← ms_at]
  unfold val_main_v16 val_main_v15 val_main_cst_2 val_main_v14
  generalize val_main_v13 (F := Ideal) x0 x1 x2 = p
  generalize val_main_v12 (F := Ideal) x0 x1 x2 = q
  pointwise
  rfl

theorem dot_at (r : Fin 8192) : val_main_v45 (F := Ideal) x0 x1 x2 x3 x4 (ix2 r 0)
    = ∑ j, sumAt x0 x1 x2 r j * dy (sumAt x0 x1 x2 r) (gain x3) (target x4 r) j := by
  simp only [← dy_at, ← sum_at]
  unfold val_main_v45 val_main_v44 val_main_cst_13 val_main_v43
  generalize val_main_v41 (F := Ideal) x0 x1 x2 x3 x4 = p
  generalize val_main_v5 (F := Ideal) x0 x1 x2 = q
  pointwise

theorem coef_at (r : Fin 8192) (k : Fin 1024) : val_main_v52 (F := Ideal) x0 x1 x2 x3 x4 (ix2 r k)
    = Norm.coef (sumAt x0 x1 x2 r) (dy (sumAt x0 x1 x2 r) (gain x3) (target x4 r)) := by
  unfold Norm.coef
  rw [← dot_at, ← half_at]
  unfold val_main_v52 val_main_v51 val_main_cst_15 val_main_v50 val_main_v49 val_main_cst_14 val_main_v48
  generalize val_main_v45 (F := Ideal) x0 x1 x2 x3 x4 = p
  generalize val_main_v16 (F := Ideal) x0 x1 x2 = q
  pointwise
  exact Fin.sum_univ_one _

theorem gx_at (r : Fin 8192) (k : Fin 1024) : val_main_v56 (F := Ideal) x0 x1 x2 x3 x4 (ix2 r k) = rowGx (sumAt x0 x1 x2 r) (gain x3) (target x4 r) k := by
  unfold rowGx
  rw [← Norm.grad_eq]
  unfold Norm.refGrad
  rw [← coef_at x0 x1 x2 x3 x4 r k, ← inv_at, ← dy_at, ← sum_at]
  unfold val_main_v56 val_main_v55 val_main_v54 val_main_v53 val_main_v47 val_main_v46
  generalize val_main_v52 (F := Ideal) x0 x1 x2 x3 x4 = p
  generalize val_main_v41 (F := Ideal) x0 x1 x2 x3 x4 = q
  generalize val_main_v13 (F := Ideal) x0 x1 x2 = s
  generalize val_main_v5 (F := Ideal) x0 x1 x2 = u
  pointwise

theorem gg_at (k : Fin 1024) : val_main_v59 (F := Ideal) x0 x1 x2 x3 x4 (ix2 0 k) = ∑ r, rowGg (sumAt x0 x1 x2 r) (gain x3) (target x4 r) k := by
  have e : val_main_v38 (F := Ideal) x0 x1 x2 x3 x4 (ix1 k) = ∑ r, rowGg (sumAt x0 x1 x2 r) (gain x3) (target x4 r) k := by
    unfold rowGg
    simp only [← normed_at, ← dout_at]
    unfold val_main_v38 val_main_cst_11 val_main_v37
    generalize val_main_v18 (F := Ideal) x0 x1 x2 = p
    generalize val_main_v36 (F := Ideal) x0 x1 x2 x3 x4 = q
    pointwise
    exact Finset.sum_congr rfl fun r _ => mul_comm _ _
  rw [← e]
  unfold val_main_v59 val_main_v42 val_main_cst_12 val_main_v39
  generalize val_main_v38 (F := Ideal) x0 x1 x2 x3 x4 = p
  pointwise
  exact Fin.sum_univ_one _

theorem loss_result : val_main_v57 (F := Ideal) x0 x1 x2 x3 x4 = lossArr x0 x1 x2 x3 x4 := by
  funext y
  obtain ⟨a, b, rfl⟩ : ∃ a b, y = ix2 a b := ⟨y 0, y 1, eq_ix2 y⟩
  obtain rfl : a = 0 := Subsingleton.elim _ _
  obtain rfl : b = 0 := Subsingleton.elim _ _
  exact loss_at x0 x1 x2 x3 x4

theorem gx_result : val_main_v56 (F := Ideal) x0 x1 x2 x3 x4 = gxArr x0 x1 x2 x3 x4 := by
  funext y
  obtain ⟨r, k, rfl⟩ : ∃ r k, y = ix2 r k := ⟨y 0, y 1, eq_ix2 y⟩
  exact gx_at x0 x1 x2 x3 x4 r k

theorem gx16_result : val_main_v58 (F := Ideal) x0 x1 x2 x3 x4 = gxArr x0 x1 x2 x3 x4 := gx_result x0 x1 x2 x3 x4

theorem gg_result : val_main_v59 (F := Ideal) x0 x1 x2 x3 x4 = ggArr x0 x1 x2 x3 x4 := by
  funext y
  obtain ⟨a, k, rfl⟩ : ∃ a k, y = ix2 a k := ⟨y 0, y 1, eq_ix2 y⟩
  obtain rfl : a = 0 := Subsingleton.elim _ _
  exact gg_at x0 x1 x2 x3 x4 k

end Cert.Reference4Ideal.Stages

end
-- ==== Proof.MlpUp.lean ====
/-
  The forward pass of an MLP's first half: the rows are normed by the root of their mean square and scaled by a gain, then
  multiplied with the up projection, whose columns come in four slabs of 1024; the hidden layer is the square of the
  rectified product. The kernel writes the hidden layer group by group of columns, one group per slab.
-/
module

public import proofs.«01_k».proof.Proof.Gen.Kernel5Ideal.Value
public import proofs.«01_k».proof.Proof.Gen.Reference5Ideal.Read
public import proofs.«01_k».proof.Proof.Stages
public import proofs.«01_k».proof.Proof.Norm
public import proofs.«01_k».proof.Proof.Cols

@[expose] public section

set_option maxRecDepth 16384

noncomputable section

open Idealize.ShloMosaic Idealize.ShloMosaic.TcCoe Idealize.SL.Sem
open Idealize.ShloMosaic.Pipeline (Dat)

namespace Cert.MlpUp

open Cert.Cols

/-- The normed and scaled row `r` at column `k`. -/
def hAt (X : (⟨2, ![8192, 1024]⟩ : Shape).Idx → EReal) (G : (⟨1, ![1024]⟩ : Shape).Idx → EReal) (r : Fin 8192) (k : Fin 1024) : EReal :=
  Norm.normed (fun j => X (ix2 r j)) k * G (ix1 k)

/-- The product with column `n` of slab `s`. -/
def upAt (X : (⟨2, ![8192, 1024]⟩ : Shape).Idx → EReal) (W : (⟨3, ![4, 1024, 1024]⟩ : Shape).Idx → EReal)
    (G : (⟨1, ![1024]⟩ : Shape).Idx → EReal) (r : Fin 8192) (s : Fin 4) (n : Fin 1024) : EReal :=
  ∑ k : Fin 1024, hAt X G r k * W (ix3 s k n)

/-- The three results. -/
def upArr (X : (⟨2, ![8192, 1024]⟩ : Shape).Idx → EReal) (W : (⟨3, ![4, 1024, 1024]⟩ : Shape).Idx → EReal)
    (G : (⟨1, ![1024]⟩ : Shape).Idx → EReal) : (⟨2, ![8192, 4096]⟩ : Shape).Idx → EReal := fun y => upAt X W G (y 0) (slab (y 1)) (within (y 1))
def actArr (X : (⟨2, ![8192, 1024]⟩ : Shape).Idx → EReal) (W : (⟨3, ![4, 1024, 1024]⟩ : Shape).Idx → EReal)
    (G : (⟨1, ![1024]⟩ : Shape).Idx → EReal) : (⟨2, ![8192, 4096]⟩ : Shape).Idx → EReal := fun y => max (upArr X W G y) 0 * max (upArr X W G y) 0
def hArr (X : (⟨2, ![8192, 1024]⟩ : Shape).Idx → EReal) (G : (⟨1, ![1024]⟩ : Shape).Idx → EReal) :
    (⟨2, ![8192, 1024]⟩ : Shape).Idx → EReal := fun y => hAt X G (y 0) (y 1)

theorem upArr_col (X : (⟨2, ![8192, 1024]⟩ : Shape).Idx → EReal) (W : (⟨3, ![4, 1024, 1024]⟩ : Shape).Idx → EReal)
    (G : (⟨1, ![1024]⟩ : Shape).Idx → EReal) (r : Fin 8192) (s : Fin 4) (n : Fin 1024) : upArr X W G (ix2 r (col s n)) = upAt X W G r s n := by
  show upAt X W G r (slab (col s n)) (within (col s n)) = _
  rw [slab_col, within_col]

end Cert.MlpUp

namespace Cert.Kernel5Ideal.Array

open Cert.Kernel5Ideal Cert.Kernel5Ideal.Gen Cert.MlpUp Cert.Cols

/-! ## The stored values at an index -/

section Payloads
variable (X : Vec Ideal S512x1024 .f32) (G : Vec Ideal S1x1024 .f32) (H : FVec Ideal S512x1024 .bf16) (W : Vec Ideal S1x1024x1024 .bf16)
  (r : Fin 512) (k : Fin 1024)

theorem pay8_apply : k0_pay8 X G (ix2 r k) = Norm.normed (fun j => X (ix2 r j)) k * G (ix2 0 k) := by
  unfold k0_pay8
  pointwise
  rfl

theorem pay2_apply : k0_pay2 H W (ix2 r k) = ∑ j, H (ix2 r j) * W (ix3 0 j k) := by
  unfold k0_pay2
  pointwise

theorem pay5_apply : k0_pay5 H W (ix2 r k) = ∑ j, H (ix2 r j) * W (ix3 0 j k) := by
  unfold k0_pay5
  pointwise

theorem pay9_apply : k0_pay9 X G W (ix2 r k) = ∑ j, k0_pay8 X G (ix2 r j) * W (ix3 0 j k) := by
  unfold k0_pay9
  generalize k0_pay8 X G = p
  pointwise

theorem pay12_apply : k0_pay12 X G W (ix2 r k) = ∑ j, k0_pay8 X G (ix2 r j) * W (ix3 0 j k) := by
  unfold k0_pay12
  generalize k0_pay8 X G = p
  pointwise

theorem pay1_apply (U : FVec Ideal S512x1024 .f32) : k0_pay1 U (ix2 r k) = max (U (ix2 r k)) 0 * max (U (ix2 r k)) 0 := by
  unfold k0_pay1
  pointwise

theorem pay4_apply : k0_pay4 H W (ix2 r k) = max (k0_pay2 H W (ix2 r k)) 0 * max (k0_pay2 H W (ix2 r k)) 0 := by
  unfold k0_pay4
  generalize k0_pay2 H W = p
  pointwise

theorem pay7_apply : k0_pay7 H W (ix2 r k) = max (k0_pay5 H W (ix2 r k)) 0 * max (k0_pay5 H W (ix2 r k)) 0 := by
  unfold k0_pay7
  generalize k0_pay5 H W = p
  pointwise

theorem pay11_apply : k0_pay11 X G W (ix2 r k) = max (k0_pay9 X G W (ix2 r k)) 0 * max (k0_pay9 X G W (ix2 r k)) 0 := by
  unfold k0_pay11
  generalize k0_pay9 X G W = p
  pointwise

theorem pay3_apply : k0_pay3 H W (ix2 r k) = k0_pay2 H W (ix2 r k) := rfl
theorem pay6_apply : k0_pay6 H W (ix2 r k) = k0_pay5 H W (ix2 r k) := rfl
theorem pay10_apply : k0_pay10 X G W (ix2 r k) = k0_pay9 X G W (ix2 r k) := rfl
theorem pay13_apply : k0_pay13 X G W (ix2 r k) = k0_pay12 X G W (ix2 r k) := rfl

end Payloads

/-! ## The blocks -/

variable (m : (ℓ : Loc nD τ sig) → Buf (Elt Ideal) ℓ) (c : Dev nD)

/-- The three arguments. -/
abbrev X : S8192x1024.Idx → EReal := m ((c : Thread nD τ).loc main_arg0)
abbrev W : S4x1024x1024.Idx → EReal := m ((c : Thread nD τ).loc main_arg1)
abbrev G : S1024.Idx → EReal := m ((c : Thread nD τ).loc main_arg2)

theorem idx_0 : ∀ t : Fin cfg0.N, win0_0.index t = ![t.val, 0] := (by decide +kernel : ∀ t : Fin grid0.N, win0_0.index t = ![t.val, 0])
theorem idx_1 : ∀ t : Fin cfg0.N, win0_1.index t = ![0, 0, 0] := (by decide +kernel : ∀ t : Fin grid0.N, win0_1.index t = ![0, 0, 0])
theorem idx_2 : ∀ t : Fin cfg0.N, win0_2.index t = ![0, 0] := (by decide +kernel : ∀ t : Fin grid0.N, win0_2.index t = ![0, 0])
theorem idx_3 : ∀ t : Fin cfg0.N, win0_3.index t = ![t.val, 0] := (by decide +kernel : ∀ t : Fin grid0.N, win0_3.index t = ![t.val, 0])
theorem idx_4 : ∀ t : Fin cfg0.N, win0_4.index t = ![t.val, 0] := (by decide +kernel : ∀ t : Fin grid0.N, win0_4.index t = ![t.val, 0])
theorem idx_5 : ∀ t : Fin cfg0.N, win0_5.index t = ![t.val, 0] := (by decide +kernel : ∀ t : Fin grid0.N, win0_5.index t = ![t.val, 0])

/-- Row `r` of block `t`. -/
def rowAt (t : Fin cfg0.N) (r : Fin 512) : Fin 8192 := ⟨t.val * 512 + r.val, by have := t.isLt; have : cfg0.N = 16 := N_0; omega⟩

/-- The gain as the call reads it: the host lays it out as one row. -/
theorem gain_row (k : Fin 1024) : V m c main_v0 (ix2 0 k) = G m c (ix1 k) := by
  unfold V
  rw [StableHlo.after_cons, StableHlo.after_nil, StableHlo.reshape_result]
  pointwise

theorem block_0 (t : Fin cfg0.N) (r : Fin 512) (d : Fin 1024) : iblk m c 0 t (ix2 r d) = X m c (ix2 (rowAt t r) d) := by
  blk_simp [iblk]
  rw [V_main_arg0]
  refine congrArg (X m c) ?_
  blk_ext [idx_0, rowAt]

theorem block_1 (t : Fin cfg0.N) : (iblk m c 1 t : S4x1024x1024.Idx → EReal) = W m c := by
  funext y
  blk_simp [iblk]
  rw [V_main_arg1]
  refine congrArg (W m c) ?_
  blk_ext [idx_1]

theorem block_2 (t : Fin cfg0.N) (k : Fin 1024) : iblk m c 2 t (ix2 0 k) = G m c (ix1 k) := by
  blk_simp [iblk]
  refine Eq.trans (congrArg (V m c main_v0) ?_) (gain_row m c k)
  blk_ext [idx_2]

/-! ## What a point leaves -/

theorem hz2 : (![0, 0] : Fin 2 → ℕ) = fun _ => 0 := funext fun a => by fin_cases a <;> rfl

/-- The normed row of point `t`'s block. -/
theorem h_at (t : Fin cfg0.N) (r : Fin 512) (k : Fin 1024) :
    k0_pay8 (F := Ideal) (iblk m c 0 t) (iblk m c 2 t) (ix2 r k) = hAt (X m c) (G m c) (rowAt t r) k := by
  rw [pay8_apply, block_2]
  unfold hAt
  simp only [block_0]

/-- The product of point `t`'s rows with slab `s`. -/
theorem up_at (t : Fin cfg0.N) (r : Fin 512) (s : Fin 4) (n : Fin 1024) (o : ℕ) (inb) (hs : s.val = o) :
    (∑ j, k0_pay8 (F := Ideal) (iblk m c 0 t) (iblk m c 2 t) (ix2 r j)
      * View.ld (iblk m c 1 t : S4x1024x1024.Idx → EReal) (Rect.unit (s := S4x1024x1024) ![o, 0, 0] ![1, 1024, 1024] inb) (ix3 0 j n))
      = upAt (X m c) (W m c) (G m c) (rowAt t r) s n := by
  unfold upAt
  refine Finset.sum_congr rfl fun j _ => ?_
  rw [h_at, block_1]
  exact congrArg (_ * ·) (ld_slab (Val := Elt Ideal) (e := .bf16) (W m c) inb s j n hs)

theorem out_5 (t : Fin cfg0.N) (r : Fin 512) (k : Fin 1024) :
    out0_5 (iblk m c 0 t) (iblk m c 1 t) (iblk m c 2 t) (ix2 r k) = hAt (X m c) (G m c) (rowAt t r) k := by
  unfold out0_5 r0_0 r0_1
  rw [View.canon_cons_unit_zero (S := S512x1024) hz2, View.ld_unit_zero (S := S512x1024) hz2, View.ld_unit_zero (S := S1x1024) hz2]
  exact h_at m c t r k

theorem out_3 (t : Fin cfg0.N) (r : Fin 512) (s : Fin 4) (n : Fin 1024) :
    out0_3 (iblk m c 0 t) (iblk m c 1 t) (iblk m c 2 t) (ix2 r (col s n)) = upAt (X m c) (W m c) (G m c) (rowAt t r) s n := by
  unfold out0_3 k0_pay14 r0_0 r0_1
  rw [View.ld_unit_zero (S := S512x1024) hz2, View.ld_unit_zero (S := S1x1024) hz2]
  refine (canon_four (R := 512) _ _ _ _ _ _ _ _ s r n).trans ?_
  match s with
  | 0 => exact (pay10_apply ..).trans ((pay9_apply ..).trans (up_at m c t r 0 n 0 _ rfl))
  | 1 => exact (pay13_apply ..).trans ((pay12_apply ..).trans (up_at m c t r 1 n 1 _ rfl))
  | 2 => exact (pay3_apply ..).trans ((pay2_apply ..).trans (up_at m c t r 2 n 2 _ rfl))
  | 3 => exact (pay6_apply ..).trans ((pay5_apply ..).trans (up_at m c t r 3 n 3 _ rfl))

theorem out_4 (t : Fin cfg0.N) (r : Fin 512) (s : Fin 4) (n : Fin 1024) :
    out0_4 (iblk m c 0 t) (iblk m c 1 t) (iblk m c 2 t) (ix2 r (col s n))
      = max (upAt (X m c) (W m c) (G m c) (rowAt t r) s n) 0 * max (upAt (X m c) (W m c) (G m c) (rowAt t r) s n) 0 := by
  unfold out0_4 k0_pay14 r0_0 r0_1
  rw [View.ld_unit_zero (S := S512x1024) hz2, View.ld_unit_zero (S := S1x1024) hz2]
  refine (canon_four (R := 512) _ _ _ _ _ _ _ _ s r n).trans ?_
  match s with
  | 0 => exact (pay11_apply ..).trans (congrArg (fun u => max u 0 * max u 0) ((pay9_apply ..).trans (up_at m c t r 0 n 0 _ rfl)))
  | 1 => exact (pay1_apply ..).trans (congrArg (fun u => max u 0 * max u 0) ((pay12_apply ..).trans (up_at m c t r 1 n 1 _ rfl)))
  | 2 => exact (pay4_apply ..).trans (congrArg (fun u => max u 0 * max u 0) ((pay2_apply ..).trans (up_at m c t r 2 n 2 _ rfl)))
  | 3 => exact (pay7_apply ..).trans (congrArg (fun u => max u 0 * max u 0) ((pay5_apply ..).trans (up_at m c t r 3 n 3 _ rfl)))

/-! ## The arrays -/

theorem up_array : (dats m 0 c).arrAt 3 cfg0.N = upArr (X m c) (W m c) (G m c) := by
  refine (dats m 0 c).arrAt_eq_of_covers 3 _ (by decide +kernel) fun t hf y => ?_
  obtain ⟨r, k, rfl⟩ : ∃ r k, y = ix2 r k := ⟨y 0, y 1, eq_ix2 y⟩
  obtain ⟨s, n, rfl⟩ := exists_col k
  blk_simp
  rw [after0_3]
  refine (out_3 m c t r s n).trans ((upArr_col _ _ _ _ s n).symm.trans ?_)
  refine congrArg _ ?_
  blk_ext [idx_3, rowAt]

theorem act_array : (dats m 0 c).arrAt 4 cfg0.N = actArr (X m c) (W m c) (G m c) := by
  refine (dats m 0 c).arrAt_eq_of_covers 4 _ (by decide +kernel) fun t hf y => ?_
  obtain ⟨r, k, rfl⟩ : ∃ r k, y = ix2 r k := ⟨y 0, y 1, eq_ix2 y⟩
  obtain ⟨s, n, rfl⟩ := exists_col k
  blk_simp
  rw [after0_4]
  refine (out_4 m c t r s n).trans ?_
  rw [← upArr_col]
  show actArr (X m c) (W m c) (G m c) (ix2 (rowAt t r) (col s n)) = _
  refine congrArg _ ?_
  blk_ext [idx_4, rowAt]

theorem h_array : (dats m 0 c).arrAt 5 cfg0.N = hArr (X m c) (G m c) := by
  refine (dats m 0 c).arrAt_eq_of_covers 5 _ (by decide +kernel) fun t hf y => ?_
  obtain ⟨r, k, rfl⟩ : ∃ r k, y = ix2 r k := ⟨y 0, y 1, eq_ix2 y⟩
  blk_simp
  rw [after0_5]
  refine (out_5 m c t r k).trans ?_
  show hArr (X m c) (G m c) (ix2 (rowAt t r) k) = _
  refine congrArg _ ?_
  blk_ext [idx_5, rowAt]

end Cert.Kernel5Ideal.Array

namespace Cert.Reference5Ideal.Stages

open Cert.Reference5Ideal Cert.Reference5Ideal.Gen Cert.Reference5Ideal.Read Cert.MlpUp Cert.Cols

variable (x0 : (⟨S8192x1024, .f32⟩ : BufTy).Contents (Elt Ideal)) (x1 : (⟨S4x1024x1024, .bf16⟩ : BufTy).Contents (Elt Ideal))
  (x2 : (⟨S1024, .f32⟩ : BufTy).Contents (Elt Ideal))

/-- The reciprocal root of the mean square. -/
theorem inv_at (r : Fin 8192) (k : Fin 1024) : val_main_v8 (F := Ideal) x0 (ix2 r k) = Norm.inv (fun j => x0 (ix2 r j)) := by
  unfold val_main_v8 val_main_v7 val_main_v6 val_main_v5 val_main_cst_1 val_main_v4 val_main_v3 val_main_cst_0 val_main_v2 val_main_v1
    val_main_cst val_main_v0
  pointwise
  rfl

theorem h_at (r : Fin 8192) (k : Fin 1024) : val_main_v12 (F := Ideal) x0 x2 (ix2 r k) = hAt x0 x2 r k := by
  unfold val_main_v12 val_main_v11 val_main_v10 val_main_v9
  pointwise
  rw [inv_at]
  rfl

theorem weight_at (k : Fin 1024) (s : Fin 4) (n : Fin 1024) : val_main_v15 (F := Ideal) x1 (ix2 k (col s n)) = x1 (ix3 s k n) := by
  rw [val_main_v15_apply, val_main_v14_apply]
  refine congrArg x1 (funext fun a => Fin.ext ?_)
  match a with
  | ⟨0, _⟩ => show (k.val * 4096 + (1024 * s.val + n.val)) / 1024 % 4 = s.val; omega
  | ⟨1, _⟩ => show (k.val * 4096 + (1024 * s.val + n.val)) / 4096 = k.val; omega
  | ⟨2, _⟩ => show (k.val * 4096 + (1024 * s.val + n.val)) % 1024 = n.val; omega

theorem up_at (r : Fin 8192) (s : Fin 4) (n : Fin 1024) : val_main_v16 (F := Ideal) x0 x1 x2 (ix2 r (col s n)) = upAt x0 x1 x2 r s n := by
  unfold val_main_v16
  pointwise
  simp only [h_at, weight_at]
  rfl

theorem up_result : val_main_v17 (F := Ideal) x0 x1 x2 = upArr x0 x1 x2 := by
  funext y
  obtain ⟨r, k, rfl⟩ : ∃ r k, y = ix2 r k := ⟨y 0, y 1, eq_ix2 y⟩
  obtain ⟨s, n, rfl⟩ := exists_col k
  rw [upArr_col, ← up_at]
  rfl

theorem act_result : val_main_v20 (F := Ideal) x0 x1 x2 = actArr x0 x1 x2 := by
  funext y
  show _ = max (upArr x0 x1 x2 y) 0 * max (upArr x0 x1 x2 y) 0
  rw [← up_result]
  show max (val_main_v16 (F := Ideal) x0 x1 x2 y) (val_main_call0_v0 (F := Ideal) y) * max (val_main_v16 (F := Ideal) x0 x1 x2 y) (val_main_call0_v0 (F := Ideal) y) = _
  rw [show val_main_call0_v0 (F := Ideal) y = 0 from (val_main_call0_v0_apply y).trans Cert.ReferenceIdeal.Stages.zero_bits]
  rfl

theorem h_result : val_main_v21 (F := Ideal) x0 x2 = hArr x0 x2 := by
  funext y
  obtain ⟨r, k, rfl⟩ : ∃ r k, y = ix2 r k := ⟨y 0, y 1, eq_ix2 y⟩
  exact h_at x0 x2 r k

end Cert.Reference5Ideal.Stages

end
-- ==== Proof.WeightGrad.lean ====
/-
  The gradient of a projection's weight: the transposed input times the gradient of the output. The kernel leaves it as four
  slabs of 640 columns, each accumulated over two halves of the 8192 rows; the reference forms one product and cuts it.
-/
module

public import proofs.«01_k».proof.Proof.Gen.Kernel6Ideal.Value
public import proofs.«01_k».proof.Proof.Gen.Reference6Ideal.Read
public import Idealize.ShloMosaic.Lib.Pipeline.Value
public import Idealize.ShloMosaic.Lib.Pipeline.ValueKit
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.WeightGrad

/-- Column `n` of slab `s`. -/
def col (s : Fin 4) (n : Fin 640) : Fin 2560 := ⟨640 * s.val + n.val, by omega⟩

/-- The gradient at slab `s`, input column `k` and slab column `n`: inputs `H`, gradient of the output `P`. -/
def dwAt (H : (⟨2, ![8192, 1024]⟩ : Shape).Idx → EReal) (P : (⟨2, ![8192, 2560]⟩ : Shape).Idx → EReal)
    (s : Fin 4) (k : Fin 1024) (n : Fin 640) : EReal := ∑ R : Fin 8192, H (ix2 R k) * P (ix2 R (col s n))

/-- The array of the gradients. -/
def dwArr (H : (⟨2, ![8192, 1024]⟩ : Shape).Idx → EReal) (P : (⟨2, ![8192, 2560]⟩ : Shape).Idx → EReal) :
    (⟨3, ![4, 1024, 640]⟩ : Shape).Idx → EReal := fun y => dwAt H P (y 0) (y 1) (y 2)

end Cert.WeightGrad

namespace Cert.Kernel6Ideal.Array

open Cert.Kernel6Ideal Cert.Kernel6Ideal.Gen Cert.Kernel6Ideal.Value Cert.WeightGrad

/-- The accumulator starts at zero; -/
theorem pay1_apply (y : S1x512x640.Idx) : k0_pay1 (F := Ideal) y = 0 := by
  obtain ⟨a, k, n, rfl⟩ : ∃ a k n, y = ix3 a k n := ⟨y 0, y 1, y 2, eq_ix3 y⟩
  unfold_payloads
  pointwise

/-- a point adds the product of its half of the rows. -/
theorem pay2_apply (a : Vec Ideal S1x512x640 .f32) (H : Vec Ideal S4096x512 .bf16) (P : Vec Ideal S4096x640 .bf16)
    (k : Fin 512) (n : Fin 640) :
    k0_pay2 a H P (ix3 0 k n) = a (ix3 0 k n) + ∑ r : Fin 4096, H (ix2 r k) * P (ix2 r n) := by
  unfold_payloads
  pointwise

variable (m : (ℓ : Loc nD τ sig) → Buf (Elt Ideal) ℓ) (c : Dev nD)

/-- The two arguments. -/
abbrev H : S8192x1024.Idx → EReal := m ((c : Thread nD τ).loc main_arg0)
abbrev P : S8192x2560.Idx → EReal := m ((c : Thread nD τ).loc main_arg1)

theorem idx_0 : ∀ t : Fin cfg0.N, win0_0.index t = ![t.val % 2, t.val / 2 % 2] :=
  (by decide +kernel : ∀ t : Fin grid0.N, win0_0.index t = ![t.val % 2, t.val / 2 % 2])
theorem idx_1 : ∀ t : Fin cfg0.N, win0_1.index t = ![t.val % 2, t.val / 4] :=
  (by decide +kernel : ∀ t : Fin grid0.N, win0_1.index t = ![t.val % 2, t.val / 4])
theorem idx_2 : ∀ t : Fin cfg0.N, win0_2.index t = ![t.val / 4, t.val / 2 % 2, 0] :=
  (by decide +kernel : ∀ t : Fin grid0.N, win0_2.index t = ![t.val / 4, t.val / 2 % 2, 0])

/-- The row, the input column and the slab of a point's blocks. -/
def rowAt (h : Fin 2) (r : Fin 4096) : Fin 8192 := ⟨h.val * 4096 + r.val, by omega⟩
def inAt (t : Fin cfg0.N) (k : Fin 512) : Fin 1024 := ⟨t.val / 2 % 2 * 512 + k.val, by omega⟩
def slabAt (t : Fin cfg0.N) : Fin 4 := ⟨t.val / 4, by have := t.isLt; have : cfg0.N = 16 := N_0; omega⟩

theorem block_0 (t : Fin cfg0.N) (h : Fin 2) (hh : h.val = t.val % 2) (r : Fin 4096) (k : Fin 512) :
    iblk m c 0 t (ix2 r k) = H m c (ix2 (rowAt h r) (inAt t k)) := by
  blk_simp [iblk]
  unfold V
  refine congrArg (H m c) ?_
  blk_ext [idx_0, rowAt, inAt, hh]

theorem block_1 (t : Fin cfg0.N) (h : Fin 2) (hh : h.val = t.val % 2) (r : Fin 4096) (n : Fin 640) :
    iblk m c 1 t (ix2 r n) = P m c (ix2 (rowAt h r) (col (slabAt t) n)) := by
  blk_simp [iblk]
  unfold V
  refine congrArg (P m c) ?_
  blk_ext [idx_1, rowAt, col, slabAt, hh]

/-- What the second point of a run leaves: the products of both halves, which are the product of all rows. -/
theorem outs_2 (t : Fin cfg0.N) (ht : t.val % 2 = 1) (k : Fin 512) (n : Fin 640) :
    outsAt0 m c t.val t.isLt (ix3 0 k n) = dwAt (H m c) (P m c) (slabAt t) (inAt t k) n := by
  have hN : cfg0.N = 16 := N_0
  have hu : t.val - 1 < cfg0.N := Nat.lt_of_le_of_lt (Nat.sub_le _ _) t.isLt
  have h0 : (⟨t.val - 1, hu⟩ : Fin cfg0.N).val % 2 = 0 := by show (t.val - 1) % 2 = 0; omega
  have es : slabAt ⟨t.val - 1, hu⟩ = slabAt t := Fin.ext (by show (t.val - 1) / 4 = t.val / 4; omega)
  have ei : inAt ⟨t.val - 1, hu⟩ k = inAt t k := Fin.ext (by show (t.val - 1) / 2 % 2 * 512 + k.val = t.val / 2 % 2 * 512 + k.val; omega)
  have e1 : outsAt0 m c (t.val - 1) hu (ix3 0 k n) = ∑ r : Fin 4096, H m c (ix2 (rowAt 0 r) (inAt t k)) * P m c (ix2 (rowAt 0 r) (col (slabAt t) n)) := by
    rw [outsAt0_A m c ⟨t.val - 1, hu⟩ h0, out_A_2_eq, pay2_apply, pay1_apply, zero_add]
    refine Finset.sum_congr rfl fun r _ => ?_
    rw [block_0 m c _ 0 h0.symm, block_1 m c _ 0 h0.symm, es, ei]
  rw [outsAt0_B m c t (by omega), out_B_2_eq, pay2_apply, e1]
  unfold dwAt
  rw [Fin.sum_univ_tiles 2 4096 rfl, Fin.sum_univ_two]
  refine congrArg₂ (· + ·) rfl (Finset.sum_congr rfl fun r _ => ?_)
  rw [block_0 m c t 1 ht.symm, block_1 m c t 1 ht.symm]
  rfl

/-- The result array. -/
theorem dw_array : (dats m 0 c).arrAt 2 cfg0.N = dwArr (H m c) (P m c) := by
  refine (dats m 0 c).arrAt_eq_of_covers 2 _ (by decide +kernel) fun t hf y => ?_
  have ht : t.val % 2 = 1 := (flush0_2 t).mp hf
  obtain ⟨a, k, n, rfl⟩ : ∃ a k n, y = ix3 a k n := ⟨y 0, y 1, y 2, eq_ix3 y⟩
  obtain rfl : a = 0 := Subsingleton.elim _ _
  blk_simp
  rw [after0_2]
  refine (outs_2 m c t ht k n).trans ?_
  show dwArr (H m c) (P m c) (ix3 (slabAt t) (inAt t k) n) = _
  refine congrArg _ ?_
  blk_ext [idx_2, slabAt, inAt]

end Cert.Kernel6Ideal.Array

namespace Cert.Reference6Ideal.Stages

open Cert.Reference6Ideal Cert.Reference6Ideal.Gen Cert.Reference6Ideal.Read Cert.WeightGrad

variable (x0 : (⟨S8192x1024, .bf16⟩ : BufTy).Contents (Elt Ideal)) (x1 : (⟨S8192x2560, .bf16⟩ : BufTy).Contents (Elt Ideal))

theorem dw_result : val_main_v5 (F := Ideal) x0 x1 = dwArr x0 x1 := by
  funext y
  obtain ⟨s, k, n, rfl⟩ : ∃ s k n, y = ix3 s k n := ⟨y 0, y 1, y 2, eq_ix3 y⟩
  unfold val_main_v5 val_main_v4 val_main_v3 val_main_v2 val_main_v1 val_main_v0
  pointwise
  show _ = dwAt x0 x1 s k n
  refine Finset.sum_congr rfl fun R _ => (mul_comm _ _).trans (congrArg (x0 (ix2 R k) * ·) (congrArg (fun y => x1 (ix2 R y)) (Fin.ext ?_)))
  show s.val * 640 + n.val = 640 * s.val + n.val
  omega

end Cert.Reference6Ideal.Stages

end
-- ==== Proof.MlpDown.lean ====
/-
  The second half of an MLP: the hidden layer times the down projection, added to the residual.
-/
module

public import proofs.«01_k».proof.Proof.Gen.Kernel7Ideal.Value
public import proofs.«01_k».proof.Proof.Gen.Reference7Ideal.Read
public import Idealize.ShloMosaic.Lib.Pipeline.Value
public import Idealize.ShloMosaic.Lib.Pipeline.ValueKit
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.MlpDown

/-- The result at row `r` and column `k`: hidden layer `A` of any width, down projection `W`, residual `X`. -/
def downAt {n : ℕ} (A : (⟨2, ![8192, n]⟩ : Shape).Idx → EReal) (W : (⟨3, ![1, n, 1024]⟩ : Shape).Idx → EReal)
    (X : (⟨2, ![8192, 1024]⟩ : Shape).Idx → EReal) (r : Fin 8192) (k : Fin 1024) : EReal :=
  X (ix2 r k) + ∑ j : Fin n, A (ix2 r j) * W (ix3 0 j k)

/-- The array of the results. -/
def downArr {n : ℕ} (A : (⟨2, ![8192, n]⟩ : Shape).Idx → EReal) (W : (⟨3, ![1, n, 1024]⟩ : Shape).Idx → EReal)
    (X : (⟨2, ![8192, 1024]⟩ : Shape).Idx → EReal) : (⟨2, ![8192, 1024]⟩ : Shape).Idx → EReal := fun y => downAt A W X (y 0) (y 1)

end Cert.MlpDown

namespace Cert.Kernel7Ideal.Array

open Cert.Kernel7Ideal Cert.Kernel7Ideal.Gen Cert.MlpDown

/-- The stored block at an index. -/
theorem pay1_apply (A : Vec Ideal S512x4096 .bf16) (W : Vec Ideal S1x4096x1024 .bf16) (X : Vec Ideal S512x1024 .f32)
    (r : Fin 512) (k : Fin 1024) : k0_pay1 A W X (ix2 r k) = X (ix2 r k) + ∑ j : Fin 4096, A (ix2 r j) * W (ix3 0 j k) := by
  unfold_payloads
  pointwise

variable (m : (ℓ : Loc nD τ sig) → Buf (Elt Ideal) ℓ) (c : Dev nD)

/-- The three arguments. -/
abbrev A : S8192x4096.Idx → EReal := m ((c : Thread nD τ).loc main_arg0)
abbrev W : S1x4096x1024.Idx → EReal := m ((c : Thread nD τ).loc main_arg1)
abbrev X : S8192x1024.Idx → EReal := m ((c : Thread nD τ).loc main_arg2)

theorem idx_0 : ∀ t : Fin cfg0.N, win0_0.index t = ![t.val, 0] := (by decide +kernel : ∀ t : Fin grid0.N, win0_0.index t = ![t.val, 0])
theorem idx_1 : ∀ t : Fin cfg0.N, win0_1.index t = ![0, 0, 0] := (by decide +kernel : ∀ t : Fin grid0.N, win0_1.index t = ![0, 0, 0])
theorem idx_2 : ∀ t : Fin cfg0.N, win0_2.index t = ![t.val, 0] := (by decide +kernel : ∀ t : Fin grid0.N, win0_2.index t = ![t.val, 0])
theorem idx_3 : ∀ t : Fin cfg0.N, win0_3.index t = ![t.val, 0] := (by decide +kernel : ∀ t : Fin grid0.N, win0_3.index t = ![t.val, 0])

/-- Row `r` of block `t`. -/
def rowAt (t : Fin cfg0.N) (r : Fin 512) : Fin 8192 := ⟨t.val * 512 + r.val, by have := t.isLt; have : cfg0.N = 16 := N_0; omega⟩

theorem block_0 (t : Fin cfg0.N) (r : Fin 512) (j : Fin 4096) : iblk m c 0 t (ix2 r j) = A m c (ix2 (rowAt t r) j) := by
  blk_simp [iblk]
  unfold V
  refine congrArg (A m c) ?_
  blk_ext [idx_0, rowAt]

theorem block_1 (t : Fin cfg0.N) : (iblk m c 1 t : S1x4096x1024.Idx → EReal) = W m c := by
  funext y
  blk_simp [iblk]
  unfold V
  refine congrArg (W m c) ?_
  blk_ext [idx_1]

theorem block_2 (t : Fin cfg0.N) (r : Fin 512) (k : Fin 1024) : iblk m c 2 t (ix2 r k) = X m c (ix2 (rowAt t r) k) := by
  blk_simp [iblk]
  unfold V
  refine congrArg (X m c) ?_
  blk_ext [idx_2, rowAt]

theorem hz2 : (![0, 0] : Fin 2 → ℕ) = fun _ => 0 := funext fun a => by fin_cases a <;> rfl
theorem hz3 : (![0, 0, 0] : Fin 3 → ℕ) = fun _ => 0 := funext fun a => by fin_cases a <;> rfl

/-- What point `t` leaves in the result's block. -/
theorem out_3 (t : Fin cfg0.N) (r : Fin 512) (k : Fin 1024) :
    out0_3 (iblk m c 0 t) (iblk m c 1 t) (iblk m c 2 t) (ix2 r k) = downAt (A m c) (W m c) (X m c) (rowAt t r) k := by
  unfold out0_3 r0_0 r0_1 r0_2
  rw [View.canon_cons_unit_zero (S := S512x1024) hz2, View.ld_unit_zero (S := S512x4096) hz2,
    View.ld_unit_zero (S := S1x4096x1024) hz3, View.ld_unit_zero (S := S512x1024) hz2]
  rw [pay1_apply, block_1, block_2]
  unfold downAt
  simp only [block_0]

/-- The result array. -/
theorem down_array : (dats m 0 c).arrAt 3 cfg0.N = downArr (A m c) (W m c) (X m c) := by
  refine (dats m 0 c).arrAt_eq_of_covers 3 _ (by decide +kernel) fun t hf y => ?_
  obtain ⟨r, k, rfl⟩ : ∃ r k, y = ix2 r k := ⟨y 0, y 1, eq_ix2 y⟩
  blk_simp
  rw [after0_3]
  refine (out_3 m c t r k).trans ?_
  show downArr (A m c) (W m c) (X m c) (ix2 (rowAt t r) k) = _
  refine congrArg _ ?_
  blk_ext [idx_3, rowAt]

end Cert.Kernel7Ideal.Array

namespace Cert.Reference7Ideal.Stages

open Cert.Reference7Ideal Cert.Reference7Ideal.Gen Cert.Reference7Ideal.Read Cert.MlpDown

variable (x0 : (⟨S8192x4096, .bf16⟩ : BufTy).Contents (Elt Ideal)) (x1 : (⟨S1x4096x1024, .bf16⟩ : BufTy).Contents (Elt Ideal))
  (x2 : (⟨S8192x1024, .f32⟩ : BufTy).Contents (Elt Ideal))

theorem weight_at (j : Fin 4096) (k : Fin 1024) : val_main_v3 (F := Ideal) x1 (ix2 j k) = x1 (ix3 0 j k) := by
  unfold val_main_v3 val_main_v2 val_main_v1
  pointwise

theorem down_result : val_main_v5 (F := Ideal) x0 x1 x2 = downArr x0 x1 x2 := by
  funext y
  obtain ⟨r, k, rfl⟩ : ∃ r k, y = ix2 r k := ⟨y 0, y 1, eq_ix2 y⟩
  unfold val_main_v5 val_main_v4 val_main_v0
  pointwise
  simp only [weight_at]
  rfl

end Cert.Reference7Ideal.Stages

end
-- ==== Proof.LruIn.lean ====
/-
  The input projection of a gated block: a row is normed, scaled by the gain and multiplied with four slabs of 640 columns;
  the normed row is a result too.
-/
module

public import proofs.«01_k».proof.Proof.Gen.Kernel8Ideal.Value
public import proofs.«01_k».proof.Proof.Gen.Reference8Ideal.Read
public import proofs.«01_k».proof.Proof.Norm
public import proofs.«01_k».proof.Proof.Cols
public import Idealize.ShloMosaic.Lib.Pipeline.Value
public import Idealize.ShloMosaic.Lib.Pipeline.ValueKit
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.LruIn

open Cert.Cols

/-- Column `n` of group `s` of four groups of 640 columns; the group of a column and its place in the group. -/
def col (s : Fin 4) (n : Fin 640) : Fin 2560 := ⟨640 * s.val + n.val, by omega⟩
def slab (k : Fin 2560) : Fin 4 := ⟨k.val / 640, by omega⟩
def within (k : Fin 2560) : Fin 640 := ⟨k.val % 640, by omega⟩

theorem slab_col (s : Fin 4) (n : Fin 640) : slab (col s n) = s := Fin.ext (by show (640 * s.val + n.val) / 640 = s.val; omega)
theorem within_col (s : Fin 4) (n : Fin 640) : within (col s n) = n := Fin.ext (by show (640 * s.val + n.val) % 640 = n.val; omega)

theorem exists_col (k : Fin 2560) : ∃ s n, k = col s n :=
  ⟨⟨k.val / 640, by omega⟩, ⟨k.val % 640, by omega⟩, Fin.ext (by show k.val = 640 * (k.val / 640) + k.val % 640; omega)⟩

/-- The normed and scaled row `r` at column `k`. -/
def hAt (X : (⟨2, ![8192, 1024]⟩ : Shape).Idx → EReal) (G : (⟨1, ![1024]⟩ : Shape).Idx → EReal) (r : Fin 8192) (k : Fin 1024) : EReal :=
  Norm.normed (fun j => X (ix2 r j)) k * G (ix1 k)

/-- The product with column `n` of slab `s`. -/
def pAt (X : (⟨2, ![8192, 1024]⟩ : Shape).Idx → EReal) (W : (⟨3, ![4, 1024, 640]⟩ : Shape).Idx → EReal)
    (G : (⟨1, ![1024]⟩ : Shape).Idx → EReal) (r : Fin 8192) (s : Fin 4) (n : Fin 640) : EReal :=
  ∑ k : Fin 1024, hAt X G r k * W (ix3 s k n)

/-- The two results. -/
def pArr (X : (⟨2, ![8192, 1024]⟩ : Shape).Idx → EReal) (W : (⟨3, ![4, 1024, 640]⟩ : Shape).Idx → EReal)
    (G : (⟨1, ![1024]⟩ : Shape).Idx → EReal) : (⟨2, ![8192, 2560]⟩ : Shape).Idx → EReal := fun y => pAt X W G (y 0) (slab (y 1)) (within (y 1))
def hArr (X : (⟨2, ![8192, 1024]⟩ : Shape).Idx → EReal) (G : (⟨1, ![1024]⟩ : Shape).Idx → EReal) :
    (⟨2, ![8192, 1024]⟩ : Shape).Idx → EReal := fun y => hAt X G (y 0) (y 1)

theorem pArr_col (X : (⟨2, ![8192, 1024]⟩ : Shape).Idx → EReal) (W : (⟨3, ![4, 1024, 640]⟩ : Shape).Idx → EReal)
    (G : (⟨1, ![1024]⟩ : Shape).Idx → EReal) (r : Fin 8192) (s : Fin 4) (n : Fin 640) : pArr X W G (ix2 r (col s n)) = pAt X W G r s n := by
  show pAt X W G r (slab (col s n)) (within (col s n)) = _
  rw [slab_col, within_col]

end Cert.LruIn

namespace Cert.Kernel8Ideal.Array

open Cert.Kernel8Ideal Cert.Kernel8Ideal.Gen Cert.LruIn
open Cert.Cols (canon_four_of ld_slab)

/-! ## The stored values at an index -/

section Payloads
variable (X : Vec Ideal S512x1024 .f32) (G : Vec Ideal S1x1024 .f32) (H : FVec Ideal S512x1024 .bf16) (W : Vec Ideal S1x1024x640 .bf16)
  (r : Fin 512) (k : Fin 1024) (n : Fin 640)

theorem pay2_apply : k0_pay2 X G (ix2 r k) = Norm.normed (fun j => X (ix2 r j)) k * G (ix2 0 k) := by
  unfold k0_pay2
  pointwise
  rfl

theorem pay1_apply : k0_pay1 H W (ix2 r n) = ∑ j, H (ix2 r j) * W (ix3 0 j n) := by
  unfold k0_pay1
  pointwise

/-- The four products are one and the same function of the slab. -/
theorem pay3_eq : k0_pay3 X G W = k0_pay1 (k0_pay2 X G) W := rfl
theorem pay4_eq : k0_pay4 X G W = k0_pay1 (k0_pay2 X G) W := rfl
theorem pay5_eq : k0_pay5 X G W = k0_pay1 (k0_pay2 X G) W := rfl

end Payloads

/-! ## The blocks -/

variable (m : (ℓ : Loc nD τ sig) → Buf (Elt Ideal) ℓ) (c : Dev nD)

/-- The three arguments. -/
abbrev X : S8192x1024.Idx → EReal := m ((c : Thread nD τ).loc main_arg0)
abbrev W : S4x1024x640.Idx → EReal := m ((c : Thread nD τ).loc main_arg1)
abbrev G : S1024.Idx → EReal := m ((c : Thread nD τ).loc main_arg2)

theorem idx_0 : ∀ t : Fin cfg0.N, win0_0.index t = ![t.val, 0] := (by decide +kernel : ∀ t : Fin grid0.N, win0_0.index t = ![t.val, 0])
theorem idx_1 : ∀ t : Fin cfg0.N, win0_1.index t = ![0, 0, 0] := (by decide +kernel : ∀ t : Fin grid0.N, win0_1.index t = ![0, 0, 0])
theorem idx_2 : ∀ t : Fin cfg0.N, win0_2.index t = ![0, 0] := (by decide +kernel : ∀ t : Fin grid0.N, win0_2.index t = ![0, 0])
theorem idx_3 : ∀ t : Fin cfg0.N, win0_3.index t = ![t.val, 0] := (by decide +kernel : ∀ t : Fin grid0.N, win0_3.index t = ![t.val, 0])
theorem idx_4 : ∀ t : Fin cfg0.N, win0_4.index t = ![t.val, 0] := (by decide +kernel : ∀ t : Fin grid0.N, win0_4.index t = ![t.val, 0])

/-- Row `r` of block `t`. -/
def rowAt (t : Fin cfg0.N) (r : Fin 512) : Fin 8192 := ⟨t.val * 512 + r.val, by have := t.isLt; have : cfg0.N = 16 := N_0; omega⟩

/-- The gain as the call reads it: the host lays it out as one row. -/
theorem gain_row (k : Fin 1024) : V m c main_v0 (ix2 0 k) = G m c (ix1 k) := by
  unfold V
  rw [StableHlo.after_cons, StableHlo.after_nil, StableHlo.reshape_result]
  pointwise

theorem block_0 (t : Fin cfg0.N) (r : Fin 512) (d : Fin 1024) : iblk m c 0 t (ix2 r d) = X m c (ix2 (rowAt t r) d) := by
  blk_simp [iblk]
  rw [V_main_arg0]
  refine congrArg (X m c) ?_
  blk_ext [idx_0, rowAt]

theorem block_1 (t : Fin cfg0.N) : (iblk m c 1 t : S4x1024x640.Idx → EReal) = W m c := by
  funext y
  blk_simp [iblk]
  rw [V_main_arg1]
  refine congrArg (W m c) ?_
  blk_ext [idx_1]

theorem block_2 (t : Fin cfg0.N) (k : Fin 1024) : iblk m c 2 t (ix2 0 k) = G m c (ix1 k) := by
  blk_simp [iblk]
  refine Eq.trans (congrArg (V m c main_v0) ?_) (gain_row m c k)
  blk_ext [idx_2]

/-! ## What a point leaves -/

theorem hz2 : (![0, 0] : Fin 2 → ℕ) = fun _ => 0 := funext fun a => by fin_cases a <;> rfl

/-- The normed row of point `t`'s block. -/
theorem h_at (t : Fin cfg0.N) (r : Fin 512) (k : Fin 1024) :
    k0_pay2 (F := Ideal) (iblk m c 0 t) (iblk m c 2 t) (ix2 r k) = hAt (X m c) (G m c) (rowAt t r) k := by
  rw [pay2_apply, block_2]
  unfold hAt
  simp only [block_0]

/-- The product of point `t`'s rows with slab `s`. -/
theorem p_at (t : Fin cfg0.N) (r : Fin 512) (s : Fin 4) (n : Fin 640) (o : ℕ) (inb) (hs : s.val = o) :
    k0_pay1 (F := Ideal) (k0_pay2 (F := Ideal) (iblk m c 0 t) (iblk m c 2 t))
      (View.ld (iblk m c 1 t : S4x1024x640.Idx → EReal) (Rect.unit (s := S4x1024x640) ![o, 0, 0] ![1, 1024, 640] inb)) (ix2 r n)
      = pAt (X m c) (W m c) (G m c) (rowAt t r) s n := by
  refine (pay1_apply ..).trans ?_
  unfold pAt
  refine Finset.sum_congr rfl fun j _ => ?_
  rw [h_at, block_1]
  exact congrArg (_ * ·) (ld_slab (Val := Elt Ideal) (e := .bf16) (W m c) inb s j n hs)

theorem out_4 (t : Fin cfg0.N) (r : Fin 512) (k : Fin 1024) :
    out0_4 (iblk m c 0 t) (iblk m c 1 t) (iblk m c 2 t) (ix2 r k) = hAt (X m c) (G m c) (rowAt t r) k := by
  unfold out0_4 r0_0 r0_1
  rw [View.canon_cons_unit_zero (S := S512x1024) hz2, View.ld_unit_zero (S := S512x1024) hz2, View.ld_unit_zero (S := S1x1024) hz2]
  exact h_at m c t r k

theorem out_3 (t : Fin cfg0.N) (r : Fin 512) (s : Fin 4) (n : Fin 640) :
    out0_3 (iblk m c 0 t) (iblk m c 1 t) (iblk m c 2 t) (ix2 r (col s n)) = pAt (X m c) (W m c) (G m c) (rowAt t r) s n := by
  unfold out0_3 r0_0 r0_1
  rw [View.ld_unit_zero (S := S512x1024) hz2, View.ld_unit_zero (S := S1x1024) hz2, pay3_eq, pay4_eq, pay5_eq]
  refine (canon_four_of (R := 512) (w := 640) rfl rfl rfl rfl _ _ _ _ _ _ _ _ s r (col s n) n rfl).trans ?_
  match s with
  | 0 => exact p_at m c t r 0 n 0 _ rfl
  | 1 => exact p_at m c t r 1 n 1 _ rfl
  | 2 => exact p_at m c t r 2 n 2 _ rfl
  | 3 => exact p_at m c t r 3 n 3 _ rfl

/-! ## The arrays -/

theorem p_array : (dats m 0 c).arrAt 3 cfg0.N = pArr (X m c) (W m c) (G m c) := by
  refine (dats m 0 c).arrAt_eq_of_covers 3 _ (by decide +kernel) fun t hf y => ?_
  obtain ⟨r, k, rfl⟩ : ∃ r k, y = ix2 r k := ⟨y 0, y 1, eq_ix2 y⟩
  obtain ⟨s, n, rfl⟩ := exists_col k
  blk_simp
  rw [after0_3]
  refine (out_3 m c t r s n).trans ((pArr_col _ _ _ _ s n).symm.trans ?_)
  refine congrArg _ ?_
  blk_ext [idx_3, rowAt]

theorem h_array : (dats m 0 c).arrAt 4 cfg0.N = hArr (X m c) (G m c) := by
  refine (dats m 0 c).arrAt_eq_of_covers 4 _ (by decide +kernel) fun t hf y => ?_
  obtain ⟨r, k, rfl⟩ : ∃ r k, y = ix2 r k := ⟨y 0, y 1, eq_ix2 y⟩
  blk_simp
  rw [after0_4]
  refine (out_4 m c t r k).trans ?_
  show hArr (X m c) (G m c) (ix2 (rowAt t r) k) = _
  refine congrArg _ ?_
  blk_ext [idx_4, rowAt]

end Cert.Kernel8Ideal.Array

namespace Cert.Reference8Ideal.Stages

open Cert.Reference8Ideal Cert.Reference8Ideal.Gen Cert.Reference8Ideal.Read Cert.LruIn

variable (x0 : (⟨S8192x1024, .f32⟩ : BufTy).Contents (Elt Ideal)) (x1 : (⟨S4x1024x640, .bf16⟩ : BufTy).Contents (Elt Ideal))
  (x2 : (⟨S1024, .f32⟩ : BufTy).Contents (Elt Ideal))

/-- The reciprocal root of the mean square. -/
theorem inv_at (r : Fin 8192) (k : Fin 1024) : val_main_v8 (F := Ideal) x0 (ix2 r k) = Norm.inv (fun j => x0 (ix2 r j)) := by
  unfold val_main_v8 val_main_v7 val_main_v6 val_main_v5 val_main_cst_1 val_main_v4 val_main_v3 val_main_cst_0 val_main_v2 val_main_v1
    val_main_cst val_main_v0
  pointwise
  rfl

theorem h_at (r : Fin 8192) (k : Fin 1024) : val_main_v12 (F := Ideal) x0 x2 (ix2 r k) = hAt x0 x2 r k := by
  unfold val_main_v12 val_main_v11 val_main_v10 val_main_v9
  pointwise
  rw [inv_at]
  rfl

theorem weight_at (k : Fin 1024) (s : Fin 4) (n : Fin 640) : val_main_v15 (F := Ideal) x1 (ix2 k (col s n)) = x1 (ix3 s k n) := by
  rw [val_main_v15_apply, val_main_v14_apply]
  refine congrArg x1 (funext fun a => Fin.ext ?_)
  match a with
  | ⟨0, _⟩ => show (k.val * 2560 + (640 * s.val + n.val)) / 640 % 4 = s.val; omega
  | ⟨1, _⟩ => show (k.val * 2560 + (640 * s.val + n.val)) / 2560 = k.val; omega
  | ⟨2, _⟩ => show (k.val * 2560 + (640 * s.val + n.val)) % 640 = n.val; omega

theorem p_result : val_main_v16 (F := Ideal) x0 x1 x2 = pArr x0 x1 x2 := by
  funext y
  obtain ⟨r, k, rfl⟩ : ∃ r k, y = ix2 r k := ⟨y 0, y 1, eq_ix2 y⟩
  obtain ⟨s, n, rfl⟩ := exists_col k
  rw [pArr_col]
  unfold val_main_v16
  pointwise
  simp only [h_at, weight_at]
  rfl

theorem h_result : val_main_v17 (F := Ideal) x0 x2 = hArr x0 x2 := by
  funext y
  obtain ⟨r, k, rfl⟩ : ∃ r k, y = ix2 r k := ⟨y 0, y 1, eq_ix2 y⟩
  exact h_at x0 x2 r k

end Cert.Reference8Ideal.Stages

end
-- ==== Proof.MixGrad.lean ====
/-
  The gradient of a block's mixed heads from the gradient of the residual: each row's cotangent times the transposed
  output projection.
-/
module

public import proofs.«01_k».proof.Proof.Gen.Kernel9Ideal.Value
public import proofs.«01_k».proof.Proof.Gen.Reference9Ideal.Read
public import Idealize.ShloMosaic.Lib.Pipeline.Value
public import Idealize.ShloMosaic.Lib.Pipeline.ValueKit
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.MixGrad

/-- The gradient at row `r` and head column `j`: cotangents `D`, output projection `W`. -/
def dcatAt (D : (⟨2, ![8192, 1024]⟩ : Shape).Idx → EReal) (W : (⟨3, ![1, 1536, 1024]⟩ : Shape).Idx → EReal)
    (r : Fin 8192) (j : Fin 1536) : EReal := ∑ d : Fin 1024, D (ix2 r d) * W (ix3 0 j d)

/-- The array of the gradients. -/
def dcatArr (D : (⟨2, ![8192, 1024]⟩ : Shape).Idx → EReal) (W : (⟨3, ![1, 1536, 1024]⟩ : Shape).Idx → EReal) :
    (⟨2, ![8192, 1536]⟩ : Shape).Idx → EReal := fun y => dcatAt D W (y 0) (y 1)

end Cert.MixGrad

namespace Cert.Kernel9Ideal.Array

open Cert.Kernel9Ideal Cert.Kernel9Ideal.Gen Cert.MixGrad

/-- The stored block at an index. -/
theorem pay1_apply (D : Vec Ideal S512x1024 .bf16) (W : Vec Ideal S1x1536x1024 .bf16) (r : Fin 512) (j : Fin 1536) :
    k0_pay1 D W (ix2 r j) = ∑ d : Fin 1024, D (ix2 r d) * W (ix3 0 j d) := by
  unfold_payloads
  pointwise

variable (m : (ℓ : Loc nD τ sig) → Buf (Elt Ideal) ℓ) (c : Dev nD)

/-- The two arguments. -/
abbrev D : S8192x1024.Idx → EReal := m ((c : Thread nD τ).loc main_arg0)
abbrev W : S1x1536x1024.Idx → EReal := m ((c : Thread nD τ).loc main_arg1)

theorem idx_0 : ∀ t : Fin cfg0.N, win0_0.index t = ![t.val, 0] := (by decide +kernel : ∀ t : Fin grid0.N, win0_0.index t = ![t.val, 0])
theorem idx_1 : ∀ t : Fin cfg0.N, win0_1.index t = ![0, 0, 0] := (by decide +kernel : ∀ t : Fin grid0.N, win0_1.index t = ![0, 0, 0])
theorem idx_2 : ∀ t : Fin cfg0.N, win0_2.index t = ![t.val, 0] := (by decide +kernel : ∀ t : Fin grid0.N, win0_2.index t = ![t.val, 0])

/-- Row `r` of block `t`. -/
def rowAt (t : Fin cfg0.N) (r : Fin 512) : Fin 8192 := ⟨t.val * 512 + r.val, by have := t.isLt; have : cfg0.N = 16 := N_0; omega⟩

theorem block_0 (t : Fin cfg0.N) (r : Fin 512) (d : Fin 1024) : iblk m c 0 t (ix2 r d) = D m c (ix2 (rowAt t r) d) := by
  blk_simp [iblk]
  unfold V
  refine congrArg (D m c) ?_
  blk_ext [idx_0, rowAt]

theorem block_1 (t : Fin cfg0.N) : (iblk m c 1 t : S1x1536x1024.Idx → EReal) = W m c := by
  funext y
  blk_simp [iblk]
  unfold V
  refine congrArg (W m c) ?_
  blk_ext [idx_1]

theorem hz2 : (![0, 0] : Fin 2 → ℕ) = fun _ => 0 := funext fun a => by fin_cases a <;> rfl
theorem hz3 : (![0, 0, 0] : Fin 3 → ℕ) = fun _ => 0 := funext fun a => by fin_cases a <;> rfl

/-- What point `t` leaves in the result's block. -/
theorem out_2 (t : Fin cfg0.N) (r : Fin 512) (j : Fin 1536) :
    out0_2 (iblk m c 0 t) (iblk m c 1 t) (ix2 r j) = dcatAt (D m c) (W m c) (rowAt t r) j := by
  unfold out0_2 r0_0 r0_1 r0_2
  rw [View.canon_cons_unit_zero (S := S512x1536) hz2, View.ld_unit_zero (S := S512x1024) hz2, View.ld_unit_zero (S := S1x1536x1024) hz3]
  rw [pay1_apply, block_1]
  unfold dcatAt
  simp only [block_0]

/-- The result array. -/
theorem dcat_array : (dats m 0 c).arrAt 2 cfg0.N = dcatArr (D m c) (W m c) := by
  refine (dats m 0 c).arrAt_eq_of_covers 2 _ (by decide +kernel) fun t hf y => ?_
  obtain ⟨r, k, rfl⟩ : ∃ r k, y = ix2 r k := ⟨y 0, y 1, eq_ix2 y⟩
  blk_simp
  rw [after0_2]
  refine (out_2 m c t r k).trans ?_
  show dcatArr (D m c) (W m c) (ix2 (rowAt t r) k) = _
  refine congrArg _ ?_
  blk_ext [idx_2, rowAt]

end Cert.Kernel9Ideal.Array

namespace Cert.Reference9Ideal.Stages

open Cert.Reference9Ideal Cert.Reference9Ideal.Gen Cert.Reference9Ideal.Read Cert.MixGrad

variable (x0 : (⟨S8192x1024, .bf16⟩ : BufTy).Contents (Elt Ideal)) (x1 : (⟨S1x1536x1024, .bf16⟩ : BufTy).Contents (Elt Ideal))

theorem weight_at (j : Fin 1536) (d : Fin 1024) : val_main_v2 (F := Ideal) x1 (ix2 j d) = x1 (ix3 0 j d) := by
  unfold val_main_v2 val_main_v1 val_main_v0
  pointwise

theorem dcat_result : val_main_v5 (F := Ideal) x0 x1 = dcatArr x0 x1 := by
  funext y
  obtain ⟨r, j, rfl⟩ : ∃ r j, y = ix2 r j := ⟨y 0, y 1, eq_ix2 y⟩
  unfold val_main_v5 val_main_v4 val_main_v3
  pointwise
  simp only [weight_at]
  rfl

end Cert.Reference9Ideal.Stages

end
-- ==== Proof.MemFwd.lean ====
/-
  A layer's attention over the memory: four heads of 128 columns, each row's query against 256 keys, written beside the
  columns that the layer's other heads have filled. The kernel multiplies by a row's reciprocal total where the reference
  divides by the total; on finite arguments the two agree.
-/
module

public import proofs.«01_k».proof.Proof.Gen.Kernel10Ideal.Value
public import proofs.«01_k».proof.Proof.Gen.Reference10Ideal.Read
public import proofs.«01_k».proof.Proof.Block
public import proofs.«01_k».proof.Proof.Stages
public import proofs.«01_k».proof.Proof.Cols
public import Idealize.ShloMosaic.Lib.Pipeline.Value
public import Idealize.ShloMosaic.Lib.Pipeline.ValueKit
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.MemFwd

open Cert.MemAttn

/-- What one query `q` reads from the values `V` through the keys `K`. -/
def rowOut (K V : Fin 256 → Fin 128 → EReal) (q : Fin 128 → EReal) (d : Fin 128) : EReal := ∑ j, prob (scores q K) j * V j d

/-- Head `h` of row `r`: projection `P`, memory `M`. -/
def outAt (P : (⟨2, ![8192, 2560]⟩ : Shape).Idx → EReal) (M : (⟨2, ![256, 1024]⟩ : Shape).Idx → EReal)
    (h : Fin 4) (r : Fin 8192) (d : Fin 128) : EReal := rowOut (keys M h) (vals M h) (query P h r) d

/-- The heads under every index of the array of concatenated outputs. -/
def memArr (P : (⟨2, ![8192, 2560]⟩ : Shape).Idx → EReal) (M : (⟨2, ![256, 1024]⟩ : Shape).Idx → EReal) :
    (⟨2, ![8192, 1536]⟩ : Shape).Idx → EReal :=
  fun y => outAt P M ⟨((y 1).val - 1024) / 128 % 4, by omega⟩ (y 0) ⟨((y 1).val - 1024) % 128, by omega⟩

/-- The array: the heads in the last 512 columns, what was there before (`Y`) in the others. -/
def catArr (P : (⟨2, ![8192, 2560]⟩ : Shape).Idx → EReal) (M : (⟨2, ![256, 1024]⟩ : Shape).Idx → EReal)
    (Y : (⟨2, ![8192, 1536]⟩ : Shape).Idx → EReal) : (⟨2, ![8192, 1536]⟩ : Shape).Idx → EReal :=
  fun y => if 2 ≤ (y 1).val / 512 then memArr P M y else Y y

theorem memArr_cc (P : (⟨2, ![8192, 2560]⟩ : Shape).Idx → EReal) (M : (⟨2, ![256, 1024]⟩ : Shape).Idx → EReal)
    (h : Fin 4) (r : Fin 8192) (d : Fin 128) : memArr P M (ix2 r (cc h d)) = outAt P M h r d := by
  show outAt P M ⟨(1024 + 128 * h.val + d.val - 1024) / 128 % 4, _⟩ r ⟨(1024 + 128 * h.val + d.val - 1024) % 128, _⟩ = _
  congr 1 <;> apply Fin.ext <;> dsimp only <;> omega

end Cert.MemFwd

namespace Cert.Kernel10Ideal.Array

open Cert.Kernel10Ideal Cert.Kernel10Ideal.Gen Cert.Kernel10Ideal.Value Cert.MemAttn Cert.MemFwd
open Cert.KernelIdeal.Block (row rowOf row_ld keys_ld vals_ld)

/-! ## One head of a block -/

section Payloads
variable (q : Vec Ideal S512x128 .f32) (k v : Vec Ideal S256x128 .bf16)

theorem pay2_apply (r : Fin 512) (d : Fin 128) : k0_pay2 q k v (ix2 r d) = rowOut (row k) (row v) (row q r) d := by
  unfold_payloads
  pointwise
  rw [ofBits_neg_inf]
  rfl

/-- The other heads are computed in the same way, cut into pieces differently. -/
theorem pay5_eq : k0_pay5 (k0_pay3 q k) (k0_pay4 q k) (Scalar.ofBits .f32 0x3F800000#32) v = k0_pay2 q k v := rfl
theorem pay6_eq : k0_pay6 q k v = k0_pay2 q k v := rfl
theorem pay1_eq : k0_pay1 (k0_pay7 q) k (constant S512x256 .f32 0x00000000#32) v = k0_pay2 q k v := rfl

end Payloads

section Point
variable (c : Dev nD) (i : grid0.Coords) (a1 : Memref sig .tc .vmem S512x512 .f32) (h1 : a1.IsWhole)
  (a2 : Memref sig .tc .vmem S256x1024 .bf16) (h2 : a2.IsWhole) (a4 : Memref sig .tc .vmem S512x512 .bf16) (h4 : a4.IsWhole)
  (x0 : Vec Ideal S512x512 .f32) (x1 : Vec Ideal S256x1024 .bf16)

/-- Head `h`'s columns, from the loads at its offsets. -/
theorem head (h : Fin 4) {ok ov : ℕ} (iq ik iv) (hk : ok = 128 * h.val) (hv : ov = 512 + 128 * h.val) (r : Fin 512) (d : Fin 128) :
    k0_pay2 (F := Ideal) (View.ld x0 (Rect.unit (s := S512x512) ![0, ok] ![512, 128] iq)) (View.ld x1 (Rect.unit (s := S256x1024) ![0, ok] ![256, 128] ik))
      (View.ld x1 (Rect.unit (s := S256x1024) ![0, ov] ![256, 128] iv)) (ix2 r d)
      = rowOut (keys x1 h) (vals x1 h) (rowOf x0 h r) d := by
  rw [pay2_apply, ← keys_ld x1 ik h hk, ← vals_ld x1 iv h hv, ← row_ld x0 iq h r hk]

/-- What a point leaves in the result's block. -/
theorem out_A (h : Fin 4) (r : Fin 512) (d : Fin 128) :
    out0_A_2 (F := Ideal) c i a1 h1 a2 h2 a4 h4 x0 x1 (ix2 r (qc h d)) = rowOut (keys x1 h) (vals x1 h) (rowOf x0 h r) d := by
  unfold out0_A_2
  rw [View.read_writes_eq_canon _ _ _ (cover0_A_2 c i a1 h1 a2 h2 a4 h4 x0 x1)]
  unfold kernelRun0_A
  dsimp only
  sl_unfold_words
  simp only [View.readAt_eq_ld, h1.read_unread, h2.read_unread]
  refine (Cert.Cols.canon_four_of (R := 512) (w := 128) rfl rfl rfl rfl _ _ _ _ _ _ _ _ h r (qc h d) d rfl).trans ?_
  match h with
  | 0 => exact head x0 x1 0 _ _ _ rfl rfl r d
  | 1 => exact head x0 x1 1 _ _ _ rfl rfl r d
  | 2 => exact head x0 x1 2 _ _ _ rfl rfl r d
  | 3 => exact head x0 x1 3 _ _ _ rfl rfl r d

end Point

/-! ## The array -/

variable (m : (ℓ : Loc nD τ sig) → Buf (Elt Ideal) ℓ) (c : Dev nD)

/-- The three arguments. -/
abbrev P : S8192x2560.Idx → EReal := m ((c : Thread nD τ).loc main_arg0)
abbrev M : S256x1024.Idx → EReal := m ((c : Thread nD τ).loc main_arg1)
abbrev Y : S8192x1536.Idx → EReal := m ((c : Thread nD τ).loc main_arg2)

theorem idx_0 : ∀ t : Fin cfg0.N, win0_0.index t = ![t.val, 4] := (by decide +kernel : ∀ t : Fin grid0.N, win0_0.index t = ![t.val, 4])
theorem idx_1 : ∀ t : Fin cfg0.N, win0_1.index t = ![0, 0] := (by decide +kernel : ∀ t : Fin grid0.N, win0_1.index t = ![0, 0])
theorem idx_2 : ∀ t : Fin cfg0.N, win0_2.index t = ![t.val, 2] := (by decide +kernel : ∀ t : Fin grid0.N, win0_2.index t = ![t.val, 2])

/-- Row `r` of block `t`. -/
def rowAt (t : Fin cfg0.N) (r : Fin 512) : Fin 8192 := ⟨t.val * 512 + r.val, by have := t.isLt; have : cfg0.N = 16 := N_0; omega⟩

theorem block_0 (t : Fin cfg0.N) (h : Fin 4) (r : Fin 512) : rowOf (iblk m c 0 t) h r = query (P m c) h (rowAt t r) := by
  funext x
  show iblk m c 0 t (ix2 r (qc h x)) = P m c (ix2 (rowAt t r) (pc h x))
  blk_simp [iblk]
  rw [V_main_arg0]
  refine congrArg (P m c) ?_
  blk_ext [idx_0, rowAt, qc, pc]

theorem block_1 (t : Fin cfg0.N) : (iblk m c 1 t : S256x1024.Idx → EReal) = M m c := by
  funext y
  blk_simp [iblk]
  rw [V_main_arg1]
  refine congrArg (M m c) ?_
  blk_ext [idx_1]

/-- The buffer the call writes into starts as a copy of the third argument. -/
theorem entry_eq : (V m c main_v0 : S8192x1536.Idx → EReal) = Y m c := by
  unfold V
  rw [StableHlo.after_cons, StableHlo.after_nil, StableHlo.unary_result]
  rfl

theorem outs_2 (t : Fin cfg0.N) (h : Fin 4) (r : Fin 512) (d : Fin 128) :
    outsAt0 m c t (ix2 r (qc h d)) = outAt (P m c) (M m c) h (rowAt t r) d := by
  unfold outsAt0
  rw [out_A, block_0, block_1]
  rfl

/-- The result array. -/
theorem cat_array : (dats m 0 c).arrAt 2 cfg0.N = catArr (P m c) (M m c) (Y m c) := by
  refine ((dats m 0 c).arrAt_eq_of_coversWhere 2 (memArr (P m c) (M m c))
    (P := fun y : S8192x1536.Idx => 2 ≤ (y 1).val / 512) (fun β => 2 ≤ β (1 : Fin 2)) (by decide +kernel) (fun t hf y => ?_) (fun j => Iff.rfl)).trans ?_
  · obtain ⟨r, x, rfl⟩ : ∃ r x, y = ix2 r x := ⟨y 0, y 1, eq_ix2 y⟩
    obtain ⟨h, d, rfl⟩ := qc_onto x
    blk_simp
    rw [after0_2]
    refine (outs_2 m c t h r d).trans ((memArr_cc _ _ h _ d).symm.trans ?_)
    refine congrArg _ ?_
    blk_ext [idx_2, rowAt, qc, cc]
  · funext y
    have e : (dats m 0 c).A 2 = Y m c := (A_eq m c 2).trans (entry_eq m c)
    unfold catArr
    rw [e]

end Cert.Kernel10Ideal.Array

namespace Cert.Reference10Ideal.Stages

open Cert.Reference10Ideal Cert.Reference10Ideal.Gen Cert.Reference10Ideal.Read Cert.MemAttn Cert.MemFwd

variable (x0 : (⟨S8192x2560, .f32⟩ : BufTy).Contents (Elt Ideal)) (x1 : (⟨S256x1024, .bf16⟩ : BufTy).Contents (Elt Ideal))
  (x2 : (⟨S8192x1536, .bf16⟩ : BufTy).Contents (Elt Ideal))

theorem query_at (r : Fin 8192) (h : Fin 4) (x : Fin 128) : val_main_v8 (F := Ideal) x0 (ix4 0 r h x) = query x0 h r x := by
  unfold val_main_v8 val_main_v1 val_main_v0
  pointwise
  exact congrArg (fun y => x0 (ix2 r y)) (Fin.ext (by show 2048 + (h.val * 128 + x.val) = 2048 + 128 * h.val + x.val; omega))

theorem key_at (j : Fin 256) (h : Fin 4) (x : Fin 128) : val_main_v5 (F := Ideal) x1 (ix4 0 j h x) = keys x1 h j x := by
  unfold val_main_v5 val_main_v4 val_main_v3 val_main_v2
  pointwise
  exact congrArg (fun y => x1 (ix2 j y)) (Fin.ext (by show h.val * 128 + x.val = 128 * h.val + x.val; omega))

theorem value_at (j : Fin 256) (h : Fin 4) (x : Fin 128) : val_main_v7 (F := Ideal) x1 (ix4 0 j h x) = vals x1 h j x := by
  unfold val_main_v7 val_main_v6 val_main_v3 val_main_v2
  pointwise
  exact congrArg (fun y => x1 (ix2 j y)) (Fin.ext (by show 512 + (h.val * 128 + x.val) = 512 + 128 * h.val + x.val; omega))

theorem score_at (h : Fin 4) (r : Fin 8192) (j : Fin 256) :
    val_main_v11 (F := Ideal) x0 x1 (ix4 0 h r j) = scores (query x0 h r) (keys x1 h) j := by
  unfold val_main_v11 val_main_v10 val_main_cst val_main_v9
  pointwise
  simp only [query_at, key_at]
  rfl

theorem top_at (h : Fin 4) (r : Fin 8192) :
    val_main_v12 (F := Ideal) x0 x1 (ix3 0 h r) = top (scores (query x0 h r) (keys x1 h)) := by
  unfold val_main_v12
  pointwise
  simp only [score_at]
  rw [show val_main_cst_0 (F := Ideal) (Shape.Idx.first h_S_) = (⊥ : EReal) from ofBits_neg_inf]
  unfold top
  generalize scores (query x0 h r) (keys x1 h) = s
  rfl

theorem top2_at (h : Fin 4) (r : Fin 8192) :
    val_main_v14 (F := Ideal) x0 x1 (ix3 0 h r) = top (scores (query x0 h r) (keys x1 h)) := by
  have e : val_main_v14 (F := Ideal) x0 x1 (ix3 0 h r)
      = max (Ideal.ofBits .f32 0xFF800000#32) (val_main_v12 (F := Ideal) x0 x1 (ix3 0 h r)) := by
    rw [val_main_v14_apply, val_main_v13_apply, val_main_cst_1_apply]
    rfl
  rw [e, top_at, ofBits_neg_inf]
  exact max_bot_left _

theorem expo_at (h : Fin 4) (r : Fin 8192) (j : Fin 256) :
    val_main_v18 (F := Ideal) x0 x1 (ix4 0 h r j) = expo (scores (query x0 h r) (keys x1 h)) j := by
  unfold val_main_v18 val_main_v17 val_main_v16 val_main_v15
  pointwise
  rw [top2_at, score_at]
  rfl

theorem total_at (h : Fin 4) (r : Fin 8192) :
    val_main_v20 (F := Ideal) x0 x1 (ix4 0 h r 0) = total (scores (query x0 h r) (keys x1 h)) := by
  unfold val_main_v20 val_main_v19
  pointwise
  simp only [expo_at]
  rw [show val_main_cst_2 (F := Ideal) (Shape.Idx.first h_S_) = (0 : EReal) from Cert.ReferenceIdeal.Stages.zero_bits]
  exact zero_add _

theorem prob_at (h : Fin 4) (r : Fin 8192) (j : Fin 256) :
    val_main_v22 (F := Ideal) x0 x1 (ix4 0 h r j) = refProb (scores (query x0 h r) (keys x1 h)) j := by
  unfold val_main_v22 val_main_v21
  pointwise
  rw [expo_at, total_at]
  rfl

variable (hq : ∀ h r x, Finite (query x0 h r x)) (hk : ∀ h j x, Finite (keys x1 h j x))
include hq hk

theorem out_at (h : Fin 4) (r : Fin 8192) (d : Fin 128) : val_main_v24 (F := Ideal) x0 x1 (ix4 0 r h d) = outAt x0 x1 h r d := by
  unfold val_main_v24 val_main_v23
  pointwise
  unfold outAt rowOut
  refine Finset.sum_congr rfl fun j _ => ?_
  rw [value_at, prob_at, refProb_eq _ (finite_scores _ _ (hq h r) (hk h)) j, mul_comm]

theorem cat_result : val_main_v29 (F := Ideal) x0 x1 x2 = catArr x0 x1 x2 := by
  funext y
  obtain ⟨r, x, rfl⟩ : ∃ r x, y = ix2 r x := ⟨y 0, y 1, eq_ix2 y⟩
  unfold val_main_v29 val_main_v28 val_main_v27 val_main_v26 val_main_v25
  generalize hp : val_main_v24 (F := Ideal) x0 x1 = p
  pointwise
  subst hp
  show _ = if 2 ≤ x.val / 512 then memArr x0 x1 (ix2 r x) else x2 (ix2 r x)
  by_cases hx : x.val < 1024
  · exact (dif_pos hx).trans (if_neg (by omega)).symm
  · refine (dif_neg hx).trans (Eq.trans ?_ (if_pos (by omega)).symm)
    refine (out_at x0 x1 hq hk _ r _).trans ?_
    exact congrArg (fun h => outAt x0 x1 h r _) (Fin.ext (by
      show (x.val - 1024) / 128 = (x.val - 1024) / 128 % 4
      omega))

end Cert.Reference10Ideal.Stages

end
-- ==== Proof.OutGrad.lean ====
/-
  The gradient of the output projection's weight, written into its place in an array that other weights' gradients share:
  rows 2304 to 2687 of each of the four slabs are the transposed mixed heads times the cotangents, the rows above them
  stay as they were. The kernel accumulates each slab over two halves of the 8192 rows; the reference forms one product.
-/
module

public import proofs.«01_k».proof.Proof.Gen.Kernel11Ideal.Value
public import proofs.«01_k».proof.Proof.Gen.Reference11Ideal.Read
public import Idealize.ShloMosaic.Lib.Pipeline.Value
public import Idealize.ShloMosaic.Lib.Pipeline.ValueKit
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.OutGrad

/-- The head column that place `k` of slab `s` stands for. -/
def headAt (s : Fin 4) (k : Fin 384) : Fin 1536 := ⟨s.val * 384 + k.val, by omega⟩

/-- The place of a slab's row among the rows of its block. -/
def placeOf {N : ℕ} (j : Fin N) : Fin 384 := ⟨j.val % 384, Nat.mod_lt _ (by decide)⟩

/-- The gradient at slab `s`, place `k` and column `n`: mixed heads `A`, cotangents `D`. -/
def dwAt (A : (⟨2, ![8192, 1536]⟩ : Shape).Idx → EReal) (D : (⟨2, ![8192, 1024]⟩ : Shape).Idx → EReal)
    (s : Fin 4) (k : Fin 384) (n : Fin 1024) : EReal := ∑ R : Fin 8192, A (ix2 R (headAt s k)) * D (ix2 R n)

/-- The gradient under every index of the shared array, whose slabs have `N` rows. -/
def dwArr {N : ℕ} (A : (⟨2, ![8192, 1536]⟩ : Shape).Idx → EReal) (D : (⟨2, ![8192, 1024]⟩ : Shape).Idx → EReal) :
    (⟨3, ![4, N, 1024]⟩ : Shape).Idx → EReal := fun y => dwAt A D (y 0) (placeOf (y 1)) (y 2)

/-- The array: the gradient in rows 2304 to 2687 of each slab, what was there before (`P`) in the others. -/
def packedArr {N : ℕ} (A : (⟨2, ![8192, 1536]⟩ : Shape).Idx → EReal) (D : (⟨2, ![8192, 1024]⟩ : Shape).Idx → EReal)
    (P : (⟨3, ![4, N, 1024]⟩ : Shape).Idx → EReal) : (⟨3, ![4, N, 1024]⟩ : Shape).Idx → EReal :=
  fun y => if (y 1).val / 384 = 6 then dwArr A D y else P y

/-- What an index of the shared array in these rows stands for. -/
theorem at_index {N : ℕ} (A : (⟨2, ![8192, 1536]⟩ : Shape).Idx → EReal) (D : (⟨2, ![8192, 1024]⟩ : Shape).Idx → EReal)
    {s : Fin 4} {k : Fin 384} {n : Fin 1024} {z : (⟨3, ![4, N, 1024]⟩ : Shape).Idx}
    (h0 : (z 0).val = s.val) (h1 : (z 1).val = 6 * 384 + k.val) (h2 : (z 2).val = n.val) : dwAt A D s k n = dwArr A D z := by
  have e : placeOf (z 1) = k := Fin.ext (by show (z 1).val % 384 = k.val; omega)
  unfold dwArr
  rw [e]
  exact congr (congrFun (congrArg (dwAt A D) (Fin.ext h0.symm)) k) (Fin.ext h2.symm)

/-- A row of the half `h` of the 8192 rows. -/
def rowAt (h : Fin 2) (r : Fin 4096) : Fin 8192 := ⟨h.val * 4096 + r.val, by omega⟩

end Cert.OutGrad

namespace Cert.Kernel11Ideal.Array

open Cert.Kernel11Ideal Cert.Kernel11Ideal.Gen Cert.Kernel11Ideal.Value Cert.OutGrad

/-- The accumulator starts at zero; -/
theorem pay1_apply (y : S1x384x1024.Idx) : k0_pay1 (F := Ideal) y = 0 := by
  obtain ⟨a, k, n, rfl⟩ : ∃ a k n, y = ix3 a k n := ⟨y 0, y 1, y 2, eq_ix3 y⟩
  unfold_payloads
  pointwise

/-- a point adds the product of its half of the rows. -/
theorem pay2_apply (a : Vec Ideal S1x384x1024 .f32) (A : Vec Ideal S4096x384 .bf16) (D : Vec Ideal S4096x1024 .bf16)
    (k : Fin 384) (n : Fin 1024) :
    k0_pay2 a A D (ix3 0 k n) = a (ix3 0 k n) + ∑ r : Fin 4096, A (ix2 r k) * D (ix2 r n) := by
  unfold_payloads
  pointwise

theorem hz2 : (![0, 0] : Fin 2 → ℕ) = fun _ => 0 := funext fun a => by fin_cases a <;> rfl
theorem hz3 : (![0, 0, 0] : Fin 3 → ℕ) = fun _ => 0 := funext fun a => by fin_cases a <;> rfl

section Outs
variable (c : Dev nD) (i : grid0.Coords) (arg3 : Memref sig .tc .vmem S4096x384 .bf16) (h3 : arg3.IsWhole)
  (arg4 : Memref sig .tc .vmem S4096x1024 .bf16) (h4 : arg4.IsWhole) (arg6 : Memref sig .tc .vmem S1x384x1024 .f32) (h6 : arg6.IsWhole)
  (x0 : Vec Ideal S4096x384 .bf16) (x1 : Vec Ideal S4096x1024 .bf16) (x2 : Vec Ideal S1x384x1024 .f32)

/-- The first point of a run starts from zero; -/
theorem out_A (hc : cond0_0 i) : out0_A_2 (F := Ideal) c i arg3 h3 arg4 h4 arg6 h6 hc x0 x1 = k0_pay2 (k0_pay1 (F := Ideal)) x0 x1 := by
  unfold out0_A_2
  rw [View.read_writes_eq_canon _ _ _ (cover0_A_2 c i arg3 h3 arg4 h4 arg6 h6 hc x0 x1)]
  unfold kernelRun0_A
  dsimp only
  try sl_unfold_words
  rw [View.canon_cons_unit_zero (S := S1x384x1024) hz3, View.readCov_unit_zero (S := S1x384x1024) _ hz3]
  simp only [View.readAt_eq_ld, h3.read_unread, h4.read_unread, View.ld_unit_zero (S := S4096x384) hz2, View.ld_unit_zero (S := S4096x1024) hz2]

/-- the second adds to what the first left. -/
theorem out_B (hc : ¬cond0_0 i) : out0_B_2 (F := Ideal) c i arg3 h3 arg4 h4 arg6 h6 hc x0 x1 x2 = k0_pay2 x2 x0 x1 := by
  unfold out0_B_2
  rw [View.read_writes_eq_canon _ _ _ (cover0_B_2 c i arg3 h3 arg4 h4 arg6 h6 hc x0 x1 x2)]
  unfold kernelRun0_B
  dsimp only
  try sl_unfold_words
  rw [View.canon_unit_zero hz3]
  simp only [View.readAt_eq_ld, h3.read_unread, h4.read_unread, h6.read_unread, View.ld_unit_zero (S := S1x384x1024) hz3, View.ld_unit_zero (S := S4096x384) hz2, View.ld_unit_zero (S := S4096x1024) hz2]

end Outs

variable (m : (ℓ : Loc nD τ sig) → Buf (Elt Ideal) ℓ) (c : Dev nD)

/-- The three arguments. -/
abbrev A : S8192x1536.Idx → EReal := m ((c : Thread nD τ).loc main_arg0)
abbrev D : S8192x1024.Idx → EReal := m ((c : Thread nD τ).loc main_arg1)
abbrev P : S4x2688x1024.Idx → EReal := m ((c : Thread nD τ).loc main_arg2)

theorem idx_0 : ∀ t : Fin cfg0.N, win0_0.index t = ![t.val % 2, t.val / 2] :=
  (by decide +kernel : ∀ t : Fin grid0.N, win0_0.index t = ![t.val % 2, t.val / 2])
theorem idx_1 : ∀ t : Fin cfg0.N, win0_1.index t = ![t.val % 2, 0] :=
  (by decide +kernel : ∀ t : Fin grid0.N, win0_1.index t = ![t.val % 2, 0])
theorem idx_2 : ∀ t : Fin cfg0.N, win0_2.index t = ![t.val / 2, 6, 0] :=
  (by decide +kernel : ∀ t : Fin grid0.N, win0_2.index t = ![t.val / 2, 6, 0])

/-- The slab of a point's blocks. -/
def slabAt (t : Fin cfg0.N) : Fin 4 := ⟨t.val / 2, by have := t.isLt; have : cfg0.N = 8 := N_0; omega⟩

theorem block_0 (t : Fin cfg0.N) (h : Fin 2) (hh : h.val = t.val % 2) (r : Fin 4096) (k : Fin 384) :
    iblk m c 0 t (ix2 r k) = A m c (ix2 (rowAt h r) (headAt (slabAt t) k)) := by
  blk_simp [iblk]
  rw [V_main_arg0]
  refine congrArg (A m c) ?_
  blk_ext [idx_0, rowAt, headAt, slabAt, hh]

theorem block_1 (t : Fin cfg0.N) (h : Fin 2) (hh : h.val = t.val % 2) (r : Fin 4096) (n : Fin 1024) :
    iblk m c 1 t (ix2 r n) = D m c (ix2 (rowAt h r) n) := by
  blk_simp [iblk]
  rw [V_main_arg1]
  refine congrArg (D m c) ?_
  blk_ext [idx_1, rowAt, hh]

/-- The buffer the call writes into starts as a copy of the third argument. -/
theorem entry_eq : (V m c main_v0 : S4x2688x1024.Idx → EReal) = P m c := by
  unfold V
  rw [StableHlo.after_cons, StableHlo.after_nil, StableHlo.unary_result]
  rfl

/-- What the second point of a run leaves: the products of both halves, which are the product of all rows. -/
theorem outs_2 (t : Fin cfg0.N) (ht : t.val % 2 = 1) (k : Fin 384) (n : Fin 1024) :
    outsAt0 m c t.val t.isLt (ix3 0 k n) = dwAt (A m c) (D m c) (slabAt t) k n := by
  have hu : t.val - 1 < cfg0.N := Nat.lt_of_le_of_lt (Nat.sub_le _ _) t.isLt
  have h0 : (⟨t.val - 1, hu⟩ : Fin cfg0.N).val % 2 = 0 := by show (t.val - 1) % 2 = 0; omega
  have es : slabAt ⟨t.val - 1, hu⟩ = slabAt t := Fin.ext (by show (t.val - 1) / 2 = t.val / 2; omega)
  have e1 : outsAt0 m c (t.val - 1) hu (ix3 0 k n)
      = ∑ r : Fin 4096, A m c (ix2 (rowAt 0 r) (headAt (slabAt t) k)) * D m c (ix2 (rowAt 0 r) n) := by
    rw [outsAt0_A m c ⟨t.val - 1, hu⟩ h0, out_A, pay2_apply, pay1_apply, zero_add]
    refine Finset.sum_congr rfl fun r _ => ?_
    rw [block_0 m c _ 0 h0.symm, block_1 m c _ 0 h0.symm, es]
  rw [outsAt0_B m c t (by omega), out_B, pay2_apply, e1]
  unfold dwAt
  rw [Fin.sum_univ_tiles 2 4096 rfl, Fin.sum_univ_two]
  refine congrArg₂ (· + ·) rfl (Finset.sum_congr rfl fun r _ => ?_)
  rw [block_0 m c t 1 ht.symm, block_1 m c t 1 ht.symm]
  rfl

/-- The result array. -/
theorem packed_array : (dats m 0 c).arrAt 2 cfg0.N = packedArr (A m c) (D m c) (P m c) := by
  refine ((dats m 0 c).arrAt_eq_of_coversWhere 2 (dwArr (A m c) (D m c))
    (P := fun y : S4x2688x1024.Idx => (y 1).val / 384 = 6) (fun β => β (1 : Fin 3) = 6) (by decide +kernel) (fun t hf y => ?_) (fun j => Iff.rfl)).trans ?_
  · have ht : t.val % 2 = 1 := (flush0_2 t).mp hf
    obtain ⟨a, k, n, rfl⟩ : ∃ a k n, y = ix3 a k n := ⟨y 0, y 1, y 2, eq_ix3 y⟩
    obtain rfl : a = 0 := Subsingleton.elim _ _
    blk_simp
    rw [after0_2]
    refine (outs_2 m c t ht k n).trans ?_
    have e0 : (((cfg0.win 2).blk t).view.emb (ix3 0 k n) 0).val = t.val / 2 := by
      blk_simp [idx_2]
      exact Nat.add_zero _
    have e1 : (((cfg0.win 2).blk t).view.emb (ix3 0 k n) 1).val = 6 * 384 + k.val := by blk_simp [idx_2]
    have e2 : (((cfg0.win 2).blk t).view.emb (ix3 0 k n) 2).val = n.val := by
      show win0_2.index t 2 * 1024 + 1 * n.val = n.val
      rw [idx_2]
      show 0 * 1024 + 1 * n.val = n.val
      omega
    exact at_index (A m c) (D m c) e0 e1 e2
  · funext y
    have e : (dats m 0 c).A 2 = P m c := (A_eq m c 2).trans (entry_eq m c)
    unfold packedArr
    rw [e]

end Cert.Kernel11Ideal.Array

namespace Cert.Reference11Ideal.Stages

open Cert.Reference11Ideal Cert.Reference11Ideal.Gen Cert.Reference11Ideal.Read Cert.OutGrad

variable (x0 : (⟨S8192x1536, .bf16⟩ : BufTy).Contents (Elt Ideal)) (x1 : (⟨S8192x1024, .bf16⟩ : BufTy).Contents (Elt Ideal))
  (x2 : (⟨S4x2688x1024, .f32⟩ : BufTy).Contents (Elt Ideal))

theorem product_at (s : Fin 4) (k : Fin 384) (n : Fin 1024) :
    val_main_v5 (F := Ideal) x0 x1 (ix3 s k n) = ∑ R : Fin 8192, x0 (ix2 R (headAt s k)) * x1 (ix2 R n) := by
  unfold val_main_v5 val_main_v3 val_main_v2 val_main_v1 val_main_v0
  pointwise
  exact Finset.sum_congr rfl fun R _ => (mul_comm _ _).trans rfl

theorem packed_result : val_main_v6 (F := Ideal) x0 x1 x2 = packedArr x0 x1 x2 := by
  funext y
  obtain ⟨s, j, n, rfl⟩ : ∃ s j n, y = ix3 s j n := ⟨y 0, y 1, y 2, eq_ix3 y⟩
  unfold val_main_v6 val_main_v4
  generalize hp : val_main_v5 (F := Ideal) x0 x1 = p
  pointwise
  subst hp
  show _ = if j.val / 384 = 6 then dwAt x0 x1 s (placeOf j) n else x2 (ix3 s j n)
  by_cases hj : j.val < 2304
  · rw [dif_pos hj, if_neg (by omega)]
  · refine (dif_neg hj).trans (((product_at x0 x1 s _ n).trans ?_).trans (if_pos (by omega)).symm)
    exact congrArg (fun k => dwAt x0 x1 s k n) (Fin.ext (by show j.val - 2304 = j.val % 384; omega))

end Cert.Reference11Ideal.Stages

end
-- ==== Proof.Packed.lean ====
/-
  An output window whose blocks need not divide its array, on a grid that reaches no block which overhangs: a point that
  follows one which kept its buffer finds there all that the point before left.
-/
module

public import Idealize.ShloMosaic.Lib.Pipeline.Frame

@[expose] public section

noncomputable section

open Idealize.ShloMosaic Idealize.SL Idealize.SL.RA Idealize.SL.Sem
open Idealize.ShloMosaic.Pipeline (Dat Cfg Window)

namespace Cert.Packed

variable {nD : ℕ} {τ : Topo} {sig : RefSig} {Val : EltTy → Type} {Ix : Type} [DecidableEq Ix] {Name : Type} [DecidableEq Name]
  {U : Type} [URA U] {Lvl : Type} {Λ₀ : Idealize.SL.Sem.Labels} {cfg : Cfg sig Λ₀} {c : Dev nD}

theorem kept_whole (dat : Dat τ Val Ix Name U Lvl cfg c) (w : Fin cfg.W) (hw : (cfg.win w).isOut = true) (t : Fin cfg.N)
    (ht : t.val ≠ 0) (hf : (cfg.win w).flush ⟨t.val - 1, Nat.lt_of_le_of_lt (Nat.sub_le _ _) t.isLt⟩ = false)
    (hi : ∀ i, cfg.idle w i = false)
    (hc : ∀ t : Fin cfg.N, (cfg.win w).clipped (cfg.grid.coords t) = false) (d) :
    dat.before w t d = dat.after w ⟨t.val - 1, Nat.lt_of_le_of_lt (Nat.sub_le _ _) t.isLt⟩ := by
  rw [dat.before_out_acc w hw t ht hf hi]
  unfold Dat.kept
  rw [Pipeline.fill_of_clip_none w _ (((cfg.win w).clipped_eq_false_iff _).mp (hc _)) d (dat.after w _), Window.fill_cut]

end Cert.Packed

end
-- ==== Proof.AccBody.lean ====
/-
  The body of a call that adds up products over the points of a block: the first point sets the accumulator, every point adds
  a function of its two blocks and of what the accumulator holds. Stated for any shapes and any such function.
-/
module

public import Idealize.ShloMosaic.Lib.Pipeline.FrameBody
public import Idealize.ShloMosaic.Lib.Tactic
public import Idealize.ShloMosaic.Lib.WritesUnit
public import Idealize.ShloMosaic.Lib.Pipeline.ValueKit

@[expose] public section

set_option maxRecDepth 16384

noncomputable section

namespace Cert.AccBody

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {nD : ℕ} {τ : Topo} {sig : RefSig} {Λ₀ : Labels}
  {X W O : Shape} (hX : 0 < X.numel) (hW : 0 < W.numel) (hO : 0 < O.numel)
  {zX : Fin X.rank → ℕ} {zW : Fin W.rank → ℕ} {zO : Fin O.rank → ℕ}
  (iX : ∀ a, zX a + X.size a ≤ X.size a) (iW : ∀ a, zW a + W.size a ≤ W.size a) (iO : ∀ a, zO a + O.size a ≤ O.size a)
  (z : Vec F O .f32) (f : Vec F O .f32 → Vec F X .bf16 → Vec F W .bf16 → Vec F O .f32)

theorem zero2 : (![0, 0] : Fin 2 → ℕ) = fun _ => 0 := funext fun a => by fin_cases a <;> rfl
theorem zero3 : (![0, 0, 0] : Fin 3 → ℕ) = fun _ => 0 := funext fun a => by fin_cases a <;> rfl

/-! ## What the accumulator holds, where a block has two points -/

section Held
variable {N : ℕ} (x : Fin N → Vec F X .bf16) (w : Fin N → Vec F W .bf16)

/-- The point before. -/
def prev (t : Fin N) : Fin N := ⟨t.val - 1, Nat.lt_of_le_of_lt (Nat.sub_le _ _) t.isLt⟩

/-- What a point leaves: an even one is the first of its block, an odd one the second. -/
def held (t : Fin N) : Vec F O .f32 :=
  if t.val % 2 = 0 then f z (x t) (w t) else f (f z (x (prev t)) (w (prev t))) (x t) (w t)

theorem held_first (t : Fin N) (ht : t.val % 2 = 0) : held z f x w t = f z (x t) (w t) := if_pos ht

theorem held_prev (t : Fin N) (ht : ¬t.val % 2 = 0) : held z f x w (prev t) = f z (x (prev t)) (w (prev t)) :=
  held_first z f x w (prev t) (by show (t.val - 1) % 2 = 0; omega)

theorem held_next (t : Fin N) (ht : ¬t.val % 2 = 0) : held z f x w t = f (held z f x w (prev t)) (x t) (w t) :=
  (if_neg ht).trans (congrArg (fun v => f v (x t) (w t)) (held_prev z f x w t ht).symm)

end Held

/-- Where the accumulator starts at zero and a point adds `g`, the second point leaves the sum of both points' `g`. -/
theorem held_sum {N : ℕ} (z : Vec Ideal O .f32) (f : Vec Ideal O .f32 → Vec Ideal X .bf16 → Vec Ideal W .bf16 → Vec Ideal O .f32)
    (x : Fin N → Vec Ideal X .bf16) (w : Fin N → Vec Ideal W .bf16) (y : O.Idx) (g : Vec Ideal X .bf16 → Vec Ideal W .bf16 → EReal)
    (hz : z y = (0 : EReal)) (hf : ∀ v x w, f v x w y = (v y + g x w : EReal)) (t : Fin N) (ht : t.val % 2 = 1) :
    held z f x w t y = g (x (prev t)) (w (prev t)) + g (x t) (w t) := by
  rw [held_next z f x w t (by omega), held_prev z f x w t (by omega), hf, hf, hz, zero_add]

/-! ## The body -/

/-- The body. -/
def body (b0 : BitVec 1) (a : Memref sig .tc .vmem X .bf16) (b : Memref sig .tc .vmem W .bf16) (o : Memref sig .tc .vmem O .f32) :
    Prog (TpuEff nD τ sig (Elt F) Λ₀ .tc) PUnit := do
  if _h : b0 = 1#1 then do
    let _ ← Prog.lift (.load o (Rect.unit (s := O) zO O.size iO).toLoadRect (View.loadsAt_vmem hO))
    Prog.lift (.store o (Rect.unit (s := O) zO O.size iO) z Finset.univ (View.stores_vmem_bits_univ hO rfl) (.inl rfl))
    pure ⟨⟩
  else do
    pure ⟨⟩
  let v : Vec F O .f32 ← Prog.lift (.load o (Rect.unit (s := O) zO O.size iO).toLoadRect (View.loadsAt_vmem hO))
  let x : Vec F X .bf16 ← Prog.lift (.load a (Rect.unit (s := X) zX X.size iX).toLoadRect (View.loadsAt_vmem hX))
  let w : Vec F W .bf16 ← Prog.lift (.load b (Rect.unit (s := W) zW W.size iW).toLoadRect (View.loadsAt_vmem hW))
  let _ ← Prog.lift (.load o (Rect.unit (s := O) zO O.size iO).toLoadRect (View.loadsAt_vmem hO))
  Prog.lift (.store o (Rect.unit (s := O) zO O.size iO) (f v x w) Finset.univ (View.stores_vmem_bits_univ hO rfl) (.inl rfl))
  pure ⟨⟩

section Run
variable (zX0 : zX = fun _ => 0) (zW0 : zW = fun _ => 0) (zO0 : zO = fun _ => 0) (defs : Defs nD τ sig (Elt F) Λ₀)
  (b0 : BitVec 1) (c : Dev nD) (a : Memref sig .tc .vmem X .bf16) (ha : a.IsWhole)
  (b : Memref sig .tc .vmem W .bf16) (hb : b.IsWhole) (o : Memref sig .tc .vmem O .f32) (ho : o.IsWhole)
  (x : Vec F X .bf16) (w : Vec F W .bf16) (v : Vec F O .f32)

include zX0 zW0 zO0 ha hb ho in
/-- The first point of a block starts from `z`, whatever its buffer holds; -/
theorem first (hc : b0 = 1#1) (E : Set ℕ) (K : PUnit → sProp (MT nD τ sig Unit (Elt F) ℕ (UR sig nD τ) ℕ)) :
    iprop(owns (c : Thread nD τ) a fullShare x ∗ owns (c : Thread nD τ) b fullShare w ∗ owns (c : Thread nD τ) o fullShare v
        ∗ (iprop(owns (c : Thread nD τ) a fullShare x ∗ owns (c : Thread nD τ) b fullShare w
            ∗ owns (c : Thread nD τ) o fullShare (f z x w)) -∗ K ⟨⟩))
      ⊢ wp frame (wpE defs Variants.none c none) E (body hX hW hO iX iW iO z f b0 a b o) K := by
  unfold body
  unfold owns
  iintro ⟨⟨%f0, %hf0, H0⟩, ⟨%f1, %hf1, H1⟩, ⟨%f2, %hf2, H2⟩, Hk⟩
  obtain rfl := ha.eq_unread hf0; obtain rfl := hb.eq_unread hf1; obtain rfl := ho.eq_unread hf2
  sl_exec (disch := first | sl_exact hc)
  sl_step
  iapply Hk
  isplitl [H0]
  · iexists _; isplitr; · ipureintro; exact ha.read_unread _
    iexact H0
  isplitl [H1]
  · iexists _; isplitr; · ipureintro; exact hb.read_unread _
    iexact H1
  iexists _; isplitr; swap; · iexact H2
  ipureintro
  funext y
  refine (View.read_writes_cons_unit_of_mem _ _ _ _ _ y y zO0 (fun a => (Nat.zero_add _).symm)).trans (congrFun ?_ y)
  sl_unfold_words
  have e : View.read (Elt F) o.view (o.view.writes (Elt F) (ho.unread v) [⟨Rect.unit zO O.size iO, z⟩]) = z :=
    funext fun y => View.read_writes_cons_unit_of_mem _ _ _ _ _ y y zO0 fun a => (Nat.zero_add _).symm
  simp only [View.readAt_eq_ld, ha.read_unread, hb.read_unread, e, View.ld_unit_zero (S := O) zO0, View.ld_unit_zero (S := X) zX0, View.ld_unit_zero (S := W) zW0]

include zX0 zW0 zO0 ha hb ho in
/-- every other adds to what the one before left. -/
theorem next (hc : ¬b0 = 1#1) (E : Set ℕ) (K : PUnit → sProp (MT nD τ sig Unit (Elt F) ℕ (UR sig nD τ) ℕ)) :
    iprop(owns (c : Thread nD τ) a fullShare x ∗ owns (c : Thread nD τ) b fullShare w ∗ owns (c : Thread nD τ) o fullShare v
        ∗ (iprop(owns (c : Thread nD τ) a fullShare x ∗ owns (c : Thread nD τ) b fullShare w
            ∗ owns (c : Thread nD τ) o fullShare (f v x w)) -∗ K ⟨⟩))
      ⊢ wp frame (wpE defs Variants.none c none) E (body hX hW hO iX iW iO z f b0 a b o) K := by
  unfold body
  unfold owns
  iintro ⟨⟨%f0, %hf0, H0⟩, ⟨%f1, %hf1, H1⟩, ⟨%f2, %hf2, H2⟩, Hk⟩
  obtain rfl := ha.eq_unread hf0; obtain rfl := hb.eq_unread hf1; obtain rfl := ho.eq_unread hf2
  sl_exec (disch := first | sl_exact hc)
  sl_step
  iapply Hk
  isplitl [H0]
  · iexists _; isplitr; · ipureintro; exact ha.read_unread _
    iexact H0
  isplitl [H1]
  · iexists _; isplitr; · ipureintro; exact hb.read_unread _
    iexact H1
  iexists _; isplitr; swap; · iexact H2
  ipureintro
  funext y
  refine (View.read_writes_cons_unit_of_mem _ _ _ _ _ y y zO0 (fun a => (Nat.zero_add _).symm)).trans (congrFun ?_ y)
  sl_unfold_words
  simp only [View.readAt_eq_ld, ha.read_unread, hb.read_unread, ho.read_unread, View.ld_unit_zero (S := X) zX0,
    View.ld_unit_zero (S := W) zW0, View.ld_unit_zero (S := O) zO0]

/-- What a point of the grid is called with, and what it returns: `A` and `P` pass through, `x`, `w` and `v` are what the schedule
    knows of the three buffers. -/
def pre {D0 D1 D2 : Type} (A P : sProp (MT nD τ sig Unit (Elt F) ℕ (UR sig nD τ) ℕ)) (x : D0 → Vec F X .bf16) (w : D1 → Vec F W .bf16)
    (v : D2 → Vec F O .f32) : sProp (MT nD τ sig Unit (Elt F) ℕ (UR sig nD τ) ℕ) :=
  iprop(A ∗ P ∗ (∃ d, owns (c : Thread nD τ) a fullShare (x d)) ∗ (∃ d, owns (c : Thread nD τ) b fullShare (w d))
    ∗ (∃ d, owns (c : Thread nD τ) o fullShare (v d)))
def post (A P : sProp (MT nD τ sig Unit (Elt F) ℕ (UR sig nD τ) ℕ)) (x : Vec F X .bf16) (w : Vec F W .bf16) (v : Vec F O .f32) :
    sProp (MT nD τ sig Unit (Elt F) ℕ (UR sig nD τ) ℕ) :=
  iprop(A ∗ P ∗ owns (c : Thread nD τ) a fullShare x ∗ owns (c : Thread nD τ) b fullShare w ∗ owns (c : Thread nD τ) o fullShare v)

include zX0 zW0 zO0 ha hb ho in
/-- A point leaves what `held` says, if an odd one finds what the one before left. -/
theorem point {N : ℕ} {D0 D1 D2 : Type} (A P : sProp (MT nD τ sig Unit (Elt F) ℕ (UR sig nD τ) ℕ)) (xs : Fin N → Vec F X .bf16)
    (ws : Fin N → Vec F W .bf16) (t : Fin N) (hb0 : b0 = 1#1 ↔ t.val % 2 = 0) (vd : D2 → Vec F O .f32)
    (hv : ¬t.val % 2 = 0 → ∀ d, vd d = held z f xs ws (prev t)) :
    pre c a b o A P (fun _ : D0 => xs t) (fun _ : D1 => ws t) vd
      ⊢ wp frame (wpE defs Variants.none c none) Set.univ (body hX hW hO iX iW iO z f b0 a b o)
        (fun _ => post c a b o A P (xs t) (ws t) (held z f xs ws t)) := by
  unfold pre post
  by_cases h : t.val % 2 = 0
  · rw [held_first z f xs ws t h]
    iintro ⟨HΦ, Ho, ⟨%d0, H0⟩, ⟨%d1, H1⟩, ⟨%d2, H2⟩⟩
    iapply (first hX hW hO iX iW iO z f zX0 zW0 zO0 defs b0 c a ha b hb o ho (xs t) (ws t) _ (hb0.mpr h) Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2
  · rw [held_next z f xs ws t h]
    simp only [hv h]
    iintro ⟨HΦ, Ho, ⟨%d0, H0⟩, ⟨%d1, H1⟩, ⟨%d2, H2⟩⟩
    iapply (next hX hW hO iX iW iO z f zX0 zW0 zO0 defs b0 c a ha b hb o ho (xs t) (ws t) _ (fun e => h (hb0.mp e)) Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

end Run

end Cert.AccBody

end
-- ==== Proof.UpRun.lean ====
/-
  The gradient of the up projection's weight, written into an array that other weights' gradients share: the call's run.
  The grid goes over four slabs, two blocks of 512 rows in each, and the two halves of the 8192 rows summed over; at the
  first half of a block the accumulator is set to zero.
-/
module

public import proofs.«01_k».proof.Defs
public import proofs.«01_k».proof.Proof.Gen.Kernel12
public import proofs.«01_k».proof.Proof.Gen.Kernel12Ideal.Frame
public import proofs.«01_k».proof.Proof.Packed
public import proofs.«01_k».proof.Proof.AccBody
public import Idealize.ShloMosaic.Lib.WritesUnit
public import Idealize.ShloMosaic.Lib.Claim
public import Idealize.ShloMosaic.Lib.Pipeline.ValueKit

@[expose] public section

set_option maxRecDepth 16384

noncomputable section

namespace Cert.Kernel12Ideal.UpRun

open Cert.Kernel12Ideal Cert.Kernel12Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.AccBody (zero2 zero3)
open Idealize.ShloMosaic.Pipeline (Dat Cfg Window BodyObligation)

variable {F : FTy → Type} [FloatOps F]

/-- The accumulator's first contents; -/
def zeroes : FVec F S1x512x1024 .f32 := broadcast S1x512x1024 (Scalar.ofBits .f32 0x00000000#32)

/-- and what a point adds: the product of its blocks, summed over their rows. -/
def plus (v : Vec F S1x512x1024 .f32) (x : Vec F S4096x512 .bf16) (w : Vec F S4096x1024 .bf16) : FVec F S1x512x1024 .f32 :=
  shapeCast S1x512x1024 (addf (shapeCast S512x1024 v shapeCasts_S1x512x1024_S512x1024)
    (matmul dot_S4096x512_S4096x1024_S512x1024_0_0_1_1_n_n none x w (constant S512x1024 .f32 0x00000000#32)))
    shapeCasts_S512x1024_S1x512x1024

/-- Whether a point is the first of its block. -/
abbrev first (i : grid0.Coords) : BitVec 1 := Scalar.cmpi .ne (Scalar.extui (Scalar.cmpi .eq (BitVec.ofNat 32 (i 2).val) 0#32)) 0#32

theorem first_iff : ∀ t : Fin cfg0.N, first (grid0.coords t) = 1#1 ↔ t.val % 2 = 0 :=
  (by decide +kernel : ∀ t : Fin grid0.N, first (grid0.coords t) = 1#1 ↔ t.val % 2 = 0)

theorem uncut : ∀ t : Fin cfg0.N, (cfg0.win 2).clipped (cfg0.grid.coords t) = false :=
  (by decide +kernel : ∀ t : Fin grid0.N, win0_2.clipped (grid0.coords t) = false)

/-- The body is the one that accumulates. -/
theorem body_eq (i : grid0.Coords) (a : Memref sig .tc .vmem S4096x512 .bf16) (ha : a.IsWhole)
    (b : Memref sig .tc .vmem S4096x1024 .bf16) (hb : b.IsWhole) (o : Memref sig .tc .vmem S1x512x1024 .f32) (ho : o.IsWhole) :
    cc0_dw_up1 (F := F) i a ha b hb (Memref.whole main_arg2) (Memref.isWhole_whole _) o ho
      = AccBody.body h_S4096x512 h_S4096x1024 h_S1x512x1024 inb_S4096x512_S4096x512_0_0 inb_S4096x1024_S4096x1024_0_0
        inb_S1x512x1024_S1x512x1024_0_0_0 zeroes plus (first i) a b o := rfl

variable (m : (ℓ : Loc nD τ sig) → Buf (Elt F) ℓ) (ρ : Dev nD → PrngReg)

/-- What a point leaves. -/
abbrev held (c : Dev nD) (t : Fin cfg0.N) : Vec F S1x512x1024 .f32 := AccBody.held zeroes plus (iblk m c 0) (iblk m c 1) t

/-- The arrays as the call finds them, the inputs' buffers at their blocks, the output's at what its point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => held m c t
  Φ _ := Pipeline.ΦA spec0 c
  q _ := fullShare
  owed _ := 0

theorem dats_A (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = held m c t := by dsimp only [dats]

theorem before_0 (c : Dev nD) (t : Fin cfg0.N) (d) : (dats m 0 c).before 0 t d = iblk m c 0 t :=
  before0_0_of m (dats m 0 c) (dats_A m c 0) (after_0 m c) t d
theorem before_1 (c : Dev nD) (t : Fin cfg0.N) (d) : (dats m 0 c).before 1 t d = iblk m c 1 t :=
  before0_1_of m (dats m 0 c) (dats_A m c 1) (after_1 m c) t d

/-- The second point of a block finds what the first left. -/
theorem before_2 (c : Dev nD) (t : Fin cfg0.N) (ht : ¬t.val % 2 = 0) (d) : (dats m 0 c).before 2 t d = held m c (AccBody.prev t) :=
  (Cert.Packed.kept_whole (dats m 0 c) 2 rfl t (by omega)
    (Bool.eq_false_iff.mpr fun h => by have := (flush0_2 _).mp h; dsimp only at this; omega) (fun _ => rfl) uncut d).trans (after_2 m c _)

/-- A point takes its buffers as the schedule hands them over, and returns them as `dats` says. -/
theorem body_sound (c : Dev nD) (t : Fin cfg0.N) :
    AccBody.pre c (st0_0 t) (st0_1 t) (st0_2 t) ((dats m 0 c).Φ t.castSucc) ((dats m 0 c).owesAt () t.castSucc)
        ((dats m 0 c).before 0 t) ((dats m 0 c).before 1 t) ((dats m 0 c).before 2 t)
      ⊢ wp frame (wpE (defs₀ (F := F)) Variants.none c none) Set.univ (bodyAt0 t)
        (fun _ => AccBody.post c (st0_0 t) (st0_1 t) (st0_2 t) ((dats m 0 c).Φ t.succ) ((dats m 0 c).owesAt () t.succ)
          ((dats m 0 c).after 0 t) ((dats m 0 c).after 1 t) ((dats m 0 c).after 2 t)) := by
  unfold bodyAt0
  rw [body_eq, funext (before_0 m c t), funext (before_1 m c t), after_0, after_1, after_2]
  exact AccBody.point _ _ _ _ _ _ _ _ zero2 zero2 zero3 defs₀ _ c _ (hstage0_0 _) _ (hstage0_1 _) _ (hstage0_2 _) _ _
    (iblk m c 0) (iblk m c 1) t (first_iff t) _ (before_2 m c t)

theorem body_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (body_sound m c t) rfl .rfl fun _ => .rfl

set_option backward.isDefEq.respectTransparency.types false in
/-- The call's run: the output array ends as the points' write-backs leave it, and every counter is zero. -/
theorem run : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := dats_A m) (hΦ := fun _ _ => rfl)

/-- The arguments end as they were. -/
theorem arguments_kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  θ_run_and (frame_of m ρ (dats m) (dats_A m) ((θ_run defs _ _).mono (fun _ h => h.1) (run m ρ)))
    ((θ_run defs _ _).mono (fun _ h => h.2) (run m ρ))

/-- The two programs have the same bodies, -/
theorem same_bodies : Cert.Kernel12.defs₀ (F := Bits) = defs₀ (F := Bits) := by
  unfold Cert.Kernel12.defs₀ defs₀
  refine congrArg Defs.onTc ?_
  funext l _
  match l with
  | 0 => rfl
  | ⟨_ + 1, h⟩ => exact absurd h (Nat.not_lt.2 (Nat.le_add_left _ _))

/-- so the run above is the run of the program on words too. -/
theorem words_kept : Cert.quiescent_Kernel12 (hKernel12 := Cert.Kernel12.Gen.facts) := fun m ρ _ =>
  (congrArg (fun d => θ_run (Pipeline.defs (Cert.Kernel12.pcfgs (F := Bits)) d) (onTc (τ := τ) (main (F := Bits))) ⟨m, fun _ => 0, ρ⟩ _)
    same_bodies).mpr (arguments_kept (F := Bits) m ρ)

end Cert.Kernel12Ideal.UpRun

end
-- ==== Proof.UpWeight.lean ====
/-
  The gradient of the up projection's weight: rows 0 to 1023 of each of the four slabs of the shared array are the transposed
  normed inputs times the slab's columns of the cotangents, the rows below them stay as they were. The kernel accumulates
  each block over two halves of the 8192 rows; the reference forms one product.
-/
module

public import proofs.«01_k».proof.Proof.UpRun
public import proofs.«01_k».proof.Proof.Gen.Reference12Ideal.Read
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.UpWeight

/-- Column `n` of slab `s`, among all columns of the cotangents. -/
def wide (s : Fin 4) (n : Fin 1024) : Fin 4096 := ⟨s.val * 1024 + n.val, by omega⟩

/-- The row of the weight that row `j` of a slab stands for, however many rows a slab has. -/
def narrow {R : ℕ} (j : Fin R) : Fin 1024 := ⟨j.val % 1024, Nat.mod_lt _ (by decide)⟩

/-- The gradient at slab `s`, row `i` and column `n`: normed inputs `A`, cotangents `D`. -/
def dwAt (A : (⟨2, ![8192, 1024]⟩ : Shape).Idx → EReal) (D : (⟨2, ![8192, 4096]⟩ : Shape).Idx → EReal)
    (s : Fin 4) (i : Fin 1024) (n : Fin 1024) : EReal := ∑ R : Fin 8192, A (ix2 R i) * D (ix2 R (wide s n))

/-- The gradient under every index of the shared array. -/
def dwArr {R : ℕ} (A : (⟨2, ![8192, 1024]⟩ : Shape).Idx → EReal) (D : (⟨2, ![8192, 4096]⟩ : Shape).Idx → EReal) :
    (⟨3, ![4, R, 1024]⟩ : Shape).Idx → EReal := fun y => dwAt A D (y 0) (narrow (y 1)) (y 2)

/-- The array: the gradient in the first rows of each slab, what was there before (`P`) in the others. -/
def packedArr {R : ℕ} (A : (⟨2, ![8192, 1024]⟩ : Shape).Idx → EReal) (D : (⟨2, ![8192, 4096]⟩ : Shape).Idx → EReal)
    (P : (⟨3, ![4, R, 1024]⟩ : Shape).Idx → EReal) : (⟨3, ![4, R, 1024]⟩ : Shape).Idx → EReal :=
  fun y => if (y 1).val / 512 < 2 then dwArr A D y else P y

end Cert.UpWeight

namespace Cert.Kernel12Ideal.Array

open Cert.Kernel12Ideal Cert.Kernel12Ideal.Gen Cert.Kernel12Ideal.UpRun Cert.UpWeight

/-- The accumulator starts at zero; -/
theorem zeroes_apply (y : S1x512x1024.Idx) : zeroes (F := Ideal) y = 0 := by
  obtain ⟨a, k, n, rfl⟩ : ∃ a k n, y = ix3 a k n := ⟨y 0, y 1, y 2, eq_ix3 y⟩
  unfold zeroes
  pointwise

/-- a point adds the product of its half of the rows. -/
theorem plus_apply (a : Vec Ideal S1x512x1024 .f32) (A : Vec Ideal S4096x512 .bf16) (D : Vec Ideal S4096x1024 .bf16)
    (k : Fin 512) (n : Fin 1024) :
    plus a A D (ix3 0 k n) = a (ix3 0 k n) + ∑ r : Fin 4096, A (ix2 r k) * D (ix2 r n) := by
  unfold plus
  pointwise

variable (m : (ℓ : Loc nD τ sig) → Buf (Elt Ideal) ℓ) (ρ : Dev nD → PrngReg) (c : Dev nD)

/-- The three arguments. -/
abbrev A : S8192x1024.Idx → EReal := m ((c : Thread nD τ).loc main_arg0)
abbrev D : S8192x4096.Idx → EReal := m ((c : Thread nD τ).loc main_arg1)
abbrev P : S4x3328x1024.Idx → EReal := m ((c : Thread nD τ).loc main_arg2)

theorem idx_0 : ∀ t : Fin cfg0.N, win0_0.index t = ![t.val % 2, t.val / 2 % 2] :=
  (by decide +kernel : ∀ t : Fin grid0.N, win0_0.index t = ![t.val % 2, t.val / 2 % 2])
theorem idx_1 : ∀ t : Fin cfg0.N, win0_1.index t = ![t.val % 2, t.val / 4] :=
  (by decide +kernel : ∀ t : Fin grid0.N, win0_1.index t = ![t.val % 2, t.val / 4])
theorem idx_2 : ∀ t : Fin cfg0.N, win0_2.index t = ![t.val / 4, t.val / 2 % 2, 0] :=
  (by decide +kernel : ∀ t : Fin grid0.N, win0_2.index t = ![t.val / 4, t.val / 2 % 2, 0])

/-- The row, the slab and the slab's row of a point's blocks. -/
def rowAt (h : Fin 2) (r : Fin 4096) : Fin 8192 := ⟨h.val * 4096 + r.val, by omega⟩
def slabAt (t : Fin cfg0.N) : Fin 4 := ⟨t.val / 4, by have := t.isLt; have : cfg0.N = 16 := N_0; omega⟩
def placeAt (t : Fin cfg0.N) (k : Fin 512) : Fin 1024 := ⟨t.val / 2 % 2 * 512 + k.val, by omega⟩

theorem block_0 (t : Fin cfg0.N) (h : Fin 2) (hh : h.val = t.val % 2) (r : Fin 4096) (k : Fin 512) :
    iblk m c 0 t (ix2 r k) = A m c (ix2 (rowAt h r) (placeAt t k)) := by
  blk_simp [iblk]
  rw [V_main_arg0]
  refine congrArg (A m c) ?_
  blk_ext [idx_0, rowAt, placeAt, hh]

theorem block_1 (t : Fin cfg0.N) (h : Fin 2) (hh : h.val = t.val % 2) (r : Fin 4096) (n : Fin 1024) :
    iblk m c 1 t (ix2 r n) = D m c (ix2 (rowAt h r) (wide (slabAt t) n)) := by
  blk_simp [iblk]
  rw [V_main_arg1]
  refine congrArg (D m c) ?_
  blk_ext [idx_1, rowAt, wide, slabAt, hh]

/-- The buffer the call writes into starts as a copy of the third argument. -/
theorem entry_eq : (V m c main_v0 : S4x3328x1024.Idx → EReal) = P m c := by
  unfold V
  rw [StableHlo.after_cons, StableHlo.after_nil, StableHlo.unary_result]
  rfl

/-- What the second point of a block leaves: the products of both halves, which are the product of all rows. -/
theorem held_eq (t : Fin cfg0.N) (ht : t.val % 2 = 1) (k : Fin 512) (n : Fin 1024) :
    held m c t (ix3 0 k n) = dwAt (A m c) (D m c) (slabAt t) (placeAt t k) n := by
  have h0 : (AccBody.prev t).val % 2 = 0 := by show (t.val - 1) % 2 = 0; omega
  have es : slabAt (AccBody.prev t) = slabAt t := Fin.ext (by show (t.val - 1) / 4 = t.val / 4; omega)
  have ep : placeAt (AccBody.prev t) k = placeAt t k :=
    Fin.ext (by show (t.val - 1) / 2 % 2 * 512 + k.val = t.val / 2 % 2 * 512 + k.val; omega)
  refine (AccBody.held_sum (zeroes (F := Ideal)) plus (iblk m c 0) (iblk m c 1) (ix3 0 k n) (fun A D => ∑ r : Fin 4096, A (ix2 r k) * D (ix2 r n))
    (zeroes_apply (ix3 0 k n)) (fun v A D => plus_apply v A D k n) t ht).trans ?_
  unfold dwAt
  rw [Fin.sum_univ_tiles 2 4096 rfl, Fin.sum_univ_two]
  refine congrArg₂ (· + ·) (Finset.sum_congr rfl fun r _ => ?_) (Finset.sum_congr rfl fun r _ => ?_)
  · rw [block_0 m c _ 0 h0.symm, block_1 m c _ 0 h0.symm, es, ep]
    rfl
  · rw [block_0 m c t 1 ht.symm, block_1 m c t 1 ht.symm]
    rfl

/-- The result array. -/
theorem packed_array : (dats m 0 c).arrAt 2 cfg0.N = packedArr (A m c) (D m c) (P m c) := by
  refine ((dats m 0 c).arrAt_eq_of_coversWhere 2 (dwArr (A m c) (D m c))
    (P := fun y : S4x3328x1024.Idx => (y 1).val / 512 < 2) (fun β => β (1 : Fin 3) < 2) (by decide +kernel) (fun t hf y => ?_) (fun j => Iff.rfl)).trans ?_
  · have ht : t.val % 2 = 1 := (flush0_2 t).mp hf
    obtain ⟨a, k, n, hy⟩ : ∃ (a : Fin 1) (k : Fin 512) (n : Fin 1024), (cfg0.win 2).xinj (cfg0.grid.coords t) y = ix3 a k n :=
      ⟨_, _, _, eq_ix3 (n0 := 1) (n1 := 512) (n2 := 1024) _⟩
    have hk : (y 1).val = k.val := congrArg (fun q : S1x512x1024.Idx => (q 1).val) hy
    have hn : (y 2).val = n.val := congrArg (fun q : S1x512x1024.Idx => (q 2).val) hy
    obtain rfl : a = 0 := Subsingleton.elim _ _
    have h0 : (y 0).val = 0 := congrArg (fun q : S1x512x1024.Idx => (q 0).val) hy
    blk_simp
    rw [after_2]
    refine (congrArg (held m c t) hy).trans ((held_eq m c t ht k n).trans ?_)
    have e0 : (((cfg0.win 2).blk t).view.emb y 0).val = t.val / 4 := by
      blk_simp [idx_2]
      exact congrArg (t.val / 4 + ·) h0
    have e1 : (((cfg0.win 2).blk t).view.emb y 1).val = t.val / 2 % 2 * 512 + k.val := by
      blk_simp [idx_2]
      exact congrArg (t.val / 2 % 2 * 512 + ·) hk
    have e2 : (((cfg0.win 2).blk t).view.emb y 2).val = n.val := by
      show win0_2.index t 2 * 1024 + 1 * (y 2).val = n.val
      rw [idx_2, hn]
      show 0 * 1024 + 1 * n.val = n.val
      omega
    generalize ((cfg0.win 2).blk t).view.emb y = z at e0 e1 e2
    have e1 : placeAt t k = narrow (z 1) := Fin.ext (by
      show t.val / 2 % 2 * 512 + k.val = (z 1).val % 1024
      rw [e1]; omega)
    exact congr (congr (congrArg (dwAt (A m c) (D m c)) (Fin.ext e0.symm)) e1) (Fin.ext e2.symm)
  · funext y
    have e : (dats m 0 c).A 2 = P m c := (dats_A m c 2).trans (entry_eq m c)
    unfold packedArr
    rw [e]

/-- The run, its result named. -/
theorem run_named : θ_run defs (onTc (τ := τ) (main (F := Ideal))) ⟨m, fun _ => 0, ρ⟩ fun r => ∀ c : Dev nD,
      r.2.mem ((c : Thread nD τ).loc main_v0) = (dats m 0 c).arrAt 2 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h.1.1 c).1 2, h.2.1 c⟩) (θ_run_and (run m ρ) (arguments_kept m ρ))

end Cert.Kernel12Ideal.Array

namespace Cert.Reference12Ideal.Stages

open Cert.Reference12Ideal Cert.Reference12Ideal.Gen Cert.Reference12Ideal.Read Cert.UpWeight

variable (x0 : (⟨S8192x1024, .bf16⟩ : BufTy).Contents (Elt Ideal)) (x1 : (⟨S8192x4096, .bf16⟩ : BufTy).Contents (Elt Ideal))
  (x2 : (⟨S4x3328x1024, .f32⟩ : BufTy).Contents (Elt Ideal))

theorem product_at (s : Fin 4) (k : Fin 1024) (n : Fin 1024) :
    val_main_v5 (F := Ideal) x0 x1 (ix3 s k n) = dwAt x0 x1 s k n := by
  unfold val_main_v5 val_main_v4 val_main_v3 val_main_v2 val_main_v1 val_main_v0
  pointwise
  unfold dwAt
  refine Finset.sum_congr rfl fun R _ => (mul_comm _ _).trans rfl

theorem packed_result : val_main_v7 (F := Ideal) x0 x1 x2 = packedArr x0 x1 x2 := by
  funext y
  obtain ⟨s, j, n, rfl⟩ : ∃ s j n, y = ix3 s j n := ⟨y 0, y 1, y 2, eq_ix3 y⟩
  unfold val_main_v7 val_main_v6
  generalize hp : val_main_v5 (F := Ideal) x0 x1 = p
  pointwise
  subst hp
  show _ = if j.val / 512 < 2 then dwAt x0 x1 s (narrow j) n else x2 (ix3 s j n)
  by_cases hj : j.val < 1024
  · refine (dif_pos hj).trans ((product_at x0 x1 s _ n).trans ?_)
    rw [if_pos (by omega)]
    exact congrArg (fun i => dwAt x0 x1 s i n) (Fin.ext (Nat.mod_eq_of_lt hj).symm)
  · refine (dif_neg hj).trans ?_
    refine Eq.trans ?_ (if_neg (by omega)).symm
    exact congrArg (fun i => x2 (ix3 s i n)) (Fin.ext (by show 1024 + (j.val - 1024) = j.val; omega))

end Cert.Reference12Ideal.Stages

end
-- ==== Proof.DownRun.lean ====
/-
  The gradient of the down projection's weight, written into its rows of an array laid out as the packed gradients are: the
  call's run, and the slice that takes those rows out. The grid, and what a point adds, are as in the up projection's call.
-/
module

public import proofs.«01_k».proof.Defs
public import proofs.«01_k».proof.Proof.Gen.Kernel13
public import proofs.«01_k».proof.Proof.Gen.Kernel13Ideal.Frame
public import proofs.«01_k».proof.Proof.UpRun
public import Idealize.ShloMosaic.Lib.WritesUnit
public import Idealize.ShloMosaic.Lib.Claim
public import Idealize.ShloMosaic.Lib.Pipeline.ValueKit

@[expose] public section

set_option maxRecDepth 16384

noncomputable section

namespace Cert.Kernel13Ideal.DownRun

open Cert.Kernel13Ideal Cert.Kernel13Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel12Ideal.UpRun (zeroes plus)
open Cert.AccBody (zero2 zero3)
open Idealize.ShloMosaic.Pipeline (Dat Cfg Window BodyObligation)

variable {F : FTy → Type} [FloatOps F]

/-- Whether a point is the first of its block. -/
abbrev first (i : grid0.Coords) : BitVec 1 := Scalar.cmpi .ne (Scalar.extui (Scalar.cmpi .eq (BitVec.ofNat 32 (i 2).val) 0#32)) 0#32

theorem first_iff : ∀ t : Fin cfg0.N, first (grid0.coords t) = 1#1 ↔ t.val % 2 = 0 :=
  (by decide +kernel : ∀ t : Fin grid0.N, first (grid0.coords t) = 1#1 ↔ t.val % 2 = 0)

theorem uncut : ∀ t : Fin cfg0.N, (cfg0.win 2).clipped (cfg0.grid.coords t) = false :=
  (by decide +kernel : ∀ t : Fin grid0.N, win0_2.clipped (grid0.coords t) = false)

/-- The body is the one that accumulates. -/
theorem body_eq (i : grid0.Coords) (a : Memref sig .tc .vmem S4096x512 .bf16) (ha : a.IsWhole)
    (b : Memref sig .tc .vmem S4096x1024 .bf16) (hb : b.IsWhole) (o : Memref sig .tc .vmem S1x512x1024 .f32) (ho : o.IsWhole) :
    cc0_dw_down1 (F := F) i a ha b hb o ho
      = AccBody.body h_S4096x512 h_S4096x1024 h_S1x512x1024 inb_S4096x512_S4096x512_0_0 inb_S4096x1024_S4096x1024_0_0
        inb_S1x512x1024_S1x512x1024_0_0_0 zeroes plus (first i) a b o := rfl

variable (m : (ℓ : Loc nD τ sig) → Buf (Elt F) ℓ) (ρ : Dev nD → PrngReg)

/-- What a point leaves. -/
abbrev held (c : Dev nD) (t : Fin cfg0.N) : Vec F S1x512x1024 .f32 := AccBody.held zeroes plus (iblk m c 0) (iblk m c 1) t

/-- The arrays as the call finds them, the inputs' buffers at their blocks, the output's at what its point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => held m c t
  Φ _ := Pipeline.ΦA spec0 c
  q _ := fullShare
  owed _ := 0

theorem dats_A (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = held m c t := by dsimp only [dats]

theorem before_0 (c : Dev nD) (t : Fin cfg0.N) (d) : (dats m 0 c).before 0 t d = iblk m c 0 t :=
  before0_0_of m (dats m 0 c) (dats_A m c 0) (after_0 m c) t d
theorem before_1 (c : Dev nD) (t : Fin cfg0.N) (d) : (dats m 0 c).before 1 t d = iblk m c 1 t :=
  before0_1_of m (dats m 0 c) (dats_A m c 1) (after_1 m c) t d

/-- The second point of a block finds what the first left. -/
theorem before_2 (c : Dev nD) (t : Fin cfg0.N) (ht : ¬t.val % 2 = 0) (d) : (dats m 0 c).before 2 t d = held m c (AccBody.prev t) :=
  (Cert.Packed.kept_whole (dats m 0 c) 2 rfl t (by omega)
    (Bool.eq_false_iff.mpr fun h => by have := (flush0_2 _).mp h; dsimp only at this; omega) (fun _ => rfl) uncut d).trans (after_2 m c _)

/-- A point takes its buffers as the schedule hands them over, and returns them as `dats` says. -/
theorem body_sound (c : Dev nD) (t : Fin cfg0.N) :
    AccBody.pre c (st0_0 t) (st0_1 t) (st0_2 t) ((dats m 0 c).Φ t.castSucc) ((dats m 0 c).owesAt () t.castSucc)
        ((dats m 0 c).before 0 t) ((dats m 0 c).before 1 t) ((dats m 0 c).before 2 t)
      ⊢ wp frame (wpE (defs₀ (F := F)) Variants.none c none) Set.univ (bodyAt0 t)
        (fun _ => AccBody.post c (st0_0 t) (st0_1 t) (st0_2 t) ((dats m 0 c).Φ t.succ) ((dats m 0 c).owesAt () t.succ)
          ((dats m 0 c).after 0 t) ((dats m 0 c).after 1 t) ((dats m 0 c).after 2 t)) := by
  unfold bodyAt0
  rw [body_eq, funext (before_0 m c t), funext (before_1 m c t), after_0, after_1, after_2]
  exact AccBody.point _ _ _ _ _ _ _ _ zero2 zero2 zero3 defs₀ _ c _ (hstage0_0 _) _ (hstage0_1 _) _ (hstage0_2 _) _ _
    (iblk m c 0) (iblk m c 1) t (first_iff t) _ (before_2 m c t)

theorem body_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (body_sound m c t) rfl .rfl fun _ => .rfl

set_option backward.isDefEq.respectTransparency.types false in
/-- The call's run, with the slice that follows it: the arrays end as the points' write-backs leave them, and every counter is zero. -/
theorem run : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := dats_A m) (hΦ := fun _ _ => rfl) (hQ' := fun _ h => h)

/-- The arguments end as they were. -/
theorem arguments_kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  θ_run_and (frame_of m ρ (dats m) (dats_A m) ((θ_run defs _ _).mono (fun _ h => h.1) (run m ρ)))
    ((θ_run defs _ _).mono (fun _ h => h.2) (run m ρ))

/-- The two programs have the same bodies, -/
theorem same_bodies : Cert.Kernel13.defs₀ (F := Bits) = defs₀ (F := Bits) := by
  unfold Cert.Kernel13.defs₀ defs₀
  refine congrArg Defs.onTc ?_
  funext l _
  match l with
  | 0 => rfl
  | ⟨_ + 1, h⟩ => exact absurd h (Nat.not_lt.2 (Nat.le_add_left _ _))

/-- so the run above is the run of the program on words too. -/
theorem words_kept : Cert.quiescent_Kernel13 (hKernel13 := Cert.Kernel13.Gen.facts) := fun m ρ _ =>
  (congrArg (fun d => θ_run (Pipeline.defs (Cert.Kernel13.pcfgs (F := Bits)) d) (onTc (τ := τ) (main (F := Bits))) ⟨m, fun _ => 0, ρ⟩ _)
    same_bodies).mpr (arguments_kept (F := Bits) m ρ)

end Cert.Kernel13Ideal.DownRun

end
-- ==== Proof.DownWeight.lean ====
/-
  The gradient of the down projection's weight: rows 1024 to 2047 of each of four slabs are the transposed activations,
  the slab's columns, times the cotangents, and the slice takes these rows out. The kernel accumulates each block over two
  halves of the 8192 rows; the reference forms one product.
-/
module

public import proofs.«01_k».proof.Proof.DownRun
public import proofs.«01_k».proof.Proof.UpWeight
public import proofs.«01_k».proof.Proof.Gen.Reference13Ideal.Read
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.DownWeight

open Cert.UpWeight (wide narrow)

/-- The gradient at slab `s`, row `i` and column `n`: activations `A`, cotangents `D`. -/
def dwAt (A : (⟨2, ![8192, 4096]⟩ : Shape).Idx → EReal) (D : (⟨2, ![8192, 1024]⟩ : Shape).Idx → EReal)
    (s : Fin 4) (i : Fin 1024) (n : Fin 1024) : EReal := ∑ R : Fin 8192, A (ix2 R (wide s i)) * D (ix2 R n)

/-- The gradient under every index of the array the call writes into; -/
def dwArr {R : ℕ} (A : (⟨2, ![8192, 4096]⟩ : Shape).Idx → EReal) (D : (⟨2, ![8192, 1024]⟩ : Shape).Idx → EReal) :
    (⟨3, ![4, R, 1024]⟩ : Shape).Idx → EReal := fun y => dwAt A D (y 0) (narrow (y 1)) (y 2)

/-- and the gradient itself, in four slabs. -/
def grad (A : (⟨2, ![8192, 4096]⟩ : Shape).Idx → EReal) (D : (⟨2, ![8192, 1024]⟩ : Shape).Idx → EReal) :
    (⟨3, ![4, 1024, 1024]⟩ : Shape).Idx → EReal := fun y => dwAt A D (y 0) (y 1) (y 2)

end Cert.DownWeight

namespace Cert.Kernel13Ideal.Array

open Cert.Kernel13Ideal Cert.Kernel13Ideal.Gen Cert.Kernel13Ideal.DownRun Cert.DownWeight
open Cert.UpWeight (wide narrow)
open Cert.Kernel12Ideal.UpRun (plus zeroes)
open Cert.Kernel12Ideal.Array (plus_apply zeroes_apply rowAt)

variable (m : (ℓ : Loc nD τ sig) → Buf (Elt Ideal) ℓ) (ρ : Dev nD → PrngReg) (c : Dev nD)

/-- The two arguments. -/
abbrev A : S8192x4096.Idx → EReal := m ((c : Thread nD τ).loc main_arg0)
abbrev D : S8192x1024.Idx → EReal := m ((c : Thread nD τ).loc main_arg1)

theorem idx_0 : ∀ t : Fin cfg0.N, win0_0.index t = ![t.val % 2, t.val / 2] :=
  (by decide +kernel : ∀ t : Fin grid0.N, win0_0.index t = ![t.val % 2, t.val / 2])
theorem idx_1 : ∀ t : Fin cfg0.N, win0_1.index t = ![t.val % 2, 0] :=
  (by decide +kernel : ∀ t : Fin grid0.N, win0_1.index t = ![t.val % 2, 0])
theorem idx_2 : ∀ t : Fin cfg0.N, win0_2.index t = ![t.val / 4, 2 + t.val / 2 % 2, 0] :=
  (by decide +kernel : ∀ t : Fin grid0.N, win0_2.index t = ![t.val / 4, 2 + t.val / 2 % 2, 0])

/-- The slab and the slab's row of a point's blocks. -/
def slabAt (t : Fin cfg0.N) : Fin 4 := ⟨t.val / 4, by have := t.isLt; have : cfg0.N = 16 := N_0; omega⟩
def placeAt (t : Fin cfg0.N) (k : Fin 512) : Fin 1024 := ⟨t.val / 2 % 2 * 512 + k.val, by omega⟩

theorem block_0 (t : Fin cfg0.N) (h : Fin 2) (hh : h.val = t.val % 2) (r : Fin 4096) (k : Fin 512) :
    iblk m c 0 t (ix2 r k) = A m c (ix2 (rowAt h r) (wide (slabAt t) (placeAt t k))) := by
  blk_simp [iblk]
  rw [V_main_arg0]
  refine congrArg (A m c) ?_
  have e : (wide (slabAt t) (placeAt t k)).val = t.val / 2 * 512 + k.val := by
    show t.val / 4 * 1024 + (t.val / 2 % 2 * 512 + k.val) = t.val / 2 * 512 + k.val
    omega
  blk_ext [idx_0, rowAt, e, hh]

theorem block_1 (t : Fin cfg0.N) (h : Fin 2) (hh : h.val = t.val % 2) (r : Fin 4096) (n : Fin 1024) :
    iblk m c 1 t (ix2 r n) = D m c (ix2 (rowAt h r) n) := by
  blk_simp [iblk]
  rw [V_main_arg1]
  refine congrArg (D m c) ?_
  blk_ext [idx_1, rowAt, hh]

/-- What the second point of a block leaves: the products of both halves, which are the product of all rows. -/
theorem held_eq (t : Fin cfg0.N) (ht : t.val % 2 = 1) (k : Fin 512) (n : Fin 1024) :
    held m c t (ix3 0 k n) = dwAt (A m c) (D m c) (slabAt t) (placeAt t k) n := by
  have h0 : (AccBody.prev t).val % 2 = 0 := by show (t.val - 1) % 2 = 0; omega
  have es : slabAt (AccBody.prev t) = slabAt t := Fin.ext (by show (t.val - 1) / 4 = t.val / 4; omega)
  have ep : placeAt (AccBody.prev t) k = placeAt t k :=
    Fin.ext (by show (t.val - 1) / 2 % 2 * 512 + k.val = t.val / 2 % 2 * 512 + k.val; omega)
  refine (AccBody.held_sum (zeroes (F := Ideal)) plus (iblk m c 0) (iblk m c 1) (ix3 0 k n) (fun A D => ∑ r : Fin 4096, A (ix2 r k) * D (ix2 r n))
    (zeroes_apply (ix3 0 k n)) (fun v A D => plus_apply v A D k n) t ht).trans ?_
  unfold dwAt
  rw [Fin.sum_univ_tiles 2 4096 rfl, Fin.sum_univ_two]
  refine congrArg₂ (· + ·) (Finset.sum_congr rfl fun r _ => ?_) (Finset.sum_congr rfl fun r _ => ?_)
  · rw [block_0 m c _ 0 h0.symm, block_1 m c _ 0 h0.symm, es, ep]
    rfl
  · rw [block_0 m c t 1 ht.symm, block_1 m c t 1 ht.symm]
    rfl

/-- The result array. -/
theorem rows_array : (dats m 0 c).arrAt 2 cfg0.N = fun y : S4x3328x1024.Idx => if (y 1).val / 512 < 4 ∧ 2 ≤ (y 1).val / 512 then dwArr (A m c) (D m c) y else (dats m 0 c).A 2 y := by
  refine ((dats m 0 c).arrAt_eq_of_coversWhere 2 (dwArr (A m c) (D m c))
    (P := fun y : S4x3328x1024.Idx => (y 1).val / 512 < 4 ∧ 2 ≤ (y 1).val / 512) (fun β => β (1 : Fin 3) < 4 ∧ 2 ≤ β (1 : Fin 3)) (by decide +kernel) (fun t hf y => ?_) (fun j => Iff.rfl)).trans ?_
  · have ht : t.val % 2 = 1 := (flush0_2 t).mp hf
    obtain ⟨a, k, n, hy⟩ : ∃ (a : Fin 1) (k : Fin 512) (n : Fin 1024), (cfg0.win 2).xinj (cfg0.grid.coords t) y = ix3 a k n :=
      ⟨_, _, _, eq_ix3 (n0 := 1) (n1 := 512) (n2 := 1024) _⟩
    have hk : (y 1).val = k.val := congrArg (fun q : S1x512x1024.Idx => (q 1).val) hy
    have hn : (y 2).val = n.val := congrArg (fun q : S1x512x1024.Idx => (q 2).val) hy
    obtain rfl : a = 0 := Subsingleton.elim _ _
    have h0 : (y 0).val = 0 := congrArg (fun q : S1x512x1024.Idx => (q 0).val) hy
    blk_simp
    rw [after_2]
    refine (congrArg (held m c t) hy).trans ((held_eq m c t ht k n).trans ?_)
    have e0 : (((cfg0.win 2).blk t).view.emb y 0).val = t.val / 4 := by
      blk_simp [idx_2]
      exact congrArg (t.val / 4 + ·) h0
    have e1 : (((cfg0.win 2).blk t).view.emb y 1).val = (2 + t.val / 2 % 2) * 512 + k.val := by
      blk_simp [idx_2]
      exact congrArg ((2 + t.val / 2 % 2) * 512 + ·) hk
    have e2 : (((cfg0.win 2).blk t).view.emb y 2).val = n.val := by
      show win0_2.index t 2 * 1024 + 1 * (y 2).val = n.val
      rw [idx_2, hn]
      show 0 * 1024 + 1 * n.val = n.val
      omega
    generalize ((cfg0.win 2).blk t).view.emb y = z at e0 e1 e2
    have e1 : placeAt t k = narrow (z 1) := Fin.ext (by
      show t.val / 2 % 2 * 512 + k.val = (z 1).val % 1024
      rw [e1]; omega)
    exact congr (congr (congrArg (dwAt (A m c) (D m c)) (Fin.ext e0.symm)) e1) (Fin.ext e2.symm)
  · rfl

/-- What the slice reads. -/
theorem sliced : Pipeline.afterTail₀ cfgs (dats m) 0 (V0 m) [hostOps1] c main_v1
    = extractStridedSlice S4x1024x1024 ![0, 1024, 0] ((dats m 0 c).arrAt 2 cfg0.N) slices_S4x3328x1024_S4x1024x1024_0_1024_0 := by
  unfold Pipeline.afterTail₀
  show StableHlo.after hostOps1 _ _ = _
  rw [StableHlo.after_cons, StableHlo.after_nil, StableHlo.unary_result]
  exact congrArg (extractStridedSlice S4x1024x1024 ![0, 1024, 0] · slices_S4x3328x1024_S4x1024x1024_0_1024_0)
    (Pipeline.withArrays_arr spec0 launch0.win.arr_inj c _ _ 2)

/-- The result. -/
theorem grad_array : Pipeline.afterTail₀ cfgs (dats m) 0 (V0 m) [hostOps1] c main_v1 = grad (A m c) (D m c) := by
  rw [sliced, rows_array]
  funext y
  obtain ⟨s, j, n, rfl⟩ : ∃ s j n, y = ix3 s j n := ⟨y 0, y 1, y 2, eq_ix3 y⟩
  pointwise
  refine (if_pos ⟨by omega, by omega⟩).trans ?_
  exact congrArg (fun i => dwAt (A m c) (D m c) s i n) (Fin.ext (by show (1024 + j.val) % 1024 = j.val; omega))

/-- The run, its result named. -/
theorem run_named : θ_run defs (onTc (τ := τ) (main (F := Ideal))) ⟨m, fun _ => 0, ρ⟩ fun r => ∀ c : Dev nD,
      r.2.mem ((c : Thread nD τ).loc main_v1) = Pipeline.afterTail₀ cfgs (dats m) 0 (V0 m) [hostOps1] c main_v1
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h.1.1 c).2 main_v1 (by decide +kernel), h.2.1 c⟩) (θ_run_and (run m ρ) (arguments_kept m ρ))

end Cert.Kernel13Ideal.Array

namespace Cert.Reference13Ideal.Stages

open Cert.Reference13Ideal Cert.Reference13Ideal.Gen Cert.Reference13Ideal.Read Cert.DownWeight

variable (x0 : (⟨S8192x4096, .bf16⟩ : BufTy).Contents (Elt Ideal)) (x1 : (⟨S8192x1024, .bf16⟩ : BufTy).Contents (Elt Ideal))

theorem grad_result : val_main_v4 (F := Ideal) x0 x1 = grad x0 x1 := by
  funext y
  obtain ⟨s, j, n, rfl⟩ : ∃ s j n, y = ix3 s j n := ⟨y 0, y 1, y 2, eq_ix3 y⟩
  unfold val_main_v4 val_main_v3 val_main_v2 val_main_v1 val_main_v0
  pointwise
  exact Finset.sum_congr rfl fun R _ => (mul_comm _ _).trans rfl

end Cert.Reference13Ideal.Stages

end
-- ==== Proof.MixOut.lean ====
/-
  The mixers' outputs times their projection, added to the residual: the function of the MLP's second half at another width.
-/
module

public import proofs.«01_k».proof.Proof.Gen.Kernel14Ideal.Value
public import proofs.«01_k».proof.Proof.Gen.Reference14Ideal.Read
public import proofs.«01_k».proof.Proof.MlpDown

@[expose] public section

set_option maxRecDepth 16384

noncomputable section

open Idealize.ShloMosaic Idealize.ShloMosaic.TcCoe Idealize.SL.Sem
open Idealize.ShloMosaic.Pipeline (Dat)

namespace Cert.Kernel14Ideal.Array

open Cert.Kernel14Ideal Cert.Kernel14Ideal.Gen Cert.MlpDown

/-- The stored block at an index. -/
theorem pay1_apply (A : Vec Ideal S512x1536 .bf16) (W : Vec Ideal S1x1536x1024 .bf16) (X : Vec Ideal S512x1024 .f32)
    (r : Fin 512) (k : Fin 1024) : k0_pay1 A W X (ix2 r k) = X (ix2 r k) + ∑ j : Fin 1536, A (ix2 r j) * W (ix3 0 j k) := by
  unfold_payloads
  pointwise

variable (m : (ℓ : Loc nD τ sig) → Buf (Elt Ideal) ℓ) (c : Dev nD)

/-- The three arguments. -/
abbrev A : S8192x1536.Idx → EReal := m ((c : Thread nD τ).loc main_arg0)
abbrev W : S1x1536x1024.Idx → EReal := m ((c : Thread nD τ).loc main_arg1)
abbrev X : S8192x1024.Idx → EReal := m ((c : Thread nD τ).loc main_arg2)

theorem idx_0 : ∀ t : Fin cfg0.N, win0_0.index t = ![t.val, 0] := (by decide +kernel : ∀ t : Fin grid0.N, win0_0.index t = ![t.val, 0])
theorem idx_1 : ∀ t : Fin cfg0.N, win0_1.index t = ![0, 0, 0] := (by decide +kernel : ∀ t : Fin grid0.N, win0_1.index t = ![0, 0, 0])
theorem idx_2 : ∀ t : Fin cfg0.N, win0_2.index t = ![t.val, 0] := (by decide +kernel : ∀ t : Fin grid0.N, win0_2.index t = ![t.val, 0])
theorem idx_3 : ∀ t : Fin cfg0.N, win0_3.index t = ![t.val, 0] := (by decide +kernel : ∀ t : Fin grid0.N, win0_3.index t = ![t.val, 0])

/-- Row `r` of block `t`. -/
def rowAt (t : Fin cfg0.N) (r : Fin 512) : Fin 8192 := ⟨t.val * 512 + r.val, by have := t.isLt; have : cfg0.N = 16 := N_0; omega⟩

theorem block_0 (t : Fin cfg0.N) (r : Fin 512) (j : Fin 1536) : iblk m c 0 t (ix2 r j) = A m c (ix2 (rowAt t r) j) := by
  blk_simp [iblk]
  unfold V
  refine congrArg (A m c) ?_
  blk_ext [idx_0, rowAt]

theorem block_1 (t : Fin cfg0.N) : (iblk m c 1 t : S1x1536x1024.Idx → EReal) = W m c := by
  funext y
  blk_simp [iblk]
  unfold V
  refine congrArg (W m c) ?_
  blk_ext [idx_1]

theorem block_2 (t : Fin cfg0.N) (r : Fin 512) (k : Fin 1024) : iblk m c 2 t (ix2 r k) = X m c (ix2 (rowAt t r) k) := by
  blk_simp [iblk]
  unfold V
  refine congrArg (X m c) ?_
  blk_ext [idx_2, rowAt]

theorem hz2 : (![0, 0] : Fin 2 → ℕ) = fun _ => 0 := funext fun a => by fin_cases a <;> rfl
theorem hz3 : (![0, 0, 0] : Fin 3 → ℕ) = fun _ => 0 := funext fun a => by fin_cases a <;> rfl

/-- What point `t` leaves in the result's block. -/
theorem out_3 (t : Fin cfg0.N) (r : Fin 512) (k : Fin 1024) :
    out0_3 (iblk m c 0 t) (iblk m c 1 t) (iblk m c 2 t) (ix2 r k) = downAt (A m c) (W m c) (X m c) (rowAt t r) k := by
  unfold out0_3 r0_0 r0_1 r0_2
  rw [View.canon_cons_unit_zero (S := S512x1024) hz2, View.ld_unit_zero (S := S512x1536) hz2,
    View.ld_unit_zero (S := S1x1536x1024) hz3, View.ld_unit_zero (S := S512x1024) hz2]
  rw [pay1_apply, block_1, block_2]
  unfold downAt
  simp only [block_0]

/-- The result array. -/
theorem out_array : (dats m 0 c).arrAt 3 cfg0.N = downArr (A m c) (W m c) (X m c) := by
  refine (dats m 0 c).arrAt_eq_of_covers 3 _ (by decide +kernel) fun t hf y => ?_
  obtain ⟨r, k, rfl⟩ : ∃ r k, y = ix2 r k := ⟨y 0, y 1, eq_ix2 y⟩
  blk_simp
  rw [after0_3]
  refine (out_3 m c t r k).trans ?_
  show downArr (A m c) (W m c) (X m c) (ix2 (rowAt t r) k) = _
  refine congrArg _ ?_
  blk_ext [idx_3, rowAt]

end Cert.Kernel14Ideal.Array

namespace Cert.Reference14Ideal.Stages

open Cert.Reference14Ideal Cert.Reference14Ideal.Gen Cert.Reference14Ideal.Read Cert.MlpDown

variable (x0 : (⟨S8192x1536, .bf16⟩ : BufTy).Contents (Elt Ideal)) (x1 : (⟨S1x1536x1024, .bf16⟩ : BufTy).Contents (Elt Ideal))
  (x2 : (⟨S8192x1024, .f32⟩ : BufTy).Contents (Elt Ideal))

theorem out_result : val_main_v4 (F := Ideal) x0 x1 x2 = downArr x0 x1 x2 := by
  funext y
  obtain ⟨r, k, rfl⟩ : ∃ r k, y = ix2 r k := ⟨y 0, y 1, eq_ix2 y⟩
  unfold val_main_v4 val_main_v3 val_main_v2 val_main_v1 val_main_v0
  pointwise
  rfl

end Cert.Reference14Ideal.Stages

end
-- ==== Proof.LruGrad.lean ====
/-
  The gradient of a norm's input and of its gain, from the gradient of the recurrent mixer's projected input. The norm's part is
  that of the feed-forward block; the projection has four slabs of 640 columns.
-/
module

public import proofs.«01_k».proof.Proof.Gen.Kernel15Ideal.Value
public import proofs.«01_k».proof.Proof.Gen.Reference15Ideal.Read
public import proofs.«01_k».proof.Proof.SlabGrad
public import proofs.«01_k».proof.Proof.NormGrad
public import proofs.«01_k».proof.Proof.MlpIn

@[expose] public section

set_option maxRecDepth 16384

noncomputable section

open Idealize.ShloMosaic Idealize.ShloMosaic.TcCoe Idealize.SL.Sem
open Idealize.ShloMosaic.Pipeline (Dat)

namespace Cert.Kernel15Ideal.Array

open Cert.Kernel15Ideal Cert.Kernel15Ideal.Gen Cert.SlabGrad Cert.Cols

/-- The number of columns is four times the width of a slab. -/
theorem four : 2560 = 4 * 640 := rfl

/-! ## The stored values at an index -/

section Payloads
variable (A N S : Vec Ideal S512x1024 .f32) (I : FVec Ideal S512x1 .f32) (G : Vec Ideal S1x1024 .f32) (X : Vec Ideal S512x1024 .f32) (r : Fin 512) (k : Fin 1024)

/-- What follows the product is the norm's part of the up projection's call, at the same shapes. -/
theorem pay1_apply : k0_pay1 A I N G S (ix2 r k)
    = I (ix2 r 0) * (A (ix2 r k) * G (ix2 0 k) - N (ix2 r k) * Ideal.div (∑ j, A (ix2 r j) * G (ix2 0 j) * N (ix2 r j)) Norm.width) + S (ix2 r k) :=
  Cert.Kernel3Ideal.Array.pay1_apply A N S I G r k

theorem pay4_apply : k0_pay4 A N G (ix2 0 k) = G (ix2 0 k) + ∑ r, A (ix2 r k) * N (ix2 r k) := Cert.Kernel3Ideal.Array.pay4_apply A N G k

theorem pay6_apply : k0_pay6 X (ix2 r 0) = Norm.inv (fun j => X (ix2 r j)) := Cert.Kernel3Ideal.Array.pay6_apply r X

theorem pay7_apply : k0_pay7 X (ix2 r k) = Norm.normed (fun j => X (ix2 r j)) k := Cert.Kernel3Ideal.Array.pay7_apply r k X

theorem pay3_zero : k0_pay3 (F := Ideal) (ix2 0 k) = 0 := Cert.Kernel3Ideal.Array.pay3_zero k

/-- The four groups of columns and the four slabs, as the body loads them. -/
abbrev cols (D : Vec Ideal S512x2560 .bf16) (o : ℕ) (i : ∀ a, (![0, o] : Fin 2 → ℕ) a + S512x640.size a ≤ S512x2560.size a) : Vec Ideal S512x640 .bf16 := View.ld D (Rect.unit (s := S512x2560) ![0, o] S512x640.size i)
abbrev slabOf (W : Vec Ideal S4x1024x640 .bf16) (o : ℕ) (i : ∀ a, (![o, 0, 0] : Fin 3 → ℕ) a + S1x1024x640.size a ≤ S4x1024x640.size a) : Vec Ideal S1x1024x640 .bf16 := View.ld W (Rect.unit (s := S4x1024x640) ![o, 0, 0] S1x1024x640.size i)

/-- The sum of four products, -/
theorem pay5_apply (D0 D1 D2 D3 : Vec Ideal S512x640 .bf16) (W0 W1 W2 W3 : Vec Ideal S1x1024x640 .bf16) :
    k0_pay5 D0 W0 D1 W1 D2 W2 D3 W3 (ix2 r k) = (∑ j, D0 (ix2 r j) * W0 (ix3 0 k j)) + (∑ j, D1 (ix2 r j) * W1 (ix3 0 k j))
      + (∑ j, D2 (ix2 r j) * W2 (ix3 0 k j)) + (∑ j, D3 (ix2 r j) * W3 (ix3 0 k j)) := by
  unfold k0_pay5
  pointwise

/-- which over the loads is the product with all columns. -/
theorem prod_apply (D : Vec Ideal S512x2560 .bf16) (W : Vec Ideal S4x1024x640 .bf16) (i0 i1 i2 i3 j0 j1 j2 j3) :
    k0_pay5 (F := Ideal) (cols D 0 i0) (slabOf W 0 j0) (cols D 640 i1) (slabOf W 1 j1) (cols D 1280 i2) (slabOf W 2 j2) (cols D 1920 i3) (slabOf W 3 j3) (ix2 r k)
      = prodAt four D W r k :=
  (pay5_apply ..).trans (loads four D W (o1 := 640) (o2 := 1280) (o3 := 1920) rfl rfl rfl i0 i1 i2 i3 j0 j1 j2 j3 r k)

end Payloads

/-! ## What a point leaves -/

section Point
variable (c : Dev nD) (i : grid0.Coords) (a1 : Memref sig .tc .vmem S512x2560 .bf16) (h1 : a1.IsWhole) (a2 : Memref sig .tc .vmem S4x1024x640 .bf16) (h2 : a2.IsWhole)
  (a3 : Memref sig .tc .vmem S512x1024 .f32) (h3 : a3.IsWhole) (a4 : Memref sig .tc .vmem S1x1024 .f32) (h4 : a4.IsWhole)
  (a5 : Memref sig .tc .vmem S512x1024 .f32) (h5 : a5.IsWhole) (a6 : Memref sig .tc .vmem S512x1024 .f32) (h6 : a6.IsWhole)
  (a7 : Memref sig .tc .vmem S512x1024 .bf16) (h7 : a7.IsWhole) (a8 : Memref sig .tc .vmem S1x1024 .f32) (h8 : a8.IsWhole)
  (x0 : Vec Ideal S512x2560 .bf16) (x1 : Vec Ideal S4x1024x640 .bf16) (x2 : Vec Ideal S512x1024 .f32) (x3 : Vec Ideal S1x1024 .f32) (x4 : Vec Ideal S512x1024 .f32)

/-- A row of the block of the input's gradient. -/
def blkGx (r : Fin 512) (k : Fin 1024) : EReal :=
  gxRow (prodAt four x0 x1 r) (fun j => x2 (ix2 r j)) (fun j => x3 (ix2 0 j)) (fun j => x4 (ix2 r j)) k

theorem gx_apply (i0 i1 i2 i3 j0 j1 j2 j3) (r : Fin 512) (k : Fin 1024) :
    k0_pay1 (F := Ideal) (k0_pay5 (cols x0 0 i0) (slabOf x1 0 j0) (cols x0 640 i1) (slabOf x1 1 j1) (cols x0 1280 i2) (slabOf x1 2 j2) (cols x0 1920 i3) (slabOf x1 3 j3))
      (k0_pay6 x2) (k0_pay7 x2) x3 x4 (ix2 r k) = blkGx x0 x1 x2 x3 x4 r k := by
  rw [pay1_apply, pay6_apply]
  simp only [prod_apply, pay7_apply]
  rfl

theorem out_A_5 (hc : cond0_0 i) (r : Fin 512) (k : Fin 1024) :
    out0_A_5 (F := Ideal) c i a1 h1 a2 h2 a3 h3 a4 h4 a5 h5 a6 h6 a7 h7 a8 h8 hc x0 x1 x2 x3 x4 (ix2 r k) = blkGx x0 x1 x2 x3 x4 r k := by
  unfold out0_A_5
  rw [View.read_writes_eq_canon _ _ _ (cover0_A_5 c i a1 h1 a2 h2 a3 h3 a4 h4 a5 h5 a6 h6 a7 h7 a8 h8 hc x0 x1 x2 x3 x4)]
  unfold kernelRun0_A
  dsimp only
  try sl_unfold_words
  rw [View.canon_unit_zero (S := S512x1024) zero2]
  simp only [View.readAt_eq_ld, h1.read_unread, h2.read_unread, h3.read_unread, h4.read_unread, h5.read_unread,
    View.ld_unit_zero (S := S512x1024) zero2, View.ld_unit_zero (S := S1x1024) zero2]
  exact gx_apply x0 x1 x2 x3 x4 _ _ _ _ _ _ _ _ r k

theorem out_A_6 (hc : cond0_0 i) (r : Fin 512) (k : Fin 1024) :
    out0_A_6 (F := Ideal) c i a1 h1 a2 h2 a3 h3 a4 h4 a5 h5 a6 h6 a7 h7 a8 h8 hc x0 x1 x2 x3 x4 (ix2 r k) = blkGx x0 x1 x2 x3 x4 r k := by
  unfold out0_A_6
  rw [View.read_writes_eq_canon _ _ _ (cover0_A_6 c i a1 h1 a2 h2 a3 h3 a4 h4 a5 h5 a6 h6 a7 h7 a8 h8 hc x0 x1 x2 x3 x4)]
  unfold kernelRun0_A
  dsimp only
  try sl_unfold_words
  rw [View.canon_unit_zero (S := S512x1024) zero2]
  simp only [View.readAt_eq_ld, h1.read_unread, h2.read_unread, h3.read_unread, h4.read_unread, h5.read_unread,
    View.ld_unit_zero (S := S512x1024) zero2, View.ld_unit_zero (S := S1x1024) zero2]
  exact gx_apply x0 x1 x2 x3 x4 _ _ _ _ _ _ _ _ r k

theorem out_A_7 (hc : cond0_0 i) (k : Fin 1024) :
    out0_A_7 (F := Ideal) c i a1 h1 a2 h2 a3 h3 a4 h4 a5 h5 a6 h6 a7 h7 a8 h8 hc x0 x1 x2 x3 x4 (ix2 0 k) = ∑ r, prodAt four x0 x1 r k * Norm.normed (fun j => x2 (ix2 r j)) k := by
  unfold out0_A_7
  rw [View.read_writes_eq_canon _ _ _ (cover0_A_7 c i a1 h1 a2 h2 a3 h3 a4 h4 a5 h5 a6 h6 a7 h7 a8 h8 hc x0 x1 x2 x3 x4)]
  unfold kernelRun0_A
  dsimp only
  try sl_unfold_words
  rw [View.canon_cons_unit_zero (S := S1x1024) zero2, View.readCov_unit_zero (S := S1x1024) _ zero2]
  simp only [View.readAt_eq_ld, h1.read_unread, h2.read_unread, h3.read_unread, View.ld_unit_zero (S := S512x1024) zero2]
  refine (pay4_apply ..).trans ?_
  rw [pay3_zero, zero_add]
  simp only [prod_apply, pay7_apply]

theorem out_B_5 (hc : ¬cond0_0 i) (xo : Vec Ideal S1x1024 .f32) (r : Fin 512) (k : Fin 1024) :
    out0_B_5 (F := Ideal) c i a1 h1 a2 h2 a3 h3 a4 h4 a5 h5 a6 h6 a7 h7 a8 h8 hc x0 x1 x2 x3 x4 xo (ix2 r k) = blkGx x0 x1 x2 x3 x4 r k := by
  unfold out0_B_5
  rw [View.read_writes_eq_canon _ _ _ (cover0_B_5 c i a1 h1 a2 h2 a3 h3 a4 h4 a5 h5 a6 h6 a7 h7 a8 h8 hc x0 x1 x2 x3 x4 xo)]
  unfold kernelRun0_B
  dsimp only
  try sl_unfold_words
  rw [View.canon_unit_zero (S := S512x1024) zero2]
  simp only [View.readAt_eq_ld, h1.read_unread, h2.read_unread, h3.read_unread, h4.read_unread, h5.read_unread,
    View.ld_unit_zero (S := S512x1024) zero2, View.ld_unit_zero (S := S1x1024) zero2]
  exact gx_apply x0 x1 x2 x3 x4 _ _ _ _ _ _ _ _ r k

theorem out_B_6 (hc : ¬cond0_0 i) (xo : Vec Ideal S1x1024 .f32) (r : Fin 512) (k : Fin 1024) :
    out0_B_6 (F := Ideal) c i a1 h1 a2 h2 a3 h3 a4 h4 a5 h5 a6 h6 a7 h7 a8 h8 hc x0 x1 x2 x3 x4 xo (ix2 r k) = blkGx x0 x1 x2 x3 x4 r k := by
  unfold out0_B_6
  rw [View.read_writes_eq_canon _ _ _ (cover0_B_6 c i a1 h1 a2 h2 a3 h3 a4 h4 a5 h5 a6 h6 a7 h7 a8 h8 hc x0 x1 x2 x3 x4 xo)]
  unfold kernelRun0_B
  dsimp only
  try sl_unfold_words
  rw [View.canon_unit_zero (S := S512x1024) zero2]
  simp only [View.readAt_eq_ld, h1.read_unread, h2.read_unread, h3.read_unread, h4.read_unread, h5.read_unread,
    View.ld_unit_zero (S := S512x1024) zero2, View.ld_unit_zero (S := S1x1024) zero2]
  exact gx_apply x0 x1 x2 x3 x4 _ _ _ _ _ _ _ _ r k

theorem out_B_7 (hc : ¬cond0_0 i) (xo : Vec Ideal S1x1024 .f32) (k : Fin 1024) :
    out0_B_7 (F := Ideal) c i a1 h1 a2 h2 a3 h3 a4 h4 a5 h5 a6 h6 a7 h7 a8 h8 hc x0 x1 x2 x3 x4 xo (ix2 0 k) = xo (ix2 0 k) + ∑ r, prodAt four x0 x1 r k * Norm.normed (fun j => x2 (ix2 r j)) k := by
  unfold out0_B_7
  rw [View.read_writes_eq_canon _ _ _ (cover0_B_7 c i a1 h1 a2 h2 a3 h3 a4 h4 a5 h5 a6 h6 a7 h7 a8 h8 hc x0 x1 x2 x3 x4 xo)]
  unfold kernelRun0_B
  dsimp only
  try sl_unfold_words
  rw [View.canon_unit_zero (S := S1x1024) zero2]
  simp only [View.readAt_eq_ld, h1.read_unread, h2.read_unread, h3.read_unread, h8.read_unread, View.ld_unit_zero (S := S512x1024) zero2, View.ld_unit_zero (S := S1x1024) zero2]
  refine (pay4_apply ..).trans ?_
  simp only [prod_apply, pay7_apply]

end Point

/-! ## The blocks -/

variable (m : (ℓ : Loc nD τ sig) → Buf (Elt Ideal) ℓ) (c : Dev nD)

/-- The five arguments. -/
abbrev D : S8192x2560.Idx → EReal := m ((c : Thread nD τ).loc main_arg0)
abbrev W : S4x1024x640.Idx → EReal := m ((c : Thread nD τ).loc main_arg1)
abbrev X : S8192x1024.Idx → EReal := m ((c : Thread nD τ).loc main_arg2)
abbrev G : S1024.Idx → EReal := m ((c : Thread nD τ).loc main_arg3)
abbrev S : S8192x1024.Idx → EReal := m ((c : Thread nD τ).loc main_arg4)

theorem idx_0 : ∀ t : Fin cfg0.N, win0_0.index t = ![t.val, 0] := (by decide +kernel : ∀ t : Fin grid0.N, win0_0.index t = ![t.val, 0])
theorem idx_1 : ∀ t : Fin cfg0.N, win0_1.index t = ![0, 0, 0] := (by decide +kernel : ∀ t : Fin grid0.N, win0_1.index t = ![0, 0, 0])
theorem idx_2 : ∀ t : Fin cfg0.N, win0_2.index t = ![t.val, 0] := (by decide +kernel : ∀ t : Fin grid0.N, win0_2.index t = ![t.val, 0])
theorem idx_3 : ∀ t : Fin cfg0.N, win0_3.index t = ![0, 0] := (by decide +kernel : ∀ t : Fin grid0.N, win0_3.index t = ![0, 0])
theorem idx_4 : ∀ t : Fin cfg0.N, win0_4.index t = ![t.val, 0] := (by decide +kernel : ∀ t : Fin grid0.N, win0_4.index t = ![t.val, 0])
theorem idx_5 : ∀ t : Fin cfg0.N, win0_5.index t = ![t.val, 0] := (by decide +kernel : ∀ t : Fin grid0.N, win0_5.index t = ![t.val, 0])
theorem idx_6 : ∀ t : Fin cfg0.N, win0_6.index t = ![t.val, 0] := (by decide +kernel : ∀ t : Fin grid0.N, win0_6.index t = ![t.val, 0])
theorem idx_7 : ∀ t : Fin cfg0.N, win0_7.index t = ![0, 0] := (by decide +kernel : ∀ t : Fin grid0.N, win0_7.index t = ![0, 0])

/-- Row `r` of block `t`. -/
def rowAt (t : Fin cfg0.N) (r : Fin 512) : Fin 8192 := ⟨t.val * 512 + r.val, by have := t.isLt; have : cfg0.N = 16 := N_0; omega⟩

/-- The gain as the call reads it: the host lays it out as one row. -/
theorem gain_row (k : Fin 1024) : V m c main_v0 (ix2 0 k) = G m c (ix1 k) := by
  unfold V
  rw [StableHlo.after_cons, StableHlo.after_nil, StableHlo.reshape_result]
  pointwise

theorem block_0 (t : Fin cfg0.N) (r : Fin 512) (d : Fin 2560) : iblk m c 0 t (ix2 r d) = D m c (ix2 (rowAt t r) d) := by
  blk_simp [iblk]
  rw [V_main_arg0]
  refine congrArg (D m c) ?_
  blk_ext [idx_0, rowAt]

theorem block_1 (t : Fin cfg0.N) : (iblk m c 1 t : S4x1024x640.Idx → EReal) = W m c := by
  funext y
  blk_simp [iblk]
  rw [V_main_arg1]
  refine congrArg (W m c) ?_
  blk_ext [idx_1]

theorem block_2 (t : Fin cfg0.N) (r : Fin 512) (k : Fin 1024) : iblk m c 2 t (ix2 r k) = X m c (ix2 (rowAt t r) k) := by
  blk_simp [iblk]
  rw [V_main_arg2]
  refine congrArg (X m c) ?_
  blk_ext [idx_2, rowAt]

theorem block_3 (t : Fin cfg0.N) (k : Fin 1024) : iblk m c 3 t (ix2 0 k) = G m c (ix1 k) := by
  blk_simp [iblk]
  refine Eq.trans (congrArg (V m c main_v0) ?_) (gain_row m c k)
  blk_ext [idx_3]

theorem block_4 (t : Fin cfg0.N) (r : Fin 512) (k : Fin 1024) : iblk m c 4 t (ix2 r k) = S m c (ix2 (rowAt t r) k) := by
  blk_simp [iblk]
  rw [V_main_arg4]
  refine congrArg (S m c) ?_
  blk_ext [idx_4, rowAt]

theorem outs_5 (t : Fin cfg0.N) (r : Fin 512) (k : Fin 1024) :
    (outsAt0 m c t.val t.isLt).1 (ix2 r k) = gxArr four (D m c) (W m c) (X m c) (G m c) (S m c) (ix2 (rowAt t r) k) := by
  rw [← block_gx four (rowAt t) (block_0 m c t) (block_1 m c t) (block_2 m c t) (block_3 m c t) (block_4 m c t) r k]
  by_cases h0 : t.val % 16 = 0
  · rw [outsAt0_A m c t h0]
    dsimp only
    exact out_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) ((hcond0_0 t).mpr h0) r k
  · rw [outsAt0_B m c t h0]
    dsimp only
    exact out_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (fun h => h0 ((hcond0_0 t).mp h)) (outsAt0 m c (t.val - 1) (Nat.lt_of_le_of_lt (Nat.sub_le _ _) t.isLt)).2.2 r k

theorem outs_6 (t : Fin cfg0.N) (r : Fin 512) (k : Fin 1024) :
    (outsAt0 m c t.val t.isLt).2.1 (ix2 r k) = gxArr four (D m c) (W m c) (X m c) (G m c) (S m c) (ix2 (rowAt t r) k) := by
  rw [← block_gx four (rowAt t) (block_0 m c t) (block_1 m c t) (block_2 m c t) (block_3 m c t) (block_4 m c t) r k]
  by_cases h0 : t.val % 16 = 0
  · rw [outsAt0_A m c t h0]
    dsimp only
    exact out_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) ((hcond0_0 t).mpr h0) r k
  · rw [outsAt0_B m c t h0]
    dsimp only
    exact out_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (fun h => h0 ((hcond0_0 t).mp h)) (outsAt0 m c (t.val - 1) (Nat.lt_of_le_of_lt (Nat.sub_le _ _) t.isLt)).2.2 r k

theorem outs_7 (t : Fin cfg0.N) (ht : t.val + 1 = cfg0.N) (k : Fin 1024) :
    (outsAt0 m c t.val t.isLt).2.2 (ix2 0 k) = ggArr four (D m c) (W m c) (X m c) (ix2 0 k) := by
  have e := Pipeline.eq_sum_fin_of_reset_step_apply_last (fun n hn (_ : Unit) => ((outsAt0 m c n hn).2.2 (ix2 0 k) : EReal)) 16 (fun _ => 0)
    (fun t _ => ∑ r, prodAt four (D m c) (W m c) (rowAt t r) k * Norm.normed (fun j => X m c (ix2 (rowAt t r) j)) k)
    (fun t h0 _ => by
      rw [outsAt0_A m c t h0, zero_add]
      dsimp only
      refine (out_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) ((hcond0_0 t).mpr h0) k).trans (block_gg four (rowAt t) (block_0 m c t) (block_1 m c t) (block_2 m c t) k))
    (fun t h0 _ => by
      rw [outsAt0_B m c t h0]
      dsimp only
      refine (out_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (fun h => h0 ((hcond0_0 t).mp h)) (outsAt0 m c (t.val - 1) (Nat.lt_of_le_of_lt (Nat.sub_le _ _) t.isLt)).2.2 k).trans (congrArg (_ + ·) (block_gg four (rowAt t) (block_0 m c t) (block_1 m c t) (block_2 m c t) k)))
    (by decide) t ht ()
  refine e.trans ((zero_add _).trans ?_)
  exact sum_rows N_0 rowAt (fun _ _ => rfl) fun R => prodAt four (D m c) (W m c) R k * Norm.normed (fun j => X m c (ix2 R j)) k

/-! ## The arrays -/

theorem gx_array : (dats m 0 c).arrAt 5 cfg0.N = gxArr four (D m c) (W m c) (X m c) (G m c) (S m c) := by
  refine (dats m 0 c).arrAt_eq_of_covers 5 _ (by decide +kernel) fun t hf y => ?_
  obtain ⟨r, k, rfl⟩ : ∃ r k, y = ix2 r k := ⟨y 0, y 1, eq_ix2 y⟩
  blk_simp
  rw [after0_5]
  refine (outs_5 m c t r k).trans ?_
  show gxArr four (D m c) (W m c) (X m c) (G m c) (S m c) (ix2 (rowAt t r) k) = _
  refine congrArg _ ?_
  blk_ext [idx_5, rowAt]

theorem gx16_array : (dats m 0 c).arrAt 6 cfg0.N = gxArr four (D m c) (W m c) (X m c) (G m c) (S m c) := by
  refine (dats m 0 c).arrAt_eq_of_covers 6 _ (by decide +kernel) fun t hf y => ?_
  obtain ⟨r, k, rfl⟩ : ∃ r k, y = ix2 r k := ⟨y 0, y 1, eq_ix2 y⟩
  blk_simp
  rw [after0_6]
  refine (outs_6 m c t r k).trans ?_
  show gxArr four (D m c) (W m c) (X m c) (G m c) (S m c) (ix2 (rowAt t r) k) = _
  refine congrArg _ ?_
  blk_ext [idx_6, rowAt]

theorem gg_array : (dats m 0 c).arrAt 7 cfg0.N = ggArr four (D m c) (W m c) (X m c) := by
  refine (dats m 0 c).arrAt_eq_of_covers 7 _ (by decide +kernel) fun t hf y => ?_
  have ht : t.val + 1 = cfg0.N := by
    have h := (flush0_7 t).mp hf
    have := t.isLt
    have : cfg0.N = 16 := N_0
    omega
  obtain ⟨a, k, rfl⟩ : ∃ a k, y = ix2 a k := ⟨y 0, y 1, eq_ix2 y⟩
  obtain rfl : a = 0 := Subsingleton.elim _ _
  blk_simp
  rw [after0_7]
  refine (outs_7 m c t ht k).trans ?_
  show ggArr four (D m c) (W m c) (X m c) (ix2 0 k) = _
  refine congrArg _ ?_
  blk_ext [idx_7]

end Cert.Kernel15Ideal.Array

namespace Cert.Reference15Ideal.Stages

open Cert.Reference15Ideal Cert.Reference15Ideal.Gen Cert.Reference15Ideal.Read Cert.SlabGrad Cert.Kernel15Ideal.Array

variable (x0 : (⟨S8192x2560, .bf16⟩ : BufTy).Contents (Elt Ideal)) (x1 : (⟨S4x1024x640, .bf16⟩ : BufTy).Contents (Elt Ideal))
  (x2 : (⟨S8192x1024, .f32⟩ : BufTy).Contents (Elt Ideal)) (x3 : (⟨S1024, .f32⟩ : BufTy).Contents (Elt Ideal))
  (x4 : (⟨S8192x1024, .f32⟩ : BufTy).Contents (Elt Ideal))

theorem weight_at (k : Fin 1024) (s : Fin 4) (n : Fin 640) : val_main_v2 (F := Ideal) x1 (ix2 k (col four s n)) = x1 (ix3 s k n) := by
  rw [val_main_v2_apply, val_main_v1_apply]
  refine congrArg x1 (funext fun a => Fin.ext ?_)
  match a with
  | ⟨0, _⟩ => show (k.val * 2560 + (s.val * 640 + n.val)) / 640 % 4 = s.val; omega
  | ⟨1, _⟩ => show (k.val * 2560 + (s.val * 640 + n.val)) / 2560 = k.val; omega
  | ⟨2, _⟩ => show (k.val * 2560 + (s.val * 640 + n.val)) % 640 = n.val; omega

theorem prod_at (r : Fin 8192) (k : Fin 1024) : val_main_v21 (F := Ideal) x0 x1 (ix2 r k) = prodAt four x0 x1 r k := by
  have e : val_main_v21 (F := Ideal) x0 x1 (ix2 r k) = ∑ j : Fin 2560, x0 (ix2 r j) * val_main_v2 (F := Ideal) x1 (ix2 k j) := by
    unfold val_main_v21 val_main_v20
    generalize val_main_v2 (F := Ideal) x1 = p
    pointwise
  rw [e, sum_cols four]
  simp only [weight_at]
  rfl

theorem gx_result : val_main_v42 (F := Ideal) x0 x1 x2 x3 x4 = gxArr four x0 x1 x2 x3 x4 :=
  Cert.NormGrad.gx_slabs (val_main_v21 (F := Ideal) x0 x1) x2 x4 x3 four x0 x1 (prod_at x0 x1)

theorem gx16_result : val_main_v43 (F := Ideal) x0 x1 x2 x3 x4 = gxArr four x0 x1 x2 x3 x4 := gx_result x0 x1 x2 x3 x4

theorem gg_result : val_main_v44 (F := Ideal) x0 x1 x2 = ggArr four x0 x1 x2 :=
  Cert.NormGrad.gg_slabs (val_main_v21 (F := Ideal) x0 x1) x2 four x0 x1 (prod_at x0 x1)

end Cert.Reference15Ideal.Stages

end
-- ==== Proof.AttnGrad.lean ====
/-
  The gradient of a norm's input and of its gain, from the gradient of the window attention's projected input: the input is the
  step's own, so this is the gradient that the step returns. The projection has four slabs of 512 columns.
-/
module

public import proofs.«01_k».proof.Proof.Gen.Kernel16Ideal.Value
public import proofs.«01_k».proof.Proof.Gen.Reference16Ideal.Read
public import proofs.«01_k».proof.Proof.SlabGrad
public import proofs.«01_k».proof.Proof.NormGrad
public import proofs.«01_k».proof.Proof.MlpIn

@[expose] public section

set_option maxRecDepth 16384

noncomputable section

open Idealize.ShloMosaic Idealize.ShloMosaic.TcCoe Idealize.SL.Sem
open Idealize.ShloMosaic.Pipeline (Dat)

namespace Cert.Kernel16Ideal.Array

open Cert.Kernel16Ideal Cert.Kernel16Ideal.Gen Cert.SlabGrad Cert.Cols

/-- The number of columns is four times the width of a slab. -/
theorem four : 2048 = 4 * 512 := rfl

/-! ## The stored values at an index -/

section Payloads
variable (A N S : Vec Ideal S512x1024 .f32) (I : FVec Ideal S512x1 .f32) (G : Vec Ideal S1x1024 .f32) (X : Vec Ideal S512x1024 .f32) (r : Fin 512) (k : Fin 1024)

/-- What follows the product is the norm's part of the up projection's call, at the same shapes. -/
theorem pay1_apply : k0_pay1 A I N G S (ix2 r k)
    = I (ix2 r 0) * (A (ix2 r k) * G (ix2 0 k) - N (ix2 r k) * Ideal.div (∑ j, A (ix2 r j) * G (ix2 0 j) * N (ix2 r j)) Norm.width) + S (ix2 r k) :=
  Cert.Kernel3Ideal.Array.pay1_apply A N S I G r k

theorem pay4_apply : k0_pay4 A N G (ix2 0 k) = G (ix2 0 k) + ∑ r, A (ix2 r k) * N (ix2 r k) := Cert.Kernel3Ideal.Array.pay4_apply A N G k

theorem pay6_apply : k0_pay6 X (ix2 r 0) = Norm.inv (fun j => X (ix2 r j)) := Cert.Kernel3Ideal.Array.pay6_apply r X

theorem pay7_apply : k0_pay7 X (ix2 r k) = Norm.normed (fun j => X (ix2 r j)) k := Cert.Kernel3Ideal.Array.pay7_apply r k X

theorem pay3_zero : k0_pay3 (F := Ideal) (ix2 0 k) = 0 := Cert.Kernel3Ideal.Array.pay3_zero k

/-- The four groups of columns and the four slabs, as the body loads them. -/
abbrev cols (D : Vec Ideal S512x2048 .bf16) (o : ℕ) (i : ∀ a, (![0, o] : Fin 2 → ℕ) a + S512x512.size a ≤ S512x2048.size a) : Vec Ideal S512x512 .bf16 := View.ld D (Rect.unit (s := S512x2048) ![0, o] S512x512.size i)
abbrev slabOf (W : Vec Ideal S4x1024x512 .bf16) (o : ℕ) (i : ∀ a, (![o, 0, 0] : Fin 3 → ℕ) a + S1x1024x512.size a ≤ S4x1024x512.size a) : Vec Ideal S1x1024x512 .bf16 := View.ld W (Rect.unit (s := S4x1024x512) ![o, 0, 0] S1x1024x512.size i)

/-- The sum of four products, -/
theorem pay5_apply (D0 D1 D2 D3 : Vec Ideal S512x512 .bf16) (W0 W1 W2 W3 : Vec Ideal S1x1024x512 .bf16) :
    k0_pay5 D0 W0 D1 W1 D2 W2 D3 W3 (ix2 r k) = (∑ j, D0 (ix2 r j) * W0 (ix3 0 k j)) + (∑ j, D1 (ix2 r j) * W1 (ix3 0 k j))
      + (∑ j, D2 (ix2 r j) * W2 (ix3 0 k j)) + (∑ j, D3 (ix2 r j) * W3 (ix3 0 k j)) := by
  unfold k0_pay5
  pointwise

/-- which over the loads is the product with all columns. -/
theorem prod_apply (D : Vec Ideal S512x2048 .bf16) (W : Vec Ideal S4x1024x512 .bf16) (i0 i1 i2 i3 j0 j1 j2 j3) :
    k0_pay5 (F := Ideal) (cols D 0 i0) (slabOf W 0 j0) (cols D 512 i1) (slabOf W 1 j1) (cols D 1024 i2) (slabOf W 2 j2) (cols D 1536 i3) (slabOf W 3 j3) (ix2 r k)
      = prodAt four D W r k :=
  (pay5_apply ..).trans (loads four D W (o1 := 512) (o2 := 1024) (o3 := 1536) rfl rfl rfl i0 i1 i2 i3 j0 j1 j2 j3 r k)

end Payloads

/-! ## What a point leaves -/

section Point
variable (c : Dev nD) (i : grid0.Coords) (a1 : Memref sig .tc .vmem S512x2048 .bf16) (h1 : a1.IsWhole) (a2 : Memref sig .tc .vmem S4x1024x512 .bf16) (h2 : a2.IsWhole)
  (a3 : Memref sig .tc .vmem S512x1024 .f32) (h3 : a3.IsWhole) (a4 : Memref sig .tc .vmem S1x1024 .f32) (h4 : a4.IsWhole)
  (a5 : Memref sig .tc .vmem S512x1024 .f32) (h5 : a5.IsWhole) (a6 : Memref sig .tc .vmem S512x1024 .f32) (h6 : a6.IsWhole)
  (a7 : Memref sig .tc .vmem S512x1024 .bf16) (h7 : a7.IsWhole) (a8 : Memref sig .tc .vmem S1x1024 .f32) (h8 : a8.IsWhole)
  (x0 : Vec Ideal S512x2048 .bf16) (x1 : Vec Ideal S4x1024x512 .bf16) (x2 : Vec Ideal S512x1024 .f32) (x3 : Vec Ideal S1x1024 .f32) (x4 : Vec Ideal S512x1024 .f32)

/-- A row of the block of the input's gradient. -/
def blkGx (r : Fin 512) (k : Fin 1024) : EReal :=
  gxRow (prodAt four x0 x1 r) (fun j => x2 (ix2 r j)) (fun j => x3 (ix2 0 j)) (fun j => x4 (ix2 r j)) k

theorem gx_apply (i0 i1 i2 i3 j0 j1 j2 j3) (r : Fin 512) (k : Fin 1024) :
    k0_pay1 (F := Ideal) (k0_pay5 (cols x0 0 i0) (slabOf x1 0 j0) (cols x0 512 i1) (slabOf x1 1 j1) (cols x0 1024 i2) (slabOf x1 2 j2) (cols x0 1536 i3) (slabOf x1 3 j3))
      (k0_pay6 x2) (k0_pay7 x2) x3 x4 (ix2 r k) = blkGx x0 x1 x2 x3 x4 r k := by
  rw [pay1_apply, pay6_apply]
  simp only [prod_apply, pay7_apply]
  rfl

theorem out_A_5 (hc : cond0_0 i) (r : Fin 512) (k : Fin 1024) :
    out0_A_5 (F := Ideal) c i a1 h1 a2 h2 a3 h3 a4 h4 a5 h5 a6 h6 a7 h7 a8 h8 hc x0 x1 x2 x3 x4 (ix2 r k) = blkGx x0 x1 x2 x3 x4 r k := by
  unfold out0_A_5
  rw [View.read_writes_eq_canon _ _ _ (cover0_A_5 c i a1 h1 a2 h2 a3 h3 a4 h4 a5 h5 a6 h6 a7 h7 a8 h8 hc x0 x1 x2 x3 x4)]
  unfold kernelRun0_A
  dsimp only
  try sl_unfold_words
  rw [View.canon_unit_zero (S := S512x1024) zero2]
  simp only [View.readAt_eq_ld, h1.read_unread, h2.read_unread, h3.read_unread, h4.read_unread, h5.read_unread,
    View.ld_unit_zero (S := S512x1024) zero2, View.ld_unit_zero (S := S1x1024) zero2]
  exact gx_apply x0 x1 x2 x3 x4 _ _ _ _ _ _ _ _ r k

theorem out_A_6 (hc : cond0_0 i) (r : Fin 512) (k : Fin 1024) :
    out0_A_6 (F := Ideal) c i a1 h1 a2 h2 a3 h3 a4 h4 a5 h5 a6 h6 a7 h7 a8 h8 hc x0 x1 x2 x3 x4 (ix2 r k) = blkGx x0 x1 x2 x3 x4 r k := by
  unfold out0_A_6
  rw [View.read_writes_eq_canon _ _ _ (cover0_A_6 c i a1 h1 a2 h2 a3 h3 a4 h4 a5 h5 a6 h6 a7 h7 a8 h8 hc x0 x1 x2 x3 x4)]
  unfold kernelRun0_A
  dsimp only
  try sl_unfold_words
  rw [View.canon_unit_zero (S := S512x1024) zero2]
  simp only [View.readAt_eq_ld, h1.read_unread, h2.read_unread, h3.read_unread, h4.read_unread, h5.read_unread,
    View.ld_unit_zero (S := S512x1024) zero2, View.ld_unit_zero (S := S1x1024) zero2]
  exact gx_apply x0 x1 x2 x3 x4 _ _ _ _ _ _ _ _ r k

theorem out_A_7 (hc : cond0_0 i) (k : Fin 1024) :
    out0_A_7 (F := Ideal) c i a1 h1 a2 h2 a3 h3 a4 h4 a5 h5 a6 h6 a7 h7 a8 h8 hc x0 x1 x2 x3 x4 (ix2 0 k) = ∑ r, prodAt four x0 x1 r k * Norm.normed (fun j => x2 (ix2 r j)) k := by
  unfold out0_A_7
  rw [View.read_writes_eq_canon _ _ _ (cover0_A_7 c i a1 h1 a2 h2 a3 h3 a4 h4 a5 h5 a6 h6 a7 h7 a8 h8 hc x0 x1 x2 x3 x4)]
  unfold kernelRun0_A
  dsimp only
  try sl_unfold_words
  rw [View.canon_cons_unit_zero (S := S1x1024) zero2, View.readCov_unit_zero (S := S1x1024) _ zero2]
  simp only [View.readAt_eq_ld, h1.read_unread, h2.read_unread, h3.read_unread, View.ld_unit_zero (S := S512x1024) zero2]
  refine (pay4_apply ..).trans ?_
  rw [pay3_zero, zero_add]
  simp only [prod_apply, pay7_apply]

theorem out_B_5 (hc : ¬cond0_0 i) (xo : Vec Ideal S1x1024 .f32) (r : Fin 512) (k : Fin 1024) :
    out0_B_5 (F := Ideal) c i a1 h1 a2 h2 a3 h3 a4 h4 a5 h5 a6 h6 a7 h7 a8 h8 hc x0 x1 x2 x3 x4 xo (ix2 r k) = blkGx x0 x1 x2 x3 x4 r k := by
  unfold out0_B_5
  rw [View.read_writes_eq_canon _ _ _ (cover0_B_5 c i a1 h1 a2 h2 a3 h3 a4 h4 a5 h5 a6 h6 a7 h7 a8 h8 hc x0 x1 x2 x3 x4 xo)]
  unfold kernelRun0_B
  dsimp only
  try sl_unfold_words
  rw [View.canon_unit_zero (S := S512x1024) zero2]
  simp only [View.readAt_eq_ld, h1.read_unread, h2.read_unread, h3.read_unread, h4.read_unread, h5.read_unread,
    View.ld_unit_zero (S := S512x1024) zero2, View.ld_unit_zero (S := S1x1024) zero2]
  exact gx_apply x0 x1 x2 x3 x4 _ _ _ _ _ _ _ _ r k

theorem out_B_6 (hc : ¬cond0_0 i) (xo : Vec Ideal S1x1024 .f32) (r : Fin 512) (k : Fin 1024) :
    out0_B_6 (F := Ideal) c i a1 h1 a2 h2 a3 h3 a4 h4 a5 h5 a6 h6 a7 h7 a8 h8 hc x0 x1 x2 x3 x4 xo (ix2 r k) = blkGx x0 x1 x2 x3 x4 r k := by
  unfold out0_B_6
  rw [View.read_writes_eq_canon _ _ _ (cover0_B_6 c i a1 h1 a2 h2 a3 h3 a4 h4 a5 h5 a6 h6 a7 h7 a8 h8 hc x0 x1 x2 x3 x4 xo)]
  unfold kernelRun0_B
  dsimp only
  try sl_unfold_words
  rw [View.canon_unit_zero (S := S512x1024) zero2]
  simp only [View.readAt_eq_ld, h1.read_unread, h2.read_unread, h3.read_unread, h4.read_unread, h5.read_unread,
    View.ld_unit_zero (S := S512x1024) zero2, View.ld_unit_zero (S := S1x1024) zero2]
  exact gx_apply x0 x1 x2 x3 x4 _ _ _ _ _ _ _ _ r k

theorem out_B_7 (hc : ¬cond0_0 i) (xo : Vec Ideal S1x1024 .f32) (k : Fin 1024) :
    out0_B_7 (F := Ideal) c i a1 h1 a2 h2 a3 h3 a4 h4 a5 h5 a6 h6 a7 h7 a8 h8 hc x0 x1 x2 x3 x4 xo (ix2 0 k) = xo (ix2 0 k) + ∑ r, prodAt four x0 x1 r k * Norm.normed (fun j => x2 (ix2 r j)) k := by
  unfold out0_B_7
  rw [View.read_writes_eq_canon _ _ _ (cover0_B_7 c i a1 h1 a2 h2 a3 h3 a4 h4 a5 h5 a6 h6 a7 h7 a8 h8 hc x0 x1 x2 x3 x4 xo)]
  unfold kernelRun0_B
  dsimp only
  try sl_unfold_words
  rw [View.canon_unit_zero (S := S1x1024) zero2]
  simp only [View.readAt_eq_ld, h1.read_unread, h2.read_unread, h3.read_unread, h8.read_unread, View.ld_unit_zero (S := S512x1024) zero2, View.ld_unit_zero (S := S1x1024) zero2]
  refine (pay4_apply ..).trans ?_
  simp only [prod_apply, pay7_apply]

end Point

/-! ## The blocks -/

variable (m : (ℓ : Loc nD τ sig) → Buf (Elt Ideal) ℓ) (c : Dev nD)

/-- The five arguments. -/
abbrev D : S8192x2048.Idx → EReal := m ((c : Thread nD τ).loc main_arg0)
abbrev W : S4x1024x512.Idx → EReal := m ((c : Thread nD τ).loc main_arg1)
abbrev X : S8192x1024.Idx → EReal := m ((c : Thread nD τ).loc main_arg2)
abbrev G : S1024.Idx → EReal := m ((c : Thread nD τ).loc main_arg3)
abbrev S : S8192x1024.Idx → EReal := m ((c : Thread nD τ).loc main_arg4)

theorem idx_0 : ∀ t : Fin cfg0.N, win0_0.index t = ![t.val, 0] := (by decide +kernel : ∀ t : Fin grid0.N, win0_0.index t = ![t.val, 0])
theorem idx_1 : ∀ t : Fin cfg0.N, win0_1.index t = ![0, 0, 0] := (by decide +kernel : ∀ t : Fin grid0.N, win0_1.index t = ![0, 0, 0])
theorem idx_2 : ∀ t : Fin cfg0.N, win0_2.index t = ![t.val, 0] := (by decide +kernel : ∀ t : Fin grid0.N, win0_2.index t = ![t.val, 0])
theorem idx_3 : ∀ t : Fin cfg0.N, win0_3.index t = ![0, 0] := (by decide +kernel : ∀ t : Fin grid0.N, win0_3.index t = ![0, 0])
theorem idx_4 : ∀ t : Fin cfg0.N, win0_4.index t = ![t.val, 0] := (by decide +kernel : ∀ t : Fin grid0.N, win0_4.index t = ![t.val, 0])
theorem idx_5 : ∀ t : Fin cfg0.N, win0_5.index t = ![t.val, 0] := (by decide +kernel : ∀ t : Fin grid0.N, win0_5.index t = ![t.val, 0])
theorem idx_6 : ∀ t : Fin cfg0.N, win0_6.index t = ![t.val, 0] := (by decide +kernel : ∀ t : Fin grid0.N, win0_6.index t = ![t.val, 0])
theorem idx_7 : ∀ t : Fin cfg0.N, win0_7.index t = ![0, 0] := (by decide +kernel : ∀ t : Fin grid0.N, win0_7.index t = ![0, 0])

/-- Row `r` of block `t`. -/
def rowAt (t : Fin cfg0.N) (r : Fin 512) : Fin 8192 := ⟨t.val * 512 + r.val, by have := t.isLt; have : cfg0.N = 16 := N_0; omega⟩

/-- The gain as the call reads it: the host lays it out as one row. -/
theorem gain_row (k : Fin 1024) : V m c main_v0 (ix2 0 k) = G m c (ix1 k) := by
  unfold V
  rw [StableHlo.after_cons, StableHlo.after_nil, StableHlo.reshape_result]
  pointwise

theorem block_0 (t : Fin cfg0.N) (r : Fin 512) (d : Fin 2048) : iblk m c 0 t (ix2 r d) = D m c (ix2 (rowAt t r) d) := by
  blk_simp [iblk]
  rw [V_main_arg0]
  refine congrArg (D m c) ?_
  blk_ext [idx_0, rowAt]

theorem block_1 (t : Fin cfg0.N) : (iblk m c 1 t : S4x1024x512.Idx → EReal) = W m c := by
  funext y
  blk_simp [iblk]
  rw [V_main_arg1]
  refine congrArg (W m c) ?_
  blk_ext [idx_1]

theorem block_2 (t : Fin cfg0.N) (r : Fin 512) (k : Fin 1024) : iblk m c 2 t (ix2 r k) = X m c (ix2 (rowAt t r) k) := by
  blk_simp [iblk]
  rw [V_main_arg2]
  refine congrArg (X m c) ?_
  blk_ext [idx_2, rowAt]

theorem block_3 (t : Fin cfg0.N) (k : Fin 1024) : iblk m c 3 t (ix2 0 k) = G m c (ix1 k) := by
  blk_simp [iblk]
  refine Eq.trans (congrArg (V m c main_v0) ?_) (gain_row m c k)
  blk_ext [idx_3]

theorem block_4 (t : Fin cfg0.N) (r : Fin 512) (k : Fin 1024) : iblk m c 4 t (ix2 r k) = S m c (ix2 (rowAt t r) k) := by
  blk_simp [iblk]
  rw [V_main_arg4]
  refine congrArg (S m c) ?_
  blk_ext [idx_4, rowAt]

theorem outs_5 (t : Fin cfg0.N) (r : Fin 512) (k : Fin 1024) :
    (outsAt0 m c t.val t.isLt).1 (ix2 r k) = gxArr four (D m c) (W m c) (X m c) (G m c) (S m c) (ix2 (rowAt t r) k) := by
  rw [← block_gx four (rowAt t) (block_0 m c t) (block_1 m c t) (block_2 m c t) (block_3 m c t) (block_4 m c t) r k]
  by_cases h0 : t.val % 16 = 0
  · rw [outsAt0_A m c t h0]
    dsimp only
    exact out_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) ((hcond0_0 t).mpr h0) r k
  · rw [outsAt0_B m c t h0]
    dsimp only
    exact out_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (fun h => h0 ((hcond0_0 t).mp h)) (outsAt0 m c (t.val - 1) (Nat.lt_of_le_of_lt (Nat.sub_le _ _) t.isLt)).2.2 r k

theorem outs_6 (t : Fin cfg0.N) (r : Fin 512) (k : Fin 1024) :
    (outsAt0 m c t.val t.isLt).2.1 (ix2 r k) = gxArr four (D m c) (W m c) (X m c) (G m c) (S m c) (ix2 (rowAt t r) k) := by
  rw [← block_gx four (rowAt t) (block_0 m c t) (block_1 m c t) (block_2 m c t) (block_3 m c t) (block_4 m c t) r k]
  by_cases h0 : t.val % 16 = 0
  · rw [outsAt0_A m c t h0]
    dsimp only
    exact out_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) ((hcond0_0 t).mpr h0) r k
  · rw [outsAt0_B m c t h0]
    dsimp only
    exact out_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (fun h => h0 ((hcond0_0 t).mp h)) (outsAt0 m c (t.val - 1) (Nat.lt_of_le_of_lt (Nat.sub_le _ _) t.isLt)).2.2 r k

theorem outs_7 (t : Fin cfg0.N) (ht : t.val + 1 = cfg0.N) (k : Fin 1024) :
    (outsAt0 m c t.val t.isLt).2.2 (ix2 0 k) = ggArr four (D m c) (W m c) (X m c) (ix2 0 k) := by
  have e := Pipeline.eq_sum_fin_of_reset_step_apply_last (fun n hn (_ : Unit) => ((outsAt0 m c n hn).2.2 (ix2 0 k) : EReal)) 16 (fun _ => 0)
    (fun t _ => ∑ r, prodAt four (D m c) (W m c) (rowAt t r) k * Norm.normed (fun j => X m c (ix2 (rowAt t r) j)) k)
    (fun t h0 _ => by
      rw [outsAt0_A m c t h0, zero_add]
      dsimp only
      refine (out_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) ((hcond0_0 t).mpr h0) k).trans (block_gg four (rowAt t) (block_0 m c t) (block_1 m c t) (block_2 m c t) k))
    (fun t h0 _ => by
      rw [outsAt0_B m c t h0]
      dsimp only
      refine (out_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (fun h => h0 ((hcond0_0 t).mp h)) (outsAt0 m c (t.val - 1) (Nat.lt_of_le_of_lt (Nat.sub_le _ _) t.isLt)).2.2 k).trans (congrArg (_ + ·) (block_gg four (rowAt t) (block_0 m c t) (block_1 m c t) (block_2 m c t) k)))
    (by decide) t ht ()
  refine e.trans ((zero_add _).trans ?_)
  exact sum_rows N_0 rowAt (fun _ _ => rfl) fun R => prodAt four (D m c) (W m c) R k * Norm.normed (fun j => X m c (ix2 R j)) k

/-! ## The arrays -/

theorem gx_array : (dats m 0 c).arrAt 5 cfg0.N = gxArr four (D m c) (W m c) (X m c) (G m c) (S m c) := by
  refine (dats m 0 c).arrAt_eq_of_covers 5 _ (by decide +kernel) fun t hf y => ?_
  obtain ⟨r, k, rfl⟩ : ∃ r k, y = ix2 r k := ⟨y 0, y 1, eq_ix2 y⟩
  blk_simp
  rw [after0_5]
  refine (outs_5 m c t r k).trans ?_
  show gxArr four (D m c) (W m c) (X m c) (G m c) (S m c) (ix2 (rowAt t r) k) = _
  refine congrArg _ ?_
  blk_ext [idx_5, rowAt]

theorem gx16_array : (dats m 0 c).arrAt 6 cfg0.N = gxArr four (D m c) (W m c) (X m c) (G m c) (S m c) := by
  refine (dats m 0 c).arrAt_eq_of_covers 6 _ (by decide +kernel) fun t hf y => ?_
  obtain ⟨r, k, rfl⟩ : ∃ r k, y = ix2 r k := ⟨y 0, y 1, eq_ix2 y⟩
  blk_simp
  rw [after0_6]
  refine (outs_6 m c t r k).trans ?_
  show gxArr four (D m c) (W m c) (X m c) (G m c) (S m c) (ix2 (rowAt t r) k) = _
  refine congrArg _ ?_
  blk_ext [idx_6, rowAt]

theorem gg_array : (dats m 0 c).arrAt 7 cfg0.N = ggArr four (D m c) (W m c) (X m c) := by
  refine (dats m 0 c).arrAt_eq_of_covers 7 _ (by decide +kernel) fun t hf y => ?_
  have ht : t.val + 1 = cfg0.N := by
    have h := (flush0_7 t).mp hf
    have := t.isLt
    have : cfg0.N = 16 := N_0
    omega
  obtain ⟨a, k, rfl⟩ : ∃ a k, y = ix2 a k := ⟨y 0, y 1, eq_ix2 y⟩
  obtain rfl : a = 0 := Subsingleton.elim _ _
  blk_simp
  rw [after0_7]
  refine (outs_7 m c t ht k).trans ?_
  show ggArr four (D m c) (W m c) (X m c) (ix2 0 k) = _
  refine congrArg _ ?_
  blk_ext [idx_7]

end Cert.Kernel16Ideal.Array

namespace Cert.Reference16Ideal.Stages

open Cert.Reference16Ideal Cert.Reference16Ideal.Gen Cert.Reference16Ideal.Read Cert.SlabGrad Cert.Kernel16Ideal.Array

variable (x0 : (⟨S8192x2048, .bf16⟩ : BufTy).Contents (Elt Ideal)) (x1 : (⟨S4x1024x512, .bf16⟩ : BufTy).Contents (Elt Ideal))
  (x2 : (⟨S8192x1024, .f32⟩ : BufTy).Contents (Elt Ideal)) (x3 : (⟨S1024, .f32⟩ : BufTy).Contents (Elt Ideal))
  (x4 : (⟨S8192x1024, .f32⟩ : BufTy).Contents (Elt Ideal))

theorem weight_at (k : Fin 1024) (s : Fin 4) (n : Fin 512) : val_main_v2 (F := Ideal) x1 (ix2 k (col four s n)) = x1 (ix3 s k n) := by
  rw [val_main_v2_apply, val_main_v1_apply]
  refine congrArg x1 (funext fun a => Fin.ext ?_)
  match a with
  | ⟨0, _⟩ => show (k.val * 2048 + (s.val * 512 + n.val)) / 512 % 4 = s.val; omega
  | ⟨1, _⟩ => show (k.val * 2048 + (s.val * 512 + n.val)) / 2048 = k.val; omega
  | ⟨2, _⟩ => show (k.val * 2048 + (s.val * 512 + n.val)) % 512 = n.val; omega

theorem prod_at (r : Fin 8192) (k : Fin 1024) : val_main_v21 (F := Ideal) x0 x1 (ix2 r k) = prodAt four x0 x1 r k := by
  have e : val_main_v21 (F := Ideal) x0 x1 (ix2 r k) = ∑ j : Fin 2048, x0 (ix2 r j) * val_main_v2 (F := Ideal) x1 (ix2 k j) := by
    unfold val_main_v21 val_main_v20
    generalize val_main_v2 (F := Ideal) x1 = p
    pointwise
  rw [e, sum_cols four]
  simp only [weight_at]
  rfl

theorem gx_result : val_main_v42 (F := Ideal) x0 x1 x2 x3 x4 = gxArr four x0 x1 x2 x3 x4 :=
  Cert.NormGrad.gx_slabs (val_main_v21 (F := Ideal) x0 x1) x2 x4 x3 four x0 x1 (prod_at x0 x1)

theorem gx16_result : val_main_v43 (F := Ideal) x0 x1 x2 x3 x4 = gxArr four x0 x1 x2 x3 x4 := gx_result x0 x1 x2 x3 x4

theorem gg_result : val_main_v44 (F := Ideal) x0 x1 x2 = ggArr four x0 x1 x2 :=
  Cert.NormGrad.gg_slabs (val_main_v21 (F := Ideal) x0 x1) x2 four x0 x1 (prod_at x0 x1)

end Cert.Reference16Ideal.Stages

end
-- ==== Proof.Adam.lean ====
/-
  One AdamW step, element by element. The call takes the root of the corrected second moment as `x * rsqrt x` where `x` is
  positive and as zero elsewhere; the reference takes the root itself. For a nonnegative real number the two are equal, and the
  precondition makes the corrected second moment one.
-/
module

public import proofs.«01_k».proof.Pre_moments
public import proofs.«01_k».proof.Proof.Pre
public import proofs.«01_k».proof.Proof.Gen.Kernel17Ideal.Value
public import proofs.«01_k».proof.Proof.Gen.Reference17Ideal.Read
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.Adam

open Cert.MemAttn

/-- The root as the call takes it. -/
def root (x : EReal) : EReal := if 0 < x then x * Ideal.rsqrt x else 0

/-- It is the root of every nonnegative real number. -/
theorem root_eq {r : ℝ} (h : 0 ≤ r) : root (r : EReal) = Ideal.sqrt (r : EReal) := by
  have hs : Ideal.sqrt (r : EReal) = (Real.sqrt r : EReal) := by
    show (if r < 0 then ⊥ else (Real.sqrt r : EReal)) = _
    rw [if_neg h.not_gt]
  rw [hs]
  unfold root
  rcases h.eq_or_lt with rfl | hp
  · simp
  · rw [if_pos (EReal.coe_pos.mpr hp)]
    show (r : EReal) * (if r < 0 then ⊥ else if r = 0 then ⊤ else (((Real.sqrt r)⁻¹ : ℝ) : EReal)) = _
    rw [if_neg h.not_gt, if_neg hp.ne', ← EReal.coe_mul]
    congr 1
    rw [mul_inv_eq_iff_eq_mul₀ (Real.sqrt_pos.mpr hp).ne', Real.mul_self_sqrt h]

/-- The decay rates of the moments, their complements, the two corrections, epsilon, the weight decay and the step, as the programs write them. -/
def b1 : EReal := Ideal.ofBits .f32 0x3F666666#32
def c1 : EReal := Ideal.ofBits .f32 0x3DCCCCCD#32
def b2 : EReal := Ideal.ofBits .f32 0x3F7FBE77#32
def c2 : EReal := Ideal.ofBits .f32 0x3A83126F#32
def fix1 : EReal := Ideal.ofBits .f32 0x3F26BD02#32
def fix2 : EReal := Ideal.ofBits .f32 0x3C231ACC#32
def eps : EReal := Ideal.ofBits .f32 0x322BCC77#32
def decay : EReal := Ideal.ofBits .f32 0x3C23D70A#32
def rate : EReal := Ideal.ofBits .f32 0xBA83126F#32

theorem b2_pos : ∃ e : ℝ, 0 < e ∧ b2 = (e : EReal) := by
  unfold b2 Ideal.ofBits Ideal.ieee
  simp only []
  rw [if_neg (by decide), if_neg (by decide), if_neg (by decide)]
  exact ⟨_, mul_pos (by norm_num) (zpow_pos (by norm_num) _), rfl⟩

theorem c2_pos : ∃ e : ℝ, 0 < e ∧ c2 = (e : EReal) := by
  unfold c2 Ideal.ofBits Ideal.ieee
  simp only []
  rw [if_neg (by decide), if_neg (by decide), if_neg (by decide)]
  exact ⟨_, mul_pos (by norm_num) (zpow_pos (by norm_num) _), rfl⟩

theorem fix2_pos : ∃ e : ℝ, 0 < e ∧ fix2 = (e : EReal) := by
  unfold fix2 Ideal.ofBits Ideal.ieee
  simp only []
  rw [if_neg (by decide), if_neg (by decide), if_neg (by decide)]
  exact ⟨_, mul_pos (by norm_num) (zpow_pos (by norm_num) _), rfl⟩

/-- The new moments and the change of the weight, with a root `ρ` left open. -/
def first (g m : EReal) : EReal := b1 * m + c1 * g
def second (g v : EReal) : EReal := b2 * v + c2 * (g * g)
def change (ρ : EReal → EReal) (w g m v : EReal) : EReal :=
  rate * (Ideal.div (Ideal.div (first g m) fix1) (ρ (Ideal.div (second g v) fix2) + eps) + decay * w)

/-- With a real gradient and a nonnegative real second moment the corrected second moment is a nonnegative real number. -/
theorem second_real {g v : EReal} (hg : Finite g) (hv : 0 ≤ v) (ht : v ≠ ⊤) : ∃ r : ℝ, 0 ≤ r ∧ Ideal.div (second g v) fix2 = (r : EReal) := by
  obtain ⟨a, rfl⟩ := hg.coe
  obtain ⟨q, rfl⟩ := Finite.coe (x := v) ⟨fun h => by rw [h] at hv; exact absurd hv (by decide), ht⟩
  have hq : 0 ≤ q := EReal.coe_nonneg.mp hv
  obtain ⟨x, hx, ex⟩ := b2_pos
  obtain ⟨y, hy, ey⟩ := c2_pos
  obtain ⟨z, hz, ez⟩ := fix2_pos
  refine ⟨(x * q + y * (a * a)) * z⁻¹, mul_nonneg (add_nonneg (mul_nonneg hx.le hq) (mul_nonneg hy.le (mul_self_nonneg a))) (inv_nonneg.mpr hz.le), ?_⟩
  unfold second
  rw [ex, ey, ez, div_real hz.ne', EReal.coe_mul, EReal.coe_add, EReal.coe_mul, EReal.coe_mul, EReal.coe_mul]

/-- The change of the weight is the same with either root. -/
theorem change_eq {w g m v : EReal} (hg : Finite g) (hv : 0 ≤ v) (ht : v ≠ ⊤) : change Ideal.sqrt w g m v = change root w g m v := by
  obtain ⟨r, hr, e⟩ := second_real hg hv ht
  unfold change
  rw [e, root_eq hr]

/-- The call writes the root as a choice by a bit. -/
theorem change_call (w g m v : EReal) :
    rate * (Ideal.div (Ideal.div (first g m) fix1) ((if BitVec.ofBool (decide (Ideal.ofBits .f32 0x00000000#32 < Ideal.div (second g v) fix2)) = 1#1
      then Ideal.div (second g v) fix2 * Ideal.rsqrt (Ideal.div (second g v) fix2) else Ideal.ofBits .f32 0x00000000#32) + eps) + decay * w)
      = change root w g m v := by
  unfold change root
  generalize Ideal.div (second g v) fix2 = x
  have h0 : Ideal.ofBits .f32 0x00000000#32 = 0 := by simp [Ideal.ofBits, Ideal.ieee]
  rw [h0]
  by_cases hp : 0 < x <;> simp [hp]

/-- An array of `R` rows. -/
abbrev Arr (R : ℕ) : Type := (⟨2, ![R, 1024]⟩ : Shape).Idx → EReal

variable {R : ℕ}

/-- The arrays. -/
def changeArr (w g m v : Arr R) : Arr R := fun y => change root (w y) (g y) (m y) (v y)
def firstArr (g m : Arr R) : Arr R := fun y => first (g y) (m y)
def secondArr (g v : Arr R) : Arr R := fun y => second (g y) (v y)

/-! ## The precondition and the reference, for any number of rows -/

section Rows

abbrev Rows (R : ℕ) : Shape := ⟨2, ![R, 1024]⟩
abbrev One : Shape := ⟨0, ![]⟩

variable (hb : One.BroadcastsInDim (Rows R) (![] : Fin 0 → Fin (Rows R).rank)) (W G M V : FVec Ideal (Rows R) .f32)

/-- A literal spread over the array. -/
abbrev lit (b : BitVec 32) : FVec Ideal (Rows R) .f32 := broadcastInDim (Rows R) ![] hb (constant One .f32 b)

/-- Second moments that compare with zero and infinity as the precondition asks are nonnegative real numbers, -/
theorem nonneg_of (h : cmpf .oge V (lit hb 0x00000000#32) = fun _ => 1#1) (y : (Rows R).Idx) : 0 ≤ V y := by
  have e : BitVec.ofBool (decide (Ideal.ofBits .f32 0x00000000#32 ≤ V y)) = 1#1 := congrFun h y
  have h0 : Ideal.ofBits .f32 0x00000000#32 = 0 := by simp [Ideal.ofBits, Ideal.ieee]
  rw [h0] at e
  by_contra hn
  simp [hn] at e

theorem ne_top_of (h : cmpf .olt V (lit hb 0x7F800000#32) = fun _ => 1#1) (y : (Rows R).Idx) : V y ≠ ⊤ := by
  have e : BitVec.ofBool (decide (V y < Ideal.ofBits .f32 0x7F800000#32)) = 1#1 := congrFun h y
  rw [Cert.Pre_finite.inf_bits] at e
  intro ht
  simp [ht] at e

/-- and gradients whose magnitude is below infinity are real numbers. -/
theorem finite_of (h : cmpf .olt (Host.absf G) (lit hb 0x7F800000#32) = fun _ => 1#1) (y : (Rows R).Idx) : Finite (G y) :=
  Cert.Pre_finite.finite_of_abs _ (congrFun h y)

/-- The new moments as the reference forms them, array by array; -/
theorem first_plain : addf (mulf (lit hb 0x3F666666#32) M) (mulf (lit hb 0x3DCCCCCD#32) G) = firstArr G M := rfl

theorem second_plain : addf (mulf (lit hb 0x3F7FBE77#32) V) (mulf (lit hb 0x3A83126F#32) (mulf G G)) = secondArr G V := rfl

/-- and the change of the weights from them. -/
theorem change_plain (hv : ∀ y, 0 ≤ V y) (ht : ∀ y, V y ≠ ⊤) (hg : ∀ y, Finite (G y)) :
    mulf (lit hb 0xBA83126F#32) (addf (divf (divf (firstArr G M) (lit hb 0x3F26BD02#32)) (addf (Host.sqrt (divf (secondArr G V) (lit hb 0x3C231ACC#32))) (lit hb 0x322BCC77#32)))
      (mulf (lit hb 0x3C23D70A#32) W)) = changeArr W G M V :=
  funext fun y => change_eq (w := W y) (m := M y) (hg y) (hv y) (ht y)

end Rows

end Cert.Adam

namespace Cert.Kernel17Ideal.Array

open Cert.Kernel17Ideal Cert.Kernel17Ideal.Gen Cert.Adam

variable (m : (ℓ : Loc nD τ sig) → Buf (Elt Ideal) ℓ) (c : Dev nD)

/-- The four arguments: the weights, their gradients and the two moments. -/
abbrev W : Arr 640 := m ((c : Thread nD τ).loc main_arg0)
abbrev G : Arr 640 := m ((c : Thread nD τ).loc main_arg1)
abbrev M : Arr 640 := m ((c : Thread nD τ).loc main_arg2)
abbrev V2 : Arr 640 := m ((c : Thread nD τ).loc main_arg3)

theorem change_array : (dats m 0 c).arrAt 4 cfg0.N = changeArr (W m c) (G m c) (M m c) (V2 m c) :=
  (Cert.Kernel17Ideal.Value.final4 m c).trans (funext fun y => change_call (W m c y) (G m c y) (M m c y) (V2 m c y))

theorem first_array : (dats m 0 c).arrAt 5 cfg0.N = firstArr (G m c) (M m c) := Cert.Kernel17Ideal.Value.final5 m c

theorem second_array : (dats m 0 c).arrAt 6 cfg0.N = secondArr (G m c) (V2 m c) := Cert.Kernel17Ideal.Value.final6 m c

end Cert.Kernel17Ideal.Array

namespace Cert.Pre_moments

open Cert.MemAttn

theorem facts : Facts where
  bcast_S_S640x1024 := by decide

variable [Facts] (W G M V : FVec Ideal S640x1024 .f32)

/-- What the precondition says of the packed weights' gradients and moments. -/
theorem moments_real (hp : (fn (F := Ideal) W G M V).1 = (fun _ => 1#1) ∧ (fn (F := Ideal) W G M V).2.1 = (fun _ => 1#1) ∧ (fn (F := Ideal) W G M V).2.2 = fun _ => 1#1) :
    (∀ y, 0 ≤ V y) ∧ (∀ y, V y ≠ ⊤) ∧ ∀ y, Finite (G y) :=
  ⟨Cert.Adam.nonneg_of _ V hp.1, Cert.Adam.ne_top_of _ V hp.2.1, Cert.Adam.finite_of _ G hp.2.2⟩

end Cert.Pre_moments

namespace Cert.Reference17Ideal.Stages

open Cert.Reference17Ideal Cert.Reference17Ideal.Gen Cert.Reference17Ideal.Read Cert.Adam Cert.MemAttn

variable (x0 x1 x2 x3 : (⟨S640x1024, .f32⟩ : BufTy).Contents (Elt Ideal))

theorem first_result : val_main_v4 (F := Ideal) x1 x2 = firstArr x1 x2 := first_plain _ x1 x2

theorem second_result : val_main_v10 (F := Ideal) x1 x3 = secondArr x1 x3 := second_plain _ x1 x3

theorem change_result (h : (∀ y, 0 ≤ x3 y) ∧ (∀ y, x3 y ≠ ⊤) ∧ ∀ y, Finite (x1 y)) :
    val_main_v23 (F := Ideal) x0 x1 x2 x3 = changeArr x0 x1 x2 x3 := change_plain _ x0 x1 x2 x3 h.1 h.2.1 h.2.2

end Cert.Reference17Ideal.Stages

end
-- ==== Proof.AdamWeights.lean ====
/-
  The same step at the weights of 512 rows: the memory projection's and the window attention's. Everything is an instance of
  what is shown for any number of rows.
-/
module

public import proofs.«01_k».proof.Pre_weight_moments
public import proofs.«01_k».proof.Proof.Adam
public import proofs.«01_k».proof.Proof.Gen.Kernel18Ideal.Value
public import proofs.«01_k».proof.Proof.Gen.Reference18Ideal.Read

@[expose] public section

set_option maxRecDepth 16384

noncomputable section

open Idealize.ShloMosaic Idealize.ShloMosaic.TcCoe Idealize.SL.Sem Cert.Adam Cert.MemAttn

namespace Cert.Kernel18Ideal.Array

open Cert.Kernel18Ideal Cert.Kernel18Ideal.Gen

variable (m : (ℓ : Loc nD τ sig) → Buf (Elt Ideal) ℓ) (c : Dev nD)

abbrev W : Arr 512 := m ((c : Thread nD τ).loc main_arg0)
abbrev G : Arr 512 := m ((c : Thread nD τ).loc main_arg1)
abbrev M : Arr 512 := m ((c : Thread nD τ).loc main_arg2)
abbrev V2 : Arr 512 := m ((c : Thread nD τ).loc main_arg3)

theorem change_array : (dats m 0 c).arrAt 4 cfg0.N = changeArr (W m c) (G m c) (M m c) (V2 m c) :=
  (Cert.Kernel18Ideal.Value.final4 m c).trans (funext fun y => change_call (W m c y) (G m c y) (M m c y) (V2 m c y))

theorem first_array : (dats m 0 c).arrAt 5 cfg0.N = firstArr (G m c) (M m c) := Cert.Kernel18Ideal.Value.final5 m c

theorem second_array : (dats m 0 c).arrAt 6 cfg0.N = secondArr (G m c) (V2 m c) := Cert.Kernel18Ideal.Value.final6 m c

end Cert.Kernel18Ideal.Array

namespace Cert.Pre_weight_moments

theorem facts : Facts where
  bcast_S_S512x1024 := by decide

variable [Facts] (W G M V : FVec Ideal S512x1024 .f32)

theorem moments_real (hp : (fn (F := Ideal) W G M V).1 = (fun _ => 1#1) ∧ (fn (F := Ideal) W G M V).2.1 = (fun _ => 1#1) ∧ (fn (F := Ideal) W G M V).2.2 = fun _ => 1#1) :
    (∀ y, 0 ≤ V y) ∧ (∀ y, V y ≠ ⊤) ∧ ∀ y, Finite (G y) :=
  ⟨nonneg_of _ V hp.1, ne_top_of _ V hp.2.1, finite_of _ G hp.2.2⟩

end Cert.Pre_weight_moments

namespace Cert.Reference18Ideal.Stages

open Cert.Reference18Ideal Cert.Reference18Ideal.Gen Cert.Reference18Ideal.Read

variable (x0 x1 x2 x3 : (⟨S512x1024, .f32⟩ : BufTy).Contents (Elt Ideal))

theorem first_result : val_main_v4 (F := Ideal) x1 x2 = firstArr x1 x2 := first_plain _ x1 x2

theorem second_result : val_main_v10 (F := Ideal) x1 x3 = secondArr x1 x3 := second_plain _ x1 x3

theorem change_result (h : (∀ y, 0 ≤ x3 y) ∧ (∀ y, x3 y ≠ ⊤) ∧ ∀ y, Finite (x1 y)) :
    val_main_v23 (F := Ideal) x0 x1 x2 x3 = changeArr x0 x1 x2 x3 := change_plain _ x0 x1 x2 x3 h.1 h.2.1 h.2.2

end Cert.Reference18Ideal.Stages

end
-- ==== Proof.OutRun.lean ====
/-
  The gradient of the output projection's weight in the second layer, written into an array that other weights' gradients
  share: the call's run. The grid goes over four slabs and the two halves of the 8192 rows summed over; what a point adds
  is as in the first layer's call.
-/
module

public import proofs.«01_k».proof.Defs
public import proofs.«01_k».proof.Proof.Gen.Kernel19
public import proofs.«01_k».proof.Proof.Gen.Kernel19Ideal.Frame
public import proofs.«01_k».proof.Proof.Packed
public import proofs.«01_k».proof.Proof.AccBody
public import proofs.«01_k».proof.Proof.OutGrad
public import Idealize.ShloMosaic.Lib.WritesUnit
public import Idealize.ShloMosaic.Lib.Claim
public import Idealize.ShloMosaic.Lib.Pipeline.ValueKit

@[expose] public section

set_option maxRecDepth 16384

noncomputable section

namespace Cert.Kernel19Ideal.OutRun

open Cert.Kernel19Ideal Cert.Kernel19Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.AccBody (zero2 zero3)
open Cert.Kernel11Ideal.Gen (k0_pay1 k0_pay2)
open Idealize.ShloMosaic.Pipeline (Dat Cfg Window BodyObligation)

variable {F : FTy → Type} [FloatOps F]

/-- Whether a point is the first of its block. -/
abbrev first (i : grid0.Coords) : BitVec 1 := Scalar.cmpi .ne (Scalar.extui (Scalar.cmpi .eq (BitVec.ofNat 32 (i 2).val) 0#32)) 0#32

theorem first_iff : ∀ t : Fin cfg0.N, first (grid0.coords t) = 1#1 ↔ t.val % 2 = 0 :=
  (by decide +kernel : ∀ t : Fin grid0.N, first (grid0.coords t) = 1#1 ↔ t.val % 2 = 0)

theorem uncut : ∀ t : Fin cfg0.N, (cfg0.win 2).clipped (cfg0.grid.coords t) = false :=
  (by decide +kernel : ∀ t : Fin grid0.N, win0_2.clipped (grid0.coords t) = false)

/-- The body is the one that accumulates. -/
theorem body_eq (i : grid0.Coords) (a : Memref sig .tc .vmem S4096x384 .bf16) (ha : a.IsWhole)
    (b : Memref sig .tc .vmem S4096x1024 .bf16) (hb : b.IsWhole) (o : Memref sig .tc .vmem S1x384x1024 .f32) (ho : o.IsWhole) :
    cc0_dw_out1 (F := F) i a ha b hb (Memref.whole main_arg2) (Memref.isWhole_whole _) o ho
      = AccBody.body h_S4096x384 h_S4096x1024 h_S1x384x1024 inb_S4096x384_S4096x384_0_0 inb_S4096x1024_S4096x1024_0_0
        inb_S1x384x1024_S1x384x1024_0_0_0 k0_pay1 k0_pay2 (first i) a b o := rfl

variable (m : (ℓ : Loc nD τ sig) → Buf (Elt F) ℓ) (ρ : Dev nD → PrngReg)

/-- What a point leaves. -/
abbrev held (c : Dev nD) (t : Fin cfg0.N) : Vec F S1x384x1024 .f32 := AccBody.held k0_pay1 k0_pay2 (iblk m c 0) (iblk m c 1) t

/-- The arrays as the call finds them, the inputs' buffers at their blocks, the output's at what its point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => held m c t
  Φ _ := Pipeline.ΦA spec0 c
  q _ := fullShare
  owed _ := 0

theorem dats_A (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = held m c t := by dsimp only [dats]

theorem before_0 (c : Dev nD) (t : Fin cfg0.N) (d) : (dats m 0 c).before 0 t d = iblk m c 0 t :=
  before0_0_of m (dats m 0 c) (dats_A m c 0) (after_0 m c) t d
theorem before_1 (c : Dev nD) (t : Fin cfg0.N) (d) : (dats m 0 c).before 1 t d = iblk m c 1 t :=
  before0_1_of m (dats m 0 c) (dats_A m c 1) (after_1 m c) t d

/-- The second point of a block finds what the first left. -/
theorem before_2 (c : Dev nD) (t : Fin cfg0.N) (ht : ¬t.val % 2 = 0) (d) : (dats m 0 c).before 2 t d = held m c (AccBody.prev t) :=
  (Cert.Packed.kept_whole (dats m 0 c) 2 rfl t (by omega)
    (Bool.eq_false_iff.mpr fun h => by have := (flush0_2 _).mp h; dsimp only at this; omega) (fun _ => rfl) uncut d).trans (after_2 m c _)

/-- A point takes its buffers as the schedule hands them over, and returns them as `dats` says. -/
theorem body_sound (c : Dev nD) (t : Fin cfg0.N) :
    AccBody.pre c (st0_0 t) (st0_1 t) (st0_2 t) ((dats m 0 c).Φ t.castSucc) ((dats m 0 c).owesAt () t.castSucc)
        ((dats m 0 c).before 0 t) ((dats m 0 c).before 1 t) ((dats m 0 c).before 2 t)
      ⊢ wp frame (wpE (defs₀ (F := F)) Variants.none c none) Set.univ (bodyAt0 t)
        (fun _ => AccBody.post c (st0_0 t) (st0_1 t) (st0_2 t) ((dats m 0 c).Φ t.succ) ((dats m 0 c).owesAt () t.succ)
          ((dats m 0 c).after 0 t) ((dats m 0 c).after 1 t) ((dats m 0 c).after 2 t)) := by
  unfold bodyAt0
  rw [body_eq, funext (before_0 m c t), funext (before_1 m c t), after_0, after_1, after_2]
  exact AccBody.point _ _ _ _ _ _ _ _ zero2 zero2 zero3 defs₀ _ c _ (hstage0_0 _) _ (hstage0_1 _) _ (hstage0_2 _) _ _
    (iblk m c 0) (iblk m c 1) t (first_iff t) _ (before_2 m c t)

theorem body_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (body_sound m c t) rfl .rfl fun _ => .rfl

set_option backward.isDefEq.respectTransparency.types false in
/-- The call's run: the output array ends as the points' write-backs leave it, and every counter is zero. -/
theorem run : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := dats_A m) (hΦ := fun _ _ => rfl)

/-- The arguments end as they were. -/
theorem arguments_kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  θ_run_and (frame_of m ρ (dats m) (dats_A m) ((θ_run defs _ _).mono (fun _ h => h.1) (run m ρ)))
    ((θ_run defs _ _).mono (fun _ h => h.2) (run m ρ))

/-- The two programs have the same bodies, -/
theorem same_bodies : Cert.Kernel19.defs₀ (F := Bits) = defs₀ (F := Bits) := by
  unfold Cert.Kernel19.defs₀ defs₀
  refine congrArg Defs.onTc ?_
  funext l _
  match l with
  | 0 => rfl
  | ⟨_ + 1, h⟩ => exact absurd h (Nat.not_lt.2 (Nat.le_add_left _ _))

/-- so the run above is the run of the program on words too. -/
theorem words_kept : Cert.quiescent_Kernel19 (hKernel19 := Cert.Kernel19.Gen.facts) := fun m ρ _ =>
  (congrArg (fun d => θ_run (Pipeline.defs (Cert.Kernel19.pcfgs (F := Bits)) d) (onTc (τ := τ) (main (F := Bits))) ⟨m, fun _ => 0, ρ⟩ _)
    same_bodies).mpr (arguments_kept (F := Bits) m ρ)

end Cert.Kernel19Ideal.OutRun

end
-- ==== Proof.OutWeight.lean ====
/-
  The gradient of the output projection's weight in the second layer, written into its place in an array that other weights'
  gradients share: rows 2304 to 2687 of each of four slabs. Unlike the first layer's call, this one's blocks need not divide
  the array; what it computes is the same.
-/
module

public import proofs.«01_k».proof.Proof.OutRun
public import proofs.«01_k».proof.Proof.Gen.Reference19Ideal.Read
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Kernel19Ideal.Array

open Cert.Kernel19Ideal Cert.Kernel19Ideal.Gen Cert.Kernel19Ideal.OutRun Cert.OutGrad
open Cert.Kernel11Ideal.Gen (k0_pay1 k0_pay2)
open Cert.Kernel11Ideal.Array (pay1_apply pay2_apply)

variable (m : (ℓ : Loc nD τ sig) → Buf (Elt Ideal) ℓ) (ρ : Dev nD → PrngReg) (c : Dev nD)

/-- The three arguments. -/
abbrev A : S8192x1536.Idx → EReal := m ((c : Thread nD τ).loc main_arg0)
abbrev D : S8192x1024.Idx → EReal := m ((c : Thread nD τ).loc main_arg1)
abbrev P : S4x3328x1024.Idx → EReal := m ((c : Thread nD τ).loc main_arg2)

theorem idx_0 : ∀ t : Fin cfg0.N, win0_0.index t = ![t.val % 2, t.val / 2] :=
  (by decide +kernel : ∀ t : Fin grid0.N, win0_0.index t = ![t.val % 2, t.val / 2])
theorem idx_1 : ∀ t : Fin cfg0.N, win0_1.index t = ![t.val % 2, 0] :=
  (by decide +kernel : ∀ t : Fin grid0.N, win0_1.index t = ![t.val % 2, 0])
theorem idx_2 : ∀ t : Fin cfg0.N, win0_2.index t = ![t.val / 2, 6, 0] :=
  (by decide +kernel : ∀ t : Fin grid0.N, win0_2.index t = ![t.val / 2, 6, 0])

/-- The slab of a point's blocks. -/
def slabAt (t : Fin cfg0.N) : Fin 4 := ⟨t.val / 2, by have := t.isLt; have : cfg0.N = 8 := N_0; omega⟩

theorem block_0 (t : Fin cfg0.N) (h : Fin 2) (hh : h.val = t.val % 2) (r : Fin 4096) (k : Fin 384) :
    iblk m c 0 t (ix2 r k) = A m c (ix2 (rowAt h r) (headAt (slabAt t) k)) := by
  blk_simp [iblk]
  rw [V_main_arg0]
  refine congrArg (A m c) ?_
  blk_ext [idx_0, rowAt, headAt, slabAt, hh]

theorem block_1 (t : Fin cfg0.N) (h : Fin 2) (hh : h.val = t.val % 2) (r : Fin 4096) (n : Fin 1024) :
    iblk m c 1 t (ix2 r n) = D m c (ix2 (rowAt h r) n) := by
  blk_simp [iblk]
  rw [V_main_arg1]
  refine congrArg (D m c) ?_
  blk_ext [idx_1, rowAt, hh]

/-- The buffer the call writes into starts as a copy of the third argument. -/
theorem entry_eq : (V m c main_v0 : S4x3328x1024.Idx → EReal) = P m c := by
  unfold V
  rw [StableHlo.after_cons, StableHlo.after_nil, StableHlo.unary_result]
  rfl

/-- What the second point of a slab leaves: the products of both halves, which are the product of all rows. -/
theorem held_eq (t : Fin cfg0.N) (ht : t.val % 2 = 1) (k : Fin 384) (n : Fin 1024) :
    held m c t (ix3 0 k n) = dwAt (A m c) (D m c) (slabAt t) k n := by
  have h0 : (AccBody.prev t).val % 2 = 0 := by show (t.val - 1) % 2 = 0; omega
  have es : slabAt (AccBody.prev t) = slabAt t := Fin.ext (by show (t.val - 1) / 2 = t.val / 2; omega)
  refine (AccBody.held_sum (k0_pay1 (F := Ideal)) k0_pay2 (iblk m c 0) (iblk m c 1) (ix3 0 k n)
    (fun A D => ∑ r : Fin 4096, A (ix2 r k) * D (ix2 r n)) (pay1_apply (ix3 0 k n)) (fun v A D => pay2_apply v A D k n) t ht).trans ?_
  unfold dwAt
  rw [Fin.sum_univ_tiles 2 4096 rfl, Fin.sum_univ_two]
  refine congrArg₂ (· + ·) (Finset.sum_congr rfl fun r _ => ?_) (Finset.sum_congr rfl fun r _ => ?_)
  · rw [block_0 m c _ 0 h0.symm, block_1 m c _ 0 h0.symm, es]
    rfl
  · rw [block_0 m c t 1 ht.symm, block_1 m c t 1 ht.symm]
    rfl

/-- The result array. -/
theorem packed_array : (dats m 0 c).arrAt 2 cfg0.N = packedArr (A m c) (D m c) (P m c) := by
  refine ((dats m 0 c).arrAt_eq_of_coversWhere 2 (dwArr (A m c) (D m c))
    (P := fun y : S4x3328x1024.Idx => (y 1).val / 384 = 6) (fun β => β (1 : Fin 3) = 6) (by decide +kernel) (fun t hf y => ?_) (fun j => Iff.rfl)).trans ?_
  · have ht : t.val % 2 = 1 := (flush0_2 t).mp hf
    obtain ⟨a, k, n, hy⟩ : ∃ (a : Fin 1) (k : Fin 384) (n : Fin 1024), (cfg0.win 2).xinj (cfg0.grid.coords t) y = ix3 a k n :=
      ⟨_, _, _, eq_ix3 (n0 := 1) (n1 := 384) (n2 := 1024) _⟩
    have hk : (y 1).val = k.val := congrArg (fun q : S1x384x1024.Idx => (q 1).val) hy
    have hn : (y 2).val = n.val := congrArg (fun q : S1x384x1024.Idx => (q 2).val) hy
    obtain rfl : a = 0 := Subsingleton.elim _ _
    have h0 : (y 0).val = 0 := congrArg (fun q : S1x384x1024.Idx => (q 0).val) hy
    blk_simp
    rw [after_2]
    refine (congrArg (held m c t) hy).trans ((held_eq m c t ht k n).trans ?_)
    have e0 : (((cfg0.win 2).blk t).view.emb y 0).val = t.val / 2 := by
      blk_simp [idx_2]
      exact congrArg (t.val / 2 + ·) h0
    have e1 : (((cfg0.win 2).blk t).view.emb y 1).val = 6 * 384 + k.val := by
      blk_simp [idx_2]
      exact congrArg (6 * 384 + ·) hk
    have e2 : (((cfg0.win 2).blk t).view.emb y 2).val = n.val := by
      show win0_2.index t 2 * 1024 + 1 * (y 2).val = n.val
      rw [idx_2, hn]
      show 0 * 1024 + 1 * n.val = n.val
      omega
    exact at_index (A m c) (D m c) (s := slabAt t) e0 e1 e2
  · funext y
    have e : (dats m 0 c).A 2 = P m c := (dats_A m c 2).trans (entry_eq m c)
    unfold packedArr
    rw [e]

/-- The run, its result named. -/
theorem run_named : θ_run defs (onTc (τ := τ) (main (F := Ideal))) ⟨m, fun _ => 0, ρ⟩ fun r => ∀ c : Dev nD,
      r.2.mem ((c : Thread nD τ).loc main_v0) = (dats m 0 c).arrAt 2 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h.1.1 c).1 2, h.2.1 c⟩) (θ_run_and (run m ρ) (arguments_kept m ρ))

end Cert.Kernel19Ideal.Array

namespace Cert.Reference19Ideal.Stages

open Cert.Reference19Ideal Cert.Reference19Ideal.Gen Cert.Reference19Ideal.Read Cert.OutGrad

variable (x0 : (⟨S8192x1536, .bf16⟩ : BufTy).Contents (Elt Ideal)) (x1 : (⟨S8192x1024, .bf16⟩ : BufTy).Contents (Elt Ideal))
  (x2 : (⟨S4x3328x1024, .f32⟩ : BufTy).Contents (Elt Ideal))

/-- The product is the one of the first layer's reference. -/
theorem product_at (s : Fin 4) (k : Fin 384) (n : Fin 1024) : val_main_v5 (F := Ideal) x0 x1 (ix3 s k n) = dwAt x0 x1 s k n :=
  Cert.Reference11Ideal.Stages.product_at x0 x1 s k n

theorem packed_result : val_main_v7 (F := Ideal) x0 x1 x2 = packedArr x0 x1 x2 := by
  funext y
  obtain ⟨s, j, n, rfl⟩ : ∃ s j n, y = ix3 s j n := ⟨y 0, y 1, y 2, eq_ix3 y⟩
  unfold val_main_v7 val_main_v6 val_main_v4
  generalize hp : val_main_v5 (F := Ideal) x0 x1 = p
  pointwise
  subst hp
  show _ = if j.val / 384 = 6 then dwAt x0 x1 s (placeOf j) n else x2 (ix3 s j n)
  by_cases hj : j.val < 2304
  · rw [dif_pos hj, if_neg (by omega)]
  refine (dif_neg hj).trans ?_
  by_cases hk : j.val < 2688
  · refine (dif_pos (by omega)).trans (((product_at x0 x1 s _ n).trans ?_).trans (if_pos (by omega)).symm)
    exact congrArg (fun k => dwAt x0 x1 s k n) (Fin.ext (by show j.val - 2304 = j.val % 384; omega))
  · refine (dif_neg (by omega)).trans (Eq.trans ?_ (if_neg (by omega)).symm)
    exact congrArg (fun i => x2 (ix3 s i n)) (Fin.ext (by show 2688 + (j.val - 2304 - 384) = j.val; omega))

end Cert.Reference19Ideal.Stages

end
-- ==== Proof.RotaryGrad.lean ====
/-
  The gradient of the attention's rotary preparation: the gradients of queries and keys turned back by each position's
  angles, and those of values and of the memory's queries copied beside them. The kernel turns 128 columns at once with
  tables of cosines and signed sines, one and zero in the columns that no angle turns, and takes a column's partner by
  rotating the lanes; the reference slices each head, turns and pads.
-/
module

public import proofs.«01_k».proof.Proof.Gen.Kernel20Ideal.Value
public import proofs.«01_k».proof.Proof.Gen.Reference20Ideal.Read
public import proofs.«01_k».proof.Proof.Block
public import proofs.«01_k».proof.Proof.Cols
public import Idealize.ShloMosaic.Lib.Pipeline.Value
public import Idealize.ShloMosaic.Lib.Pipeline.ValueKit
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Rotary

/-- The angle of frequency `j` at row `r`: the row's position times 500000 to the power `-2 j / 16`. -/
def angle (p : (⟨1, ![8192]⟩ : Shape).Idx → BitVec 32) (r : Fin 8192) (j : Fin 8) : EReal :=
  FloatOps.sitofp (F := Ideal) .f32 (p (ix1 r))
    * Ideal.pow (Ideal.ofBits .f32 0x48F42400#32)
        (Ideal.div (Ideal.ofBits .f32 0xC0000000#32 * FloatOps.sitofp (F := Ideal) .f32 (BitVec.ofNat 32 j.val)) (Ideal.ofBits .f32 0x41800000#32))

/-- The cosine and the sine of that angle. -/
def cosOf (p : (⟨1, ![8192]⟩ : Shape).Idx → BitVec 32) (r : Fin 8192) (j : Fin 8) : EReal := Ideal.cos (angle p r j)
def sinOf (p : (⟨1, ![8192]⟩ : Shape).Idx → BitVec 32) (r : Fin 8192) (j : Fin 8) : EReal := Ideal.sin (angle p r j)

/-- Row `r` of a matrix as a function of the column. -/
def rowAt {R N : ℕ} (X : (⟨2, ![R, N]⟩ : Shape).Idx → EReal) (r : Fin R) (n : ℕ) : EReal := if h : n < N then X (ix2 r ⟨n, h⟩) else 0

theorem rowAt_of {R N : ℕ} (X : (⟨2, ![R, N]⟩ : Shape).Idx → EReal) (r : Fin R) (k : Fin N) {n : ℕ} (h : n = k.val) : rowAt X r n = X (ix2 r k) := by
  subst h
  exact dif_pos k.isLt

/-- A row turned back: of each head's 64 columns the first eight and the next eight are turned together, the other 48 stay. -/
def turned (C S : Fin 8 → EReal) (f : ℕ → EReal) (n : ℕ) : EReal :=
  if n % 64 < 8 then f n * C ⟨n % 8, by omega⟩ + f (n + 8) * S ⟨n % 8, by omega⟩
  else if n % 64 < 16 then f n * C ⟨n % 8, by omega⟩ - f (n - 8) * S ⟨n % 8, by omega⟩
  else f n

/-- The gradient of the projected input: the turned gradients of queries and keys, then those of values and memory queries. -/
def gradArr (Q : (⟨2, ![8192, 1024]⟩ : Shape).Idx → EReal) (K V : (⟨2, ![8192, 256]⟩ : Shape).Idx → EReal)
    (M : (⟨2, ![8192, 512]⟩ : Shape).Idx → EReal) (p : (⟨1, ![8192]⟩ : Shape).Idx → BitVec 32) : (⟨2, ![8192, 2048]⟩ : Shape).Idx → EReal :=
  fun y =>
    if (y 1).val < 1024 then turned (cosOf p (y 0)) (sinOf p (y 0)) (rowAt Q (y 0)) (y 1).val
    else if (y 1).val < 1280 then turned (cosOf p (y 0)) (sinOf p (y 0)) (rowAt K (y 0)) ((y 1).val - 1024)
    else if (y 1).val < 1536 then rowAt V (y 0) ((y 1).val - 1280)
    else rowAt M (y 0) ((y 1).val - 1536)

/-- The tables' entries in column `l` of 128. -/
def cosLane (C : Fin 8 → EReal) (l : Fin 128) : EReal := if l.val % 64 < 16 then C ⟨l.val % 8, by omega⟩ else 1
def sinLane (S : Fin 8 → EReal) (l : Fin 128) : EReal :=
  if l.val % 64 < 8 then -S ⟨l.val % 8, by omega⟩ else if l.val % 64 < 16 then S ⟨l.val % 8, by omega⟩ else 0

end Cert.Rotary

namespace Cert.Reference20Ideal.Stages

open Cert.Reference20Ideal Cert.Reference20Ideal.Gen Cert.Reference20Ideal.Read Cert.Rotary

theorem angle_at (x4 : (⟨S8192, .i32⟩ : BufTy).Contents (Elt Ideal)) (r : Fin 8192) (j : Fin 8) : val_main_v12 (F := Ideal) x4 (ix2 r j) = angle x4 r j := by
  unfold val_main_v12 val_main_v11 val_main_v10 val_main_v9 val_main_v8 val_main_v7 val_main_v6 val_main_v5 val_main_v4 val_main_v3 val_main_v2 val_main_v1 val_main_v0 val_main_cst val_main_cst_0 val_main_cst_1
  pointwise
  rfl

end Cert.Reference20Ideal.Stages

namespace Cert.Kernel20Ideal.Array

open Cert.Kernel20Ideal Cert.Kernel20Ideal.Gen Cert.Kernel20Ideal.Value Cert.Rotary

/-! ## 128 columns of a block -/

/-- Which lanes take their partner from the right: the first eight of each 64. -/
theorem mask : ∀ l : Fin 128, IntOp.cmpi .slt (IntOp.andi (BitVec.ofNat 32 l.val) 63#32) 8#32 = if l.val % 64 < 8 then 1#1 else 0#1 := by decide +kernel

theorem pay4_apply (cs sn t : Vec Ideal S256x128 .f32) (r : Fin 256) (l : Fin 128) :
    k0_pay4 cs sn t (ix2 r l) = t (ix2 r l) * cs (ix2 r l)
      - (if l.val % 64 < 8 then t (ix2 r ⟨(l.val + 128 - 120) % 128, by omega⟩) else t (ix2 r ⟨(l.val + 128 - 8) % 128, by omega⟩)) * sn (ix2 r l) := by
  unfold_payloads
  pointwise
  rw [mask]
  split <;> rfl

theorem pay1_apply (x : Vec Ideal S256x256 .f32) (y : S256x256.Idx) : k0_pay1 x y = x y := rfl

/-- With the tables in place the chunk is turned. -/
theorem chunk {N o : ℕ} (x4 x5 : Vec Ideal S256x128 .f32) (X : Vec Ideal ⟨2, ![256, N]⟩ .f32) (i4 i5 iX) (r : Fin 256) (l : Fin 128) (C S : Fin 8 → EReal)
    (h4 : ∀ l, x4 (ix2 r l) = cosLane C l) (h5 : ∀ l, x5 (ix2 r l) = sinLane S l) (ho : o % 64 = 0) (hN : o + 128 ≤ N) :
    k0_pay4 (F := Ideal) (View.ld x4 (Rect.unit (s := S256x128) ![0, 0] ![256, 128] i4)) (View.ld x5 (Rect.unit (s := S256x128) ![0, 0] ![256, 128] i5))
      (View.ld X (Rect.unit (s := ⟨2, ![256, N]⟩) ![0, o] ![256, 128] iX)) (ix2 r l) = turned C S (rowAt X r) (o + l.val) := by
  have hX (k : Fin 128) : View.ld X (Rect.unit (s := ⟨2, ![256, N]⟩) ![0, o] ![256, 128] iX) (ix2 r k) = rowAt X r (o + k.val) :=
    (Cert.Cols.ld_cols X iX r k ⟨o + k.val, by omega⟩ rfl).trans (rowAt_of X r _ rfl).symm
  have e4 : View.ld x4 (Rect.unit (s := S256x128) ![0, 0] ![256, 128] i4) (ix2 r l) = cosLane C l := (Cert.Cols.ld_cols x4 i4 r l l (Nat.zero_add _).symm).trans (h4 l)
  have e5 : View.ld x5 (Rect.unit (s := S256x128) ![0, 0] ![256, 128] i5) (ix2 r l) = sinLane S l := (Cert.Cols.ld_cols x5 i5 r l l (Nat.zero_add _).symm).trans (h5 l)
  rw [pay4_apply, e4, e5]
  simp only [hX]
  have em : (o + l.val) % 64 = l.val % 64 := by omega
  have e8 : (o + l.val) % 8 = l.val % 8 := by omega
  have hl := l.isLt
  unfold turned cosLane sinLane
  simp only [em, e8]
  by_cases h : l.val % 64 < 8
  · have er : o + (l.val + 128 - 120) % 128 = o + l.val + 8 := by omega
    rw [if_pos h, if_pos h, if_pos h, if_pos (by omega), er, mul_neg, sub_eq_add_neg, neg_neg]
  · by_cases h' : l.val % 64 < 16
    · have er : o + (l.val + 128 - 8) % 128 = o + l.val - 8 := by omega
      rw [if_neg h, if_neg h, if_neg h, if_pos h', if_pos h', if_pos h', er]
    · rw [if_neg h, if_neg h, if_neg h, if_neg h', if_neg h', if_neg h', mul_one, mul_zero, sub_zero]

/-! ## A block -/

section Point
variable (c : Dev nD) (i : grid0.Coords) (a1 : Memref sig .tc .vmem S256x1024 .f32) (h1 : a1.IsWhole) (a2 : Memref sig .tc .vmem S256x256 .f32) (h2 : a2.IsWhole)
  (a3 : Memref sig .tc .vmem S256x256 .f32) (h3 : a3.IsWhole) (a4 : Memref sig .tc .vmem S256x512 .bf16) (h4 : a4.IsWhole)
  (a5 : Memref sig .tc .vmem S256x128 .f32) (h5 : a5.IsWhole) (a6 : Memref sig .tc .vmem S256x128 .f32) (h6 : a6.IsWhole)
  (a7 : Memref sig .tc .vmem S256x2048 .bf16) (h7 : a7.IsWhole)
  (x0 : Vec Ideal S256x1024 .f32) (x1 x2 : Vec Ideal S256x256 .f32) (x3 : Vec Ideal S256x512 .bf16) (x4 x5 : Vec Ideal S256x128 .f32)

theorem out_A (r : Fin 256) (k : Fin 2048) (C S : Fin 8 → EReal) (hc : ∀ l, x4 (ix2 r l) = cosLane C l) (hs : ∀ l, x5 (ix2 r l) = sinLane S l) :
    out0_A_6 (F := Ideal) c i a1 h1 a2 h2 a3 h3 a4 h4 a5 h5 a6 h6 a7 h7 x0 x1 x2 x3 x4 x5 (ix2 r k)
      = if k.val < 1024 then turned C S (rowAt x0 r) k.val else if k.val < 1280 then turned C S (rowAt x1 r) (k.val - 1024)
        else if k.val < 1536 then rowAt x2 r (k.val - 1280) else rowAt x3 r (k.val - 1536) := by
  unfold out0_A_6
  rw [View.read_writes_eq_canon _ _ _ (cover0_A_6 c i a1 h1 a2 h2 a3 h3 a4 h4 a5 h5 a6 h6 a7 h7 x0 x1 x2 x3 x4 x5)]
  unfold kernelRun0_A
  dsimp only
  sl_unfold_words
  simp only [View.readAt_eq_ld, h1.read_unread, h2.read_unread, h3.read_unread, h4.read_unread, h5.read_unread, h6.read_unread]
  have hk := k.isLt
  by_cases hq : k.val < 1280
  · obtain ⟨s, l, e⟩ : ∃ (s : Fin 10) (l : Fin 128), k.val = 128 * s.val + l.val := ⟨⟨k.val / 128, by omega⟩, ⟨k.val % 128, by omega⟩, by dsimp only; omega⟩
    obtain ⟨s, hs10⟩ := s
    have hl := l.isLt
    dsimp only at e
    interval_cases s
    all_goals
      repeat rw [Cert.Cols.canon_miss _ _ _ _ _ (by omega)]
      rw [Cert.Cols.canon_hit _ _ _ _ _ l (by omega)]
      first
      | rw [if_pos (by omega), e]; exact chunk x4 x5 x0 _ _ _ r l C S hc hs (by decide) (by decide)
      | rw [if_neg (by omega), if_pos (by omega)]; exact (chunk x4 x5 x1 _ _ _ r l C S hc hs (by decide) (by decide)).trans (congrArg _ (by omega))
  · rw [if_neg (by omega), if_neg (by omega)]
    by_cases hv : k.val < 1536
    · rw [Cert.Cols.canon_miss _ _ _ _ _ (by omega), Cert.Cols.canon_hit (w := 256) _ _ _ _ _ ⟨k.val - 1280, by omega⟩ (by dsimp only; omega), if_pos hv, pay1_apply]
      exact (Cert.Cols.ld_cols x2 _ r _ ⟨k.val - 1280, by omega⟩ (Nat.zero_add _).symm).trans (rowAt_of x2 r _ rfl).symm
    · rw [Cert.Cols.canon_hit (w := 512) _ _ _ _ _ ⟨k.val - 1536, by omega⟩ (by dsimp only; omega), if_neg hv]
      exact (Cert.Cols.ld_cols x3 _ r _ ⟨k.val - 1536, by omega⟩ (Nat.zero_add _).symm).trans (rowAt_of x3 r _ rfl).symm

end Point

/-! ## The tables -/

variable (m : (ℓ : Loc nD τ sig) → Buf (Elt Ideal) ℓ) (c : Dev nD)

/-- A table over the 64 columns of a head, laid twice side by side. -/
def twice (x : FVec Ideal S8192x64 .f32) : FVec Ideal S8192x128 .f32 :=
  shapeCast S8192x128 (broadcastInDim S1x8192x2x64 ![0, 1, 2, 3] bcast_S1x8192x1x64_S1x8192x2x64_0_1_2_3
    (shapeCast S1x8192x1x64 x shapeCasts_S8192x64_S1x8192x1x64)) shapeCasts_S1x8192x2x64_S8192x128

/-- Three tables side by side: eight, eight and 48 columns. -/
def joined (x y : FVec Ideal S8192x8 .f32) (z : FVec Ideal S8192x48 .f32) : FVec Ideal S8192x64 .f32 :=
  concatenate S8192x64 1 [⟨S8192x8, x⟩, ⟨S8192x8, y⟩, ⟨S8192x48, z⟩] concatenates_S8192x8_S8192x8_S8192x48_S8192x64_d1

/-- The five arguments. -/
abbrev Q : S8192x1024.Idx → EReal := m ((c : Thread nD τ).loc main_arg0)
abbrev K : S8192x256.Idx → EReal := m ((c : Thread nD τ).loc main_arg1)
abbrev W : S8192x256.Idx → EReal := m ((c : Thread nD τ).loc main_arg2)
abbrev M : S8192x512.Idx → EReal := m ((c : Thread nD τ).loc main_arg3)
abbrev P : S8192.Idx → BitVec 32 := m ((c : Thread nD τ).loc main_arg4)

/-- The angles, as both programs compute them. -/
abbrev angles : FVec Ideal S8192x8 .f32 := Cert.Reference20Ideal.Read.val_main_v12 (F := Ideal) (m ((c : Thread nD τ).loc main_arg4))

theorem cos_table : (V m c main_v23 : S8192x128.Idx → EReal) =
    twice (joined (Host.cos (angles m c)) (Host.cos (angles m c)) (broadcastInDim S8192x48 ![] bcast_S_S8192x48 (constant S_ .f32 0x3F800000#32))) := by
  unfold V
  after_results_simp <;> (try dsimp only [Matrix.cons_val]) <;> (try after_results_simp) <;> rfl

theorem sin_table : (V m c main_v26 : S8192x128.Idx → EReal) =
    twice (joined (Host.negf (Host.sin (angles m c))) (Host.sin (angles m c)) (mulf (broadcastInDim S8192x48 ![] bcast_S_S8192x48 (constant S_ .f32 0x00000000#32))
      (broadcastInDim S8192x48 ![] bcast_S_S8192x48 (constant S_ .f32 0x3F800000#32)))) := by
  unfold V
  after_results_simp <;> (try dsimp only [Matrix.cons_val]) <;> (try after_results_simp) <;> rfl

theorem twice_joined (x y : FVec Ideal S8192x8 .f32) (z : FVec Ideal S8192x48 .f32) (z0 : EReal) (hz : ∀ y, z y = z0) (r : Fin 8192) (l : Fin 128) :
    twice (joined x y z) (ix2 r l) = if l.val % 64 < 8 then x (ix2 r ⟨l.val % 8, by omega⟩)
      else if l.val % 64 < 16 then y (ix2 r ⟨l.val % 8, by omega⟩) else z0 := by
  unfold twice joined
  pointwise
  have hl := l.isLt
  by_cases h : l.val % 64 < 8
  · rw [dif_pos h, if_pos h]
    exact congrArg (fun k => x (ix2 r k)) (Fin.ext (by show l.val % 64 = l.val % 8; omega))
  · rw [dif_neg h, if_neg h]
    by_cases h' : l.val % 64 < 16
    · rw [dif_pos (by omega), if_pos h']
      exact congrArg (fun k => y (ix2 r k)) (Fin.ext (by show l.val % 64 - 8 = l.val % 8; omega))
    · rw [dif_neg (by omega), if_neg h']
      exact hz _

theorem cos_at (r : Fin 8192) (l : Fin 128) : (V m c main_v23 : S8192x128.Idx → EReal) (ix2 r l) = cosLane (cosOf (P m c) r) l := by
  rw [cos_table, twice_joined _ _ _ 1 (fun y => by pointwise)]
  unfold cosLane cosOf
  pointwise
  simp only [angles, Cert.Reference20Ideal.Stages.angle_at]
  by_cases h : l.val % 64 < 8
  · rw [if_pos h, if_pos (by omega)]
  · rw [if_neg h]

theorem sin_at (r : Fin 8192) (l : Fin 128) : (V m c main_v26 : S8192x128.Idx → EReal) (ix2 r l) = sinLane (sinOf (P m c) r) l := by
  rw [sin_table, twice_joined _ _ _ 0 (fun y => by pointwise)]
  unfold sinLane sinOf
  pointwise
  simp only [angles, Cert.Reference20Ideal.Stages.angle_at]

/-! ## The array -/

theorem idx_0 : ∀ t : Fin cfg0.N, win0_0.index t = ![t.val, 0] := (by decide +kernel : ∀ t : Fin grid0.N, win0_0.index t = ![t.val, 0])
theorem idx_1 : ∀ t : Fin cfg0.N, win0_1.index t = ![t.val, 0] := (by decide +kernel : ∀ t : Fin grid0.N, win0_1.index t = ![t.val, 0])
theorem idx_2 : ∀ t : Fin cfg0.N, win0_2.index t = ![t.val, 0] := (by decide +kernel : ∀ t : Fin grid0.N, win0_2.index t = ![t.val, 0])
theorem idx_3 : ∀ t : Fin cfg0.N, win0_3.index t = ![t.val, 0] := (by decide +kernel : ∀ t : Fin grid0.N, win0_3.index t = ![t.val, 0])
theorem idx_4 : ∀ t : Fin cfg0.N, win0_4.index t = ![t.val, 0] := (by decide +kernel : ∀ t : Fin grid0.N, win0_4.index t = ![t.val, 0])
theorem idx_5 : ∀ t : Fin cfg0.N, win0_5.index t = ![t.val, 0] := (by decide +kernel : ∀ t : Fin grid0.N, win0_5.index t = ![t.val, 0])
theorem idx_6 : ∀ t : Fin cfg0.N, win0_6.index t = ![t.val, 0] := (by decide +kernel : ∀ t : Fin grid0.N, win0_6.index t = ![t.val, 0])

/-- Row `r` of block `t`. -/
def rowOf (t : Fin cfg0.N) (r : Fin 256) : Fin 8192 := ⟨t.val * 256 + r.val, by have := t.isLt; have : cfg0.N = 32 := N_0; omega⟩

/-- Rows of a block are rows of its array. -/
theorem rowAt_congr {R R' N : ℕ} (X : (⟨2, ![R, N]⟩ : Shape).Idx → EReal) (Y : (⟨2, ![R', N]⟩ : Shape).Idx → EReal) (r : Fin R) (r' : Fin R')
    (h : ∀ n, X (ix2 r n) = Y (ix2 r' n)) : rowAt X r = rowAt Y r' := by
  funext n
  unfold rowAt
  split
  · exact h _
  · rfl

theorem block_0 (t : Fin cfg0.N) (r : Fin 256) : rowAt (iblk m c 0 t : S256x1024.Idx → EReal) r = rowAt (Q m c) (rowOf t r) :=
  rowAt_congr _ _ _ _ fun n => by
    blk_simp [iblk]
    rw [V_main_arg0]
    refine congrArg (Q m c) ?_
    blk_ext [idx_0, rowOf]

theorem block_1 (t : Fin cfg0.N) (r : Fin 256) : rowAt (iblk m c 1 t : S256x256.Idx → EReal) r = rowAt (K m c) (rowOf t r) :=
  rowAt_congr _ _ _ _ fun n => by
    blk_simp [iblk]
    rw [V_main_arg1]
    refine congrArg (K m c) ?_
    blk_ext [idx_1, rowOf]

theorem block_2 (t : Fin cfg0.N) (r : Fin 256) : rowAt (iblk m c 2 t : S256x256.Idx → EReal) r = rowAt (W m c) (rowOf t r) :=
  rowAt_congr _ _ _ _ fun n => by
    blk_simp [iblk]
    rw [V_main_arg2]
    refine congrArg (W m c) ?_
    blk_ext [idx_2, rowOf]

theorem block_3 (t : Fin cfg0.N) (r : Fin 256) : rowAt (iblk m c 3 t : S256x512.Idx → EReal) r = rowAt (M m c) (rowOf t r) :=
  rowAt_congr _ _ _ _ fun n => by
    blk_simp [iblk]
    rw [V_main_arg3]
    refine congrArg (M m c) ?_
    blk_ext [idx_3, rowOf]

theorem block_4 (t : Fin cfg0.N) (r : Fin 256) (l : Fin 128) : iblk m c 4 t (ix2 r l) = cosLane (cosOf (P m c) (rowOf t r)) l := by
  rw [← cos_at m c (rowOf t r) l]
  blk_simp [iblk]
  refine congrArg (V m c main_v23 : S8192x128.Idx → EReal) ?_
  blk_ext [idx_4, rowOf]

theorem block_5 (t : Fin cfg0.N) (r : Fin 256) (l : Fin 128) : iblk m c 5 t (ix2 r l) = sinLane (sinOf (P m c) (rowOf t r)) l := by
  rw [← sin_at m c (rowOf t r) l]
  blk_simp [iblk]
  refine congrArg (V m c main_v26 : S8192x128.Idx → EReal) ?_
  blk_ext [idx_5, rowOf]

theorem outs_6 (t : Fin cfg0.N) (r : Fin 256) (k : Fin 2048) :
    outsAt0 m c t (ix2 r k) = gradArr (Q m c) (K m c) (W m c) (M m c) (P m c) (ix2 (rowOf t r) k) := by
  unfold outsAt0
  rw [out_A (hc := block_4 m c t r) (hs := block_5 m c t r), block_0, block_1, block_2, block_3]
  rfl

/-- The result array. -/
theorem dp_array : (dats m 0 c).arrAt 6 cfg0.N = gradArr (Q m c) (K m c) (W m c) (M m c) (P m c) := by
  refine (dats m 0 c).arrAt_eq_of_covers 6 _ (by decide +kernel) fun t hf y => ?_
  obtain ⟨r, k, rfl⟩ : ∃ r k, y = ix2 r k := ⟨y 0, y 1, eq_ix2 y⟩
  blk_simp
  rw [after0_6]
  refine (outs_6 m c t r k).trans ?_
  refine congrArg _ ?_
  blk_ext [idx_6, rowOf]

end Cert.Kernel20Ideal.Array

namespace Cert.Reference20Ideal.Stages

open Cert.Reference20Ideal Cert.Reference20Ideal.Gen Cert.Reference20Ideal.Read Cert.Rotary

variable (x0 : (⟨S8192x1024, .f32⟩ : BufTy).Contents (Elt Ideal)) (x1 x2 : (⟨S8192x256, .f32⟩ : BufTy).Contents (Elt Ideal))
  (x3 : (⟨S8192x512, .bf16⟩ : BufTy).Contents (Elt Ideal)) (x4 : (⟨S8192, .i32⟩ : BufTy).Contents (Elt Ideal))

/-- The three parts of a head, padded with zeros and added. -/
theorem parts (C S : Fin 8 → EReal) (f : ℕ → EReal) (h : ℕ) (j : Fin 64) (v : Fin 64 → EReal) (hv : ∀ k, v k = f (64 * h + k.val)) :
    (((if a : 16 ≤ j.val ∧ j.val - 16 < 48 then v ⟨16 + (j.val - 16), by omega⟩ else 0)
      + if a : 8 ≤ j.val ∧ j.val - 8 < 8 then v ⟨8 + (j.val - 8), by omega⟩ * C ⟨j.val - 8, a.2⟩ + -v ⟨j.val - 8, by omega⟩ * S ⟨j.val - 8, a.2⟩ else 0)
      + if a : j.val < 8 then v ⟨8 + j.val, by omega⟩ * S ⟨j.val, a⟩ + v j * C ⟨j.val, a⟩ else 0) = turned C S f (64 * h + j.val) := by
  have hj := j.isLt
  have em : (64 * h + j.val) % 64 = j.val := by omega
  unfold turned
  simp only [em, hv]
  by_cases h8 : j.val < 8
  · have e : (⟨(64 * h + j.val) % 8, by omega⟩ : Fin 8) = ⟨j.val, h8⟩ := Fin.ext (by dsimp only; omega)
    rw [dif_neg (by omega), dif_neg (by omega), dif_pos h8, if_pos h8, zero_add, zero_add, add_comm, e, show 64 * h + (8 + j.val) = 64 * h + j.val + 8 by omega]
  · by_cases h16 : j.val < 16
    · have e : (⟨(64 * h + j.val) % 8, by omega⟩ : Fin 8) = ⟨j.val - 8, by omega⟩ := Fin.ext (by dsimp only; omega)
      rw [dif_neg (by omega), dif_pos (by omega), dif_neg h8, if_neg h8, if_pos h16, zero_add, add_zero, e, neg_mul, ← sub_eq_add_neg,
        show 64 * h + (8 + (j.val - 8)) = 64 * h + j.val by omega, show 64 * h + (j.val - 8) = 64 * h + j.val - 8 by omega]
    · rw [dif_pos (by omega), dif_neg (by omega), dif_neg h8, if_neg h8, if_neg h16, add_zero, add_zero, show 64 * h + (16 + (j.val - 16)) = 64 * h + j.val by omega]

theorem angle_again : val_main_v29 (F := Ideal) x4 = val_main_v12 x4 := rfl

theorem keys_at (r : Fin 8192) (h : Fin 4) (j : Fin 64) :
    val_main_v55 (F := Ideal) x1 x4 (ix3 r h j) = turned (cosOf x4 r) (sinOf x4 r) (rowAt x1 r) (64 * h.val + j.val) := by
  have hv (k : Fin 64) : val_main_v35 (F := Ideal) x1 (ix3 r h k) = rowAt x1 r (64 * h.val + k.val) := by
    unfold val_main_v35
    pointwise
    exact (rowAt_of x1 r _ (by show 64 * h.val + k.val = h.val * 64 + k.val; omega)).symm
  refine Eq.trans ?_ (parts (cosOf x4 r) (sinOf x4 r) (rowAt x1 r) h j (fun k => val_main_v35 (F := Ideal) x1 (ix3 r h k)) hv)
  unfold val_main_v55 val_main_v53 val_main_v40 val_main_v52 val_main_v54 val_main_v39 val_main_v48 val_main_v51
  generalize hp : val_main_v35 (F := Ideal) x1 = y
  unfold val_main_v44 val_main_v47 val_main_v42 val_main_v50 val_main_cst_5 val_main_cst_6 val_main_cst_7 val_main_v45 val_main_v38 val_main_v37 val_main_v41 val_main_v43 val_main_v46 val_main_v49
    val_main_v31 val_main_v33 val_main_v30 val_main_v32
  rw [hp, angle_again]
  pointwise
  simp only [angle_at]
  rfl

theorem queries_at (r : Fin 8192) (h : Fin 16) (j : Fin 64) :
    val_main_v75 (F := Ideal) x0 x4 (ix3 r h j) = turned (cosOf x4 r) (sinOf x4 r) (rowAt x0 r) (64 * h.val + j.val) := by
  have hv (k : Fin 64) : val_main_v34 (F := Ideal) x0 (ix3 r h k) = rowAt x0 r (64 * h.val + k.val) := by
    unfold val_main_v34
    pointwise
    exact (rowAt_of x0 r _ (by show 64 * h.val + k.val = h.val * 64 + k.val; omega)).symm
  refine Eq.trans ?_ (parts (cosOf x4 r) (sinOf x4 r) (rowAt x0 r) h j (fun k => val_main_v34 (F := Ideal) x0 (ix3 r h k)) hv)
  unfold val_main_v75 val_main_v73 val_main_v60 val_main_v72 val_main_v74 val_main_v59 val_main_v68 val_main_v71
  generalize hp : val_main_v34 (F := Ideal) x0 = y
  unfold val_main_v64 val_main_v67 val_main_v62 val_main_v70 val_main_cst_8 val_main_cst_9 val_main_cst_10 val_main_v65 val_main_v58 val_main_v57 val_main_v61 val_main_v63 val_main_v66 val_main_v69
    val_main_v14 val_main_v16 val_main_v13 val_main_v15
  rw [hp]
  pointwise
  simp only [angle_at]
  rfl

/-- The reference's result. -/
theorem dp_result : val_main_v78 (F := Ideal) x0 x1 x2 x3 x4 = gradArr x0 x1 x2 x3 x4 := by
  funext y
  obtain ⟨r, k, rfl⟩ : ∃ r k, y = ix2 r k := ⟨y 0, y 1, eq_ix2 y⟩
  have hq (k : Fin 1024) : val_main_v76 (F := Ideal) x0 x4 (ix2 r k) = turned (cosOf x4 r) (sinOf x4 r) (rowAt x0 r) k.val := by
    unfold val_main_v76
    generalize hp : val_main_v75 (F := Ideal) x0 x4 = p
    pointwise
    subst hp
    rw [queries_at]
    exact congrArg _ (by dsimp only; omega)
  have hk (k : Fin 256) : val_main_v56 (F := Ideal) x1 x4 (ix2 r k) = turned (cosOf x4 r) (sinOf x4 r) (rowAt x1 r) k.val := by
    unfold val_main_v56
    generalize hp : val_main_v55 (F := Ideal) x1 x4 = p
    pointwise
    subst hp
    rw [keys_at]
    exact congrArg _ (by dsimp only; omega)
  unfold val_main_v78 val_main_v77 val_main_v36
  generalize hp : val_main_v76 (F := Ideal) x0 x4 = p at hq ⊢
  generalize hp' : val_main_v56 (F := Ideal) x1 x4 = p' at hk ⊢
  pointwise
  have hlt := k.isLt
  show _ = if k.val < 1024 then turned (cosOf x4 r) (sinOf x4 r) (rowAt x0 r) k.val
    else if k.val < 1280 then turned (cosOf x4 r) (sinOf x4 r) (rowAt x1 r) (k.val - 1024)
    else if k.val < 1536 then rowAt x2 r (k.val - 1280) else rowAt x3 r (k.val - 1536)
  by_cases h0 : k.val < 1024
  · rw [dif_pos h0, if_pos h0, hq]
  rw [dif_neg h0, if_neg h0]
  by_cases h1 : k.val < 1280
  · rw [dif_pos (by omega), if_pos h1, hk]
  rw [dif_neg (by omega), if_neg h1]
  by_cases h2 : k.val < 1536
  · rw [dif_pos (by omega), if_pos h2]
    exact (rowAt_of x2 r _ (by dsimp only; omega)).symm
  · rw [dif_neg (by omega), if_neg h2]
    exact (rowAt_of x3 r _ (by dsimp only; omega)).symm

end Cert.Reference20Ideal.Stages

end
-- ==== Proof.MemFirst.lean ====
/-
  The first layer's attention over the memory. Its queries lie at other columns of a narrower projection; with that projection
  put behind 512 columns that nobody reads, both sides are the other layer's memory attention, and its lemmas are used.
-/
module

public import proofs.«01_k».proof.Pre_memory_finite
public import proofs.«01_k».proof.Proof.Gen.Kernel21Ideal.Value
public import proofs.«01_k».proof.Proof.Gen.Reference21Ideal.Read
public import proofs.«01_k».proof.Proof.MemFwd
public import proofs.«01_k».proof.Proof.Pre

@[expose] public section

set_option maxRecDepth 16384

noncomputable section

open Idealize.ShloMosaic Idealize.ShloMosaic.TcCoe Idealize.SL.Sem
open Idealize.ShloMosaic.Pipeline (Dat)

namespace Cert.MemFirst

open Cert.MemAttn

/-- Column `x` of head `h`'s queries in this layer's projection. -/
def nc (h : Fin 4) (x : Fin 128) : Fin 2048 := ⟨1536 + 128 * h.val + x.val, by omega⟩

/-- The projection behind 512 columns of zeros. -/
def wide (P : (⟨2, ![8192, 2048]⟩ : Shape).Idx → EReal) : (⟨2, ![8192, 2560]⟩ : Shape).Idx → EReal :=
  fun y => if h : 512 ≤ (y 1).val then P (ix2 (y 0) ⟨(y 1).val - 512, by have h1 : (y 1).val < 2560 := (y 1).isLt; omega⟩) else 0

theorem query_wide (P : (⟨2, ![8192, 2048]⟩ : Shape).Idx → EReal) (h : Fin 4) (r : Fin 8192) (x : Fin 128) :
    query (wide P) h r x = P (ix2 r (nc h x)) := by
  refine (dif_pos (show 512 ≤ 2048 + 128 * h.val + x.val by omega)).trans ?_
  exact congrArg (fun k => P (ix2 r k)) (Fin.ext (by show 2048 + 128 * h.val + x.val - 512 = 1536 + 128 * h.val + x.val; omega))

end Cert.MemFirst

namespace Cert.Pre_memory_finite

theorem facts : Facts where
  slices_S8192x2048_S8192x512_0_1536 := by decide
  bcast_S_S8192x512 := by decide
  slices_S256x1024_S256x512_0_0 := by decide
  bitsLt_bf16_f32 := by decide
  bcast_S_S256x512 := by decide

open Cert.MemAttn Cert.MemFirst
open Cert.Pre_finite (finite_of_abs)

variable [Facts] (P : FVec Ideal S8192x2048 .f32) (M : FVec Ideal S256x1024 .bf16) (D : FVec Ideal S8192x1536 .bf16)

theorem query_finite (hp : (fn (F := Ideal) P M D).1 = fun _ => 1#1) (h : Fin 4) (r : Fin 8192) (x : Fin 128) :
    Finite (query (wide P) h r x) := by
  have e := congrFun hp (ix2 r ⟨128 * h.val + x.val, by omega⟩)
  unfold fn at e
  pointwise at e
  have e' := finite_of_abs _ e
  have hc : (⟨1536 + (128 * h.val + x.val), by omega⟩ : Fin 2048) = nc h x := Fin.ext (by show 1536 + (128 * h.val + x.val) = 1536 + 128 * h.val + x.val; omega)
  rw [hc] at e'
  rw [query_wide]
  exact e'

theorem keys_finite (hp : (fn (F := Ideal) P M D).2 = fun _ => 1#1) (h : Fin 4) (j : Fin 256) (x : Fin 128) :
    Finite (keys M h j x) := by
  have e := congrFun hp (ix2 j ⟨128 * h.val + x.val, by omega⟩)
  unfold fn at e
  pointwise at e
  exact finite_of_abs _ e

end Cert.Pre_memory_finite

namespace Cert.Kernel21Ideal.Array

open Cert.Kernel21Ideal Cert.Kernel21Ideal.Gen Cert.Kernel21Ideal.Value Cert.MemAttn Cert.MemFwd Cert.MemFirst
open Cert.KernelIdeal.Block (rowOf)
open Cert.Kernel10Ideal.Array (head)

section Point
variable (c : Dev nD) (i : grid0.Coords) (a1 : Memref sig .tc .vmem S512x512 .f32) (h1 : a1.IsWhole)
  (a2 : Memref sig .tc .vmem S256x1024 .bf16) (h2 : a2.IsWhole) (a4 : Memref sig .tc .vmem S512x512 .bf16) (h4 : a4.IsWhole)
  (x0 : Vec Ideal S512x512 .f32) (x1 : Vec Ideal S256x1024 .bf16)

/-- What a point leaves in the result's block. -/
theorem out_A (h : Fin 4) (r : Fin 512) (d : Fin 128) :
    out0_A_2 (F := Ideal) c i a1 h1 a2 h2 a4 h4 x0 x1 (ix2 r (qc h d)) = rowOut (keys x1 h) (vals x1 h) (rowOf x0 h r) d := by
  unfold out0_A_2
  rw [View.read_writes_eq_canon _ _ _ (cover0_A_2 c i a1 h1 a2 h2 a4 h4 x0 x1)]
  unfold kernelRun0_A
  dsimp only
  sl_unfold_words
  simp only [View.readAt_eq_ld, h1.read_unread, h2.read_unread]
  refine (Cert.Cols.canon_four_of (R := 512) (w := 128) rfl rfl rfl rfl _ _ _ _ _ _ _ _ h r (qc h d) d rfl).trans ?_
  match h with
  | 0 => exact head x0 x1 0 _ _ _ rfl rfl r d
  | 1 => exact head x0 x1 1 _ _ _ rfl rfl r d
  | 2 => exact head x0 x1 2 _ _ _ rfl rfl r d
  | 3 => exact head x0 x1 3 _ _ _ rfl rfl r d

end Point

/-! ## The array -/

variable (m : (ℓ : Loc nD τ sig) → Buf (Elt Ideal) ℓ) (c : Dev nD)

/-- The three arguments. -/
abbrev P : S8192x2048.Idx → EReal := m ((c : Thread nD τ).loc main_arg0)
abbrev M : S256x1024.Idx → EReal := m ((c : Thread nD τ).loc main_arg1)
abbrev Y : S8192x1536.Idx → EReal := m ((c : Thread nD τ).loc main_arg2)

theorem idx_0 : ∀ t : Fin cfg0.N, win0_0.index t = ![t.val, 3] := (by decide +kernel : ∀ t : Fin grid0.N, win0_0.index t = ![t.val, 3])
theorem idx_1 : ∀ t : Fin cfg0.N, win0_1.index t = ![0, 0] := (by decide +kernel : ∀ t : Fin grid0.N, win0_1.index t = ![0, 0])
theorem idx_2 : ∀ t : Fin cfg0.N, win0_2.index t = ![t.val, 2] := (by decide +kernel : ∀ t : Fin grid0.N, win0_2.index t = ![t.val, 2])

/-- Row `r` of block `t`. -/
def rowAt (t : Fin cfg0.N) (r : Fin 512) : Fin 8192 := ⟨t.val * 512 + r.val, by have := t.isLt; have : cfg0.N = 16 := N_0; omega⟩

theorem block_0 (t : Fin cfg0.N) (h : Fin 4) (r : Fin 512) : rowOf (iblk m c 0 t) h r = query (wide (P m c)) h (rowAt t r) := by
  funext x
  rw [query_wide]
  show iblk m c 0 t (ix2 r (qc h x)) = P m c (ix2 (rowAt t r) (nc h x))
  blk_simp [iblk]
  rw [V_main_arg0]
  refine congrArg (P m c) ?_
  blk_ext [idx_0, rowAt, qc, nc]

theorem block_1 (t : Fin cfg0.N) : (iblk m c 1 t : S256x1024.Idx → EReal) = M m c := by
  funext y
  blk_simp [iblk]
  rw [V_main_arg1]
  refine congrArg (M m c) ?_
  blk_ext [idx_1]

/-- The buffer the call writes into starts as a copy of the third argument. -/
theorem entry_eq : (V m c main_v0 : S8192x1536.Idx → EReal) = Y m c := by
  unfold V
  rw [StableHlo.after_cons, StableHlo.after_nil, StableHlo.unary_result]
  rfl

theorem outs_2 (t : Fin cfg0.N) (h : Fin 4) (r : Fin 512) (d : Fin 128) :
    outsAt0 m c t (ix2 r (qc h d)) = outAt (wide (P m c)) (M m c) h (rowAt t r) d := by
  unfold outsAt0
  rw [out_A, block_0, block_1]
  rfl

/-- The result array. -/
theorem cat_array : (dats m 0 c).arrAt 2 cfg0.N = catArr (wide (P m c)) (M m c) (Y m c) := by
  refine ((dats m 0 c).arrAt_eq_of_coversWhere 2 (memArr (wide (P m c)) (M m c))
    (P := fun y : S8192x1536.Idx => 2 ≤ (y 1).val / 512) (fun β => 2 ≤ β (1 : Fin 2)) (by decide +kernel) (fun t hf y => ?_) (fun j => Iff.rfl)).trans ?_
  · obtain ⟨r, x, rfl⟩ : ∃ r x, y = ix2 r x := ⟨y 0, y 1, eq_ix2 y⟩
    obtain ⟨h, d, rfl⟩ := qc_onto x
    blk_simp
    rw [after0_2]
    refine (outs_2 m c t h r d).trans ((memArr_cc _ _ h _ d).symm.trans ?_)
    refine congrArg _ ?_
    blk_ext [idx_2, rowAt, qc, cc]
  · funext y
    have e : (dats m 0 c).A 2 = Y m c := (A_eq m c 2).trans (entry_eq m c)
    unfold catArr
    rw [e]

end Cert.Kernel21Ideal.Array

namespace Cert.Reference21Ideal.Stages

open Cert.Reference21Ideal Cert.Reference21Ideal.Gen Cert.Reference21Ideal.Read Cert.MemAttn Cert.MemFwd Cert.MemFirst

variable (x0 : (⟨S8192x2048, .f32⟩ : BufTy).Contents (Elt Ideal)) (x1 : (⟨S256x1024, .bf16⟩ : BufTy).Contents (Elt Ideal))
  (x2 : (⟨S8192x1536, .bf16⟩ : BufTy).Contents (Elt Ideal))

theorem query_at (r : Fin 8192) (h : Fin 4) (x : Fin 128) : val_main_v8 (F := Ideal) x0 (ix4 0 r h x) = query (wide x0) h r x := by
  rw [query_wide]
  unfold val_main_v8 val_main_v1 val_main_v0
  pointwise
  exact congrArg (fun y => x0 (ix2 r y)) (Fin.ext (by show 1536 + (h.val * 128 + x.val) = 1536 + 128 * h.val + x.val; omega))

/-- The queries are the wide projection's; what follows them is the other layer's. -/
theorem queries_eq : val_main_v8 (F := Ideal) x0 = Cert.Reference10Ideal.Read.val_main_v8 (F := Ideal) (wide x0) := by
  funext y
  obtain ⟨z, r, h, x, rfl⟩ : ∃ z r h x, y = ix4 z r h x := ⟨y 0, y 1, y 2, y 3, eq_ix4 y⟩
  obtain rfl : z = 0 := Subsingleton.elim _ _
  rw [query_at, Cert.Reference10Ideal.Stages.query_at]

theorem attention_eq : val_main_v24 (F := Ideal) x0 x1 = Cert.Reference10Ideal.Read.val_main_v24 (F := Ideal) (wide x0) x1 := by
  have e : val_main_v11 (F := Ideal) x0 x1 = Cert.Reference10Ideal.Read.val_main_v11 (F := Ideal) (wide x0) x1 := by
    unfold val_main_v11 val_main_v9
    rw [queries_eq]
    rfl
  have e' : val_main_v18 (F := Ideal) x0 x1 = Cert.Reference10Ideal.Read.val_main_v18 (F := Ideal) (wide x0) x1 := by
    unfold val_main_v18 val_main_v17 val_main_v16 val_main_v15 val_main_v14 val_main_v12
    rw [e]
    rfl
  unfold val_main_v24 val_main_v23 val_main_v22 val_main_v21 val_main_v20 val_main_v19
  rw [e']
  rfl

theorem cat_result (hq : ∀ h r x, Finite (query (wide x0) h r x)) (hk : ∀ h j x, Finite (keys x1 h j x)) :
    val_main_v29 (F := Ideal) x0 x1 x2 = catArr (wide x0) x1 x2 := by
  refine Eq.trans ?_ (Cert.Reference10Ideal.Stages.cat_result (wide x0) x1 x2 hq hk)
  unfold val_main_v29 val_main_v28 val_main_v27 val_main_v26 val_main_v25
  rw [attention_eq]
  rfl

end Cert.Reference21Ideal.Stages

end
-- ==== Proof.MemProj.lean ====
/-
  The memory's projection to keys and values: in the first layer the memory's rows are normed and scaled by the gain before
  they meet the weight, and the normed rows are a result too; in the second layer the same normed rows meet that layer's weight.
-/
module

public import proofs.«01_k».proof.Proof.Gen.Kernel22Ideal.Value
public import proofs.«01_k».proof.Proof.Gen.Kernel23Ideal.Value
public import proofs.«01_k».proof.Proof.Gen.Reference22Ideal.Read
public import proofs.«01_k».proof.Proof.Gen.Reference23Ideal.Read
public import proofs.«01_k».proof.Proof.Norm
public import proofs.«01_k».proof.Proof.Cols
public import Idealize.ShloMosaic.Lib.Pipeline.Value
public import Idealize.ShloMosaic.Lib.Pipeline.ValueKit
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.MemProj

/-- The memory's rows, normed and scaled by the gain. -/
def hArr (X : (⟨2, ![256, 1024]⟩ : Shape).Idx → EReal) (G : (⟨1, ![1024]⟩ : Shape).Idx → EReal) :
    (⟨2, ![256, 1024]⟩ : Shape).Idx → EReal := fun y => Norm.normed (fun j => X (ix2 (y 0) j)) (y 1) * G (ix1 (y 1))

/-- The product of rows `H` with the one slab of the weight. -/
def kvArr (H : (⟨2, ![256, 1024]⟩ : Shape).Idx → EReal) (W : (⟨3, ![1, 1024, 1024]⟩ : Shape).Idx → EReal) :
    (⟨2, ![256, 1024]⟩ : Shape).Idx → EReal := fun y => ∑ j : Fin 1024, H (ix2 (y 0) j) * W (ix3 0 j (y 1))

theorem zero3 : (![0, 0, 0] : Fin 3 → ℕ) = fun _ => 0 := funext fun a => by fin_cases a <;> rfl

end Cert.MemProj

namespace Cert.Kernel22Ideal.Array

open Cert.Kernel22Ideal Cert.Kernel22Ideal.Gen Cert.MemProj Cert.Cols

/-! ## The stored values at an index -/

section Payloads
variable (X : Vec Ideal S256x1024 .f32) (G : Vec Ideal S1x1024 .f32) (W : Vec Ideal S1x1024x1024 .bf16) (r : Fin 256) (k : Fin 1024)

theorem pay1_apply : k0_pay1 X G (ix2 r k) = Norm.normed (fun j => X (ix2 r j)) k * G (ix2 0 k) := by
  unfold k0_pay1
  pointwise
  rfl

theorem pay2_apply : k0_pay2 X G W (ix2 r k) = ∑ j, k0_pay1 X G (ix2 r j) * W (ix3 0 j k) := by
  unfold k0_pay2
  generalize k0_pay1 X G = h
  pointwise

end Payloads

/-! ## The blocks, which are the arrays -/

variable (m : (ℓ : Loc nD τ sig) → Buf (Elt Ideal) ℓ) (c : Dev nD)

/-- The three arguments. -/
abbrev X : S256x1024.Idx → EReal := m ((c : Thread nD τ).loc main_arg0)
abbrev W : S1x1024x1024.Idx → EReal := m ((c : Thread nD τ).loc main_arg1)
abbrev G : S1024.Idx → EReal := m ((c : Thread nD τ).loc main_arg2)

theorem idx_0 : ∀ t : Fin cfg0.N, win0_0.index t = ![0, 0] := (by decide +kernel : ∀ t : Fin grid0.N, win0_0.index t = ![0, 0])
theorem idx_1 : ∀ t : Fin cfg0.N, win0_1.index t = ![0, 0, 0] := (by decide +kernel : ∀ t : Fin grid0.N, win0_1.index t = ![0, 0, 0])
theorem idx_2 : ∀ t : Fin cfg0.N, win0_2.index t = ![0, 0] := (by decide +kernel : ∀ t : Fin grid0.N, win0_2.index t = ![0, 0])
theorem idx_3 : ∀ t : Fin cfg0.N, win0_3.index t = ![0, 0] := (by decide +kernel : ∀ t : Fin grid0.N, win0_3.index t = ![0, 0])
theorem idx_4 : ∀ t : Fin cfg0.N, win0_4.index t = ![0, 0] := (by decide +kernel : ∀ t : Fin grid0.N, win0_4.index t = ![0, 0])

/-- The gain as the call reads it: the host lays it out as one row. -/
theorem gain_row (k : Fin 1024) : V m c main_v0 (ix2 0 k) = G m c (ix1 k) := by
  unfold V
  rw [StableHlo.after_cons, StableHlo.after_nil, StableHlo.reshape_result]
  pointwise

theorem block_0 (t : Fin cfg0.N) : (iblk m c 0 t : S256x1024.Idx → EReal) = X m c := by
  funext y
  blk_simp [iblk]
  rw [V_main_arg0]
  refine congrArg (X m c) ?_
  blk_ext [idx_0]

theorem block_1 (t : Fin cfg0.N) : (iblk m c 1 t : S1x1024x1024.Idx → EReal) = W m c := by
  funext y
  blk_simp [iblk]
  rw [V_main_arg1]
  refine congrArg (W m c) ?_
  blk_ext [idx_1]

theorem block_2 (t : Fin cfg0.N) (k : Fin 1024) : iblk m c 2 t (ix2 0 k) = G m c (ix1 k) := by
  blk_simp [iblk]
  refine Eq.trans (congrArg (V m c main_v0) ?_) (gain_row m c k)
  blk_ext [idx_2]

/-! ## What the one point leaves -/

theorem h_at (t : Fin cfg0.N) (r : Fin 256) (k : Fin 1024) :
    k0_pay1 (F := Ideal) (iblk m c 0 t) (iblk m c 2 t) (ix2 r k) = hArr (X m c) (G m c) (ix2 r k) := by
  rw [pay1_apply, block_2, block_0]
  rfl

theorem out_4 (t : Fin cfg0.N) (r : Fin 256) (k : Fin 1024) :
    out0_4 (iblk m c 0 t) (iblk m c 1 t) (iblk m c 2 t) (ix2 r k) = hArr (X m c) (G m c) (ix2 r k) := by
  unfold out0_4 r0_0 r0_1
  rw [View.canon_cons_unit_zero (S := S256x1024) zero2, View.ld_unit_zero (S := S256x1024) zero2, View.ld_unit_zero (S := S1x1024) zero2]
  exact h_at m c t r k

theorem out_3 (t : Fin cfg0.N) (r : Fin 256) (k : Fin 1024) :
    out0_3 (iblk m c 0 t) (iblk m c 1 t) (iblk m c 2 t) (ix2 r k) = kvArr (hArr (X m c) (G m c)) (W m c) (ix2 r k) := by
  unfold out0_3 r0_0 r0_1 r0_2
  rw [View.canon_cons_unit_zero (S := S256x1024) zero2, View.ld_unit_zero (S := S256x1024) zero2, View.ld_unit_zero (S := S1x1024) zero2,
    View.ld_unit_zero (S := S1x1024x1024) zero3, pay2_apply, block_1]
  exact Finset.sum_congr rfl fun j _ => congrArg (· * _) (h_at m c t r j)

/-! ## The arrays -/

theorem kv_array : (dats m 0 c).arrAt 3 cfg0.N = kvArr (hArr (X m c) (G m c)) (W m c) := by
  refine (dats m 0 c).arrAt_eq_of_covers 3 _ (by decide +kernel) fun t hf y => ?_
  obtain ⟨r, k, rfl⟩ : ∃ r k, y = ix2 r k := ⟨y 0, y 1, eq_ix2 y⟩
  blk_simp
  rw [after0_3]
  refine (out_3 m c t r k).trans (congrArg _ ?_)
  blk_ext [idx_3]

theorem h_array : (dats m 0 c).arrAt 4 cfg0.N = hArr (X m c) (G m c) := by
  refine (dats m 0 c).arrAt_eq_of_covers 4 _ (by decide +kernel) fun t hf y => ?_
  obtain ⟨r, k, rfl⟩ : ∃ r k, y = ix2 r k := ⟨y 0, y 1, eq_ix2 y⟩
  blk_simp
  rw [after0_4]
  refine (out_4 m c t r k).trans (congrArg _ ?_)
  blk_ext [idx_4]

end Cert.Kernel22Ideal.Array

namespace Cert.Kernel23Ideal.Array

open Cert.Kernel23Ideal Cert.Kernel23Ideal.Gen Cert.Kernel23Ideal.Value Cert.MemProj

variable (m : (ℓ : Loc nD τ sig) → Buf (Elt Ideal) ℓ) (c : Dev nD)

/-- The second layer's call is one product. -/
theorem kv_array : (dats m 0 c).arrAt 2 cfg0.N
    = kvArr (m ((c : Thread nD τ).loc main_arg0)) (m ((c : Thread nD τ).loc main_arg1)) := by
  refine (final2 m c).trans (funext fun y => ?_)
  obtain ⟨r, k, rfl⟩ : ∃ r k, y = ix2 r k := ⟨y 0, y 1, eq_ix2 y⟩
  unfold G2 k0_pay1
  pointwise
  rfl

end Cert.Kernel23Ideal.Array

namespace Cert.Reference22Ideal.Stages

open Cert.Reference22Ideal Cert.Reference22Ideal.Gen Cert.Reference22Ideal.Read Cert.MemProj

variable (x0 : (⟨S256x1024, .f32⟩ : BufTy).Contents (Elt Ideal)) (x1 : (⟨S1x1024x1024, .bf16⟩ : BufTy).Contents (Elt Ideal))
  (x2 : (⟨S1024, .f32⟩ : BufTy).Contents (Elt Ideal))

/-- The reciprocal root of the mean square. -/
theorem inv_at (r : Fin 256) (k : Fin 1024) : val_main_v8 (F := Ideal) x0 (ix2 r k) = Norm.inv (fun j => x0 (ix2 r j)) := by
  unfold val_main_v8 val_main_v7 val_main_v6 val_main_v5 val_main_cst_1 val_main_v4 val_main_v3 val_main_cst_0 val_main_v2 val_main_v1
    val_main_cst val_main_v0
  pointwise
  rfl

theorem h_at (r : Fin 256) (k : Fin 1024) : val_main_v12 (F := Ideal) x0 x2 (ix2 r k) = hArr x0 x2 (ix2 r k) := by
  unfold val_main_v12 val_main_v11 val_main_v10 val_main_v9
  pointwise
  rw [inv_at]
  rfl

theorem weight_at (k n : Fin 1024) : val_main_v15 (F := Ideal) x1 (ix2 k n) = x1 (ix3 0 k n) := by
  rw [val_main_v15_apply, val_main_v14_apply]
  refine congrArg x1 (funext fun a => Fin.ext ?_)
  match a with
  | ⟨0, _⟩ => exact congrArg Fin.val (Subsingleton.elim (α := Fin 1) _ _)
  | ⟨1, _⟩ => show (k.val * 1024 + n.val) / 1024 = k.val; omega
  | ⟨2, _⟩ => show (k.val * 1024 + n.val) % 1024 = n.val; omega

theorem kv_result : val_main_v17 (F := Ideal) x0 x1 x2 = kvArr (hArr x0 x2) x1 := by
  funext y
  obtain ⟨r, k, rfl⟩ : ∃ r k, y = ix2 r k := ⟨y 0, y 1, eq_ix2 y⟩
  unfold val_main_v17 val_main_v16
  pointwise
  simp only [h_at, weight_at]
  rfl

theorem h_result : val_main_v18 (F := Ideal) x0 x2 = hArr x0 x2 := by
  funext y
  obtain ⟨r, k, rfl⟩ : ∃ r k, y = ix2 r k := ⟨y 0, y 1, eq_ix2 y⟩
  exact h_at x0 x2 r k

end Cert.Reference22Ideal.Stages

namespace Cert.Reference23Ideal.Stages

open Cert.Reference23Ideal Cert.Reference23Ideal.Gen Cert.Reference23Ideal.Read Cert.MemProj

variable (x0 : (⟨S256x1024, .bf16⟩ : BufTy).Contents (Elt Ideal)) (x1 : (⟨S1x1024x1024, .bf16⟩ : BufTy).Contents (Elt Ideal))

/-- The weight is laid out as in the first layer. -/
theorem kv_result : val_main_v5 (F := Ideal) x0 x1 = kvArr x0 x1 := by
  funext y
  obtain ⟨r, k, rfl⟩ : ∃ r k, y = ix2 r k := ⟨y 0, y 1, eq_ix2 y⟩
  unfold val_main_v5 val_main_v4 val_main_v0
  pointwise
  exact Finset.sum_congr rfl fun j _ => congrArg (_ * ·) (Reference22Ideal.Stages.weight_at x1 j k)

end Cert.Reference23Ideal.Stages

end
-- ==== Proof.MemGrad.lean ====
/-
  The memory's gradient and its norm gain's: what both layers' projections send back to the normed rows is added up, and the
  norm's gradient follows.
-/
module

public import proofs.«01_k».proof.Proof.Gen.Kernel24Ideal.Value
public import proofs.«01_k».proof.Proof.Gen.Reference24Ideal.Read
public import proofs.«01_k».proof.Proof.Norm
public import proofs.«01_k».proof.Proof.Cols
public import Idealize.ShloMosaic.Lib.Pipeline.Value
public import Idealize.ShloMosaic.Lib.Pipeline.ValueKit
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.MemGrad

/-- What one layer's projection sends back to row `r` at column `k`: cotangents `D`, weight `W`. -/
def backAt (D : (⟨2, ![256, 1024]⟩ : Shape).Idx → EReal) (W : (⟨3, ![1, 1024, 1024]⟩ : Shape).Idx → EReal) (r : Fin 256) (k : Fin 1024) : EReal :=
  ∑ j : Fin 1024, D (ix2 r j) * W (ix3 0 k j)

section
variable (D E : (⟨2, ![256, 1024]⟩ : Shape).Idx → EReal) (W U : (⟨3, ![1, 1024, 1024]⟩ : Shape).Idx → EReal)
  (X : (⟨2, ![256, 1024]⟩ : Shape).Idx → EReal) (G : (⟨1, ![1024]⟩ : Shape).Idx → EReal)

/-- What both layers send back. -/
def sumAt (r : Fin 256) (k : Fin 1024) : EReal := backAt D W r k + backAt E U r k

/-- The memory's gradient, and the gain's. -/
def gxArr : (⟨2, ![256, 1024]⟩ : Shape).Idx → EReal :=
  fun y => Norm.grad (fun j => X (ix2 (y 0) j)) (fun j => sumAt D E W U (y 0) j * G (ix1 j)) (y 1)
def ggArr : (⟨2, ![1, 1024]⟩ : Shape).Idx → EReal :=
  fun y => ∑ r : Fin 256, sumAt D E W U r (y 1) * Norm.normed (fun j => X (ix2 r j)) (y 1)
end

/-- Place `j` of the first and of the second half of 2048 columns. -/
def left (j : Fin 1024) : Fin 2048 := ⟨j.val, by omega⟩
def right (j : Fin 1024) : Fin 2048 := ⟨1024 + j.val, by omega⟩

end Cert.MemGrad

namespace Cert.Kernel24Ideal.Array

open Cert.Kernel24Ideal Cert.Kernel24Ideal.Gen Cert.MemGrad Cert.Cols

/-! ## The stored values at an index -/

section Payloads
variable (D E : Vec Ideal S256x1024 .bf16) (W U : Vec Ideal S1x1024x1024 .bf16) (X : Vec Ideal S256x1024 .f32) (G : Vec Ideal S1x1024 .f32)
  (r : Fin 256) (k : Fin 1024)

theorem pay4_apply : k0_pay4 D W E U (ix2 r k) = sumAt D E W U r k := by
  unfold k0_pay4
  pointwise
  rfl

theorem pay5_apply : k0_pay5 X (ix2 r 0) = Norm.inv (fun j => X (ix2 r j)) := by
  unfold k0_pay5
  pointwise
  rfl

theorem pay6_apply : k0_pay6 X (ix2 r k) = Norm.normed (fun j => X (ix2 r j)) k := by
  unfold k0_pay6
  generalize hp : k0_pay5 X = q
  pointwise
  rw [← hp, pay5_apply]
  rfl

/-- The gradient of the memory. -/
theorem pay7_apply : k0_pay7 D W E U X G (ix2 r k)
    = Norm.grad (fun j => X (ix2 r j)) (fun j => sumAt D E W U r j * G (ix2 0 j)) k := by
  unfold Norm.grad
  simp only [← pay4_apply, ← pay5_apply, ← pay6_apply]
  unfold k0_pay7
  generalize k0_pay4 D W E U = p
  generalize k0_pay5 X = q
  generalize k0_pay6 X = x
  pointwise
  rfl

/-- The gradient of the gain. -/
theorem pay3_apply : k0_pay3 (k0_pay4 D W E U) (k0_pay6 X) (k0_pay2 (F := Ideal)) (ix2 0 k)
    = ∑ r, sumAt D E W U r k * Norm.normed (fun j => X (ix2 r j)) k := by
  simp only [← pay4_apply, ← pay6_apply]
  unfold k0_pay3 k0_pay2
  generalize k0_pay4 D W E U = p
  generalize k0_pay6 X = x
  pointwise

end Payloads

/-! ## The blocks, which are the arrays -/

variable (m : (ℓ : Loc nD τ sig) → Buf (Elt Ideal) ℓ) (c : Dev nD)

/-- The six arguments. -/
abbrev D : S256x1024.Idx → EReal := m ((c : Thread nD τ).loc main_arg0)
abbrev E : S256x1024.Idx → EReal := m ((c : Thread nD τ).loc main_arg1)
abbrev W : S1x1024x1024.Idx → EReal := m ((c : Thread nD τ).loc main_arg2)
abbrev U : S1x1024x1024.Idx → EReal := m ((c : Thread nD τ).loc main_arg3)
abbrev X : S256x1024.Idx → EReal := m ((c : Thread nD τ).loc main_arg4)
abbrev G : S1024.Idx → EReal := m ((c : Thread nD τ).loc main_arg5)

theorem idx_0 : ∀ t : Fin cfg0.N, win0_0.index t = ![0, 0] := (by decide +kernel : ∀ t : Fin grid0.N, win0_0.index t = ![0, 0])
theorem idx_1 : ∀ t : Fin cfg0.N, win0_1.index t = ![0, 0, 0] := (by decide +kernel : ∀ t : Fin grid0.N, win0_1.index t = ![0, 0, 0])
theorem idx_2 : ∀ t : Fin cfg0.N, win0_2.index t = ![0, 0] := (by decide +kernel : ∀ t : Fin grid0.N, win0_2.index t = ![0, 0])
theorem idx_3 : ∀ t : Fin cfg0.N, win0_3.index t = ![0, 0] := (by decide +kernel : ∀ t : Fin grid0.N, win0_3.index t = ![0, 0])
theorem idx_4 : ∀ t : Fin cfg0.N, win0_4.index t = ![0, 0] := (by decide +kernel : ∀ t : Fin grid0.N, win0_4.index t = ![0, 0])
theorem idx_5 : ∀ t : Fin cfg0.N, win0_5.index t = ![0, 0] := (by decide +kernel : ∀ t : Fin grid0.N, win0_5.index t = ![0, 0])
theorem idx_6 : ∀ t : Fin cfg0.N, win0_6.index t = ![0, 0] := (by decide +kernel : ∀ t : Fin grid0.N, win0_6.index t = ![0, 0])

/-- What the host lays out for the call: the weights one above the other, the cotangents side by side, the gain as one row. -/
theorem weights_eq : (V m c main_v0 : S2x1024x1024.Idx → EReal)
    = concatenate S2x1024x1024 0 [⟨S1x1024x1024, W m c⟩, ⟨S1x1024x1024, U m c⟩] concatenates_S1x1024x1024_S1x1024x1024_S2x1024x1024_d0 := by
  unfold V
  after_results_simp <;> (try dsimp only [Matrix.cons_val]) <;> (try after_results_simp) <;> rfl

theorem cotangents_eq : (V m c main_v1 : S256x2048.Idx → EReal)
    = concatenate S256x2048 1 [⟨S256x1024, D m c⟩, ⟨S256x1024, E m c⟩] concatenates_S256x1024_S256x1024_S256x2048_d1 := by
  unfold V
  after_results_simp <;> (try dsimp only [Matrix.cons_val]) <;> (try after_results_simp) <;> rfl

theorem gain_eq : (V m c main_v2 : S1x1024.Idx → EReal) = shapeCast S1x1024 (G m c) shapeCasts_S1024_S1x1024 := by
  unfold V
  after_results_simp <;> (try dsimp only [Matrix.cons_val]) <;> (try after_results_simp) <;> rfl

theorem block_0 (t : Fin cfg0.N) : (iblk m c 0 t : S256x2048.Idx → EReal) = V m c main_v1 := by
  funext y
  blk_simp [iblk]
  refine congrArg (V m c main_v1) ?_
  blk_ext [idx_0]

theorem block_1 (t : Fin cfg0.N) : (iblk m c 1 t : S2x1024x1024.Idx → EReal) = V m c main_v0 := by
  funext y
  blk_simp [iblk]
  refine congrArg (V m c main_v0) ?_
  blk_ext [idx_1]

theorem block_2 (t : Fin cfg0.N) : (iblk m c 2 t : S256x1024.Idx → EReal) = X m c := by
  funext y
  blk_simp [iblk]
  rw [V_main_arg4]
  refine congrArg (X m c) ?_
  blk_ext [idx_2]

theorem block_3 (t : Fin cfg0.N) (k : Fin 1024) : iblk m c 3 t (ix2 0 k) = G m c (ix1 k) := by
  blk_simp [iblk]
  refine Eq.trans (congrArg (V m c main_v2) ?_) (((congrFun (gain_eq m c) (ix2 0 k))).trans ?_)
  · blk_ext [idx_3]
  · pointwise

/-! ## The body's loads -/

theorem left_eq (t : Fin cfg0.N) (inb) :
    View.ld (iblk m c 0 t : S256x2048.Idx → EReal) (Rect.unit (s := S256x2048) ![0, 0] ![256, 1024] inb) = D m c := by
  funext y
  obtain ⟨r, j, rfl⟩ : ∃ r j, y = ix2 r j := ⟨y 0, y 1, eq_ix2 y⟩
  refine (ld_cols (Val := Elt Ideal) (e := .bf16) _ inb r j (left j) (Nat.zero_add _).symm).trans ?_
  rw [block_0, cotangents_eq]
  pointwise
  exact dif_pos j.isLt

theorem right_eq (t : Fin cfg0.N) (inb) :
    View.ld (iblk m c 0 t : S256x2048.Idx → EReal) (Rect.unit (s := S256x2048) ![0, 1024] ![256, 1024] inb) = E m c := by
  funext y
  obtain ⟨r, j, rfl⟩ : ∃ r j, y = ix2 r j := ⟨y 0, y 1, eq_ix2 y⟩
  refine (ld_cols (Val := Elt Ideal) (e := .bf16) _ inb r j (right j) rfl).trans ?_
  rw [block_0, cotangents_eq]
  pointwise
  refine (dif_neg (by show ¬1024 + j.val < 1024; omega)).trans ?_
  exact congrArg (fun k => E m c (ix2 r k)) (Fin.ext (by show 1024 + j.val - 1024 = j.val; omega))

theorem upper_eq (t : Fin cfg0.N) (inb) :
    View.ld (iblk m c 1 t : S2x1024x1024.Idx → EReal) (Rect.unit (s := S2x1024x1024) ![0, 0, 0] ![1, 1024, 1024] inb) = W m c := by
  funext y
  obtain ⟨a, k, j, rfl⟩ : ∃ a k j, y = ix3 a k j := ⟨y 0, y 1, y 2, eq_ix3 y⟩
  obtain rfl : a = 0 := Subsingleton.elim _ _
  refine (ld_slab (Val := Elt Ideal) (e := .bf16) _ inb 0 k j rfl).trans ?_
  rw [block_1, weights_eq]
  pointwise

theorem lower_eq (t : Fin cfg0.N) (inb) :
    View.ld (iblk m c 1 t : S2x1024x1024.Idx → EReal) (Rect.unit (s := S2x1024x1024) ![1, 0, 0] ![1, 1024, 1024] inb) = U m c := by
  funext y
  obtain ⟨a, k, j, rfl⟩ : ∃ a k j, y = ix3 a k j := ⟨y 0, y 1, y 2, eq_ix3 y⟩
  obtain rfl : a = 0 := Subsingleton.elim _ _
  refine (ld_slab (Val := Elt Ideal) (e := .bf16) _ inb 1 k j rfl).trans ?_
  rw [block_1, weights_eq]
  pointwise

/-! ## What the one point leaves -/

section Outs
variable (i : grid0.Coords) (arg1 : Memref sig .tc .vmem S256x2048 .bf16) (h1 : arg1.IsWhole) (arg2 : Memref sig .tc .vmem S2x1024x1024 .bf16)
  (h2 : arg2.IsWhole) (arg3 : Memref sig .tc .vmem S256x1024 .f32) (h3 : arg3.IsWhole) (arg4 : Memref sig .tc .vmem S1x1024 .f32) (h4 : arg4.IsWhole)
  (arg5 : Memref sig .tc .vmem S256x1024 .f32) (h5 : arg5.IsWhole) (arg6 : Memref sig .tc .vmem S256x1024 .bf16) (h6 : arg6.IsWhole)
  (arg7 : Memref sig .tc .vmem S1x1024 .f32) (h7 : arg7.IsWhole) (hc : cond0_0 i)
  (x0 : Vec Ideal S256x2048 .bf16) (x1 : Vec Ideal S2x1024x1024 .bf16) (x2 : Vec Ideal S256x1024 .f32) (x3 : Vec Ideal S1x1024 .f32)

/-- The four loads: the halves of the cotangents and the two weights. -/
abbrev leftOf : Vec Ideal S256x1024 .bf16 := View.ld x0 (Rect.unit (s := S256x2048) ![0, 0] ![256, 1024] inb_S256x2048_S256x1024_0_0)
abbrev rightOf : Vec Ideal S256x1024 .bf16 := View.ld x0 (Rect.unit (s := S256x2048) ![0, 1024] ![256, 1024] inb_S256x2048_S256x1024_0_1024)
abbrev upperOf : Vec Ideal S1x1024x1024 .bf16 := View.ld x1 (Rect.unit (s := S2x1024x1024) ![0, 0, 0] ![1, 1024, 1024] inb_S2x1024x1024_S1x1024x1024_0_0_0)
abbrev lowerOf : Vec Ideal S1x1024x1024 .bf16 := View.ld x1 (Rect.unit (s := S2x1024x1024) ![1, 0, 0] ![1, 1024, 1024] inb_S2x1024x1024_S1x1024x1024_1_0_0)

theorem out_4 : out0_A_4 (F := Ideal) c i arg1 h1 arg2 h2 arg3 h3 arg4 h4 arg5 h5 arg6 h6 arg7 h7 hc x0 x1 x2 x3
    = k0_pay7 (leftOf x0) (upperOf x1) (rightOf x0) (lowerOf x1) x2 x3 := by
  unfold out0_A_4
  rw [View.read_writes_eq_canon _ _ _ (cover0_A_4 c i arg1 h1 arg2 h2 arg3 h3 arg4 h4 arg5 h5 arg6 h6 arg7 h7 hc x0 x1 x2 x3)]
  unfold kernelRun0_A
  dsimp only
  try sl_unfold_words
  rw [View.canon_unit_zero (S := S256x1024) zero2]
  simp only [View.readAt_eq_ld, h1.read_unread, h2.read_unread, h3.read_unread, h4.read_unread, View.ld_unit_zero (S := S256x1024) zero2, View.ld_unit_zero (S := S1x1024) zero2]

theorem out_5 : out0_A_5 (F := Ideal) c i arg1 h1 arg2 h2 arg3 h3 arg4 h4 arg5 h5 arg6 h6 arg7 h7 hc x0 x1 x2 x3
    = k0_pay1 (k0_pay7 (leftOf x0) (upperOf x1) (rightOf x0) (lowerOf x1) x2 x3) := by
  unfold out0_A_5
  rw [View.read_writes_eq_canon _ _ _ (cover0_A_5 c i arg1 h1 arg2 h2 arg3 h3 arg4 h4 arg5 h5 arg6 h6 arg7 h7 hc x0 x1 x2 x3)]
  unfold kernelRun0_A
  dsimp only
  try sl_unfold_words
  rw [View.canon_unit_zero (S := S256x1024) zero2]
  simp only [View.readAt_eq_ld, h1.read_unread, h2.read_unread, h3.read_unread, h4.read_unread, View.ld_unit_zero (S := S256x1024) zero2, View.ld_unit_zero (S := S1x1024) zero2]

theorem out_6 : out0_A_6 (F := Ideal) c i arg1 h1 arg2 h2 arg3 h3 arg4 h4 arg5 h5 arg6 h6 arg7 h7 hc x0 x1 x2 x3
    = k0_pay3 (k0_pay4 (leftOf x0) (upperOf x1) (rightOf x0) (lowerOf x1)) (k0_pay6 x2) (k0_pay2 (F := Ideal)) := by
  unfold out0_A_6
  rw [View.read_writes_eq_canon _ _ _ (cover0_A_6 c i arg1 h1 arg2 h2 arg3 h3 arg4 h4 arg5 h5 arg6 h6 arg7 h7 hc x0 x1 x2 x3)]
  unfold kernelRun0_A
  dsimp only
  try sl_unfold_words
  rw [View.canon_cons_unit_zero (S := S1x1024) zero2, View.readCov_unit_zero (S := S1x1024) _ zero2]
  simp only [View.readAt_eq_ld, h1.read_unread, h2.read_unread, h3.read_unread, h4.read_unread, View.ld_unit_zero (S := S256x1024) zero2, View.ld_unit_zero (S := S1x1024) zero2]

end Outs

/-- The gradient of the memory at an index of the point's block, -/
theorem gx_at (t : Fin cfg0.N) (r : Fin 256) (k : Fin 1024) :
    k0_pay7 (F := Ideal) (leftOf (iblk m c 0 t)) (upperOf (iblk m c 1 t)) (rightOf (iblk m c 0 t)) (lowerOf (iblk m c 1 t)) (iblk m c 2 t) (iblk m c 3 t) (ix2 r k)
      = gxArr (D m c) (E m c) (W m c) (U m c) (X m c) (G m c) (ix2 r k) := by
  refine (pay7_apply ..).trans ?_
  simp only [block_3]
  rw [show leftOf (iblk m c 0 t) = D m c from left_eq m c t _, show rightOf (iblk m c 0 t) = E m c from right_eq m c t _,
    show upperOf (iblk m c 1 t) = W m c from upper_eq m c t _, show lowerOf (iblk m c 1 t) = U m c from lower_eq m c t _, block_2]
  rfl

/-- and of the gain. -/
theorem gg_at (t : Fin cfg0.N) (k : Fin 1024) :
    k0_pay3 (F := Ideal) (k0_pay4 (leftOf (iblk m c 0 t)) (upperOf (iblk m c 1 t)) (rightOf (iblk m c 0 t)) (lowerOf (iblk m c 1 t))) (k0_pay6 (iblk m c 2 t))
        (k0_pay2 (F := Ideal)) (ix2 0 k)
      = ggArr (D m c) (E m c) (W m c) (U m c) (X m c) (ix2 0 k) := by
  refine (pay3_apply ..).trans ?_
  rw [show leftOf (iblk m c 0 t) = D m c from left_eq m c t _, show rightOf (iblk m c 0 t) = E m c from right_eq m c t _,
    show upperOf (iblk m c 1 t) = W m c from upper_eq m c t _, show lowerOf (iblk m c 1 t) = U m c from lower_eq m c t _, block_2]
  rfl

/-- So the three buffers hold them. -/
theorem outs_4 (t : Fin cfg0.N) (r : Fin 256) (k : Fin 1024) :
    (outsAt0 m c t).1 (ix2 r k) = gxArr (D m c) (E m c) (W m c) (U m c) (X m c) (G m c) (ix2 r k) := by
  unfold outsAt0
  dsimp only
  rw [out_4]
  exact gx_at m c t r k

theorem outs_5 (t : Fin cfg0.N) (r : Fin 256) (k : Fin 1024) :
    (outsAt0 m c t).2.1 (ix2 r k) = gxArr (D m c) (E m c) (W m c) (U m c) (X m c) (G m c) (ix2 r k) := by
  unfold outsAt0
  dsimp only
  rw [out_5]
  exact gx_at m c t r k

theorem outs_6 (t : Fin cfg0.N) (k : Fin 1024) :
    (outsAt0 m c t).2.2 (ix2 0 k) = ggArr (D m c) (E m c) (W m c) (U m c) (X m c) (ix2 0 k) := by
  unfold outsAt0
  dsimp only
  rw [out_6]
  exact gg_at m c t k

/-! ## The arrays -/

theorem gx_array : (dats m 0 c).arrAt 4 cfg0.N = gxArr (D m c) (E m c) (W m c) (U m c) (X m c) (G m c) := by
  refine (dats m 0 c).arrAt_eq_of_covers 4 _ (by decide +kernel) fun t hf y => ?_
  obtain ⟨r, k, rfl⟩ : ∃ r k, y = ix2 r k := ⟨y 0, y 1, eq_ix2 y⟩
  blk_simp
  rw [after0_4]
  refine (outs_4 m c t r k).trans (congrArg _ ?_)
  blk_ext [idx_4]

theorem gx16_array : (dats m 0 c).arrAt 5 cfg0.N = gxArr (D m c) (E m c) (W m c) (U m c) (X m c) (G m c) := by
  refine (dats m 0 c).arrAt_eq_of_covers 5 _ (by decide +kernel) fun t hf y => ?_
  obtain ⟨r, k, rfl⟩ : ∃ r k, y = ix2 r k := ⟨y 0, y 1, eq_ix2 y⟩
  blk_simp
  rw [after0_5]
  refine (outs_5 m c t r k).trans (congrArg _ ?_)
  blk_ext [idx_5]

theorem gg_array : (dats m 0 c).arrAt 6 cfg0.N = ggArr (D m c) (E m c) (W m c) (U m c) (X m c) := by
  refine (dats m 0 c).arrAt_eq_of_covers 6 _ (by decide +kernel) fun t hf y => ?_
  obtain ⟨a, k, rfl⟩ : ∃ a k, y = ix2 a k := ⟨y 0, y 1, eq_ix2 y⟩
  obtain rfl : a = 0 := Subsingleton.elim _ _
  blk_simp
  rw [after0_6]
  refine (outs_6 m c t k).trans (congrArg _ ?_)
  blk_ext [idx_6]

end Cert.Kernel24Ideal.Array

namespace Cert.Reference24Ideal.Stages

open Cert.Reference24Ideal Cert.Reference24Ideal.Gen Cert.Reference24Ideal.Read Cert.MemGrad

variable (x0 x1 : (⟨S256x1024, .bf16⟩ : BufTy).Contents (Elt Ideal)) (x2 x3 : (⟨S1x1024x1024, .bf16⟩ : BufTy).Contents (Elt Ideal))
  (x4 : (⟨S256x1024, .f32⟩ : BufTy).Contents (Elt Ideal)) (x5 : (⟨S1024, .f32⟩ : BufTy).Contents (Elt Ideal)) (r : Fin 256) (k : Fin 1024)

/-! ## The norm of the rows -/

theorem ms_at : val_main_v6 (F := Ideal) x4 (ix2 r 0) = Norm.ms (fun j => x4 (ix2 r j)) := by
  unfold val_main_v6 val_main_v5 val_main_cst_1 val_main_v4 val_main_v3 val_main_cst_0 val_main_v2 val_main_v1 val_main_cst val_main_v0
  pointwise
  rfl

theorem inv_at : val_main_v7 (F := Ideal) x4 (ix2 r 0) = Norm.inv (fun j => x4 (ix2 r j)) := by
  unfold val_main_v7
  generalize hp : val_main_v6 (F := Ideal) x4 = q
  pointwise
  rw [← hp, ms_at]
  rfl

theorem normed_at : val_main_v12 (F := Ideal) x4 (ix2 r k) = Norm.normed (fun j => x4 (ix2 r j)) k := by
  unfold val_main_v12 val_main_v11
  generalize hp : val_main_v7 (F := Ideal) x4 = q
  pointwise
  rw [← hp, inv_at]
  rfl

theorem half_at : val_main_v10 (F := Ideal) x4 (ix2 r 0)
    = Norm.negHalf * Ideal.div (Norm.inv (fun j => x4 (ix2 r j))) (Norm.ms (fun j => x4 (ix2 r j))) := by
  unfold val_main_v10 val_main_v9 val_main_cst_2 val_main_v8
  rw [← inv_at, ← ms_at]
  generalize val_main_v7 (F := Ideal) x4 = q
  generalize val_main_v6 (F := Ideal) x4 = t
  pointwise
  rfl

/-! ## What the projections send back -/

/-- A weight as a matrix; the two weights are laid out in the same way. -/
theorem weight_at (n : Fin 1024) : val_main_v18 (F := Ideal) x2 (ix2 k n) = x2 (ix3 0 k n) := by
  rw [val_main_v18_apply, val_main_v17_apply]
  refine congrArg x2 (funext fun a => Fin.ext ?_)
  match a with
  | ⟨0, _⟩ => exact congrArg Fin.val (Subsingleton.elim (α := Fin 1) _ _)
  | ⟨1, _⟩ => show (k.val * 1024 + n.val) / 1024 = k.val; omega
  | ⟨2, _⟩ => show (k.val * 1024 + n.val) % 1024 = n.val; omega

theorem back_at : val_main_v27 (F := Ideal) x0 x2 (ix2 r k) = backAt x0 x2 r k := by
  unfold val_main_v27 val_main_v24
  generalize hp : val_main_v18 (F := Ideal) x2 = w
  pointwise
  subst hp
  exact Finset.sum_congr rfl fun j _ => congrArg (_ * ·) (weight_at x2 k j)

theorem sum_at : val_main_v28 (F := Ideal) x0 x1 x2 x3 (ix2 r k) = sumAt x0 x1 x2 x3 r k :=
  (congrArg₂ (· + ·) (back_at x1 x3 r k) (back_at x0 x2 r k)).trans (add_comm _ _)

theorem dy_at : val_main_v33 (F := Ideal) x0 x1 x2 x3 x5 (ix2 r k) = sumAt x0 x1 x2 x3 r k * x5 (ix1 k) := by
  rw [← sum_at]
  unfold val_main_v33 val_main_v32 val_main_v13
  generalize val_main_v28 (F := Ideal) x0 x1 x2 x3 = p
  pointwise

/-! ## The norm's gradient -/

theorem dot_at : val_main_v37 (F := Ideal) x0 x1 x2 x3 x4 x5 (ix2 r 0)
    = ∑ j, x4 (ix2 r j) * (sumAt x0 x1 x2 x3 r j * x5 (ix1 j)) := by
  unfold val_main_v37 val_main_v36 val_main_v35 val_main_cst_5
  generalize hq : val_main_v33 (F := Ideal) x0 x1 x2 x3 x5 = q
  pointwise
  subst hq
  simp only [dy_at]

theorem coef_at : val_main_v44 (F := Ideal) x0 x1 x2 x3 x4 x5 (ix2 r k)
    = Norm.coef (fun j => x4 (ix2 r j)) (fun j => sumAt x0 x1 x2 x3 r j * x5 (ix1 j)) := by
  unfold Norm.coef
  rw [← dot_at, ← half_at]
  unfold val_main_v44 val_main_v43 val_main_cst_7 val_main_v42 val_main_v41 val_main_cst_6 val_main_v40
  generalize val_main_v37 (F := Ideal) x0 x1 x2 x3 x4 x5 = q
  generalize val_main_v10 (F := Ideal) x4 = t
  pointwise
  exact Fin.sum_univ_one _

theorem gx_at : val_main_v48 (F := Ideal) x0 x1 x2 x3 x4 x5 (ix2 r k) = gxArr x0 x1 x2 x3 x4 x5 (ix2 r k) := by
  refine Eq.trans ?_ (Norm.grad_eq (fun j => x4 (ix2 r j)) (fun j => sumAt x0 x1 x2 x3 r j * x5 (ix1 j)) k)
  unfold Norm.refGrad
  beta_reduce
  rw [← coef_at x0 x1 x2 x3 x4 x5 r k, ← inv_at, ← dy_at]
  unfold val_main_v48 val_main_v47 val_main_v46 val_main_v45 val_main_v39 val_main_v38
  generalize val_main_v44 (F := Ideal) x0 x1 x2 x3 x4 x5 = q
  generalize val_main_v33 (F := Ideal) x0 x1 x2 x3 x5 = d
  generalize val_main_v7 (F := Ideal) x4 = t
  pointwise

theorem gx_result : val_main_v48 (F := Ideal) x0 x1 x2 x3 x4 x5 = gxArr x0 x1 x2 x3 x4 x5 := by
  funext y
  obtain ⟨r, k, rfl⟩ : ∃ r k, y = ix2 r k := ⟨y 0, y 1, eq_ix2 y⟩
  exact gx_at x0 x1 x2 x3 x4 x5 r k

theorem gx16_result : val_main_v49 (F := Ideal) x0 x1 x2 x3 x4 x5 = gxArr x0 x1 x2 x3 x4 x5 := gx_result x0 x1 x2 x3 x4 x5

theorem gg_result : val_main_v50 (F := Ideal) x0 x1 x2 x3 x4 = ggArr x0 x1 x2 x3 x4 := by
  funext y
  obtain ⟨a, k, rfl⟩ : ∃ a k, y = ix2 a k := ⟨y 0, y 1, eq_ix2 y⟩
  obtain rfl : a = 0 := Subsingleton.elim _ _
  unfold val_main_v50 val_main_v34 val_main_cst_4 val_main_v31 val_main_v30 val_main_cst_3 val_main_v29
  generalize hp : val_main_v28 (F := Ideal) x0 x1 x2 x3 = p
  generalize hq : val_main_v12 (F := Ideal) x4 = q
  pointwise
  subst hp hq
  refine (Fin.sum_univ_one _).trans (Finset.sum_congr rfl fun r _ => ?_)
  exact (congrArg₂ (· * ·) (normed_at x4 r k) (sum_at x0 x1 x2 x3 r k)).trans (mul_comm _ _)

end Cert.Reference24Ideal.Stages

end
-- ==== Proof.MemWeight.lean ====
/-
  The gradients of the memory's projection weights: normed rows transposed times the cotangents, 256 rows of the weight at a
  time. The first layer's is an array of its own; the second layer's is written into rows 2048 to 2303 of each of the four
  slabs of an array that other weights' gradients share, and the other rows stay as they were.
-/
module

public import proofs.«01_k».proof.Proof.Gen.Kernel25Ideal.Value
public import proofs.«01_k».proof.Proof.Gen.Kernel26Ideal.Value
public import proofs.«01_k».proof.Proof.Gen.Reference25Ideal.Read
public import proofs.«01_k».proof.Proof.Gen.Reference26Ideal.Read
public import proofs.«01_k».proof.Proof.Cols
public import Idealize.ShloMosaic.Lib.Pipeline.Value
public import Idealize.ShloMosaic.Lib.Pipeline.ValueKit
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.MemWeight

theorem zero3 : (![0, 0, 0] : Fin 3 → ℕ) = fun _ => 0 := funext fun a => by fin_cases a <;> rfl

/-- The gradient at row `k` and column `n` of the weight: normed rows `A`, cotangents `D`. -/
def dwAt (A D : (⟨2, ![256, 1024]⟩ : Shape).Idx → EReal) (k n : Fin 1024) : EReal := ∑ r : Fin 256, A (ix2 r k) * D (ix2 r n)

/-- Row `k` of the 256 rows of slab `s`. -/
def rowAt (s : Fin 4) (k : Fin 256) : Fin 1024 := ⟨s.val * 256 + k.val, by omega⟩

/-- The gradient as one slab of 1024 rows. -/
def dwArr (A D : (⟨2, ![256, 1024]⟩ : Shape).Idx → EReal) : (⟨3, ![1, 1024, 1024]⟩ : Shape).Idx → EReal := fun y => dwAt A D (y 1) (y 2)

/-- The place of a slab's row among the rows of its block. -/
def placeOf (j : Fin 3328) : Fin 256 := ⟨j.val % 256, Nat.mod_lt _ (by decide)⟩

/-- The gradient under every index of the shared array, -/
def sharedArr (A D : (⟨2, ![256, 1024]⟩ : Shape).Idx → EReal) : (⟨3, ![4, 3328, 1024]⟩ : Shape).Idx → EReal :=
  fun y => dwAt A D (rowAt (y 0) (placeOf (y 1))) (y 2)

/-- and the array: the gradient in rows 2048 to 2303 of each slab, what was there before (`P`) in the others. -/
def packedArr (A D : (⟨2, ![256, 1024]⟩ : Shape).Idx → EReal) (P : (⟨3, ![4, 3328, 1024]⟩ : Shape).Idx → EReal) :
    (⟨3, ![4, 3328, 1024]⟩ : Shape).Idx → EReal := fun y => if (y 1).val / 256 = 8 then sharedArr A D y else P y

/-- What an index of the shared array in these rows stands for. -/
theorem at_index (A D : (⟨2, ![256, 1024]⟩ : Shape).Idx → EReal) {s : Fin 4} {k : Fin 256} {n : Fin 1024}
    {z : (⟨3, ![4, 3328, 1024]⟩ : Shape).Idx} (h0 : (z 0).val = s.val) (h1 : (z 1).val = 8 * 256 + k.val) (h2 : (z 2).val = n.val) :
    dwAt A D (rowAt s k) n = sharedArr A D z := by
  have e : placeOf (z 1) = k := Fin.ext (by show (z 1).val % 256 = k.val; omega)
  unfold sharedArr
  rw [e]
  exact congr (congrArg (fun s => dwAt A D (rowAt s k)) (Fin.ext h0.symm)) (Fin.ext h2.symm)

end Cert.MemWeight

namespace Cert.Kernel25Ideal.Array

open Cert.Kernel25Ideal Cert.Kernel25Ideal.Gen Cert.MemWeight Cert.Cols

/-- A point adds a product to what it starts from, which is zero. -/
theorem pay_apply (A : Vec Ideal S256x256 .bf16) (D : Vec Ideal S256x1024 .bf16) (k : Fin 256) (n : Fin 1024) :
    k0_pay2 (k0_pay1 (F := Ideal)) A D (ix3 0 k n) = ∑ r : Fin 256, A (ix2 r k) * D (ix2 r n) := by
  unfold_payloads
  pointwise

/-- What a point leaves. -/
theorem out_2 (c : Dev nD) (i : grid0.Coords) (arg3 : Memref sig .tc .vmem S256x256 .bf16) (h3 : arg3.IsWhole)
    (arg4 : Memref sig .tc .vmem S256x1024 .bf16) (h4 : arg4.IsWhole) (arg5 : Memref sig .tc .vmem S1x256x1024 .f32) (h5 : arg5.IsWhole)
    (x0 : Vec Ideal S256x256 .bf16) (x1 : Vec Ideal S256x1024 .bf16) (hc : cond0_0 i) :
    out0_A_2 (F := Ideal) c i arg3 h3 arg4 h4 arg5 h5 hc x0 x1 = k0_pay2 (k0_pay1 (F := Ideal)) x0 x1 := by
  unfold out0_A_2
  rw [View.read_writes_eq_canon _ _ _ (cover0_A_2 c i arg3 h3 arg4 h4 arg5 h5 hc x0 x1)]
  unfold kernelRun0_A
  dsimp only
  try sl_unfold_words
  rw [View.canon_cons_unit_zero (S := S1x256x1024) zero3, View.readCov_unit_zero (S := S1x256x1024) _ zero3]
  simp only [View.readAt_eq_ld, h3.read_unread, h4.read_unread, View.ld_unit_zero (S := S256x256) zero2, View.ld_unit_zero (S := S256x1024) zero2]

variable (m : (ℓ : Loc nD τ sig) → Buf (Elt Ideal) ℓ) (c : Dev nD)

/-- The two arguments. -/
abbrev A : S256x1024.Idx → EReal := m ((c : Thread nD τ).loc main_arg0)
abbrev D : S256x1024.Idx → EReal := m ((c : Thread nD τ).loc main_arg1)

theorem idx_0 : ∀ t : Fin cfg0.N, win0_0.index t = ![0, t.val] := (by decide +kernel : ∀ t : Fin grid0.N, win0_0.index t = ![0, t.val])
theorem idx_1 : ∀ t : Fin cfg0.N, win0_1.index t = ![0, 0] := (by decide +kernel : ∀ t : Fin grid0.N, win0_1.index t = ![0, 0])
theorem idx_2 : ∀ t : Fin cfg0.N, win0_2.index t = ![0, t.val, 0] := (by decide +kernel : ∀ t : Fin grid0.N, win0_2.index t = ![0, t.val, 0])

/-- The slab of a point's blocks. -/
def slabAt (t : Fin cfg0.N) : Fin 4 := ⟨t.val, by have := t.isLt; have : cfg0.N = 4 := N_0; omega⟩

theorem block_0 (t : Fin cfg0.N) (r k : Fin 256) : iblk m c 0 t (ix2 r k) = A m c (ix2 r (rowAt (slabAt t) k)) := by
  blk_simp [iblk]
  rw [V_main_arg0]
  refine congrArg (A m c) ?_
  blk_ext [idx_0, rowAt, slabAt]

theorem block_1 (t : Fin cfg0.N) : (iblk m c 1 t : S256x1024.Idx → EReal) = D m c := by
  funext y
  blk_simp [iblk]
  rw [V_main_arg1]
  refine congrArg (D m c) ?_
  blk_ext [idx_1]

theorem outs_2 (t : Fin cfg0.N) (k : Fin 256) (n : Fin 1024) :
    outsAt0 m c t (ix3 0 k n) = dwAt (A m c) (D m c) (rowAt (slabAt t) k) n := by
  unfold outsAt0
  rw [out_2, pay_apply, block_1]
  simp only [block_0]
  rfl

/-- The result array. -/
theorem dw_array : (dats m 0 c).arrAt 2 cfg0.N = dwArr (A m c) (D m c) := by
  refine (dats m 0 c).arrAt_eq_of_covers 2 _ (by decide +kernel) fun t hf y => ?_
  obtain ⟨a, k, n, rfl⟩ : ∃ a k n, y = ix3 a k n := ⟨y 0, y 1, y 2, eq_ix3 y⟩
  obtain rfl : a = 0 := Subsingleton.elim _ _
  blk_simp
  rw [after0_2]
  refine (outs_2 m c t k n).trans ?_
  show dwArr (A m c) (D m c) (ix3 0 (rowAt (slabAt t) k) n) = _
  refine congrArg _ ?_
  blk_ext [idx_2, rowAt, slabAt]

end Cert.Kernel25Ideal.Array

namespace Cert.Kernel26Ideal.Array

open Cert.Kernel26Ideal Cert.Kernel26Ideal.Gen Cert.MemWeight Cert.Cols

/-- What a point leaves: the same value as in the first layer. -/
theorem out_2 (c : Dev nD) (i : grid0.Coords) (arg3 : Memref sig .tc .vmem S256x256 .bf16) (h3 : arg3.IsWhole)
    (arg4 : Memref sig .tc .vmem S256x1024 .bf16) (h4 : arg4.IsWhole) (arg6 : Memref sig .tc .vmem S1x256x1024 .f32) (h6 : arg6.IsWhole)
    (x0 : Vec Ideal S256x256 .bf16) (x1 : Vec Ideal S256x1024 .bf16) (hc : cond0_0 i) :
    out0_A_2 (F := Ideal) c i arg3 h3 arg4 h4 arg6 h6 hc x0 x1 = k0_pay2 (k0_pay1 (F := Ideal)) x0 x1 := by
  unfold out0_A_2
  rw [View.read_writes_eq_canon _ _ _ (cover0_A_2 c i arg3 h3 arg4 h4 arg6 h6 hc x0 x1)]
  unfold kernelRun0_A
  dsimp only
  try sl_unfold_words
  rw [View.canon_cons_unit_zero (S := S1x256x1024) zero3, View.readCov_unit_zero (S := S1x256x1024) _ zero3]
  simp only [View.readAt_eq_ld, h3.read_unread, h4.read_unread, View.ld_unit_zero (S := S256x256) zero2, View.ld_unit_zero (S := S256x1024) zero2]

variable (m : (ℓ : Loc nD τ sig) → Buf (Elt Ideal) ℓ) (c : Dev nD)

/-- The three arguments. -/
abbrev A : S256x1024.Idx → EReal := m ((c : Thread nD τ).loc main_arg0)
abbrev D : S256x1024.Idx → EReal := m ((c : Thread nD τ).loc main_arg1)
abbrev P : S4x3328x1024.Idx → EReal := m ((c : Thread nD τ).loc main_arg2)

theorem idx_0 : ∀ t : Fin cfg0.N, win0_0.index t = ![0, t.val] := (by decide +kernel : ∀ t : Fin grid0.N, win0_0.index t = ![0, t.val])
theorem idx_1 : ∀ t : Fin cfg0.N, win0_1.index t = ![0, 0] := (by decide +kernel : ∀ t : Fin grid0.N, win0_1.index t = ![0, 0])
theorem idx_2 : ∀ t : Fin cfg0.N, win0_2.index t = ![t.val, 8, 0] := (by decide +kernel : ∀ t : Fin grid0.N, win0_2.index t = ![t.val, 8, 0])

/-- The slab of a point's blocks. -/
def slabAt (t : Fin cfg0.N) : Fin 4 := ⟨t.val, by have := t.isLt; have : cfg0.N = 4 := N_0; omega⟩

theorem block_0 (t : Fin cfg0.N) (r k : Fin 256) : iblk m c 0 t (ix2 r k) = A m c (ix2 r (rowAt (slabAt t) k)) := by
  blk_simp [iblk]
  rw [V_main_arg0]
  refine congrArg (A m c) ?_
  blk_ext [idx_0, rowAt, slabAt]

theorem block_1 (t : Fin cfg0.N) : (iblk m c 1 t : S256x1024.Idx → EReal) = D m c := by
  funext y
  blk_simp [iblk]
  rw [V_main_arg1]
  refine congrArg (D m c) ?_
  blk_ext [idx_1]

theorem outs_2 (t : Fin cfg0.N) (k : Fin 256) (n : Fin 1024) :
    outsAt0 m c t (ix3 0 k n) = dwAt (A m c) (D m c) (rowAt (slabAt t) k) n := by
  unfold outsAt0
  rw [out_2]
  refine (Kernel25Ideal.Array.pay_apply _ _ k n).trans ?_
  rw [block_1]
  simp only [block_0]
  rfl

/-- The buffer the call writes into starts as a copy of the third argument. -/
theorem entry_eq : (V m c main_v0 : S4x3328x1024.Idx → EReal) = P m c := by
  unfold V
  rw [StableHlo.after_cons, StableHlo.after_nil, StableHlo.unary_result]
  rfl

/-- The result array. -/
theorem packed_array : (dats m 0 c).arrAt 2 cfg0.N = packedArr (A m c) (D m c) (P m c) := by
  refine ((dats m 0 c).arrAt_eq_of_coversWhere 2 (sharedArr (A m c) (D m c))
    (P := fun y : S4x3328x1024.Idx => (y 1).val / 256 = 8) (fun β => β (1 : Fin 3) = 8) (by decide +kernel) (fun t hf y => ?_) (fun j => Iff.rfl)).trans ?_
  · obtain ⟨a, k, n, rfl⟩ : ∃ a k n, y = ix3 a k n := ⟨y 0, y 1, y 2, eq_ix3 y⟩
    obtain rfl : a = 0 := Subsingleton.elim _ _
    blk_simp
    rw [after0_2]
    refine (outs_2 m c t k n).trans ?_
    have e0 : (((cfg0.win 2).blk t).view.emb (ix3 0 k n) 0).val = t.val := by
      show win0_2.index t 0 * 1 + 1 * 0 = t.val
      rw [idx_2]
      show t.val * 1 + 1 * 0 = t.val
      omega
    have e1 : (((cfg0.win 2).blk t).view.emb (ix3 0 k n) 1).val = 8 * 256 + k.val := by blk_simp [idx_2]
    have e2 : (((cfg0.win 2).blk t).view.emb (ix3 0 k n) 2).val = n.val := by
      show win0_2.index t 2 * 1024 + 1 * n.val = n.val
      rw [idx_2]
      show 0 * 1024 + 1 * n.val = n.val
      omega
    exact at_index (A m c) (D m c) (s := slabAt t) e0 e1 e2
  · funext y
    have e : (dats m 0 c).A 2 = P m c := (A_eq m c 2).trans (entry_eq m c)
    unfold packedArr
    rw [e]

end Cert.Kernel26Ideal.Array

namespace Cert.Reference25Ideal.Stages

open Cert.Reference25Ideal Cert.Reference25Ideal.Gen Cert.Reference25Ideal.Read Cert.MemWeight

variable (x0 x1 : (⟨S256x1024, .bf16⟩ : BufTy).Contents (Elt Ideal))

theorem product_at (k n : Fin 1024) : val_main_v3 (F := Ideal) x0 x1 (ix2 k n) = dwAt x0 x1 k n := by
  unfold val_main_v3 val_main_v2 val_main_v1 val_main_v0
  pointwise
  exact Finset.sum_congr rfl fun r _ => mul_comm _ _

theorem dw_result : val_main_v4 (F := Ideal) x0 x1 = dwArr x0 x1 := by
  funext y
  obtain ⟨a, k, n, rfl⟩ : ∃ a k n, y = ix3 a k n := ⟨y 0, y 1, y 2, eq_ix3 y⟩
  unfold val_main_v4
  generalize hp : val_main_v3 (F := Ideal) x0 x1 = p
  pointwise
  subst hp
  exact product_at x0 x1 k n

end Cert.Reference25Ideal.Stages

namespace Cert.Reference26Ideal.Stages

open Cert.Reference26Ideal Cert.Reference26Ideal.Gen Cert.Reference26Ideal.Read Cert.MemWeight

variable (x0 x1 : (⟨S256x1024, .bf16⟩ : BufTy).Contents (Elt Ideal)) (x2 : (⟨S4x3328x1024, .f32⟩ : BufTy).Contents (Elt Ideal))

/-- The product of the first layer's reference, its rows in four slabs. -/
theorem product_at (s : Fin 4) (k : Fin 256) (n : Fin 1024) :
    val_main_v5 (F := Ideal) x0 x1 (ix3 s k n) = dwAt x0 x1 (rowAt s k) n := by
  unfold val_main_v5
  generalize hp : val_main_v3 (F := Ideal) x0 x1 = p
  pointwise
  subst hp
  exact Reference25Ideal.Stages.product_at x0 x1 (rowAt s k) n

theorem packed_result : val_main_v7 (F := Ideal) x0 x1 x2 = packedArr x0 x1 x2 := by
  funext y
  obtain ⟨s, j, n, rfl⟩ : ∃ s j n, y = ix3 s j n := ⟨y 0, y 1, y 2, eq_ix3 y⟩
  unfold val_main_v7 val_main_v4 val_main_v6
  generalize hp : val_main_v5 (F := Ideal) x0 x1 = p
  pointwise
  subst hp
  show _ = if j.val / 256 = 8 then dwAt x0 x1 (rowAt s (placeOf j)) n else x2 (ix3 s j n)
  by_cases hj : j.val < 2048
  · rw [dif_pos hj, if_neg (by omega)]
  refine (dif_neg hj).trans ?_
  by_cases hk : j.val < 2304
  · refine (dif_pos (by omega)).trans (((product_at x0 x1 s _ n).trans ?_).trans (if_pos (by omega)).symm)
    exact congrArg (fun k => dwAt x0 x1 (rowAt s k) n) (Fin.ext (by show j.val - 2048 = j.val % 256; omega))
  · refine (dif_neg (by omega)).trans (Eq.trans ?_ (if_neg (by omega)).symm)
    exact congrArg (fun i => x2 (ix3 s i n)) (Fin.ext (by show 2304 + (j.val - 2048 - 256) = j.val; omega))

end Cert.Reference26Ideal.Stages

end
-- ==== Proof.AdamLarge.lean ====
/-
  The same step at the large weights: the MLP's two, both of 2048 rows, and the output projections', of 768. Everything is
  an instance of what is shown for any number of rows.
-/
module

public import proofs.«01_k».proof.Pre_mlp_moments
public import proofs.«01_k».proof.Pre_out_moments
public import proofs.«01_k».proof.Proof.Adam
public import proofs.«01_k».proof.Proof.Gen.Kernel27Ideal.Value
public import proofs.«01_k».proof.Proof.Gen.Reference27Ideal.Read
public import proofs.«01_k».proof.Proof.Gen.Kernel28Ideal.Value
public import proofs.«01_k».proof.Proof.Gen.Reference28Ideal.Read

@[expose] public section

set_option maxRecDepth 16384

noncomputable section

open Idealize.ShloMosaic Idealize.ShloMosaic.TcCoe Idealize.SL.Sem Cert.Adam Cert.MemAttn

/-! ## The MLP's weights -/

namespace Cert.Kernel27Ideal.Array

open Cert.Kernel27Ideal Cert.Kernel27Ideal.Gen

variable (m : (ℓ : Loc nD τ sig) → Buf (Elt Ideal) ℓ) (c : Dev nD)

abbrev W : Arr 2048 := m ((c : Thread nD τ).loc main_arg0)
abbrev G : Arr 2048 := m ((c : Thread nD τ).loc main_arg1)
abbrev M : Arr 2048 := m ((c : Thread nD τ).loc main_arg2)
abbrev V2 : Arr 2048 := m ((c : Thread nD τ).loc main_arg3)

theorem change_array : (dats m 0 c).arrAt 4 cfg0.N = changeArr (W m c) (G m c) (M m c) (V2 m c) :=
  (Cert.Kernel27Ideal.Value.final4 m c).trans (funext fun y => change_call (W m c y) (G m c y) (M m c y) (V2 m c y))

theorem first_array : (dats m 0 c).arrAt 5 cfg0.N = firstArr (G m c) (M m c) := Cert.Kernel27Ideal.Value.final5 m c

theorem second_array : (dats m 0 c).arrAt 6 cfg0.N = secondArr (G m c) (V2 m c) := Cert.Kernel27Ideal.Value.final6 m c

end Cert.Kernel27Ideal.Array

namespace Cert.Pre_mlp_moments

theorem facts : Facts where
  bcast_S_S2048x1024 := by decide

variable [Facts] (W G M V : FVec Ideal S2048x1024 .f32)

theorem moments_real (hp : (fn (F := Ideal) W G M V).1 = (fun _ => 1#1) ∧ (fn (F := Ideal) W G M V).2.1 = (fun _ => 1#1) ∧ (fn (F := Ideal) W G M V).2.2 = fun _ => 1#1) :
    (∀ y, 0 ≤ V y) ∧ (∀ y, V y ≠ ⊤) ∧ ∀ y, Finite (G y) :=
  ⟨nonneg_of _ V hp.1, ne_top_of _ V hp.2.1, finite_of _ G hp.2.2⟩

end Cert.Pre_mlp_moments

namespace Cert.Reference27Ideal.Stages

open Cert.Reference27Ideal Cert.Reference27Ideal.Gen Cert.Reference27Ideal.Read

variable (x0 x1 x2 x3 : (⟨S2048x1024, .f32⟩ : BufTy).Contents (Elt Ideal))

theorem first_result : val_main_v4 (F := Ideal) x1 x2 = firstArr x1 x2 := first_plain _ x1 x2

theorem second_result : val_main_v10 (F := Ideal) x1 x3 = secondArr x1 x3 := second_plain _ x1 x3

theorem change_result (h : (∀ y, 0 ≤ x3 y) ∧ (∀ y, x3 y ≠ ⊤) ∧ ∀ y, Finite (x1 y)) :
    val_main_v23 (F := Ideal) x0 x1 x2 x3 = changeArr x0 x1 x2 x3 := change_plain _ x0 x1 x2 x3 h.1 h.2.1 h.2.2

end Cert.Reference27Ideal.Stages

/-! ## The output projections' weights -/

namespace Cert.Kernel28Ideal.Array

open Cert.Kernel28Ideal Cert.Kernel28Ideal.Gen

variable (m : (ℓ : Loc nD τ sig) → Buf (Elt Ideal) ℓ) (c : Dev nD)

abbrev W : Arr 768 := m ((c : Thread nD τ).loc main_arg0)
abbrev G : Arr 768 := m ((c : Thread nD τ).loc main_arg1)
abbrev M : Arr 768 := m ((c : Thread nD τ).loc main_arg2)
abbrev V2 : Arr 768 := m ((c : Thread nD τ).loc main_arg3)

theorem change_array : (dats m 0 c).arrAt 4 cfg0.N = changeArr (W m c) (G m c) (M m c) (V2 m c) :=
  (Cert.Kernel28Ideal.Value.final4 m c).trans (funext fun y => change_call (W m c y) (G m c y) (M m c y) (V2 m c y))

theorem first_array : (dats m 0 c).arrAt 5 cfg0.N = firstArr (G m c) (M m c) := Cert.Kernel28Ideal.Value.final5 m c

theorem second_array : (dats m 0 c).arrAt 6 cfg0.N = secondArr (G m c) (V2 m c) := Cert.Kernel28Ideal.Value.final6 m c

end Cert.Kernel28Ideal.Array

namespace Cert.Pre_out_moments

theorem facts : Facts where
  bcast_S_S768x1024 := by decide

variable [Facts] (W G M V : FVec Ideal S768x1024 .f32)

theorem moments_real (hp : (fn (F := Ideal) W G M V).1 = (fun _ => 1#1) ∧ (fn (F := Ideal) W G M V).2.1 = (fun _ => 1#1) ∧ (fn (F := Ideal) W G M V).2.2 = fun _ => 1#1) :
    (∀ y, 0 ≤ V y) ∧ (∀ y, V y ≠ ⊤) ∧ ∀ y, Finite (G y) :=
  ⟨nonneg_of _ V hp.1, ne_top_of _ V hp.2.1, finite_of _ G hp.2.2⟩

end Cert.Pre_out_moments

namespace Cert.Reference28Ideal.Stages

open Cert.Reference28Ideal Cert.Reference28Ideal.Gen Cert.Reference28Ideal.Read

variable (x0 x1 x2 x3 : (⟨S768x1024, .f32⟩ : BufTy).Contents (Elt Ideal))

theorem first_result : val_main_v4 (F := Ideal) x1 x2 = firstArr x1 x2 := first_plain _ x1 x2

theorem second_result : val_main_v10 (F := Ideal) x1 x3 = secondArr x1 x3 := second_plain _ x1 x3

theorem change_result (h : (∀ y, 0 ≤ x3 y) ∧ (∀ y, x3 y ≠ ⊤) ∧ ∀ y, Finite (x1 y)) :
    val_main_v23 (F := Ideal) x0 x1 x2 x3 = changeArr x0 x1 x2 x3 := change_plain _ x0 x1 x2 x3 h.1 h.2.1 h.2.2

end Cert.Reference28Ideal.Stages

end
-- ==== Proof.AttnIn.lean ====
/-
  The window attention's input projection: as the recurrent mixer's, with four slabs of 512 columns. The normed row is the same
  function of the arguments, and is taken from there.
-/
module

public import proofs.«01_k».proof.Proof.Gen.Kernel29Ideal.Value
public import proofs.«01_k».proof.Proof.Gen.Reference29Ideal.Read
public import proofs.«01_k».proof.Proof.LruIn
public import Idealize.ShloMosaic.Lib.Pipeline.Value
public import Idealize.ShloMosaic.Lib.Pipeline.ValueKit
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.AttnIn

open Cert.LruIn (hAt hArr)

/-- Column `n` of group `s` of four groups of 512 columns; the group of a column and its place in the group. -/
def col (s : Fin 4) (n : Fin 512) : Fin 2048 := ⟨512 * s.val + n.val, by omega⟩
def slab (k : Fin 2048) : Fin 4 := ⟨k.val / 512, by omega⟩
def within (k : Fin 2048) : Fin 512 := ⟨k.val % 512, by omega⟩

theorem slab_col (s : Fin 4) (n : Fin 512) : slab (col s n) = s := Fin.ext (by show (512 * s.val + n.val) / 512 = s.val; omega)
theorem within_col (s : Fin 4) (n : Fin 512) : within (col s n) = n := Fin.ext (by show (512 * s.val + n.val) % 512 = n.val; omega)

theorem exists_col (k : Fin 2048) : ∃ s n, k = col s n :=
  ⟨⟨k.val / 512, by omega⟩, ⟨k.val % 512, by omega⟩, Fin.ext (by show k.val = 512 * (k.val / 512) + k.val % 512; omega)⟩

/-- The product with column `n` of slab `s`. -/
def pAt (X : (⟨2, ![8192, 1024]⟩ : Shape).Idx → EReal) (W : (⟨3, ![4, 1024, 512]⟩ : Shape).Idx → EReal)
    (G : (⟨1, ![1024]⟩ : Shape).Idx → EReal) (r : Fin 8192) (s : Fin 4) (n : Fin 512) : EReal :=
  ∑ k : Fin 1024, hAt X G r k * W (ix3 s k n)

/-- The product as an array. -/
def pArr (X : (⟨2, ![8192, 1024]⟩ : Shape).Idx → EReal) (W : (⟨3, ![4, 1024, 512]⟩ : Shape).Idx → EReal)
    (G : (⟨1, ![1024]⟩ : Shape).Idx → EReal) : (⟨2, ![8192, 2048]⟩ : Shape).Idx → EReal := fun y => pAt X W G (y 0) (slab (y 1)) (within (y 1))

theorem pArr_col (X : (⟨2, ![8192, 1024]⟩ : Shape).Idx → EReal) (W : (⟨3, ![4, 1024, 512]⟩ : Shape).Idx → EReal)
    (G : (⟨1, ![1024]⟩ : Shape).Idx → EReal) (r : Fin 8192) (s : Fin 4) (n : Fin 512) : pArr X W G (ix2 r (col s n)) = pAt X W G r s n := by
  show pAt X W G r (slab (col s n)) (within (col s n)) = _
  rw [slab_col, within_col]

end Cert.AttnIn

namespace Cert.Kernel29Ideal.Array

open Cert.Kernel29Ideal Cert.Kernel29Ideal.Gen Cert.AttnIn
open Cert.LruIn (hAt hArr)
open Cert.Cols (canon_four_of ld_slab)

/-! ## The stored values at an index -/

section Payloads
variable (X : Vec Ideal S512x1024 .f32) (G : Vec Ideal S1x1024 .f32) (H : FVec Ideal S512x1024 .bf16) (W : Vec Ideal S1x1024x512 .bf16)
  (r : Fin 512) (k : Fin 1024) (n : Fin 512)

theorem pay2_apply : k0_pay2 X G (ix2 r k) = Norm.normed (fun j => X (ix2 r j)) k * G (ix2 0 k) := by
  unfold k0_pay2
  pointwise
  rfl

theorem pay1_apply : k0_pay1 H W (ix2 r n) = ∑ j, H (ix2 r j) * W (ix3 0 j n) := by
  unfold k0_pay1
  pointwise

/-- The four products are one and the same function of the slab. -/
theorem pay3_eq : k0_pay3 X G W = k0_pay1 (k0_pay2 X G) W := rfl
theorem pay4_eq : k0_pay4 X G W = k0_pay1 (k0_pay2 X G) W := rfl
theorem pay5_eq : k0_pay5 X G W = k0_pay1 (k0_pay2 X G) W := rfl

end Payloads

/-! ## The blocks -/

variable (m : (ℓ : Loc nD τ sig) → Buf (Elt Ideal) ℓ) (c : Dev nD)

/-- The three arguments. -/
abbrev X : S8192x1024.Idx → EReal := m ((c : Thread nD τ).loc main_arg0)
abbrev W : S4x1024x512.Idx → EReal := m ((c : Thread nD τ).loc main_arg1)
abbrev G : S1024.Idx → EReal := m ((c : Thread nD τ).loc main_arg2)

theorem idx_0 : ∀ t : Fin cfg0.N, win0_0.index t = ![t.val, 0] := (by decide +kernel : ∀ t : Fin grid0.N, win0_0.index t = ![t.val, 0])
theorem idx_1 : ∀ t : Fin cfg0.N, win0_1.index t = ![0, 0, 0] := (by decide +kernel : ∀ t : Fin grid0.N, win0_1.index t = ![0, 0, 0])
theorem idx_2 : ∀ t : Fin cfg0.N, win0_2.index t = ![0, 0] := (by decide +kernel : ∀ t : Fin grid0.N, win0_2.index t = ![0, 0])
theorem idx_3 : ∀ t : Fin cfg0.N, win0_3.index t = ![t.val, 0] := (by decide +kernel : ∀ t : Fin grid0.N, win0_3.index t = ![t.val, 0])
theorem idx_4 : ∀ t : Fin cfg0.N, win0_4.index t = ![t.val, 0] := (by decide +kernel : ∀ t : Fin grid0.N, win0_4.index t = ![t.val, 0])

/-- Row `r` of block `t`. -/
def rowAt (t : Fin cfg0.N) (r : Fin 512) : Fin 8192 := ⟨t.val * 512 + r.val, by have := t.isLt; have : cfg0.N = 16 := N_0; omega⟩

/-- The gain as the call reads it: the host lays it out as one row. -/
theorem gain_row (k : Fin 1024) : V m c main_v0 (ix2 0 k) = G m c (ix1 k) := by
  unfold V
  rw [StableHlo.after_cons, StableHlo.after_nil, StableHlo.reshape_result]
  pointwise

theorem block_0 (t : Fin cfg0.N) (r : Fin 512) (d : Fin 1024) : iblk m c 0 t (ix2 r d) = X m c (ix2 (rowAt t r) d) := by
  blk_simp [iblk]
  rw [V_main_arg0]
  refine congrArg (X m c) ?_
  blk_ext [idx_0, rowAt]

theorem block_1 (t : Fin cfg0.N) : (iblk m c 1 t : S4x1024x512.Idx → EReal) = W m c := by
  funext y
  blk_simp [iblk]
  rw [V_main_arg1]
  refine congrArg (W m c) ?_
  blk_ext [idx_1]

theorem block_2 (t : Fin cfg0.N) (k : Fin 1024) : iblk m c 2 t (ix2 0 k) = G m c (ix1 k) := by
  blk_simp [iblk]
  refine Eq.trans (congrArg (V m c main_v0) ?_) (gain_row m c k)
  blk_ext [idx_2]

/-! ## What a point leaves -/

theorem hz2 : (![0, 0] : Fin 2 → ℕ) = fun _ => 0 := funext fun a => by fin_cases a <;> rfl

/-- The normed row of point `t`'s block. -/
theorem h_at (t : Fin cfg0.N) (r : Fin 512) (k : Fin 1024) :
    k0_pay2 (F := Ideal) (iblk m c 0 t) (iblk m c 2 t) (ix2 r k) = hAt (X m c) (G m c) (rowAt t r) k := by
  rw [pay2_apply, block_2]
  unfold hAt
  simp only [block_0]

/-- The product of point `t`'s rows with slab `s`. -/
theorem p_at (t : Fin cfg0.N) (r : Fin 512) (s : Fin 4) (n : Fin 512) (o : ℕ) (inb) (hs : s.val = o) :
    k0_pay1 (F := Ideal) (k0_pay2 (F := Ideal) (iblk m c 0 t) (iblk m c 2 t))
      (View.ld (iblk m c 1 t : S4x1024x512.Idx → EReal) (Rect.unit (s := S4x1024x512) ![o, 0, 0] ![1, 1024, 512] inb)) (ix2 r n)
      = pAt (X m c) (W m c) (G m c) (rowAt t r) s n := by
  refine (pay1_apply ..).trans ?_
  unfold pAt
  refine Finset.sum_congr rfl fun j _ => ?_
  rw [h_at, block_1]
  exact congrArg (_ * ·) (ld_slab (Val := Elt Ideal) (e := .bf16) (W m c) inb s j n hs)

theorem out_4 (t : Fin cfg0.N) (r : Fin 512) (k : Fin 1024) :
    out0_4 (iblk m c 0 t) (iblk m c 1 t) (iblk m c 2 t) (ix2 r k) = hAt (X m c) (G m c) (rowAt t r) k := by
  unfold out0_4 r0_0 r0_1
  rw [View.canon_cons_unit_zero (S := S512x1024) hz2, View.ld_unit_zero (S := S512x1024) hz2, View.ld_unit_zero (S := S1x1024) hz2]
  exact h_at m c t r k

theorem out_3 (t : Fin cfg0.N) (r : Fin 512) (s : Fin 4) (n : Fin 512) :
    out0_3 (iblk m c 0 t) (iblk m c 1 t) (iblk m c 2 t) (ix2 r (col s n)) = pAt (X m c) (W m c) (G m c) (rowAt t r) s n := by
  unfold out0_3 r0_0 r0_1
  rw [View.ld_unit_zero (S := S512x1024) hz2, View.ld_unit_zero (S := S1x1024) hz2, pay3_eq, pay4_eq, pay5_eq]
  refine (canon_four_of (R := 512) (w := 512) rfl rfl rfl rfl _ _ _ _ _ _ _ _ s r (col s n) n rfl).trans ?_
  match s with
  | 0 => exact p_at m c t r 0 n 0 _ rfl
  | 1 => exact p_at m c t r 1 n 1 _ rfl
  | 2 => exact p_at m c t r 2 n 2 _ rfl
  | 3 => exact p_at m c t r 3 n 3 _ rfl

/-! ## The arrays -/

theorem p_array : (dats m 0 c).arrAt 3 cfg0.N = pArr (X m c) (W m c) (G m c) := by
  refine (dats m 0 c).arrAt_eq_of_covers 3 _ (by decide +kernel) fun t hf y => ?_
  obtain ⟨r, k, rfl⟩ : ∃ r k, y = ix2 r k := ⟨y 0, y 1, eq_ix2 y⟩
  obtain ⟨s, n, rfl⟩ := exists_col k
  blk_simp
  rw [after0_3]
  refine (out_3 m c t r s n).trans ((pArr_col _ _ _ _ s n).symm.trans ?_)
  refine congrArg _ ?_
  blk_ext [idx_3, rowAt]

theorem h_array : (dats m 0 c).arrAt 4 cfg0.N = hArr (X m c) (G m c) := by
  refine (dats m 0 c).arrAt_eq_of_covers 4 _ (by decide +kernel) fun t hf y => ?_
  obtain ⟨r, k, rfl⟩ : ∃ r k, y = ix2 r k := ⟨y 0, y 1, eq_ix2 y⟩
  blk_simp
  rw [after0_4]
  refine (out_4 m c t r k).trans ?_
  show hArr (X m c) (G m c) (ix2 (rowAt t r) k) = _
  refine congrArg _ ?_
  blk_ext [idx_4, rowAt]

end Cert.Kernel29Ideal.Array

namespace Cert.Reference29Ideal.Stages

open Cert.Reference29Ideal Cert.Reference29Ideal.Gen Cert.Reference29Ideal.Read Cert.AttnIn
open Cert.LruIn (hAt hArr)

variable (x0 : (⟨S8192x1024, .f32⟩ : BufTy).Contents (Elt Ideal)) (x1 : (⟨S4x1024x512, .bf16⟩ : BufTy).Contents (Elt Ideal))
  (x2 : (⟨S1024, .f32⟩ : BufTy).Contents (Elt Ideal))

/-- The reciprocal root of the mean square. -/
theorem inv_at (r : Fin 8192) (k : Fin 1024) : val_main_v8 (F := Ideal) x0 (ix2 r k) = Norm.inv (fun j => x0 (ix2 r j)) := by
  unfold val_main_v8 val_main_v7 val_main_v6 val_main_v5 val_main_cst_1 val_main_v4 val_main_v3 val_main_cst_0 val_main_v2 val_main_v1
    val_main_cst val_main_v0
  pointwise
  rfl

theorem h_at (r : Fin 8192) (k : Fin 1024) : val_main_v12 (F := Ideal) x0 x2 (ix2 r k) = hAt x0 x2 r k := by
  unfold val_main_v12 val_main_v11 val_main_v10 val_main_v9
  pointwise
  rw [inv_at]
  rfl

theorem weight_at (k : Fin 1024) (s : Fin 4) (n : Fin 512) : val_main_v15 (F := Ideal) x1 (ix2 k (col s n)) = x1 (ix3 s k n) := by
  rw [val_main_v15_apply, val_main_v14_apply]
  refine congrArg x1 (funext fun a => Fin.ext ?_)
  match a with
  | ⟨0, _⟩ => show (k.val * 2048 + (512 * s.val + n.val)) / 512 % 4 = s.val; omega
  | ⟨1, _⟩ => show (k.val * 2048 + (512 * s.val + n.val)) / 2048 = k.val; omega
  | ⟨2, _⟩ => show (k.val * 2048 + (512 * s.val + n.val)) % 512 = n.val; omega

theorem p_result : val_main_v16 (F := Ideal) x0 x1 x2 = pArr x0 x1 x2 := by
  funext y
  obtain ⟨r, k, rfl⟩ : ∃ r k, y = ix2 r k := ⟨y 0, y 1, eq_ix2 y⟩
  obtain ⟨s, n, rfl⟩ := exists_col k
  rw [pArr_col]
  unfold val_main_v16
  pointwise
  simp only [h_at, weight_at]
  rfl

theorem h_result : val_main_v17 (F := Ideal) x0 x2 = hArr x0 x2 := by
  funext y
  obtain ⟨r, k, rfl⟩ : ∃ r k, y = ix2 r k := ⟨y 0, y 1, eq_ix2 y⟩
  exact h_at x0 x2 r k

end Cert.Reference29Ideal.Stages

end
-- ==== Proof.AttnWeight.lean ====
/-
  The gradient of the window attention's input weight: the transposed input times the gradient of the output. The kernel leaves it as four
  slabs of 512 columns, each accumulated over two halves of the 8192 rows; the reference forms one product and cuts it.
-/
module

public import proofs.«01_k».proof.Proof.Gen.Kernel30Ideal.Value
public import proofs.«01_k».proof.Proof.Gen.Reference30Ideal.Read
public import Idealize.ShloMosaic.Lib.Pipeline.Value
public import Idealize.ShloMosaic.Lib.Pipeline.ValueKit
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.AttnWeight

/-- Column `n` of slab `s`. -/
def col (s : Fin 4) (n : Fin 512) : Fin 2048 := ⟨512 * s.val + n.val, by omega⟩

/-- The gradient at slab `s`, input column `k` and slab column `n`: inputs `H`, gradient of the output `P`. -/
def dwAt (H : (⟨2, ![8192, 1024]⟩ : Shape).Idx → EReal) (P : (⟨2, ![8192, 2048]⟩ : Shape).Idx → EReal)
    (s : Fin 4) (k : Fin 1024) (n : Fin 512) : EReal := ∑ R : Fin 8192, H (ix2 R k) * P (ix2 R (col s n))

/-- The array of the gradients. -/
def dwArr (H : (⟨2, ![8192, 1024]⟩ : Shape).Idx → EReal) (P : (⟨2, ![8192, 2048]⟩ : Shape).Idx → EReal) :
    (⟨3, ![4, 1024, 512]⟩ : Shape).Idx → EReal := fun y => dwAt H P (y 0) (y 1) (y 2)

end Cert.AttnWeight

namespace Cert.Kernel30Ideal.Array

open Cert.Kernel30Ideal Cert.Kernel30Ideal.Gen Cert.Kernel30Ideal.Value Cert.AttnWeight

/-- The accumulator starts at zero; -/
theorem pay1_apply (y : S1x512x512.Idx) : k0_pay1 (F := Ideal) y = 0 := by
  obtain ⟨a, k, n, rfl⟩ : ∃ a k n, y = ix3 a k n := ⟨y 0, y 1, y 2, eq_ix3 y⟩
  unfold_payloads
  pointwise

/-- a point adds the product of its half of the rows. -/
theorem pay2_apply (a : Vec Ideal S1x512x512 .f32) (H : Vec Ideal S4096x512 .bf16) (P : Vec Ideal S4096x512 .bf16)
    (k : Fin 512) (n : Fin 512) :
    k0_pay2 a H P (ix3 0 k n) = a (ix3 0 k n) + ∑ r : Fin 4096, H (ix2 r k) * P (ix2 r n) := by
  unfold_payloads
  pointwise

variable (m : (ℓ : Loc nD τ sig) → Buf (Elt Ideal) ℓ) (c : Dev nD)

/-- The two arguments. -/
abbrev H : S8192x1024.Idx → EReal := m ((c : Thread nD τ).loc main_arg0)
abbrev P : S8192x2048.Idx → EReal := m ((c : Thread nD τ).loc main_arg1)

theorem idx_0 : ∀ t : Fin cfg0.N, win0_0.index t = ![t.val % 2, t.val / 2 % 2] :=
  (by decide +kernel : ∀ t : Fin grid0.N, win0_0.index t = ![t.val % 2, t.val / 2 % 2])
theorem idx_1 : ∀ t : Fin cfg0.N, win0_1.index t = ![t.val % 2, t.val / 4] :=
  (by decide +kernel : ∀ t : Fin grid0.N, win0_1.index t = ![t.val % 2, t.val / 4])
theorem idx_2 : ∀ t : Fin cfg0.N, win0_2.index t = ![t.val / 4, t.val / 2 % 2, 0] :=
  (by decide +kernel : ∀ t : Fin grid0.N, win0_2.index t = ![t.val / 4, t.val / 2 % 2, 0])

/-- The row, the input column and the slab of a point's blocks. -/
def rowAt (h : Fin 2) (r : Fin 4096) : Fin 8192 := ⟨h.val * 4096 + r.val, by omega⟩
def inAt (t : Fin cfg0.N) (k : Fin 512) : Fin 1024 := ⟨t.val / 2 % 2 * 512 + k.val, by omega⟩
def slabAt (t : Fin cfg0.N) : Fin 4 := ⟨t.val / 4, by have := t.isLt; have : cfg0.N = 16 := N_0; omega⟩

theorem block_0 (t : Fin cfg0.N) (h : Fin 2) (hh : h.val = t.val % 2) (r : Fin 4096) (k : Fin 512) :
    iblk m c 0 t (ix2 r k) = H m c (ix2 (rowAt h r) (inAt t k)) := by
  blk_simp [iblk]
  unfold V
  refine congrArg (H m c) ?_
  blk_ext [idx_0, rowAt, inAt, hh]

theorem block_1 (t : Fin cfg0.N) (h : Fin 2) (hh : h.val = t.val % 2) (r : Fin 4096) (n : Fin 512) :
    iblk m c 1 t (ix2 r n) = P m c (ix2 (rowAt h r) (col (slabAt t) n)) := by
  blk_simp [iblk]
  unfold V
  refine congrArg (P m c) ?_
  blk_ext [idx_1, rowAt, col, slabAt, hh]

/-- What the second point of a run leaves: the products of both halves, which are the product of all rows. -/
theorem outs_2 (t : Fin cfg0.N) (ht : t.val % 2 = 1) (k : Fin 512) (n : Fin 512) :
    outsAt0 m c t.val t.isLt (ix3 0 k n) = dwAt (H m c) (P m c) (slabAt t) (inAt t k) n := by
  have hN : cfg0.N = 16 := N_0
  have hu : t.val - 1 < cfg0.N := Nat.lt_of_le_of_lt (Nat.sub_le _ _) t.isLt
  have h0 : (⟨t.val - 1, hu⟩ : Fin cfg0.N).val % 2 = 0 := by show (t.val - 1) % 2 = 0; omega
  have es : slabAt ⟨t.val - 1, hu⟩ = slabAt t := Fin.ext (by show (t.val - 1) / 4 = t.val / 4; omega)
  have ei : inAt ⟨t.val - 1, hu⟩ k = inAt t k := Fin.ext (by show (t.val - 1) / 2 % 2 * 512 + k.val = t.val / 2 % 2 * 512 + k.val; omega)
  have e1 : outsAt0 m c (t.val - 1) hu (ix3 0 k n) = ∑ r : Fin 4096, H m c (ix2 (rowAt 0 r) (inAt t k)) * P m c (ix2 (rowAt 0 r) (col (slabAt t) n)) := by
    rw [outsAt0_A m c ⟨t.val - 1, hu⟩ h0, out_A_2_eq, pay2_apply, pay1_apply, zero_add]
    refine Finset.sum_congr rfl fun r _ => ?_
    rw [block_0 m c _ 0 h0.symm, block_1 m c _ 0 h0.symm, es, ei]
  rw [outsAt0_B m c t (by omega), out_B_2_eq, pay2_apply, e1]
  unfold dwAt
  rw [Fin.sum_univ_tiles 2 4096 rfl, Fin.sum_univ_two]
  refine congrArg₂ (· + ·) rfl (Finset.sum_congr rfl fun r _ => ?_)
  rw [block_0 m c t 1 ht.symm, block_1 m c t 1 ht.symm]
  rfl

/-- The result array. -/
theorem dw_array : (dats m 0 c).arrAt 2 cfg0.N = dwArr (H m c) (P m c) := by
  refine (dats m 0 c).arrAt_eq_of_covers 2 _ (by decide +kernel) fun t hf y => ?_
  have ht : t.val % 2 = 1 := (flush0_2 t).mp hf
  obtain ⟨a, k, n, rfl⟩ : ∃ a k n, y = ix3 a k n := ⟨y 0, y 1, y 2, eq_ix3 y⟩
  obtain rfl : a = 0 := Subsingleton.elim _ _
  blk_simp
  rw [after0_2]
  refine (outs_2 m c t ht k n).trans ?_
  show dwArr (H m c) (P m c) (ix3 (slabAt t) (inAt t k) n) = _
  refine congrArg _ ?_
  blk_ext [idx_2, slabAt, inAt]

end Cert.Kernel30Ideal.Array

namespace Cert.Reference30Ideal.Stages

open Cert.Reference30Ideal Cert.Reference30Ideal.Gen Cert.Reference30Ideal.Read Cert.AttnWeight

variable (x0 : (⟨S8192x1024, .bf16⟩ : BufTy).Contents (Elt Ideal)) (x1 : (⟨S8192x2048, .bf16⟩ : BufTy).Contents (Elt Ideal))

theorem dw_result : val_main_v5 (F := Ideal) x0 x1 = dwArr x0 x1 := by
  funext y
  obtain ⟨s, k, n, rfl⟩ : ∃ s k n, y = ix3 s k n := ⟨y 0, y 1, y 2, eq_ix3 y⟩
  unfold val_main_v5 val_main_v4 val_main_v3 val_main_v2 val_main_v1 val_main_v0
  pointwise
  show _ = dwAt x0 x1 s k n
  refine Finset.sum_congr rfl fun R _ => (mul_comm _ _).trans (congrArg (x0 (ix2 R k) * ·) (congrArg (fun y => x1 (ix2 R y)) (Fin.ext ?_)))
  show s.val * 512 + n.val = 512 * s.val + n.val
  omega

end Cert.Reference30Ideal.Stages

end
-- ==== Proof.MemFirstGrad.lean ====
/-
  The gradients of the first layer's memory attention. As its forward call (`MemFirst`), it is the other layer's at a projection put
  behind columns that nobody reads: a point's stored values are the same functions of its blocks, and the reference's stages are
  the other reference's from the queries on.
-/
module

public import proofs.«01_k».proof.Proof.Gen.Kernel31Ideal.Value
public import proofs.«01_k».proof.Proof.Gen.Reference31Ideal.Read
public import proofs.«01_k».proof.Proof.Array
public import proofs.«01_k».proof.Proof.Stages
public import proofs.«01_k».proof.Proof.MemFirst

@[expose] public section

set_option maxRecDepth 16384

noncomputable section

open Idealize.ShloMosaic Idealize.ShloMosaic.TcCoe Idealize.SL.Sem
open Idealize.ShloMosaic.Pipeline (Dat)

namespace Cert.Kernel31Ideal.Array

open Cert.Kernel31Ideal Cert.Kernel31Ideal.Gen Cert.MemAttn Cert.MemFirst
open Cert.KernelIdeal.Block (rowOf canon_four canon_eight_kc canon_eight_vc readCov_other readCov_whole dq_head dk_head dv_head pay3_zero)

section Point
variable (c : Dev nD) (i : grid0.Coords) (a1 : Memref sig .tc .vmem S512x512 .f32) (h1 : a1.IsWhole)
  (a2 : Memref sig .tc .vmem S256x1024 .bf16) (h2 : a2.IsWhole) (a3 : Memref sig .tc .vmem S512x512 .bf16) (h3 : a3.IsWhole)
  (a4 : Memref sig .tc .vmem S512x512 .bf16) (h4 : a4.IsWhole) (a5 : Memref sig .tc .vmem S256x1024 .f32) (h5 : a5.IsWhole)
  (x0 : Vec Ideal S512x512 .f32) (x1 : Vec Ideal S256x1024 .bf16) (x2 : Vec Ideal S512x512 .bf16)

/-! ## The queries' gradient -/

/-- The first point's block of the queries' gradient. -/
theorem out_A_3 (hc : cond0_0 i) (h : Fin 4) (r : Fin 512) (d : Fin 128) :
    out0_A_3 (F := Ideal) c i a1 h1 a2 h2 a3 h3 a4 h4 a5 h5 hc x0 x1 x2 (ix2 r (qc h d))
      = rowDq (keys x1 h) (vals x1 h) (rowOf x0 h r) (rowOf x2 h r) d := by
  unfold out0_A_3
  rw [View.read_writes_eq_canon _ _ _ (cover0_A_3 c i a1 h1 a2 h2 a3 h3 a4 h4 a5 h5 hc x0 x1 x2)]
  unfold kernelRun0_A
  dsimp only
  sl_unfold_words
  simp only [View.readAt_eq_ld, h1.read_unread, h2.read_unread, h3.read_unread]
  rw [canon_four]
  match h with
  | 0 => exact dq_head x0 x1 x2 0 _ _ _ _ rfl rfl r d
  | 1 => exact dq_head x0 x1 x2 1 _ _ _ _ rfl rfl r d
  | 2 => exact dq_head x0 x1 x2 2 _ _ _ _ rfl rfl r d
  | 3 => exact dq_head x0 x1 x2 3 _ _ _ _ rfl rfl r d

/-- The other points' block of the queries' gradient. -/
theorem out_B_3 (hc : ¬cond0_0 i) (xo : Vec Ideal S256x1024 .f32) (h : Fin 4) (r : Fin 512) (d : Fin 128) :
    out0_B_3 (F := Ideal) c i a1 h1 a2 h2 a3 h3 a4 h4 a5 h5 hc x0 x1 x2 xo (ix2 r (qc h d))
      = rowDq (keys x1 h) (vals x1 h) (rowOf x0 h r) (rowOf x2 h r) d := by
  unfold out0_B_3
  rw [View.read_writes_eq_canon _ _ _ (cover0_B_3 c i a1 h1 a2 h2 a3 h3 a4 h4 a5 h5 hc x0 x1 x2 xo)]
  unfold kernelRun0_B
  dsimp only
  sl_unfold_words
  simp only [View.readAt_eq_ld, h1.read_unread, h2.read_unread, h3.read_unread]
  rw [canon_four]
  match h with
  | 0 => exact dq_head x0 x1 x2 0 _ _ _ _ rfl rfl r d
  | 1 => exact dq_head x0 x1 x2 1 _ _ _ _ rfl rfl r d
  | 2 => exact dq_head x0 x1 x2 2 _ _ _ _ rfl rfl r d
  | 3 => exact dq_head x0 x1 x2 3 _ _ _ _ rfl rfl r d

/-! ## The keys' and the values' gradient -/

/-- A later point adds its 512 rows' gradients of the keys to what the accumulator held. -/
theorem out_B_4_kc (hc : ¬cond0_0 i) (xo : Vec Ideal S256x1024 .f32) (h : Fin 4) (j : Fin 256) (d : Fin 128) :
    out0_B_4 (F := Ideal) c i a1 h1 a2 h2 a3 h3 a4 h4 a5 h5 hc x0 x1 x2 xo (ix2 j (kc h d))
      = xo (ix2 j (kc h d)) + ∑ r, rowDk (keys x1 h) (vals x1 h) (rowOf x0 h r) (rowOf x2 h r) j d := by
  unfold out0_B_4
  rw [View.read_writes_eq_canon _ _ _ (cover0_B_4 c i a1 h1 a2 h2 a3 h3 a4 h4 a5 h5 hc x0 x1 x2 xo)]
  unfold kernelRun0_B
  dsimp only
  sl_unfold_words
  simp only [View.readAt_eq_ld, h1.read_unread, h2.read_unread, h3.read_unread, h5.read_unread]
  rw [canon_eight_kc]
  match h with
  | 0 => exact dk_head x0 x1 x2 0 _ _ _ _ rfl rfl xo _ j d
  | 1 => exact dk_head x0 x1 x2 1 _ _ _ _ rfl rfl xo _ j d
  | 2 => exact dk_head x0 x1 x2 2 _ _ _ _ rfl rfl xo _ j d
  | 3 => exact dk_head x0 x1 x2 3 _ _ _ _ rfl rfl xo _ j d

/-- The first point leaves its 512 rows' gradients of the keys. -/
theorem out_A_4_kc (hc : cond0_0 i) (h : Fin 4) (j : Fin 256) (d : Fin 128) :
    out0_A_4 (F := Ideal) c i a1 h1 a2 h2 a3 h3 a4 h4 a5 h5 hc x0 x1 x2 (ix2 j (kc h d))
      = ∑ r, rowDk (keys x1 h) (vals x1 h) (rowOf x0 h r) (rowOf x2 h r) j d := by
  unfold out0_A_4
  rw [View.read_writes_eq_canon _ _ _ (cover0_A_4 c i a1 h1 a2 h2 a3 h3 a4 h4 a5 h5 hc x0 x1 x2)]
  unfold kernelRun0_A
  dsimp only
  sl_unfold_words
  simp only [View.readAt_eq_ld, h1.read_unread, h2.read_unread, h3.read_unread]
  simp (disch := omega) only [readCov_other, readCov_whole]
  rw [canon_eight_kc]
  refine Eq.trans ?_ ((congrArg (· + _) (pay3_zero j (kc h d))).trans (zero_add _))
  match h with
  | 0 => exact dk_head x0 x1 x2 0 _ _ _ _ rfl rfl (k0_pay3 (F := Ideal)) _ j d
  | 1 => exact dk_head x0 x1 x2 1 _ _ _ _ rfl rfl (k0_pay3 (F := Ideal)) _ j d
  | 2 => exact dk_head x0 x1 x2 2 _ _ _ _ rfl rfl (k0_pay3 (F := Ideal)) _ j d
  | 3 => exact dk_head x0 x1 x2 3 _ _ _ _ rfl rfl (k0_pay3 (F := Ideal)) (by decide) j d

/-- A later point adds its 512 rows' gradients of the values to what the accumulator held. -/
theorem out_B_4_vc (hc : ¬cond0_0 i) (xo : Vec Ideal S256x1024 .f32) (h : Fin 4) (j : Fin 256) (d : Fin 128) :
    out0_B_4 (F := Ideal) c i a1 h1 a2 h2 a3 h3 a4 h4 a5 h5 hc x0 x1 x2 xo (ix2 j (vc h d))
      = xo (ix2 j (vc h d)) + ∑ r, rowDv (keys x1 h) (rowOf x0 h r) (rowOf x2 h r) j d := by
  unfold out0_B_4
  rw [View.read_writes_eq_canon _ _ _ (cover0_B_4 c i a1 h1 a2 h2 a3 h3 a4 h4 a5 h5 hc x0 x1 x2 xo)]
  unfold kernelRun0_B
  dsimp only
  sl_unfold_words
  simp only [View.readAt_eq_ld, h1.read_unread, h2.read_unread, h3.read_unread, h5.read_unread]
  rw [canon_eight_vc]
  match h with
  | 0 => exact dv_head x0 x1 x2 0 _ _ _ rfl rfl xo _ j d
  | 1 => exact dv_head x0 x1 x2 1 _ _ _ rfl rfl xo _ j d
  | 2 => exact dv_head x0 x1 x2 2 _ _ _ rfl rfl xo _ j d
  | 3 => exact dv_head x0 x1 x2 3 _ _ _ rfl rfl xo _ j d

/-- The first point leaves its 512 rows' gradients of the values. -/
theorem out_A_4_vc (hc : cond0_0 i) (h : Fin 4) (j : Fin 256) (d : Fin 128) :
    out0_A_4 (F := Ideal) c i a1 h1 a2 h2 a3 h3 a4 h4 a5 h5 hc x0 x1 x2 (ix2 j (vc h d))
      = ∑ r, rowDv (keys x1 h) (rowOf x0 h r) (rowOf x2 h r) j d := by
  unfold out0_A_4
  rw [View.read_writes_eq_canon _ _ _ (cover0_A_4 c i a1 h1 a2 h2 a3 h3 a4 h4 a5 h5 hc x0 x1 x2)]
  unfold kernelRun0_A
  dsimp only
  sl_unfold_words
  simp only [View.readAt_eq_ld, h1.read_unread, h2.read_unread, h3.read_unread]
  simp (disch := omega) only [readCov_other, readCov_whole]
  rw [canon_eight_vc]
  refine Eq.trans ?_ ((congrArg (· + _) (pay3_zero j (vc h d))).trans (zero_add _))
  match h with
  | 0 => exact dv_head x0 x1 x2 0 _ _ _ rfl rfl (k0_pay3 (F := Ideal)) _ j d
  | 1 => exact dv_head x0 x1 x2 1 _ _ _ rfl rfl (k0_pay3 (F := Ideal)) _ j d
  | 2 => exact dv_head x0 x1 x2 2 _ _ _ rfl rfl (k0_pay3 (F := Ideal)) _ j d
  | 3 => exact dv_head x0 x1 x2 3 _ _ _ rfl rfl (k0_pay3 (F := Ideal)) _ j d

end Point

variable (m : (ℓ : Loc nD τ sig) → Buf (Elt Ideal) ℓ) (c : Dev nD)

/-- The three arguments. -/
abbrev P : S8192x2048.Idx → EReal := m ((c : Thread nD τ).loc main_arg0)
abbrev M : S256x1024.Idx → EReal := m ((c : Thread nD τ).loc main_arg1)
abbrev D : S8192x1536.Idx → EReal := m ((c : Thread nD τ).loc main_arg2)

/-! ## The blocks -/

theorem idx_0 : ∀ t : Fin cfg0.N, win0_0.index t = ![t.val, 3] := (by decide +kernel : ∀ t : Fin grid0.N, win0_0.index t = ![t.val, 3])
theorem idx_1 : ∀ t : Fin cfg0.N, win0_1.index t = ![0, 0] := (by decide +kernel : ∀ t : Fin grid0.N, win0_1.index t = ![0, 0])
theorem idx_2 : ∀ t : Fin cfg0.N, win0_2.index t = ![t.val, 2] := (by decide +kernel : ∀ t : Fin grid0.N, win0_2.index t = ![t.val, 2])
theorem idx_3 : ∀ t : Fin cfg0.N, win0_3.index t = ![t.val, 0] := (by decide +kernel : ∀ t : Fin grid0.N, win0_3.index t = ![t.val, 0])
theorem idx_4 : ∀ t : Fin cfg0.N, win0_4.index t = ![0, 0] := (by decide +kernel : ∀ t : Fin grid0.N, win0_4.index t = ![0, 0])

/-- Row `r` of block `t`. -/
def rowAt (t : Fin cfg0.N) (r : Fin 512) : Fin 8192 := ⟨t.val * 512 + r.val, by have := t.isLt; have : cfg0.N = 16 := N_0; omega⟩

/-- A block of queries is 512 rows of the projection's last 512 columns; -/
theorem block_q (t : Fin cfg0.N) (h : Fin 4) (r : Fin 512) : rowOf (iblk m c 0 t) h r = query (wide (P m c)) h (rowAt t r) := by
  funext x
  rw [query_wide]
  show iblk m c 0 t (ix2 r (qc h x)) = P m c (ix2 (rowAt t r) (nc h x))
  blk_simp [iblk]
  unfold V
  refine congrArg (P m c) ?_
  blk_ext [idx_0, qc, nc, rowAt]

/-- of cotangents 512 rows of the cotangent's last 512 columns; -/
theorem block_o (t : Fin cfg0.N) (h : Fin 4) (r : Fin 512) : rowOf (iblk m c 2 t) h r = cotan (D m c) h (rowAt t r) := by
  funext x
  unfold rowOf cotan
  blk_simp [iblk]
  unfold V
  refine congrArg (D m c) ?_
  blk_ext [idx_2, qc, cc, rowAt]

/-- the memory is whole at every point. -/
theorem block_m (t : Fin cfg0.N) : (iblk m c 1 t : S256x1024.Idx → EReal) = M m c := by
  funext y
  blk_simp [iblk]
  unfold V
  refine congrArg (M m c) ?_
  blk_ext [idx_1]

/-! ## The queries' gradient -/

/-- What point `t` leaves in the block of the queries' gradient. -/
theorem outs_dq (t : Fin cfg0.N) (h : Fin 4) (r : Fin 512) (d : Fin 128) :
    (outsAt0 m c t.val t.isLt).1 (ix2 r (qc h d)) = dqAt (wide (P m c)) (M m c) (D m c) h (rowAt t r) d := by
  unfold dqAt
  by_cases h0 : t.val % 16 = 0
  · rw [outsAt0_A m c t h0]
    refine (out_A_3 c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) ((hcond0_0 t).mpr h0) h r d).trans ?_
    rw [block_q, block_o, block_m]
  · rw [outsAt0_B m c t h0]
    dsimp only
    rw [out_B_3, block_q, block_o, block_m]

/-- The array of the queries' gradient. -/
theorem dq_array : (dats m 0 c).arrAt 3 cfg0.N = dqArr (wide (P m c)) (M m c) (D m c) := by
  refine (dats m 0 c).arrAt_eq_of_covers 3 _ (by decide +kernel) fun t hf y => ?_
  obtain ⟨r, x, rfl⟩ : ∃ r x, y = ix2 r x := ⟨y 0, y 1, eq_ix2 y⟩
  obtain ⟨h, d, rfl⟩ := qc_onto x
  blk_simp
  rw [after0_3]
  refine (outs_dq m c t h r d).trans ((dqArr_qc ..).symm.trans (congrArg _ ?_))
  blk_ext [idx_3, qc, rowAt]

/-! ## The keys' and the values' gradients -/

/-- A sum over all rows is the sum over the blocks of the sums over their rows. -/
theorem sum_rows (f : Fin 8192 → EReal) : ∑ t : Fin cfg0.N, ∑ r, f (rowAt t r) = ∑ R, f R := by
  rw [Fin.sum_univ_tiles 16 512 rfl f]
  exact (Equiv.sum_comp (finCongr N_0) fun t : Fin 16 => ∑ r : Fin 512, f ⟨t.val * 512 + r.val, by omega⟩)

/-- What the last point leaves at a key's column. -/
theorem outs_dk (t : Fin cfg0.N) (ht : t.val + 1 = cfg0.N) (h : Fin 4) (j : Fin 256) (d : Fin 128) :
    (outsAt0 m c t.val t.isLt).2 (ix2 j (kc h d)) = dkAt (wide (P m c)) (M m c) (D m c) h j d := by
  have e := Pipeline.eq_sum_fin_of_reset_step_apply_last (fun n hn (_ : Unit) => ((outsAt0 m c n hn).2 (ix2 j (kc h d)) : EReal)) 16 (fun _ => 0)
    (fun t _ => ∑ r, rowDk (keys (M m c) h) (vals (M m c) h) (query (wide (P m c)) h (rowAt t r)) (cotan (D m c) h (rowAt t r)) j d)
    (fun t h0 _ => by
      rw [outsAt0_A m c t h0, zero_add]
      refine (out_A_4_kc c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) ((hcond0_0 t).mpr h0) h j d).trans ?_
      simp only [block_q, block_o, block_m])
    (fun t h0 _ => by
      rw [outsAt0_B m c t h0]
      refine (out_B_4_kc c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (fun h => h0 ((hcond0_0 t).mp h)) (outsAt0 m c (t.val - 1) (Nat.lt_of_le_of_lt (Nat.sub_le _ _) t.isLt)).2 h j d).trans ?_
      simp only [block_q, block_o, block_m])
    (by decide) t ht ()
  refine e.trans ((zero_add _).trans ?_)
  exact sum_rows fun R => rowDk (keys (M m c) h) (vals (M m c) h) (query (wide (P m c)) h R) (cotan (D m c) h R) j d

/-- What the last point leaves at a value's column. -/
theorem outs_dv (t : Fin cfg0.N) (ht : t.val + 1 = cfg0.N) (h : Fin 4) (j : Fin 256) (d : Fin 128) :
    (outsAt0 m c t.val t.isLt).2 (ix2 j (vc h d)) = dvAt (wide (P m c)) (M m c) (D m c) h j d := by
  have e := Pipeline.eq_sum_fin_of_reset_step_apply_last (fun n hn (_ : Unit) => ((outsAt0 m c n hn).2 (ix2 j (vc h d)) : EReal)) 16 (fun _ => 0)
    (fun t _ => ∑ r, rowDv (keys (M m c) h) (query (wide (P m c)) h (rowAt t r)) (cotan (D m c) h (rowAt t r)) j d)
    (fun t h0 _ => by
      rw [outsAt0_A m c t h0, zero_add]
      refine (out_A_4_vc c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) ((hcond0_0 t).mpr h0) h j d).trans ?_
      simp only [block_q, block_o, block_m])
    (fun t h0 _ => by
      rw [outsAt0_B m c t h0]
      refine (out_B_4_vc c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (fun h => h0 ((hcond0_0 t).mp h)) (outsAt0 m c (t.val - 1) (Nat.lt_of_le_of_lt (Nat.sub_le _ _) t.isLt)).2 h j d).trans ?_
      simp only [block_q, block_o, block_m])
    (by decide) t ht ()
  refine e.trans ((zero_add _).trans ?_)
  exact sum_rows fun R => rowDv (keys (M m c) h) (query (wide (P m c)) h R) (cotan (D m c) h R) j d

/-- The array of the keys' and the values' gradients. -/
theorem dkv_array : (dats m 0 c).arrAt 4 cfg0.N = dkvArr (wide (P m c)) (M m c) (D m c) := by
  refine (dats m 0 c).arrAt_eq_of_covers 4 _ (by decide +kernel) fun t hf y => ?_
  have hN : cfg0.N = 16 := N_0
  have ht : t.val + 1 = cfg0.N := by have := (flush0_4 t).mp hf; have := t.isLt; omega
  obtain ⟨j, x, rfl⟩ : ∃ j x, y = ix2 j x := ⟨y 0, y 1, eq_ix2 y⟩
  blk_simp
  rw [after0_4]
  rcases kv_onto x with ⟨h, d, rfl⟩ | ⟨h, d, rfl⟩
  · refine (outs_dk m c t ht h j d).trans ((dkvArr_kc ..).symm.trans (congrArg _ ?_))
    blk_ext [idx_4, kc]
  · refine (outs_dv m c t ht h j d).trans ((dkvArr_vc ..).symm.trans (congrArg _ ?_))
    blk_ext [idx_4, vc]

end Cert.Kernel31Ideal.Array

namespace Cert.Reference31Ideal.Stages

open Cert.Reference31Ideal Cert.Reference31Ideal.Gen Cert.Reference31Ideal.Read Cert.MemAttn Cert.MemFirst

variable (x0 : (⟨S8192x2048, .f32⟩ : BufTy).Contents (Elt Ideal)) (x1 : (⟨S256x1024, .bf16⟩ : BufTy).Contents (Elt Ideal))
  (x2 : (⟨S8192x1536, .bf16⟩ : BufTy).Contents (Elt Ideal))

/-- The queries are the wide projection's; what follows them is the other layer's, stage by stage. -/
theorem queries_eq : val_main_v11 (F := Ideal) x0 = Cert.ReferenceIdeal.Read.val_main_v11 (F := Ideal) (wide x0) := by
  funext y
  obtain ⟨z, r, h, x, rfl⟩ : ∃ z r h x, y = ix4 z r h x := ⟨y 0, y 1, y 2, y 3, eq_ix4 y⟩
  obtain rfl : z = 0 := Subsingleton.elim _ _
  rw [Cert.ReferenceIdeal.Stages.query_at, query_wide]
  unfold val_main_v11 val_main_v1 val_main_v0
  pointwise
  exact congrArg (fun y => x0 (ix2 r y)) (Fin.ext (by show 1536 + (h.val * 128 + x.val) = 1536 + 128 * h.val + x.val; omega))

theorem scores_eq : val_main_v14 (F := Ideal) x0 x1 = Cert.ReferenceIdeal.Read.val_main_v14 (F := Ideal) (wide x0) x1 := by
  unfold val_main_v14 val_main_v12
  rw [queries_eq]
  rfl

theorem expo_eq : val_main_v35 (F := Ideal) x0 x1 = Cert.ReferenceIdeal.Read.val_main_v35 (F := Ideal) (wide x0) x1 := by
  unfold val_main_v35 val_main_v34 val_main_v33 val_main_v32 val_main_v22 val_main_v15
  rw [scores_eq]
  rfl

theorem total_eq : val_main_v37 (F := Ideal) x0 x1 = Cert.ReferenceIdeal.Read.val_main_v37 (F := Ideal) (wide x0) x1 := by
  unfold val_main_v37 val_main_v36
  rw [expo_eq]
  rfl

theorem prob_eq : val_main_v39 (F := Ideal) x0 x1 = Cert.ReferenceIdeal.Read.val_main_v39 (F := Ideal) (wide x0) x1 := by
  unfold val_main_v39 val_main_v38
  rw [expo_eq, total_eq]
  rfl

theorem inner_eq : val_main_v53 (F := Ideal) x0 x1 x2 = Cert.ReferenceIdeal.Read.val_main_v53 (F := Ideal) (wide x0) x1 x2 := by
  unfold val_main_v53 val_main_v52 val_main_v51 val_main_v42 val_main_v40
  rw [expo_eq, total_eq]
  rfl

theorem dscore_eq : val_main_v65 (F := Ideal) x0 x1 x2 = Cert.ReferenceIdeal.Read.val_main_v65 (F := Ideal) (wide x0) x1 x2 := by
  unfold val_main_v65 val_main_v63 val_main_v62 val_main_v61 val_main_v60 val_main_v59 val_main_v58 val_main_v57 val_main_v56 val_main_v55 val_main_v54
  rw [inner_eq, expo_eq, total_eq]
  rfl

section
variable (hq : ∀ h r x, Finite (query (wide x0) h r x)) (hk : ∀ h j x, Finite (keys x1 h j x))
include hq hk

theorem dq_result : val_main_v77 (F := Ideal) x0 x1 x2 = dqArr (wide x0) x1 x2 := by
  refine Eq.trans ?_ (Cert.ReferenceIdeal.Stages.dq_result (wide x0) x1 x2 hq hk)
  unfold val_main_v77 val_main_v76 val_main_v70 val_main_v69 val_main_v68
  rw [dscore_eq]
  rfl

theorem dkv_result : val_main_v78 (F := Ideal) x0 x1 x2 = dkvArr (wide x0) x1 x2 := by
  refine Eq.trans ?_ (Cert.ReferenceIdeal.Stages.dkv_result (wide x0) x1 x2 hq hk)
  unfold val_main_v78 val_main_v75 val_main_v72 val_main_v74 val_main_v73 val_main_v71 val_main_v67 val_main_v66 val_main_v50 val_main_v49
  rw [dscore_eq, prob_eq, queries_eq]
  rfl

end

end Cert.Reference31Ideal.Stages

end
-- ==== Proof.UpFirstRun.lean ====
/-
  The gradient of the first layer's up projection: the call's run. Its array has fewer rows than the other layer's (`UpRun`);
  what a point adds is the same.
-/
module

public import proofs.«01_k».proof.Defs
public import proofs.«01_k».proof.Proof.Gen.Kernel32
public import proofs.«01_k».proof.Proof.Gen.Kernel32Ideal.Frame
public import proofs.«01_k».proof.Proof.UpRun
public import Idealize.ShloMosaic.Lib.WritesUnit
public import Idealize.ShloMosaic.Lib.Claim
public import Idealize.ShloMosaic.Lib.Pipeline.ValueKit

@[expose] public section

set_option maxRecDepth 16384

noncomputable section

namespace Cert.Kernel32Ideal.UpFirstRun

open Cert.Kernel32Ideal Cert.Kernel32Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel12Ideal.UpRun (zeroes plus)
open Cert.AccBody (zero2 zero3)
open Idealize.ShloMosaic.Pipeline (Dat Cfg Window BodyObligation)

variable {F : FTy → Type} [FloatOps F]

/-- Whether a point is the first of its block. -/
abbrev first (i : grid0.Coords) : BitVec 1 := Scalar.cmpi .ne (Scalar.extui (Scalar.cmpi .eq (BitVec.ofNat 32 (i 2).val) 0#32)) 0#32

theorem first_iff : ∀ t : Fin cfg0.N, first (grid0.coords t) = 1#1 ↔ t.val % 2 = 0 :=
  (by decide +kernel : ∀ t : Fin grid0.N, first (grid0.coords t) = 1#1 ↔ t.val % 2 = 0)

theorem uncut : ∀ t : Fin cfg0.N, (cfg0.win 2).clipped (cfg0.grid.coords t) = false :=
  (by decide +kernel : ∀ t : Fin grid0.N, win0_2.clipped (grid0.coords t) = false)

/-- The body is the one that accumulates. -/
theorem body_eq (i : grid0.Coords) (a : Memref sig .tc .vmem S4096x512 .bf16) (ha : a.IsWhole)
    (b : Memref sig .tc .vmem S4096x1024 .bf16) (hb : b.IsWhole) (o : Memref sig .tc .vmem S1x512x1024 .f32) (ho : o.IsWhole) :
    cc0_dw_up0 (F := F) i a ha b hb (Memref.whole main_arg2) (Memref.isWhole_whole _) o ho
      = AccBody.body h_S4096x512 h_S4096x1024 h_S1x512x1024 inb_S4096x512_S4096x512_0_0 inb_S4096x1024_S4096x1024_0_0
        inb_S1x512x1024_S1x512x1024_0_0_0 zeroes plus (first i) a b o := rfl

variable (m : (ℓ : Loc nD τ sig) → Buf (Elt F) ℓ) (ρ : Dev nD → PrngReg)

/-- What a point leaves. -/
abbrev held (c : Dev nD) (t : Fin cfg0.N) : Vec F S1x512x1024 .f32 := AccBody.held zeroes plus (iblk m c 0) (iblk m c 1) t

/-- The arrays as the call finds them, the inputs' buffers at their blocks, the output's at what its point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => held m c t
  Φ _ := Pipeline.ΦA spec0 c
  q _ := fullShare
  owed _ := 0

theorem dats_A (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = held m c t := by dsimp only [dats]

theorem before_0 (c : Dev nD) (t : Fin cfg0.N) (d) : (dats m 0 c).before 0 t d = iblk m c 0 t :=
  before0_0_of m (dats m 0 c) (dats_A m c 0) (after_0 m c) t d
theorem before_1 (c : Dev nD) (t : Fin cfg0.N) (d) : (dats m 0 c).before 1 t d = iblk m c 1 t :=
  before0_1_of m (dats m 0 c) (dats_A m c 1) (after_1 m c) t d

/-- The second point of a block finds what the first left. -/
theorem before_2 (c : Dev nD) (t : Fin cfg0.N) (ht : ¬t.val % 2 = 0) (d) : (dats m 0 c).before 2 t d = held m c (AccBody.prev t) :=
  (Cert.Packed.kept_whole (dats m 0 c) 2 rfl t (by omega)
    (Bool.eq_false_iff.mpr fun h => by have := (flush0_2 _).mp h; dsimp only at this; omega) (fun _ => rfl) uncut d).trans (after_2 m c _)

/-- A point takes its buffers as the schedule hands them over, and returns them as `dats` says. -/
theorem body_sound (c : Dev nD) (t : Fin cfg0.N) :
    AccBody.pre c (st0_0 t) (st0_1 t) (st0_2 t) ((dats m 0 c).Φ t.castSucc) ((dats m 0 c).owesAt () t.castSucc)
        ((dats m 0 c).before 0 t) ((dats m 0 c).before 1 t) ((dats m 0 c).before 2 t)
      ⊢ wp frame (wpE (defs₀ (F := F)) Variants.none c none) Set.univ (bodyAt0 t)
        (fun _ => AccBody.post c (st0_0 t) (st0_1 t) (st0_2 t) ((dats m 0 c).Φ t.succ) ((dats m 0 c).owesAt () t.succ)
          ((dats m 0 c).after 0 t) ((dats m 0 c).after 1 t) ((dats m 0 c).after 2 t)) := by
  unfold bodyAt0
  rw [body_eq, funext (before_0 m c t), funext (before_1 m c t), after_0, after_1, after_2]
  exact AccBody.point _ _ _ _ _ _ _ _ zero2 zero2 zero3 defs₀ _ c _ (hstage0_0 _) _ (hstage0_1 _) _ (hstage0_2 _) _ _
    (iblk m c 0) (iblk m c 1) t (first_iff t) _ (before_2 m c t)

theorem body_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (body_sound m c t) rfl .rfl fun _ => .rfl

set_option backward.isDefEq.respectTransparency.types false in
/-- The call's run: the output array ends as the points' write-backs leave it, and every counter is zero. -/
theorem run : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := dats_A m) (hΦ := fun _ _ => rfl)

/-- The arguments end as they were. -/
theorem arguments_kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  θ_run_and (frame_of m ρ (dats m) (dats_A m) ((θ_run defs _ _).mono (fun _ h => h.1) (run m ρ)))
    ((θ_run defs _ _).mono (fun _ h => h.2) (run m ρ))

/-- The two programs have the same bodies, -/
theorem same_bodies : Cert.Kernel32.defs₀ (F := Bits) = defs₀ (F := Bits) := by
  unfold Cert.Kernel32.defs₀ defs₀
  refine congrArg Defs.onTc ?_
  funext l _
  match l with
  | 0 => rfl
  | ⟨_ + 1, h⟩ => exact absurd h (Nat.not_lt.2 (Nat.le_add_left _ _))

/-- so the run above is the run of the program on words too. -/
theorem words_kept : Cert.quiescent_Kernel32 (hKernel32 := Cert.Kernel32.Gen.facts) := fun m ρ _ =>
  (congrArg (fun d => θ_run (Pipeline.defs (Cert.Kernel32.pcfgs (F := Bits)) d) (onTc (τ := τ) (main (F := Bits))) ⟨m, fun _ => 0, ρ⟩ _)
    same_bodies).mpr (arguments_kept (F := Bits) m ρ)

end Cert.Kernel32Ideal.UpFirstRun

end
-- ==== Proof.UpFirst.lean ====
/-
  The gradient of the first layer's up projection: as the other layer's (`UpWeight`), in an array of fewer rows.
-/
module

public import proofs.«01_k».proof.Proof.UpFirstRun
public import proofs.«01_k».proof.Proof.UpWeight
public import proofs.«01_k».proof.Proof.Gen.Reference32Ideal.Read
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Kernel32Ideal.Array

open Cert.Kernel32Ideal Cert.Kernel32Ideal.Gen Cert.Kernel32Ideal.UpFirstRun Cert.UpWeight
open Cert.Kernel12Ideal.UpRun (plus zeroes)
open Cert.Kernel12Ideal.Array (plus_apply zeroes_apply rowAt)

variable (m : (ℓ : Loc nD τ sig) → Buf (Elt Ideal) ℓ) (ρ : Dev nD → PrngReg) (c : Dev nD)

/-- The three arguments. -/
abbrev A : S8192x1024.Idx → EReal := m ((c : Thread nD τ).loc main_arg0)
abbrev D : S8192x4096.Idx → EReal := m ((c : Thread nD τ).loc main_arg1)
abbrev P : S4x2688x1024.Idx → EReal := m ((c : Thread nD τ).loc main_arg2)

theorem idx_0 : ∀ t : Fin cfg0.N, win0_0.index t = ![t.val % 2, t.val / 2 % 2] :=
  (by decide +kernel : ∀ t : Fin grid0.N, win0_0.index t = ![t.val % 2, t.val / 2 % 2])
theorem idx_1 : ∀ t : Fin cfg0.N, win0_1.index t = ![t.val % 2, t.val / 4] :=
  (by decide +kernel : ∀ t : Fin grid0.N, win0_1.index t = ![t.val % 2, t.val / 4])
theorem idx_2 : ∀ t : Fin cfg0.N, win0_2.index t = ![t.val / 4, t.val / 2 % 2, 0] :=
  (by decide +kernel : ∀ t : Fin grid0.N, win0_2.index t = ![t.val / 4, t.val / 2 % 2, 0])

/-- The slab and the slab's row of a point's blocks. -/
def slabAt (t : Fin cfg0.N) : Fin 4 := ⟨t.val / 4, by have := t.isLt; have : cfg0.N = 16 := N_0; omega⟩
def placeAt (t : Fin cfg0.N) (k : Fin 512) : Fin 1024 := ⟨t.val / 2 % 2 * 512 + k.val, by omega⟩

theorem block_0 (t : Fin cfg0.N) (h : Fin 2) (hh : h.val = t.val % 2) (r : Fin 4096) (k : Fin 512) :
    iblk m c 0 t (ix2 r k) = A m c (ix2 (rowAt h r) (placeAt t k)) := by
  blk_simp [iblk]
  rw [V_main_arg0]
  refine congrArg (A m c) ?_
  blk_ext [idx_0, rowAt, placeAt, hh]

theorem block_1 (t : Fin cfg0.N) (h : Fin 2) (hh : h.val = t.val % 2) (r : Fin 4096) (n : Fin 1024) :
    iblk m c 1 t (ix2 r n) = D m c (ix2 (rowAt h r) (wide (slabAt t) n)) := by
  blk_simp [iblk]
  rw [V_main_arg1]
  refine congrArg (D m c) ?_
  blk_ext [idx_1, rowAt, wide, slabAt, hh]

/-- The buffer the call writes into starts as a copy of the third argument. -/
theorem entry_eq : (V m c main_v0 : S4x2688x1024.Idx → EReal) = P m c := by
  unfold V
  rw [StableHlo.after_cons, StableHlo.after_nil, StableHlo.unary_result]
  rfl

/-- What the second point of a block leaves: the products of both halves, which are the product of all rows. -/
theorem held_eq (t : Fin cfg0.N) (ht : t.val % 2 = 1) (k : Fin 512) (n : Fin 1024) :
    held m c t (ix3 0 k n) = dwAt (A m c) (D m c) (slabAt t) (placeAt t k) n := by
  have h0 : (AccBody.prev t).val % 2 = 0 := by show (t.val - 1) % 2 = 0; omega
  have es : slabAt (AccBody.prev t) = slabAt t := Fin.ext (by show (t.val - 1) / 4 = t.val / 4; omega)
  have ep : placeAt (AccBody.prev t) k = placeAt t k :=
    Fin.ext (by show (t.val - 1) / 2 % 2 * 512 + k.val = t.val / 2 % 2 * 512 + k.val; omega)
  refine (AccBody.held_sum (zeroes (F := Ideal)) plus (iblk m c 0) (iblk m c 1) (ix3 0 k n) (fun A D => ∑ r : Fin 4096, A (ix2 r k) * D (ix2 r n))
    (zeroes_apply (ix3 0 k n)) (fun v A D => plus_apply v A D k n) t ht).trans ?_
  unfold dwAt
  rw [Fin.sum_univ_tiles 2 4096 rfl, Fin.sum_univ_two]
  refine congrArg₂ (· + ·) (Finset.sum_congr rfl fun r _ => ?_) (Finset.sum_congr rfl fun r _ => ?_)
  · rw [block_0 m c _ 0 h0.symm, block_1 m c _ 0 h0.symm, es, ep]
    rfl
  · rw [block_0 m c t 1 ht.symm, block_1 m c t 1 ht.symm]
    rfl

/-- The result array. -/
theorem packed_array : (dats m 0 c).arrAt 2 cfg0.N = packedArr (A m c) (D m c) (P m c) := by
  refine ((dats m 0 c).arrAt_eq_of_coversWhere 2 (dwArr (A m c) (D m c))
    (P := fun y : S4x2688x1024.Idx => (y 1).val / 512 < 2) (fun β => β (1 : Fin 3) < 2) (by decide +kernel) (fun t hf y => ?_) (fun j => Iff.rfl)).trans ?_
  · have ht : t.val % 2 = 1 := (flush0_2 t).mp hf
    obtain ⟨a, k, n, hy⟩ : ∃ (a : Fin 1) (k : Fin 512) (n : Fin 1024), (cfg0.win 2).xinj (cfg0.grid.coords t) y = ix3 a k n :=
      ⟨_, _, _, eq_ix3 (n0 := 1) (n1 := 512) (n2 := 1024) _⟩
    have hk : (y 1).val = k.val := congrArg (fun q : S1x512x1024.Idx => (q 1).val) hy
    have hn : (y 2).val = n.val := congrArg (fun q : S1x512x1024.Idx => (q 2).val) hy
    obtain rfl : a = 0 := Subsingleton.elim _ _
    have h0 : (y 0).val = 0 := congrArg (fun q : S1x512x1024.Idx => (q 0).val) hy
    blk_simp
    rw [after_2]
    refine (congrArg (held m c t) hy).trans ((held_eq m c t ht k n).trans ?_)
    have e0 : (((cfg0.win 2).blk t).view.emb y 0).val = t.val / 4 := by
      blk_simp [idx_2]
      exact congrArg (t.val / 4 + ·) h0
    have e1 : (((cfg0.win 2).blk t).view.emb y 1).val = t.val / 2 % 2 * 512 + k.val := by
      blk_simp [idx_2]
      exact congrArg (t.val / 2 % 2 * 512 + ·) hk
    have e2 : (((cfg0.win 2).blk t).view.emb y 2).val = n.val := by
      show win0_2.index t 2 * 1024 + 1 * (y 2).val = n.val
      rw [idx_2, hn]
      show 0 * 1024 + 1 * n.val = n.val
      omega
    generalize ((cfg0.win 2).blk t).view.emb y = z at e0 e1 e2
    have e1 : placeAt t k = narrow (z 1) := Fin.ext (by
      show t.val / 2 % 2 * 512 + k.val = (z 1).val % 1024
      rw [e1]; omega)
    exact congr (congr (congrArg (dwAt (A m c) (D m c)) (Fin.ext e0.symm)) e1) (Fin.ext e2.symm)
  · funext y
    have e : (dats m 0 c).A 2 = P m c := (dats_A m c 2).trans (entry_eq m c)
    unfold packedArr
    rw [e]

/-- The run, its result named. -/
theorem run_named : θ_run defs (onTc (τ := τ) (main (F := Ideal))) ⟨m, fun _ => 0, ρ⟩ fun r => ∀ c : Dev nD,
      r.2.mem ((c : Thread nD τ).loc main_v0) = (dats m 0 c).arrAt 2 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h.1.1 c).1 2, h.2.1 c⟩) (θ_run_and (run m ρ) (arguments_kept m ρ))

end Cert.Kernel32Ideal.Array

namespace Cert.Reference32Ideal.Stages

open Cert.Reference32Ideal Cert.Reference32Ideal.Gen Cert.Reference32Ideal.Read Cert.UpWeight

variable (x0 : (⟨S8192x1024, .bf16⟩ : BufTy).Contents (Elt Ideal)) (x1 : (⟨S8192x4096, .bf16⟩ : BufTy).Contents (Elt Ideal))
  (x2 : (⟨S4x2688x1024, .f32⟩ : BufTy).Contents (Elt Ideal))

theorem product_at (s : Fin 4) (k : Fin 1024) (n : Fin 1024) :
    val_main_v5 (F := Ideal) x0 x1 (ix3 s k n) = dwAt x0 x1 s k n := by
  unfold val_main_v5 val_main_v4 val_main_v3 val_main_v2 val_main_v1 val_main_v0
  pointwise
  unfold dwAt
  refine Finset.sum_congr rfl fun R _ => (mul_comm _ _).trans rfl

theorem packed_result : val_main_v7 (F := Ideal) x0 x1 x2 = packedArr x0 x1 x2 := by
  funext y
  obtain ⟨s, j, n, rfl⟩ : ∃ s j n, y = ix3 s j n := ⟨y 0, y 1, y 2, eq_ix3 y⟩
  unfold val_main_v7 val_main_v6
  generalize hp : val_main_v5 (F := Ideal) x0 x1 = p
  pointwise
  subst hp
  show _ = if j.val / 512 < 2 then dwAt x0 x1 s (narrow j) n else x2 (ix3 s j n)
  by_cases hj : j.val < 1024
  · refine (dif_pos hj).trans ((product_at x0 x1 s _ n).trans ?_)
    rw [if_pos (by omega)]
    exact congrArg (fun i => dwAt x0 x1 s i n) (Fin.ext (Nat.mod_eq_of_lt hj).symm)
  · refine (dif_neg hj).trans ?_
    refine Eq.trans ?_ (if_neg (by omega)).symm
    exact congrArg (fun i => x2 (ix3 s i n)) (Fin.ext (by show 1024 + (j.val - 1024) = j.val; omega))

end Cert.Reference32Ideal.Stages

end
-- ==== Proof.DownFirstRun.lean ====
/-
  The gradient of the first layer's down projection: the call's run, and the slice that takes its rows out. Its array has fewer
  rows than the other layer's (`DownRun`); what a point adds is the same.
-/
module

public import proofs.«01_k».proof.Defs
public import proofs.«01_k».proof.Proof.Gen.Kernel33
public import proofs.«01_k».proof.Proof.Gen.Kernel33Ideal.Frame
public import proofs.«01_k».proof.Proof.UpRun
public import Idealize.ShloMosaic.Lib.WritesUnit
public import Idealize.ShloMosaic.Lib.Claim
public import Idealize.ShloMosaic.Lib.Pipeline.ValueKit

@[expose] public section

set_option maxRecDepth 16384

noncomputable section

namespace Cert.Kernel33Ideal.DownFirstRun

open Cert.Kernel33Ideal Cert.Kernel33Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel12Ideal.UpRun (zeroes plus)
open Cert.AccBody (zero2 zero3)
open Idealize.ShloMosaic.Pipeline (Dat Cfg Window BodyObligation)

variable {F : FTy → Type} [FloatOps F]

/-- Whether a point is the first of its block. -/
abbrev first (i : grid0.Coords) : BitVec 1 := Scalar.cmpi .ne (Scalar.extui (Scalar.cmpi .eq (BitVec.ofNat 32 (i 2).val) 0#32)) 0#32

theorem first_iff : ∀ t : Fin cfg0.N, first (grid0.coords t) = 1#1 ↔ t.val % 2 = 0 :=
  (by decide +kernel : ∀ t : Fin grid0.N, first (grid0.coords t) = 1#1 ↔ t.val % 2 = 0)

theorem uncut : ∀ t : Fin cfg0.N, (cfg0.win 2).clipped (cfg0.grid.coords t) = false :=
  (by decide +kernel : ∀ t : Fin grid0.N, win0_2.clipped (grid0.coords t) = false)

/-- The body is the one that accumulates. -/
theorem body_eq (i : grid0.Coords) (a : Memref sig .tc .vmem S4096x512 .bf16) (ha : a.IsWhole)
    (b : Memref sig .tc .vmem S4096x1024 .bf16) (hb : b.IsWhole) (o : Memref sig .tc .vmem S1x512x1024 .f32) (ho : o.IsWhole) :
    cc0_dw_down0 (F := F) i a ha b hb o ho
      = AccBody.body h_S4096x512 h_S4096x1024 h_S1x512x1024 inb_S4096x512_S4096x512_0_0 inb_S4096x1024_S4096x1024_0_0
        inb_S1x512x1024_S1x512x1024_0_0_0 zeroes plus (first i) a b o := rfl

variable (m : (ℓ : Loc nD τ sig) → Buf (Elt F) ℓ) (ρ : Dev nD → PrngReg)

/-- What a point leaves. -/
abbrev held (c : Dev nD) (t : Fin cfg0.N) : Vec F S1x512x1024 .f32 := AccBody.held zeroes plus (iblk m c 0) (iblk m c 1) t

/-- The arrays as the call finds them, the inputs' buffers at their blocks, the output's at what its point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => held m c t
  Φ _ := Pipeline.ΦA spec0 c
  q _ := fullShare
  owed _ := 0

theorem dats_A (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = held m c t := by dsimp only [dats]

theorem before_0 (c : Dev nD) (t : Fin cfg0.N) (d) : (dats m 0 c).before 0 t d = iblk m c 0 t :=
  before0_0_of m (dats m 0 c) (dats_A m c 0) (after_0 m c) t d
theorem before_1 (c : Dev nD) (t : Fin cfg0.N) (d) : (dats m 0 c).before 1 t d = iblk m c 1 t :=
  before0_1_of m (dats m 0 c) (dats_A m c 1) (after_1 m c) t d

/-- The second point of a block finds what the first left. -/
theorem before_2 (c : Dev nD) (t : Fin cfg0.N) (ht : ¬t.val % 2 = 0) (d) : (dats m 0 c).before 2 t d = held m c (AccBody.prev t) :=
  (Cert.Packed.kept_whole (dats m 0 c) 2 rfl t (by omega)
    (Bool.eq_false_iff.mpr fun h => by have := (flush0_2 _).mp h; dsimp only at this; omega) (fun _ => rfl) uncut d).trans (after_2 m c _)

/-- A point takes its buffers as the schedule hands them over, and returns them as `dats` says. -/
theorem body_sound (c : Dev nD) (t : Fin cfg0.N) :
    AccBody.pre c (st0_0 t) (st0_1 t) (st0_2 t) ((dats m 0 c).Φ t.castSucc) ((dats m 0 c).owesAt () t.castSucc)
        ((dats m 0 c).before 0 t) ((dats m 0 c).before 1 t) ((dats m 0 c).before 2 t)
      ⊢ wp frame (wpE (defs₀ (F := F)) Variants.none c none) Set.univ (bodyAt0 t)
        (fun _ => AccBody.post c (st0_0 t) (st0_1 t) (st0_2 t) ((dats m 0 c).Φ t.succ) ((dats m 0 c).owesAt () t.succ)
          ((dats m 0 c).after 0 t) ((dats m 0 c).after 1 t) ((dats m 0 c).after 2 t)) := by
  unfold bodyAt0
  rw [body_eq, funext (before_0 m c t), funext (before_1 m c t), after_0, after_1, after_2]
  exact AccBody.point _ _ _ _ _ _ _ _ zero2 zero2 zero3 defs₀ _ c _ (hstage0_0 _) _ (hstage0_1 _) _ (hstage0_2 _) _ _
    (iblk m c 0) (iblk m c 1) t (first_iff t) _ (before_2 m c t)

theorem body_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (body_sound m c t) rfl .rfl fun _ => .rfl

set_option backward.isDefEq.respectTransparency.types false in
/-- The call's run, with the slice that follows it: the arrays end as the points' write-backs leave them, and every counter is zero. -/
theorem run : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := dats_A m) (hΦ := fun _ _ => rfl) (hQ' := fun _ h => h)

/-- The arguments end as they were. -/
theorem arguments_kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  θ_run_and (frame_of m ρ (dats m) (dats_A m) ((θ_run defs _ _).mono (fun _ h => h.1) (run m ρ)))
    ((θ_run defs _ _).mono (fun _ h => h.2) (run m ρ))

/-- The two programs have the same bodies, -/
theorem same_bodies : Cert.Kernel33.defs₀ (F := Bits) = defs₀ (F := Bits) := by
  unfold Cert.Kernel33.defs₀ defs₀
  refine congrArg Defs.onTc ?_
  funext l _
  match l with
  | 0 => rfl
  | ⟨_ + 1, h⟩ => exact absurd h (Nat.not_lt.2 (Nat.le_add_left _ _))

/-- so the run above is the run of the program on words too. -/
theorem words_kept : Cert.quiescent_Kernel33 (hKernel33 := Cert.Kernel33.Gen.facts) := fun m ρ _ =>
  (congrArg (fun d => θ_run (Pipeline.defs (Cert.Kernel33.pcfgs (F := Bits)) d) (onTc (τ := τ) (main (F := Bits))) ⟨m, fun _ => 0, ρ⟩ _)
    same_bodies).mpr (arguments_kept (F := Bits) m ρ)

end Cert.Kernel33Ideal.DownFirstRun

end
-- ==== Proof.DownFirst.lean ====
/-
  The gradient of the first layer's down projection: as the other layer's (`DownWeight`), in an array of fewer rows.
-/
module

public import proofs.«01_k».proof.Proof.DownFirstRun
public import proofs.«01_k».proof.Proof.DownWeight
public import proofs.«01_k».proof.Proof.Gen.Reference33Ideal.Read
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Kernel33Ideal.Array

open Cert.Kernel33Ideal Cert.Kernel33Ideal.Gen Cert.Kernel33Ideal.DownFirstRun Cert.DownWeight
open Cert.UpWeight (wide narrow)
open Cert.Kernel12Ideal.UpRun (plus zeroes)
open Cert.Kernel12Ideal.Array (plus_apply zeroes_apply rowAt)

variable (m : (ℓ : Loc nD τ sig) → Buf (Elt Ideal) ℓ) (ρ : Dev nD → PrngReg) (c : Dev nD)

/-- The two arguments. -/
abbrev A : S8192x4096.Idx → EReal := m ((c : Thread nD τ).loc main_arg0)
abbrev D : S8192x1024.Idx → EReal := m ((c : Thread nD τ).loc main_arg1)

theorem idx_0 : ∀ t : Fin cfg0.N, win0_0.index t = ![t.val % 2, t.val / 2] :=
  (by decide +kernel : ∀ t : Fin grid0.N, win0_0.index t = ![t.val % 2, t.val / 2])
theorem idx_1 : ∀ t : Fin cfg0.N, win0_1.index t = ![t.val % 2, 0] :=
  (by decide +kernel : ∀ t : Fin grid0.N, win0_1.index t = ![t.val % 2, 0])
theorem idx_2 : ∀ t : Fin cfg0.N, win0_2.index t = ![t.val / 4, 2 + t.val / 2 % 2, 0] :=
  (by decide +kernel : ∀ t : Fin grid0.N, win0_2.index t = ![t.val / 4, 2 + t.val / 2 % 2, 0])

/-- The slab and the slab's row of a point's blocks. -/
def slabAt (t : Fin cfg0.N) : Fin 4 := ⟨t.val / 4, by have := t.isLt; have : cfg0.N = 16 := N_0; omega⟩
def placeAt (t : Fin cfg0.N) (k : Fin 512) : Fin 1024 := ⟨t.val / 2 % 2 * 512 + k.val, by omega⟩

theorem block_0 (t : Fin cfg0.N) (h : Fin 2) (hh : h.val = t.val % 2) (r : Fin 4096) (k : Fin 512) :
    iblk m c 0 t (ix2 r k) = A m c (ix2 (rowAt h r) (wide (slabAt t) (placeAt t k))) := by
  blk_simp [iblk]
  rw [V_main_arg0]
  refine congrArg (A m c) ?_
  have e : (wide (slabAt t) (placeAt t k)).val = t.val / 2 * 512 + k.val := by
    show t.val / 4 * 1024 + (t.val / 2 % 2 * 512 + k.val) = t.val / 2 * 512 + k.val
    omega
  blk_ext [idx_0, rowAt, e, hh]

theorem block_1 (t : Fin cfg0.N) (h : Fin 2) (hh : h.val = t.val % 2) (r : Fin 4096) (n : Fin 1024) :
    iblk m c 1 t (ix2 r n) = D m c (ix2 (rowAt h r) n) := by
  blk_simp [iblk]
  rw [V_main_arg1]
  refine congrArg (D m c) ?_
  blk_ext [idx_1, rowAt, hh]

/-- What the second point of a block leaves: the products of both halves, which are the product of all rows. -/
theorem held_eq (t : Fin cfg0.N) (ht : t.val % 2 = 1) (k : Fin 512) (n : Fin 1024) :
    held m c t (ix3 0 k n) = dwAt (A m c) (D m c) (slabAt t) (placeAt t k) n := by
  have h0 : (AccBody.prev t).val % 2 = 0 := by show (t.val - 1) % 2 = 0; omega
  have es : slabAt (AccBody.prev t) = slabAt t := Fin.ext (by show (t.val - 1) / 4 = t.val / 4; omega)
  have ep : placeAt (AccBody.prev t) k = placeAt t k :=
    Fin.ext (by show (t.val - 1) / 2 % 2 * 512 + k.val = t.val / 2 % 2 * 512 + k.val; omega)
  refine (AccBody.held_sum (zeroes (F := Ideal)) plus (iblk m c 0) (iblk m c 1) (ix3 0 k n) (fun A D => ∑ r : Fin 4096, A (ix2 r k) * D (ix2 r n))
    (zeroes_apply (ix3 0 k n)) (fun v A D => plus_apply v A D k n) t ht).trans ?_
  unfold dwAt
  rw [Fin.sum_univ_tiles 2 4096 rfl, Fin.sum_univ_two]
  refine congrArg₂ (· + ·) (Finset.sum_congr rfl fun r _ => ?_) (Finset.sum_congr rfl fun r _ => ?_)
  · rw [block_0 m c _ 0 h0.symm, block_1 m c _ 0 h0.symm, es, ep]
    rfl
  · rw [block_0 m c t 1 ht.symm, block_1 m c t 1 ht.symm]
    rfl

/-- The result array. -/
theorem rows_array : (dats m 0 c).arrAt 2 cfg0.N = fun y : S4x2688x1024.Idx => if (y 1).val / 512 < 4 ∧ 2 ≤ (y 1).val / 512 then dwArr (A m c) (D m c) y else (dats m 0 c).A 2 y := by
  refine ((dats m 0 c).arrAt_eq_of_coversWhere 2 (dwArr (A m c) (D m c))
    (P := fun y : S4x2688x1024.Idx => (y 1).val / 512 < 4 ∧ 2 ≤ (y 1).val / 512) (fun β => β (1 : Fin 3) < 4 ∧ 2 ≤ β (1 : Fin 3)) (by decide +kernel) (fun t hf y => ?_) (fun j => Iff.rfl)).trans ?_
  · have ht : t.val % 2 = 1 := (flush0_2 t).mp hf
    obtain ⟨a, k, n, hy⟩ : ∃ (a : Fin 1) (k : Fin 512) (n : Fin 1024), (cfg0.win 2).xinj (cfg0.grid.coords t) y = ix3 a k n :=
      ⟨_, _, _, eq_ix3 (n0 := 1) (n1 := 512) (n2 := 1024) _⟩
    have hk : (y 1).val = k.val := congrArg (fun q : S1x512x1024.Idx => (q 1).val) hy
    have hn : (y 2).val = n.val := congrArg (fun q : S1x512x1024.Idx => (q 2).val) hy
    obtain rfl : a = 0 := Subsingleton.elim _ _
    have h0 : (y 0).val = 0 := congrArg (fun q : S1x512x1024.Idx => (q 0).val) hy
    blk_simp
    rw [after_2]
    refine (congrArg (held m c t) hy).trans ((held_eq m c t ht k n).trans ?_)
    have e0 : (((cfg0.win 2).blk t).view.emb y 0).val = t.val / 4 := by
      blk_simp [idx_2]
      exact congrArg (t.val / 4 + ·) h0
    have e1 : (((cfg0.win 2).blk t).view.emb y 1).val = (2 + t.val / 2 % 2) * 512 + k.val := by
      blk_simp [idx_2]
      exact congrArg ((2 + t.val / 2 % 2) * 512 + ·) hk
    have e2 : (((cfg0.win 2).blk t).view.emb y 2).val = n.val := by
      show win0_2.index t 2 * 1024 + 1 * (y 2).val = n.val
      rw [idx_2, hn]
      show 0 * 1024 + 1 * n.val = n.val
      omega
    generalize ((cfg0.win 2).blk t).view.emb y = z at e0 e1 e2
    have e1 : placeAt t k = narrow (z 1) := Fin.ext (by
      show t.val / 2 % 2 * 512 + k.val = (z 1).val % 1024
      rw [e1]; omega)
    exact congr (congr (congrArg (dwAt (A m c) (D m c)) (Fin.ext e0.symm)) e1) (Fin.ext e2.symm)
  · rfl

/-- What the slice reads. -/
theorem sliced : Pipeline.afterTail₀ cfgs (dats m) 0 (V0 m) [hostOps1] c main_v1
    = extractStridedSlice S4x1024x1024 ![0, 1024, 0] ((dats m 0 c).arrAt 2 cfg0.N) slices_S4x2688x1024_S4x1024x1024_0_1024_0 := by
  unfold Pipeline.afterTail₀
  show StableHlo.after hostOps1 _ _ = _
  rw [StableHlo.after_cons, StableHlo.after_nil, StableHlo.unary_result]
  exact congrArg (extractStridedSlice S4x1024x1024 ![0, 1024, 0] · slices_S4x2688x1024_S4x1024x1024_0_1024_0)
    (Pipeline.withArrays_arr spec0 launch0.win.arr_inj c _ _ 2)

/-- The result. -/
theorem grad_array : Pipeline.afterTail₀ cfgs (dats m) 0 (V0 m) [hostOps1] c main_v1 = grad (A m c) (D m c) := by
  rw [sliced, rows_array]
  funext y
  obtain ⟨s, j, n, rfl⟩ : ∃ s j n, y = ix3 s j n := ⟨y 0, y 1, y 2, eq_ix3 y⟩
  pointwise
  refine (if_pos ⟨by omega, by omega⟩).trans ?_
  exact congrArg (fun i => dwAt (A m c) (D m c) s i n) (Fin.ext (by show (1024 + j.val) % 1024 = j.val; omega))

/-- The run, its result named. -/
theorem run_named : θ_run defs (onTc (τ := τ) (main (F := Ideal))) ⟨m, fun _ => 0, ρ⟩ fun r => ∀ c : Dev nD,
      r.2.mem ((c : Thread nD τ).loc main_v1) = Pipeline.afterTail₀ cfgs (dats m) 0 (V0 m) [hostOps1] c main_v1
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h.1.1 c).2 main_v1 (by decide +kernel), h.2.1 c⟩) (θ_run_and (run m ρ) (arguments_kept m ρ))

end Cert.Kernel33Ideal.Array

namespace Cert.Reference33Ideal.Stages

open Cert.Reference33Ideal Cert.Reference33Ideal.Gen Cert.Reference33Ideal.Read Cert.DownWeight

variable (x0 : (⟨S8192x4096, .bf16⟩ : BufTy).Contents (Elt Ideal)) (x1 : (⟨S8192x1024, .bf16⟩ : BufTy).Contents (Elt Ideal))

theorem grad_result : val_main_v4 (F := Ideal) x0 x1 = grad x0 x1 := by
  funext y
  obtain ⟨s, j, n, rfl⟩ : ∃ s j n, y = ix3 s j n := ⟨y 0, y 1, y 2, eq_ix3 y⟩
  unfold val_main_v4 val_main_v3 val_main_v2 val_main_v1 val_main_v0
  pointwise
  exact Finset.sum_congr rfl fun R _ => (mul_comm _ _).trans rfl

end Cert.Reference33Ideal.Stages

end
-- ==== Proof.RotaryAhead.lean ====
/-
  The attention's rotary preparation: queries turned by each position's angles and scaled, each head of the turned keys and of
  the values laid twice side by side, and the values beside ones. The kernel turns 128 columns at once, two heads of them, and
  takes partners and neighbouring heads by rotating the lanes; the reference slices each head, turns and joins.
-/
module

public import proofs.«01_k».proof.Proof.Gen.Kernel34Ideal.Value
public import proofs.«01_k».proof.Proof.Gen.Reference34Ideal.Read
public import proofs.«01_k».proof.Proof.RotaryGrad

@[expose] public section

set_option maxRecDepth 16384

noncomputable section

open Idealize.ShloMosaic Idealize.ShloMosaic.TcCoe Idealize.SL.Sem
open Idealize.ShloMosaic.Pipeline (Dat)

namespace Cert.Rotary

/-- A row turned: of each head's 64 columns the first eight and the next eight are turned together, the other 48 stay. -/
def ahead (C S : Fin 8 → EReal) (f : ℕ → EReal) (n : ℕ) : EReal :=
  if n % 64 < 8 then f n * C ⟨n % 8, by omega⟩ - f (n + 8) * S ⟨n % 8, by omega⟩
  else if n % 64 < 16 then f n * C ⟨n % 8, by omega⟩ + f (n - 8) * S ⟨n % 8, by omega⟩
  else f n

variable (X : (⟨2, ![8192, 2048]⟩ : Shape).Idx → EReal) (p : (⟨1, ![8192]⟩ : Shape).Idx → BitVec 32)

/-- The queries, turned and divided by eight. -/
def queryArr : (⟨2, ![8192, 1024]⟩ : Shape).Idx → EReal :=
  fun y => ahead (cosOf p (y 0)) (sinOf p (y 0)) (rowAt X (y 0)) (y 1).val * Ideal.ofBits .f32 0x3E000000#32

/-- The keys, turned, each head twice. -/
def keyArr : (⟨2, ![8192, 512]⟩ : Shape).Idx → EReal :=
  fun y => ahead (cosOf p (y 0)) (sinOf p (y 0)) (rowAt X (y 0)) (1024 + 64 * ((y 1).val / 128) + (y 1).val % 64)

/-- The values, each head twice. -/
def valueArr : (⟨2, ![8192, 512]⟩ : Shape).Idx → EReal := fun y => rowAt X (y 0) (1280 + 64 * ((y 1).val / 128) + (y 1).val % 64)

/-- Each head of the values, 128 ones, and the head again. -/
def besideOnes : (⟨2, ![8192, 1024]⟩ : Shape).Idx → EReal :=
  fun y => if 64 ≤ (y 1).val % 256 ∧ (y 1).val % 256 < 192 then 1 else rowAt X (y 0) (1280 + 64 * ((y 1).val / 256) + (y 1).val % 64)

end Cert.Rotary

namespace Cert.Kernel34Ideal.Array

open Cert.Kernel34Ideal Cert.Kernel34Ideal.Gen Cert.Kernel34Ideal.Value Cert.Rotary

/-! ## 128 columns of a block -/

/-- The first 64 lanes. -/
theorem low : ∀ l : Fin 128, IntOp.cmpi .slt (BitVec.ofNat 32 l.val) 64#32 = if l.val < 64 then 1#1 else 0#1 := by decide +kernel

section Pays
variable (cs sn t : Vec Ideal S256x128 .f32) (r : Fin 256) (l : Fin 128)

theorem pay31_apply : k0_pay31 (k0_pay5 cs) (k0_pay6 sn) t (ix2 r l) = t (ix2 r l) * cs (ix2 r l)
      + (if l.val % 64 < 8 then t (ix2 r ⟨(l.val + 128 - 120) % 128, by omega⟩) else t (ix2 r ⟨(l.val + 128 - 8) % 128, by omega⟩)) * sn (ix2 r l) := by
  unfold_payloads
  pointwise
  rw [Cert.Kernel20Ideal.Array.mask]
  split <;> rfl

theorem pay18_apply : k0_pay18 (k0_pay5 cs) (k0_pay6 sn) t (ix2 r l) = k0_pay31 (k0_pay5 cs) (k0_pay6 sn) t (ix2 r l) * Ideal.ofBits .f32 0x3E000000#32 := rfl

/-- The first head twice, and the second head twice. -/
theorem pay21_apply : k0_pay21 (F := Ideal) k0_pay7 t (ix2 r l) = t (ix2 r ⟨l.val % 64, by omega⟩) := by
  unfold_payloads
  pointwise
  rw [low]
  have hl := l.isLt
  by_cases h : l.val < 64
  · rw [if_pos h]
    exact congrArg (fun k => t (ix2 r k)) (Fin.ext (by show l.val = l.val % 64; omega))
  · rw [if_neg h]
    exact congrArg (fun k => t (ix2 r k)) (Fin.ext (by show (l.val + 128 - 64) % 128 = l.val % 64; omega))

theorem pay22_apply : k0_pay22 (F := Ideal) k0_pay7 t (ix2 r l) = t (ix2 r ⟨64 + l.val % 64, by omega⟩) := by
  unfold_payloads
  pointwise
  rw [low]
  have hl := l.isLt
  by_cases h : l.val < 64
  · rw [if_pos h]
    exact congrArg (fun k => t (ix2 r k)) (Fin.ext (by show (l.val + 128 - 64) % 128 = 64 + l.val % 64; omega))
  · rw [if_neg h]
    exact congrArg (fun k => t (ix2 r k)) (Fin.ext (by show l.val = 64 + l.val % 64; omega))

/-- One of the heads on one side, ones on the other. -/
theorem pay27_apply : k0_pay27 (F := Ideal) k0_pay7 t (ix2 r l) = if l.val < 64 then t (ix2 r l) else 1 := by
  unfold_payloads
  pointwise
  rw [low]
  split <;> rfl

theorem pay28_apply : k0_pay28 (F := Ideal) k0_pay7 t (ix2 r l) = if l.val < 64 then 1 else t (ix2 r ⟨(l.val + 128 - 64) % 128, by omega⟩) := by
  unfold_payloads
  pointwise
  rw [low]
  split <;> rfl

theorem pay29_apply : k0_pay29 (F := Ideal) k0_pay7 t (ix2 r l) = if l.val < 64 then t (ix2 r ⟨(l.val + 128 - 64) % 128, by omega⟩) else 1 := by
  unfold_payloads
  pointwise
  rw [low]
  split <;> rfl

theorem pay30_apply : k0_pay30 (F := Ideal) k0_pay7 t (ix2 r l) = if l.val < 64 then 1 else t (ix2 r l) := by
  unfold_payloads
  pointwise
  rw [low]
  split <;> rfl

end Pays

section Chunks
variable (X : Vec Ideal S256x2048 .f32) (cs sn : Vec Ideal S256x128 .f32) (r : Fin 256) (l : Fin 128) (C S : Fin 8 → EReal)

/-- The tables as the body loads them. -/
abbrev cosLd : Vec Ideal S256x128 .f32 := View.ld cs r0_0
abbrev sinLd : Vec Ideal S256x128 .f32 := View.ld sn r0_0

/-- A load of 128 columns at `o`. -/
theorem lane {o : ℕ} (iX) (h : o + 128 ≤ 2048) : View.ld X (Rect.unit (s := S256x2048) ![0, o] ![256, 128] iX) (ix2 r l) = rowAt X r (o + l.val) :=
  (Cert.Cols.ld_cols X iX r l ⟨o + l.val, by omega⟩ rfl).trans (rowAt_of X r _ rfl).symm

/-- With the tables in place the chunk is turned. -/
theorem chunk {o : ℕ} (iX) (hc : ∀ l, cs (ix2 r l) = cosLane C l) (hs : ∀ l, sn (ix2 r l) = sinLane S l) (ho : o % 64 = 0) (hN : o + 128 ≤ 2048) :
    k0_pay31 (F := Ideal) (k0_pay5 (cosLd cs)) (k0_pay6 (sinLd sn)) (View.ld X (Rect.unit (s := S256x2048) ![0, o] ![256, 128] iX)) (ix2 r l)
      = ahead C S (rowAt X r) (o + l.val) := by
  have ec : cosLd cs (ix2 r l) = cosLane C l := (Cert.Cols.ld_cols cs _ r l l (Nat.zero_add _).symm).trans (hc l)
  have es : sinLd sn (ix2 r l) = sinLane S l := (Cert.Cols.ld_cols sn _ r l l (Nat.zero_add _).symm).trans (hs l)
  rw [pay31_apply, ec, es]
  simp only [lane X r _ iX hN]
  have em : (o + l.val) % 64 = l.val % 64 := by omega
  have e8 : (o + l.val) % 8 = l.val % 8 := by omega
  have hl := l.isLt
  unfold ahead cosLane sinLane
  simp only [em, e8]
  by_cases h : l.val % 64 < 8
  · have er : o + (l.val + 128 - 120) % 128 = o + l.val + 8 := by omega
    rw [if_pos h, if_pos h, if_pos h, if_pos (by omega), er, mul_neg, ← sub_eq_add_neg]
  · by_cases h' : l.val % 64 < 16
    · have er : o + (l.val + 128 - 8) % 128 = o + l.val - 8 := by omega
      rw [if_neg h, if_neg h, if_neg h, if_pos h', if_pos h', if_pos h', er]
    · rw [if_neg h, if_neg h, if_neg h, if_neg h', if_neg h', if_neg h', mul_one, mul_zero, add_zero]

theorem query_chunk {o : ℕ} (iX) (hc : ∀ l, cs (ix2 r l) = cosLane C l) (hs : ∀ l, sn (ix2 r l) = sinLane S l) (ho : o % 64 = 0) (hN : o + 128 ≤ 2048) :
    k0_pay18 (F := Ideal) (k0_pay5 (cosLd cs)) (k0_pay6 (sinLd sn)) (View.ld X (Rect.unit (s := S256x2048) ![0, o] ![256, 128] iX)) (ix2 r l)
      = ahead C S (rowAt X r) (o + l.val) * Ideal.ofBits .f32 0x3E000000#32 := by
  rw [pay18_apply, chunk X cs sn r l C S iX hc hs ho hN]

/-! ## The four blocks -/

theorem out_3 (k : Fin 1024) (hc : ∀ l, cs (ix2 r l) = cosLane C l) (hs : ∀ l, sn (ix2 r l) = sinLane S l) :
    out0_3 (F := Ideal) X cs sn (ix2 r k) = ahead C S (rowAt X r) k.val * Ideal.ofBits .f32 0x3E000000#32 := by
  obtain ⟨s, l, e⟩ : ∃ (s : Fin 8) (l : Fin 128), k.val = 128 * s.val + l.val := ⟨⟨k.val / 128, by omega⟩, ⟨k.val % 128, by omega⟩, by dsimp only; omega⟩
  obtain ⟨s, h8⟩ := s
  have hl := l.isLt
  dsimp only at e
  unfold out0_3
  interval_cases s
  all_goals
    repeat rw [Cert.Cols.canon_miss _ _ _ _ _ (by omega)]
    rw [Cert.Cols.canon_hit _ _ _ _ _ l (by omega), e]
    exact query_chunk X cs sn r l C S _ hc hs (by decide) (by decide)

theorem out_4 (k : Fin 512) (hc : ∀ l, cs (ix2 r l) = cosLane C l) (hs : ∀ l, sn (ix2 r l) = sinLane S l) :
    out0_4 (F := Ideal) X cs sn (ix2 r k) = ahead C S (rowAt X r) (1024 + 64 * (k.val / 128) + k.val % 64) := by
  obtain ⟨s, l, e⟩ : ∃ (s : Fin 4) (l : Fin 128), k.val = 128 * s.val + l.val := ⟨⟨k.val / 128, by omega⟩, ⟨k.val % 128, by omega⟩, by dsimp only; omega⟩
  obtain ⟨s, h4⟩ := s
  have hl := l.isLt
  dsimp only at e
  unfold out0_4
  interval_cases s
  all_goals
    repeat rw [Cert.Cols.canon_miss _ _ _ _ _ (by omega)]
    rw [Cert.Cols.canon_hit _ _ _ _ _ l (by omega)]
    first
    | exact (pay21_apply _ r l).trans ((chunk X cs sn r _ C S _ hc hs (by decide) (by decide)).trans (congrArg _ (by dsimp only; omega)))
    | exact (pay22_apply _ r l).trans ((chunk X cs sn r _ C S _ hc hs (by decide) (by decide)).trans (congrArg _ (by dsimp only; omega)))

theorem out_5 (k : Fin 512) : out0_5 (F := Ideal) X cs sn (ix2 r k) = rowAt X r (1280 + 64 * (k.val / 128) + k.val % 64) := by
  obtain ⟨s, l, e⟩ : ∃ (s : Fin 4) (l : Fin 128), k.val = 128 * s.val + l.val := ⟨⟨k.val / 128, by omega⟩, ⟨k.val % 128, by omega⟩, by dsimp only; omega⟩
  obtain ⟨s, h4⟩ := s
  have hl := l.isLt
  dsimp only at e
  unfold out0_5
  interval_cases s
  all_goals
    repeat rw [Cert.Cols.canon_miss _ _ _ _ _ (by omega)]
    rw [Cert.Cols.canon_hit _ _ _ _ _ l (by omega)]
    first
    | exact (pay21_apply _ r l).trans ((lane X r _ _ (by decide)).trans (congrArg _ (by dsimp only; omega)))
    | exact (pay22_apply _ r l).trans ((lane X r _ _ (by decide)).trans (congrArg _ (by dsimp only; omega)))

/-- The payloads of one pair of heads, at its lanes. -/
theorem pair {o : ℕ} (iX) (hN : o + 128 ≤ 2048) (f : Fin 4) :
    (![k0_pay27 (F := Ideal) k0_pay7 (View.ld X (Rect.unit (s := S256x2048) ![0, o] ![256, 128] iX)), k0_pay28 k0_pay7 (View.ld X (Rect.unit (s := S256x2048) ![0, o] ![256, 128] iX)),
        k0_pay29 k0_pay7 (View.ld X (Rect.unit (s := S256x2048) ![0, o] ![256, 128] iX)), k0_pay30 k0_pay7 (View.ld X (Rect.unit (s := S256x2048) ![0, o] ![256, 128] iX))] f : S256x128.Idx → EReal) (ix2 r l)
      = if 64 ≤ (128 * f.val + l.val) % 256 ∧ (128 * f.val + l.val) % 256 < 192 then 1 else rowAt X r (o + 64 * (f.val / 2) + l.val % 64) := by
  have hl := l.isLt
  match f with
  | 0 =>
    refine (pay27_apply _ r l).trans ?_
    by_cases h : l.val < 64
    · rw [if_pos h, if_neg (by omega)]
      exact (lane X r _ iX hN).trans (congrArg _ (by omega))
    · rw [if_neg h, if_pos (by omega)]
  | 1 =>
    refine (pay28_apply _ r l).trans ?_
    by_cases h : l.val < 64
    · rw [if_pos h, if_pos (by omega)]
    · rw [if_neg h, if_neg (by omega)]
      exact (lane X r _ iX hN).trans (congrArg _ (by dsimp only; omega))
  | 2 =>
    refine (pay29_apply _ r l).trans ?_
    by_cases h : l.val < 64
    · rw [if_pos h, if_neg (by omega)]
      exact (lane X r _ iX hN).trans (congrArg _ (by dsimp only; omega))
    · rw [if_neg h, if_pos (by omega)]
  | 3 =>
    refine (pay30_apply _ r l).trans ?_
    by_cases h : l.val < 64
    · rw [if_pos h, if_pos (by omega)]
    · rw [if_neg h, if_neg (by omega)]
      exact (lane X r _ iX hN).trans (congrArg _ (by omega))

theorem out_6 (k : Fin 1024) : out0_6 (F := Ideal) X cs sn (ix2 r k)
    = if 64 ≤ k.val % 256 ∧ k.val % 256 < 192 then 1 else rowAt X r (1280 + 64 * (k.val / 256) + k.val % 64) := by
  obtain ⟨s, f, l, e⟩ : ∃ (s : Fin 2) (f : Fin 4) (l : Fin 128), k.val = 512 * s.val + 128 * f.val + l.val :=
    ⟨⟨k.val / 512, by omega⟩, ⟨k.val % 512 / 128, by omega⟩, ⟨k.val % 128, by omega⟩, by dsimp only; omega⟩
  have hl := l.isLt
  have hf := f.isLt
  have e1 : k.val % 256 = (128 * f.val + l.val) % 256 := by omega
  have e2 : 1280 + 64 * (k.val / 256) + k.val % 64 = 1280 + 128 * s.val + 64 * (f.val / 2) + l.val % 64 := by omega
  rw [e1, e2]
  unfold out0_6
  obtain ⟨s, hs⟩ := s
  obtain ⟨f, hf⟩ := f
  dsimp only at e hf
  interval_cases s
  all_goals
    interval_cases f
    all_goals
      repeat rw [Cert.Cols.canon_miss _ _ _ _ _ (by omega)]
      rw [Cert.Cols.canon_hit _ _ _ _ _ l (by omega)]
      first
      | exact pair X r l _ (by decide) 0
      | exact pair X r l _ (by decide) 1
      | exact pair X r l _ (by decide) 2
      | exact pair X r l _ (by decide) 3

end Chunks

/-! ## The tables -/

variable (m : (ℓ : Loc nD τ sig) → Buf (Elt Ideal) ℓ) (c : Dev nD)

/-- The projected input and the positions. -/
abbrev Q : S8192x2048.Idx → EReal := m ((c : Thread nD τ).loc main_arg0)
abbrev P : S8192.Idx → BitVec 32 := m ((c : Thread nD τ).loc main_arg1)

/-- The angles, as the gradient of this call computes them. -/
abbrev angles : FVec Ideal S8192x8 .f32 := Cert.Reference20Ideal.Read.val_main_v12 (F := Ideal) (m ((c : Thread nD τ).loc main_arg1))

open Cert.Kernel20Ideal.Array (twice joined twice_joined rowAt_congr)

theorem cos_table : (V m c main_v23 : S8192x128.Idx → EReal) =
    twice (joined (Host.cos (angles m c)) (Host.cos (angles m c)) (broadcastInDim S8192x48 ![] bcast_S_S8192x48 (constant S_ .f32 0x3F800000#32))) := by
  unfold V
  after_results_simp <;> (try dsimp only [Matrix.cons_val]) <;> (try after_results_simp) <;> rfl

theorem sin_table : (V m c main_v26 : S8192x128.Idx → EReal) =
    twice (joined (Host.negf (Host.sin (angles m c))) (Host.sin (angles m c)) (mulf (broadcastInDim S8192x48 ![] bcast_S_S8192x48 (constant S_ .f32 0x00000000#32))
      (broadcastInDim S8192x48 ![] bcast_S_S8192x48 (constant S_ .f32 0x3F800000#32)))) := by
  unfold V
  after_results_simp <;> (try dsimp only [Matrix.cons_val]) <;> (try after_results_simp) <;> rfl

theorem cos_at (r : Fin 8192) (l : Fin 128) : (V m c main_v23 : S8192x128.Idx → EReal) (ix2 r l) = cosLane (cosOf (P m c) r) l := by
  rw [cos_table, twice_joined _ _ _ 1 (fun y => by pointwise)]
  unfold cosLane cosOf
  pointwise
  simp only [angles, Cert.Reference20Ideal.Stages.angle_at]
  by_cases h : l.val % 64 < 8
  · rw [if_pos h, if_pos (by omega)]
  · rw [if_neg h]

theorem sin_at (r : Fin 8192) (l : Fin 128) : (V m c main_v26 : S8192x128.Idx → EReal) (ix2 r l) = sinLane (sinOf (P m c) r) l := by
  rw [sin_table, twice_joined _ _ _ 0 (fun y => by pointwise)]
  unfold sinLane sinOf
  pointwise
  simp only [angles, Cert.Reference20Ideal.Stages.angle_at]

/-! ## The arrays -/

theorem idx_0 : ∀ t : Fin cfg0.N, win0_0.index t = ![t.val, 0] := (by decide +kernel : ∀ t : Fin grid0.N, win0_0.index t = ![t.val, 0])
theorem idx_1 : ∀ t : Fin cfg0.N, win0_1.index t = ![t.val, 0] := (by decide +kernel : ∀ t : Fin grid0.N, win0_1.index t = ![t.val, 0])
theorem idx_2 : ∀ t : Fin cfg0.N, win0_2.index t = ![t.val, 0] := (by decide +kernel : ∀ t : Fin grid0.N, win0_2.index t = ![t.val, 0])
theorem idx_3 : ∀ t : Fin cfg0.N, win0_3.index t = ![t.val, 0] := (by decide +kernel : ∀ t : Fin grid0.N, win0_3.index t = ![t.val, 0])
theorem idx_4 : ∀ t : Fin cfg0.N, win0_4.index t = ![t.val, 0] := (by decide +kernel : ∀ t : Fin grid0.N, win0_4.index t = ![t.val, 0])
theorem idx_5 : ∀ t : Fin cfg0.N, win0_5.index t = ![t.val, 0] := (by decide +kernel : ∀ t : Fin grid0.N, win0_5.index t = ![t.val, 0])
theorem idx_6 : ∀ t : Fin cfg0.N, win0_6.index t = ![t.val, 0] := (by decide +kernel : ∀ t : Fin grid0.N, win0_6.index t = ![t.val, 0])

/-- Row `r` of block `t`. -/
def rowOf (t : Fin cfg0.N) (r : Fin 256) : Fin 8192 := ⟨t.val * 256 + r.val, by have := t.isLt; have : cfg0.N = 32 := N_0; omega⟩

theorem block_0 (t : Fin cfg0.N) (r : Fin 256) : rowAt (iblk m c 0 t : S256x2048.Idx → EReal) r = rowAt (Q m c) (rowOf t r) :=
  rowAt_congr _ _ _ _ fun n => by
    blk_simp [iblk]
    rw [V_main_arg0]
    refine congrArg (Q m c) ?_
    blk_ext [idx_0, rowOf]

theorem block_1 (t : Fin cfg0.N) (r : Fin 256) (l : Fin 128) : iblk m c 1 t (ix2 r l) = cosLane (cosOf (P m c) (rowOf t r)) l := by
  rw [← cos_at m c (rowOf t r) l]
  blk_simp [iblk]
  refine congrArg (V m c main_v23 : S8192x128.Idx → EReal) ?_
  blk_ext [idx_1, rowOf]

theorem block_2 (t : Fin cfg0.N) (r : Fin 256) (l : Fin 128) : iblk m c 2 t (ix2 r l) = sinLane (sinOf (P m c) (rowOf t r)) l := by
  rw [← sin_at m c (rowOf t r) l]
  blk_simp [iblk]
  refine congrArg (V m c main_v26 : S8192x128.Idx → EReal) ?_
  blk_ext [idx_2, rowOf]

theorem query_array : (dats m 0 c).arrAt 3 cfg0.N = queryArr (Q m c) (P m c) := by
  refine (dats m 0 c).arrAt_eq_of_covers 3 _ (by decide +kernel) fun t hf y => ?_
  obtain ⟨r, k, rfl⟩ : ∃ r k, y = ix2 r k := ⟨y 0, y 1, eq_ix2 y⟩
  blk_simp
  rw [after0_3]
  refine (out_3 _ _ _ r _ _ k (block_1 m c t r) (block_2 m c t r)).trans ?_
  rw [block_0]
  refine Eq.trans (show _ = queryArr (Q m c) (P m c) (ix2 (rowOf t r) k) from rfl) (congrArg _ ?_)
  blk_ext [idx_3, rowOf]

theorem key_array : (dats m 0 c).arrAt 4 cfg0.N = keyArr (Q m c) (P m c) := by
  refine (dats m 0 c).arrAt_eq_of_covers 4 _ (by decide +kernel) fun t hf y => ?_
  obtain ⟨r, k, rfl⟩ : ∃ r k, y = ix2 r k := ⟨y 0, y 1, eq_ix2 y⟩
  blk_simp
  rw [after0_4]
  refine (out_4 _ _ _ r _ _ k (block_1 m c t r) (block_2 m c t r)).trans ?_
  rw [block_0]
  refine Eq.trans (show _ = keyArr (Q m c) (P m c) (ix2 (rowOf t r) k) from rfl) (congrArg _ ?_)
  blk_ext [idx_4, rowOf]

theorem value_array : (dats m 0 c).arrAt 5 cfg0.N = valueArr (Q m c) := by
  refine (dats m 0 c).arrAt_eq_of_covers 5 _ (by decide +kernel) fun t hf y => ?_
  obtain ⟨r, k, rfl⟩ : ∃ r k, y = ix2 r k := ⟨y 0, y 1, eq_ix2 y⟩
  blk_simp
  rw [after0_5]
  refine (out_5 ..).trans ?_
  rw [block_0]
  refine Eq.trans (show _ = valueArr (Q m c) (ix2 (rowOf t r) k) from rfl) (congrArg _ ?_)
  blk_ext [idx_5, rowOf]

theorem ones_array : (dats m 0 c).arrAt 6 cfg0.N = besideOnes (Q m c) := by
  refine (dats m 0 c).arrAt_eq_of_covers 6 _ (by decide +kernel) fun t hf y => ?_
  obtain ⟨r, k, rfl⟩ : ∃ r k, y = ix2 r k := ⟨y 0, y 1, eq_ix2 y⟩
  blk_simp
  rw [after0_6]
  refine (out_6 ..).trans ?_
  rw [block_0]
  refine Eq.trans (show _ = besideOnes (Q m c) (ix2 (rowOf t r) k) from rfl) (congrArg _ ?_)
  blk_ext [idx_6, rowOf]

end Cert.Kernel34Ideal.Array

namespace Cert.Reference34Ideal.Stages

open Cert.Reference34Ideal Cert.Reference34Ideal.Gen Cert.Reference34Ideal.Read Cert.Rotary

variable (x0 : (⟨S8192x2048, .f32⟩ : BufTy).Contents (Elt Ideal)) (x1 : (⟨S8192, .i32⟩ : BufTy).Contents (Elt Ideal))

theorem angles_query : val_main_v17 (F := Ideal) x1 = Cert.Reference20Ideal.Read.val_main_v12 x1 := rfl
theorem angles_key : val_main_v51 (F := Ideal) x1 = Cert.Reference20Ideal.Read.val_main_v12 x1 := rfl

/-- The three parts of a head, side by side. -/
theorem parts (C S : Fin 8 → EReal) (f : ℕ → EReal) (b : ℕ) (hb : b % 64 = 0) (j : Fin 64) (v : Fin 64 → EReal) (hv : ∀ k, v k = f (b + k.val)) :
    (if a : j.val < 8 then v j * C ⟨j.val, a⟩ - v ⟨8 + j.val, by omega⟩ * S ⟨j.val, a⟩
      else if a : j.val - 8 < 8 then v ⟨8 + (j.val - 8), by omega⟩ * C ⟨j.val - 8, a⟩ + v ⟨j.val - 8, by omega⟩ * S ⟨j.val - 8, a⟩
      else v ⟨16 + (j.val - 8 - 8), by omega⟩) = ahead C S f (b + j.val) := by
  have hj := j.isLt
  have em : (b + j.val) % 64 = j.val := by omega
  unfold ahead
  simp only [em, hv]
  by_cases h8 : j.val < 8
  · have e : (⟨(b + j.val) % 8, by omega⟩ : Fin 8) = ⟨j.val, h8⟩ := Fin.ext (by dsimp only; omega)
    rw [dif_pos h8, if_pos h8, e, show b + (8 + j.val) = b + j.val + 8 by omega]
  · by_cases h16 : j.val < 16
    · have e : (⟨(b + j.val) % 8, by omega⟩ : Fin 8) = ⟨j.val - 8, by omega⟩ := Fin.ext (by dsimp only; omega)
      rw [dif_neg h8, dif_pos (by omega), if_neg h8, if_pos h16, e, show b + (8 + (j.val - 8)) = b + j.val by omega,
        show b + (j.val - 8) = b + j.val - 8 by omega]
    · rw [dif_neg h8, dif_neg (by omega), if_neg h8, if_neg h16, show b + (16 + (j.val - 8 - 8)) = b + j.val by omega]

theorem keys_at (r : Fin 8192) (h : Fin 4) (j : Fin 64) :
    val_main_v69 (F := Ideal) x0 x1 (ix3 r h j) = ahead (cosOf x1 r) (sinOf x1 r) (rowAt x0 r) (1024 + 64 * h.val + j.val) := by
  have hv (k : Fin 64) : val_main_v38 (F := Ideal) x0 (ix3 r h k) = rowAt x0 r (1024 + 64 * h.val + k.val) := by
    unfold val_main_v38 val_main_v1
    pointwise
    exact (rowAt_of x0 r _ (by dsimp only; omega)).symm
  refine Eq.trans ?_ (parts (cosOf x1 r) (sinOf x1 r) (rowAt x0 r) (1024 + 64 * h.val) (by omega) j (fun k => val_main_v38 (F := Ideal) x0 (ix3 r h k)) hv)
  unfold val_main_v69 val_main_v62 val_main_v59 val_main_v61 val_main_v67 val_main_v64 val_main_v66 val_main_v68 val_main_v56 val_main_v57
  generalize hp : val_main_v38 (F := Ideal) x0 = y
  unfold val_main_v58 val_main_v60 val_main_v63 val_main_v65 val_main_v53 val_main_v55 val_main_v52 val_main_v54
  rw [angles_key]
  pointwise
  simp only [Cert.Reference20Ideal.Stages.angle_at]
  rfl

theorem queries_at (r : Fin 8192) (h : Fin 16) (j : Fin 64) :
    val_main_v35 (F := Ideal) x0 x1 (ix3 r h j) = ahead (cosOf x1 r) (sinOf x1 r) (rowAt x0 r) (64 * h.val + j.val) := by
  have hv (k : Fin 64) : val_main_v4 (F := Ideal) x0 (ix3 r h k) = rowAt x0 r (64 * h.val + k.val) := by
    unfold val_main_v4 val_main_v0
    pointwise
    exact (rowAt_of x0 r _ (by dsimp only; omega)).symm
  refine Eq.trans ?_ (parts (cosOf x1 r) (sinOf x1 r) (rowAt x0 r) (64 * h.val) (by omega) j (fun k => val_main_v4 (F := Ideal) x0 (ix3 r h k)) hv)
  unfold val_main_v35 val_main_v28 val_main_v25 val_main_v27 val_main_v33 val_main_v30 val_main_v32 val_main_v34 val_main_v22 val_main_v23
  generalize hp : val_main_v4 (F := Ideal) x0 = y
  unfold val_main_v24 val_main_v26 val_main_v29 val_main_v31 val_main_v19 val_main_v21 val_main_v18 val_main_v20
  rw [angles_query]
  pointwise
  simp only [Cert.Reference20Ideal.Stages.angle_at]
  rfl

theorem values_at (r : Fin 8192) (h : Fin 4) (j : Fin 64) : val_main_v70 (F := Ideal) x0 (ix3 r h j) = rowAt x0 r (1280 + 64 * h.val + j.val) := by
  unfold val_main_v70 val_main_v2
  pointwise
  exact (rowAt_of x0 r _ (by dsimp only; omega)).symm

/-- The reference's results. -/
theorem query_result : val_main_v73 (F := Ideal) x0 x1 = queryArr x0 x1 := by
  funext y
  obtain ⟨r, k, rfl⟩ : ∃ r k, y = ix2 r k := ⟨y 0, y 1, eq_ix2 y⟩
  unfold val_main_v73 val_main_v72 val_main_v37 val_main_v36 val_main_cst_2
  generalize hp : val_main_v35 (F := Ideal) x0 x1 = p
  pointwise
  subst hp
  rw [queries_at]
  show _ = ahead (cosOf x1 r) (sinOf x1 r) (rowAt x0 r) k.val * Ideal.ofBits .f32 0x3E000000#32
  refine congrArg (· * _) (congrArg _ ?_)
  dsimp only
  omega

theorem key_result : val_main_v76 (F := Ideal) x0 x1 = keyArr x0 x1 := by
  funext y
  obtain ⟨r, k, rfl⟩ : ∃ r k, y = ix2 r k := ⟨y 0, y 1, eq_ix2 y⟩
  have hk := keys_at x0 x1 r
  unfold val_main_v76 val_main_v75 val_main_v74
  generalize val_main_v69 (F := Ideal) x0 x1 = p at hk ⊢
  pointwise
  have hlt := k.isLt
  show _ = ahead (cosOf x1 r) (sinOf x1 r) (rowAt x0 r) (1024 + 64 * (k.val / 128) + k.val % 64)
  split <;> rw [hk] <;> refine congrArg _ ?_ <;> dsimp only <;> omega

theorem value_result : val_main_v79 (F := Ideal) x0 = valueArr x0 := by
  funext y
  obtain ⟨r, k, rfl⟩ : ∃ r k, y = ix2 r k := ⟨y 0, y 1, eq_ix2 y⟩
  have hk := values_at x0 r
  unfold val_main_v79 val_main_v78 val_main_v77
  generalize val_main_v70 (F := Ideal) x0 = p at hk ⊢
  pointwise
  have hlt := k.isLt
  show _ = rowAt x0 r (1280 + 64 * (k.val / 128) + k.val % 64)
  split <;> rw [hk] <;> refine congrArg _ ?_ <;> dsimp only <;> omega

theorem ones_result : val_main_v82 (F := Ideal) x0 = besideOnes x0 := by
  funext y
  obtain ⟨r, k, rfl⟩ : ∃ r k, y = ix2 r k := ⟨y 0, y 1, eq_ix2 y⟩
  have hk := values_at x0 r
  unfold val_main_v82 val_main_v81 val_main_v80 val_main_v71 val_main_cst_6
  generalize val_main_v70 (F := Ideal) x0 = p at hk ⊢
  pointwise
  have hlt := k.isLt
  show _ = if 64 ≤ k.val % 256 ∧ k.val % 256 < 192 then 1 else rowAt x0 r (1280 + 64 * (k.val / 256) + k.val % 64)
  by_cases h : 64 ≤ k.val % 256 ∧ k.val % 256 < 192
  · rw [if_pos h, dif_neg (by omega)]
    split
    · rfl
    · rw [dif_pos (by omega)]
  · rw [if_neg h]
    by_cases h0 : k.val % 256 < 64
    · rw [dif_pos h0, hk]
      exact congrArg _ (by dsimp only; omega)
    · rw [dif_neg h0, dif_neg (by omega), dif_neg (by omega), hk]
      exact congrArg _ (by dsimp only; omega)

end Cert.Reference34Ideal.Stages

end
-- ==== Proof.lean ====
/-
  The claims: every program runs and leaves every semaphore counter at zero, and each kernel's arrays are what its reference
  computes, since both are the same function of the arguments. The memory attention and its gradients
  ask that queries and keys are finite, the optimiser that gradients are real and second moments nonnegative and real.
-/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12Ideal
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel12
public import proofs.«01_k».proof.Proof.Gen.Kernel12Ideal.Frame
public import proofs.«01_k».proof.Proof.Gen.Kernel13Ideal
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel13
public import proofs.«01_k».proof.Proof.Gen.Kernel13Ideal.Frame
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16.Frame
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18.Frame
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19Ideal
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel19
public import proofs.«01_k».proof.Proof.Gen.Kernel19Ideal.Frame
public import proofs.«01_k».proof.Proof.Gen.Kernel20.Frame
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21.Frame
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22.Frame
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Gen.Kernel23.Frame
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import proofs.«01_k».proof.Proof.Gen.Kernel24.Frame
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Reference24Ideal.Read
public import proofs.«01_k».proof.Proof.Gen.Kernel25.Frame
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Reference25Ideal.Read
public import proofs.«01_k».proof.Proof.Gen.Kernel26.Frame
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Reference26Ideal.Read
public import proofs.«01_k».proof.Proof.Gen.Kernel27.Frame
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.Gen.Reference27Ideal.Read
public import proofs.«01_k».proof.Proof.Gen.Kernel28.Frame
public import proofs.«01_k».proof.Proof.Gen.Kernel28Ideal.Frame
public import proofs.«01_k».proof.Proof.Gen.Kernel28Ideal.Value
public import proofs.«01_k».proof.Proof.Gen.Reference28Ideal
public import proofs.«01_k».proof.Proof.Gen.Reference28Ideal.Run
public import proofs.«01_k».proof.Proof.Gen.Reference28Ideal.Read
public import proofs.«01_k».proof.Proof.Gen.Kernel29.Frame
public import proofs.«01_k».proof.Proof.Gen.Kernel29Ideal.Frame
public import proofs.«01_k».proof.Proof.Gen.Kernel29Ideal.Value
public import proofs.«01_k».proof.Proof.Gen.Reference29Ideal
public import proofs.«01_k».proof.Proof.Gen.Reference29Ideal.Run
public import proofs.«01_k».proof.Proof.Gen.Reference29Ideal.Read
public import proofs.«01_k».proof.Proof.Gen.Kernel30.Frame
public import proofs.«01_k».proof.Proof.Gen.Kernel30Ideal.Frame
public import proofs.«01_k».proof.Proof.Gen.Kernel30Ideal.Value
public import proofs.«01_k».proof.Proof.Gen.Reference30Ideal
public import proofs.«01_k».proof.Proof.Gen.Reference30Ideal.Run
public import proofs.«01_k».proof.Proof.Gen.Reference30Ideal.Read
public import proofs.«01_k».proof.Proof.Gen.Kernel31.Frame
public import proofs.«01_k».proof.Proof.Gen.Kernel31Ideal.Frame
public import proofs.«01_k».proof.Proof.Gen.Kernel31Ideal.Value
public import proofs.«01_k».proof.Proof.Gen.Reference31Ideal
public import proofs.«01_k».proof.Proof.Gen.Reference31Ideal.Run
public import proofs.«01_k».proof.Proof.Gen.Reference31Ideal.Read
public import proofs.«01_k».proof.Proof.Gen.Kernel32Ideal
public import proofs.«01_k».proof.Proof.Gen.Reference32Ideal
public import proofs.«01_k».proof.Proof.Gen.Reference32Ideal.Run
public import proofs.«01_k».proof.Proof.Gen.Reference32Ideal.Read
public import proofs.«01_k».proof.Proof.Gen.Kernel32
public import proofs.«01_k».proof.Proof.Gen.Kernel32Ideal.Frame
public import proofs.«01_k».proof.Proof.Gen.Kernel33Ideal
public import proofs.«01_k».proof.Proof.Gen.Reference33Ideal
public import proofs.«01_k».proof.Proof.Gen.Reference33Ideal.Run
public import proofs.«01_k».proof.Proof.Gen.Reference33Ideal.Read
public import proofs.«01_k».proof.Proof.Gen.Kernel33
public import proofs.«01_k».proof.Proof.Gen.Kernel33Ideal.Frame
public import proofs.«01_k».proof.Proof.Gen.Kernel34.Frame
public import proofs.«01_k».proof.Proof.Gen.Kernel34Ideal.Frame
public import proofs.«01_k».proof.Proof.Gen.Kernel34Ideal.Value
public import proofs.«01_k».proof.Proof.Gen.Reference34Ideal
public import proofs.«01_k».proof.Proof.Gen.Reference34Ideal.Run
public import proofs.«01_k».proof.Proof.Gen.Reference34Ideal.Read
public import proofs.«01_k».proof.Proof.Array
public import proofs.«01_k».proof.Proof.Stages
public import proofs.«01_k».proof.Proof.Pre
public import proofs.«01_k».proof.Proof.UpGrad
public import proofs.«01_k».proof.Proof.MlpIn
public import proofs.«01_k».proof.Proof.Final
public import proofs.«01_k».proof.Proof.MlpUp
public import proofs.«01_k».proof.Proof.WeightGrad
public import proofs.«01_k».proof.Proof.MlpDown
public import proofs.«01_k».proof.Proof.LruIn
public import proofs.«01_k».proof.Proof.MixGrad
public import proofs.«01_k».proof.Proof.MemFwd
public import proofs.«01_k».proof.Proof.OutGrad
public import proofs.«01_k».proof.Proof.UpWeight
public import proofs.«01_k».proof.Proof.DownWeight
public import proofs.«01_k».proof.Proof.MixOut
public import proofs.«01_k».proof.Proof.LruGrad
public import proofs.«01_k».proof.Proof.AttnGrad
public import proofs.«01_k».proof.Proof.Adam
public import proofs.«01_k».proof.Proof.AdamWeights
public import proofs.«01_k».proof.Proof.OutWeight
public import proofs.«01_k».proof.Proof.RotaryGrad
public import proofs.«01_k».proof.Proof.MemFirst
public import proofs.«01_k».proof.Proof.MemProj
public import proofs.«01_k».proof.Proof.MemGrad
public import proofs.«01_k».proof.Proof.MemWeight
public import proofs.«01_k».proof.Proof.AdamLarge
public import proofs.«01_k».proof.Proof.AttnIn
public import proofs.«01_k».proof.Proof.AttnWeight
public import proofs.«01_k».proof.Proof.MemFirstGrad
public import proofs.«01_k».proof.Proof.UpFirst
public import proofs.«01_k».proof.Proof.DownFirst
public import proofs.«01_k».proof.Proof.RotaryAhead

@[expose] public section

noncomputable section

namespace Cert.Proof

open Idealize.ShloMosaic Idealize.SL.Sem Cert.MemAttn

/-- The gradients of the memory attention: equal results. -/
theorem memattn_equal : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hpre hargs
  refine ⟨_, _, Cert.KernelIdeal.Value.run_blocks m g,
    (θ_run Cert.ReferenceIdeal.defs _ _).mono (fun r h c => ?_) (Cert.ReferenceIdeal.Value.run m' g')⟩
  obtain ⟨h77, h78, ha0, ha1, ha2⟩ := h c
  obtain ⟨e0, e1, e2⟩ := hargs c
  have hq := @Cert.Pre_finite.query_finite Cert.Pre_finite.facts _ _ _ (hpre c).1
  have hk := @Cert.Pre_finite.keys_finite Cert.Pre_finite.facts _ _ _ (hpre c).2
  refine ⟨h77.trans ?_, h78.trans ?_, ha0, ha1, ha2⟩
  · rw [Cert.KernelIdeal.Array.dq_array m c, Cert.ReferenceIdeal.Read.val_main_v77_eq m' c, e0, e1, e2]
    exact Cert.ReferenceIdeal.Stages.dq_result _ _ _ hq hk
  · rw [Cert.KernelIdeal.Array.dkv_array m c, Cert.ReferenceIdeal.Read.val_main_v78_eq m' c, e0, e1, e2]
    exact Cert.ReferenceIdeal.Stages.dkv_result _ _ _ hq hk

/-- The reference runs, keeps its arguments, and has no semaphore whose counter could be other than zero. -/
theorem reference_runs : Cert.quiescent_ReferenceIdeal (hReferenceIdeal := Cert.ReferenceIdeal.Gen.facts) := by
  intro m ρ _
  exact (θ_run Cert.ReferenceIdeal.defs _ _).mono (fun r h => ⟨fun c => (h c).2.2, sem_eq_zero_of_no_sems (by decide) r.2⟩)
    (Cert.ReferenceIdeal.Value.run m ρ)

/-- The gradient of the up projection's output. -/
theorem up_grad_equal : Cert.algebraic_Kernel2Ideal_Reference2Ideal (hKernel2Ideal := Cert.Kernel2Ideal.Gen.facts)
    (hReference2Ideal := Cert.Reference2Ideal.Gen.facts) := by
  intro m g m' g' _ hargs
  refine ⟨_, Cert.Kernel2Ideal.Value.run_blocks m g,
    (θ_run Cert.Reference2Ideal.defs _ _).mono (fun r h c => ?_) (Cert.Reference2Ideal.Value.run m' g')⟩
  obtain ⟨h0, ha0, ha1, ha2⟩ := h c
  obtain ⟨e0, e1, e2⟩ := hargs c
  refine ⟨h0.trans ?_, ha0, ha1, ha2⟩
  · rw [Cert.Kernel2Ideal.Array.dup_array m c]
    refine (Cert.Reference2Ideal.Read.val_main_v17_eq _ _ _).trans ?_
    rw [e0, e1, e2]
    exact Cert.Reference2Ideal.Stages.dup_result _ _ _

theorem up_grad_reference_runs : Cert.quiescent_Reference2Ideal (hReference2Ideal := Cert.Reference2Ideal.Gen.facts) := by
  intro m ρ _
  exact (θ_run Cert.Reference2Ideal.defs _ _).mono (fun r h => ⟨fun c => (h c).2, sem_eq_zero_of_no_sems (by decide) r.2⟩)
    (Cert.Reference2Ideal.Value.run m ρ)

/-- The gradient of the feed-forward block's input and of its gain. -/
theorem mlp_in_equal : Cert.algebraic_Kernel3Ideal_Reference3Ideal (hKernel3Ideal := Cert.Kernel3Ideal.Gen.facts)
    (hReference3Ideal := Cert.Reference3Ideal.Gen.facts) := by
  intro m g m' g' _ hargs
  refine ⟨_, _, _, Cert.Kernel3Ideal.Value.run_blocks m g,
    (θ_run Cert.Reference3Ideal.defs _ _).mono (fun r h c => ?_) (Cert.Reference3Ideal.Value.run m' g')⟩
  obtain ⟨h0, h1, h2, ha0, ha1, ha2, ha3, ha4⟩ := h c
  obtain ⟨e0, e1, e2, e3, e4⟩ := hargs c
  refine ⟨h0.trans ?_, h1.trans ?_, h2.trans ?_, ha0, ha1, ha2, ha3, ha4⟩
  · rw [Cert.Kernel3Ideal.Array.gx_array m c]
    refine (Cert.Reference3Ideal.Read.val_main_v42_eq m' c).trans ?_
    rw [e0, e1, e2, e3, e4]
    exact Cert.Reference3Ideal.Stages.gx_result _ _ _ _ _
  · rw [Cert.Kernel3Ideal.Array.gx16_array m c]
    refine (Cert.Reference3Ideal.Read.val_main_v43_eq m' c).trans ?_
    rw [e0, e1, e2, e3, e4]
    exact Cert.Reference3Ideal.Stages.gx16_result _ _ _ _ _
  · rw [Cert.Kernel3Ideal.Array.gg_array m c]
    refine (Cert.Reference3Ideal.Read.val_main_v44_eq _ _ _).trans ?_
    rw [e0, e1, e2]
    exact Cert.Reference3Ideal.Stages.gg_result _ _ _

theorem mlp_in_reference_runs : Cert.quiescent_Reference3Ideal (hReference3Ideal := Cert.Reference3Ideal.Gen.facts) := by
  intro m ρ _
  exact (θ_run Cert.Reference3Ideal.defs _ _).mono (fun r h => ⟨fun c => (h c).2.2.2, sem_eq_zero_of_no_sems (by decide) r.2⟩)
    (Cert.Reference3Ideal.Value.run m ρ)

/-- The loss and the gradients where the backward pass begins. -/
theorem final_equal : Cert.algebraic_Kernel4Ideal_Reference4Ideal (hKernel4Ideal := Cert.Kernel4Ideal.Gen.facts)
    (hReference4Ideal := Cert.Reference4Ideal.Gen.facts) := by
  intro m g m' g' _ hargs
  refine ⟨_, _, _, _, Cert.Kernel4Ideal.Value.run_blocks m g,
    (θ_run Cert.Reference4Ideal.defs _ _).mono (fun r h c => ?_) (Cert.Reference4Ideal.Value.run m' g')⟩
  obtain ⟨h0, h1, h2, h3, ha0, ha1, ha2, ha3, ha4⟩ := h c
  obtain ⟨e0, e1, e2, e3, e4⟩ := hargs c
  refine ⟨h0.trans ?_, h1.trans ?_, h2.trans ?_, h3.trans ?_, ha0, ha1, ha2, ha3, ha4⟩
  · rw [Cert.Kernel4Ideal.Array.loss_array m c]
    refine (Cert.Reference4Ideal.Read.val_main_v57_eq _ _ _ _ _).trans ?_
    rw [e0, e1, e2, e3, e4]
    exact Cert.Reference4Ideal.Stages.loss_result _ _ _ _ _
  · rw [Cert.Kernel4Ideal.Array.gx_array m c]
    refine (Cert.Reference4Ideal.Read.val_main_v56_eq m' c).trans ?_
    rw [e0, e1, e2, e3, e4]
    exact Cert.Reference4Ideal.Stages.gx_result _ _ _ _ _
  · rw [Cert.Kernel4Ideal.Array.gx16_array m c]
    refine (Cert.Reference4Ideal.Read.val_main_v58_eq m' c).trans ?_
    rw [e0, e1, e2, e3, e4]
    exact Cert.Reference4Ideal.Stages.gx16_result _ _ _ _ _
  · rw [Cert.Kernel4Ideal.Array.gg_array m c]
    refine (Cert.Reference4Ideal.Read.val_main_v59_eq _ _ _ _ _).trans ?_
    rw [e0, e1, e2, e3, e4]
    exact Cert.Reference4Ideal.Stages.gg_result _ _ _ _ _

theorem final_reference_runs : Cert.quiescent_Reference4Ideal (hReference4Ideal := Cert.Reference4Ideal.Gen.facts) := by
  intro m ρ _
  exact (θ_run Cert.Reference4Ideal.defs _ _).mono (fun r h => ⟨fun c => (h c).2.2.2.2, sem_eq_zero_of_no_sems (by decide) r.2⟩)
    (Cert.Reference4Ideal.Value.run m ρ)

/-- The up projection of the normed input, and its squared activation. -/
theorem mlp_up_equal : Cert.algebraic_Kernel5Ideal_Reference5Ideal (hKernel5Ideal := Cert.Kernel5Ideal.Gen.facts)
    (hReference5Ideal := Cert.Reference5Ideal.Gen.facts) := by
  intro m g m' g' _ hargs
  refine ⟨_, _, _, Cert.Kernel5Ideal.Value.run_blocks m g,
    (θ_run Cert.Reference5Ideal.defs _ _).mono (fun r h c => ?_) (Cert.Reference5Ideal.Value.run m' g')⟩
  obtain ⟨h0, h1, h2, ha0, ha1, ha2⟩ := h c
  obtain ⟨e0, e1, e2⟩ := hargs c
  refine ⟨h0.trans ?_, h1.trans ?_, h2.trans ?_, ha0, ha1, ha2⟩
  · rw [Cert.Kernel5Ideal.Array.up_array m c]
    refine (Cert.Reference5Ideal.Read.val_main_v17_eq _ _ _).trans ?_
    rw [e0, e1, e2]
    exact Cert.Reference5Ideal.Stages.up_result _ _ _
  · rw [Cert.Kernel5Ideal.Array.act_array m c]
    refine (Cert.Reference5Ideal.Read.val_main_v20_eq _ _ _).trans ?_
    rw [e0, e1, e2]
    exact Cert.Reference5Ideal.Stages.act_result _ _ _
  · rw [Cert.Kernel5Ideal.Array.h_array m c]
    refine (Cert.Reference5Ideal.Read.val_main_v21_eq _ _).trans ?_
    rw [e0, e2]
    exact Cert.Reference5Ideal.Stages.h_result _ _

theorem mlp_up_reference_runs : Cert.quiescent_Reference5Ideal (hReference5Ideal := Cert.Reference5Ideal.Gen.facts) := by
  intro m ρ _
  exact (θ_run Cert.Reference5Ideal.defs _ _).mono (fun r h => ⟨fun c => (h c).2.2.2, sem_eq_zero_of_no_sems (by decide) r.2⟩)
    (Cert.Reference5Ideal.Value.run m ρ)

/-- The gradient of the recurrent block's input weights. -/
theorem weight_grad_equal : Cert.algebraic_Kernel6Ideal_Reference6Ideal (hKernel6Ideal := Cert.Kernel6Ideal.Gen.facts)
    (hReference6Ideal := Cert.Reference6Ideal.Gen.facts) := by
  intro m g m' g' _ hargs
  refine ⟨_, Cert.Kernel6Ideal.Value.run_blocks m g,
    (θ_run Cert.Reference6Ideal.defs _ _).mono (fun r h c => ?_) (Cert.Reference6Ideal.Value.run m' g')⟩
  obtain ⟨h0, ha0, ha1⟩ := h c
  obtain ⟨e0, e1⟩ := hargs c
  refine ⟨h0.trans ?_, ha0, ha1⟩
  · rw [Cert.Kernel6Ideal.Array.dw_array m c]
    refine (Cert.Reference6Ideal.Read.val_main_v5_eq _ _).trans ?_
    rw [e0, e1]
    exact Cert.Reference6Ideal.Stages.dw_result _ _

theorem weight_grad_reference_runs : Cert.quiescent_Reference6Ideal (hReference6Ideal := Cert.Reference6Ideal.Gen.facts) := by
  intro m ρ _
  exact (θ_run Cert.Reference6Ideal.defs _ _).mono (fun r h => ⟨fun c => (h c).2, sem_eq_zero_of_no_sems (by decide) r.2⟩)
    (Cert.Reference6Ideal.Value.run m ρ)

/-- The down projection, and the residual it is added to. -/
theorem mlp_down_equal : Cert.algebraic_Kernel7Ideal_Reference7Ideal (hKernel7Ideal := Cert.Kernel7Ideal.Gen.facts)
    (hReference7Ideal := Cert.Reference7Ideal.Gen.facts) := by
  intro m g m' g' _ hargs
  refine ⟨_, Cert.Kernel7Ideal.Value.run_blocks m g,
    (θ_run Cert.Reference7Ideal.defs _ _).mono (fun r h c => ?_) (Cert.Reference7Ideal.Value.run m' g')⟩
  obtain ⟨h0, ha0, ha1, ha2⟩ := h c
  obtain ⟨e0, e1, e2⟩ := hargs c
  refine ⟨h0.trans ?_, ha0, ha1, ha2⟩
  · rw [Cert.Kernel7Ideal.Array.down_array m c]
    refine (Cert.Reference7Ideal.Read.val_main_v5_eq _ _ _).trans ?_
    rw [e0, e1, e2]
    exact Cert.Reference7Ideal.Stages.down_result _ _ _

theorem mlp_down_reference_runs : Cert.quiescent_Reference7Ideal (hReference7Ideal := Cert.Reference7Ideal.Gen.facts) := by
  intro m ρ _
  exact (θ_run Cert.Reference7Ideal.defs _ _).mono (fun r h => ⟨fun c => (h c).2, sem_eq_zero_of_no_sems (by decide) r.2⟩)
    (Cert.Reference7Ideal.Value.run m ρ)

/-- The recurrent block's input projection of the normed input, and the normed input. -/
theorem lru_in_equal : Cert.algebraic_Kernel8Ideal_Reference8Ideal (hKernel8Ideal := Cert.Kernel8Ideal.Gen.facts)
    (hReference8Ideal := Cert.Reference8Ideal.Gen.facts) := by
  intro m g m' g' _ hargs
  refine ⟨_, _, Cert.Kernel8Ideal.Value.run_blocks m g,
    (θ_run Cert.Reference8Ideal.defs _ _).mono (fun r h c => ?_) (Cert.Reference8Ideal.Value.run m' g')⟩
  obtain ⟨h0, h1, ha0, ha1, ha2⟩ := h c
  obtain ⟨e0, e1, e2⟩ := hargs c
  refine ⟨h0.trans ?_, h1.trans ?_, ha0, ha1, ha2⟩
  · rw [Cert.Kernel8Ideal.Array.p_array m c]
    refine (Cert.Reference8Ideal.Read.val_main_v16_eq _ _ _).trans ?_
    rw [e0, e1, e2]
    exact Cert.Reference8Ideal.Stages.p_result _ _ _
  · rw [Cert.Kernel8Ideal.Array.h_array m c]
    refine (Cert.Reference8Ideal.Read.val_main_v17_eq _ _).trans ?_
    rw [e0, e2]
    exact Cert.Reference8Ideal.Stages.h_result _ _

theorem lru_in_reference_runs : Cert.quiescent_Reference8Ideal (hReference8Ideal := Cert.Reference8Ideal.Gen.facts) := by
  intro m ρ _
  exact (θ_run Cert.Reference8Ideal.defs _ _).mono (fun r h => ⟨fun c => (h c).2.2, sem_eq_zero_of_no_sems (by decide) r.2⟩)
    (Cert.Reference8Ideal.Value.run m ρ)

/-- The gradient of the mixers' outputs. -/
theorem mix_grad_equal : Cert.algebraic_Kernel9Ideal_Reference9Ideal (hKernel9Ideal := Cert.Kernel9Ideal.Gen.facts)
    (hReference9Ideal := Cert.Reference9Ideal.Gen.facts) := by
  intro m g m' g' _ hargs
  refine ⟨_, Cert.Kernel9Ideal.Value.run_blocks m g,
    (θ_run Cert.Reference9Ideal.defs _ _).mono (fun r h c => ?_) (Cert.Reference9Ideal.Value.run m' g')⟩
  obtain ⟨h0, ha0, ha1⟩ := h c
  obtain ⟨e0, e1⟩ := hargs c
  refine ⟨h0.trans ?_, ha0, ha1⟩
  · rw [Cert.Kernel9Ideal.Array.dcat_array m c]
    refine (Cert.Reference9Ideal.Read.val_main_v5_eq _ _).trans ?_
    rw [e0, e1]
    exact Cert.Reference9Ideal.Stages.dcat_result _ _

theorem mix_grad_reference_runs : Cert.quiescent_Reference9Ideal (hReference9Ideal := Cert.Reference9Ideal.Gen.facts) := by
  intro m ρ _
  exact (θ_run Cert.Reference9Ideal.defs _ _).mono (fun r h => ⟨fun c => (h c).2, sem_eq_zero_of_no_sems (by decide) r.2⟩)
    (Cert.Reference9Ideal.Value.run m ρ)

/-- The memory attention, in its columns of the mixers' outputs. -/
theorem mem_forward_equal : Cert.algebraic_Kernel10Ideal_Reference10Ideal_pre_finite (hKernel10Ideal := Cert.Kernel10Ideal.Gen.facts)
    (hReference10Ideal := Cert.Reference10Ideal.Gen.facts) (hPre_finite := Cert.Pre_finite.facts) := by
  intro m g m' g' hpre hargs
  refine ⟨_, Cert.Kernel10Ideal.Value.run_blocks m g,
    (θ_run Cert.Reference10Ideal.defs _ _).mono (fun r h c => ?_) (Cert.Reference10Ideal.Value.run m' g')⟩
  obtain ⟨h0, ha0, ha1, ha2⟩ := h c
  obtain ⟨e0, e1, e2⟩ := hargs c
  have hq := @Cert.Pre_finite.query_finite Cert.Pre_finite.facts _ _ _ (hpre c).1
  have hk := @Cert.Pre_finite.keys_finite Cert.Pre_finite.facts _ _ _ (hpre c).2
  refine ⟨h0.trans ?_, ha0, ha1, ha2⟩
  · rw [Cert.Kernel10Ideal.Array.cat_array m c]
    refine (Cert.Reference10Ideal.Read.val_main_v29_eq m' c).trans ?_
    rw [e0, e1, e2]
    exact Cert.Reference10Ideal.Stages.cat_result _ _ _ hq hk

theorem mem_forward_reference_runs : Cert.quiescent_Reference10Ideal (hReference10Ideal := Cert.Reference10Ideal.Gen.facts) := by
  intro m ρ _
  exact (θ_run Cert.Reference10Ideal.defs _ _).mono (fun r h => ⟨fun c => (h c).2, sem_eq_zero_of_no_sems (by decide) r.2⟩)
    (Cert.Reference10Ideal.Value.run m ρ)

/-- The gradient of the mixers' output projection, in its rows of the packed gradients. -/
theorem out_grad_equal : Cert.algebraic_Kernel11Ideal_Reference11Ideal (hKernel11Ideal := Cert.Kernel11Ideal.Gen.facts)
    (hReference11Ideal := Cert.Reference11Ideal.Gen.facts) := by
  intro m g m' g' _ hargs
  refine ⟨_, Cert.Kernel11Ideal.Value.run_blocks m g,
    (θ_run Cert.Reference11Ideal.defs _ _).mono (fun r h c => ?_) (Cert.Reference11Ideal.Value.run m' g')⟩
  obtain ⟨h0, ha0, ha1, ha2⟩ := h c
  obtain ⟨e0, e1, e2⟩ := hargs c
  refine ⟨h0.trans ?_, ha0, ha1, ha2⟩
  · rw [Cert.Kernel11Ideal.Array.packed_array m c]
    refine (Cert.Reference11Ideal.Read.val_main_v6_eq _ _ _).trans ?_
    rw [e0, e1, e2]
    exact Cert.Reference11Ideal.Stages.packed_result _ _ _

theorem out_grad_reference_runs : Cert.quiescent_Reference11Ideal (hReference11Ideal := Cert.Reference11Ideal.Gen.facts) := by
  intro m ρ _
  exact (θ_run Cert.Reference11Ideal.defs _ _).mono (fun r h => ⟨fun c => (h c).2, sem_eq_zero_of_no_sems (by decide) r.2⟩)
    (Cert.Reference11Ideal.Value.run m ρ)

/-- The gradient of the up projection's weight, in its rows of the packed gradients. -/
theorem up_weight_equal : Cert.algebraic_Kernel12Ideal_Reference12Ideal (hKernel12Ideal := Cert.Kernel12Ideal.Gen.facts)
    (hReference12Ideal := Cert.Reference12Ideal.Gen.facts) := by
  intro m g m' g' _ hargs
  refine ⟨_, Cert.Kernel12Ideal.Array.run_named m g,
    (θ_run Cert.Reference12Ideal.defs _ _).mono (fun r h c => ?_) (Cert.Reference12Ideal.Value.run m' g')⟩
  obtain ⟨h0, ha0, ha1, ha2⟩ := h c
  obtain ⟨e0, e1, e2⟩ := hargs c
  refine ⟨h0.trans ?_, ha0, ha1, ha2⟩
  · rw [Cert.Kernel12Ideal.Array.packed_array m c]
    refine (Cert.Reference12Ideal.Read.val_main_v7_eq _ _ _).trans ?_
    rw [e0, e1, e2]
    exact Cert.Reference12Ideal.Stages.packed_result _ _ _

theorem up_weight_reference_runs : Cert.quiescent_Reference12Ideal (hReference12Ideal := Cert.Reference12Ideal.Gen.facts) := by
  intro m ρ _
  exact (θ_run Cert.Reference12Ideal.defs _ _).mono (fun r h => ⟨fun c => (h c).2, sem_eq_zero_of_no_sems (by decide) r.2⟩)
    (Cert.Reference12Ideal.Value.run m ρ)

/-- The gradient of the down projection's weight. -/
theorem down_weight_equal : Cert.algebraic_Kernel13Ideal_Reference13Ideal (hKernel13Ideal := Cert.Kernel13Ideal.Gen.facts)
    (hReference13Ideal := Cert.Reference13Ideal.Gen.facts) := by
  intro m g m' g' _ hargs
  refine ⟨_, Cert.Kernel13Ideal.Array.run_named m g,
    (θ_run Cert.Reference13Ideal.defs _ _).mono (fun r h c => ?_) (Cert.Reference13Ideal.Value.run m' g')⟩
  obtain ⟨h0, ha0, ha1⟩ := h c
  obtain ⟨e0, e1⟩ := hargs c
  refine ⟨h0.trans ?_, ha0, ha1⟩
  · rw [Cert.Kernel13Ideal.Array.grad_array m c]
    refine (Cert.Reference13Ideal.Read.val_main_v4_eq _ _).trans ?_
    rw [e0, e1]
    exact Cert.Reference13Ideal.Stages.grad_result _ _

theorem down_weight_reference_runs : Cert.quiescent_Reference13Ideal (hReference13Ideal := Cert.Reference13Ideal.Gen.facts) := by
  intro m ρ _
  exact (θ_run Cert.Reference13Ideal.defs _ _).mono (fun r h => ⟨fun c => (h c).2, sem_eq_zero_of_no_sems (by decide) r.2⟩)
    (Cert.Reference13Ideal.Value.run m ρ)

/-- The mixers' output projection, and the residual it is added to. -/
theorem mix_out_equal : Cert.algebraic_Kernel14Ideal_Reference14Ideal (hKernel14Ideal := Cert.Kernel14Ideal.Gen.facts)
    (hReference14Ideal := Cert.Reference14Ideal.Gen.facts) := by
  intro m g m' g' _ hargs
  refine ⟨_, Cert.Kernel14Ideal.Value.run_blocks m g,
    (θ_run Cert.Reference14Ideal.defs _ _).mono (fun r h c => ?_) (Cert.Reference14Ideal.Value.run m' g')⟩
  obtain ⟨h0, ha0, ha1, ha2⟩ := h c
  obtain ⟨e0, e1, e2⟩ := hargs c
  refine ⟨h0.trans ?_, ha0, ha1, ha2⟩
  · rw [Cert.Kernel14Ideal.Array.out_array m c]
    refine (Cert.Reference14Ideal.Read.val_main_v4_eq _ _ _).trans ?_
    rw [e0, e1, e2]
    exact Cert.Reference14Ideal.Stages.out_result _ _ _

theorem mix_out_reference_runs : Cert.quiescent_Reference14Ideal (hReference14Ideal := Cert.Reference14Ideal.Gen.facts) := by
  intro m ρ _
  exact (θ_run Cert.Reference14Ideal.defs _ _).mono (fun r h => ⟨fun c => (h c).2, sem_eq_zero_of_no_sems (by decide) r.2⟩)
    (Cert.Reference14Ideal.Value.run m ρ)

/-- The gradient of the recurrent mixer's input and of its gain. -/
theorem lru_grad_equal : Cert.algebraic_Kernel15Ideal_Reference15Ideal (hKernel15Ideal := Cert.Kernel15Ideal.Gen.facts)
    (hReference15Ideal := Cert.Reference15Ideal.Gen.facts) := by
  intro m g m' g' _ hargs
  refine ⟨_, _, _, Cert.Kernel15Ideal.Value.run_blocks m g,
    (θ_run Cert.Reference15Ideal.defs _ _).mono (fun r h c => ?_) (Cert.Reference15Ideal.Value.run m' g')⟩
  obtain ⟨h0, h1, h2, ha0, ha1, ha2, ha3, ha4⟩ := h c
  obtain ⟨e0, e1, e2, e3, e4⟩ := hargs c
  refine ⟨h0.trans ?_, h1.trans ?_, h2.trans ?_, ha0, ha1, ha2, ha3, ha4⟩
  · rw [Cert.Kernel15Ideal.Array.gx_array m c]
    refine (Cert.Reference15Ideal.Read.val_main_v42_eq m' c).trans ?_
    rw [e0, e1, e2, e3, e4]
    exact Cert.Reference15Ideal.Stages.gx_result _ _ _ _ _
  · rw [Cert.Kernel15Ideal.Array.gx16_array m c]
    refine (Cert.Reference15Ideal.Read.val_main_v43_eq m' c).trans ?_
    rw [e0, e1, e2, e3, e4]
    exact Cert.Reference15Ideal.Stages.gx16_result _ _ _ _ _
  · rw [Cert.Kernel15Ideal.Array.gg_array m c]
    refine (Cert.Reference15Ideal.Read.val_main_v44_eq _ _ _).trans ?_
    rw [e0, e1, e2]
    exact Cert.Reference15Ideal.Stages.gg_result _ _ _

theorem lru_grad_reference_runs : Cert.quiescent_Reference15Ideal (hReference15Ideal := Cert.Reference15Ideal.Gen.facts) := by
  intro m ρ _
  exact (θ_run Cert.Reference15Ideal.defs _ _).mono (fun r h => ⟨fun c => (h c).2.2.2, sem_eq_zero_of_no_sems (by decide) r.2⟩)
    (Cert.Reference15Ideal.Value.run m ρ)

/-- The gradient of the window attention's input, which is the step's, and of its gain. -/
theorem attn_grad_equal : Cert.algebraic_Kernel16Ideal_Reference16Ideal (hKernel16Ideal := Cert.Kernel16Ideal.Gen.facts)
    (hReference16Ideal := Cert.Reference16Ideal.Gen.facts) := by
  intro m g m' g' _ hargs
  refine ⟨_, _, _, Cert.Kernel16Ideal.Value.run_blocks m g,
    (θ_run Cert.Reference16Ideal.defs _ _).mono (fun r h c => ?_) (Cert.Reference16Ideal.Value.run m' g')⟩
  obtain ⟨h0, h1, h2, ha0, ha1, ha2, ha3, ha4⟩ := h c
  obtain ⟨e0, e1, e2, e3, e4⟩ := hargs c
  refine ⟨h0.trans ?_, h1.trans ?_, h2.trans ?_, ha0, ha1, ha2, ha3, ha4⟩
  · rw [Cert.Kernel16Ideal.Array.gx_array m c]
    refine (Cert.Reference16Ideal.Read.val_main_v42_eq m' c).trans ?_
    rw [e0, e1, e2, e3, e4]
    exact Cert.Reference16Ideal.Stages.gx_result _ _ _ _ _
  · rw [Cert.Kernel16Ideal.Array.gx16_array m c]
    refine (Cert.Reference16Ideal.Read.val_main_v43_eq m' c).trans ?_
    rw [e0, e1, e2, e3, e4]
    exact Cert.Reference16Ideal.Stages.gx16_result _ _ _ _ _
  · rw [Cert.Kernel16Ideal.Array.gg_array m c]
    refine (Cert.Reference16Ideal.Read.val_main_v44_eq _ _ _).trans ?_
    rw [e0, e1, e2]
    exact Cert.Reference16Ideal.Stages.gg_result _ _ _

theorem attn_grad_reference_runs : Cert.quiescent_Reference16Ideal (hReference16Ideal := Cert.Reference16Ideal.Gen.facts) := by
  intro m ρ _
  exact (θ_run Cert.Reference16Ideal.defs _ _).mono (fun r h => ⟨fun c => (h c).2.2.2, sem_eq_zero_of_no_sems (by decide) r.2⟩)
    (Cert.Reference16Ideal.Value.run m ρ)

/-- The optimiser's step. -/
theorem adamw_equal : Cert.algebraic_Kernel17Ideal_Reference17Ideal_pre_moments (hKernel17Ideal := Cert.Kernel17Ideal.Gen.facts)
    (hReference17Ideal := Cert.Reference17Ideal.Gen.facts) (hPre_moments := Cert.Pre_moments.facts) := by
  intro m g m' g' hpre hargs
  refine ⟨_, _, _, Cert.Kernel17Ideal.Value.run_blocks m g,
    (θ_run Cert.Reference17Ideal.defs _ _).mono (fun r h c => ?_) (Cert.Reference17Ideal.Value.run m' g')⟩
  obtain ⟨h0, h1, h2, ha0, ha1, ha2, ha3⟩ := h c
  obtain ⟨e0, e1, e2, e3⟩ := hargs c
  have hm := @Cert.Pre_moments.moments_real Cert.Pre_moments.facts _ _ _ _ (hpre c)
  refine ⟨h0.trans ?_, h1.trans ?_, h2.trans ?_, ha0, ha1, ha2, ha3⟩
  · rw [Cert.Kernel17Ideal.Array.change_array m c]
    refine (Cert.Reference17Ideal.Read.val_main_v23_eq _ _ _ _).trans ?_
    rw [e0, e1, e2, e3]
    exact Cert.Reference17Ideal.Stages.change_result _ _ _ _ hm
  · rw [Cert.Kernel17Ideal.Array.first_array m c]
    refine (Cert.Reference17Ideal.Read.val_main_v4_eq _ _).trans ?_
    rw [e1, e2]
    exact Cert.Reference17Ideal.Stages.first_result _ _
  · rw [Cert.Kernel17Ideal.Array.second_array m c]
    refine (Cert.Reference17Ideal.Read.val_main_v10_eq _ _).trans ?_
    rw [e1, e3]
    exact Cert.Reference17Ideal.Stages.second_result _ _

theorem adamw_reference_runs : Cert.quiescent_Reference17Ideal (hReference17Ideal := Cert.Reference17Ideal.Gen.facts) := by
  intro m ρ _
  exact (θ_run Cert.Reference17Ideal.defs _ _).mono (fun r h => ⟨fun c => (h c).2.2.2, sem_eq_zero_of_no_sems (by decide) r.2⟩)
    (Cert.Reference17Ideal.Value.run m ρ)

/-- The optimiser's step at the weights of 512 rows. -/
theorem adamw_weights_equal : Cert.algebraic_Kernel18Ideal_Reference18Ideal_pre_weight_moments (hKernel18Ideal := Cert.Kernel18Ideal.Gen.facts)
    (hReference18Ideal := Cert.Reference18Ideal.Gen.facts) (hPre_weight_moments := Cert.Pre_weight_moments.facts) := by
  intro m g m' g' hpre hargs
  refine ⟨_, _, _, Cert.Kernel18Ideal.Value.run_blocks m g,
    (θ_run Cert.Reference18Ideal.defs _ _).mono (fun r h c => ?_) (Cert.Reference18Ideal.Value.run m' g')⟩
  obtain ⟨h0, h1, h2, ha0, ha1, ha2, ha3⟩ := h c
  obtain ⟨e0, e1, e2, e3⟩ := hargs c
  have hm := @Cert.Pre_weight_moments.moments_real Cert.Pre_weight_moments.facts _ _ _ _ (hpre c)
  refine ⟨h0.trans ?_, h1.trans ?_, h2.trans ?_, ha0, ha1, ha2, ha3⟩
  · rw [Cert.Kernel18Ideal.Array.change_array m c]
    refine (Cert.Reference18Ideal.Read.val_main_v23_eq _ _ _ _).trans ?_
    rw [e0, e1, e2, e3]
    exact Cert.Reference18Ideal.Stages.change_result _ _ _ _ hm
  · rw [Cert.Kernel18Ideal.Array.first_array m c]
    refine (Cert.Reference18Ideal.Read.val_main_v4_eq _ _).trans ?_
    rw [e1, e2]
    exact Cert.Reference18Ideal.Stages.first_result _ _
  · rw [Cert.Kernel18Ideal.Array.second_array m c]
    refine (Cert.Reference18Ideal.Read.val_main_v10_eq _ _).trans ?_
    rw [e1, e3]
    exact Cert.Reference18Ideal.Stages.second_result _ _

theorem adamw_weights_reference_runs : Cert.quiescent_Reference18Ideal (hReference18Ideal := Cert.Reference18Ideal.Gen.facts) := by
  intro m ρ _
  exact (θ_run Cert.Reference18Ideal.defs _ _).mono (fun r h => ⟨fun c => (h c).2.2.2, sem_eq_zero_of_no_sems (by decide) r.2⟩)
    (Cert.Reference18Ideal.Value.run m ρ)

/-- The gradient of the output projection's weight in the second layer. -/
theorem dw_out1_equal : Cert.algebraic_Kernel19Ideal_Reference19Ideal (hKernel19Ideal := Cert.Kernel19Ideal.Gen.facts)
    (hReference19Ideal := Cert.Reference19Ideal.Gen.facts) := by
  intro m g m' g' _ hargs
  refine ⟨_, Cert.Kernel19Ideal.Array.run_named m g,
    (θ_run Cert.Reference19Ideal.defs _ _).mono (fun r h c => ?_) (Cert.Reference19Ideal.Value.run m' g')⟩
  obtain ⟨h0, ha0, ha1, ha2⟩ := h c
  obtain ⟨e0, e1, e2⟩ := hargs c
  refine ⟨h0.trans ?_, ha0, ha1, ha2⟩
  · rw [Cert.Kernel19Ideal.Array.packed_array m c]
    refine (Cert.Reference19Ideal.Read.val_main_v7_eq _ _ _).trans ?_
    rw [e0, e1, e2]
    exact Cert.Reference19Ideal.Stages.packed_result _ _ _

theorem dw_out1_reference_runs : Cert.quiescent_Reference19Ideal (hReference19Ideal := Cert.Reference19Ideal.Gen.facts) := by
  intro m ρ _
  exact (θ_run Cert.Reference19Ideal.defs _ _).mono (fun r h => ⟨fun c => (h c).2, sem_eq_zero_of_no_sems (by decide) r.2⟩)
    (Cert.Reference19Ideal.Value.run m ρ)

/-- The gradient of the attention's rotary preparation, turned in the same way. -/
theorem rotary_grad_equal : Cert.algebraic_Kernel20Ideal_Reference20Ideal (hKernel20Ideal := Cert.Kernel20Ideal.Gen.facts)
    (hReference20Ideal := Cert.Reference20Ideal.Gen.facts) := by
  intro m g m' g' _ hargs
  refine ⟨_, Cert.Kernel20Ideal.Value.run_blocks m g,
    (θ_run Cert.Reference20Ideal.defs _ _).mono (fun r h c => ?_) (Cert.Reference20Ideal.Value.run m' g')⟩
  obtain ⟨h0, ha0, ha1, ha2, ha3, ha4⟩ := h c
  obtain ⟨e0, e1, e2, e3, e4⟩ := hargs c
  refine ⟨h0.trans ?_, ha0, ha1, ha2, ha3, ha4⟩
  · rw [Cert.Kernel20Ideal.Array.dp_array m c]
    refine (Cert.Reference20Ideal.Read.val_main_v78_eq m' c).trans ?_
    rw [e0, e1, e2, e3, e4]
    exact Cert.Reference20Ideal.Stages.dp_result _ _ _ _ _

theorem rotary_grad_reference_runs : Cert.quiescent_Reference20Ideal (hReference20Ideal := Cert.Reference20Ideal.Gen.facts) := by
  intro m ρ _
  exact (θ_run Cert.Reference20Ideal.defs _ _).mono (fun r h => ⟨fun c => (h c).2, sem_eq_zero_of_no_sems (by decide) r.2⟩)
    (Cert.Reference20Ideal.Value.run m ρ)

/-- The first layer's memory attention, in its columns of the mixers' outputs. -/
theorem memory_first_equal : Cert.algebraic_Kernel21Ideal_Reference21Ideal_pre_memory_finite (hKernel21Ideal := Cert.Kernel21Ideal.Gen.facts)
    (hReference21Ideal := Cert.Reference21Ideal.Gen.facts) (hPre_memory_finite := Cert.Pre_memory_finite.facts) := by
  intro m g m' g' hpre hargs
  refine ⟨_, Cert.Kernel21Ideal.Value.run_blocks m g,
    (θ_run Cert.Reference21Ideal.defs _ _).mono (fun r h c => ?_) (Cert.Reference21Ideal.Value.run m' g')⟩
  obtain ⟨h0, ha0, ha1, ha2⟩ := h c
  obtain ⟨e0, e1, e2⟩ := hargs c
  have hq := @Cert.Pre_memory_finite.query_finite Cert.Pre_memory_finite.facts _ _ _ (hpre c).1
  have hk := @Cert.Pre_memory_finite.keys_finite Cert.Pre_memory_finite.facts _ _ _ (hpre c).2
  refine ⟨h0.trans ?_, ha0, ha1, ha2⟩
  · rw [Cert.Kernel21Ideal.Array.cat_array m c]
    refine (Cert.Reference21Ideal.Read.val_main_v29_eq m' c).trans ?_
    rw [e0, e1, e2]
    exact Cert.Reference21Ideal.Stages.cat_result _ _ _ hq hk

theorem memory_first_reference_runs : Cert.quiescent_Reference21Ideal (hReference21Ideal := Cert.Reference21Ideal.Gen.facts) := by
  intro m ρ _
  exact (θ_run Cert.Reference21Ideal.defs _ _).mono (fun r h => ⟨fun c => (h c).2, sem_eq_zero_of_no_sems (by decide) r.2⟩)
    (Cert.Reference21Ideal.Value.run m ρ)

/-- The memory's norm and its projection in the first layer. -/
theorem memory_norm_equal : Cert.algebraic_Kernel22Ideal_Reference22Ideal (hKernel22Ideal := Cert.Kernel22Ideal.Gen.facts)
    (hReference22Ideal := Cert.Reference22Ideal.Gen.facts) := by
  intro m g m' g' _ hargs
  refine ⟨_, _, Cert.Kernel22Ideal.Value.run_blocks m g,
    (θ_run Cert.Reference22Ideal.defs _ _).mono (fun r h c => ?_) (Cert.Reference22Ideal.Value.run m' g')⟩
  obtain ⟨h0, h1, ha0, ha1, ha2⟩ := h c
  obtain ⟨e0, e1, e2⟩ := hargs c
  refine ⟨h0.trans ?_, h1.trans ?_, ha0, ha1, ha2⟩
  · rw [Cert.Kernel22Ideal.Array.kv_array m c]
    refine (Cert.Reference22Ideal.Read.val_main_v17_eq _ _ _).trans ?_
    rw [e0, e1, e2]
    exact Cert.Reference22Ideal.Stages.kv_result _ _ _
  · rw [Cert.Kernel22Ideal.Array.h_array m c]
    refine (Cert.Reference22Ideal.Read.val_main_v18_eq _ _).trans ?_
    rw [e0, e2]
    exact Cert.Reference22Ideal.Stages.h_result _ _

theorem memory_norm_reference_runs : Cert.quiescent_Reference22Ideal (hReference22Ideal := Cert.Reference22Ideal.Gen.facts) := by
  intro m ρ _
  exact (θ_run Cert.Reference22Ideal.defs _ _).mono (fun r h => ⟨fun c => (h c).2.2, sem_eq_zero_of_no_sems (by decide) r.2⟩)
    (Cert.Reference22Ideal.Value.run m ρ)

/-- The normed memory's projection in the second layer. -/
theorem memory_projection_equal : Cert.algebraic_Kernel23Ideal_Reference23Ideal (hKernel23Ideal := Cert.Kernel23Ideal.Gen.facts)
    (hReference23Ideal := Cert.Reference23Ideal.Gen.facts) := by
  intro m g m' g' _ hargs
  refine ⟨_, Cert.Kernel23Ideal.Value.run_blocks m g,
    (θ_run Cert.Reference23Ideal.defs _ _).mono (fun r h c => ?_) (Cert.Reference23Ideal.Value.run m' g')⟩
  obtain ⟨h0, ha0, ha1⟩ := h c
  obtain ⟨e0, e1⟩ := hargs c
  refine ⟨h0.trans ?_, ha0, ha1⟩
  · rw [Cert.Kernel23Ideal.Array.kv_array m c]
    refine (Cert.Reference23Ideal.Read.val_main_v5_eq _ _).trans ?_
    rw [e0, e1]
    exact Cert.Reference23Ideal.Stages.kv_result _ _

theorem memory_projection_reference_runs : Cert.quiescent_Reference23Ideal (hReference23Ideal := Cert.Reference23Ideal.Gen.facts) := by
  intro m ρ _
  exact (θ_run Cert.Reference23Ideal.defs _ _).mono (fun r h => ⟨fun c => (h c).2, sem_eq_zero_of_no_sems (by decide) r.2⟩)
    (Cert.Reference23Ideal.Value.run m ρ)

/-- The gradient of the memory and of its norm's gain. -/
theorem memory_grad_equal : Cert.algebraic_Kernel24Ideal_Reference24Ideal (hKernel24Ideal := Cert.Kernel24Ideal.Gen.facts)
    (hReference24Ideal := Cert.Reference24Ideal.Gen.facts) := by
  intro m g m' g' _ hargs
  refine ⟨_, _, _, Cert.Kernel24Ideal.Value.run_blocks m g,
    (θ_run Cert.Reference24Ideal.defs _ _).mono (fun r h c => ?_) (Cert.Reference24Ideal.Value.run m' g')⟩
  obtain ⟨h0, h1, h2, ha0, ha1, ha2, ha3, ha4, ha5⟩ := h c
  obtain ⟨e0, e1, e2, e3, e4, e5⟩ := hargs c
  refine ⟨h0.trans ?_, h1.trans ?_, h2.trans ?_, ha0, ha1, ha2, ha3, ha4, ha5⟩
  · rw [Cert.Kernel24Ideal.Array.gx_array m c]
    refine (Cert.Reference24Ideal.Read.val_main_v48_eq m' c).trans ?_
    rw [e0, e1, e2, e3, e4, e5]
    exact Cert.Reference24Ideal.Stages.gx_result _ _ _ _ _ _
  · rw [Cert.Kernel24Ideal.Array.gx16_array m c]
    refine (Cert.Reference24Ideal.Read.val_main_v49_eq m' c).trans ?_
    rw [e0, e1, e2, e3, e4, e5]
    exact Cert.Reference24Ideal.Stages.gx16_result _ _ _ _ _ _
  · rw [Cert.Kernel24Ideal.Array.gg_array m c]
    refine (Cert.Reference24Ideal.Read.val_main_v50_eq _ _ _ _ _).trans ?_
    rw [e0, e1, e2, e3, e4]
    exact Cert.Reference24Ideal.Stages.gg_result _ _ _ _ _

theorem memory_grad_reference_runs : Cert.quiescent_Reference24Ideal (hReference24Ideal := Cert.Reference24Ideal.Gen.facts) := by
  intro m ρ _
  exact (θ_run Cert.Reference24Ideal.defs _ _).mono (fun r h => ⟨fun c => (h c).2.2.2, sem_eq_zero_of_no_sems (by decide) r.2⟩)
    (Cert.Reference24Ideal.Value.run m ρ)

/-- The gradient of the memory's projection weight in the first layer. -/
theorem memory_weight_equal : Cert.algebraic_Kernel25Ideal_Reference25Ideal (hKernel25Ideal := Cert.Kernel25Ideal.Gen.facts)
    (hReference25Ideal := Cert.Reference25Ideal.Gen.facts) := by
  intro m g m' g' _ hargs
  refine ⟨_, Cert.Kernel25Ideal.Value.run_blocks m g,
    (θ_run Cert.Reference25Ideal.defs _ _).mono (fun r h c => ?_) (Cert.Reference25Ideal.Value.run m' g')⟩
  obtain ⟨h0, ha0, ha1⟩ := h c
  obtain ⟨e0, e1⟩ := hargs c
  refine ⟨h0.trans ?_, ha0, ha1⟩
  · rw [Cert.Kernel25Ideal.Array.dw_array m c]
    refine (Cert.Reference25Ideal.Read.val_main_v4_eq _ _).trans ?_
    rw [e0, e1]
    exact Cert.Reference25Ideal.Stages.dw_result _ _

theorem memory_weight_reference_runs : Cert.quiescent_Reference25Ideal (hReference25Ideal := Cert.Reference25Ideal.Gen.facts) := by
  intro m ρ _
  exact (θ_run Cert.Reference25Ideal.defs _ _).mono (fun r h => ⟨fun c => (h c).2, sem_eq_zero_of_no_sems (by decide) r.2⟩)
    (Cert.Reference25Ideal.Value.run m ρ)

/-- The gradient of the memory's projection weight in the second layer, in its rows of the packed gradients. -/
theorem memory_weight_packed_equal : Cert.algebraic_Kernel26Ideal_Reference26Ideal (hKernel26Ideal := Cert.Kernel26Ideal.Gen.facts)
    (hReference26Ideal := Cert.Reference26Ideal.Gen.facts) := by
  intro m g m' g' _ hargs
  refine ⟨_, Cert.Kernel26Ideal.Value.run_blocks m g,
    (θ_run Cert.Reference26Ideal.defs _ _).mono (fun r h c => ?_) (Cert.Reference26Ideal.Value.run m' g')⟩
  obtain ⟨h0, ha0, ha1, ha2⟩ := h c
  obtain ⟨e0, e1, e2⟩ := hargs c
  refine ⟨h0.trans ?_, ha0, ha1, ha2⟩
  · rw [Cert.Kernel26Ideal.Array.packed_array m c]
    refine (Cert.Reference26Ideal.Read.val_main_v7_eq _ _ _).trans ?_
    rw [e0, e1, e2]
    exact Cert.Reference26Ideal.Stages.packed_result _ _ _

theorem memory_weight_packed_reference_runs : Cert.quiescent_Reference26Ideal (hReference26Ideal := Cert.Reference26Ideal.Gen.facts) := by
  intro m ρ _
  exact (θ_run Cert.Reference26Ideal.defs _ _).mono (fun r h => ⟨fun c => (h c).2, sem_eq_zero_of_no_sems (by decide) r.2⟩)
    (Cert.Reference26Ideal.Value.run m ρ)

/-- The optimiser's step at the MLP's weights, of 2048 rows. -/
theorem adamw_mlp_equal : Cert.algebraic_Kernel27Ideal_Reference27Ideal_pre_mlp_moments (hKernel27Ideal := Cert.Kernel27Ideal.Gen.facts)
    (hReference27Ideal := Cert.Reference27Ideal.Gen.facts) (hPre_mlp_moments := Cert.Pre_mlp_moments.facts) := by
  intro m g m' g' hpre hargs
  refine ⟨_, _, _, Cert.Kernel27Ideal.Value.run_blocks m g,
    (θ_run Cert.Reference27Ideal.defs _ _).mono (fun r h c => ?_) (Cert.Reference27Ideal.Value.run m' g')⟩
  obtain ⟨h0, h1, h2, ha0, ha1, ha2, ha3⟩ := h c
  obtain ⟨e0, e1, e2, e3⟩ := hargs c
  have hm := @Cert.Pre_mlp_moments.moments_real Cert.Pre_mlp_moments.facts _ _ _ _ (hpre c)
  refine ⟨h0.trans ?_, h1.trans ?_, h2.trans ?_, ha0, ha1, ha2, ha3⟩
  · rw [Cert.Kernel27Ideal.Array.change_array m c]
    refine (Cert.Reference27Ideal.Read.val_main_v23_eq _ _ _ _).trans ?_
    rw [e0, e1, e2, e3]
    exact Cert.Reference27Ideal.Stages.change_result _ _ _ _ hm
  · rw [Cert.Kernel27Ideal.Array.first_array m c]
    refine (Cert.Reference27Ideal.Read.val_main_v4_eq _ _).trans ?_
    rw [e1, e2]
    exact Cert.Reference27Ideal.Stages.first_result _ _
  · rw [Cert.Kernel27Ideal.Array.second_array m c]
    refine (Cert.Reference27Ideal.Read.val_main_v10_eq _ _).trans ?_
    rw [e1, e3]
    exact Cert.Reference27Ideal.Stages.second_result _ _

theorem adamw_mlp_reference_runs : Cert.quiescent_Reference27Ideal (hReference27Ideal := Cert.Reference27Ideal.Gen.facts) := by
  intro m ρ _
  exact (θ_run Cert.Reference27Ideal.defs _ _).mono (fun r h => ⟨fun c => (h c).2.2.2, sem_eq_zero_of_no_sems (by decide) r.2⟩)
    (Cert.Reference27Ideal.Value.run m ρ)

/-- The optimiser's step at the output projections' weights, of 768 rows. -/
theorem adamw_out_equal : Cert.algebraic_Kernel28Ideal_Reference28Ideal_pre_out_moments (hKernel28Ideal := Cert.Kernel28Ideal.Gen.facts)
    (hReference28Ideal := Cert.Reference28Ideal.Gen.facts) (hPre_out_moments := Cert.Pre_out_moments.facts) := by
  intro m g m' g' hpre hargs
  refine ⟨_, _, _, Cert.Kernel28Ideal.Value.run_blocks m g,
    (θ_run Cert.Reference28Ideal.defs _ _).mono (fun r h c => ?_) (Cert.Reference28Ideal.Value.run m' g')⟩
  obtain ⟨h0, h1, h2, ha0, ha1, ha2, ha3⟩ := h c
  obtain ⟨e0, e1, e2, e3⟩ := hargs c
  have hm := @Cert.Pre_out_moments.moments_real Cert.Pre_out_moments.facts _ _ _ _ (hpre c)
  refine ⟨h0.trans ?_, h1.trans ?_, h2.trans ?_, ha0, ha1, ha2, ha3⟩
  · rw [Cert.Kernel28Ideal.Array.change_array m c]
    refine (Cert.Reference28Ideal.Read.val_main_v23_eq _ _ _ _).trans ?_
    rw [e0, e1, e2, e3]
    exact Cert.Reference28Ideal.Stages.change_result _ _ _ _ hm
  · rw [Cert.Kernel28Ideal.Array.first_array m c]
    refine (Cert.Reference28Ideal.Read.val_main_v4_eq _ _).trans ?_
    rw [e1, e2]
    exact Cert.Reference28Ideal.Stages.first_result _ _
  · rw [Cert.Kernel28Ideal.Array.second_array m c]
    refine (Cert.Reference28Ideal.Read.val_main_v10_eq _ _).trans ?_
    rw [e1, e3]
    exact Cert.Reference28Ideal.Stages.second_result _ _

theorem adamw_out_reference_runs : Cert.quiescent_Reference28Ideal (hReference28Ideal := Cert.Reference28Ideal.Gen.facts) := by
  intro m ρ _
  exact (θ_run Cert.Reference28Ideal.defs _ _).mono (fun r h => ⟨fun c => (h c).2.2.2, sem_eq_zero_of_no_sems (by decide) r.2⟩)
    (Cert.Reference28Ideal.Value.run m ρ)

/-- The window attention's input projection of the normed input, and the normed input. -/
theorem attn_in_equal : Cert.algebraic_Kernel29Ideal_Reference29Ideal (hKernel29Ideal := Cert.Kernel29Ideal.Gen.facts)
    (hReference29Ideal := Cert.Reference29Ideal.Gen.facts) := by
  intro m g m' g' _ hargs
  refine ⟨_, _, Cert.Kernel29Ideal.Value.run_blocks m g,
    (θ_run Cert.Reference29Ideal.defs _ _).mono (fun r h c => ?_) (Cert.Reference29Ideal.Value.run m' g')⟩
  obtain ⟨h0, h1, ha0, ha1, ha2⟩ := h c
  obtain ⟨e0, e1, e2⟩ := hargs c
  refine ⟨h0.trans ?_, h1.trans ?_, ha0, ha1, ha2⟩
  · rw [Cert.Kernel29Ideal.Array.p_array m c]
    refine (Cert.Reference29Ideal.Read.val_main_v16_eq _ _ _).trans ?_
    rw [e0, e1, e2]
    exact Cert.Reference29Ideal.Stages.p_result _ _ _
  · rw [Cert.Kernel29Ideal.Array.h_array m c]
    refine (Cert.Reference29Ideal.Read.val_main_v17_eq _ _).trans ?_
    rw [e0, e2]
    exact Cert.Reference29Ideal.Stages.h_result _ _

theorem attn_in_reference_runs : Cert.quiescent_Reference29Ideal (hReference29Ideal := Cert.Reference29Ideal.Gen.facts) := by
  intro m ρ _
  exact (θ_run Cert.Reference29Ideal.defs _ _).mono (fun r h => ⟨fun c => (h c).2.2, sem_eq_zero_of_no_sems (by decide) r.2⟩)
    (Cert.Reference29Ideal.Value.run m ρ)

/-- The gradient of the window attention's input weights. -/
theorem attn_weight_grad_equal : Cert.algebraic_Kernel30Ideal_Reference30Ideal (hKernel30Ideal := Cert.Kernel30Ideal.Gen.facts)
    (hReference30Ideal := Cert.Reference30Ideal.Gen.facts) := by
  intro m g m' g' _ hargs
  refine ⟨_, Cert.Kernel30Ideal.Value.run_blocks m g,
    (θ_run Cert.Reference30Ideal.defs _ _).mono (fun r h c => ?_) (Cert.Reference30Ideal.Value.run m' g')⟩
  obtain ⟨h0, ha0, ha1⟩ := h c
  obtain ⟨e0, e1⟩ := hargs c
  refine ⟨h0.trans ?_, ha0, ha1⟩
  · rw [Cert.Kernel30Ideal.Array.dw_array m c]
    refine (Cert.Reference30Ideal.Read.val_main_v5_eq _ _).trans ?_
    rw [e0, e1]
    exact Cert.Reference30Ideal.Stages.dw_result _ _

theorem attn_weight_grad_reference_runs : Cert.quiescent_Reference30Ideal (hReference30Ideal := Cert.Reference30Ideal.Gen.facts) := by
  intro m ρ _
  exact (θ_run Cert.Reference30Ideal.defs _ _).mono (fun r h => ⟨fun c => (h c).2, sem_eq_zero_of_no_sems (by decide) r.2⟩)
    (Cert.Reference30Ideal.Value.run m ρ)

/-- The gradients of the first layer's memory attention. -/
theorem memory_first_grad_equal : Cert.algebraic_Kernel31Ideal_Reference31Ideal_pre_memory_finite (hKernel31Ideal := Cert.Kernel31Ideal.Gen.facts)
    (hReference31Ideal := Cert.Reference31Ideal.Gen.facts) (hPre_memory_finite := Cert.Pre_memory_finite.facts) := by
  intro m g m' g' hpre hargs
  refine ⟨_, _, Cert.Kernel31Ideal.Value.run_blocks m g,
    (θ_run Cert.Reference31Ideal.defs _ _).mono (fun r h c => ?_) (Cert.Reference31Ideal.Value.run m' g')⟩
  obtain ⟨h0, h1, ha0, ha1, ha2⟩ := h c
  obtain ⟨e0, e1, e2⟩ := hargs c
  have hq := @Cert.Pre_memory_finite.query_finite Cert.Pre_memory_finite.facts _ _ _ (hpre c).1
  have hk := @Cert.Pre_memory_finite.keys_finite Cert.Pre_memory_finite.facts _ _ _ (hpre c).2
  refine ⟨h0.trans ?_, h1.trans ?_, ha0, ha1, ha2⟩
  · rw [Cert.Kernel31Ideal.Array.dq_array m c]
    refine (Cert.Reference31Ideal.Read.val_main_v77_eq m' c).trans ?_
    rw [e0, e1, e2]
    exact Cert.Reference31Ideal.Stages.dq_result _ _ _ hq hk
  · rw [Cert.Kernel31Ideal.Array.dkv_array m c]
    refine (Cert.Reference31Ideal.Read.val_main_v78_eq m' c).trans ?_
    rw [e0, e1, e2]
    exact Cert.Reference31Ideal.Stages.dkv_result _ _ _ hq hk

theorem memory_first_grad_reference_runs : Cert.quiescent_Reference31Ideal (hReference31Ideal := Cert.Reference31Ideal.Gen.facts) := by
  intro m ρ _
  exact (θ_run Cert.Reference31Ideal.defs _ _).mono (fun r h => ⟨fun c => (h c).2.2, sem_eq_zero_of_no_sems (by decide) r.2⟩)
    (Cert.Reference31Ideal.Value.run m ρ)

/-- The gradient of the first layer's up projection, in its rows of the packed gradients. -/
theorem up_first_grad_equal : Cert.algebraic_Kernel32Ideal_Reference32Ideal (hKernel32Ideal := Cert.Kernel32Ideal.Gen.facts)
    (hReference32Ideal := Cert.Reference32Ideal.Gen.facts) := by
  intro m g m' g' _ hargs
  refine ⟨_, Cert.Kernel32Ideal.Array.run_named m g,
    (θ_run Cert.Reference32Ideal.defs _ _).mono (fun r h c => ?_) (Cert.Reference32Ideal.Value.run m' g')⟩
  obtain ⟨h0, ha0, ha1, ha2⟩ := h c
  obtain ⟨e0, e1, e2⟩ := hargs c
  refine ⟨h0.trans ?_, ha0, ha1, ha2⟩
  · rw [Cert.Kernel32Ideal.Array.packed_array m c]
    refine (Cert.Reference32Ideal.Read.val_main_v7_eq _ _ _).trans ?_
    rw [e0, e1, e2]
    exact Cert.Reference32Ideal.Stages.packed_result _ _ _

theorem up_first_grad_reference_runs : Cert.quiescent_Reference32Ideal (hReference32Ideal := Cert.Reference32Ideal.Gen.facts) := by
  intro m ρ _
  exact (θ_run Cert.Reference32Ideal.defs _ _).mono (fun r h => ⟨fun c => (h c).2, sem_eq_zero_of_no_sems (by decide) r.2⟩)
    (Cert.Reference32Ideal.Value.run m ρ)

/-- The gradient of the first layer's down projection. -/
theorem down_first_grad_equal : Cert.algebraic_Kernel33Ideal_Reference33Ideal (hKernel33Ideal := Cert.Kernel33Ideal.Gen.facts)
    (hReference33Ideal := Cert.Reference33Ideal.Gen.facts) := by
  intro m g m' g' _ hargs
  refine ⟨_, Cert.Kernel33Ideal.Array.run_named m g,
    (θ_run Cert.Reference33Ideal.defs _ _).mono (fun r h c => ?_) (Cert.Reference33Ideal.Value.run m' g')⟩
  obtain ⟨h0, ha0, ha1⟩ := h c
  obtain ⟨e0, e1⟩ := hargs c
  refine ⟨h0.trans ?_, ha0, ha1⟩
  · rw [Cert.Kernel33Ideal.Array.grad_array m c]
    refine (Cert.Reference33Ideal.Read.val_main_v4_eq _ _).trans ?_
    rw [e0, e1]
    exact Cert.Reference33Ideal.Stages.grad_result _ _

theorem down_first_grad_reference_runs : Cert.quiescent_Reference33Ideal (hReference33Ideal := Cert.Reference33Ideal.Gen.facts) := by
  intro m ρ _
  exact (θ_run Cert.Reference33Ideal.defs _ _).mono (fun r h => ⟨fun c => (h c).2, sem_eq_zero_of_no_sems (by decide) r.2⟩)
    (Cert.Reference33Ideal.Value.run m ρ)

/-- The attention's rotary preparation: queries turned and scaled, keys turned and values, each head twice, and the values beside ones. -/
theorem rotary_equal : Cert.algebraic_Kernel34Ideal_Reference34Ideal (hKernel34Ideal := Cert.Kernel34Ideal.Gen.facts)
    (hReference34Ideal := Cert.Reference34Ideal.Gen.facts) := by
  intro m g m' g' _ hargs
  refine ⟨_, _, _, _, Cert.Kernel34Ideal.Value.run_blocks m g,
    (θ_run Cert.Reference34Ideal.defs _ _).mono (fun r h c => ?_) (Cert.Reference34Ideal.Value.run m' g')⟩
  obtain ⟨h0, h1, h2, h3, ha0, ha1⟩ := h c
  obtain ⟨e0, e1⟩ := hargs c
  refine ⟨h0.trans ?_, h1.trans ?_, h2.trans ?_, h3.trans ?_, ha0, ha1⟩
  · rw [Cert.Kernel34Ideal.Array.query_array m c]
    refine (Cert.Reference34Ideal.Read.val_main_v73_eq m' c).trans ?_
    rw [e0, e1]
    exact Cert.Reference34Ideal.Stages.query_result _ _
  · rw [Cert.Kernel34Ideal.Array.key_array m c]
    refine (Cert.Reference34Ideal.Read.val_main_v76_eq m' c).trans ?_
    rw [e0, e1]
    exact Cert.Reference34Ideal.Stages.key_result _ _
  · rw [Cert.Kernel34Ideal.Array.value_array m c]
    refine (Cert.Reference34Ideal.Read.val_main_v79_eq _).trans ?_
    rw [e0]
    exact Cert.Reference34Ideal.Stages.value_result _
  · rw [Cert.Kernel34Ideal.Array.ones_array m c]
    refine (Cert.Reference34Ideal.Read.val_main_v82_eq _).trans ?_
    rw [e0]
    exact Cert.Reference34Ideal.Stages.ones_result _

theorem rotary_reference_runs : Cert.quiescent_Reference34Ideal (hReference34Ideal := Cert.Reference34Ideal.Gen.facts) := by
  intro m ρ _
  exact (θ_run Cert.Reference34Ideal.defs _ _).mono (fun r h => ⟨fun c => (h c).2.2.2.2, sem_eq_zero_of_no_sems (by decide) r.2⟩)
    (Cert.Reference34Ideal.Value.run m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Kernel29.Gen.facts, Cert.Kernel29Ideal.Gen.facts, Cert.Reference29Ideal.Gen.facts,
  Cert.Kernel30.Gen.facts, Cert.Kernel30Ideal.Gen.facts, Cert.Reference30Ideal.Gen.facts,
  Cert.Kernel31.Gen.facts, Cert.Kernel31Ideal.Gen.facts, Cert.Reference31Ideal.Gen.facts,
  Cert.Kernel32.Gen.facts, Cert.Kernel32Ideal.Gen.facts, Cert.Reference32Ideal.Gen.facts,
  Cert.Kernel33.Gen.facts, Cert.Kernel33Ideal.Gen.facts, Cert.Reference33Ideal.Gen.facts,
  Cert.Kernel34.Gen.facts, Cert.Kernel34Ideal.Gen.facts, Cert.Reference34Ideal.Gen.facts,
  Cert.Pre_finite.facts, Cert.Pre_moments.facts, Cert.Pre_weight_moments.facts,
  Cert.Pre_memory_finite.facts, Cert.Pre_mlp_moments.facts, Cert.Pre_out_moments.facts,
  fun m ρ _ => Cert.Kernel.Gen.frame m ρ,
  fun m ρ _ => Cert.KernelIdeal.Gen.frame m ρ,
  fun m ρ _ => Cert.KernelIdeal.Gen.frame m ρ,
  reference_runs,
  fun m ρ _ => reference_runs m ρ trivial,
  fun m ρ _ => Cert.Kernel2.Gen.frame m ρ, fun m ρ _ => Cert.Kernel2Ideal.Gen.frame m ρ, up_grad_reference_runs,
  fun m ρ _ => Cert.Kernel3.Gen.frame m ρ, fun m ρ _ => Cert.Kernel3Ideal.Gen.frame m ρ, mlp_in_reference_runs,
  fun m ρ _ => Cert.Kernel4.Gen.frame m ρ, fun m ρ _ => Cert.Kernel4Ideal.Gen.frame m ρ, final_reference_runs,
  fun m ρ _ => Cert.Kernel5.Gen.frame m ρ, fun m ρ _ => Cert.Kernel5Ideal.Gen.frame m ρ, mlp_up_reference_runs,
  fun m ρ _ => Cert.Kernel6.Gen.frame m ρ, fun m ρ _ => Cert.Kernel6Ideal.Gen.frame m ρ, weight_grad_reference_runs,
  fun m ρ _ => Cert.Kernel7.Gen.frame m ρ, fun m ρ _ => Cert.Kernel7Ideal.Gen.frame m ρ, mlp_down_reference_runs,
  fun m ρ _ => Cert.Kernel8.Gen.frame m ρ, fun m ρ _ => Cert.Kernel8Ideal.Gen.frame m ρ, lru_in_reference_runs,
  fun m ρ _ => Cert.Kernel9.Gen.frame m ρ, fun m ρ _ => Cert.Kernel9Ideal.Gen.frame m ρ, mix_grad_reference_runs,
  fun m ρ _ => Cert.Kernel10.Gen.frame m ρ, fun m ρ _ => Cert.Kernel10Ideal.Gen.frame m ρ, fun m ρ _ => Cert.Kernel10Ideal.Gen.frame m ρ, mem_forward_reference_runs, fun m ρ _ => mem_forward_reference_runs m ρ trivial,
  fun m ρ _ => Cert.Kernel11.Gen.frame m ρ, fun m ρ _ => Cert.Kernel11Ideal.Gen.frame m ρ, out_grad_reference_runs,
  Cert.Kernel12Ideal.UpRun.words_kept, fun m ρ _ => Cert.Kernel12Ideal.UpRun.arguments_kept m ρ, up_weight_reference_runs,
  Cert.Kernel13Ideal.DownRun.words_kept, fun m ρ _ => Cert.Kernel13Ideal.DownRun.arguments_kept m ρ, down_weight_reference_runs,
  fun m ρ _ => Cert.Kernel14.Gen.frame m ρ, fun m ρ _ => Cert.Kernel14Ideal.Gen.frame m ρ, mix_out_reference_runs,
  fun m ρ _ => Cert.Kernel15.Gen.frame m ρ, fun m ρ _ => Cert.Kernel15Ideal.Gen.frame m ρ, lru_grad_reference_runs,
  fun m ρ _ => Cert.Kernel16.Gen.frame m ρ, fun m ρ _ => Cert.Kernel16Ideal.Gen.frame m ρ, attn_grad_reference_runs,
  fun m ρ _ => Cert.Kernel17.Gen.frame m ρ, fun m ρ _ => Cert.Kernel17Ideal.Gen.frame m ρ, fun m ρ _ => Cert.Kernel17Ideal.Gen.frame m ρ, adamw_reference_runs, fun m ρ _ => adamw_reference_runs m ρ trivial,
  fun m ρ _ => Cert.Kernel18.Gen.frame m ρ, fun m ρ _ => Cert.Kernel18Ideal.Gen.frame m ρ, fun m ρ _ => Cert.Kernel18Ideal.Gen.frame m ρ, adamw_weights_reference_runs, fun m ρ _ => adamw_weights_reference_runs m ρ trivial,
  Cert.Kernel19Ideal.OutRun.words_kept, fun m ρ _ => Cert.Kernel19Ideal.OutRun.arguments_kept m ρ, dw_out1_reference_runs,
  fun m ρ _ => Cert.Kernel20.Gen.frame m ρ, fun m ρ _ => Cert.Kernel20Ideal.Gen.frame m ρ, rotary_grad_reference_runs,
  fun m ρ _ => Cert.Kernel21.Gen.frame m ρ, fun m ρ _ => Cert.Kernel21Ideal.Gen.frame m ρ, fun m ρ _ => Cert.Kernel21Ideal.Gen.frame m ρ, memory_first_reference_runs, fun m ρ _ => memory_first_reference_runs m ρ trivial,
  fun m ρ _ => Cert.Kernel22.Gen.frame m ρ, fun m ρ _ => Cert.Kernel22Ideal.Gen.frame m ρ, memory_norm_reference_runs,
  fun m ρ _ => Cert.Kernel23.Gen.frame m ρ, fun m ρ _ => Cert.Kernel23Ideal.Gen.frame m ρ, memory_projection_reference_runs,
  fun m ρ _ => Cert.Kernel24.Gen.frame m ρ, fun m ρ _ => Cert.Kernel24Ideal.Gen.frame m ρ, memory_grad_reference_runs,
  fun m ρ _ => Cert.Kernel25.Gen.frame m ρ, fun m ρ _ => Cert.Kernel25Ideal.Gen.frame m ρ, memory_weight_reference_runs,
  fun m ρ _ => Cert.Kernel26.Gen.frame m ρ, fun m ρ _ => Cert.Kernel26Ideal.Gen.frame m ρ, memory_weight_packed_reference_runs,
  fun m ρ _ => Cert.Kernel27.Gen.frame m ρ, fun m ρ _ => Cert.Kernel27Ideal.Gen.frame m ρ, fun m ρ _ => Cert.Kernel27Ideal.Gen.frame m ρ, adamw_mlp_reference_runs, fun m ρ _ => adamw_mlp_reference_runs m ρ trivial,
  fun m ρ _ => Cert.Kernel28.Gen.frame m ρ, fun m ρ _ => Cert.Kernel28Ideal.Gen.frame m ρ, fun m ρ _ => Cert.Kernel28Ideal.Gen.frame m ρ, adamw_out_reference_runs, fun m ρ _ => adamw_out_reference_runs m ρ trivial,
  fun m ρ _ => Cert.Kernel29.Gen.frame m ρ, fun m ρ _ => Cert.Kernel29Ideal.Gen.frame m ρ, attn_in_reference_runs,
  fun m ρ _ => Cert.Kernel30.Gen.frame m ρ, fun m ρ _ => Cert.Kernel30Ideal.Gen.frame m ρ, attn_weight_grad_reference_runs,
  fun m ρ _ => Cert.Kernel31.Gen.frame m ρ, fun m ρ _ => Cert.Kernel31Ideal.Gen.frame m ρ, fun m ρ _ => Cert.Kernel31Ideal.Gen.frame m ρ, memory_first_grad_reference_runs, fun m ρ _ => memory_first_grad_reference_runs m ρ trivial,
  Cert.Kernel32Ideal.UpFirstRun.words_kept, fun m ρ _ => Cert.Kernel32Ideal.UpFirstRun.arguments_kept m ρ, up_first_grad_reference_runs,
  Cert.Kernel33Ideal.DownFirstRun.words_kept, fun m ρ _ => Cert.Kernel33Ideal.DownFirstRun.arguments_kept m ρ, down_first_grad_reference_runs,
  fun m ρ _ => Cert.Kernel34.Gen.frame m ρ, fun m ρ _ => Cert.Kernel34Ideal.Gen.frame m ρ, rotary_reference_runs,
  trivial, memattn_equal,
  trivial, up_grad_equal,
  trivial, mlp_in_equal,
  trivial, final_equal,
  trivial, mlp_up_equal,
  trivial, weight_grad_equal,
  trivial, mlp_down_equal,
  trivial, lru_in_equal,
  trivial, mix_grad_equal,
  trivial, mem_forward_equal,
  trivial, out_grad_equal,
  trivial, up_weight_equal,
  trivial, down_weight_equal,
  trivial, mix_out_equal,
  trivial, lru_grad_equal,
  trivial, attn_grad_equal,
  trivial, adamw_equal,
  trivial, adamw_weights_equal,
  trivial, dw_out1_equal,
  trivial, rotary_grad_equal,
  trivial, memory_first_equal,
  trivial, memory_norm_equal,
  trivial, memory_projection_equal,
  trivial, memory_grad_equal,
  trivial, memory_weight_equal,
  trivial, memory_weight_packed_equal,
  trivial, adamw_mlp_equal,
  trivial, adamw_out_equal,
  trivial, attn_in_equal,
  trivial, attn_weight_grad_equal,
  trivial, memory_first_grad_equal,
  trivial, up_first_grad_equal,
  trivial, down_first_grad_equal,
  trivial, rotary_equal⟩

end Cert.Proof

end
